-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_v559) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v411) = v0 c
          ∧ r.2.mem ((c.tc : Thread Cert.Reference3Ideal.nD Cert.Reference3Ideal.τ).loc Cert.Reference3Ideal.main_v835) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v401) = v0 c
          ∧ r.2.mem ((c.tc : Thread Cert.Reference4Ideal.nD Cert.Reference4Ideal.τ).loc Cert.Reference4Ideal.main_v815) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1095) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v52) = v0 c
          ∧ r.2.mem ((c.tc : Thread Cert.Reference9Ideal.nD Cert.Reference9Ideal.τ).loc Cert.Reference9Ideal.main_v53) = v1 c
          ∧ r.2.mem ((c.tc : Thread Cert.Reference9Ideal.nD Cert.Reference9Ideal.τ).loc Cert.Reference9Ideal.main_v54) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v68_0)) (v1 : (c : Dev Cert.Kernel7Ideal.nD) → Buf (Elt Ideal) ((c.tc : Thread Cert.Kernel7Ideal.nD Cert.Kernel7Ideal.τ).loc Cert.Kernel7Ideal.main_v68_1)) (v2 : (c : Dev Cert.Kernel7Ideal.nD) → Buf (Elt Ideal) ((c.tc : Thread Cert.Kernel7Ideal.nD Cert.Kernel7Ideal.τ).loc Cert.Kernel7Ideal.main_v68_2)) (v3 : (c : Dev Cert.Kernel7Ideal.nD) → Buf (Elt Ideal) ((c.tc : Thread Cert.Kernel7Ideal.nD Cert.Kernel7Ideal.τ).loc Cert.Kernel7Ideal.main_v68_3)) (v4 : (c : Dev Cert.Kernel7Ideal.nD) → Buf (Elt Ideal) ((c.tc : Thread Cert.Kernel7Ideal.nD Cert.Kernel7Ideal.τ).loc Cert.Kernel7Ideal.main_v68_4)) (v5 : (c : Dev Cert.Kernel7Ideal.nD) → Buf (Elt Ideal) ((c.tc : Thread Cert.Kernel7Ideal.nD Cert.Kernel7Ideal.τ).loc Cert.Kernel7Ideal.main_v68_5)) (v6 : (c : Dev Cert.Kernel7Ideal.nD) → Buf (Elt Ideal) ((c.tc : Thread Cert.Kernel7Ideal.nD Cert.Kernel7Ideal.τ).loc Cert.Kernel7Ideal.main_v68_6)) (v7 : (c : Dev Cert.Kernel7Ideal.nD) → Buf (Elt Ideal) ((c.tc : Thread Cert.Kernel7Ideal.nD Cert.Kernel7Ideal.τ).loc Cert.Kernel7Ideal.main_v68_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v68_0) = v0 c
          ∧ r.2.mem ((c.tc : Thread Cert.Kernel7Ideal.nD Cert.Kernel7Ideal.τ).loc Cert.Kernel7Ideal.main_v68_1) = v1 c
          ∧ r.2.mem ((c.tc : Thread Cert.Kernel7Ideal.nD Cert.Kernel7Ideal.τ).loc Cert.Kernel7Ideal.main_v68_2) = v2 c
          ∧ r.2.mem ((c.tc : Thread Cert.Kernel7Ideal.nD Cert.Kernel7Ideal.τ).loc Cert.Kernel7Ideal.main_v68_3) = v3 c
          ∧ r.2.mem ((c.tc : Thread Cert.Kernel7Ideal.nD Cert.Kernel7Ideal.τ).loc Cert.Kernel7Ideal.main_v68_4) = v4 c
          ∧ r.2.mem ((c.tc : Thread Cert.Kernel7Ideal.nD Cert.Kernel7Ideal.τ).loc Cert.Kernel7Ideal.main_v68_5) = v5 c
          ∧ r.2.mem ((c.tc : Thread Cert.Kernel7Ideal.nD Cert.Kernel7Ideal.τ).loc Cert.Kernel7Ideal.main_v68_6) = v6 c
          ∧ r.2.mem ((c.tc : Thread Cert.Kernel7Ideal.nD Cert.Kernel7Ideal.τ).loc Cert.Kernel7Ideal.main_v68_7) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v282) = v0 c
          ∧ r.2.mem ((c.tc : Thread Cert.Reference7Ideal.nD Cert.Reference7Ideal.τ).loc Cert.Reference7Ideal.main_v283) = v1 c
          ∧ r.2.mem ((c.tc : Thread Cert.Reference7Ideal.nD Cert.Reference7Ideal.τ).loc Cert.Reference7Ideal.main_v284) = v2 c
          ∧ r.2.mem ((c.tc : Thread Cert.Reference7Ideal.nD Cert.Reference7Ideal.τ).loc Cert.Reference7Ideal.main_v285) = v3 c
          ∧ r.2.mem ((c.tc : Thread Cert.Reference7Ideal.nD Cert.Reference7Ideal.τ).loc Cert.Reference7Ideal.main_v286) = v4 c
          ∧ r.2.mem ((c.tc : Thread Cert.Reference7Ideal.nD Cert.Reference7Ideal.τ).loc Cert.Reference7Ideal.main_v287) = v5 c
          ∧ r.2.mem ((c.tc : Thread Cert.Reference7Ideal.nD Cert.Reference7Ideal.τ).loc Cert.Reference7Ideal.main_v288) = v6 c
          ∧ r.2.mem ((c.tc : Thread Cert.Reference7Ideal.nD Cert.Reference7Ideal.τ).loc Cert.Reference7Ideal.main_v289) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def preserves_Kernel10_Kernel10Ideal : Prop :=
  True

def preserves_Kernel11_Kernel11Ideal : Prop :=
  True

def preserves_Kernel12_Kernel12Ideal : Prop :=
  True

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v238) = v0 c
          ∧ r.2.mem ((c.tc : Thread Cert.Reference13Ideal.nD Cert.Reference13Ideal.τ).loc Cert.Reference13Ideal.main_v485) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v10_0)) (v1 : (c : Dev Cert.Kernel14Ideal.nD) → Buf (Elt Ideal) ((c.tc : Thread Cert.Kernel14Ideal.nD Cert.Kernel14Ideal.τ).loc Cert.Kernel14Ideal.main_v10_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v10_0) = v0 c
          ∧ r.2.mem ((c.tc : Thread Cert.Kernel14Ideal.nD Cert.Kernel14Ideal.τ).loc Cert.Kernel14Ideal.main_v10_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v78) = v0 c
          ∧ r.2.mem ((c.tc : Thread Cert.Reference14Ideal.nD Cert.Reference14Ideal.τ).loc Cert.Reference14Ideal.main_v57) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v25) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel9 : Cert.Kernel9.Facts) (hKernel9Ideal : Cert.Kernel9Ideal.Facts) (hReference9Ideal : Cert.Reference9Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hKernel10 : Cert.Kernel10.Facts) (hKernel10Ideal : Cert.Kernel10Ideal.Facts) (hKernel11 : Cert.Kernel11.Facts) (hKernel11Ideal : Cert.Kernel11Ideal.Facts) (hKernel12 : Cert.Kernel12.Facts) (hKernel12Ideal : Cert.Kernel12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite7 : Cert.Pre_finite7.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel10 (hKernel10 := hKernel10)
    ∧ quiescent_Kernel10Ideal (hKernel10Ideal := hKernel10Ideal)
    ∧ quiescent_Kernel11 (hKernel11 := hKernel11)
    ∧ quiescent_Kernel11Ideal (hKernel11Ideal := hKernel11Ideal)
    ∧ quiescent_Kernel12 (hKernel12 := hKernel12)
    ∧ quiescent_Kernel12Ideal (hKernel12Ideal := hKernel12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel9_Kernel9Ideal
    ∧ algebraic_Kernel9Ideal_Reference9Ideal (hKernel9Ideal := hKernel9Ideal) (hReference9Ideal := hReference9Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ preserves_Kernel10_Kernel10Ideal
    ∧ preserves_Kernel11_Kernel11Ideal
    ∧ preserves_Kernel12_Kernel12Ideal
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S2x2304x512 : Shape := ⟨3, ![2, 2304, 512]⟩
abbrev S4 : Shape := ⟨1, ![4]⟩
abbrev S_ : Shape := ⟨0, ![]⟩

class Facts : Prop where
  bcast_S_S2x2304x512 : S_.BroadcastsInDim S2x2304x512 (![] : Fin 0 → Fin S2x2304x512.rank)
  reducesTo_S2x2304x512_S_d0_1_2 : S2x2304x512.ReducesTo [0, 1, 2] S_
  h_S_ : 0 < S_.numel
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : FVec F S4 .f32 := Host.absf main_arg5
  let main_cst_6 : FVec F S_ .f32 := constant S_ .f32 0x7F800000#32
  let main_v19 : FVec F S4 .f32 := broadcastInDim S4 ![] bcast_S_S4 main_cst_6
  let main_v20 : IVec S4 1 := cmpf .olt main_v18 main_v19
  let main_c_7 : IVec S_ 1 := constantI S_ 1 1#1
  let main_v21 : IVec S_ 1 := (fun x v => Host.reduce IntOp.andi x v reducesTo_S4_S_d0 h_S_) main_v20 main_c_7
  let main_v22 : IVec S_ 1 := andi main_v17 main_v21
  let main_v23 : IVec S_ 1 := andi main_v13 main_v22
  main_v23

def fn {F : FTy → Type} [FloatOps F] (main_arg0 : FVec F S2x2304x512 .f32) (main_arg1 : FVec F S2x2304x512 .f32) (main_arg2 : FVec F S2x2304x512 .f32) (main_arg3 : FVec F S2x2304x512 .f32) (main_arg4 : FVec F S4 .f32) (main_arg5 : FVec F S4 .f32) : IVec S_ 1 :=
  let main_v0 : FVec F S2x2304x512 .f32 := Host.absf main_arg1
  let main_cst : FVec F S_ .f32 := constant S_ .f32 0x7F800000#32
  let main_v1 : FVec F S2x2304x512 .f32 := broadcastInDim S2x2304x512 ![] bcast_S_S2x2304x512 main_cst
  let main_v2 : IVec S2x2304x512 1 := cmpf .olt main_v0 main_v1
  let main_c : IVec S_ 1 := constantI S_ 1 1#1
  let main_v3 : IVec S_ 1 := (fun x v => Host.reduce IntOp.andi x v reducesTo_S2x2304x512_S_d0_1_2 h_S_) main_v2 main_c
  let main_v4 : FVec F S2x2304x512 .f32 := Host.absf main_arg2
  let main_cst_0 : FVec F S_ .f32 := constant S_ .f32 0x7F800000#32
  let main_v5 : FVec F S2x2304x512 .f32 := broadcastInDim S2x2304x512 ![] bcast_S_S2x2304x512 main_cst_0
  let main_v6 : IVec S2x2304x512 1 := cmpf .olt main_v4 main_v5
  let main_c_1 : IVec S_ 1 := constantI S_ 1 1#1
  let main_v7 : IVec S_ 1 := (fun x v => Host.reduce IntOp.andi x v reducesTo_S2x2304x512_S_d0_1_2 h_S_) main_v6 main_c_1
  let main_v8 : FVec F S2x2304x512 .f32 := Host.absf main_arg3
  let main_cst_2 : FVec F S_ .f32 := constant S_ .f32 0x7F800000#32
  let main_v9 : FVec F S2x2304x512 .f32 := broadcastInDim S2x2304x512 ![] bcast_S_S2x2304x512 main_cst_2
  let main_v10 : IVec S2x2304x512 1 := cmpf .olt main_v8 main_v9
  let main_c_3 : IVec S_ 1 := constantI S_ 1 1#1
  let main_v11 : IVec S_ 1 := (fun x v => Host.reduce IntOp.andi x v reducesTo_S2x2304x512_S_d0_1_2 h_S_) main_v10 main_c_3
  let main_v12 : IVec S_ 1 := andi main_v7 main_v11
  let main_v13 : IVec S_ 1 := andi main_v3 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg5 main_v13 main_v16
-- ==== Pre_finite13.lean ====
abbrev S2x2304x512 : Shape := ⟨3, ![2, 2304, 512]⟩
abbrev S4 : Shape := ⟨1, ![4]⟩
abbrev S_ : Shape := ⟨0, ![]⟩

class Facts : Prop where
  bcast_S_S2x2304x512 : S_.BroadcastsInDim S2x2304x512 (![] : Fin 0 → Fin S2x2304x512.rank)
  reducesTo_S2x2304x512_S_d0_1_2 : S2x2304x512.ReducesTo [0, 1, 2] S_
  h_S_ : 0 < S_.numel
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4 .f32) (main_v8 : IVec S_ 1) (main_v12 : IVec S_ 1) (main_v15 : IVec S4 1) (main_c_5 : IVec S_ 1) : IVec S_ 1 :=
  let main_v16 : IVec S_ 1 := (fun x v => Host.reduce IntOp.andi x v reducesTo_S4_S_d0 h_S_) main_v15 main_c_5
  let main_v17 : FVec F S4 .f32 := Host.absf main_arg4
  let main_cst_6 : FVec F S_ .f32 := constant S_ .f32 0x7F800000#32
  let main_v18 : FVec F S4 .f32 := broadcastInDim S4 ![] bcast_S_S4 main_cst_6
  let main_v19 : IVec S4 1 := cmpf .olt main_v17 main_v18
  let main_c_7 : IVec S_ 1 := constantI S_ 1 1#1
  let main_v20 : IVec S_ 1 := (fun x v => Host.reduce IntOp.andi x v reducesTo_S4_S_d0 h_S_) main_v19 main_c_7
  let main_v21 : IVec S_ 1 := andi main_v16 main_v20
  let main_v22 : IVec S_ 1 := andi main_v12 main_v21
  let main_v23 : IVec S_ 1 := andi main_v8 main_v22
  main_v23

def fn {F : FTy → Type} [FloatOps F] (main_arg0 : FVec F S2x2304x512 .f32) (main_arg1 : FVec F S2x2304x512 .f32) (main_arg2 : FVec F S2x2304x512 .f32) (main_arg3 : FVec F S4 .f32) (main_arg4 : FVec F S4 .f32) : IVec S_ 1 :=
  let main_v0 : FVec F S2x2304x512 .f32 := Host.absf main_arg0
  let main_cst : FVec F S_ .f32 := constant S_ .f32 0x7F800000#32
  let main_v1 : FVec F S2x2304x512 .f32 := broadcastInDim S2x2304x512 ![] bcast_S_S2x2304x512 main_cst
  let main_v2 : IVec S2x2304x512 1 := cmpf .olt main_v0 main_v1
  let main_c : IVec S_ 1 := constantI S_ 1 1#1
  let main_v3 : IVec S_ 1 := (fun x v => Host.reduce IntOp.andi x v reducesTo_S2x2304x512_S_d0_1_2 h_S_) main_v2 main_c
  let main_v4 : FVec F S2x2304x512 .f32 := Host.absf main_arg1
  let main_cst_0 : FVec F S_ .f32 := constant S_ .f32 0x7F800000#32
  let main_v5 : FVec F S2x2304x512 .f32 := broadcastInDim S2x2304x512 ![] bcast_S_S2x2304x512 main_cst_0
  let main_v6 : IVec S2x2304x512 1 := cmpf .olt main_v4 main_v5
  let main_c_1 : IVec S_ 1 := constantI S_ 1 1#1
  let main_v7 : IVec S_ 1 := (fun x v => Host.reduce IntOp.andi x v reducesTo_S2x2304x512_S_d0_1_2 h_S_) main_v6 main_c_1
  let main_v8 : IVec S_ 1 := andi main_v3 main_v7
  let main_v9 : FVec F S2x2304x512 .f32 := Host.absf main_arg2
  let main_cst_2 : FVec F S_ .f32 := constant S_ .f32 0x7F800000#32
  let main_v10 : FVec F S2x2304x512 .f32 := broadcastInDim S2x2304x512 ![] bcast_S_S2x2304x512 main_cst_2
  let main_v11 : IVec S2x2304x512 1 := cmpf .olt main_v9 main_v10
  let main_c_3 : IVec S_ 1 := constantI S_ 1 1#1
  let main_v12 : IVec S_ 1 := (fun x v => Host.reduce IntOp.andi x v reducesTo_S2x2304x512_S_d0_1_2 h_S_) main_v11 main_c_3
  let main_v13 : FVec F S4 .f32 := Host.absf main_arg3
  let main_cst_4 : FVec F S_ .f32 := constant S_ .f32 0x7F800000#32
  let main_v14 : FVec F S4 .f32 := broadcastInDim S4 ![] bcast_S_S4 main_cst_4
  let main_v15 : IVec S4 1 := cmpf .olt main_v13 main_v14
  let main_c_5 : IVec S_ 1 := constantI S_ 1 1#1
  fn_part1 (F := F) main_arg4 main_v8 main_v12 main_v15 main_c_5
-- ==== Pre_finite2.lean ====
abbrev S2x24x9216 : Shape := ⟨3, ![2, 24, 9216]⟩
abbrev S4x8x1024 : Shape := ⟨3, ![4, 8, 1024]⟩
abbrev S1024 : Shape := ⟨1, ![1024]⟩
abbrev S_ : Shape := ⟨0, ![]⟩

class Facts : Prop where
  bcast_S_S4x8x1024 : S_.BroadcastsInDim S4x8x1024 (![] : Fin 0 → Fin S4x8x1024.rank)
  reducesTo_S4x8x1024_S_d0_1_2 : S4x8x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x24x9216 .f32) (main_arg1 : FVec F S4x8x1024 .f32) (main_arg2 : FVec F S1024 .f32) : IVec S_ 1 :=
  let main_v0 : FVec F S4x8x1024 .f32 := Host.absf main_arg1
  let main_cst : FVec F S_ .f32 := constant S_ .f32 0x7F800000#32
  let main_v1 : FVec F S4x8x1024 .f32 := broadcastInDim S4x8x1024 ![] bcast_S_S4x8x1024 main_cst
  let main_v2 : IVec S4x8x1024 1 := cmpf .olt main_v0 main_v1
  let main_c : IVec S_ 1 := constantI S_ 1 1#1
  let main_v3 : IVec S_ 1 := (fun x v => Host.reduce IntOp.andi x v reducesTo_S4x8x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Pre_finite3.lean ====
abbrev S2x2304x512 : Shape := ⟨3, ![2, 2304, 512]⟩
abbrev S4 : Shape := ⟨1, ![4]⟩
abbrev S_ : Shape := ⟨0, ![]⟩

class Facts : Prop where
  bcast_S_S2x2304x512 : S_.BroadcastsInDim S2x2304x512 (![] : Fin 0 → Fin S2x2304x512.rank)
  reducesTo_S2x2304x512_S_d0_1_2 : S2x2304x512.ReducesTo [0, 1, 2] S_
  h_S_ : 0 < S_.numel
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : FVec F S4 .f32 := Host.absf main_arg5
  let main_cst_6 : FVec F S_ .f32 := constant S_ .f32 0x7F800000#32
  let main_v19 : FVec F S4 .f32 := broadcastInDim S4 ![] bcast_S_S4 main_cst_6
  let main_v20 : IVec S4 1 := cmpf .olt main_v18 main_v19
  let main_c_7 : IVec S_ 1 := constantI S_ 1 1#1
  let main_v21 : IVec S_ 1 := (fun x v => Host.reduce IntOp.andi x v reducesTo_S4_S_d0 h_S_) main_v20 main_c_7
  let main_v22 : IVec S_ 1 := andi main_v17 main_v21
  let main_v23 : IVec S_ 1 := andi main_v13 main_v22
  main_v23

def fn {F : FTy → Type} [FloatOps F] (main_arg0 : FVec F S2x2304x512 .f32) (main_arg1 : FVec F S2x2304x512 .f32) (main_arg2 : FVec F S2x2304x512 .f32) (main_arg3 : FVec F S2x2304x512 .f32) (main_arg4 : FVec F S4 .f32) (main_arg5 : FVec F S4 .f32) : IVec S_ 1 :=
  let main_v0 : FVec F S2x2304x512 .f32 := Host.absf main_arg0
  let main_cst : FVec F S_ .f32 := constant S_ .f32 0x7F800000#32
  let main_v1 : FVec F S2x2304x512 .f32 := broadcastInDim S2x2304x512 ![] bcast_S_S2x2304x512 main_cst
  let main_v2 : IVec S2x2304x512 1 := cmpf .olt main_v0 main_v1
  let main_c : IVec S_ 1 := constantI S_ 1 1#1
  let main_v3 : IVec S_ 1 := (fun x v => Host.reduce IntOp.andi x v reducesTo_S2x2304x512_S_d0_1_2 h_S_) main_v2 main_c
  let main_v4 : FVec F S2x2304x512 .f32 := Host.absf main_arg2
  let main_cst_0 : FVec F S_ .f32 := constant S_ .f32 0x7F800000#32
  let main_v5 : FVec F S2x2304x512 .f32 := broadcastInDim S2x2304x512 ![] bcast_S_S2x2304x512 main_cst_0
  let main_v6 : IVec S2x2304x512 1 := cmpf .olt main_v4 main_v5
  let main_c_1 : IVec S_ 1 := constantI S_ 1 1#1
  let main_v7 : IVec S_ 1 := (fun x v => Host.reduce IntOp.andi x v reducesTo_S2x2304x512_S_d0_1_2 h_S_) main_v6 main_c_1
  let main_v8 : FVec F S2x2304x512 .f32 := Host.absf main_arg3
  let main_cst_2 : FVec F S_ .f32 := constant S_ .f32 0x7F800000#32
  let main_v9 : FVec F S2x2304x512 .f32 := broadcastInDim S2x2304x512 ![] bcast_S_S2x2304x512 main_cst_2
  let main_v10 : IVec S2x2304x512 1 := cmpf .olt main_v8 main_v9
  let main_c_3 : IVec S_ 1 := constantI S_ 1 1#1
  let main_v11 : IVec S_ 1 := (fun x v => Host.reduce IntOp.andi x v reducesTo_S2x2304x512_S_d0_1_2 h_S_) main_v10 main_c_3
  let main_v12 : IVec S_ 1 := andi main_v7 main_v11
  let main_v13 : IVec S_ 1 := andi main_v3 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg5 main_v13 main_v16
-- ==== Pre_finite4.lean ====
abbrev S2x2304x512 : Shape := ⟨3, ![2, 2304, 512]⟩
abbrev S4 : Shape := ⟨1, ![4]⟩
abbrev S_ : Shape := ⟨0, ![]⟩

class Facts : Prop where
  bcast_S_S2x2304x512 : S_.BroadcastsInDim S2x2304x512 (![] : Fin 0 → Fin S2x2304x512.rank)
  reducesTo_S2x2304x512_S_d0_1_2 : S2x2304x512.ReducesTo [0, 1, 2] S_
  h_S_ : 0 < S_.numel
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : FVec F S4 .f32 := Host.absf main_arg5
  let main_cst_6 : FVec F S_ .f32 := constant S_ .f32 0x7F800000#32
  let main_v19 : FVec F S4 .f32 := broadcastInDim S4 ![] bcast_S_S4 main_cst_6
  let main_v20 : IVec S4 1 := cmpf .olt main_v18 main_v19
  let main_c_7 : IVec S_ 1 := constantI S_ 1 1#1
  let main_v21 : IVec S_ 1 := (fun x v => Host.reduce IntOp.andi x v reducesTo_S4_S_d0 h_S_) main_v20 main_c_7
  let main_v22 : IVec S_ 1 := andi main_v17 main_v21
  let main_v23 : IVec S_ 1 := andi main_v13 main_v22
  main_v23

def fn {F : FTy → Type} [FloatOps F] (main_arg0 : FVec F S2x2304x512 .f32) (main_arg1 : FVec F S2x2304x512 .f32) (main_arg2 : FVec F S2x2304x512 .f32) (main_arg3 : FVec F S2x2304x512 .f32) (main_arg4 : FVec F S4 .f32) (main_arg5 : FVec F S4 .f32) : IVec S_ 1 :=
  let main_v0 : FVec F S2x2304x512 .f32 := Host.absf main_arg0
  let main_cst : FVec F S_ .f32 := constant S_ .f32 0x7F800000#32
  let main_v1 : FVec F S2x2304x512 .f32 := broadcastInDim S2x2304x512 ![] bcast_S_S2x2304x512 main_cst
  let main_v2 : IVec S2x2304x512 1 := cmpf .olt main_v0 main_v1
  let main_c : IVec S_ 1 := constantI S_ 1 1#1
  let main_v3 : IVec S_ 1 := (fun x v => Host.reduce IntOp.andi x v reducesTo_S2x2304x512_S_d0_1_2 h_S_) main_v2 main_c
  let main_v4 : FVec F S2x2304x512 .f32 := Host.absf main_arg1
  let main_cst_0 : FVec F S_ .f32 := constant S_ .f32 0x7F800000#32
  let main_v5 : FVec F S2x2304x512 .f32 := broadcastInDim S2x2304x512 ![] bcast_S_S2x2304x512 main_cst_0
  let main_v6 : IVec S2x2304x512 1 := cmpf .olt main_v4 main_v5
  let main_c_1 : IVec S_ 1 := constantI S_ 1 1#1
  let main_v7 : IVec S_ 1 := (fun x v => Host.reduce IntOp.andi x v reducesTo_S2x2304x512_S_d0_1_2 h_S_) main_v6 main_c_1
  let main_v8 : FVec F S2x2304x512 .f32 := Host.absf main_arg3
  let main_cst_2 : FVec F S_ .f32 := constant S_ .f32 0x7F800000#32
  let main_v9 : FVec F S2x2304x512 .f32 := broadcastInDim S2x2304x512 ![] bcast_S_S2x2304x512 main_cst_2
  let main_v10 : IVec S2x2304x512 1 := cmpf .olt main_v8 main_v9
  let main_c_3 : IVec S_ 1 := constantI S_ 1 1#1
  let main_v11 : IVec S_ 1 := (fun x v => Host.reduce IntOp.andi x v reducesTo_S2x2304x512_S_d0_1_2 h_S_) main_v10 main_c_3
  let main_v12 : IVec S_ 1 := andi main_v7 main_v11
  let main_v13 : IVec S_ 1 := andi main_v3 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg5 main_v13 main_v16
-- ==== Pre_finite5.lean ====
abbrev S2x2304x512 : Shape := ⟨3, ![2, 2304, 512]⟩
abbrev S4 : Shape := ⟨1, ![4]⟩
abbrev S_ : Shape := ⟨0, ![]⟩

class Facts : Prop where
  bcast_S_S2x2304x512 : S_.BroadcastsInDim S2x2304x512 (![] : Fin 0 → Fin S2x2304x512.rank)
  reducesTo_S2x2304x512_S_d0_1_2 : S2x2304x512.ReducesTo [0, 1, 2] S_
  h_S_ : 0 < S_.numel
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4 .f32) (main_arg5 : FVec F S4 .f32) (main_v8 : IVec S_ 1) (main_v12 : IVec S_ 1) (main_v15 : IVec S2x2304x512 1) (main_c_5 : IVec S_ 1) : IVec S_ 1 :=
  let main_v16 : IVec S_ 1 := (fun x v => Host.reduce IntOp.andi x v reducesTo_S2x2304x512_S_d0_1_2 h_S_) main_v15 main_c_5
  let main_v17 : IVec S_ 1 := andi main_v12 main_v16
  let main_v18 : IVec S_ 1 := andi main_v8 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : FVec F S4 .f32 := Host.absf main_arg5
  let main_cst_8 : FVec F S_ .f32 := constant S_ .f32 0x7F800000#32
  let main_v24 : FVec F S4 .f32 := broadcastInDim S4 ![] bcast_S_S4 main_cst_8
  let main_v25 : IVec S4 1 := cmpf .olt main_v23 main_v24
  let main_c_9 : IVec S_ 1 := constantI S_ 1 1#1
  let main_v26 : IVec S_ 1 := (fun x v => Host.reduce IntOp.andi x v reducesTo_S4_S_d0 h_S_) main_v25 main_c_9
  let main_v27 : IVec S_ 1 := andi main_v22 main_v26
  let main_v28 : IVec S_ 1 := andi main_v18 main_v27
  main_v28

def fn {F : FTy → Type} [FloatOps F] (main_arg0 : FVec F S2x2304x512 .f32) (main_arg1 : FVec F S2x2304x512 .f32) (main_arg2 : FVec F S2x2304x512 .f32) (main_arg3 : FVec F S2x2304x512 .f32) (main_arg4 : FVec F S4 .f32) (main_arg5 : FVec F S4 .f32) : IVec S_ 1 :=
  let main_v0 : FVec F S2x2304x512 .f32 := Host.absf main_arg0
  let main_cst : FVec F S_ .f32 := constant S_ .f32 0x7F800000#32
  let main_v1 : FVec F S2x2304x512 .f32 := broadcastInDim S2x2304x512 ![] bcast_S_S2x2304x512 main_cst
  let main_v2 : IVec S2x2304x512 1 := cmpf .olt main_v0 main_v1
  let main_c : IVec S_ 1 := constantI S_ 1 1#1
  let main_v3 : IVec S_ 1 := (fun x v => Host.reduce IntOp.andi x v reducesTo_S2x2304x512_S_d0_1_2 h_S_) main_v2 main_c
  let main_v4 : FVec F S2x2304x512 .f32 := Host.absf main_arg1
  let main_cst_0 : FVec F S_ .f32 := constant S_ .f32 0x7F800000#32
  let main_v5 : FVec F S2x2304x512 .f32 := broadcastInDim S2x2304x512 ![] bcast_S_S2x2304x512 main_cst_0
  let main_v6 : IVec S2x2304x512 1 := cmpf .olt main_v4 main_v5
  let main_c_1 : IVec S_ 1 := constantI S_ 1 1#1
  let main_v7 : IVec S_ 1 := (fun x v => Host.reduce IntOp.andi x v reducesTo_S2x2304x512_S_d0_1_2 h_S_) main_v6 main_c_1
  let main_v8 : IVec S_ 1 := andi main_v3 main_v7
  let main_v9 : FVec F S2x2304x512 .f32 := Host.absf main_arg2
  let main_cst_2 : FVec F S_ .f32 := constant S_ .f32 0x7F800000#32
  let main_v10 : FVec F S2x2304x512 .f32 := broadcastInDim S2x2304x512 ![] bcast_S_S2x2304x512 main_cst_2
  let main_v11 : IVec S2x2304x512 1 := cmpf .olt main_v9 main_v10
  let main_c_3 : IVec S_ 1 := constantI S_ 1 1#1
  let main_v12 : IVec S_ 1 := (fun x v => Host.reduce IntOp.andi x v reducesTo_S2x2304x512_S_d0_1_2 h_S_) main_v11 main_c_3
  let main_v13 : FVec F S2x2304x512 .f32 := Host.absf main_arg3
  let main_cst_4 : FVec F S_ .f32 := constant S_ .f32 0x7F800000#32
  let main_v14 : FVec F S2x2304x512 .f32 := broadcastInDim S2x2304x512 ![] bcast_S_S2x2304x512 main_cst_4
  let main_v15 : IVec S2x2304x512 1 := cmpf .olt main_v13 main_v14
  let main_c_5 : IVec S_ 1 := constantI S_ 1 1#1
  fn_part1 (F := F) main_arg4 main_arg5 main_v8 main_v12 main_v15 main_c_5
-- ==== Pre_finite7.lean ====
abbrev S2x2304x1024 : Shape := ⟨3, ![2, 2304, 1024]⟩
abbrev S2x2x3x1024 : Shape := ⟨4, ![2, 2, 3, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2x2304x1024 : S_.BroadcastsInDim S2x2304x1024 (![] : Fin 0 → Fin S2x2304x1024.rank)
  reducesTo_S2x2304x1024_S_d0_1_2 : S2x2304x1024.ReducesTo [0, 1, 2] S_
  h_S_ : 0 < S_.numel
  bcast_S_S2x2x3x1024 : S_.BroadcastsInDim S2x2x3x1024 (![] : Fin 0 → Fin S2x2x3x1024.rank)
  reducesTo_S2x2x3x1024_S_d0_1_2_3 : S2x2x3x1024.ReducesTo [0, 1, 2, 3] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S1024x2816 .f32) (main_arg6 : FVec F S2816x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : FVec F S1024x2816 .f32 := Host.absf main_arg4
  let main_cst_6 : FVec F S_ .f32 := constant S_ .f32 0x7F800000#32
  let main_v19 : FVec F S1024x2816 .f32 := broadcastInDim S1024x2816 ![] bcast_S_S1024x2816 main_cst_6
  let main_v20 : IVec S1024x2816 1 := cmpf .olt main_v18 main_v19
  let main_c_7 : IVec S_ 1 := constantI S_ 1 1#1
  let main_v21 : IVec S_ 1 := (fun x v => Host.reduce IntOp.andi x v reducesTo_S1024x2816_S_d0_1 h_S_) main_v20 main_c_7
  let main_v22 : IVec S_ 1 := andi main_v17 main_v21
  let main_v23 : FVec F S1024x2816 .f32 := Host.absf main_arg5
  let main_cst_8 : FVec F S_ .f32 := constant S_ .f32 0x7F800000#32
  let main_v24 : FVec F S1024x2816 .f32 := broadcastInDim S1024x2816 ![] bcast_S_S1024x2816 main_cst_8
  let main_v25 : IVec S1024x2816 1 := cmpf .olt main_v23 main_v24
  let main_c_9 : IVec S_ 1 := constantI S_ 1 1#1
  let main_v26 : IVec S_ 1 := (fun x v => Host.reduce IntOp.andi x v reducesTo_S1024x2816_S_d0_1 h_S_) main_v25 main_c_9
  let main_v27 : FVec F S2816x1024 .f32 := Host.absf main_arg6
  let main_cst_10 : FVec F S_ .f32 := constant S_ .f32 0x7F800000#32
  let main_v28 : FVec F S2816x1024 .f32 := broadcastInDim S2816x1024 ![] bcast_S_S2816x1024 main_cst_10
  let main_v29 : IVec S2816x1024 1 := cmpf .olt main_v27 main_v28
  let main_c_11 : IVec S_ 1 := constantI S_ 1 1#1
  let main_v30 : IVec S_ 1 := (fun x v => Host.reduce IntOp.andi x v reducesTo_S2816x1024_S_d0_1 h_S_) main_v29 main_c_11
  let main_v31 : IVec S_ 1 := andi main_v26 main_v30
  let main_v32 : IVec S_ 1 := andi main_v22 main_v31
  let main_v33 : IVec S_ 1 := andi main_v13 main_v32
  main_v33

def fn {F : FTy → Type} [FloatOps F] (main_arg0 : FVec F S2x2304x1024 .f32) (main_arg1 : FVec F S2x2304x1024 .f32) (main_arg2 : FVec F S2x2x3x1024 .f32) (main_arg3 : FVec F S1024 .f32) (main_arg4 : FVec F S1024x2816 .f32) (main_arg5 : FVec F S1024x2816 .f32) (main_arg6 : FVec F S2816x1024 .f32) : IVec S_ 1 :=
  let main_v0 : FVec F S2x2304x1024 .f32 := Host.absf main_arg0
  let main_cst : FVec F S_ .f32 := constant S_ .f32 0x7F800000#32
  let main_v1 : FVec F S2x2304x1024 .f32 := broadcastInDim S2x2304x1024 ![] bcast_S_S2x2304x1024 main_cst
  let main_v2 : IVec S2x2304x1024 1 := cmpf .olt main_v0 main_v1
  let main_c : IVec S_ 1 := constantI S_ 1 1#1
  let main_v3 : IVec S_ 1 := (fun x v => Host.reduce IntOp.andi x v reducesTo_S2x2304x1024_S_d0_1_2 h_S_) main_v2 main_c
  let main_v4 : FVec F S2x2304x1024 .f32 := Host.absf main_arg1
  let main_cst_0 : FVec F S_ .f32 := constant S_ .f32 0x7F800000#32
  let main_v5 : FVec F S2x2304x1024 .f32 := broadcastInDim S2x2304x1024 ![] bcast_S_S2x2304x1024 main_cst_0
  let main_v6 : IVec S2x2304x1024 1 := cmpf .olt main_v4 main_v5
  let main_c_1 : IVec S_ 1 := constantI S_ 1 1#1
  let main_v7 : IVec S_ 1 := (fun x v => Host.reduce IntOp.andi x v reducesTo_S2x2304x1024_S_d0_1_2 h_S_) main_v6 main_c_1
  let main_v8 : FVec F S2x2x3x1024 .f32 := Host.absf main_arg2
  let main_cst_2 : FVec F S_ .f32 := constant S_ .f32 0x7F800000#32
  let main_v9 : FVec F S2x2x3x1024 .f32 := broadcastInDim S2x2x3x1024 ![] bcast_S_S2x2x3x1024 main_cst_2
  let main_v10 : IVec S2x2x3x1024 1 := cmpf .olt main_v8 main_v9
  let main_c_3 : IVec S_ 1 := constantI S_ 1 1#1
  let main_v11 : IVec S_ 1 := (fun x v => Host.reduce IntOp.andi x v reducesTo_S2x2x3x1024_S_d0_1_2_3 h_S_) main_v10 main_c_3
  let main_v12 : IVec S_ 1 := andi main_v7 main_v11
  let main_v13 : IVec S_ 1 := andi main_v3 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S2x2304x512 : Shape := ⟨3, ![2, 2304, 512]⟩
abbrev S4 : Shape := ⟨1, ![4]⟩
abbrev S4x1x1 : Shape := ⟨3, ![4, 1, 1]⟩
abbrev S4x1x128 : Shape := ⟨3, ![4, 1, 128]⟩
abbrev S1x2304x128 : Shape := ⟨3, ![1, 2304, 128]⟩
abbrev S1x1x128 : Shape := ⟨3, ![1, 1, 128]⟩
abbrev S256x256 : Shape := ⟨2, ![256, 256]⟩
abbrev S256x1 : Shape := ⟨2, ![256, 1]⟩
abbrev S1x128 : Shape := ⟨2, ![1, 128]⟩
abbrev S1x1 : Shape := ⟨2, ![1, 1]⟩
abbrev S128x128 : Shape := ⟨2, ![128, 128]⟩
abbrev S1x256x128 : Shape := ⟨3, ![1, 256, 128]⟩
abbrev S256x128 : Shape := ⟨2, ![256, 128]⟩

abbrev nBuf : Space → Nat
  | .hbm => 12
  | .vmem => 14
  | .smem => 0
  | _ => 0

abbrev bufTy : (tb : Table) → Fin (tcTables nBuf tb) → BufTy
  | .hbm, ⟨0, _⟩ => ⟨S2x2304x512, .f32⟩
  | .hbm, ⟨1, _⟩ => ⟨S2x2304x512, .f32⟩
  | .hbm, ⟨2, _⟩ => ⟨S2x2304x512, .f32⟩
  | .hbm, ⟨3, _⟩ => ⟨S2x2304x512, .f32⟩
  | .hbm, ⟨4, _⟩ => ⟨S4, .f32⟩
  | .hbm, ⟨5, _⟩ => ⟨S4, .f32⟩
  | .hbm, ⟨6, _⟩ => ⟨S4x1x1, .f32⟩
  | .hbm, ⟨7, _⟩ => ⟨S4x1x128, .f32⟩
  | .hbm, ⟨8, _⟩ => ⟨S4x1x1, .f32⟩
  | .hbm, ⟨9, _⟩ => ⟨S4x1x128, .f32⟩
  | .hbm, ⟨10, _⟩ => ⟨S2x2304x512, .f32⟩
  | .hbm, ⟨11, _⟩ => ⟨S2x2304x512, .f32⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x2304x128, .f32⟩
  | .local _ .vmem, ⟨11, _⟩ => ⟨S1x2304x128, .f32⟩
  | .local _ .vmem, ⟨12, _⟩ => ⟨S1x2304x128, .f32⟩
  | .local _ .vmem, ⟨13, _⟩ => ⟨S1x2304x128, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x2304x512 : Shape := ⟨3, ![2, 2304, 512]⟩
abbrev S4 : Shape := ⟨1, ![4]⟩
abbrev S_ : Shape := ⟨0, ![]⟩
abbrev S2x2304x4x128 : Shape := ⟨4, ![2, 2304, 4, 128]⟩
abbrev S2x4x128x128 : Shape := ⟨4, ![2, 4, 128, 128]⟩
abbrev S2x256x4x128 : Shape := ⟨4, ![2, 256, 4, 128]⟩
abbrev S2x2x128x4x128 : Shape := ⟨5, ![2, 2, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S2x2x4x128x128 : Shape := ⟨5, ![2, 2, 4, 128, 128]⟩
abbrev S1x1x4x128x128 : Shape := ⟨5, ![1, 1, 4, 128, 128]⟩
abbrev S1x4 : Shape := ⟨2, ![1, 4]⟩
abbrev S128x4 : Shape := ⟨2, ![128, 4]⟩
abbrev S1x1x128x4x1 : Shape := ⟨5, ![1, 1, 128, 4, 1]⟩
abbrev S1x4x1x1 : Shape := ⟨4, ![1, 4, 1, 1]⟩
abbrev S2x1x4x128x128 : Shape := ⟨5, ![2, 1, 4, 128, 128]⟩
abbrev S2x2048x4x128 : Shape := ⟨4, ![2, 2048, 4, 128]⟩
abbrev S2x16x128x4x128 : Shape := ⟨5, ![2, 16, 128, 4, 128]⟩
abbrev S2x16x4x128x128 : Shape := ⟨5, ![2, 16, 4, 128, 128]⟩

abbrev nBuf : Space → Nat
  | .hbm => 638
  | .vmem => 0
  | .smem => 0
  | _ => 0

abbrev hbmTy0_0 (i : Nat) : BufTy := match i % 128 with
  | 0 => ⟨S2x2304x512, .f32⟩
  | 1 => ⟨S2x2304x512, .f32⟩
  | 2 => ⟨S2x2304x512, .f32⟩
  | 3 => ⟨S2x2304x512, .f32⟩
  | 4 => ⟨S4, .f32⟩
  | 5 => ⟨S4, .f32⟩
  | 6 => ⟨S4, .f32⟩
  | 7 => ⟨S_, .f32⟩
  | 8 => ⟨S4, .f32⟩
  | 9 => ⟨S4, .f32⟩
  | 10 => ⟨S4, .f32⟩
  | 11 => ⟨S4, .f32⟩
  | 12 => ⟨S4, .i1⟩
  | 13 => ⟨S4, .f32⟩
  | 14 => ⟨S4, .f32⟩
  | 15 => ⟨S4, .f32⟩
  | 16 => ⟨S4, .f32⟩
  | 17 => ⟨S4, .f32⟩
  | 18 => ⟨S4, .f32⟩
  | 19 => ⟨S4, .f32⟩
  | 20 => ⟨S4, .f32⟩
  | 21 => ⟨S4, .f32⟩
  | 22 => ⟨S2x2304x4x128, .f32⟩
  | 23 => ⟨S2x2304x4x128, .f32⟩
  | 24 => ⟨S2x2304x4x128, .f32⟩
  | 25 => ⟨S_, .f32⟩
  | 26 => ⟨S2x4x128x128, .f32⟩
  | 27 => ⟨S2x256x4x128, .f32⟩
  | 28 => ⟨S2x256x4x128, .f32⟩
  | 29 => ⟨S2x256x4x128, .f32⟩
  | 30 => ⟨S2x2x128x4x128, .f32⟩
  | 31 => ⟨S2x2x128x4x128, .f32⟩
  | 32 => ⟨S2x2x128x4x128, .f32⟩
  | 33 => ⟨S128, .f32⟩
  | 34 => ⟨S128x1, .f32⟩
  | 35 => ⟨S1x128, .f32⟩
  | 36 => ⟨S128x128, .f32⟩
  | 37 => ⟨S128x128, .f32⟩
  | 38 => ⟨S128x128, .f32⟩
  | 39 => ⟨S_, .f32⟩
  | 40 => ⟨S128x128, .f32⟩
  | 41 => ⟨S128x128, .i1⟩
  | 42 => ⟨S1x128x128, .i1⟩
  | 43 => ⟨S_, .f32⟩
  | 44 => ⟨S128x128, .f32⟩
  | 45 => ⟨S128x128, .f32⟩
  | 46 => ⟨S1x128x128, .f32⟩
  | 47 => ⟨S4x1x1, .f32⟩
  | 48 => ⟨S4x128x128, .f32⟩
  | 49 => ⟨S4x128x128, .f32⟩
  | 50 => ⟨S4x128x128, .f32⟩
  | 51 => ⟨S4x128x128, .f32⟩
  | 52 => ⟨S_, .f32⟩
  | 53 => ⟨S_, .f32⟩
  | 54 => ⟨S4x128x128, .i1⟩
  | 55 => ⟨S4x128x128, .f32⟩
  | 56 => ⟨S4x128x128, .f32⟩
  | 57 => ⟨S2x2x4x128x128, .f32⟩
  | 58 => ⟨S1x1x4x128x128, .f32⟩
  | 59 => ⟨S2x2x4x128x128, .f32⟩
  | 60 => ⟨S2x2x4x128x128, .f32⟩
  | 61 => ⟨S2x2x4x128x128, .f32⟩
  | 62 => ⟨S2x2x128x4x128, .f32⟩
  | 63 => ⟨S_, .f32⟩
  | 64 => ⟨S128, .f32⟩
  | 65 => ⟨S128, .f32⟩
  | 66 => ⟨S128x1, .f32⟩
  | 67 => ⟨S1x4, .f32⟩
  | 68 => ⟨S128x4, .f32⟩
  | 69 => ⟨S128x4, .f32⟩
  | 70 => ⟨S128x4, .f32⟩
  | 71 => ⟨S128x4, .f32⟩
  | 72 => ⟨S1x1x128x4x1, .f32⟩
  | 73 => ⟨S2x2x128x4x128, .f32⟩
  | 74 => ⟨S2x2x128x4x128, .f32⟩
  | 75 => ⟨S2x2x4x128x128, .f32⟩
  | 76 => ⟨S_, .f32⟩
  | 77 => ⟨S4, .f32⟩
  | 78 => ⟨S4, .f32⟩
  | 79 => ⟨S4, .f32⟩
  | 80 => ⟨S1x4x1x1, .f32⟩
  | 81 => ⟨S2x4x128x128, .f32⟩
  | 82 => ⟨S2x4x128x128, .f32⟩
  | 83 => ⟨S2x1x4x128x128, .f32⟩
  | 84 => ⟨S2x4x128x128, .f32⟩
  | 85 => ⟨S2x4x128x128, .f32⟩
  | 86 => ⟨S2x4x128x128, .f32⟩
  | 87 => ⟨S2x4x128x128, .f32⟩
  | 88 => ⟨S2x1x4x128x128, .f32⟩
  | 89 => ⟨S2x4x128x128, .f32⟩
  | 90 => ⟨S2x4x128x128, .f32⟩
  | 91 => ⟨S2x1x4x128x128, .f32⟩
  | 92 => ⟨S2x1x4x128x128, .f32⟩
  | 93 => ⟨S2x2x4x128x128, .f32⟩
  | 94 => ⟨S_, .f32⟩
  | 95 => ⟨S128, .f32⟩
  | 96 => ⟨S128, .f32⟩
  | 97 => ⟨S128x1, .f32⟩
  | 98 => ⟨S1x4, .f32⟩
  | 99 => ⟨S128x4, .f32⟩
  | 100 => ⟨S128x4, .f32⟩
  | 101 => ⟨S128x4, .f32⟩
  | 102 => ⟨S128x4, .f32⟩
  | 103 => ⟨S1x1x128x4x1, .f32⟩
  | 104 => ⟨S2x2x128x4x128, .f32⟩
  | 105 => ⟨S2x2x128x4x128, .f32⟩
  | 106 => ⟨S2x2x4x128x128, .f32⟩
  | 107 => ⟨S2x2x128x4x128, .f32⟩
  | 108 => ⟨S2x2x128x4x128, .f32⟩
  | 109 => ⟨S2x256x4x128, .f32⟩
  | 110 => ⟨S2x2048x4x128, .f32⟩
  | 111 => ⟨S2x2048x4x128, .f32⟩
  | 112 => ⟨S2x2048x4x128, .f32⟩
  | 113 => ⟨S2x16x128x4x128, .f32⟩
  | 114 => ⟨S2x16x128x4x128, .f32⟩
  | 115 => ⟨S2x16x128x4x128, .f32⟩
  | 116 => ⟨S128, .f32⟩
  | 117 => ⟨S128x1, .f32⟩
  | 118 => ⟨S1x128, .f32⟩
  | 119 => ⟨S128x128, .f32⟩
  | 120 => ⟨S128x128, .f32⟩
  | 121 => ⟨S128x128, .f32⟩
  | 122 => ⟨S_, .f32⟩
  | 123 => ⟨S128x128, .f32⟩
  | 124 => ⟨S128x128, .i1⟩
  | 125 => ⟨S1x128x128, .i1⟩
  | 126 => ⟨S_, .f32⟩
  | 127 => ⟨S128x128, .f32⟩
  | _ => ⟨S2x2304x512, .f32⟩

abbrev hbmTy0_1 (i : Nat) : BufTy := match i % 128 with
  | 0 => ⟨S128x128, .f32⟩
  | 1 => ⟨S1x128x128, .f32⟩
  | 2 => ⟨S4x1x1, .f32⟩
  | 3 => ⟨S4x128x128, .f32⟩
  | 4 => ⟨S4x128x128, .f32⟩
  | 5 => ⟨S4x128x128, .f32⟩
  | 6 => ⟨S4x128x128, .f32⟩
  | 7 => ⟨S_, .f32⟩
  | 8 => ⟨S_, .f32⟩
  | 9 => ⟨S4x128x128, .i1⟩
  | 10 => ⟨S4x128x128, .f32⟩
  | 11 => ⟨S4x128x128, .f32⟩
  | 12 => ⟨S2x16x4x128x128, .f32⟩
  | 13 => ⟨S1x1x4x128x128, .f32⟩
  | 14 => ⟨S2x16x4x128x128, .f32⟩
  | 15 => ⟨S2x16x4x128x128, .f32⟩
  | 16 => ⟨S2x16x4x128x128, .f32⟩
  | 17 => ⟨S2x16x128x4x128, .f32⟩
  | 18 => ⟨S_, .f32⟩
  | 19 => ⟨S128, .f32⟩
  | 20 => ⟨S128, .f32⟩
  | 21 => ⟨S128x1, .f32⟩
  | 22 => ⟨S1x4, .f32⟩
  | 23 => ⟨S128x4, .f32⟩
  | 24 => ⟨S128x4, .f32⟩
  | 25 => ⟨S128x4, .f32⟩
  | 26 => ⟨S128x4, .f32⟩
  | 27 => ⟨S1x1x128x4x1, .f32⟩
  | 28 => ⟨S2x16x128x4x128, .f32⟩
  | 29 => ⟨S2x16x128x4x128, .f32⟩
  | 30 => ⟨S2x16x4x128x128, .f32⟩
  | 31 => ⟨S_, .f32⟩
  | 32 => ⟨S4, .f32⟩
  | 33 => ⟨S4, .f32⟩
  | 34 => ⟨S4, .f32⟩
  | 35 => ⟨S1x4x1x1, .f32⟩
  | 36 => ⟨S2x4x128x128, .f32⟩
  | 37 => ⟨S2x4x128x128, .f32⟩
  | 38 => ⟨S2x1x4x128x128, .f32⟩
  | 39 => ⟨S2x4x128x128, .f32⟩
  | 40 => ⟨S2x4x128x128, .f32⟩
  | 41 => ⟨S2x4x128x128, .f32⟩
  | 42 => ⟨S2x4x128x128, .f32⟩
  | 43 => ⟨S2x1x4x128x128, .f32⟩
  | 44 => ⟨S2x4x128x128, .f32⟩
  | 45 => ⟨S2x4x128x128, .f32⟩
  | 46 => ⟨S2x4x128x128, .f32⟩
  | 47 => ⟨S2x4x128x128, .f32⟩
  | 48 => ⟨S2x1x4x128x128, .f32⟩
  | 49 => ⟨S2x4x128x128, .f32⟩
  | 50 => ⟨S2x4x128x128, .f32⟩
  | 51 => ⟨S2x4x128x128, .f32⟩
  | 52 => ⟨S2x4x128x128, .f32⟩
  | 53 => ⟨S2x1x4x128x128, .f32⟩
  | 54 => ⟨S2x4x128x128, .f32⟩
  | 55 => ⟨S2x4x128x128, .f32⟩
  | 56 => ⟨S2x4x128x128, .f32⟩
  | 57 => ⟨S2x4x128x128, .f32⟩
  | 58 => ⟨S2x1x4x128x128, .f32⟩
  | 59 => ⟨S2x4x128x128, .f32⟩
  | 60 => ⟨S2x4x128x128, .f32⟩
  | 61 => ⟨S2x4x128x128, .f32⟩
  | 62 => ⟨S2x4x128x128, .f32⟩
  | 63 => ⟨S2x1x4x128x128, .f32⟩
  | 64 => ⟨S2x4x128x128, .f32⟩
  | 65 => ⟨S2x4x128x128, .f32⟩
  | 66 => ⟨S2x4x128x128, .f32⟩
  | 67 => ⟨S2x4x128x128, .f32⟩
  | 68 => ⟨S2x1x4x128x128, .f32⟩
  | 69 => ⟨S2x4x128x128, .f32⟩
  | 70 => ⟨S2x4x128x128, .f32⟩
  | 71 => ⟨S2x4x128x128, .f32⟩
  | 72 => ⟨S2x4x128x128, .f32⟩
  | 73 => ⟨S2x1x4x128x128, .f32⟩
  | 74 => ⟨S2x4x128x128, .f32⟩
  | 75 => ⟨S2x4x128x128, .f32⟩
  | 76 => ⟨S2x4x128x128, .f32⟩
  | 77 => ⟨S2x4x128x128, .f32⟩
  | 78 => ⟨S2x1x4x128x128, .f32⟩
  | 79 => ⟨S2x4x128x128, .f32⟩
  | 80 => ⟨S2x4x128x128, .f32⟩
  | 81 => ⟨S2x4x128x128, .f32⟩
  | 82 => ⟨S2x4x128x128, .f32⟩
  | 83 => ⟨S2x1x4x128x128, .f32⟩
  | 84 => ⟨S2x4x128x128, .f32⟩
  | 85 => ⟨S2x4x128x128, .f32⟩
  | 86 => ⟨S2x4x128x128, .f32⟩
  | 87 => ⟨S2x4x128x128, .f32⟩
  | 88 => ⟨S2x1x4x128x128, .f32⟩
  | 89 => ⟨S2x4x128x128, .f32⟩
  | 90 => ⟨S2x4x128x128, .f32⟩
  | 91 => ⟨S2x4x128x128, .f32⟩
  | 92 => ⟨S2x4x128x128, .f32⟩
  | 93 => ⟨S2x1x4x128x128, .f32⟩
  | 94 => ⟨S2x4x128x128, .f32⟩
  | 95 => ⟨S2x4x128x128, .f32⟩
  | 96 => ⟨S2x4x128x128, .f32⟩
  | 97 => ⟨S2x4x128x128, .f32⟩
  | 98 => ⟨S2x1x4x128x128, .f32⟩
  | 99 => ⟨S2x4x128x128, .f32⟩
  | 100 => ⟨S2x4x128x128, .f32⟩
  | 101 => ⟨S2x4x128x128, .f32⟩
  | 102 => ⟨S2x4x128x128, .f32⟩
  | 103 => ⟨S2x1x4x128x128, .f32⟩
  | 104 => ⟨S2x4x128x128, .f32⟩
  | 105 => ⟨S2x4x128x128, .f32⟩
  | 106 => ⟨S2x4x128x128, .f32⟩
  | 107 => ⟨S2x4x128x128, .f32⟩
  | 108 => ⟨S2x1x4x128x128, .f32⟩
  | 109 => ⟨S2x4x128x128, .f32⟩
  | 110 => ⟨S2x4x128x128, .f32⟩
  | 111 => ⟨S2x4x128x128, .f32⟩
  | 112 => ⟨S2x4x128x128, .f32⟩
  | 113 => ⟨S2x1x4x128x128, .f32⟩
  | 114 => ⟨S2x4x128x128, .f32⟩
  | 115 => ⟨S2x4x128x128, .f32⟩
  | 116 => ⟨S2x1x4x128x128, .f32⟩
  | 117 => ⟨S2x1x4x128x128, .f32⟩
  | 118 => ⟨S2x1x4x128x128, .f32⟩
  | 119 => ⟨S2x1x4x128x128, .f32⟩
  | 120 => ⟨S2x1x4x128x128, .f32⟩
  | 121 => ⟨S2x1x4x128x128, .f32⟩
  | 122 => ⟨S2x1x4x128x128, .f32⟩
  | 123 => ⟨S2x1x4x128x128, .f32⟩
  | 124 => ⟨S2x1x4x128x128, .f32⟩
  | 125 => ⟨S2x1x4x128x128, .f32⟩
  | 126 => ⟨S2x1x4x128x128, .f32⟩
  | 127 => ⟨S2x1x4x128x128, .f32⟩
  | _ => ⟨S2x2304x512, .f32⟩

abbrev hbmTy0_2 (i : Nat) : BufTy := match i % 128 with
  | 0 => ⟨S2x1x4x128x128, .f32⟩
  | 1 => ⟨S2x1x4x128x128, .f32⟩
  | 2 => ⟨S2x1x4x128x128, .f32⟩
  | 3 => ⟨S2x1x4x128x128, .f32⟩
  | 4 => ⟨S2x16x4x128x128, .f32⟩
  | 5 => ⟨S_, .f32⟩
  | 6 => ⟨S128, .f32⟩
  | 7 => ⟨S128, .f32⟩
  | 8 => ⟨S128x1, .f32⟩
  | 9 => ⟨S1x4, .f32⟩
  | 10 => ⟨S128x4, .f32⟩
  | 11 => ⟨S128x4, .f32⟩
  | 12 => ⟨S128x4, .f32⟩
  | 13 => ⟨S128x4, .f32⟩
  | 14 => ⟨S1x1x128x4x1, .f32⟩
  | 15 => ⟨S2x16x128x4x128, .f32⟩
  | 16 => ⟨S2x16x128x4x128, .f32⟩
  | 17 => ⟨S2x16x4x128x128, .f32⟩
  | 18 => ⟨S2x16x128x4x128, .f32⟩
  | 19 => ⟨S2x16x128x4x128, .f32⟩
  | 20 => ⟨S2x2048x4x128, .f32⟩
  | 21 => ⟨S2x2304x4x128, .f32⟩
  | 22 => ⟨S2x2304x512, .f32⟩
  | 23 => ⟨S2x2304x4x128, .f32⟩
  | 24 => ⟨S2x256x4x128, .f32⟩
  | 25 => ⟨S2x2048x4x128, .f32⟩
  | 26 => ⟨S2x16x128x4x128, .f32⟩
  | 27 => ⟨S2x16x4x128x128, .f32⟩
  | 28 => ⟨S2x16x4x128x128, .f32⟩
  | 29 => ⟨S2x16x128x4x128, .f32⟩
  | 30 => ⟨S2x16x128x4x128, .f32⟩
  | 31 => ⟨S2x16x128x4x128, .f32⟩
  | 32 => ⟨S2x16x4x128x128, .f32⟩
  | 33 => ⟨S2x16x4x128x128, .f32⟩
  | 34 => ⟨S2x16x4x128x128, .f32⟩
  | 35 => ⟨S2x16x4x128x128, .f32⟩
  | 36 => ⟨S2x16x4x128x128, .f32⟩
  | 37 => ⟨S2x16x128x4x128, .f32⟩
  | 38 => ⟨S2x16x128x4x128, .f32⟩
  | 39 => ⟨S2x2048x4x128, .f32⟩
  | 40 => ⟨S_, .f32⟩
  | 41 => ⟨S2x2304x4x128, .f32⟩
  | 42 => ⟨S2x2x128x4x128, .f32⟩
  | 43 => ⟨S2x2x4x128x128, .f32⟩
  | 44 => ⟨S2x2x4x128x128, .f32⟩
  | 45 => ⟨S2x2x128x4x128, .f32⟩
  | 46 => ⟨S2x2x128x4x128, .f32⟩
  | 47 => ⟨S2x2x128x4x128, .f32⟩
  | 48 => ⟨S2x2x4x128x128, .f32⟩
  | 49 => ⟨S2x2x4x128x128, .f32⟩
  | 50 => ⟨S2x2x4x128x128, .f32⟩
  | 51 => ⟨S2x2x4x128x128, .f32⟩
  | 52 => ⟨S2x2x4x128x128, .f32⟩
  | 53 => ⟨S2x2x128x4x128, .f32⟩
  | 54 => ⟨S2x2x128x4x128, .f32⟩
  | 55 => ⟨S2x256x4x128, .f32⟩
  | 56 => ⟨S_, .f32⟩
  | 57 => ⟨S2x2304x4x128, .f32⟩
  | 58 => ⟨S2x2304x4x128, .f32⟩
  | 59 => ⟨S2x2304x512, .f32⟩
  | 60 => ⟨S4, .f32⟩
  | 61 => ⟨S_, .f32⟩
  | 62 => ⟨S4, .f32⟩
  | 63 => ⟨S4, .f32⟩
  | 64 => ⟨S4, .f32⟩
  | 65 => ⟨S4, .f32⟩
  | 66 => ⟨S4, .i1⟩
  | 67 => ⟨S4, .f32⟩
  | 68 => ⟨S4, .f32⟩
  | 69 => ⟨S4, .f32⟩
  | 70 => ⟨S4, .f32⟩
  | 71 => ⟨S4, .f32⟩
  | 72 => ⟨S4, .f32⟩
  | 73 => ⟨S4, .f32⟩
  | 74 => ⟨S4, .f32⟩
  | 75 => ⟨S4, .f32⟩
  | 76 => ⟨S2x2304x4x128, .f32⟩
  | 77 => ⟨S2x2304x4x128, .f32⟩
  | 78 => ⟨S2x2304x4x128, .f32⟩
  | 79 => ⟨S_, .f32⟩
  | 80 => ⟨S2x4x128x128, .f32⟩
  | 81 => ⟨S2x256x4x128, .f32⟩
  | 82 => ⟨S2x256x4x128, .f32⟩
  | 83 => ⟨S2x256x4x128, .f32⟩
  | 84 => ⟨S2x256x4x128, .f32⟩
  | 85 => ⟨S2x256x4x128, .f32⟩
  | 86 => ⟨S2x256x4x128, .f32⟩
  | 87 => ⟨S2x2x128x4x128, .f32⟩
  | 88 => ⟨S2x2x128x4x128, .f32⟩
  | 89 => ⟨S2x2x128x4x128, .f32⟩
  | 90 => ⟨S128, .f32⟩
  | 91 => ⟨S128x1, .f32⟩
  | 92 => ⟨S1x128, .f32⟩
  | 93 => ⟨S128x128, .f32⟩
  | 94 => ⟨S128x128, .f32⟩
  | 95 => ⟨S128x128, .f32⟩
  | 96 => ⟨S_, .f32⟩
  | 97 => ⟨S128x128, .f32⟩
  | 98 => ⟨S128x128, .i1⟩
  | 99 => ⟨S1x128x128, .i1⟩
  | 100 => ⟨S_, .f32⟩
  | 101 => ⟨S128x128, .f32⟩
  | 102 => ⟨S128x128, .f32⟩
  | 103 => ⟨S1x128x128, .f32⟩
  | 104 => ⟨S4x1x1, .f32⟩
  | 105 => ⟨S4x128x128, .f32⟩
  | 106 => ⟨S4x128x128, .f32⟩
  | 107 => ⟨S4x128x128, .f32⟩
  | 108 => ⟨S4x128x128, .f32⟩
  | 109 => ⟨S_, .f32⟩
  | 110 => ⟨S_, .f32⟩
  | 111 => ⟨S4x128x128, .i1⟩
  | 112 => ⟨S4x128x128, .f32⟩
  | 113 => ⟨S4x128x128, .f32⟩
  | 114 => ⟨S2x2x4x128x128, .f32⟩
  | 115 => ⟨S1x1x4x128x128, .f32⟩
  | 116 => ⟨S2x2x4x128x128, .f32⟩
  | 117 => ⟨S2x2x4x128x128, .f32⟩
  | 118 => ⟨S2x2x4x128x128, .f32⟩
  | 119 => ⟨S2x2x128x4x128, .f32⟩
  | 120 => ⟨S_, .f32⟩
  | 121 => ⟨S128, .f32⟩
  | 122 => ⟨S128, .f32⟩
  | 123 => ⟨S128x1, .f32⟩
  | 124 => ⟨S1x4, .f32⟩
  | 125 => ⟨S128x4, .f32⟩
  | 126 => ⟨S128x4, .f32⟩
  | 127 => ⟨S128x4, .f32⟩
  | _ => ⟨S2x2304x512, .f32⟩

abbrev hbmTy0_3 (i : Nat) : BufTy := match i % 128 with
  | 0 => ⟨S128x4, .f32⟩
  | 1 => ⟨S1x1x128x4x1, .f32⟩
  | 2 => ⟨S2x2x128x4x128, .f32⟩
  | 3 => ⟨S2x2x128x4x128, .f32⟩
  | 4 => ⟨S2x2x4x128x128, .f32⟩
  | 5 => ⟨S_, .f32⟩
  | 6 => ⟨S4, .f32⟩
  | 7 => ⟨S4, .f32⟩
  | 8 => ⟨S4, .f32⟩
  | 9 => ⟨S1x4x1x1, .f32⟩
  | 10 => ⟨S2x4x128x128, .f32⟩
  | 11 => ⟨S2x4x128x128, .f32⟩
  | 12 => ⟨S2x1x4x128x128, .f32⟩
  | 13 => ⟨S2x4x128x128, .f32⟩
  | 14 => ⟨S2x4x128x128, .f32⟩
  | 15 => ⟨S2x4x128x128, .f32⟩
  | 16 => ⟨S2x4x128x128, .f32⟩
  | 17 => ⟨S2x1x4x128x128, .f32⟩
  | 18 => ⟨S2x4x128x128, .f32⟩
  | 19 => ⟨S2x4x128x128, .f32⟩
  | 20 => ⟨S2x1x4x128x128, .f32⟩
  | 21 => ⟨S2x1x4x128x128, .f32⟩
  | 22 => ⟨S2x2x4x128x128, .f32⟩
  | 23 => ⟨S_, .f32⟩
  | 24 => ⟨S128, .f32⟩
  | 25 => ⟨S128, .f32⟩
  | 26 => ⟨S128x1, .f32⟩
  | 27 => ⟨S1x4, .f32⟩
  | 28 => ⟨S128x4, .f32⟩
  | 29 => ⟨S128x4, .f32⟩
  | 30 => ⟨S128x4, .f32⟩
  | 31 => ⟨S128x4, .f32⟩
  | 32 => ⟨S1x1x128x4x1, .f32⟩
  | 33 => ⟨S2x2x128x4x128, .f32⟩
  | 34 => ⟨S2x2x128x4x128, .f32⟩
  | 35 => ⟨S2x2x4x128x128, .f32⟩
  | 36 => ⟨S2x2x128x4x128, .f32⟩
  | 37 => ⟨S2x2x128x4x128, .f32⟩
  | 38 => ⟨S2x256x4x128, .f32⟩
  | 39 => ⟨S2x2048x4x128, .f32⟩
  | 40 => ⟨S2x2048x4x128, .f32⟩
  | 41 => ⟨S2x2048x4x128, .f32⟩
  | 42 => ⟨S2x2048x4x128, .f32⟩
  | 43 => ⟨S2x2048x4x128, .f32⟩
  | 44 => ⟨S2x2048x4x128, .f32⟩
  | 45 => ⟨S2x16x128x4x128, .f32⟩
  | 46 => ⟨S2x16x128x4x128, .f32⟩
  | 47 => ⟨S2x16x128x4x128, .f32⟩
  | 48 => ⟨S128, .f32⟩
  | 49 => ⟨S128x1, .f32⟩
  | 50 => ⟨S1x128, .f32⟩
  | 51 => ⟨S128x128, .f32⟩
  | 52 => ⟨S128x128, .f32⟩
  | 53 => ⟨S128x128, .f32⟩
  | 54 => ⟨S_, .f32⟩
  | 55 => ⟨S128x128, .f32⟩
  | 56 => ⟨S128x128, .i1⟩
  | 57 => ⟨S1x128x128, .i1⟩
  | 58 => ⟨S_, .f32⟩
  | 59 => ⟨S128x128, .f32⟩
  | 60 => ⟨S128x128, .f32⟩
  | 61 => ⟨S1x128x128, .f32⟩
  | 62 => ⟨S4x1x1, .f32⟩
  | 63 => ⟨S4x128x128, .f32⟩
  | 64 => ⟨S4x128x128, .f32⟩
  | 65 => ⟨S4x128x128, .f32⟩
  | 66 => ⟨S4x128x128, .f32⟩
  | 67 => ⟨S_, .f32⟩
  | 68 => ⟨S_, .f32⟩
  | 69 => ⟨S4x128x128, .i1⟩
  | 70 => ⟨S4x128x128, .f32⟩
  | 71 => ⟨S4x128x128, .f32⟩
  | 72 => ⟨S2x16x4x128x128, .f32⟩
  | 73 => ⟨S1x1x4x128x128, .f32⟩
  | 74 => ⟨S2x16x4x128x128, .f32⟩
  | 75 => ⟨S2x16x4x128x128, .f32⟩
  | 76 => ⟨S2x16x4x128x128, .f32⟩
  | 77 => ⟨S2x16x128x4x128, .f32⟩
  | 78 => ⟨S_, .f32⟩
  | 79 => ⟨S128, .f32⟩
  | 80 => ⟨S128, .f32⟩
  | 81 => ⟨S128x1, .f32⟩
  | 82 => ⟨S1x4, .f32⟩
  | 83 => ⟨S128x4, .f32⟩
  | 84 => ⟨S128x4, .f32⟩
  | 85 => ⟨S128x4, .f32⟩
  | 86 => ⟨S128x4, .f32⟩
  | 87 => ⟨S1x1x128x4x1, .f32⟩
  | 88 => ⟨S2x16x128x4x128, .f32⟩
  | 89 => ⟨S2x16x128x4x128, .f32⟩
  | 90 => ⟨S2x16x4x128x128, .f32⟩
  | 91 => ⟨S_, .f32⟩
  | 92 => ⟨S4, .f32⟩
  | 93 => ⟨S4, .f32⟩
  | 94 => ⟨S4, .f32⟩
  | 95 => ⟨S1x4x1x1, .f32⟩
  | 96 => ⟨S2x4x128x128, .f32⟩
  | 97 => ⟨S2x4x128x128, .f32⟩
  | 98 => ⟨S2x1x4x128x128, .f32⟩
  | 99 => ⟨S2x4x128x128, .f32⟩
  | 100 => ⟨S2x4x128x128, .f32⟩
  | 101 => ⟨S2x4x128x128, .f32⟩
  | 102 => ⟨S2x4x128x128, .f32⟩
  | 103 => ⟨S2x1x4x128x128, .f32⟩
  | 104 => ⟨S2x4x128x128, .f32⟩
  | 105 => ⟨S2x4x128x128, .f32⟩
  | 106 => ⟨S2x4x128x128, .f32⟩
  | 107 => ⟨S2x4x128x128, .f32⟩
  | 108 => ⟨S2x1x4x128x128, .f32⟩
  | 109 => ⟨S2x4x128x128, .f32⟩
  | 110 => ⟨S2x4x128x128, .f32⟩
  | 111 => ⟨S2x4x128x128, .f32⟩
  | 112 => ⟨S2x4x128x128, .f32⟩
  | 113 => ⟨S2x1x4x128x128, .f32⟩
  | 114 => ⟨S2x4x128x128, .f32⟩
  | 115 => ⟨S2x4x128x128, .f32⟩
  | 116 => ⟨S2x4x128x128, .f32⟩
  | 117 => ⟨S2x4x128x128, .f32⟩
  | 118 => ⟨S2x1x4x128x128, .f32⟩
  | 119 => ⟨S2x4x128x128, .f32⟩
  | 120 => ⟨S2x4x128x128, .f32⟩
  | 121 => ⟨S2x4x128x128, .f32⟩
  | 122 => ⟨S2x4x128x128, .f32⟩
  | 123 => ⟨S2x1x4x128x128, .f32⟩
  | 124 => ⟨S2x4x128x128, .f32⟩
  | 125 => ⟨S2x4x128x128, .f32⟩
  | 126 => ⟨S2x4x128x128, .f32⟩
  | 127 => ⟨S2x4x128x128, .f32⟩
  | _ => ⟨S2x2304x512, .f32⟩

abbrev hbmTy0_4 (i : Nat) : BufTy := match i % 128 with
  | 0 => ⟨S2x1x4x128x128, .f32⟩
  | 1 => ⟨S2x4x128x128, .f32⟩
  | 2 => ⟨S2x4x128x128, .f32⟩
  | 3 => ⟨S2x4x128x128, .f32⟩
  | 4 => ⟨S2x4x128x128, .f32⟩
  | 5 => ⟨S2x1x4x128x128, .f32⟩
  | 6 => ⟨S2x4x128x128, .f32⟩
  | 7 => ⟨S2x4x128x128, .f32⟩
  | 8 => ⟨S2x4x128x128, .f32⟩
  | 9 => ⟨S2x4x128x128, .f32⟩
  | 10 => ⟨S2x1x4x128x128, .f32⟩
  | 11 => ⟨S2x4x128x128, .f32⟩
  | 12 => ⟨S2x4x128x128, .f32⟩
  | 13 => ⟨S2x4x128x128, .f32⟩
  | 14 => ⟨S2x4x128x128, .f32⟩
  | 15 => ⟨S2x1x4x128x128, .f32⟩
  | 16 => ⟨S2x4x128x128, .f32⟩
  | 17 => ⟨S2x4x128x128, .f32⟩
  | 18 => ⟨S2x4x128x128, .f32⟩
  | 19 => ⟨S2x4x128x128, .f32⟩
  | 20 => ⟨S2x1x4x128x128, .f32⟩
  | 21 => ⟨S2x4x128x128, .f32⟩
  | 22 => ⟨S2x4x128x128, .f32⟩
  | 23 => ⟨S2x4x128x128, .f32⟩
  | 24 => ⟨S2x4x128x128, .f32⟩
  | 25 => ⟨S2x1x4x128x128, .f32⟩
  | 26 => ⟨S2x4x128x128, .f32⟩
  | 27 => ⟨S2x4x128x128, .f32⟩
  | 28 => ⟨S2x4x128x128, .f32⟩
  | 29 => ⟨S2x4x128x128, .f32⟩
  | 30 => ⟨S2x1x4x128x128, .f32⟩
  | 31 => ⟨S2x4x128x128, .f32⟩
  | 32 => ⟨S2x4x128x128, .f32⟩
  | 33 => ⟨S2x4x128x128, .f32⟩
  | 34 => ⟨S2x4x128x128, .f32⟩
  | 35 => ⟨S2x1x4x128x128, .f32⟩
  | 36 => ⟨S2x4x128x128, .f32⟩
  | 37 => ⟨S2x4x128x128, .f32⟩
  | 38 => ⟨S2x4x128x128, .f32⟩
  | 39 => ⟨S2x4x128x128, .f32⟩
  | 40 => ⟨S2x1x4x128x128, .f32⟩
  | 41 => ⟨S2x4x128x128, .f32⟩
  | 42 => ⟨S2x4x128x128, .f32⟩
  | 43 => ⟨S2x4x128x128, .f32⟩
  | 44 => ⟨S2x4x128x128, .f32⟩
  | 45 => ⟨S2x1x4x128x128, .f32⟩
  | 46 => ⟨S2x4x128x128, .f32⟩
  | 47 => ⟨S2x4x128x128, .f32⟩
  | 48 => ⟨S2x1x4x128x128, .f32⟩
  | 49 => ⟨S2x1x4x128x128, .f32⟩
  | 50 => ⟨S2x1x4x128x128, .f32⟩
  | 51 => ⟨S2x1x4x128x128, .f32⟩
  | 52 => ⟨S2x1x4x128x128, .f32⟩
  | 53 => ⟨S2x1x4x128x128, .f32⟩
  | 54 => ⟨S2x1x4x128x128, .f32⟩
  | 55 => ⟨S2x1x4x128x128, .f32⟩
  | 56 => ⟨S2x1x4x128x128, .f32⟩
  | 57 => ⟨S2x1x4x128x128, .f32⟩
  | 58 => ⟨S2x1x4x128x128, .f32⟩
  | 59 => ⟨S2x1x4x128x128, .f32⟩
  | 60 => ⟨S2x1x4x128x128, .f32⟩
  | 61 => ⟨S2x1x4x128x128, .f32⟩
  | 62 => ⟨S2x1x4x128x128, .f32⟩
  | 63 => ⟨S2x1x4x128x128, .f32⟩
  | 64 => ⟨S2x16x4x128x128, .f32⟩
  | 65 => ⟨S_, .f32⟩
  | 66 => ⟨S128, .f32⟩
  | 67 => ⟨S128, .f32⟩
  | 68 => ⟨S128x1, .f32⟩
  | 69 => ⟨S1x4, .f32⟩
  | 70 => ⟨S128x4, .f32⟩
  | 71 => ⟨S128x4, .f32⟩
  | 72 => ⟨S128x4, .f32⟩
  | 73 => ⟨S128x4, .f32⟩
  | 74 => ⟨S1x1x128x4x1, .f32⟩
  | 75 => ⟨S2x16x128x4x128, .f32⟩
  | 76 => ⟨S2x16x128x4x128, .f32⟩
  | 77 => ⟨S2x16x4x128x128, .f32⟩
  | 78 => ⟨S2x16x128x4x128, .f32⟩
  | 79 => ⟨S2x16x128x4x128, .f32⟩
  | 80 => ⟨S2x2048x4x128, .f32⟩
  | 81 => ⟨S2x256x4x128, .f32⟩
  | 82 => ⟨S2x2048x4x128, .f32⟩
  | 83 => ⟨S2x2304x4x128, .f32⟩
  | 84 => ⟨S2x2304x512, .f32⟩
  | 85 => ⟨S2x2304x4x128, .f32⟩
  | 86 => ⟨S2x256x4x128, .f32⟩
  | 87 => ⟨S2x2048x4x128, .f32⟩
  | 88 => ⟨S2x2048x4x128, .f32⟩
  | 89 => ⟨S2x256x4x128, .f32⟩
  | 90 => ⟨S2x16x128x4x128, .f32⟩
  | 91 => ⟨S2x16x4x128x128, .f32⟩
  | 92 => ⟨S2x16x4x128x128, .f32⟩
  | 93 => ⟨S2x16x128x4x128, .f32⟩
  | 94 => ⟨S2x16x128x4x128, .f32⟩
  | 95 => ⟨S2x16x128x4x128, .f32⟩
  | 96 => ⟨S2x16x4x128x128, .f32⟩
  | 97 => ⟨S2x16x4x128x128, .f32⟩
  | 98 => ⟨S2x16x4x128x128, .f32⟩
  | 99 => ⟨S2x16x4x128x128, .f32⟩
  | 100 => ⟨S2x16x4x128x128, .f32⟩
  | 101 => ⟨S2x16x128x4x128, .f32⟩
  | 102 => ⟨S2x16x128x4x128, .f32⟩
  | 103 => ⟨S2x2048x4x128, .f32⟩
  | 104 => ⟨S2x2048x4x128, .f32⟩
  | 105 => ⟨S_, .f32⟩
  | 106 => ⟨S2x2304x4x128, .f32⟩
  | 107 => ⟨S2x2x128x4x128, .f32⟩
  | 108 => ⟨S2x2x4x128x128, .f32⟩
  | 109 => ⟨S2x2x4x128x128, .f32⟩
  | 110 => ⟨S2x2x128x4x128, .f32⟩
  | 111 => ⟨S2x2x128x4x128, .f32⟩
  | 112 => ⟨S2x2x128x4x128, .f32⟩
  | 113 => ⟨S2x2x4x128x128, .f32⟩
  | 114 => ⟨S2x2x4x128x128, .f32⟩
  | 115 => ⟨S2x2x4x128x128, .f32⟩
  | 116 => ⟨S2x2x4x128x128, .f32⟩
  | 117 => ⟨S2x2x4x128x128, .f32⟩
  | 118 => ⟨S2x2x128x4x128, .f32⟩
  | 119 => ⟨S2x2x128x4x128, .f32⟩
  | 120 => ⟨S2x256x4x128, .f32⟩
  | 121 => ⟨S2x256x4x128, .f32⟩
  | 122 => ⟨S_, .f32⟩
  | 123 => ⟨S2x2304x4x128, .f32⟩
  | 124 => ⟨S2x2304x4x128, .f32⟩
  | 125 => ⟨S2x2304x512, .f32⟩
  | _ => ⟨S2x2304x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x2304x512, .f32⟩

abbrev bufTy : (tb : Table) → Fin (tcTables nBuf tb) → BufTy
  | .hbm, ⟨i, _⟩ => hbmTy i
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_5 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_6 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_7 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_8 : Ref sig .tc := ⟨.hbm, 135, rfl⟩
abbrev main_call2_v0 : Ref sig .tc := ⟨.hbm, 136, rfl⟩
abbrev main_call2_v1 : Ref sig .tc := ⟨.hbm, 137, rfl⟩
abbrev main_call2_v2 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_9 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_10 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_cst_11 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_cst_12 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_cst_13 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_call3_v0 : Ref sig .tc := ⟨.hbm, 316, rfl⟩
abbrev main_call3_call0_cst : Ref sig .tc := ⟨.hbm, 317, rfl⟩
abbrev main_call3_call0_v0 : Ref sig .tc := ⟨.hbm, 318, rfl⟩
abbrev main_call3_call0_v1 : Ref sig .tc := ⟨.hbm, 319, rfl⟩
abbrev main_call3_call0_v2 : Ref sig .tc := ⟨.hbm, 320, rfl⟩
abbrev main_call3_call0_v3 : Ref sig .tc := ⟨.hbm, 321, rfl⟩
abbrev main_call3_call0_v4 : Ref sig .tc := ⟨.hbm, 322, rfl⟩
abbrev main_call3_call0_v5 : Ref sig .tc := ⟨.hbm, 323, rfl⟩
abbrev main_call3_call0_v6 : Ref sig .tc := ⟨.hbm, 324, rfl⟩
abbrev main_call3_call0_v7 : Ref sig .tc := ⟨.hbm, 325, rfl⟩
abbrev main_call3_call0_v8 : Ref sig .tc := ⟨.hbm, 326, rfl⟩
abbrev main_call3_call0_v9 : Ref sig .tc := ⟨.hbm, 327, rfl⟩
abbrev main_call3_call0_v10 : Ref sig .tc := ⟨.hbm, 328, rfl⟩
abbrev main_call3_call0_v11 : Ref sig .tc := ⟨.hbm, 329, rfl⟩
abbrev main_call3_v1 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_cst_14 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_v291 : Ref sig .tc := ⟨.hbm, 349, rfl⟩
abbrev main_v292 : Ref sig .tc := ⟨.hbm, 350, rfl⟩
abbrev main_v293 : Ref sig .tc := ⟨.hbm, 351, rfl⟩
abbrev main_cst_15 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩
abbrev main_cst_16 : Ref sig .tc := ⟨.hbm, 356, rfl⟩
abbrev main_v297 : Ref sig .tc := ⟨.hbm, 357, rfl⟩
abbrev main_v298 : Ref sig .tc := ⟨.hbm, 358, rfl⟩
abbrev main_v299 : Ref sig .tc := ⟨.hbm, 359, rfl⟩
abbrev main_v300 : Ref sig .tc := ⟨.hbm, 360, rfl⟩
abbrev main_v301 : Ref sig .tc := ⟨.hbm, 361, rfl⟩
abbrev main_v302 : Ref sig .tc := ⟨.hbm, 362, rfl⟩
abbrev main_v303 : Ref sig .tc := ⟨.hbm, 363, rfl⟩
abbrev main_v304 : Ref sig .tc := ⟨.hbm, 364, rfl⟩
abbrev main_cst_17 : Ref sig .tc := ⟨.hbm, 365, rfl⟩
abbrev main_call7_v0 : Ref sig .tc := ⟨.hbm, 366, rfl⟩
abbrev main_call7_v1 : Ref sig .tc := ⟨.hbm, 367, rfl⟩
abbrev main_call7_v2 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_v311 : Ref sig .tc := ⟨.hbm, 375, rfl⟩
abbrev main_cst_18 : Ref sig .tc := ⟨.hbm, 376, rfl⟩
abbrev main_v312 : Ref sig .tc := ⟨.hbm, 377, rfl⟩
abbrev main_v313 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_v317 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_cst_19 : Ref sig .tc := ⟨.hbm, 389, rfl⟩
abbrev main_v324 : Ref sig .tc := ⟨.hbm, 390, rfl⟩
abbrev main_v325 : Ref sig .tc := ⟨.hbm, 391, rfl⟩
abbrev main_v326 : Ref sig .tc := ⟨.hbm, 392, rfl⟩
abbrev main_v327 : Ref sig .tc := ⟨.hbm, 393, rfl⟩
abbrev main_v328 : Ref sig .tc := ⟨.hbm, 394, rfl⟩
abbrev main_v329 : Ref sig .tc := ⟨.hbm, 395, rfl⟩
abbrev main_v330 : Ref sig .tc := ⟨.hbm, 396, rfl⟩
abbrev main_v331 : Ref sig .tc := ⟨.hbm, 397, rfl⟩
abbrev main_v332 : Ref sig .tc := ⟨.hbm, 398, rfl⟩
abbrev main_v333 : Ref sig .tc := ⟨.hbm, 399, rfl⟩
abbrev main_v334 : Ref sig .tc := ⟨.hbm, 400, rfl⟩
abbrev main_v335 : Ref sig .tc := ⟨.hbm, 401, rfl⟩
abbrev main_v336 : Ref sig .tc := ⟨.hbm, 402, rfl⟩
abbrev main_v337 : Ref sig .tc := ⟨.hbm, 403, rfl⟩
abbrev main_v338 : Ref sig .tc := ⟨.hbm, 404, rfl⟩
abbrev main_v339 : Ref sig .tc := ⟨.hbm, 405, rfl⟩
abbrev main_v340 : Ref sig .tc := ⟨.hbm, 406, rfl⟩
abbrev main_cst_20 : Ref sig .tc := ⟨.hbm, 407, rfl⟩
abbrev main_v341 : Ref sig .tc := ⟨.hbm, 408, rfl⟩
abbrev main_v342 : Ref sig .tc := ⟨.hbm, 409, rfl⟩
abbrev main_v343 : Ref sig .tc := ⟨.hbm, 410, rfl⟩
abbrev main_v344 : Ref sig .tc := ⟨.hbm, 411, rfl⟩
abbrev main_v345 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_v349 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_v353 : Ref sig .tc := ⟨.hbm, 420, rfl⟩
abbrev main_v354 : Ref sig .tc := ⟨.hbm, 421, rfl⟩
abbrev main_v355 : Ref sig .tc := ⟨.hbm, 422, rfl⟩
abbrev main_v356 : Ref sig .tc := ⟨.hbm, 423, rfl⟩
abbrev main_v357 : Ref sig .tc := ⟨.hbm, 424, rfl⟩
abbrev main_v358 : Ref sig .tc := ⟨.hbm, 425, rfl⟩
abbrev main_v359 : Ref sig .tc := ⟨.hbm, 426, rfl⟩
abbrev main_v360 : Ref sig .tc := ⟨.hbm, 427, rfl⟩
abbrev main_v361 : Ref sig .tc := ⟨.hbm, 428, rfl⟩
abbrev main_v362 : Ref sig .tc := ⟨.hbm, 429, rfl⟩
abbrev main_v363 : Ref sig .tc := ⟨.hbm, 430, rfl⟩
abbrev main_v364 : Ref sig .tc := ⟨.hbm, 431, rfl⟩
abbrev main_v365 : Ref sig .tc := ⟨.hbm, 432, rfl⟩
abbrev main_v366 : Ref sig .tc := ⟨.hbm, 433, rfl⟩
abbrev main_v367 : Ref sig .tc := ⟨.hbm, 434, rfl⟩
abbrev main_v368 : Ref sig .tc := ⟨.hbm, 435, rfl⟩
abbrev main_v369 : Ref sig .tc := ⟨.hbm, 436, rfl⟩
abbrev main_v370 : Ref sig .tc := ⟨.hbm, 437, rfl⟩
abbrev main_cst_21 : Ref sig .tc := ⟨.hbm, 438, rfl⟩
abbrev main_v371 : Ref sig .tc := ⟨.hbm, 439, rfl⟩
abbrev main_v372 : Ref sig .tc := ⟨.hbm, 440, rfl⟩
abbrev main_v373 : Ref sig .tc := ⟨.hbm, 441, rfl⟩
abbrev main_cst_22 : Ref sig .tc := ⟨.hbm, 442, rfl⟩
abbrev main_v374 : Ref sig .tc := ⟨.hbm, 443, rfl⟩
abbrev main_v375 : Ref sig .tc := ⟨.hbm, 444, rfl⟩
abbrev main_v376 : Ref sig .tc := ⟨.hbm, 445, rfl⟩
abbrev main_v377 : Ref sig .tc := ⟨.hbm, 446, rfl⟩
abbrev main_v378 : Ref sig .tc := ⟨.hbm, 447, rfl⟩
abbrev main_v379 : Ref sig .tc := ⟨.hbm, 448, rfl⟩
abbrev main_v380 : Ref sig .tc := ⟨.hbm, 449, rfl⟩
abbrev main_v381 : Ref sig .tc := ⟨.hbm, 450, rfl⟩
abbrev main_cst_23 : Ref sig .tc := ⟨.hbm, 451, rfl⟩
abbrev main_call11_v0 : Ref sig .tc := ⟨.hbm, 452, rfl⟩
abbrev main_call11_v1 : Ref sig .tc := ⟨.hbm, 453, rfl⟩
abbrev main_call11_v2 : Ref sig .tc := ⟨.hbm, 454, rfl⟩
abbrev main_v382 : Ref sig .tc := ⟨.hbm, 455, rfl⟩
abbrev main_v383 : Ref sig .tc := ⟨.hbm, 456, rfl⟩
abbrev main_v384 : Ref sig .tc := ⟨.hbm, 457, rfl⟩
abbrev main_v385 : Ref sig .tc := ⟨.hbm, 458, rfl⟩
abbrev main_v386 : Ref sig .tc := ⟨.hbm, 459, rfl⟩
abbrev main_v387 : Ref sig .tc := ⟨.hbm, 460, rfl⟩
abbrev main_v388 : Ref sig .tc := ⟨.hbm, 461, rfl⟩
abbrev main_cst_24 : Ref sig .tc := ⟨.hbm, 462, rfl⟩
abbrev main_v389 : Ref sig .tc := ⟨.hbm, 463, rfl⟩
abbrev main_v390 : Ref sig .tc := ⟨.hbm, 464, rfl⟩
abbrev main_v391 : Ref sig .tc := ⟨.hbm, 465, rfl⟩
abbrev main_v392 : Ref sig .tc := ⟨.hbm, 466, rfl⟩
abbrev main_v393 : Ref sig .tc := ⟨.hbm, 467, rfl⟩
abbrev main_v394 : Ref sig .tc := ⟨.hbm, 468, rfl⟩
abbrev main_v395 : Ref sig .tc := ⟨.hbm, 469, rfl⟩
abbrev main_v396 : Ref sig .tc := ⟨.hbm, 470, rfl⟩
abbrev main_v397 : Ref sig .tc := ⟨.hbm, 471, rfl⟩
abbrev main_v398 : Ref sig .tc := ⟨.hbm, 472, rfl⟩
abbrev main_v399 : Ref sig .tc := ⟨.hbm, 473, rfl⟩
abbrev main_v400 : Ref sig .tc := ⟨.hbm, 474, rfl⟩
abbrev main_cst_25 : Ref sig .tc := ⟨.hbm, 475, rfl⟩
abbrev main_v401 : Ref sig .tc := ⟨.hbm, 476, rfl⟩
abbrev main_v402 : Ref sig .tc := ⟨.hbm, 477, rfl⟩
abbrev main_v403 : Ref sig .tc := ⟨.hbm, 478, rfl⟩
abbrev main_v404 : Ref sig .tc := ⟨.hbm, 479, rfl⟩
abbrev main_v405 : Ref sig .tc := ⟨.hbm, 480, rfl⟩
abbrev main_v406 : Ref sig .tc := ⟨.hbm, 481, rfl⟩
abbrev main_v407 : Ref sig .tc := ⟨.hbm, 482, rfl⟩
abbrev main_v408 : Ref sig .tc := ⟨.hbm, 483, rfl⟩
abbrev main_v409 : Ref sig .tc := ⟨.hbm, 484, rfl⟩
abbrev main_v410 : Ref sig .tc := ⟨.hbm, 485, rfl⟩
abbrev main_v411 : Ref sig .tc := ⟨.hbm, 486, rfl⟩
abbrev main_v412 : Ref sig .tc := ⟨.hbm, 487, rfl⟩
abbrev main_v413 : Ref sig .tc := ⟨.hbm, 488, rfl⟩
abbrev main_v414 : Ref sig .tc := ⟨.hbm, 489, rfl⟩
abbrev main_v415 : Ref sig .tc := ⟨.hbm, 490, rfl⟩
abbrev main_v416 : Ref sig .tc := ⟨.hbm, 491, rfl⟩
abbrev main_v417 : Ref sig .tc := ⟨.hbm, 492, rfl⟩
abbrev main_v418 : Ref sig .tc := ⟨.hbm, 493, rfl⟩
abbrev main_v419 : Ref sig .tc := ⟨.hbm, 494, rfl⟩
abbrev main_v420 : Ref sig .tc := ⟨.hbm, 495, rfl⟩
abbrev main_v421 : Ref sig .tc := ⟨.hbm, 496, rfl⟩
abbrev main_v422 : Ref sig .tc := ⟨.hbm, 497, rfl⟩
abbrev main_v423 : Ref sig .tc := ⟨.hbm, 498, rfl⟩
abbrev main_v424 : Ref sig .tc := ⟨.hbm, 499, rfl⟩
abbrev main_v425 : Ref sig .tc := ⟨.hbm, 500, rfl⟩
abbrev main_v426 : Ref sig .tc := ⟨.hbm, 501, rfl⟩
abbrev main_v427 : Ref sig .tc := ⟨.hbm, 502, rfl⟩
abbrev main_v428 : Ref sig .tc := ⟨.hbm, 503, rfl⟩
abbrev main_v429 : Ref sig .tc := ⟨.hbm, 504, rfl⟩
abbrev main_v430 : Ref sig .tc := ⟨.hbm, 505, rfl⟩
abbrev main_v431 : Ref sig .tc := ⟨.hbm, 506, rfl⟩
abbrev main_v432 : Ref sig .tc := ⟨.hbm, 507, rfl⟩
abbrev main_v433 : Ref sig .tc := ⟨.hbm, 508, rfl⟩
abbrev main_v434 : Ref sig .tc := ⟨.hbm, 509, rfl⟩
abbrev main_v435 : Ref sig .tc := ⟨.hbm, 510, rfl⟩
abbrev main_v436 : Ref sig .tc := ⟨.hbm, 511, rfl⟩
abbrev main_v437 : Ref sig .tc := ⟨.hbm, 512, rfl⟩
abbrev main_v438 : Ref sig .tc := ⟨.hbm, 513, rfl⟩
abbrev main_v439 : Ref sig .tc := ⟨.hbm, 514, rfl⟩
abbrev main_v440 : Ref sig .tc := ⟨.hbm, 515, rfl⟩
abbrev main_v441 : Ref sig .tc := ⟨.hbm, 516, rfl⟩
abbrev main_v442 : Ref sig .tc := ⟨.hbm, 517, rfl⟩
abbrev main_v443 : Ref sig .tc := ⟨.hbm, 518, rfl⟩
abbrev main_v444 : Ref sig .tc := ⟨.hbm, 519, rfl⟩
abbrev main_v445 : Ref sig .tc := ⟨.hbm, 520, rfl⟩
abbrev main_v446 : Ref sig .tc := ⟨.hbm, 521, rfl⟩
abbrev main_v447 : Ref sig .tc := ⟨.hbm, 522, rfl⟩
abbrev main_v448 : Ref sig .tc := ⟨.hbm, 523, rfl⟩
abbrev main_v449 : Ref sig .tc := ⟨.hbm, 524, rfl⟩
abbrev main_v450 : Ref sig .tc := ⟨.hbm, 525, rfl⟩
abbrev main_v451 : Ref sig .tc := ⟨.hbm, 526, rfl⟩
abbrev main_v452 : Ref sig .tc := ⟨.hbm, 527, rfl⟩
abbrev main_v453 : Ref sig .tc := ⟨.hbm, 528, rfl⟩
abbrev main_v454 : Ref sig .tc := ⟨.hbm, 529, rfl⟩
abbrev main_v455 : Ref sig .tc := ⟨.hbm, 530, rfl⟩
abbrev main_v456 : Ref sig .tc := ⟨.hbm, 531, rfl⟩
abbrev main_v457 : Ref sig .tc := ⟨.hbm, 532, rfl⟩
abbrev main_v458 : Ref sig .tc := ⟨.hbm, 533, rfl⟩
abbrev main_v459 : Ref sig .tc := ⟨.hbm, 534, rfl⟩
abbrev main_v460 : Ref sig .tc := ⟨.hbm, 535, rfl⟩
abbrev main_v461 : Ref sig .tc := ⟨.hbm, 536, rfl⟩
abbrev main_v462 : Ref sig .tc := ⟨.hbm, 537, rfl⟩
abbrev main_v463 : Ref sig .tc := ⟨.hbm, 538, rfl⟩
abbrev main_v464 : Ref sig .tc := ⟨.hbm, 539, rfl⟩
abbrev main_v465 : Ref sig .tc := ⟨.hbm, 540, rfl⟩
abbrev main_v466 : Ref sig .tc := ⟨.hbm, 541, rfl⟩
abbrev main_v467 : Ref sig .tc := ⟨.hbm, 542, rfl⟩
abbrev main_v468 : Ref sig .tc := ⟨.hbm, 543, rfl⟩
abbrev main_v469 : Ref sig .tc := ⟨.hbm, 544, rfl⟩
abbrev main_v470 : Ref sig .tc := ⟨.hbm, 545, rfl⟩
abbrev main_v471 : Ref sig .tc := ⟨.hbm, 546, rfl⟩
abbrev main_v472 : Ref sig .tc := ⟨.hbm, 547, rfl⟩
abbrev main_v473 : Ref sig .tc := ⟨.hbm, 548, rfl⟩
abbrev main_v474 : Ref sig .tc := ⟨.hbm, 549, rfl⟩
abbrev main_v475 : Ref sig .tc := ⟨.hbm, 550, rfl⟩
abbrev main_v476 : Ref sig .tc := ⟨.hbm, 551, rfl⟩
abbrev main_v477 : Ref sig .tc := ⟨.hbm, 552, rfl⟩
abbrev main_v478 : Ref sig .tc := ⟨.hbm, 553, rfl⟩
abbrev main_v479 : Ref sig .tc := ⟨.hbm, 554, rfl⟩
abbrev main_v480 : Ref sig .tc := ⟨.hbm, 555, rfl⟩
abbrev main_v481 : Ref sig .tc := ⟨.hbm, 556, rfl⟩
abbrev main_v482 : Ref sig .tc := ⟨.hbm, 557, rfl⟩
abbrev main_v483 : Ref sig .tc := ⟨.hbm, 558, rfl⟩
abbrev main_v484 : Ref sig .tc := ⟨.hbm, 559, rfl⟩
abbrev main_v485 : Ref sig .tc := ⟨.hbm, 560, rfl⟩
abbrev main_v486 : Ref sig .tc := ⟨.hbm, 561, rfl⟩
abbrev main_v487 : Ref sig .tc := ⟨.hbm, 562, rfl⟩
abbrev main_v488 : Ref sig .tc := ⟨.hbm, 563, rfl⟩
abbrev main_v489 : Ref sig .tc := ⟨.hbm, 564, rfl⟩
abbrev main_v490 : Ref sig .tc := ⟨.hbm, 565, rfl⟩
abbrev main_v491 : Ref sig .tc := ⟨.hbm, 566, rfl⟩
abbrev main_v492 : Ref sig .tc := ⟨.hbm, 567, rfl⟩
abbrev main_v493 : Ref sig .tc := ⟨.hbm, 568, rfl⟩
abbrev main_v494 : Ref sig .tc := ⟨.hbm, 569, rfl⟩
abbrev main_v495 : Ref sig .tc := ⟨.hbm, 570, rfl⟩
abbrev main_v496 : Ref sig .tc := ⟨.hbm, 571, rfl⟩
abbrev main_v497 : Ref sig .tc := ⟨.hbm, 572, rfl⟩
abbrev main_v498 : Ref sig .tc := ⟨.hbm, 573, rfl⟩
abbrev main_v499 : Ref sig .tc := ⟨.hbm, 574, rfl⟩
abbrev main_v500 : Ref sig .tc := ⟨.hbm, 575, rfl⟩
abbrev main_v501 : Ref sig .tc := ⟨.hbm, 576, rfl⟩
abbrev main_cst_26 : Ref sig .tc := ⟨.hbm, 577, rfl⟩
abbrev main_v502 : Ref sig .tc := ⟨.hbm, 578, rfl⟩
abbrev main_v503 : Ref sig .tc := ⟨.hbm, 579, rfl⟩
abbrev main_v504 : Ref sig .tc := ⟨.hbm, 580, rfl⟩
abbrev main_v505 : Ref sig .tc := ⟨.hbm, 581, rfl⟩
abbrev main_v506 : Ref sig .tc := ⟨.hbm, 582, rfl⟩
abbrev main_v507 : Ref sig .tc := ⟨.hbm, 583, rfl⟩
abbrev main_v508 : Ref sig .tc := ⟨.hbm, 584, rfl⟩
abbrev main_v509 : Ref sig .tc := ⟨.hbm, 585, rfl⟩
abbrev main_v510 : Ref sig .tc := ⟨.hbm, 586, rfl⟩
abbrev main_v511 : Ref sig .tc := ⟨.hbm, 587, rfl⟩
abbrev main_v512 : Ref sig .tc := ⟨.hbm, 588, rfl⟩
abbrev main_v513 : Ref sig .tc := ⟨.hbm, 589, rfl⟩
abbrev main_v514 : Ref sig .tc := ⟨.hbm, 590, rfl⟩
abbrev main_v515 : Ref sig .tc := ⟨.hbm, 591, rfl⟩
abbrev main_v516 : Ref sig .tc := ⟨.hbm, 592, rfl⟩
abbrev main_v517 : Ref sig .tc := ⟨.hbm, 593, rfl⟩
abbrev main_v518 : Ref sig .tc := ⟨.hbm, 594, rfl⟩
abbrev main_v519 : Ref sig .tc := ⟨.hbm, 595, rfl⟩
abbrev main_v520 : Ref sig .tc := ⟨.hbm, 596, rfl⟩
abbrev main_v521 : Ref sig .tc := ⟨.hbm, 597, rfl⟩
abbrev main_v522 : Ref sig .tc := ⟨.hbm, 598, rfl⟩
abbrev main_v523 : Ref sig .tc := ⟨.hbm, 599, rfl⟩
abbrev main_v524 : Ref sig .tc := ⟨.hbm, 600, rfl⟩
abbrev main_v525 : Ref sig .tc := ⟨.hbm, 601, rfl⟩
abbrev main_v526 : Ref sig .tc := ⟨.hbm, 602, rfl⟩
abbrev main_v527 : Ref sig .tc := ⟨.hbm, 603, rfl⟩
abbrev main_v528 : Ref sig .tc := ⟨.hbm, 604, rfl⟩
abbrev main_v529 : Ref sig .tc := ⟨.hbm, 605, rfl⟩
abbrev main_v530 : Ref sig .tc := ⟨.hbm, 606, rfl⟩
abbrev main_v531 : Ref sig .tc := ⟨.hbm, 607, rfl⟩
abbrev main_v532 : Ref sig .tc := ⟨.hbm, 608, rfl⟩
abbrev main_v533 : Ref sig .tc := ⟨.hbm, 609, rfl⟩
abbrev main_v534 : Ref sig .tc := ⟨.hbm, 610, rfl⟩
abbrev main_v535 : Ref sig .tc := ⟨.hbm, 611, rfl⟩
abbrev main_v536 : Ref sig .tc := ⟨.hbm, 612, rfl⟩
abbrev main_v537 : Ref sig .tc := ⟨.hbm, 613, rfl⟩
abbrev main_v538 : Ref sig .tc := ⟨.hbm, 614, rfl⟩
abbrev main_v539 : Ref sig .tc := ⟨.hbm, 615, rfl⟩
abbrev main_v540 : Ref sig .tc := ⟨.hbm, 616, rfl⟩
abbrev main_cst_27 : Ref sig .tc := ⟨.hbm, 617, rfl⟩
abbrev main_v541 : Ref sig .tc := ⟨.hbm, 618, rfl⟩
abbrev main_v542 : Ref sig .tc := ⟨.hbm, 619, rfl⟩
abbrev main_v543 : Ref sig .tc := ⟨.hbm, 620, rfl⟩
abbrev main_v544 : Ref sig .tc := ⟨.hbm, 621, rfl⟩
abbrev main_v545 : Ref sig .tc := ⟨.hbm, 622, rfl⟩
abbrev main_v546 : Ref sig .tc := ⟨.hbm, 623, rfl⟩
abbrev main_v547 : Ref sig .tc := ⟨.hbm, 624, rfl⟩
abbrev main_v548 : Ref sig .tc := ⟨.hbm, 625, rfl⟩
abbrev main_v549 : Ref sig .tc := ⟨.hbm, 626, rfl⟩
abbrev main_v550 : Ref sig .tc := ⟨.hbm, 627, rfl⟩
abbrev main_v551 : Ref sig .tc := ⟨.hbm, 628, rfl⟩
abbrev main_v552 : Ref sig .tc := ⟨.hbm, 629, rfl⟩
abbrev main_v553 : Ref sig .tc := ⟨.hbm, 630, rfl⟩
abbrev main_v554 : Ref sig .tc := ⟨.hbm, 631, rfl⟩
abbrev main_v555 : Ref sig .tc := ⟨.hbm, 632, rfl⟩
abbrev main_v556 : Ref sig .tc := ⟨.hbm, 633, rfl⟩
abbrev main_cst_28 : Ref sig .tc := ⟨.hbm, 634, rfl⟩
abbrev main_v557 : Ref sig .tc := ⟨.hbm, 635, rfl⟩
abbrev main_v558 : Ref sig .tc := ⟨.hbm, 636, rfl⟩
abbrev main_v559 : Ref sig .tc := ⟨.hbm, 637, rfl⟩

abbrev nD : Nat := 1
abbrev τ : Topo := Topo.v7x

variable {F : FTy → Type} [FloatOps F]
-- ==== Kernel2.lean ====
abbrev S2x24x9216 : Shape := ⟨3, ![2, 24, 9216]⟩
abbrev S4x8x1024 : Shape := ⟨3, ![4, 8, 1024]⟩
abbrev S1024 : Shape := ⟨1, ![1024]⟩
abbrev S1x1024 : Shape := ⟨2, ![1, 1024]⟩
abbrev S2x1x9216 : Shape := ⟨3, ![2, 1, 9216]⟩
abbrev S2x9216 : Shape := ⟨2, ![2, 9216]⟩
abbrev S8x1024 : Shape := ⟨2, ![8, 1024]⟩
abbrev S1x8x1024 : Shape := ⟨3, ![1, 8, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2x24x9216, .f32⟩
  | .hbm, ⟨1, _⟩ => ⟨S4x8x1024, .f32⟩
  | .hbm, ⟨2, _⟩ => ⟨S1024, .f32⟩
  | .hbm, ⟨3, _⟩ => ⟨S1x1024, .f32⟩
  | .hbm, ⟨4, _⟩ => ⟨S2x1x9216, .f32⟩
  | .hbm, ⟨5, _⟩ => ⟨S1x1024, .f32⟩
  | .local _ .vmem, ⟨0, _⟩ => ⟨S2x24x9216, .f32⟩
  | .local _ .vmem, ⟨1, _⟩ => ⟨S4x8x1024, .f32⟩
  | .local _ .vmem, ⟨2, _⟩ => ⟨S1x1024, .f32⟩
  | .local _ .vmem, ⟨3, _⟩ => ⟨S2x1x9216, .f32⟩
  | .local _ .vmem, ⟨4, _⟩ => ⟨S1x1024, .f32⟩
  | _, _ => ⟨S2x24x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x24x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference2Ideal.lean ====
abbrev S2x24x9216 : Shape := ⟨3, ![2, 24, 9216]⟩
abbrev S4x8x1024 : Shape := ⟨3, ![4, 8, 1024]⟩
abbrev S1024 : Shape := ⟨1, ![1024]⟩
abbrev S_ : Shape := ⟨0, ![]⟩
abbrev S2x1x9216 : Shape := ⟨3, ![2, 1, 9216]⟩
abbrev S2x9216 : Shape := ⟨2, ![2, 9216]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x24x9216, .f32⟩
  | .hbm, ⟨1, _⟩ => ⟨S4x8x1024, .f32⟩
  | .hbm, ⟨2, _⟩ => ⟨S1024, .f32⟩
  | .hbm, ⟨3, _⟩ => ⟨S_, .f32⟩
  | .hbm, ⟨4, _⟩ => ⟨S2x1x9216, .f32⟩
  | .hbm, ⟨5, _⟩ => ⟨S2x24x9216, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S4x8x1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S2x9216, .f32⟩
  | .hbm, ⟨28, _⟩ => ⟨S2x1x9216, .f32⟩
  | .hbm, ⟨29, _⟩ => ⟨S1x1024, .f32⟩
  | _, _ => ⟨S2x24x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩

abbrev nD : Nat := 1
abbrev τ : Topo := Topo.v7x

variable {F : FTy → Type} [FloatOps F]
-- ==== Kernel3.lean ====
abbrev S2x2304x512 : Shape := ⟨3, ![2, 2304, 512]⟩
abbrev S4 : Shape := ⟨1, ![4]⟩
abbrev S4x1x1 : Shape := ⟨3, ![4, 1, 1]⟩
abbrev S4x1x128 : Shape := ⟨3, ![4, 1, 128]⟩
abbrev S1x2304x128 : Shape := ⟨3, ![1, 2304, 128]⟩
abbrev S1x1x128 : Shape := ⟨3, ![1, 1, 128]⟩
abbrev S256x256 : Shape := ⟨2, ![256, 256]⟩
abbrev S256x1 : Shape := ⟨2, ![256, 1]⟩
abbrev S1x128 : Shape := ⟨2, ![1, 128]⟩
abbrev S1x1 : Shape := ⟨2, ![1, 1]⟩
abbrev S128x128 : Shape := ⟨2, ![128, 128]⟩
abbrev S1x256x128 : Shape := ⟨3, ![1, 256, 128]⟩
abbrev S256x128 : Shape := ⟨2, ![256, 128]⟩

abbrev nBuf : Space → Nat
  | .hbm => 12
  | .vmem => 14
  | .smem => 0
  | _ => 0

abbrev bufTy : (tb : Table) → Fin (tcTables nBuf tb) → BufTy
  | .hbm, ⟨0, _⟩ => ⟨S2x2304x512, .f32⟩
  | .hbm, ⟨1, _⟩ => ⟨S2x2304x512, .f32⟩
  | .hbm, ⟨2, _⟩ => ⟨S2x2304x512, .f32⟩
  | .hbm, ⟨3, _⟩ => ⟨S2x2304x512, .f32⟩
  | .hbm, ⟨4, _⟩ => ⟨S4, .f32⟩
  | .hbm, ⟨5, _⟩ => ⟨S4, .f32⟩
  | .hbm, ⟨6, _⟩ => ⟨S4x1x1, .f32⟩
  | .hbm, ⟨7, _⟩ => ⟨S4x1x128, .f32⟩
  | .hbm, ⟨8, _⟩ => ⟨S4x1x1, .f32⟩
  | .hbm, ⟨9, _⟩ => ⟨S4x1x128, .f32⟩
  | .hbm, ⟨10, _⟩ => ⟨S2x2304x512, .f32⟩
  | .hbm, ⟨11, _⟩ => ⟨S2x2304x512, .f32⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x2304x128, .f32⟩
  | .local _ .vmem, ⟨11, _⟩ => ⟨S1x2304x128, .f32⟩
  | .local _ .vmem, ⟨12, _⟩ => ⟨S1x2304x128, .f32⟩
  | .local _ .vmem, ⟨13, _⟩ => ⟨S1x2304x128, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S2x2304x512 : Shape := ⟨3, ![2, 2304, 512]⟩
abbrev S4 : Shape := ⟨1, ![4]⟩
abbrev S_ : Shape := ⟨0, ![]⟩
abbrev S2x2304x4x128 : Shape := ⟨4, ![2, 2304, 4, 128]⟩
abbrev S2x4x128x128 : Shape := ⟨4, ![2, 4, 128, 128]⟩
abbrev S2x256x4x128 : Shape := ⟨4, ![2, 256, 4, 128]⟩
abbrev S2x2x128x4x128 : Shape := ⟨5, ![2, 2, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S2x2x4x128x128 : Shape := ⟨5, ![2, 2, 4, 128, 128]⟩
abbrev S1x1x4x128x128 : Shape := ⟨5, ![1, 1, 4, 128, 128]⟩
abbrev S1x4 : Shape := ⟨2, ![1, 4]⟩
abbrev S128x4 : Shape := ⟨2, ![128, 4]⟩
abbrev S1x1x128x4x1 : Shape := ⟨5, ![1, 1, 128, 4, 1]⟩
abbrev S1x4x1x1 : Shape := ⟨4, ![1, 4, 1, 1]⟩
abbrev S2x1x4x128x128 : Shape := ⟨5, ![2, 1, 4, 128, 128]⟩
abbrev S2x2048x4x128 : Shape := ⟨4, ![2, 2048, 4, 128]⟩
abbrev S2x16x128x4x128 : Shape := ⟨5, ![2, 16, 128, 4, 128]⟩
abbrev S2x16x4x128x128 : Shape := ⟨5, ![2, 16, 4, 128, 128]⟩

abbrev nBuf : Space → Nat
  | .hbm => 950
  | .vmem => 0
  | .smem => 0
  | _ => 0

abbrev hbmTy0_0 (i : Nat) : BufTy := match i % 128 with
  | 0 => ⟨S2x2304x512, .f32⟩
  | 1 => ⟨S2x2304x512, .f32⟩
  | 2 => ⟨S2x2304x512, .f32⟩
  | 3 => ⟨S2x2304x512, .f32⟩
  | 4 => ⟨S4, .f32⟩
  | 5 => ⟨S4, .f32⟩
  | 6 => ⟨S4, .f32⟩
  | 7 => ⟨S_, .f32⟩
  | 8 => ⟨S4, .f32⟩
  | 9 => ⟨S4, .f32⟩
  | 10 => ⟨S4, .f32⟩
  | 11 => ⟨S4, .f32⟩
  | 12 => ⟨S4, .i1⟩
  | 13 => ⟨S4, .f32⟩
  | 14 => ⟨S4, .f32⟩
  | 15 => ⟨S4, .f32⟩
  | 16 => ⟨S4, .f32⟩
  | 17 => ⟨S4, .f32⟩
  | 18 => ⟨S4, .f32⟩
  | 19 => ⟨S4, .f32⟩
  | 20 => ⟨S4, .f32⟩
  | 21 => ⟨S4, .f32⟩
  | 22 => ⟨S2x2304x4x128, .f32⟩
  | 23 => ⟨S2x2304x4x128, .f32⟩
  | 24 => ⟨S2x2304x4x128, .f32⟩
  | 25 => ⟨S_, .f32⟩
  | 26 => ⟨S2x4x128x128, .f32⟩
  | 27 => ⟨S2x256x4x128, .f32⟩
  | 28 => ⟨S2x256x4x128, .f32⟩
  | 29 => ⟨S2x256x4x128, .f32⟩
  | 30 => ⟨S2x2x128x4x128, .f32⟩
  | 31 => ⟨S2x2x128x4x128, .f32⟩
  | 32 => ⟨S2x2x128x4x128, .f32⟩
  | 33 => ⟨S128, .f32⟩
  | 34 => ⟨S128x1, .f32⟩
  | 35 => ⟨S1x128, .f32⟩
  | 36 => ⟨S128x128, .f32⟩
  | 37 => ⟨S128x128, .f32⟩
  | 38 => ⟨S128x128, .f32⟩
  | 39 => ⟨S_, .f32⟩
  | 40 => ⟨S128x128, .f32⟩
  | 41 => ⟨S128x128, .i1⟩
  | 42 => ⟨S1x128x128, .i1⟩
  | 43 => ⟨S_, .f32⟩
  | 44 => ⟨S128x128, .f32⟩
  | 45 => ⟨S128x128, .f32⟩
  | 46 => ⟨S1x128x128, .f32⟩
  | 47 => ⟨S4x1x1, .f32⟩
  | 48 => ⟨S4x128x128, .f32⟩
  | 49 => ⟨S4x128x128, .f32⟩
  | 50 => ⟨S4x128x128, .f32⟩
  | 51 => ⟨S4x128x128, .f32⟩
  | 52 => ⟨S_, .f32⟩
  | 53 => ⟨S_, .f32⟩
  | 54 => ⟨S4x128x128, .i1⟩
  | 55 => ⟨S4x128x128, .f32⟩
  | 56 => ⟨S4x128x128, .f32⟩
  | 57 => ⟨S2x2x4x128x128, .f32⟩
  | 58 => ⟨S1x1x4x128x128, .f32⟩
  | 59 => ⟨S2x2x4x128x128, .f32⟩
  | 60 => ⟨S2x2x4x128x128, .f32⟩
  | 61 => ⟨S2x2x4x128x128, .f32⟩
  | 62 => ⟨S2x2x128x4x128, .f32⟩
  | 63 => ⟨S_, .f32⟩
  | 64 => ⟨S128, .f32⟩
  | 65 => ⟨S128, .f32⟩
  | 66 => ⟨S128x1, .f32⟩
  | 67 => ⟨S1x4, .f32⟩
  | 68 => ⟨S128x4, .f32⟩
  | 69 => ⟨S128x4, .f32⟩
  | 70 => ⟨S128x4, .f32⟩
  | 71 => ⟨S128x4, .f32⟩
  | 72 => ⟨S1x1x128x4x1, .f32⟩
  | 73 => ⟨S2x2x128x4x128, .f32⟩
  | 74 => ⟨S2x2x128x4x128, .f32⟩
  | 75 => ⟨S2x2x4x128x128, .f32⟩
  | 76 => ⟨S_, .f32⟩
  | 77 => ⟨S4, .f32⟩
  | 78 => ⟨S4, .f32⟩
  | 79 => ⟨S4, .f32⟩
  | 80 => ⟨S1x4x1x1, .f32⟩
  | 81 => ⟨S2x4x128x128, .f32⟩
  | 82 => ⟨S2x4x128x128, .f32⟩
  | 83 => ⟨S2x1x4x128x128, .f32⟩
  | 84 => ⟨S2x4x128x128, .f32⟩
  | 85 => ⟨S2x4x128x128, .f32⟩
  | 86 => ⟨S2x4x128x128, .f32⟩
  | 87 => ⟨S2x4x128x128, .f32⟩
  | 88 => ⟨S2x1x4x128x128, .f32⟩
  | 89 => ⟨S2x4x128x128, .f32⟩
  | 90 => ⟨S2x4x128x128, .f32⟩
  | 91 => ⟨S2x1x4x128x128, .f32⟩
  | 92 => ⟨S2x1x4x128x128, .f32⟩
  | 93 => ⟨S2x2x4x128x128, .f32⟩
  | 94 => ⟨S_, .f32⟩
  | 95 => ⟨S2x4x128x128, .f32⟩
  | 96 => ⟨S_, .f32⟩
  | 97 => ⟨S128, .f32⟩
  | 98 => ⟨S128, .f32⟩
  | 99 => ⟨S128x1, .f32⟩
  | 100 => ⟨S1x4, .f32⟩
  | 101 => ⟨S128x4, .f32⟩
  | 102 => ⟨S128x4, .f32⟩
  | 103 => ⟨S128x4, .f32⟩
  | 104 => ⟨S128x4, .f32⟩
  | 105 => ⟨S1x1x128x4x1, .f32⟩
  | 106 => ⟨S2x2x128x4x128, .f32⟩
  | 107 => ⟨S2x2x128x4x128, .f32⟩
  | 108 => ⟨S2x2x4x128x128, .f32⟩
  | 109 => ⟨S2x2x128x4x128, .f32⟩
  | 110 => ⟨S2x2x128x4x128, .f32⟩
  | 111 => ⟨S2x256x4x128, .f32⟩
  | 112 => ⟨S2x2048x4x128, .f32⟩
  | 113 => ⟨S2x2048x4x128, .f32⟩
  | 114 => ⟨S2x2048x4x128, .f32⟩
  | 115 => ⟨S2x16x128x4x128, .f32⟩
  | 116 => ⟨S2x16x128x4x128, .f32⟩
  | 117 => ⟨S2x16x128x4x128, .f32⟩
  | 118 => ⟨S128, .f32⟩
  | 119 => ⟨S128x1, .f32⟩
  | 120 => ⟨S1x128, .f32⟩
  | 121 => ⟨S128x128, .f32⟩
  | 122 => ⟨S128x128, .f32⟩
  | 123 => ⟨S128x128, .f32⟩
  | 124 => ⟨S_, .f32⟩
  | 125 => ⟨S128x128, .f32⟩
  | 126 => ⟨S128x128, .i1⟩
  | 127 => ⟨S1x128x128, .i1⟩
  | _ => ⟨S2x2304x512, .f32⟩

abbrev hbmTy0_1 (i : Nat) : BufTy := match i % 128 with
  | 0 => ⟨S_, .f32⟩
  | 1 => ⟨S128x128, .f32⟩
  | 2 => ⟨S128x128, .f32⟩
  | 3 => ⟨S1x128x128, .f32⟩
  | 4 => ⟨S4x1x1, .f32⟩
  | 5 => ⟨S4x128x128, .f32⟩
  | 6 => ⟨S4x128x128, .f32⟩
  | 7 => ⟨S4x128x128, .f32⟩
  | 8 => ⟨S4x128x128, .f32⟩
  | 9 => ⟨S_, .f32⟩
  | 10 => ⟨S_, .f32⟩
  | 11 => ⟨S4x128x128, .i1⟩
  | 12 => ⟨S4x128x128, .f32⟩
  | 13 => ⟨S4x128x128, .f32⟩
  | 14 => ⟨S2x16x4x128x128, .f32⟩
  | 15 => ⟨S1x1x4x128x128, .f32⟩
  | 16 => ⟨S2x16x4x128x128, .f32⟩
  | 17 => ⟨S2x16x4x128x128, .f32⟩
  | 18 => ⟨S2x16x4x128x128, .f32⟩
  | 19 => ⟨S2x16x128x4x128, .f32⟩
  | 20 => ⟨S_, .f32⟩
  | 21 => ⟨S128, .f32⟩
  | 22 => ⟨S128, .f32⟩
  | 23 => ⟨S128x1, .f32⟩
  | 24 => ⟨S1x4, .f32⟩
  | 25 => ⟨S128x4, .f32⟩
  | 26 => ⟨S128x4, .f32⟩
  | 27 => ⟨S128x4, .f32⟩
  | 28 => ⟨S128x4, .f32⟩
  | 29 => ⟨S1x1x128x4x1, .f32⟩
  | 30 => ⟨S2x16x128x4x128, .f32⟩
  | 31 => ⟨S2x16x128x4x128, .f32⟩
  | 32 => ⟨S2x16x4x128x128, .f32⟩
  | 33 => ⟨S_, .f32⟩
  | 34 => ⟨S4, .f32⟩
  | 35 => ⟨S4, .f32⟩
  | 36 => ⟨S4, .f32⟩
  | 37 => ⟨S1x4x1x1, .f32⟩
  | 38 => ⟨S2x4x128x128, .f32⟩
  | 39 => ⟨S2x4x128x128, .f32⟩
  | 40 => ⟨S2x1x4x128x128, .f32⟩
  | 41 => ⟨S2x4x128x128, .f32⟩
  | 42 => ⟨S2x4x128x128, .f32⟩
  | 43 => ⟨S2x4x128x128, .f32⟩
  | 44 => ⟨S2x4x128x128, .f32⟩
  | 45 => ⟨S2x1x4x128x128, .f32⟩
  | 46 => ⟨S2x4x128x128, .f32⟩
  | 47 => ⟨S2x4x128x128, .f32⟩
  | 48 => ⟨S2x4x128x128, .f32⟩
  | 49 => ⟨S2x4x128x128, .f32⟩
  | 50 => ⟨S2x1x4x128x128, .f32⟩
  | 51 => ⟨S2x4x128x128, .f32⟩
  | 52 => ⟨S2x4x128x128, .f32⟩
  | 53 => ⟨S2x4x128x128, .f32⟩
  | 54 => ⟨S2x4x128x128, .f32⟩
  | 55 => ⟨S2x1x4x128x128, .f32⟩
  | 56 => ⟨S2x4x128x128, .f32⟩
  | 57 => ⟨S2x4x128x128, .f32⟩
  | 58 => ⟨S2x4x128x128, .f32⟩
  | 59 => ⟨S2x4x128x128, .f32⟩
  | 60 => ⟨S2x1x4x128x128, .f32⟩
  | 61 => ⟨S2x4x128x128, .f32⟩
  | 62 => ⟨S2x4x128x128, .f32⟩
  | 63 => ⟨S2x4x128x128, .f32⟩
  | 64 => ⟨S2x4x128x128, .f32⟩
  | 65 => ⟨S2x1x4x128x128, .f32⟩
  | 66 => ⟨S2x4x128x128, .f32⟩
  | 67 => ⟨S2x4x128x128, .f32⟩
  | 68 => ⟨S2x4x128x128, .f32⟩
  | 69 => ⟨S2x4x128x128, .f32⟩
  | 70 => ⟨S2x1x4x128x128, .f32⟩
  | 71 => ⟨S2x4x128x128, .f32⟩
  | 72 => ⟨S2x4x128x128, .f32⟩
  | 73 => ⟨S2x4x128x128, .f32⟩
  | 74 => ⟨S2x4x128x128, .f32⟩
  | 75 => ⟨S2x1x4x128x128, .f32⟩
  | 76 => ⟨S2x4x128x128, .f32⟩
  | 77 => ⟨S2x4x128x128, .f32⟩
  | 78 => ⟨S2x4x128x128, .f32⟩
  | 79 => ⟨S2x4x128x128, .f32⟩
  | 80 => ⟨S2x1x4x128x128, .f32⟩
  | 81 => ⟨S2x4x128x128, .f32⟩
  | 82 => ⟨S2x4x128x128, .f32⟩
  | 83 => ⟨S2x4x128x128, .f32⟩
  | 84 => ⟨S2x4x128x128, .f32⟩
  | 85 => ⟨S2x1x4x128x128, .f32⟩
  | 86 => ⟨S2x4x128x128, .f32⟩
  | 87 => ⟨S2x4x128x128, .f32⟩
  | 88 => ⟨S2x4x128x128, .f32⟩
  | 89 => ⟨S2x4x128x128, .f32⟩
  | 90 => ⟨S2x1x4x128x128, .f32⟩
  | 91 => ⟨S2x4x128x128, .f32⟩
  | 92 => ⟨S2x4x128x128, .f32⟩
  | 93 => ⟨S2x4x128x128, .f32⟩
  | 94 => ⟨S2x4x128x128, .f32⟩
  | 95 => ⟨S2x1x4x128x128, .f32⟩
  | 96 => ⟨S2x4x128x128, .f32⟩
  | 97 => ⟨S2x4x128x128, .f32⟩
  | 98 => ⟨S2x4x128x128, .f32⟩
  | 99 => ⟨S2x4x128x128, .f32⟩
  | 100 => ⟨S2x1x4x128x128, .f32⟩
  | 101 => ⟨S2x4x128x128, .f32⟩
  | 102 => ⟨S2x4x128x128, .f32⟩
  | 103 => ⟨S2x4x128x128, .f32⟩
  | 104 => ⟨S2x4x128x128, .f32⟩
  | 105 => ⟨S2x1x4x128x128, .f32⟩
  | 106 => ⟨S2x4x128x128, .f32⟩
  | 107 => ⟨S2x4x128x128, .f32⟩
  | 108 => ⟨S2x4x128x128, .f32⟩
  | 109 => ⟨S2x4x128x128, .f32⟩
  | 110 => ⟨S2x1x4x128x128, .f32⟩
  | 111 => ⟨S2x4x128x128, .f32⟩
  | 112 => ⟨S2x4x128x128, .f32⟩
  | 113 => ⟨S2x4x128x128, .f32⟩
  | 114 => ⟨S2x4x128x128, .f32⟩
  | 115 => ⟨S2x1x4x128x128, .f32⟩
  | 116 => ⟨S2x4x128x128, .f32⟩
  | 117 => ⟨S2x4x128x128, .f32⟩
  | 118 => ⟨S2x1x4x128x128, .f32⟩
  | 119 => ⟨S2x1x4x128x128, .f32⟩
  | 120 => ⟨S2x1x4x128x128, .f32⟩
  | 121 => ⟨S2x1x4x128x128, .f32⟩
  | 122 => ⟨S2x1x4x128x128, .f32⟩
  | 123 => ⟨S2x1x4x128x128, .f32⟩
  | 124 => ⟨S2x1x4x128x128, .f32⟩
  | 125 => ⟨S2x1x4x128x128, .f32⟩
  | 126 => ⟨S2x1x4x128x128, .f32⟩
  | 127 => ⟨S2x1x4x128x128, .f32⟩
  | _ => ⟨S2x2304x512, .f32⟩

abbrev hbmTy0_2 (i : Nat) : BufTy := match i % 128 with
  | 0 => ⟨S2x1x4x128x128, .f32⟩
  | 1 => ⟨S2x1x4x128x128, .f32⟩
  | 2 => ⟨S2x1x4x128x128, .f32⟩
  | 3 => ⟨S2x1x4x128x128, .f32⟩
  | 4 => ⟨S2x1x4x128x128, .f32⟩
  | 5 => ⟨S2x1x4x128x128, .f32⟩
  | 6 => ⟨S2x16x4x128x128, .f32⟩
  | 7 => ⟨S_, .f32⟩
  | 8 => ⟨S128, .f32⟩
  | 9 => ⟨S128, .f32⟩
  | 10 => ⟨S128x1, .f32⟩
  | 11 => ⟨S1x4, .f32⟩
  | 12 => ⟨S128x4, .f32⟩
  | 13 => ⟨S128x4, .f32⟩
  | 14 => ⟨S128x4, .f32⟩
  | 15 => ⟨S128x4, .f32⟩
  | 16 => ⟨S1x1x128x4x1, .f32⟩
  | 17 => ⟨S2x16x128x4x128, .f32⟩
  | 18 => ⟨S2x16x128x4x128, .f32⟩
  | 19 => ⟨S2x16x4x128x128, .f32⟩
  | 20 => ⟨S2x16x128x4x128, .f32⟩
  | 21 => ⟨S2x16x128x4x128, .f32⟩
  | 22 => ⟨S2x2048x4x128, .f32⟩
  | 23 => ⟨S2x2304x4x128, .f32⟩
  | 24 => ⟨S2x2304x512, .f32⟩
  | 25 => ⟨S2x2304x4x128, .f32⟩
  | 26 => ⟨S2x256x4x128, .f32⟩
  | 27 => ⟨S2x2048x4x128, .f32⟩
  | 28 => ⟨S2x16x128x4x128, .f32⟩
  | 29 => ⟨S2x16x4x128x128, .f32⟩
  | 30 => ⟨S2x16x4x128x128, .f32⟩
  | 31 => ⟨S2x16x4x128x128, .f32⟩
  | 32 => ⟨S2x1x4x128x128, .f32⟩
  | 33 => ⟨S2x4x128x128, .f32⟩
  | 34 => ⟨S2x1x4x128x128, .f32⟩
  | 35 => ⟨S2x4x128x128, .f32⟩
  | 36 => ⟨S2x1x4x128x128, .f32⟩
  | 37 => ⟨S2x4x128x128, .f32⟩
  | 38 => ⟨S2x1x4x128x128, .f32⟩
  | 39 => ⟨S2x4x128x128, .f32⟩
  | 40 => ⟨S2x1x4x128x128, .f32⟩
  | 41 => ⟨S2x4x128x128, .f32⟩
  | 42 => ⟨S2x1x4x128x128, .f32⟩
  | 43 => ⟨S2x4x128x128, .f32⟩
  | 44 => ⟨S2x1x4x128x128, .f32⟩
  | 45 => ⟨S2x4x128x128, .f32⟩
  | 46 => ⟨S2x1x4x128x128, .f32⟩
  | 47 => ⟨S2x4x128x128, .f32⟩
  | 48 => ⟨S2x1x4x128x128, .f32⟩
  | 49 => ⟨S2x4x128x128, .f32⟩
  | 50 => ⟨S2x1x4x128x128, .f32⟩
  | 51 => ⟨S2x4x128x128, .f32⟩
  | 52 => ⟨S2x1x4x128x128, .f32⟩
  | 53 => ⟨S2x4x128x128, .f32⟩
  | 54 => ⟨S2x1x4x128x128, .f32⟩
  | 55 => ⟨S2x4x128x128, .f32⟩
  | 56 => ⟨S2x1x4x128x128, .f32⟩
  | 57 => ⟨S2x4x128x128, .f32⟩
  | 58 => ⟨S2x1x4x128x128, .f32⟩
  | 59 => ⟨S2x4x128x128, .f32⟩
  | 60 => ⟨S2x1x4x128x128, .f32⟩
  | 61 => ⟨S2x4x128x128, .f32⟩
  | 62 => ⟨S2x1x4x128x128, .f32⟩
  | 63 => ⟨S2x4x128x128, .f32⟩
  | 64 => ⟨S2x1x4x128x128, .f32⟩
  | 65 => ⟨S_, .f32⟩
  | 66 => ⟨S2x16x4x128x128, .f32⟩
  | 67 => ⟨S2x4x128x128, .f32⟩
  | 68 => ⟨S2x4x128x128, .f32⟩
  | 69 => ⟨S2x4x128x128, .f32⟩
  | 70 => ⟨S2x1x4x128x128, .f32⟩
  | 71 => ⟨S_, .f32⟩
  | 72 => ⟨S2x16x4x128x128, .f32⟩
  | 73 => ⟨S2x16x4x128x128, .f32⟩
  | 74 => ⟨S2x4x128x128, .f32⟩
  | 75 => ⟨S2x4x128x128, .f32⟩
  | 76 => ⟨S2x4x128x128, .f32⟩
  | 77 => ⟨S2x1x4x128x128, .f32⟩
  | 78 => ⟨S_, .f32⟩
  | 79 => ⟨S2x16x4x128x128, .f32⟩
  | 80 => ⟨S2x16x4x128x128, .f32⟩
  | 81 => ⟨S2x4x128x128, .f32⟩
  | 82 => ⟨S2x4x128x128, .f32⟩
  | 83 => ⟨S2x4x128x128, .f32⟩
  | 84 => ⟨S2x1x4x128x128, .f32⟩
  | 85 => ⟨S_, .f32⟩
  | 86 => ⟨S2x16x4x128x128, .f32⟩
  | 87 => ⟨S2x16x4x128x128, .f32⟩
  | 88 => ⟨S2x4x128x128, .f32⟩
  | 89 => ⟨S2x4x128x128, .f32⟩
  | 90 => ⟨S2x4x128x128, .f32⟩
  | 91 => ⟨S2x1x4x128x128, .f32⟩
  | 92 => ⟨S_, .f32⟩
  | 93 => ⟨S2x16x4x128x128, .f32⟩
  | 94 => ⟨S2x16x4x128x128, .f32⟩
  | 95 => ⟨S2x4x128x128, .f32⟩
  | 96 => ⟨S2x4x128x128, .f32⟩
  | 97 => ⟨S2x4x128x128, .f32⟩
  | 98 => ⟨S2x1x4x128x128, .f32⟩
  | 99 => ⟨S_, .f32⟩
  | 100 => ⟨S2x16x4x128x128, .f32⟩
  | 101 => ⟨S2x16x4x128x128, .f32⟩
  | 102 => ⟨S2x4x128x128, .f32⟩
  | 103 => ⟨S2x4x128x128, .f32⟩
  | 104 => ⟨S2x4x128x128, .f32⟩
  | 105 => ⟨S2x1x4x128x128, .f32⟩
  | 106 => ⟨S_, .f32⟩
  | 107 => ⟨S2x16x4x128x128, .f32⟩
  | 108 => ⟨S2x16x4x128x128, .f32⟩
  | 109 => ⟨S2x4x128x128, .f32⟩
  | 110 => ⟨S2x4x128x128, .f32⟩
  | 111 => ⟨S2x4x128x128, .f32⟩
  | 112 => ⟨S2x1x4x128x128, .f32⟩
  | 113 => ⟨S_, .f32⟩
  | 114 => ⟨S2x16x4x128x128, .f32⟩
  | 115 => ⟨S2x16x4x128x128, .f32⟩
  | 116 => ⟨S2x4x128x128, .f32⟩
  | 117 => ⟨S2x4x128x128, .f32⟩
  | 118 => ⟨S2x4x128x128, .f32⟩
  | 119 => ⟨S2x1x4x128x128, .f32⟩
  | 120 => ⟨S_, .f32⟩
  | 121 => ⟨S2x16x4x128x128, .f32⟩
  | 122 => ⟨S2x16x4x128x128, .f32⟩
  | 123 => ⟨S2x4x128x128, .f32⟩
  | 124 => ⟨S2x4x128x128, .f32⟩
  | 125 => ⟨S2x4x128x128, .f32⟩
  | 126 => ⟨S2x1x4x128x128, .f32⟩
  | 127 => ⟨S_, .f32⟩
  | _ => ⟨S2x2304x512, .f32⟩

abbrev hbmTy0_3 (i : Nat) : BufTy := match i % 128 with
  | 0 => ⟨S2x16x4x128x128, .f32⟩
  | 1 => ⟨S2x16x4x128x128, .f32⟩
  | 2 => ⟨S2x4x128x128, .f32⟩
  | 3 => ⟨S2x4x128x128, .f32⟩
  | 4 => ⟨S2x4x128x128, .f32⟩
  | 5 => ⟨S2x1x4x128x128, .f32⟩
  | 6 => ⟨S_, .f32⟩
  | 7 => ⟨S2x16x4x128x128, .f32⟩
  | 8 => ⟨S2x16x4x128x128, .f32⟩
  | 9 => ⟨S2x4x128x128, .f32⟩
  | 10 => ⟨S2x4x128x128, .f32⟩
  | 11 => ⟨S2x4x128x128, .f32⟩
  | 12 => ⟨S2x1x4x128x128, .f32⟩
  | 13 => ⟨S_, .f32⟩
  | 14 => ⟨S2x16x4x128x128, .f32⟩
  | 15 => ⟨S2x16x4x128x128, .f32⟩
  | 16 => ⟨S2x4x128x128, .f32⟩
  | 17 => ⟨S2x4x128x128, .f32⟩
  | 18 => ⟨S2x4x128x128, .f32⟩
  | 19 => ⟨S2x1x4x128x128, .f32⟩
  | 20 => ⟨S_, .f32⟩
  | 21 => ⟨S2x16x4x128x128, .f32⟩
  | 22 => ⟨S2x16x4x128x128, .f32⟩
  | 23 => ⟨S2x4x128x128, .f32⟩
  | 24 => ⟨S2x4x128x128, .f32⟩
  | 25 => ⟨S2x4x128x128, .f32⟩
  | 26 => ⟨S2x1x4x128x128, .f32⟩
  | 27 => ⟨S_, .f32⟩
  | 28 => ⟨S2x16x4x128x128, .f32⟩
  | 29 => ⟨S2x16x4x128x128, .f32⟩
  | 30 => ⟨S2x4x128x128, .f32⟩
  | 31 => ⟨S2x4x128x128, .f32⟩
  | 32 => ⟨S2x4x128x128, .f32⟩
  | 33 => ⟨S2x1x4x128x128, .f32⟩
  | 34 => ⟨S_, .f32⟩
  | 35 => ⟨S2x16x4x128x128, .f32⟩
  | 36 => ⟨S2x16x4x128x128, .f32⟩
  | 37 => ⟨S2x4x128x128, .f32⟩
  | 38 => ⟨S2x4x128x128, .f32⟩
  | 39 => ⟨S2x4x128x128, .f32⟩
  | 40 => ⟨S2x16x4x128x128, .f32⟩
  | 41 => ⟨S2x16x128x4x128, .f32⟩
  | 42 => ⟨S2x16x128x4x128, .f32⟩
  | 43 => ⟨S2x16x128x4x128, .f32⟩
  | 44 => ⟨S2x16x4x128x128, .f32⟩
  | 45 => ⟨S2x16x4x128x128, .f32⟩
  | 46 => ⟨S2x16x4x128x128, .f32⟩
  | 47 => ⟨S2x16x4x128x128, .f32⟩
  | 48 => ⟨S2x16x4x128x128, .f32⟩
  | 49 => ⟨S2x16x128x4x128, .f32⟩
  | 50 => ⟨S2x16x128x4x128, .f32⟩
  | 51 => ⟨S2x2048x4x128, .f32⟩
  | 52 => ⟨S_, .f32⟩
  | 53 => ⟨S2x2304x4x128, .f32⟩
  | 54 => ⟨S2x2x128x4x128, .f32⟩
  | 55 => ⟨S2x2x4x128x128, .f32⟩
  | 56 => ⟨S2x2x4x128x128, .f32⟩
  | 57 => ⟨S2x2x4x128x128, .f32⟩
  | 58 => ⟨S2x1x4x128x128, .f32⟩
  | 59 => ⟨S2x4x128x128, .f32⟩
  | 60 => ⟨S2x1x4x128x128, .f32⟩
  | 61 => ⟨S2x4x128x128, .f32⟩
  | 62 => ⟨S2x1x4x128x128, .f32⟩
  | 63 => ⟨S_, .f32⟩
  | 64 => ⟨S2x2x4x128x128, .f32⟩
  | 65 => ⟨S2x4x128x128, .f32⟩
  | 66 => ⟨S2x4x128x128, .f32⟩
  | 67 => ⟨S2x4x128x128, .f32⟩
  | 68 => ⟨S2x1x4x128x128, .f32⟩
  | 69 => ⟨S_, .f32⟩
  | 70 => ⟨S2x2x4x128x128, .f32⟩
  | 71 => ⟨S2x2x4x128x128, .f32⟩
  | 72 => ⟨S2x2x4x128x128, .f32⟩
  | 73 => ⟨S2x2x128x4x128, .f32⟩
  | 74 => ⟨S2x2x128x4x128, .f32⟩
  | 75 => ⟨S2x2x128x4x128, .f32⟩
  | 76 => ⟨S2x2x4x128x128, .f32⟩
  | 77 => ⟨S2x2x4x128x128, .f32⟩
  | 78 => ⟨S2x2x4x128x128, .f32⟩
  | 79 => ⟨S2x2x4x128x128, .f32⟩
  | 80 => ⟨S2x2x4x128x128, .f32⟩
  | 81 => ⟨S2x2x128x4x128, .f32⟩
  | 82 => ⟨S2x2x128x4x128, .f32⟩
  | 83 => ⟨S2x256x4x128, .f32⟩
  | 84 => ⟨S_, .f32⟩
  | 85 => ⟨S2x2304x4x128, .f32⟩
  | 86 => ⟨S2x2304x4x128, .f32⟩
  | 87 => ⟨S2x2304x512, .f32⟩
  | 88 => ⟨S4, .f32⟩
  | 89 => ⟨S_, .f32⟩
  | 90 => ⟨S4, .f32⟩
  | 91 => ⟨S4, .f32⟩
  | 92 => ⟨S4, .f32⟩
  | 93 => ⟨S4, .f32⟩
  | 94 => ⟨S4, .i1⟩
  | 95 => ⟨S4, .f32⟩
  | 96 => ⟨S4, .f32⟩
  | 97 => ⟨S4, .f32⟩
  | 98 => ⟨S4, .f32⟩
  | 99 => ⟨S4, .f32⟩
  | 100 => ⟨S4, .f32⟩
  | 101 => ⟨S4, .f32⟩
  | 102 => ⟨S4, .f32⟩
  | 103 => ⟨S4, .f32⟩
  | 104 => ⟨S2x2304x4x128, .f32⟩
  | 105 => ⟨S2x2304x4x128, .f32⟩
  | 106 => ⟨S2x2304x4x128, .f32⟩
  | 107 => ⟨S_, .f32⟩
  | 108 => ⟨S2x4x128x128, .f32⟩
  | 109 => ⟨S2x256x4x128, .f32⟩
  | 110 => ⟨S2x256x4x128, .f32⟩
  | 111 => ⟨S2x256x4x128, .f32⟩
  | 112 => ⟨S2x256x4x128, .f32⟩
  | 113 => ⟨S2x256x4x128, .f32⟩
  | 114 => ⟨S2x256x4x128, .f32⟩
  | 115 => ⟨S2x2x128x4x128, .f32⟩
  | 116 => ⟨S2x2x128x4x128, .f32⟩
  | 117 => ⟨S2x2x128x4x128, .f32⟩
  | 118 => ⟨S128, .f32⟩
  | 119 => ⟨S128x1, .f32⟩
  | 120 => ⟨S1x128, .f32⟩
  | 121 => ⟨S128x128, .f32⟩
  | 122 => ⟨S128x128, .f32⟩
  | 123 => ⟨S128x128, .f32⟩
  | 124 => ⟨S_, .f32⟩
  | 125 => ⟨S128x128, .f32⟩
  | 126 => ⟨S128x128, .i1⟩
  | 127 => ⟨S1x128x128, .i1⟩
  | _ => ⟨S2x2304x512, .f32⟩

abbrev hbmTy0_4 (i : Nat) : BufTy := match i % 128 with
  | 0 => ⟨S_, .f32⟩
  | 1 => ⟨S128x128, .f32⟩
  | 2 => ⟨S128x128, .f32⟩
  | 3 => ⟨S1x128x128, .f32⟩
  | 4 => ⟨S4x1x1, .f32⟩
  | 5 => ⟨S4x128x128, .f32⟩
  | 6 => ⟨S4x128x128, .f32⟩
  | 7 => ⟨S4x128x128, .f32⟩
  | 8 => ⟨S4x128x128, .f32⟩
  | 9 => ⟨S_, .f32⟩
  | 10 => ⟨S_, .f32⟩
  | 11 => ⟨S4x128x128, .i1⟩
  | 12 => ⟨S4x128x128, .f32⟩
  | 13 => ⟨S4x128x128, .f32⟩
  | 14 => ⟨S2x2x4x128x128, .f32⟩
  | 15 => ⟨S1x1x4x128x128, .f32⟩
  | 16 => ⟨S2x2x4x128x128, .f32⟩
  | 17 => ⟨S2x2x4x128x128, .f32⟩
  | 18 => ⟨S2x2x4x128x128, .f32⟩
  | 19 => ⟨S2x2x128x4x128, .f32⟩
  | 20 => ⟨S_, .f32⟩
  | 21 => ⟨S128, .f32⟩
  | 22 => ⟨S128, .f32⟩
  | 23 => ⟨S128x1, .f32⟩
  | 24 => ⟨S1x4, .f32⟩
  | 25 => ⟨S128x4, .f32⟩
  | 26 => ⟨S128x4, .f32⟩
  | 27 => ⟨S128x4, .f32⟩
  | 28 => ⟨S128x4, .f32⟩
  | 29 => ⟨S1x1x128x4x1, .f32⟩
  | 30 => ⟨S2x2x128x4x128, .f32⟩
  | 31 => ⟨S2x2x128x4x128, .f32⟩
  | 32 => ⟨S2x2x4x128x128, .f32⟩
  | 33 => ⟨S_, .f32⟩
  | 34 => ⟨S4, .f32⟩
  | 35 => ⟨S4, .f32⟩
  | 36 => ⟨S4, .f32⟩
  | 37 => ⟨S1x4x1x1, .f32⟩
  | 38 => ⟨S2x4x128x128, .f32⟩
  | 39 => ⟨S2x4x128x128, .f32⟩
  | 40 => ⟨S2x1x4x128x128, .f32⟩
  | 41 => ⟨S2x4x128x128, .f32⟩
  | 42 => ⟨S2x4x128x128, .f32⟩
  | 43 => ⟨S2x4x128x128, .f32⟩
  | 44 => ⟨S2x4x128x128, .f32⟩
  | 45 => ⟨S2x1x4x128x128, .f32⟩
  | 46 => ⟨S2x4x128x128, .f32⟩
  | 47 => ⟨S2x4x128x128, .f32⟩
  | 48 => ⟨S2x1x4x128x128, .f32⟩
  | 49 => ⟨S2x1x4x128x128, .f32⟩
  | 50 => ⟨S2x2x4x128x128, .f32⟩
  | 51 => ⟨S_, .f32⟩
  | 52 => ⟨S2x4x128x128, .f32⟩
  | 53 => ⟨S_, .f32⟩
  | 54 => ⟨S128, .f32⟩
  | 55 => ⟨S128, .f32⟩
  | 56 => ⟨S128x1, .f32⟩
  | 57 => ⟨S1x4, .f32⟩
  | 58 => ⟨S128x4, .f32⟩
  | 59 => ⟨S128x4, .f32⟩
  | 60 => ⟨S128x4, .f32⟩
  | 61 => ⟨S128x4, .f32⟩
  | 62 => ⟨S1x1x128x4x1, .f32⟩
  | 63 => ⟨S2x2x128x4x128, .f32⟩
  | 64 => ⟨S2x2x128x4x128, .f32⟩
  | 65 => ⟨S2x2x4x128x128, .f32⟩
  | 66 => ⟨S2x2x128x4x128, .f32⟩
  | 67 => ⟨S2x2x128x4x128, .f32⟩
  | 68 => ⟨S2x256x4x128, .f32⟩
  | 69 => ⟨S2x2048x4x128, .f32⟩
  | 70 => ⟨S2x2048x4x128, .f32⟩
  | 71 => ⟨S2x2048x4x128, .f32⟩
  | 72 => ⟨S2x2048x4x128, .f32⟩
  | 73 => ⟨S2x2048x4x128, .f32⟩
  | 74 => ⟨S2x2048x4x128, .f32⟩
  | 75 => ⟨S2x16x128x4x128, .f32⟩
  | 76 => ⟨S2x16x128x4x128, .f32⟩
  | 77 => ⟨S2x16x128x4x128, .f32⟩
  | 78 => ⟨S128, .f32⟩
  | 79 => ⟨S128x1, .f32⟩
  | 80 => ⟨S1x128, .f32⟩
  | 81 => ⟨S128x128, .f32⟩
  | 82 => ⟨S128x128, .f32⟩
  | 83 => ⟨S128x128, .f32⟩
  | 84 => ⟨S_, .f32⟩
  | 85 => ⟨S128x128, .f32⟩
  | 86 => ⟨S128x128, .i1⟩
  | 87 => ⟨S1x128x128, .i1⟩
  | 88 => ⟨S_, .f32⟩
  | 89 => ⟨S128x128, .f32⟩
  | 90 => ⟨S128x128, .f32⟩
  | 91 => ⟨S1x128x128, .f32⟩
  | 92 => ⟨S4x1x1, .f32⟩
  | 93 => ⟨S4x128x128, .f32⟩
  | 94 => ⟨S4x128x128, .f32⟩
  | 95 => ⟨S4x128x128, .f32⟩
  | 96 => ⟨S4x128x128, .f32⟩
  | 97 => ⟨S_, .f32⟩
  | 98 => ⟨S_, .f32⟩
  | 99 => ⟨S4x128x128, .i1⟩
  | 100 => ⟨S4x128x128, .f32⟩
  | 101 => ⟨S4x128x128, .f32⟩
  | 102 => ⟨S2x16x4x128x128, .f32⟩
  | 103 => ⟨S1x1x4x128x128, .f32⟩
  | 104 => ⟨S2x16x4x128x128, .f32⟩
  | 105 => ⟨S2x16x4x128x128, .f32⟩
  | 106 => ⟨S2x16x4x128x128, .f32⟩
  | 107 => ⟨S2x16x128x4x128, .f32⟩
  | 108 => ⟨S_, .f32⟩
  | 109 => ⟨S128, .f32⟩
  | 110 => ⟨S128, .f32⟩
  | 111 => ⟨S128x1, .f32⟩
  | 112 => ⟨S1x4, .f32⟩
  | 113 => ⟨S128x4, .f32⟩
  | 114 => ⟨S128x4, .f32⟩
  | 115 => ⟨S128x4, .f32⟩
  | 116 => ⟨S128x4, .f32⟩
  | 117 => ⟨S1x1x128x4x1, .f32⟩
  | 118 => ⟨S2x16x128x4x128, .f32⟩
  | 119 => ⟨S2x16x128x4x128, .f32⟩
  | 120 => ⟨S2x16x4x128x128, .f32⟩
  | 121 => ⟨S_, .f32⟩
  | 122 => ⟨S4, .f32⟩
  | 123 => ⟨S4, .f32⟩
  | 124 => ⟨S4, .f32⟩
  | 125 => ⟨S1x4x1x1, .f32⟩
  | 126 => ⟨S2x4x128x128, .f32⟩
  | 127 => ⟨S2x4x128x128, .f32⟩
  | _ => ⟨S2x2304x512, .f32⟩

abbrev hbmTy0_5 (i : Nat) : BufTy := match i % 128 with
  | 0 => ⟨S2x1x4x128x128, .f32⟩
  | 1 => ⟨S2x4x128x128, .f32⟩
  | 2 => ⟨S2x4x128x128, .f32⟩
  | 3 => ⟨S2x4x128x128, .f32⟩
  | 4 => ⟨S2x4x128x128, .f32⟩
  | 5 => ⟨S2x1x4x128x128, .f32⟩
  | 6 => ⟨S2x4x128x128, .f32⟩
  | 7 => ⟨S2x4x128x128, .f32⟩
  | 8 => ⟨S2x4x128x128, .f32⟩
  | 9 => ⟨S2x4x128x128, .f32⟩
  | 10 => ⟨S2x1x4x128x128, .f32⟩
  | 11 => ⟨S2x4x128x128, .f32⟩
  | 12 => ⟨S2x4x128x128, .f32⟩
  | 13 => ⟨S2x4x128x128, .f32⟩
  | 14 => ⟨S2x4x128x128, .f32⟩
  | 15 => ⟨S2x1x4x128x128, .f32⟩
  | 16 => ⟨S2x4x128x128, .f32⟩
  | 17 => ⟨S2x4x128x128, .f32⟩
  | 18 => ⟨S2x4x128x128, .f32⟩
  | 19 => ⟨S2x4x128x128, .f32⟩
  | 20 => ⟨S2x1x4x128x128, .f32⟩
  | 21 => ⟨S2x4x128x128, .f32⟩
  | 22 => ⟨S2x4x128x128, .f32⟩
  | 23 => ⟨S2x4x128x128, .f32⟩
  | 24 => ⟨S2x4x128x128, .f32⟩
  | 25 => ⟨S2x1x4x128x128, .f32⟩
  | 26 => ⟨S2x4x128x128, .f32⟩
  | 27 => ⟨S2x4x128x128, .f32⟩
  | 28 => ⟨S2x4x128x128, .f32⟩
  | 29 => ⟨S2x4x128x128, .f32⟩
  | 30 => ⟨S2x1x4x128x128, .f32⟩
  | 31 => ⟨S2x4x128x128, .f32⟩
  | 32 => ⟨S2x4x128x128, .f32⟩
  | 33 => ⟨S2x4x128x128, .f32⟩
  | 34 => ⟨S2x4x128x128, .f32⟩
  | 35 => ⟨S2x1x4x128x128, .f32⟩
  | 36 => ⟨S2x4x128x128, .f32⟩
  | 37 => ⟨S2x4x128x128, .f32⟩
  | 38 => ⟨S2x4x128x128, .f32⟩
  | 39 => ⟨S2x4x128x128, .f32⟩
  | 40 => ⟨S2x1x4x128x128, .f32⟩
  | 41 => ⟨S2x4x128x128, .f32⟩
  | 42 => ⟨S2x4x128x128, .f32⟩
  | 43 => ⟨S2x4x128x128, .f32⟩
  | 44 => ⟨S2x4x128x128, .f32⟩
  | 45 => ⟨S2x1x4x128x128, .f32⟩
  | 46 => ⟨S2x4x128x128, .f32⟩
  | 47 => ⟨S2x4x128x128, .f32⟩
  | 48 => ⟨S2x4x128x128, .f32⟩
  | 49 => ⟨S2x4x128x128, .f32⟩
  | 50 => ⟨S2x1x4x128x128, .f32⟩
  | 51 => ⟨S2x4x128x128, .f32⟩
  | 52 => ⟨S2x4x128x128, .f32⟩
  | 53 => ⟨S2x4x128x128, .f32⟩
  | 54 => ⟨S2x4x128x128, .f32⟩
  | 55 => ⟨S2x1x4x128x128, .f32⟩
  | 56 => ⟨S2x4x128x128, .f32⟩
  | 57 => ⟨S2x4x128x128, .f32⟩
  | 58 => ⟨S2x4x128x128, .f32⟩
  | 59 => ⟨S2x4x128x128, .f32⟩
  | 60 => ⟨S2x1x4x128x128, .f32⟩
  | 61 => ⟨S2x4x128x128, .f32⟩
  | 62 => ⟨S2x4x128x128, .f32⟩
  | 63 => ⟨S2x4x128x128, .f32⟩
  | 64 => ⟨S2x4x128x128, .f32⟩
  | 65 => ⟨S2x1x4x128x128, .f32⟩
  | 66 => ⟨S2x4x128x128, .f32⟩
  | 67 => ⟨S2x4x128x128, .f32⟩
  | 68 => ⟨S2x4x128x128, .f32⟩
  | 69 => ⟨S2x4x128x128, .f32⟩
  | 70 => ⟨S2x1x4x128x128, .f32⟩
  | 71 => ⟨S2x4x128x128, .f32⟩
  | 72 => ⟨S2x4x128x128, .f32⟩
  | 73 => ⟨S2x4x128x128, .f32⟩
  | 74 => ⟨S2x4x128x128, .f32⟩
  | 75 => ⟨S2x1x4x128x128, .f32⟩
  | 76 => ⟨S2x4x128x128, .f32⟩
  | 77 => ⟨S2x4x128x128, .f32⟩
  | 78 => ⟨S2x1x4x128x128, .f32⟩
  | 79 => ⟨S2x1x4x128x128, .f32⟩
  | 80 => ⟨S2x1x4x128x128, .f32⟩
  | 81 => ⟨S2x1x4x128x128, .f32⟩
  | 82 => ⟨S2x1x4x128x128, .f32⟩
  | 83 => ⟨S2x1x4x128x128, .f32⟩
  | 84 => ⟨S2x1x4x128x128, .f32⟩
  | 85 => ⟨S2x1x4x128x128, .f32⟩
  | 86 => ⟨S2x1x4x128x128, .f32⟩
  | 87 => ⟨S2x1x4x128x128, .f32⟩
  | 88 => ⟨S2x1x4x128x128, .f32⟩
  | 89 => ⟨S2x1x4x128x128, .f32⟩
  | 90 => ⟨S2x1x4x128x128, .f32⟩
  | 91 => ⟨S2x1x4x128x128, .f32⟩
  | 92 => ⟨S2x1x4x128x128, .f32⟩
  | 93 => ⟨S2x1x4x128x128, .f32⟩
  | 94 => ⟨S2x16x4x128x128, .f32⟩
  | 95 => ⟨S_, .f32⟩
  | 96 => ⟨S128, .f32⟩
  | 97 => ⟨S128, .f32⟩
  | 98 => ⟨S128x1, .f32⟩
  | 99 => ⟨S1x4, .f32⟩
  | 100 => ⟨S128x4, .f32⟩
  | 101 => ⟨S128x4, .f32⟩
  | 102 => ⟨S128x4, .f32⟩
  | 103 => ⟨S128x4, .f32⟩
  | 104 => ⟨S1x1x128x4x1, .f32⟩
  | 105 => ⟨S2x16x128x4x128, .f32⟩
  | 106 => ⟨S2x16x128x4x128, .f32⟩
  | 107 => ⟨S2x16x4x128x128, .f32⟩
  | 108 => ⟨S2x16x128x4x128, .f32⟩
  | 109 => ⟨S2x16x128x4x128, .f32⟩
  | 110 => ⟨S2x2048x4x128, .f32⟩
  | 111 => ⟨S2x256x4x128, .f32⟩
  | 112 => ⟨S2x2048x4x128, .f32⟩
  | 113 => ⟨S2x2304x4x128, .f32⟩
  | 114 => ⟨S2x2304x512, .f32⟩
  | 115 => ⟨S2x2304x4x128, .f32⟩
  | 116 => ⟨S2x256x4x128, .f32⟩
  | 117 => ⟨S2x2048x4x128, .f32⟩
  | 118 => ⟨S2x2048x4x128, .f32⟩
  | 119 => ⟨S2x256x4x128, .f32⟩
  | 120 => ⟨S2x16x128x4x128, .f32⟩
  | 121 => ⟨S2x16x4x128x128, .f32⟩
  | 122 => ⟨S2x16x4x128x128, .f32⟩
  | 123 => ⟨S2x16x4x128x128, .f32⟩
  | 124 => ⟨S2x1x4x128x128, .f32⟩
  | 125 => ⟨S2x4x128x128, .f32⟩
  | 126 => ⟨S2x1x4x128x128, .f32⟩
  | 127 => ⟨S2x4x128x128, .f32⟩
  | _ => ⟨S2x2304x512, .f32⟩

abbrev hbmTy0_6 (i : Nat) : BufTy := match i % 128 with
  | 0 => ⟨S2x1x4x128x128, .f32⟩
  | 1 => ⟨S2x4x128x128, .f32⟩
  | 2 => ⟨S2x1x4x128x128, .f32⟩
  | 3 => ⟨S2x4x128x128, .f32⟩
  | 4 => ⟨S2x1x4x128x128, .f32⟩
  | 5 => ⟨S2x4x128x128, .f32⟩
  | 6 => ⟨S2x1x4x128x128, .f32⟩
  | 7 => ⟨S2x4x128x128, .f32⟩
  | 8 => ⟨S2x1x4x128x128, .f32⟩
  | 9 => ⟨S2x4x128x128, .f32⟩
  | 10 => ⟨S2x1x4x128x128, .f32⟩
  | 11 => ⟨S2x4x128x128, .f32⟩
  | 12 => ⟨S2x1x4x128x128, .f32⟩
  | 13 => ⟨S2x4x128x128, .f32⟩
  | 14 => ⟨S2x1x4x128x128, .f32⟩
  | 15 => ⟨S2x4x128x128, .f32⟩
  | 16 => ⟨S2x1x4x128x128, .f32⟩
  | 17 => ⟨S2x4x128x128, .f32⟩
  | 18 => ⟨S2x1x4x128x128, .f32⟩
  | 19 => ⟨S2x4x128x128, .f32⟩
  | 20 => ⟨S2x1x4x128x128, .f32⟩
  | 21 => ⟨S2x4x128x128, .f32⟩
  | 22 => ⟨S2x1x4x128x128, .f32⟩
  | 23 => ⟨S2x4x128x128, .f32⟩
  | 24 => ⟨S2x1x4x128x128, .f32⟩
  | 25 => ⟨S2x4x128x128, .f32⟩
  | 26 => ⟨S2x1x4x128x128, .f32⟩
  | 27 => ⟨S2x4x128x128, .f32⟩
  | 28 => ⟨S2x1x4x128x128, .f32⟩
  | 29 => ⟨S_, .f32⟩
  | 30 => ⟨S2x16x4x128x128, .f32⟩
  | 31 => ⟨S2x4x128x128, .f32⟩
  | 32 => ⟨S2x4x128x128, .f32⟩
  | 33 => ⟨S2x4x128x128, .f32⟩
  | 34 => ⟨S2x1x4x128x128, .f32⟩
  | 35 => ⟨S_, .f32⟩
  | 36 => ⟨S2x16x4x128x128, .f32⟩
  | 37 => ⟨S2x16x4x128x128, .f32⟩
  | 38 => ⟨S2x4x128x128, .f32⟩
  | 39 => ⟨S2x4x128x128, .f32⟩
  | 40 => ⟨S2x4x128x128, .f32⟩
  | 41 => ⟨S2x1x4x128x128, .f32⟩
  | 42 => ⟨S_, .f32⟩
  | 43 => ⟨S2x16x4x128x128, .f32⟩
  | 44 => ⟨S2x16x4x128x128, .f32⟩
  | 45 => ⟨S2x4x128x128, .f32⟩
  | 46 => ⟨S2x4x128x128, .f32⟩
  | 47 => ⟨S2x4x128x128, .f32⟩
  | 48 => ⟨S2x1x4x128x128, .f32⟩
  | 49 => ⟨S_, .f32⟩
  | 50 => ⟨S2x16x4x128x128, .f32⟩
  | 51 => ⟨S2x16x4x128x128, .f32⟩
  | 52 => ⟨S2x4x128x128, .f32⟩
  | 53 => ⟨S2x4x128x128, .f32⟩
  | 54 => ⟨S2x4x128x128, .f32⟩
  | 55 => ⟨S2x1x4x128x128, .f32⟩
  | 56 => ⟨S_, .f32⟩
  | 57 => ⟨S2x16x4x128x128, .f32⟩
  | 58 => ⟨S2x16x4x128x128, .f32⟩
  | 59 => ⟨S2x4x128x128, .f32⟩
  | 60 => ⟨S2x4x128x128, .f32⟩
  | 61 => ⟨S2x4x128x128, .f32⟩
  | 62 => ⟨S2x1x4x128x128, .f32⟩
  | 63 => ⟨S_, .f32⟩
  | 64 => ⟨S2x16x4x128x128, .f32⟩
  | 65 => ⟨S2x16x4x128x128, .f32⟩
  | 66 => ⟨S2x4x128x128, .f32⟩
  | 67 => ⟨S2x4x128x128, .f32⟩
  | 68 => ⟨S2x4x128x128, .f32⟩
  | 69 => ⟨S2x1x4x128x128, .f32⟩
  | 70 => ⟨S_, .f32⟩
  | 71 => ⟨S2x16x4x128x128, .f32⟩
  | 72 => ⟨S2x16x4x128x128, .f32⟩
  | 73 => ⟨S2x4x128x128, .f32⟩
  | 74 => ⟨S2x4x128x128, .f32⟩
  | 75 => ⟨S2x4x128x128, .f32⟩
  | 76 => ⟨S2x1x4x128x128, .f32⟩
  | 77 => ⟨S_, .f32⟩
  | 78 => ⟨S2x16x4x128x128, .f32⟩
  | 79 => ⟨S2x16x4x128x128, .f32⟩
  | 80 => ⟨S2x4x128x128, .f32⟩
  | 81 => ⟨S2x4x128x128, .f32⟩
  | 82 => ⟨S2x4x128x128, .f32⟩
  | 83 => ⟨S2x1x4x128x128, .f32⟩
  | 84 => ⟨S_, .f32⟩
  | 85 => ⟨S2x16x4x128x128, .f32⟩
  | 86 => ⟨S2x16x4x128x128, .f32⟩
  | 87 => ⟨S2x4x128x128, .f32⟩
  | 88 => ⟨S2x4x128x128, .f32⟩
  | 89 => ⟨S2x4x128x128, .f32⟩
  | 90 => ⟨S2x1x4x128x128, .f32⟩
  | 91 => ⟨S_, .f32⟩
  | 92 => ⟨S2x16x4x128x128, .f32⟩
  | 93 => ⟨S2x16x4x128x128, .f32⟩
  | 94 => ⟨S2x4x128x128, .f32⟩
  | 95 => ⟨S2x4x128x128, .f32⟩
  | 96 => ⟨S2x4x128x128, .f32⟩
  | 97 => ⟨S2x1x4x128x128, .f32⟩
  | 98 => ⟨S_, .f32⟩
  | 99 => ⟨S2x16x4x128x128, .f32⟩
  | 100 => ⟨S2x16x4x128x128, .f32⟩
  | 101 => ⟨S2x4x128x128, .f32⟩
  | 102 => ⟨S2x4x128x128, .f32⟩
  | 103 => ⟨S2x4x128x128, .f32⟩
  | 104 => ⟨S2x1x4x128x128, .f32⟩
  | 105 => ⟨S_, .f32⟩
  | 106 => ⟨S2x16x4x128x128, .f32⟩
  | 107 => ⟨S2x16x4x128x128, .f32⟩
  | 108 => ⟨S2x4x128x128, .f32⟩
  | 109 => ⟨S2x4x128x128, .f32⟩
  | 110 => ⟨S2x4x128x128, .f32⟩
  | 111 => ⟨S2x1x4x128x128, .f32⟩
  | 112 => ⟨S_, .f32⟩
  | 113 => ⟨S2x16x4x128x128, .f32⟩
  | 114 => ⟨S2x16x4x128x128, .f32⟩
  | 115 => ⟨S2x4x128x128, .f32⟩
  | 116 => ⟨S2x4x128x128, .f32⟩
  | 117 => ⟨S2x4x128x128, .f32⟩
  | 118 => ⟨S2x1x4x128x128, .f32⟩
  | 119 => ⟨S_, .f32⟩
  | 120 => ⟨S2x16x4x128x128, .f32⟩
  | 121 => ⟨S2x16x4x128x128, .f32⟩
  | 122 => ⟨S2x4x128x128, .f32⟩
  | 123 => ⟨S2x4x128x128, .f32⟩
  | 124 => ⟨S2x4x128x128, .f32⟩
  | 125 => ⟨S2x1x4x128x128, .f32⟩
  | 126 => ⟨S_, .f32⟩
  | 127 => ⟨S2x16x4x128x128, .f32⟩
  | _ => ⟨S2x2304x512, .f32⟩

abbrev hbmTy0_7 (i : Nat) : BufTy := match i % 128 with
  | 0 => ⟨S2x16x4x128x128, .f32⟩
  | 1 => ⟨S2x4x128x128, .f32⟩
  | 2 => ⟨S2x4x128x128, .f32⟩
  | 3 => ⟨S2x4x128x128, .f32⟩
  | 4 => ⟨S2x16x4x128x128, .f32⟩
  | 5 => ⟨S2x16x128x4x128, .f32⟩
  | 6 => ⟨S2x16x128x4x128, .f32⟩
  | 7 => ⟨S2x16x128x4x128, .f32⟩
  | 8 => ⟨S2x16x4x128x128, .f32⟩
  | 9 => ⟨S2x16x4x128x128, .f32⟩
  | 10 => ⟨S2x16x4x128x128, .f32⟩
  | 11 => ⟨S2x16x4x128x128, .f32⟩
  | 12 => ⟨S2x16x4x128x128, .f32⟩
  | 13 => ⟨S2x16x128x4x128, .f32⟩
  | 14 => ⟨S2x16x128x4x128, .f32⟩
  | 15 => ⟨S2x2048x4x128, .f32⟩
  | 16 => ⟨S2x2048x4x128, .f32⟩
  | 17 => ⟨S_, .f32⟩
  | 18 => ⟨S2x2304x4x128, .f32⟩
  | 19 => ⟨S2x2x128x4x128, .f32⟩
  | 20 => ⟨S2x2x4x128x128, .f32⟩
  | 21 => ⟨S2x2x4x128x128, .f32⟩
  | 22 => ⟨S2x2x4x128x128, .f32⟩
  | 23 => ⟨S2x1x4x128x128, .f32⟩
  | 24 => ⟨S2x4x128x128, .f32⟩
  | 25 => ⟨S2x1x4x128x128, .f32⟩
  | 26 => ⟨S2x4x128x128, .f32⟩
  | 27 => ⟨S2x1x4x128x128, .f32⟩
  | 28 => ⟨S_, .f32⟩
  | 29 => ⟨S2x2x4x128x128, .f32⟩
  | 30 => ⟨S2x4x128x128, .f32⟩
  | 31 => ⟨S2x4x128x128, .f32⟩
  | 32 => ⟨S2x4x128x128, .f32⟩
  | 33 => ⟨S2x1x4x128x128, .f32⟩
  | 34 => ⟨S_, .f32⟩
  | 35 => ⟨S2x2x4x128x128, .f32⟩
  | 36 => ⟨S2x2x4x128x128, .f32⟩
  | 37 => ⟨S2x2x4x128x128, .f32⟩
  | 38 => ⟨S2x2x128x4x128, .f32⟩
  | 39 => ⟨S2x2x128x4x128, .f32⟩
  | 40 => ⟨S2x2x128x4x128, .f32⟩
  | 41 => ⟨S2x2x4x128x128, .f32⟩
  | 42 => ⟨S2x2x4x128x128, .f32⟩
  | 43 => ⟨S2x2x4x128x128, .f32⟩
  | 44 => ⟨S2x2x4x128x128, .f32⟩
  | 45 => ⟨S2x2x4x128x128, .f32⟩
  | 46 => ⟨S2x2x128x4x128, .f32⟩
  | 47 => ⟨S2x2x128x4x128, .f32⟩
  | 48 => ⟨S2x256x4x128, .f32⟩
  | 49 => ⟨S2x256x4x128, .f32⟩
  | 50 => ⟨S_, .f32⟩
  | 51 => ⟨S2x2304x4x128, .f32⟩
  | 52 => ⟨S2x2304x4x128, .f32⟩
  | 53 => ⟨S2x2304x512, .f32⟩
  | _ => ⟨S2x2304x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x2304x512, .f32⟩

abbrev bufTy : (tb : Table) → Fin (tcTables nBuf tb) → BufTy
  | .hbm, ⟨i, _⟩ => hbmTy i
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_5 : Ref sig .tc := ⟨.hbm, 94, rfl⟩
abbrev main_v64 : Ref sig .tc := ⟨.hbm, 95, rfl⟩
abbrev main_cst_6 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_7 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_8 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_9 : Ref sig .tc := ⟨.hbm, 137, rfl⟩
abbrev main_call2_v0 : Ref sig .tc := ⟨.hbm, 138, rfl⟩
abbrev main_call2_v1 : Ref sig .tc := ⟨.hbm, 139, rfl⟩
abbrev main_call2_v2 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_10 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_11 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_cst_12 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_cst_13 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_cst_14 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_cst_15 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_cst_16 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_cst_17 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_cst_18 : Ref sig .tc := ⟨.hbm, 355, rfl⟩
abbrev main_v309 : Ref sig .tc := ⟨.hbm, 356, rfl⟩
abbrev main_v310 : Ref sig .tc := ⟨.hbm, 357, rfl⟩
abbrev main_v311 : Ref sig .tc := ⟨.hbm, 358, rfl⟩
abbrev main_v312 : Ref sig .tc := ⟨.hbm, 359, rfl⟩
abbrev main_v313 : Ref sig .tc := ⟨.hbm, 360, rfl⟩
abbrev main_v314 : Ref sig .tc := ⟨.hbm, 361, rfl⟩
abbrev main_cst_19 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_v320 : Ref sig .tc := ⟨.hbm, 368, rfl⟩
abbrev main_cst_20 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_cst_21 : Ref sig .tc := ⟨.hbm, 376, rfl⟩
abbrev main_v327 : Ref sig .tc := ⟨.hbm, 377, rfl⟩
abbrev main_v328 : Ref sig .tc := ⟨.hbm, 378, rfl⟩
abbrev main_v329 : Ref sig .tc := ⟨.hbm, 379, rfl⟩
abbrev main_v330 : Ref sig .tc := ⟨.hbm, 380, rfl⟩
abbrev main_v331 : Ref sig .tc := ⟨.hbm, 381, rfl⟩
abbrev main_v332 : Ref sig .tc := ⟨.hbm, 382, rfl⟩
abbrev main_cst_22 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_cst_23 : Ref sig .tc := ⟨.hbm, 390, rfl⟩
abbrev main_v339 : Ref sig .tc := ⟨.hbm, 391, rfl⟩
abbrev main_v340 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_v344 : Ref sig .tc := ⟨.hbm, 396, rfl⟩
abbrev main_cst_24 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_cst_25 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_v354 : Ref sig .tc := ⟨.hbm, 408, rfl⟩
abbrev main_v355 : Ref sig .tc := ⟨.hbm, 409, rfl⟩
abbrev main_v356 : Ref sig .tc := ⟨.hbm, 410, rfl⟩
abbrev main_cst_26 : Ref sig .tc := ⟨.hbm, 411, rfl⟩
abbrev main_v357 : Ref sig .tc := ⟨.hbm, 412, rfl⟩
abbrev main_v358 : Ref sig .tc := ⟨.hbm, 413, rfl⟩
abbrev main_v359 : Ref sig .tc := ⟨.hbm, 414, rfl⟩
abbrev main_v360 : Ref sig .tc := ⟨.hbm, 415, rfl⟩
abbrev main_v361 : Ref sig .tc := ⟨.hbm, 416, rfl⟩
abbrev main_v362 : Ref sig .tc := ⟨.hbm, 417, rfl⟩
abbrev main_cst_27 : Ref sig .tc := ⟨.hbm, 418, rfl⟩
abbrev main_v363 : Ref sig .tc := ⟨.hbm, 419, rfl⟩
abbrev main_v364 : Ref sig .tc := ⟨.hbm, 420, rfl⟩
abbrev main_v365 : Ref sig .tc := ⟨.hbm, 421, rfl⟩
abbrev main_v366 : Ref sig .tc := ⟨.hbm, 422, rfl⟩
abbrev main_v367 : Ref sig .tc := ⟨.hbm, 423, rfl⟩
abbrev main_v368 : Ref sig .tc := ⟨.hbm, 424, rfl⟩
abbrev main_v369 : Ref sig .tc := ⟨.hbm, 425, rfl⟩
abbrev main_v370 : Ref sig .tc := ⟨.hbm, 426, rfl⟩
abbrev main_v371 : Ref sig .tc := ⟨.hbm, 427, rfl⟩
abbrev main_v372 : Ref sig .tc := ⟨.hbm, 428, rfl⟩
abbrev main_v373 : Ref sig .tc := ⟨.hbm, 429, rfl⟩
abbrev main_v374 : Ref sig .tc := ⟨.hbm, 430, rfl⟩
abbrev main_v375 : Ref sig .tc := ⟨.hbm, 431, rfl⟩
abbrev main_v376 : Ref sig .tc := ⟨.hbm, 432, rfl⟩
abbrev main_v377 : Ref sig .tc := ⟨.hbm, 433, rfl⟩
abbrev main_v378 : Ref sig .tc := ⟨.hbm, 434, rfl⟩
abbrev main_v379 : Ref sig .tc := ⟨.hbm, 435, rfl⟩
abbrev main_cst_28 : Ref sig .tc := ⟨.hbm, 436, rfl⟩
abbrev main_v380 : Ref sig .tc := ⟨.hbm, 437, rfl⟩
abbrev main_v381 : Ref sig .tc := ⟨.hbm, 438, rfl⟩
abbrev main_v382 : Ref sig .tc := ⟨.hbm, 439, rfl⟩
abbrev main_v383 : Ref sig .tc := ⟨.hbm, 440, rfl⟩
abbrev main_v384 : Ref sig .tc := ⟨.hbm, 441, rfl⟩
abbrev main_v385 : Ref sig .tc := ⟨.hbm, 442, rfl⟩
abbrev main_v386 : Ref sig .tc := ⟨.hbm, 443, rfl⟩
abbrev main_v387 : Ref sig .tc := ⟨.hbm, 444, rfl⟩
abbrev main_v388 : Ref sig .tc := ⟨.hbm, 445, rfl⟩
abbrev main_v389 : Ref sig .tc := ⟨.hbm, 446, rfl⟩
abbrev main_cst_29 : Ref sig .tc := ⟨.hbm, 447, rfl⟩
abbrev main_v390 : Ref sig .tc := ⟨.hbm, 448, rfl⟩
abbrev main_v391 : Ref sig .tc := ⟨.hbm, 449, rfl⟩
abbrev main_v392 : Ref sig .tc := ⟨.hbm, 450, rfl⟩
abbrev main_v393 : Ref sig .tc := ⟨.hbm, 451, rfl⟩
abbrev main_v394 : Ref sig .tc := ⟨.hbm, 452, rfl⟩
abbrev main_cst_30 : Ref sig .tc := ⟨.hbm, 453, rfl⟩
abbrev main_v395 : Ref sig .tc := ⟨.hbm, 454, rfl⟩
abbrev main_v396 : Ref sig .tc := ⟨.hbm, 455, rfl⟩
abbrev main_v397 : Ref sig .tc := ⟨.hbm, 456, rfl⟩
abbrev main_v398 : Ref sig .tc := ⟨.hbm, 457, rfl⟩
abbrev main_v399 : Ref sig .tc := ⟨.hbm, 458, rfl⟩
abbrev main_v400 : Ref sig .tc := ⟨.hbm, 459, rfl⟩
abbrev main_v401 : Ref sig .tc := ⟨.hbm, 460, rfl⟩
abbrev main_v402 : Ref sig .tc := ⟨.hbm, 461, rfl⟩
abbrev main_v403 : Ref sig .tc := ⟨.hbm, 462, rfl⟩
abbrev main_v404 : Ref sig .tc := ⟨.hbm, 463, rfl⟩
abbrev main_v405 : Ref sig .tc := ⟨.hbm, 464, rfl⟩
abbrev main_v406 : Ref sig .tc := ⟨.hbm, 465, rfl⟩
abbrev main_v407 : Ref sig .tc := ⟨.hbm, 466, rfl⟩
abbrev main_v408 : Ref sig .tc := ⟨.hbm, 467, rfl⟩
abbrev main_cst_31 : Ref sig .tc := ⟨.hbm, 468, rfl⟩
abbrev main_v409 : Ref sig .tc := ⟨.hbm, 469, rfl⟩
abbrev main_v410 : Ref sig .tc := ⟨.hbm, 470, rfl⟩
abbrev main_v411 : Ref sig .tc := ⟨.hbm, 471, rfl⟩
abbrev main_call3_v0 : Ref sig .tc := ⟨.hbm, 472, rfl⟩
abbrev main_call3_call0_cst : Ref sig .tc := ⟨.hbm, 473, rfl⟩
abbrev main_call3_call0_v0 : Ref sig .tc := ⟨.hbm, 474, rfl⟩
abbrev main_call3_call0_v1 : Ref sig .tc := ⟨.hbm, 475, rfl⟩
abbrev main_call3_call0_v2 : Ref sig .tc := ⟨.hbm, 476, rfl⟩
abbrev main_call3_call0_v3 : Ref sig .tc := ⟨.hbm, 477, rfl⟩
abbrev main_call3_call0_v4 : Ref sig .tc := ⟨.hbm, 478, rfl⟩
abbrev main_call3_call0_v5 : Ref sig .tc := ⟨.hbm, 479, rfl⟩
abbrev main_call3_call0_v6 : Ref sig .tc := ⟨.hbm, 480, rfl⟩
abbrev main_call3_call0_v7 : Ref sig .tc := ⟨.hbm, 481, rfl⟩
abbrev main_call3_call0_v8 : Ref sig .tc := ⟨.hbm, 482, rfl⟩
abbrev main_call3_call0_v9 : Ref sig .tc := ⟨.hbm, 483, rfl⟩
abbrev main_call3_call0_v10 : Ref sig .tc := ⟨.hbm, 484, rfl⟩
abbrev main_call3_call0_v11 : Ref sig .tc := ⟨.hbm, 485, rfl⟩
abbrev main_call3_v1 : Ref sig .tc := ⟨.hbm, 486, rfl⟩
abbrev main_v412 : Ref sig .tc := ⟨.hbm, 487, rfl⟩
abbrev main_v413 : Ref sig .tc := ⟨.hbm, 488, rfl⟩
abbrev main_v414 : Ref sig .tc := ⟨.hbm, 489, rfl⟩
abbrev main_v415 : Ref sig .tc := ⟨.hbm, 490, rfl⟩
abbrev main_cst_32 : Ref sig .tc := ⟨.hbm, 491, rfl⟩
abbrev main_v416 : Ref sig .tc := ⟨.hbm, 492, rfl⟩
abbrev main_v417 : Ref sig .tc := ⟨.hbm, 493, rfl⟩
abbrev main_v418 : Ref sig .tc := ⟨.hbm, 494, rfl⟩
abbrev main_v419 : Ref sig .tc := ⟨.hbm, 495, rfl⟩
abbrev main_v420 : Ref sig .tc := ⟨.hbm, 496, rfl⟩
abbrev main_v421 : Ref sig .tc := ⟨.hbm, 497, rfl⟩
abbrev main_v422 : Ref sig .tc := ⟨.hbm, 498, rfl⟩
abbrev main_v423 : Ref sig .tc := ⟨.hbm, 499, rfl⟩
abbrev main_v424 : Ref sig .tc := ⟨.hbm, 500, rfl⟩
abbrev main_v425 : Ref sig .tc := ⟨.hbm, 501, rfl⟩
abbrev main_v426 : Ref sig .tc := ⟨.hbm, 502, rfl⟩
abbrev main_v427 : Ref sig .tc := ⟨.hbm, 503, rfl⟩
abbrev main_v428 : Ref sig .tc := ⟨.hbm, 504, rfl⟩
abbrev main_v429 : Ref sig .tc := ⟨.hbm, 505, rfl⟩
abbrev main_v430 : Ref sig .tc := ⟨.hbm, 506, rfl⟩
abbrev main_v431 : Ref sig .tc := ⟨.hbm, 507, rfl⟩
abbrev main_cst_33 : Ref sig .tc := ⟨.hbm, 508, rfl⟩
abbrev main_v432 : Ref sig .tc := ⟨.hbm, 509, rfl⟩
abbrev main_v433 : Ref sig .tc := ⟨.hbm, 510, rfl⟩
abbrev main_v434 : Ref sig .tc := ⟨.hbm, 511, rfl⟩
abbrev main_cst_34 : Ref sig .tc := ⟨.hbm, 512, rfl⟩
abbrev main_v435 : Ref sig .tc := ⟨.hbm, 513, rfl⟩
abbrev main_v436 : Ref sig .tc := ⟨.hbm, 514, rfl⟩
abbrev main_v437 : Ref sig .tc := ⟨.hbm, 515, rfl⟩
abbrev main_v438 : Ref sig .tc := ⟨.hbm, 516, rfl⟩
abbrev main_v439 : Ref sig .tc := ⟨.hbm, 517, rfl⟩
abbrev main_v440 : Ref sig .tc := ⟨.hbm, 518, rfl⟩
abbrev main_v441 : Ref sig .tc := ⟨.hbm, 519, rfl⟩
abbrev main_v442 : Ref sig .tc := ⟨.hbm, 520, rfl⟩
abbrev main_cst_35 : Ref sig .tc := ⟨.hbm, 521, rfl⟩
abbrev main_call7_v0 : Ref sig .tc := ⟨.hbm, 522, rfl⟩
abbrev main_call7_v1 : Ref sig .tc := ⟨.hbm, 523, rfl⟩
abbrev main_call7_v2 : Ref sig .tc := ⟨.hbm, 524, rfl⟩
abbrev main_v443 : Ref sig .tc := ⟨.hbm, 525, rfl⟩
abbrev main_v444 : Ref sig .tc := ⟨.hbm, 526, rfl⟩
abbrev main_v445 : Ref sig .tc := ⟨.hbm, 527, rfl⟩
abbrev main_v446 : Ref sig .tc := ⟨.hbm, 528, rfl⟩
abbrev main_v447 : Ref sig .tc := ⟨.hbm, 529, rfl⟩
abbrev main_v448 : Ref sig .tc := ⟨.hbm, 530, rfl⟩
abbrev main_v449 : Ref sig .tc := ⟨.hbm, 531, rfl⟩
abbrev main_cst_36 : Ref sig .tc := ⟨.hbm, 532, rfl⟩
abbrev main_v450 : Ref sig .tc := ⟨.hbm, 533, rfl⟩
abbrev main_v451 : Ref sig .tc := ⟨.hbm, 534, rfl⟩
abbrev main_v452 : Ref sig .tc := ⟨.hbm, 535, rfl⟩
abbrev main_v453 : Ref sig .tc := ⟨.hbm, 536, rfl⟩
abbrev main_v454 : Ref sig .tc := ⟨.hbm, 537, rfl⟩
abbrev main_v455 : Ref sig .tc := ⟨.hbm, 538, rfl⟩
abbrev main_v456 : Ref sig .tc := ⟨.hbm, 539, rfl⟩
abbrev main_v457 : Ref sig .tc := ⟨.hbm, 540, rfl⟩
abbrev main_v458 : Ref sig .tc := ⟨.hbm, 541, rfl⟩
abbrev main_v459 : Ref sig .tc := ⟨.hbm, 542, rfl⟩
abbrev main_v460 : Ref sig .tc := ⟨.hbm, 543, rfl⟩
abbrev main_v461 : Ref sig .tc := ⟨.hbm, 544, rfl⟩
abbrev main_cst_37 : Ref sig .tc := ⟨.hbm, 545, rfl⟩
abbrev main_v462 : Ref sig .tc := ⟨.hbm, 546, rfl⟩
abbrev main_v463 : Ref sig .tc := ⟨.hbm, 547, rfl⟩
abbrev main_v464 : Ref sig .tc := ⟨.hbm, 548, rfl⟩
abbrev main_v465 : Ref sig .tc := ⟨.hbm, 549, rfl⟩
abbrev main_v466 : Ref sig .tc := ⟨.hbm, 550, rfl⟩
abbrev main_v467 : Ref sig .tc := ⟨.hbm, 551, rfl⟩
abbrev main_v468 : Ref sig .tc := ⟨.hbm, 552, rfl⟩
abbrev main_v469 : Ref sig .tc := ⟨.hbm, 553, rfl⟩
abbrev main_v470 : Ref sig .tc := ⟨.hbm, 554, rfl⟩
abbrev main_v471 : Ref sig .tc := ⟨.hbm, 555, rfl⟩
abbrev main_v472 : Ref sig .tc := ⟨.hbm, 556, rfl⟩
abbrev main_v473 : Ref sig .tc := ⟨.hbm, 557, rfl⟩
abbrev main_v474 : Ref sig .tc := ⟨.hbm, 558, rfl⟩
abbrev main_v475 : Ref sig .tc := ⟨.hbm, 559, rfl⟩
abbrev main_v476 : Ref sig .tc := ⟨.hbm, 560, rfl⟩
abbrev main_v477 : Ref sig .tc := ⟨.hbm, 561, rfl⟩
abbrev main_v478 : Ref sig .tc := ⟨.hbm, 562, rfl⟩
abbrev main_cst_38 : Ref sig .tc := ⟨.hbm, 563, rfl⟩
abbrev main_v479 : Ref sig .tc := ⟨.hbm, 564, rfl⟩
abbrev main_cst_39 : Ref sig .tc := ⟨.hbm, 565, rfl⟩
abbrev main_v480 : Ref sig .tc := ⟨.hbm, 566, rfl⟩
abbrev main_v481 : Ref sig .tc := ⟨.hbm, 567, rfl⟩
abbrev main_v482 : Ref sig .tc := ⟨.hbm, 568, rfl⟩
abbrev main_v483 : Ref sig .tc := ⟨.hbm, 569, rfl⟩
abbrev main_v484 : Ref sig .tc := ⟨.hbm, 570, rfl⟩
abbrev main_v485 : Ref sig .tc := ⟨.hbm, 571, rfl⟩
abbrev main_v486 : Ref sig .tc := ⟨.hbm, 572, rfl⟩
abbrev main_v487 : Ref sig .tc := ⟨.hbm, 573, rfl⟩
abbrev main_v488 : Ref sig .tc := ⟨.hbm, 574, rfl⟩
abbrev main_v489 : Ref sig .tc := ⟨.hbm, 575, rfl⟩
abbrev main_v490 : Ref sig .tc := ⟨.hbm, 576, rfl⟩
abbrev main_v491 : Ref sig .tc := ⟨.hbm, 577, rfl⟩
abbrev main_v492 : Ref sig .tc := ⟨.hbm, 578, rfl⟩
abbrev main_v493 : Ref sig .tc := ⟨.hbm, 579, rfl⟩
abbrev main_v494 : Ref sig .tc := ⟨.hbm, 580, rfl⟩
abbrev main_v495 : Ref sig .tc := ⟨.hbm, 581, rfl⟩
abbrev main_v496 : Ref sig .tc := ⟨.hbm, 582, rfl⟩
abbrev main_v497 : Ref sig .tc := ⟨.hbm, 583, rfl⟩
abbrev main_v498 : Ref sig .tc := ⟨.hbm, 584, rfl⟩
abbrev main_v499 : Ref sig .tc := ⟨.hbm, 585, rfl⟩
abbrev main_v500 : Ref sig .tc := ⟨.hbm, 586, rfl⟩
abbrev main_v501 : Ref sig .tc := ⟨.hbm, 587, rfl⟩
abbrev main_v502 : Ref sig .tc := ⟨.hbm, 588, rfl⟩
abbrev main_v503 : Ref sig .tc := ⟨.hbm, 589, rfl⟩
abbrev main_v504 : Ref sig .tc := ⟨.hbm, 590, rfl⟩
abbrev main_v505 : Ref sig .tc := ⟨.hbm, 591, rfl⟩
abbrev main_v506 : Ref sig .tc := ⟨.hbm, 592, rfl⟩
abbrev main_v507 : Ref sig .tc := ⟨.hbm, 593, rfl⟩
abbrev main_v508 : Ref sig .tc := ⟨.hbm, 594, rfl⟩
abbrev main_v509 : Ref sig .tc := ⟨.hbm, 595, rfl⟩
abbrev main_cst_40 : Ref sig .tc := ⟨.hbm, 596, rfl⟩
abbrev main_v510 : Ref sig .tc := ⟨.hbm, 597, rfl⟩
abbrev main_v511 : Ref sig .tc := ⟨.hbm, 598, rfl⟩
abbrev main_v512 : Ref sig .tc := ⟨.hbm, 599, rfl⟩
abbrev main_cst_41 : Ref sig .tc := ⟨.hbm, 600, rfl⟩
abbrev main_v513 : Ref sig .tc := ⟨.hbm, 601, rfl⟩
abbrev main_v514 : Ref sig .tc := ⟨.hbm, 602, rfl⟩
abbrev main_v515 : Ref sig .tc := ⟨.hbm, 603, rfl⟩
abbrev main_v516 : Ref sig .tc := ⟨.hbm, 604, rfl⟩
abbrev main_v517 : Ref sig .tc := ⟨.hbm, 605, rfl⟩
abbrev main_v518 : Ref sig .tc := ⟨.hbm, 606, rfl⟩
abbrev main_v519 : Ref sig .tc := ⟨.hbm, 607, rfl⟩
abbrev main_v520 : Ref sig .tc := ⟨.hbm, 608, rfl⟩
abbrev main_cst_42 : Ref sig .tc := ⟨.hbm, 609, rfl⟩
abbrev main_call11_v0 : Ref sig .tc := ⟨.hbm, 610, rfl⟩
abbrev main_call11_v1 : Ref sig .tc := ⟨.hbm, 611, rfl⟩
abbrev main_call11_v2 : Ref sig .tc := ⟨.hbm, 612, rfl⟩
abbrev main_v521 : Ref sig .tc := ⟨.hbm, 613, rfl⟩
abbrev main_v522 : Ref sig .tc := ⟨.hbm, 614, rfl⟩
abbrev main_v523 : Ref sig .tc := ⟨.hbm, 615, rfl⟩
abbrev main_v524 : Ref sig .tc := ⟨.hbm, 616, rfl⟩
abbrev main_v525 : Ref sig .tc := ⟨.hbm, 617, rfl⟩
abbrev main_v526 : Ref sig .tc := ⟨.hbm, 618, rfl⟩
abbrev main_v527 : Ref sig .tc := ⟨.hbm, 619, rfl⟩
abbrev main_cst_43 : Ref sig .tc := ⟨.hbm, 620, rfl⟩
abbrev main_v528 : Ref sig .tc := ⟨.hbm, 621, rfl⟩
abbrev main_v529 : Ref sig .tc := ⟨.hbm, 622, rfl⟩
abbrev main_v530 : Ref sig .tc := ⟨.hbm, 623, rfl⟩
abbrev main_v531 : Ref sig .tc := ⟨.hbm, 624, rfl⟩
abbrev main_v532 : Ref sig .tc := ⟨.hbm, 625, rfl⟩
abbrev main_v533 : Ref sig .tc := ⟨.hbm, 626, rfl⟩
abbrev main_v534 : Ref sig .tc := ⟨.hbm, 627, rfl⟩
abbrev main_v535 : Ref sig .tc := ⟨.hbm, 628, rfl⟩
abbrev main_v536 : Ref sig .tc := ⟨.hbm, 629, rfl⟩
abbrev main_v537 : Ref sig .tc := ⟨.hbm, 630, rfl⟩
abbrev main_v538 : Ref sig .tc := ⟨.hbm, 631, rfl⟩
abbrev main_v539 : Ref sig .tc := ⟨.hbm, 632, rfl⟩
abbrev main_cst_44 : Ref sig .tc := ⟨.hbm, 633, rfl⟩
abbrev main_v540 : Ref sig .tc := ⟨.hbm, 634, rfl⟩
abbrev main_v541 : Ref sig .tc := ⟨.hbm, 635, rfl⟩
abbrev main_v542 : Ref sig .tc := ⟨.hbm, 636, rfl⟩
abbrev main_v543 : Ref sig .tc := ⟨.hbm, 637, rfl⟩
abbrev main_v544 : Ref sig .tc := ⟨.hbm, 638, rfl⟩
abbrev main_v545 : Ref sig .tc := ⟨.hbm, 639, rfl⟩
abbrev main_v546 : Ref sig .tc := ⟨.hbm, 640, rfl⟩
abbrev main_v547 : Ref sig .tc := ⟨.hbm, 641, rfl⟩
abbrev main_v548 : Ref sig .tc := ⟨.hbm, 642, rfl⟩
abbrev main_v549 : Ref sig .tc := ⟨.hbm, 643, rfl⟩
abbrev main_v550 : Ref sig .tc := ⟨.hbm, 644, rfl⟩
abbrev main_v551 : Ref sig .tc := ⟨.hbm, 645, rfl⟩
abbrev main_v552 : Ref sig .tc := ⟨.hbm, 646, rfl⟩
abbrev main_v553 : Ref sig .tc := ⟨.hbm, 647, rfl⟩
abbrev main_v554 : Ref sig .tc := ⟨.hbm, 648, rfl⟩
abbrev main_v555 : Ref sig .tc := ⟨.hbm, 649, rfl⟩
abbrev main_v556 : Ref sig .tc := ⟨.hbm, 650, rfl⟩
abbrev main_v557 : Ref sig .tc := ⟨.hbm, 651, rfl⟩
abbrev main_v558 : Ref sig .tc := ⟨.hbm, 652, rfl⟩
abbrev main_v559 : Ref sig .tc := ⟨.hbm, 653, rfl⟩
abbrev main_v560 : Ref sig .tc := ⟨.hbm, 654, rfl⟩
abbrev main_v561 : Ref sig .tc := ⟨.hbm, 655, rfl⟩
abbrev main_v562 : Ref sig .tc := ⟨.hbm, 656, rfl⟩
abbrev main_v563 : Ref sig .tc := ⟨.hbm, 657, rfl⟩
abbrev main_v564 : Ref sig .tc := ⟨.hbm, 658, rfl⟩
abbrev main_v565 : Ref sig .tc := ⟨.hbm, 659, rfl⟩
abbrev main_v566 : Ref sig .tc := ⟨.hbm, 660, rfl⟩
abbrev main_v567 : Ref sig .tc := ⟨.hbm, 661, rfl⟩
abbrev main_v568 : Ref sig .tc := ⟨.hbm, 662, rfl⟩
abbrev main_v569 : Ref sig .tc := ⟨.hbm, 663, rfl⟩
abbrev main_v570 : Ref sig .tc := ⟨.hbm, 664, rfl⟩
abbrev main_v571 : Ref sig .tc := ⟨.hbm, 665, rfl⟩
abbrev main_v572 : Ref sig .tc := ⟨.hbm, 666, rfl⟩
abbrev main_v573 : Ref sig .tc := ⟨.hbm, 667, rfl⟩
abbrev main_v574 : Ref sig .tc := ⟨.hbm, 668, rfl⟩
abbrev main_v575 : Ref sig .tc := ⟨.hbm, 669, rfl⟩
abbrev main_v576 : Ref sig .tc := ⟨.hbm, 670, rfl⟩
abbrev main_v577 : Ref sig .tc := ⟨.hbm, 671, rfl⟩
abbrev main_v578 : Ref sig .tc := ⟨.hbm, 672, rfl⟩
abbrev main_v579 : Ref sig .tc := ⟨.hbm, 673, rfl⟩
abbrev main_v580 : Ref sig .tc := ⟨.hbm, 674, rfl⟩
abbrev main_v581 : Ref sig .tc := ⟨.hbm, 675, rfl⟩
abbrev main_v582 : Ref sig .tc := ⟨.hbm, 676, rfl⟩
abbrev main_v583 : Ref sig .tc := ⟨.hbm, 677, rfl⟩
abbrev main_v584 : Ref sig .tc := ⟨.hbm, 678, rfl⟩
abbrev main_v585 : Ref sig .tc := ⟨.hbm, 679, rfl⟩
abbrev main_v586 : Ref sig .tc := ⟨.hbm, 680, rfl⟩
abbrev main_v587 : Ref sig .tc := ⟨.hbm, 681, rfl⟩
abbrev main_v588 : Ref sig .tc := ⟨.hbm, 682, rfl⟩
abbrev main_v589 : Ref sig .tc := ⟨.hbm, 683, rfl⟩
abbrev main_v590 : Ref sig .tc := ⟨.hbm, 684, rfl⟩
abbrev main_v591 : Ref sig .tc := ⟨.hbm, 685, rfl⟩
abbrev main_v592 : Ref sig .tc := ⟨.hbm, 686, rfl⟩
abbrev main_v593 : Ref sig .tc := ⟨.hbm, 687, rfl⟩
abbrev main_v594 : Ref sig .tc := ⟨.hbm, 688, rfl⟩
abbrev main_v595 : Ref sig .tc := ⟨.hbm, 689, rfl⟩
abbrev main_v596 : Ref sig .tc := ⟨.hbm, 690, rfl⟩
abbrev main_v597 : Ref sig .tc := ⟨.hbm, 691, rfl⟩
abbrev main_v598 : Ref sig .tc := ⟨.hbm, 692, rfl⟩
abbrev main_v599 : Ref sig .tc := ⟨.hbm, 693, rfl⟩
abbrev main_v600 : Ref sig .tc := ⟨.hbm, 694, rfl⟩
abbrev main_v601 : Ref sig .tc := ⟨.hbm, 695, rfl⟩
abbrev main_v602 : Ref sig .tc := ⟨.hbm, 696, rfl⟩
abbrev main_v603 : Ref sig .tc := ⟨.hbm, 697, rfl⟩
abbrev main_v604 : Ref sig .tc := ⟨.hbm, 698, rfl⟩
abbrev main_v605 : Ref sig .tc := ⟨.hbm, 699, rfl⟩
abbrev main_v606 : Ref sig .tc := ⟨.hbm, 700, rfl⟩
abbrev main_v607 : Ref sig .tc := ⟨.hbm, 701, rfl⟩
abbrev main_v608 : Ref sig .tc := ⟨.hbm, 702, rfl⟩
abbrev main_v609 : Ref sig .tc := ⟨.hbm, 703, rfl⟩
abbrev main_v610 : Ref sig .tc := ⟨.hbm, 704, rfl⟩
abbrev main_v611 : Ref sig .tc := ⟨.hbm, 705, rfl⟩
abbrev main_v612 : Ref sig .tc := ⟨.hbm, 706, rfl⟩
abbrev main_v613 : Ref sig .tc := ⟨.hbm, 707, rfl⟩
abbrev main_v614 : Ref sig .tc := ⟨.hbm, 708, rfl⟩
abbrev main_v615 : Ref sig .tc := ⟨.hbm, 709, rfl⟩
abbrev main_v616 : Ref sig .tc := ⟨.hbm, 710, rfl⟩
abbrev main_v617 : Ref sig .tc := ⟨.hbm, 711, rfl⟩
abbrev main_v618 : Ref sig .tc := ⟨.hbm, 712, rfl⟩
abbrev main_v619 : Ref sig .tc := ⟨.hbm, 713, rfl⟩
abbrev main_v620 : Ref sig .tc := ⟨.hbm, 714, rfl⟩
abbrev main_v621 : Ref sig .tc := ⟨.hbm, 715, rfl⟩
abbrev main_v622 : Ref sig .tc := ⟨.hbm, 716, rfl⟩
abbrev main_v623 : Ref sig .tc := ⟨.hbm, 717, rfl⟩
abbrev main_v624 : Ref sig .tc := ⟨.hbm, 718, rfl⟩
abbrev main_v625 : Ref sig .tc := ⟨.hbm, 719, rfl⟩
abbrev main_v626 : Ref sig .tc := ⟨.hbm, 720, rfl⟩
abbrev main_v627 : Ref sig .tc := ⟨.hbm, 721, rfl⟩
abbrev main_v628 : Ref sig .tc := ⟨.hbm, 722, rfl⟩
abbrev main_v629 : Ref sig .tc := ⟨.hbm, 723, rfl⟩
abbrev main_v630 : Ref sig .tc := ⟨.hbm, 724, rfl⟩
abbrev main_v631 : Ref sig .tc := ⟨.hbm, 725, rfl⟩
abbrev main_v632 : Ref sig .tc := ⟨.hbm, 726, rfl⟩
abbrev main_v633 : Ref sig .tc := ⟨.hbm, 727, rfl⟩
abbrev main_v634 : Ref sig .tc := ⟨.hbm, 728, rfl⟩
abbrev main_v635 : Ref sig .tc := ⟨.hbm, 729, rfl⟩
abbrev main_v636 : Ref sig .tc := ⟨.hbm, 730, rfl⟩
abbrev main_v637 : Ref sig .tc := ⟨.hbm, 731, rfl⟩
abbrev main_v638 : Ref sig .tc := ⟨.hbm, 732, rfl⟩
abbrev main_v639 : Ref sig .tc := ⟨.hbm, 733, rfl⟩
abbrev main_v640 : Ref sig .tc := ⟨.hbm, 734, rfl⟩
abbrev main_cst_45 : Ref sig .tc := ⟨.hbm, 735, rfl⟩
abbrev main_v641 : Ref sig .tc := ⟨.hbm, 736, rfl⟩
abbrev main_v642 : Ref sig .tc := ⟨.hbm, 737, rfl⟩
abbrev main_v643 : Ref sig .tc := ⟨.hbm, 738, rfl⟩
abbrev main_v644 : Ref sig .tc := ⟨.hbm, 739, rfl⟩
abbrev main_v645 : Ref sig .tc := ⟨.hbm, 740, rfl⟩
abbrev main_v646 : Ref sig .tc := ⟨.hbm, 741, rfl⟩
abbrev main_v647 : Ref sig .tc := ⟨.hbm, 742, rfl⟩
abbrev main_v648 : Ref sig .tc := ⟨.hbm, 743, rfl⟩
abbrev main_v649 : Ref sig .tc := ⟨.hbm, 744, rfl⟩
abbrev main_v650 : Ref sig .tc := ⟨.hbm, 745, rfl⟩
abbrev main_v651 : Ref sig .tc := ⟨.hbm, 746, rfl⟩
abbrev main_v652 : Ref sig .tc := ⟨.hbm, 747, rfl⟩
abbrev main_v653 : Ref sig .tc := ⟨.hbm, 748, rfl⟩
abbrev main_v654 : Ref sig .tc := ⟨.hbm, 749, rfl⟩
abbrev main_v655 : Ref sig .tc := ⟨.hbm, 750, rfl⟩
abbrev main_v656 : Ref sig .tc := ⟨.hbm, 751, rfl⟩
abbrev main_v657 : Ref sig .tc := ⟨.hbm, 752, rfl⟩
abbrev main_v658 : Ref sig .tc := ⟨.hbm, 753, rfl⟩
abbrev main_v659 : Ref sig .tc := ⟨.hbm, 754, rfl⟩
abbrev main_v660 : Ref sig .tc := ⟨.hbm, 755, rfl⟩
abbrev main_v661 : Ref sig .tc := ⟨.hbm, 756, rfl⟩
abbrev main_v662 : Ref sig .tc := ⟨.hbm, 757, rfl⟩
abbrev main_v663 : Ref sig .tc := ⟨.hbm, 758, rfl⟩
abbrev main_v664 : Ref sig .tc := ⟨.hbm, 759, rfl⟩
abbrev main_v665 : Ref sig .tc := ⟨.hbm, 760, rfl⟩
abbrev main_v666 : Ref sig .tc := ⟨.hbm, 761, rfl⟩
abbrev main_v667 : Ref sig .tc := ⟨.hbm, 762, rfl⟩
abbrev main_v668 : Ref sig .tc := ⟨.hbm, 763, rfl⟩
abbrev main_v669 : Ref sig .tc := ⟨.hbm, 764, rfl⟩
abbrev main_v670 : Ref sig .tc := ⟨.hbm, 765, rfl⟩
abbrev main_v671 : Ref sig .tc := ⟨.hbm, 766, rfl⟩
abbrev main_v672 : Ref sig .tc := ⟨.hbm, 767, rfl⟩
abbrev main_v673 : Ref sig .tc := ⟨.hbm, 768, rfl⟩
abbrev main_v674 : Ref sig .tc := ⟨.hbm, 769, rfl⟩
abbrev main_v675 : Ref sig .tc := ⟨.hbm, 770, rfl⟩
abbrev main_v676 : Ref sig .tc := ⟨.hbm, 771, rfl⟩
abbrev main_v677 : Ref sig .tc := ⟨.hbm, 772, rfl⟩
abbrev main_v678 : Ref sig .tc := ⟨.hbm, 773, rfl⟩
abbrev main_v679 : Ref sig .tc := ⟨.hbm, 774, rfl⟩
abbrev main_v680 : Ref sig .tc := ⟨.hbm, 775, rfl⟩
abbrev main_v681 : Ref sig .tc := ⟨.hbm, 776, rfl⟩
abbrev main_v682 : Ref sig .tc := ⟨.hbm, 777, rfl⟩
abbrev main_v683 : Ref sig .tc := ⟨.hbm, 778, rfl⟩
abbrev main_v684 : Ref sig .tc := ⟨.hbm, 779, rfl⟩
abbrev main_v685 : Ref sig .tc := ⟨.hbm, 780, rfl⟩
abbrev main_v686 : Ref sig .tc := ⟨.hbm, 781, rfl⟩
abbrev main_v687 : Ref sig .tc := ⟨.hbm, 782, rfl⟩
abbrev main_v688 : Ref sig .tc := ⟨.hbm, 783, rfl⟩
abbrev main_v689 : Ref sig .tc := ⟨.hbm, 784, rfl⟩
abbrev main_v690 : Ref sig .tc := ⟨.hbm, 785, rfl⟩
abbrev main_v691 : Ref sig .tc := ⟨.hbm, 786, rfl⟩
abbrev main_v692 : Ref sig .tc := ⟨.hbm, 787, rfl⟩
abbrev main_v693 : Ref sig .tc := ⟨.hbm, 788, rfl⟩
abbrev main_v694 : Ref sig .tc := ⟨.hbm, 789, rfl⟩
abbrev main_v695 : Ref sig .tc := ⟨.hbm, 790, rfl⟩
abbrev main_v696 : Ref sig .tc := ⟨.hbm, 791, rfl⟩
abbrev main_v697 : Ref sig .tc := ⟨.hbm, 792, rfl⟩
abbrev main_v698 : Ref sig .tc := ⟨.hbm, 793, rfl⟩
abbrev main_v699 : Ref sig .tc := ⟨.hbm, 794, rfl⟩
abbrev main_v700 : Ref sig .tc := ⟨.hbm, 795, rfl⟩
abbrev main_v701 : Ref sig .tc := ⟨.hbm, 796, rfl⟩
abbrev main_cst_46 : Ref sig .tc := ⟨.hbm, 797, rfl⟩
abbrev main_v702 : Ref sig .tc := ⟨.hbm, 798, rfl⟩
abbrev main_v703 : Ref sig .tc := ⟨.hbm, 799, rfl⟩
abbrev main_v704 : Ref sig .tc := ⟨.hbm, 800, rfl⟩
abbrev main_v705 : Ref sig .tc := ⟨.hbm, 801, rfl⟩
abbrev main_v706 : Ref sig .tc := ⟨.hbm, 802, rfl⟩
abbrev main_cst_47 : Ref sig .tc := ⟨.hbm, 803, rfl⟩
abbrev main_v707 : Ref sig .tc := ⟨.hbm, 804, rfl⟩
abbrev main_v708 : Ref sig .tc := ⟨.hbm, 805, rfl⟩
abbrev main_v709 : Ref sig .tc := ⟨.hbm, 806, rfl⟩
abbrev main_v710 : Ref sig .tc := ⟨.hbm, 807, rfl⟩
abbrev main_v711 : Ref sig .tc := ⟨.hbm, 808, rfl⟩
abbrev main_v712 : Ref sig .tc := ⟨.hbm, 809, rfl⟩
abbrev main_cst_48 : Ref sig .tc := ⟨.hbm, 810, rfl⟩
abbrev main_v713 : Ref sig .tc := ⟨.hbm, 811, rfl⟩
abbrev main_v714 : Ref sig .tc := ⟨.hbm, 812, rfl⟩
abbrev main_v715 : Ref sig .tc := ⟨.hbm, 813, rfl⟩
abbrev main_v716 : Ref sig .tc := ⟨.hbm, 814, rfl⟩
abbrev main_v717 : Ref sig .tc := ⟨.hbm, 815, rfl⟩
abbrev main_v718 : Ref sig .tc := ⟨.hbm, 816, rfl⟩
abbrev main_cst_49 : Ref sig .tc := ⟨.hbm, 817, rfl⟩
abbrev main_v719 : Ref sig .tc := ⟨.hbm, 818, rfl⟩
abbrev main_v720 : Ref sig .tc := ⟨.hbm, 819, rfl⟩
abbrev main_v721 : Ref sig .tc := ⟨.hbm, 820, rfl⟩
abbrev main_v722 : Ref sig .tc := ⟨.hbm, 821, rfl⟩
abbrev main_v723 : Ref sig .tc := ⟨.hbm, 822, rfl⟩
abbrev main_v724 : Ref sig .tc := ⟨.hbm, 823, rfl⟩
abbrev main_cst_50 : Ref sig .tc := ⟨.hbm, 824, rfl⟩
abbrev main_v725 : Ref sig .tc := ⟨.hbm, 825, rfl⟩
abbrev main_v726 : Ref sig .tc := ⟨.hbm, 826, rfl⟩
abbrev main_v727 : Ref sig .tc := ⟨.hbm, 827, rfl⟩
abbrev main_v728 : Ref sig .tc := ⟨.hbm, 828, rfl⟩
abbrev main_v729 : Ref sig .tc := ⟨.hbm, 829, rfl⟩
abbrev main_v730 : Ref sig .tc := ⟨.hbm, 830, rfl⟩
abbrev main_cst_51 : Ref sig .tc := ⟨.hbm, 831, rfl⟩
abbrev main_v731 : Ref sig .tc := ⟨.hbm, 832, rfl⟩
abbrev main_v732 : Ref sig .tc := ⟨.hbm, 833, rfl⟩
abbrev main_v733 : Ref sig .tc := ⟨.hbm, 834, rfl⟩
abbrev main_v734 : Ref sig .tc := ⟨.hbm, 835, rfl⟩
abbrev main_v735 : Ref sig .tc := ⟨.hbm, 836, rfl⟩
abbrev main_v736 : Ref sig .tc := ⟨.hbm, 837, rfl⟩
abbrev main_cst_52 : Ref sig .tc := ⟨.hbm, 838, rfl⟩
abbrev main_v737 : Ref sig .tc := ⟨.hbm, 839, rfl⟩
abbrev main_v738 : Ref sig .tc := ⟨.hbm, 840, rfl⟩
abbrev main_v739 : Ref sig .tc := ⟨.hbm, 841, rfl⟩
abbrev main_v740 : Ref sig .tc := ⟨.hbm, 842, rfl⟩
abbrev main_v741 : Ref sig .tc := ⟨.hbm, 843, rfl⟩
abbrev main_v742 : Ref sig .tc := ⟨.hbm, 844, rfl⟩
abbrev main_cst_53 : Ref sig .tc := ⟨.hbm, 845, rfl⟩
abbrev main_v743 : Ref sig .tc := ⟨.hbm, 846, rfl⟩
abbrev main_v744 : Ref sig .tc := ⟨.hbm, 847, rfl⟩
abbrev main_v745 : Ref sig .tc := ⟨.hbm, 848, rfl⟩
abbrev main_v746 : Ref sig .tc := ⟨.hbm, 849, rfl⟩
abbrev main_v747 : Ref sig .tc := ⟨.hbm, 850, rfl⟩
abbrev main_v748 : Ref sig .tc := ⟨.hbm, 851, rfl⟩
abbrev main_cst_54 : Ref sig .tc := ⟨.hbm, 852, rfl⟩
abbrev main_v749 : Ref sig .tc := ⟨.hbm, 853, rfl⟩
abbrev main_v750 : Ref sig .tc := ⟨.hbm, 854, rfl⟩
abbrev main_v751 : Ref sig .tc := ⟨.hbm, 855, rfl⟩
abbrev main_v752 : Ref sig .tc := ⟨.hbm, 856, rfl⟩
abbrev main_v753 : Ref sig .tc := ⟨.hbm, 857, rfl⟩
abbrev main_v754 : Ref sig .tc := ⟨.hbm, 858, rfl⟩
abbrev main_cst_55 : Ref sig .tc := ⟨.hbm, 859, rfl⟩
abbrev main_v755 : Ref sig .tc := ⟨.hbm, 860, rfl⟩
abbrev main_v756 : Ref sig .tc := ⟨.hbm, 861, rfl⟩
abbrev main_v757 : Ref sig .tc := ⟨.hbm, 862, rfl⟩
abbrev main_v758 : Ref sig .tc := ⟨.hbm, 863, rfl⟩
abbrev main_v759 : Ref sig .tc := ⟨.hbm, 864, rfl⟩
abbrev main_v760 : Ref sig .tc := ⟨.hbm, 865, rfl⟩
abbrev main_cst_56 : Ref sig .tc := ⟨.hbm, 866, rfl⟩
abbrev main_v761 : Ref sig .tc := ⟨.hbm, 867, rfl⟩
abbrev main_v762 : Ref sig .tc := ⟨.hbm, 868, rfl⟩
abbrev main_v763 : Ref sig .tc := ⟨.hbm, 869, rfl⟩
abbrev main_v764 : Ref sig .tc := ⟨.hbm, 870, rfl⟩
abbrev main_v765 : Ref sig .tc := ⟨.hbm, 871, rfl⟩
abbrev main_v766 : Ref sig .tc := ⟨.hbm, 872, rfl⟩
abbrev main_cst_57 : Ref sig .tc := ⟨.hbm, 873, rfl⟩
abbrev main_v767 : Ref sig .tc := ⟨.hbm, 874, rfl⟩
abbrev main_v768 : Ref sig .tc := ⟨.hbm, 875, rfl⟩
abbrev main_v769 : Ref sig .tc := ⟨.hbm, 876, rfl⟩
abbrev main_v770 : Ref sig .tc := ⟨.hbm, 877, rfl⟩
abbrev main_v771 : Ref sig .tc := ⟨.hbm, 878, rfl⟩
abbrev main_v772 : Ref sig .tc := ⟨.hbm, 879, rfl⟩
abbrev main_cst_58 : Ref sig .tc := ⟨.hbm, 880, rfl⟩
abbrev main_v773 : Ref sig .tc := ⟨.hbm, 881, rfl⟩
abbrev main_v774 : Ref sig .tc := ⟨.hbm, 882, rfl⟩
abbrev main_v775 : Ref sig .tc := ⟨.hbm, 883, rfl⟩
abbrev main_v776 : Ref sig .tc := ⟨.hbm, 884, rfl⟩
abbrev main_v777 : Ref sig .tc := ⟨.hbm, 885, rfl⟩
abbrev main_v778 : Ref sig .tc := ⟨.hbm, 886, rfl⟩
abbrev main_cst_59 : Ref sig .tc := ⟨.hbm, 887, rfl⟩
abbrev main_v779 : Ref sig .tc := ⟨.hbm, 888, rfl⟩
abbrev main_v780 : Ref sig .tc := ⟨.hbm, 889, rfl⟩
abbrev main_v781 : Ref sig .tc := ⟨.hbm, 890, rfl⟩
abbrev main_v782 : Ref sig .tc := ⟨.hbm, 891, rfl⟩
abbrev main_v783 : Ref sig .tc := ⟨.hbm, 892, rfl⟩
abbrev main_v784 : Ref sig .tc := ⟨.hbm, 893, rfl⟩
abbrev main_cst_60 : Ref sig .tc := ⟨.hbm, 894, rfl⟩
abbrev main_v785 : Ref sig .tc := ⟨.hbm, 895, rfl⟩
abbrev main_v786 : Ref sig .tc := ⟨.hbm, 896, rfl⟩
abbrev main_v787 : Ref sig .tc := ⟨.hbm, 897, rfl⟩
abbrev main_v788 : Ref sig .tc := ⟨.hbm, 898, rfl⟩
abbrev main_v789 : Ref sig .tc := ⟨.hbm, 899, rfl⟩
abbrev main_v790 : Ref sig .tc := ⟨.hbm, 900, rfl⟩
abbrev main_v791 : Ref sig .tc := ⟨.hbm, 901, rfl⟩
abbrev main_v792 : Ref sig .tc := ⟨.hbm, 902, rfl⟩
abbrev main_v793 : Ref sig .tc := ⟨.hbm, 903, rfl⟩
abbrev main_v794 : Ref sig .tc := ⟨.hbm, 904, rfl⟩
abbrev main_v795 : Ref sig .tc := ⟨.hbm, 905, rfl⟩
abbrev main_v796 : Ref sig .tc := ⟨.hbm, 906, rfl⟩
abbrev main_v797 : Ref sig .tc := ⟨.hbm, 907, rfl⟩
abbrev main_v798 : Ref sig .tc := ⟨.hbm, 908, rfl⟩
abbrev main_v799 : Ref sig .tc := ⟨.hbm, 909, rfl⟩
abbrev main_v800 : Ref sig .tc := ⟨.hbm, 910, rfl⟩
abbrev main_v801 : Ref sig .tc := ⟨.hbm, 911, rfl⟩
abbrev main_v802 : Ref sig .tc := ⟨.hbm, 912, rfl⟩
abbrev main_cst_61 : Ref sig .tc := ⟨.hbm, 913, rfl⟩
abbrev main_v803 : Ref sig .tc := ⟨.hbm, 914, rfl⟩
abbrev main_v804 : Ref sig .tc := ⟨.hbm, 915, rfl⟩
abbrev main_v805 : Ref sig .tc := ⟨.hbm, 916, rfl⟩
abbrev main_v806 : Ref sig .tc := ⟨.hbm, 917, rfl⟩
abbrev main_v807 : Ref sig .tc := ⟨.hbm, 918, rfl⟩
abbrev main_v808 : Ref sig .tc := ⟨.hbm, 919, rfl⟩
abbrev main_v809 : Ref sig .tc := ⟨.hbm, 920, rfl⟩
abbrev main_v810 : Ref sig .tc := ⟨.hbm, 921, rfl⟩
abbrev main_v811 : Ref sig .tc := ⟨.hbm, 922, rfl⟩
abbrev main_v812 : Ref sig .tc := ⟨.hbm, 923, rfl⟩
abbrev main_cst_62 : Ref sig .tc := ⟨.hbm, 924, rfl⟩
abbrev main_v813 : Ref sig .tc := ⟨.hbm, 925, rfl⟩
abbrev main_v814 : Ref sig .tc := ⟨.hbm, 926, rfl⟩
abbrev main_v815 : Ref sig .tc := ⟨.hbm, 927, rfl⟩
abbrev main_v816 : Ref sig .tc := ⟨.hbm, 928, rfl⟩
abbrev main_v817 : Ref sig .tc := ⟨.hbm, 929, rfl⟩
abbrev main_cst_63 : Ref sig .tc := ⟨.hbm, 930, rfl⟩
abbrev main_v818 : Ref sig .tc := ⟨.hbm, 931, rfl⟩
abbrev main_v819 : Ref sig .tc := ⟨.hbm, 932, rfl⟩
abbrev main_v820 : Ref sig .tc := ⟨.hbm, 933, rfl⟩
abbrev main_v821 : Ref sig .tc := ⟨.hbm, 934, rfl⟩
abbrev main_v822 : Ref sig .tc := ⟨.hbm, 935, rfl⟩
abbrev main_v823 : Ref sig .tc := ⟨.hbm, 936, rfl⟩
abbrev main_v824 : Ref sig .tc := ⟨.hbm, 937, rfl⟩
abbrev main_v825 : Ref sig .tc := ⟨.hbm, 938, rfl⟩
abbrev main_v826 : Ref sig .tc := ⟨.hbm, 939, rfl⟩
abbrev main_v827 : Ref sig .tc := ⟨.hbm, 940, rfl⟩
abbrev main_v828 : Ref sig .tc := ⟨.hbm, 941, rfl⟩
abbrev main_v829 : Ref sig .tc := ⟨.hbm, 942, rfl⟩
abbrev main_v830 : Ref sig .tc := ⟨.hbm, 943, rfl⟩
abbrev main_v831 : Ref sig .tc := ⟨.hbm, 944, rfl⟩
abbrev main_v832 : Ref sig .tc := ⟨.hbm, 945, rfl⟩
abbrev main_cst_64 : Ref sig .tc := ⟨.hbm, 946, rfl⟩
abbrev main_v833 : Ref sig .tc := ⟨.hbm, 947, rfl⟩
abbrev main_v834 : Ref sig .tc := ⟨.hbm, 948, rfl⟩
abbrev main_v835 : Ref sig .tc := ⟨.hbm, 949, rfl⟩

abbrev nD : Nat := 1
abbrev τ : Topo := Topo.v7x

variable {F : FTy → Type} [FloatOps F]
-- ==== Kernel4.lean ====
abbrev S2x2304x512 : Shape := ⟨3, ![2, 2304, 512]⟩
abbrev S4 : Shape := ⟨1, ![4]⟩
abbrev S4x1x1 : Shape := ⟨3, ![4, 1, 1]⟩
abbrev S4x1x128 : Shape := ⟨3, ![4, 1, 128]⟩
abbrev S1x2304x128 : Shape := ⟨3, ![1, 2304, 128]⟩
abbrev S1x1x128 : Shape := ⟨3, ![1, 1, 128]⟩
abbrev S256x256 : Shape := ⟨2, ![256, 256]⟩
abbrev S256x1 : Shape := ⟨2, ![256, 1]⟩
abbrev S1x128 : Shape := ⟨2, ![1, 128]⟩
abbrev S1x1 : Shape := ⟨2, ![1, 1]⟩
abbrev S128x128 : Shape := ⟨2, ![128, 128]⟩
abbrev S1x256x128 : Shape := ⟨3, ![1, 256, 128]⟩
abbrev S256x128 : Shape := ⟨2, ![256, 128]⟩

abbrev nBuf : Space → Nat
  | .hbm => 12
  | .vmem => 14
  | .smem => 0
  | _ => 0

abbrev bufTy : (tb : Table) → Fin (tcTables nBuf tb) → BufTy
  | .hbm, ⟨0, _⟩ => ⟨S2x2304x512, .f32⟩
  | .hbm, ⟨1, _⟩ => ⟨S2x2304x512, .f32⟩
  | .hbm, ⟨2, _⟩ => ⟨S2x2304x512, .f32⟩
  | .hbm, ⟨3, _⟩ => ⟨S2x2304x512, .f32⟩
  | .hbm, ⟨4, _⟩ => ⟨S4, .f32⟩
  | .hbm, ⟨5, _⟩ => ⟨S4, .f32⟩
  | .hbm, ⟨6, _⟩ => ⟨S4x1x1, .f32⟩
  | .hbm, ⟨7, _⟩ => ⟨S4x1x128, .f32⟩
  | .hbm, ⟨8, _⟩ => ⟨S4x1x1, .f32⟩
  | .hbm, ⟨9, _⟩ => ⟨S4x1x128, .f32⟩
  | .hbm, ⟨10, _⟩ => ⟨S2x2304x512, .f32⟩
  | .hbm, ⟨11, _⟩ => ⟨S2x2304x512, .f32⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x2304x128, .f32⟩
  | .local _ .vmem, ⟨11, _⟩ => ⟨S1x2304x128, .f32⟩
  | .local _ .vmem, ⟨12, _⟩ => ⟨S1x2304x128, .f32⟩
  | .local _ .vmem, ⟨13, _⟩ => ⟨S1x2304x128, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x2304x512 : Shape := ⟨3, ![2, 2304, 512]⟩
abbrev S4 : Shape := ⟨1, ![4]⟩
abbrev S_ : Shape := ⟨0, ![]⟩
abbrev S2x2304x4x128 : Shape := ⟨4, ![2, 2304, 4, 128]⟩
abbrev S2x4x128x128 : Shape := ⟨4, ![2, 4, 128, 128]⟩
abbrev S2x256x4x128 : Shape := ⟨4, ![2, 256, 4, 128]⟩
abbrev S2x2x128x4x128 : Shape := ⟨5, ![2, 2, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S2x2x4x128x128 : Shape := ⟨5, ![2, 2, 4, 128, 128]⟩
abbrev S1x1x4x128x128 : Shape := ⟨5, ![1, 1, 4, 128, 128]⟩
abbrev S1x4 : Shape := ⟨2, ![1, 4]⟩
abbrev S128x4 : Shape := ⟨2, ![128, 4]⟩
abbrev S1x1x128x4x1 : Shape := ⟨5, ![1, 1, 128, 4, 1]⟩
abbrev S1x4x1x1 : Shape := ⟨4, ![1, 4, 1, 1]⟩
abbrev S2x1x4x128x128 : Shape := ⟨5, ![2, 1, 4, 128, 128]⟩
abbrev S2x2048x4x128 : Shape := ⟨4, ![2, 2048, 4, 128]⟩
abbrev S2x16x128x4x128 : Shape := ⟨5, ![2, 16, 128, 4, 128]⟩
abbrev S2x16x4x128x128 : Shape := ⟨5, ![2, 16, 4, 128, 128]⟩

abbrev nBuf : Space → Nat
  | .hbm => 930
  | .vmem => 0
  | .smem => 0
  | _ => 0

abbrev hbmTy0_0 (i : Nat) : BufTy := match i % 128 with
  | 0 => ⟨S2x2304x512, .f32⟩
  | 1 => ⟨S2x2304x512, .f32⟩
  | 2 => ⟨S2x2304x512, .f32⟩
  | 3 => ⟨S2x2304x512, .f32⟩
  | 4 => ⟨S4, .f32⟩
  | 5 => ⟨S4, .f32⟩
  | 6 => ⟨S4, .f32⟩
  | 7 => ⟨S_, .f32⟩
  | 8 => ⟨S4, .f32⟩
  | 9 => ⟨S4, .f32⟩
  | 10 => ⟨S4, .f32⟩
  | 11 => ⟨S4, .f32⟩
  | 12 => ⟨S4, .i1⟩
  | 13 => ⟨S4, .f32⟩
  | 14 => ⟨S4, .f32⟩
  | 15 => ⟨S4, .f32⟩
  | 16 => ⟨S4, .f32⟩
  | 17 => ⟨S4, .f32⟩
  | 18 => ⟨S4, .f32⟩
  | 19 => ⟨S4, .f32⟩
  | 20 => ⟨S4, .f32⟩
  | 21 => ⟨S4, .f32⟩
  | 22 => ⟨S2x2304x4x128, .f32⟩
  | 23 => ⟨S2x2304x4x128, .f32⟩
  | 24 => ⟨S2x2304x4x128, .f32⟩
  | 25 => ⟨S_, .f32⟩
  | 26 => ⟨S2x4x128x128, .f32⟩
  | 27 => ⟨S2x256x4x128, .f32⟩
  | 28 => ⟨S2x256x4x128, .f32⟩
  | 29 => ⟨S2x256x4x128, .f32⟩
  | 30 => ⟨S2x2x128x4x128, .f32⟩
  | 31 => ⟨S2x2x128x4x128, .f32⟩
  | 32 => ⟨S2x2x128x4x128, .f32⟩
  | 33 => ⟨S128, .f32⟩
  | 34 => ⟨S128x1, .f32⟩
  | 35 => ⟨S1x128, .f32⟩
  | 36 => ⟨S128x128, .f32⟩
  | 37 => ⟨S128x128, .f32⟩
  | 38 => ⟨S128x128, .f32⟩
  | 39 => ⟨S_, .f32⟩
  | 40 => ⟨S128x128, .f32⟩
  | 41 => ⟨S128x128, .i1⟩
  | 42 => ⟨S1x128x128, .i1⟩
  | 43 => ⟨S_, .f32⟩
  | 44 => ⟨S128x128, .f32⟩
  | 45 => ⟨S128x128, .f32⟩
  | 46 => ⟨S1x128x128, .f32⟩
  | 47 => ⟨S4x1x1, .f32⟩
  | 48 => ⟨S4x128x128, .f32⟩
  | 49 => ⟨S4x128x128, .f32⟩
  | 50 => ⟨S4x128x128, .f32⟩
  | 51 => ⟨S4x128x128, .f32⟩
  | 52 => ⟨S_, .f32⟩
  | 53 => ⟨S_, .f32⟩
  | 54 => ⟨S4x128x128, .i1⟩
  | 55 => ⟨S4x128x128, .f32⟩
  | 56 => ⟨S4x128x128, .f32⟩
  | 57 => ⟨S2x2x4x128x128, .f32⟩
  | 58 => ⟨S1x1x4x128x128, .f32⟩
  | 59 => ⟨S2x2x4x128x128, .f32⟩
  | 60 => ⟨S2x2x4x128x128, .f32⟩
  | 61 => ⟨S2x2x4x128x128, .f32⟩
  | 62 => ⟨S2x2x128x4x128, .f32⟩
  | 63 => ⟨S_, .f32⟩
  | 64 => ⟨S128, .f32⟩
  | 65 => ⟨S128, .f32⟩
  | 66 => ⟨S128x1, .f32⟩
  | 67 => ⟨S1x4, .f32⟩
  | 68 => ⟨S128x4, .f32⟩
  | 69 => ⟨S128x4, .f32⟩
  | 70 => ⟨S128x4, .f32⟩
  | 71 => ⟨S128x4, .f32⟩
  | 72 => ⟨S1x1x128x4x1, .f32⟩
  | 73 => ⟨S2x2x128x4x128, .f32⟩
  | 74 => ⟨S2x2x128x4x128, .f32⟩
  | 75 => ⟨S2x2x4x128x128, .f32⟩
  | 76 => ⟨S_, .f32⟩
  | 77 => ⟨S4, .f32⟩
  | 78 => ⟨S4, .f32⟩
  | 79 => ⟨S4, .f32⟩
  | 80 => ⟨S1x4x1x1, .f32⟩
  | 81 => ⟨S2x4x128x128, .f32⟩
  | 82 => ⟨S2x4x128x128, .f32⟩
  | 83 => ⟨S2x1x4x128x128, .f32⟩
  | 84 => ⟨S2x4x128x128, .f32⟩
  | 85 => ⟨S2x4x128x128, .f32⟩
  | 86 => ⟨S2x4x128x128, .f32⟩
  | 87 => ⟨S2x4x128x128, .f32⟩
  | 88 => ⟨S2x1x4x128x128, .f32⟩
  | 89 => ⟨S2x4x128x128, .f32⟩
  | 90 => ⟨S2x4x128x128, .f32⟩
  | 91 => ⟨S2x1x4x128x128, .f32⟩
  | 92 => ⟨S2x1x4x128x128, .f32⟩
  | 93 => ⟨S2x2x4x128x128, .f32⟩
  | 94 => ⟨S_, .f32⟩
  | 95 => ⟨S2x4x128x128, .f32⟩
  | 96 => ⟨S_, .f32⟩
  | 97 => ⟨S128, .f32⟩
  | 98 => ⟨S128, .f32⟩
  | 99 => ⟨S128x1, .f32⟩
  | 100 => ⟨S1x4, .f32⟩
  | 101 => ⟨S128x4, .f32⟩
  | 102 => ⟨S128x4, .f32⟩
  | 103 => ⟨S128x4, .f32⟩
  | 104 => ⟨S128x4, .f32⟩
  | 105 => ⟨S1x1x128x4x1, .f32⟩
  | 106 => ⟨S2x2x128x4x128, .f32⟩
  | 107 => ⟨S2x2x128x4x128, .f32⟩
  | 108 => ⟨S2x2x4x128x128, .f32⟩
  | 109 => ⟨S2x2x128x4x128, .f32⟩
  | 110 => ⟨S2x2x128x4x128, .f32⟩
  | 111 => ⟨S2x256x4x128, .f32⟩
  | 112 => ⟨S2x2048x4x128, .f32⟩
  | 113 => ⟨S2x2048x4x128, .f32⟩
  | 114 => ⟨S2x2048x4x128, .f32⟩
  | 115 => ⟨S2x16x128x4x128, .f32⟩
  | 116 => ⟨S2x16x128x4x128, .f32⟩
  | 117 => ⟨S2x16x128x4x128, .f32⟩
  | 118 => ⟨S128, .f32⟩
  | 119 => ⟨S128x1, .f32⟩
  | 120 => ⟨S1x128, .f32⟩
  | 121 => ⟨S128x128, .f32⟩
  | 122 => ⟨S128x128, .f32⟩
  | 123 => ⟨S128x128, .f32⟩
  | 124 => ⟨S_, .f32⟩
  | 125 => ⟨S128x128, .f32⟩
  | 126 => ⟨S128x128, .i1⟩
  | 127 => ⟨S1x128x128, .i1⟩
  | _ => ⟨S2x2304x512, .f32⟩

abbrev hbmTy0_1 (i : Nat) : BufTy := match i % 128 with
  | 0 => ⟨S_, .f32⟩
  | 1 => ⟨S128x128, .f32⟩
  | 2 => ⟨S128x128, .f32⟩
  | 3 => ⟨S1x128x128, .f32⟩
  | 4 => ⟨S4x1x1, .f32⟩
  | 5 => ⟨S4x128x128, .f32⟩
  | 6 => ⟨S4x128x128, .f32⟩
  | 7 => ⟨S4x128x128, .f32⟩
  | 8 => ⟨S4x128x128, .f32⟩
  | 9 => ⟨S_, .f32⟩
  | 10 => ⟨S_, .f32⟩
  | 11 => ⟨S4x128x128, .i1⟩
  | 12 => ⟨S4x128x128, .f32⟩
  | 13 => ⟨S4x128x128, .f32⟩
  | 14 => ⟨S2x16x4x128x128, .f32⟩
  | 15 => ⟨S1x1x4x128x128, .f32⟩
  | 16 => ⟨S2x16x4x128x128, .f32⟩
  | 17 => ⟨S2x16x4x128x128, .f32⟩
  | 18 => ⟨S2x16x4x128x128, .f32⟩
  | 19 => ⟨S2x16x128x4x128, .f32⟩
  | 20 => ⟨S_, .f32⟩
  | 21 => ⟨S128, .f32⟩
  | 22 => ⟨S128, .f32⟩
  | 23 => ⟨S128x1, .f32⟩
  | 24 => ⟨S1x4, .f32⟩
  | 25 => ⟨S128x4, .f32⟩
  | 26 => ⟨S128x4, .f32⟩
  | 27 => ⟨S128x4, .f32⟩
  | 28 => ⟨S128x4, .f32⟩
  | 29 => ⟨S1x1x128x4x1, .f32⟩
  | 30 => ⟨S2x16x128x4x128, .f32⟩
  | 31 => ⟨S2x16x128x4x128, .f32⟩
  | 32 => ⟨S2x16x4x128x128, .f32⟩
  | 33 => ⟨S_, .f32⟩
  | 34 => ⟨S4, .f32⟩
  | 35 => ⟨S4, .f32⟩
  | 36 => ⟨S4, .f32⟩
  | 37 => ⟨S1x4x1x1, .f32⟩
  | 38 => ⟨S2x4x128x128, .f32⟩
  | 39 => ⟨S2x4x128x128, .f32⟩
  | 40 => ⟨S2x1x4x128x128, .f32⟩
  | 41 => ⟨S2x4x128x128, .f32⟩
  | 42 => ⟨S2x4x128x128, .f32⟩
  | 43 => ⟨S2x4x128x128, .f32⟩
  | 44 => ⟨S2x4x128x128, .f32⟩
  | 45 => ⟨S2x1x4x128x128, .f32⟩
  | 46 => ⟨S2x4x128x128, .f32⟩
  | 47 => ⟨S2x4x128x128, .f32⟩
  | 48 => ⟨S2x4x128x128, .f32⟩
  | 49 => ⟨S2x4x128x128, .f32⟩
  | 50 => ⟨S2x1x4x128x128, .f32⟩
  | 51 => ⟨S2x4x128x128, .f32⟩
  | 52 => ⟨S2x4x128x128, .f32⟩
  | 53 => ⟨S2x4x128x128, .f32⟩
  | 54 => ⟨S2x4x128x128, .f32⟩
  | 55 => ⟨S2x1x4x128x128, .f32⟩
  | 56 => ⟨S2x4x128x128, .f32⟩
  | 57 => ⟨S2x4x128x128, .f32⟩
  | 58 => ⟨S2x4x128x128, .f32⟩
  | 59 => ⟨S2x4x128x128, .f32⟩
  | 60 => ⟨S2x1x4x128x128, .f32⟩
  | 61 => ⟨S2x4x128x128, .f32⟩
  | 62 => ⟨S2x4x128x128, .f32⟩
  | 63 => ⟨S2x4x128x128, .f32⟩
  | 64 => ⟨S2x4x128x128, .f32⟩
  | 65 => ⟨S2x1x4x128x128, .f32⟩
  | 66 => ⟨S2x4x128x128, .f32⟩
  | 67 => ⟨S2x4x128x128, .f32⟩
  | 68 => ⟨S2x4x128x128, .f32⟩
  | 69 => ⟨S2x4x128x128, .f32⟩
  | 70 => ⟨S2x1x4x128x128, .f32⟩
  | 71 => ⟨S2x4x128x128, .f32⟩
  | 72 => ⟨S2x4x128x128, .f32⟩
  | 73 => ⟨S2x4x128x128, .f32⟩
  | 74 => ⟨S2x4x128x128, .f32⟩
  | 75 => ⟨S2x1x4x128x128, .f32⟩
  | 76 => ⟨S2x4x128x128, .f32⟩
  | 77 => ⟨S2x4x128x128, .f32⟩
  | 78 => ⟨S2x4x128x128, .f32⟩
  | 79 => ⟨S2x4x128x128, .f32⟩
  | 80 => ⟨S2x1x4x128x128, .f32⟩
  | 81 => ⟨S2x4x128x128, .f32⟩
  | 82 => ⟨S2x4x128x128, .f32⟩
  | 83 => ⟨S2x4x128x128, .f32⟩
  | 84 => ⟨S2x4x128x128, .f32⟩
  | 85 => ⟨S2x1x4x128x128, .f32⟩
  | 86 => ⟨S2x4x128x128, .f32⟩
  | 87 => ⟨S2x4x128x128, .f32⟩
  | 88 => ⟨S2x4x128x128, .f32⟩
  | 89 => ⟨S2x4x128x128, .f32⟩
  | 90 => ⟨S2x1x4x128x128, .f32⟩
  | 91 => ⟨S2x4x128x128, .f32⟩
  | 92 => ⟨S2x4x128x128, .f32⟩
  | 93 => ⟨S2x4x128x128, .f32⟩
  | 94 => ⟨S2x4x128x128, .f32⟩
  | 95 => ⟨S2x1x4x128x128, .f32⟩
  | 96 => ⟨S2x4x128x128, .f32⟩
  | 97 => ⟨S2x4x128x128, .f32⟩
  | 98 => ⟨S2x4x128x128, .f32⟩
  | 99 => ⟨S2x4x128x128, .f32⟩
  | 100 => ⟨S2x1x4x128x128, .f32⟩
  | 101 => ⟨S2x4x128x128, .f32⟩
  | 102 => ⟨S2x4x128x128, .f32⟩
  | 103 => ⟨S2x4x128x128, .f32⟩
  | 104 => ⟨S2x4x128x128, .f32⟩
  | 105 => ⟨S2x1x4x128x128, .f32⟩
  | 106 => ⟨S2x4x128x128, .f32⟩
  | 107 => ⟨S2x4x128x128, .f32⟩
  | 108 => ⟨S2x4x128x128, .f32⟩
  | 109 => ⟨S2x4x128x128, .f32⟩
  | 110 => ⟨S2x1x4x128x128, .f32⟩
  | 111 => ⟨S2x4x128x128, .f32⟩
  | 112 => ⟨S2x4x128x128, .f32⟩
  | 113 => ⟨S2x4x128x128, .f32⟩
  | 114 => ⟨S2x4x128x128, .f32⟩
  | 115 => ⟨S2x1x4x128x128, .f32⟩
  | 116 => ⟨S2x4x128x128, .f32⟩
  | 117 => ⟨S2x4x128x128, .f32⟩
  | 118 => ⟨S2x1x4x128x128, .f32⟩
  | 119 => ⟨S2x1x4x128x128, .f32⟩
  | 120 => ⟨S2x1x4x128x128, .f32⟩
  | 121 => ⟨S2x1x4x128x128, .f32⟩
  | 122 => ⟨S2x1x4x128x128, .f32⟩
  | 123 => ⟨S2x1x4x128x128, .f32⟩
  | 124 => ⟨S2x1x4x128x128, .f32⟩
  | 125 => ⟨S2x1x4x128x128, .f32⟩
  | 126 => ⟨S2x1x4x128x128, .f32⟩
  | 127 => ⟨S2x1x4x128x128, .f32⟩
  | _ => ⟨S2x2304x512, .f32⟩

abbrev hbmTy0_2 (i : Nat) : BufTy := match i % 128 with
  | 0 => ⟨S2x1x4x128x128, .f32⟩
  | 1 => ⟨S2x1x4x128x128, .f32⟩
  | 2 => ⟨S2x1x4x128x128, .f32⟩
  | 3 => ⟨S2x1x4x128x128, .f32⟩
  | 4 => ⟨S2x1x4x128x128, .f32⟩
  | 5 => ⟨S2x1x4x128x128, .f32⟩
  | 6 => ⟨S2x16x4x128x128, .f32⟩
  | 7 => ⟨S_, .f32⟩
  | 8 => ⟨S128, .f32⟩
  | 9 => ⟨S128, .f32⟩
  | 10 => ⟨S128x1, .f32⟩
  | 11 => ⟨S1x4, .f32⟩
  | 12 => ⟨S128x4, .f32⟩
  | 13 => ⟨S128x4, .f32⟩
  | 14 => ⟨S128x4, .f32⟩
  | 15 => ⟨S128x4, .f32⟩
  | 16 => ⟨S1x1x128x4x1, .f32⟩
  | 17 => ⟨S2x16x128x4x128, .f32⟩
  | 18 => ⟨S2x16x128x4x128, .f32⟩
  | 19 => ⟨S2x16x4x128x128, .f32⟩
  | 20 => ⟨S2x16x128x4x128, .f32⟩
  | 21 => ⟨S2x16x128x4x128, .f32⟩
  | 22 => ⟨S2x2048x4x128, .f32⟩
  | 23 => ⟨S2x2304x4x128, .f32⟩
  | 24 => ⟨S2x2304x512, .f32⟩
  | 25 => ⟨S2x2304x4x128, .f32⟩
  | 26 => ⟨S2x256x4x128, .f32⟩
  | 27 => ⟨S2x2048x4x128, .f32⟩
  | 28 => ⟨S2x16x128x4x128, .f32⟩
  | 29 => ⟨S2x16x4x128x128, .f32⟩
  | 30 => ⟨S2x16x4x128x128, .f32⟩
  | 31 => ⟨S2x16x4x128x128, .f32⟩
  | 32 => ⟨S2x1x4x128x128, .f32⟩
  | 33 => ⟨S2x4x128x128, .f32⟩
  | 34 => ⟨S2x1x4x128x128, .f32⟩
  | 35 => ⟨S2x4x128x128, .f32⟩
  | 36 => ⟨S2x1x4x128x128, .f32⟩
  | 37 => ⟨S2x4x128x128, .f32⟩
  | 38 => ⟨S2x1x4x128x128, .f32⟩
  | 39 => ⟨S2x4x128x128, .f32⟩
  | 40 => ⟨S2x1x4x128x128, .f32⟩
  | 41 => ⟨S2x4x128x128, .f32⟩
  | 42 => ⟨S2x1x4x128x128, .f32⟩
  | 43 => ⟨S2x4x128x128, .f32⟩
  | 44 => ⟨S2x1x4x128x128, .f32⟩
  | 45 => ⟨S2x4x128x128, .f32⟩
  | 46 => ⟨S2x1x4x128x128, .f32⟩
  | 47 => ⟨S2x4x128x128, .f32⟩
  | 48 => ⟨S2x1x4x128x128, .f32⟩
  | 49 => ⟨S2x4x128x128, .f32⟩
  | 50 => ⟨S2x1x4x128x128, .f32⟩
  | 51 => ⟨S2x4x128x128, .f32⟩
  | 52 => ⟨S2x1x4x128x128, .f32⟩
  | 53 => ⟨S2x4x128x128, .f32⟩
  | 54 => ⟨S2x1x4x128x128, .f32⟩
  | 55 => ⟨S2x4x128x128, .f32⟩
  | 56 => ⟨S2x1x4x128x128, .f32⟩
  | 57 => ⟨S2x4x128x128, .f32⟩
  | 58 => ⟨S2x1x4x128x128, .f32⟩
  | 59 => ⟨S2x4x128x128, .f32⟩
  | 60 => ⟨S2x1x4x128x128, .f32⟩
  | 61 => ⟨S2x4x128x128, .f32⟩
  | 62 => ⟨S2x1x4x128x128, .f32⟩
  | 63 => ⟨S2x4x128x128, .f32⟩
  | 64 => ⟨S2x1x4x128x128, .f32⟩
  | 65 => ⟨S_, .f32⟩
  | 66 => ⟨S2x16x4x128x128, .f32⟩
  | 67 => ⟨S2x4x128x128, .f32⟩
  | 68 => ⟨S2x4x128x128, .f32⟩
  | 69 => ⟨S2x4x128x128, .f32⟩
  | 70 => ⟨S2x1x4x128x128, .f32⟩
  | 71 => ⟨S_, .f32⟩
  | 72 => ⟨S2x16x4x128x128, .f32⟩
  | 73 => ⟨S2x16x4x128x128, .f32⟩
  | 74 => ⟨S2x4x128x128, .f32⟩
  | 75 => ⟨S2x4x128x128, .f32⟩
  | 76 => ⟨S2x4x128x128, .f32⟩
  | 77 => ⟨S2x1x4x128x128, .f32⟩
  | 78 => ⟨S_, .f32⟩
  | 79 => ⟨S2x16x4x128x128, .f32⟩
  | 80 => ⟨S2x16x4x128x128, .f32⟩
  | 81 => ⟨S2x4x128x128, .f32⟩
  | 82 => ⟨S2x4x128x128, .f32⟩
  | 83 => ⟨S2x4x128x128, .f32⟩
  | 84 => ⟨S2x1x4x128x128, .f32⟩
  | 85 => ⟨S_, .f32⟩
  | 86 => ⟨S2x16x4x128x128, .f32⟩
  | 87 => ⟨S2x16x4x128x128, .f32⟩
  | 88 => ⟨S2x4x128x128, .f32⟩
  | 89 => ⟨S2x4x128x128, .f32⟩
  | 90 => ⟨S2x4x128x128, .f32⟩
  | 91 => ⟨S2x1x4x128x128, .f32⟩
  | 92 => ⟨S_, .f32⟩
  | 93 => ⟨S2x16x4x128x128, .f32⟩
  | 94 => ⟨S2x16x4x128x128, .f32⟩
  | 95 => ⟨S2x4x128x128, .f32⟩
  | 96 => ⟨S2x4x128x128, .f32⟩
  | 97 => ⟨S2x4x128x128, .f32⟩
  | 98 => ⟨S2x1x4x128x128, .f32⟩
  | 99 => ⟨S_, .f32⟩
  | 100 => ⟨S2x16x4x128x128, .f32⟩
  | 101 => ⟨S2x16x4x128x128, .f32⟩
  | 102 => ⟨S2x4x128x128, .f32⟩
  | 103 => ⟨S2x4x128x128, .f32⟩
  | 104 => ⟨S2x4x128x128, .f32⟩
  | 105 => ⟨S2x1x4x128x128, .f32⟩
  | 106 => ⟨S_, .f32⟩
  | 107 => ⟨S2x16x4x128x128, .f32⟩
  | 108 => ⟨S2x16x4x128x128, .f32⟩
  | 109 => ⟨S2x4x128x128, .f32⟩
  | 110 => ⟨S2x4x128x128, .f32⟩
  | 111 => ⟨S2x4x128x128, .f32⟩
  | 112 => ⟨S2x1x4x128x128, .f32⟩
  | 113 => ⟨S_, .f32⟩
  | 114 => ⟨S2x16x4x128x128, .f32⟩
  | 115 => ⟨S2x16x4x128x128, .f32⟩
  | 116 => ⟨S2x4x128x128, .f32⟩
  | 117 => ⟨S2x4x128x128, .f32⟩
  | 118 => ⟨S2x4x128x128, .f32⟩
  | 119 => ⟨S2x1x4x128x128, .f32⟩
  | 120 => ⟨S_, .f32⟩
  | 121 => ⟨S2x16x4x128x128, .f32⟩
  | 122 => ⟨S2x16x4x128x128, .f32⟩
  | 123 => ⟨S2x4x128x128, .f32⟩
  | 124 => ⟨S2x4x128x128, .f32⟩
  | 125 => ⟨S2x4x128x128, .f32⟩
  | 126 => ⟨S2x1x4x128x128, .f32⟩
  | 127 => ⟨S_, .f32⟩
  | _ => ⟨S2x2304x512, .f32⟩

abbrev hbmTy0_3 (i : Nat) : BufTy := match i % 128 with
  | 0 => ⟨S2x16x4x128x128, .f32⟩
  | 1 => ⟨S2x16x4x128x128, .f32⟩
  | 2 => ⟨S2x4x128x128, .f32⟩
  | 3 => ⟨S2x4x128x128, .f32⟩
  | 4 => ⟨S2x4x128x128, .f32⟩
  | 5 => ⟨S2x1x4x128x128, .f32⟩
  | 6 => ⟨S_, .f32⟩
  | 7 => ⟨S2x16x4x128x128, .f32⟩
  | 8 => ⟨S2x16x4x128x128, .f32⟩
  | 9 => ⟨S2x4x128x128, .f32⟩
  | 10 => ⟨S2x4x128x128, .f32⟩
  | 11 => ⟨S2x4x128x128, .f32⟩
  | 12 => ⟨S2x1x4x128x128, .f32⟩
  | 13 => ⟨S_, .f32⟩
  | 14 => ⟨S2x16x4x128x128, .f32⟩
  | 15 => ⟨S2x16x4x128x128, .f32⟩
  | 16 => ⟨S2x4x128x128, .f32⟩
  | 17 => ⟨S2x4x128x128, .f32⟩
  | 18 => ⟨S2x4x128x128, .f32⟩
  | 19 => ⟨S2x1x4x128x128, .f32⟩
  | 20 => ⟨S_, .f32⟩
  | 21 => ⟨S2x16x4x128x128, .f32⟩
  | 22 => ⟨S2x16x4x128x128, .f32⟩
  | 23 => ⟨S2x4x128x128, .f32⟩
  | 24 => ⟨S2x4x128x128, .f32⟩
  | 25 => ⟨S2x4x128x128, .f32⟩
  | 26 => ⟨S2x1x4x128x128, .f32⟩
  | 27 => ⟨S_, .f32⟩
  | 28 => ⟨S2x16x4x128x128, .f32⟩
  | 29 => ⟨S2x16x4x128x128, .f32⟩
  | 30 => ⟨S2x4x128x128, .f32⟩
  | 31 => ⟨S2x4x128x128, .f32⟩
  | 32 => ⟨S2x4x128x128, .f32⟩
  | 33 => ⟨S2x1x4x128x128, .f32⟩
  | 34 => ⟨S_, .f32⟩
  | 35 => ⟨S2x16x4x128x128, .f32⟩
  | 36 => ⟨S2x16x4x128x128, .f32⟩
  | 37 => ⟨S2x4x128x128, .f32⟩
  | 38 => ⟨S2x4x128x128, .f32⟩
  | 39 => ⟨S2x4x128x128, .f32⟩
  | 40 => ⟨S2x16x4x128x128, .f32⟩
  | 41 => ⟨S2x16x128x4x128, .f32⟩
  | 42 => ⟨S2x16x4x128x128, .f32⟩
  | 43 => ⟨S2x16x4x128x128, .f32⟩
  | 44 => ⟨S2x16x128x4x128, .f32⟩
  | 45 => ⟨S2x16x128x4x128, .f32⟩
  | 46 => ⟨S2x2048x4x128, .f32⟩
  | 47 => ⟨S_, .f32⟩
  | 48 => ⟨S2x2304x4x128, .f32⟩
  | 49 => ⟨S2x2x128x4x128, .f32⟩
  | 50 => ⟨S2x2x4x128x128, .f32⟩
  | 51 => ⟨S2x2x4x128x128, .f32⟩
  | 52 => ⟨S2x2x4x128x128, .f32⟩
  | 53 => ⟨S2x1x4x128x128, .f32⟩
  | 54 => ⟨S2x4x128x128, .f32⟩
  | 55 => ⟨S2x1x4x128x128, .f32⟩
  | 56 => ⟨S2x4x128x128, .f32⟩
  | 57 => ⟨S2x1x4x128x128, .f32⟩
  | 58 => ⟨S_, .f32⟩
  | 59 => ⟨S2x2x4x128x128, .f32⟩
  | 60 => ⟨S2x4x128x128, .f32⟩
  | 61 => ⟨S2x4x128x128, .f32⟩
  | 62 => ⟨S2x4x128x128, .f32⟩
  | 63 => ⟨S2x1x4x128x128, .f32⟩
  | 64 => ⟨S_, .f32⟩
  | 65 => ⟨S2x2x4x128x128, .f32⟩
  | 66 => ⟨S2x2x4x128x128, .f32⟩
  | 67 => ⟨S2x2x4x128x128, .f32⟩
  | 68 => ⟨S2x2x128x4x128, .f32⟩
  | 69 => ⟨S2x2x4x128x128, .f32⟩
  | 70 => ⟨S2x2x4x128x128, .f32⟩
  | 71 => ⟨S2x2x128x4x128, .f32⟩
  | 72 => ⟨S2x2x128x4x128, .f32⟩
  | 73 => ⟨S2x256x4x128, .f32⟩
  | 74 => ⟨S_, .f32⟩
  | 75 => ⟨S2x2304x4x128, .f32⟩
  | 76 => ⟨S2x2304x4x128, .f32⟩
  | 77 => ⟨S2x2304x512, .f32⟩
  | 78 => ⟨S4, .f32⟩
  | 79 => ⟨S_, .f32⟩
  | 80 => ⟨S4, .f32⟩
  | 81 => ⟨S4, .f32⟩
  | 82 => ⟨S4, .f32⟩
  | 83 => ⟨S4, .f32⟩
  | 84 => ⟨S4, .i1⟩
  | 85 => ⟨S4, .f32⟩
  | 86 => ⟨S4, .f32⟩
  | 87 => ⟨S4, .f32⟩
  | 88 => ⟨S4, .f32⟩
  | 89 => ⟨S4, .f32⟩
  | 90 => ⟨S4, .f32⟩
  | 91 => ⟨S4, .f32⟩
  | 92 => ⟨S4, .f32⟩
  | 93 => ⟨S4, .f32⟩
  | 94 => ⟨S2x2304x4x128, .f32⟩
  | 95 => ⟨S2x2304x4x128, .f32⟩
  | 96 => ⟨S2x2304x4x128, .f32⟩
  | 97 => ⟨S_, .f32⟩
  | 98 => ⟨S2x4x128x128, .f32⟩
  | 99 => ⟨S2x256x4x128, .f32⟩
  | 100 => ⟨S2x256x4x128, .f32⟩
  | 101 => ⟨S2x256x4x128, .f32⟩
  | 102 => ⟨S2x256x4x128, .f32⟩
  | 103 => ⟨S2x256x4x128, .f32⟩
  | 104 => ⟨S2x256x4x128, .f32⟩
  | 105 => ⟨S2x2x128x4x128, .f32⟩
  | 106 => ⟨S2x2x128x4x128, .f32⟩
  | 107 => ⟨S2x2x128x4x128, .f32⟩
  | 108 => ⟨S128, .f32⟩
  | 109 => ⟨S128x1, .f32⟩
  | 110 => ⟨S1x128, .f32⟩
  | 111 => ⟨S128x128, .f32⟩
  | 112 => ⟨S128x128, .f32⟩
  | 113 => ⟨S128x128, .f32⟩
  | 114 => ⟨S_, .f32⟩
  | 115 => ⟨S128x128, .f32⟩
  | 116 => ⟨S128x128, .i1⟩
  | 117 => ⟨S1x128x128, .i1⟩
  | 118 => ⟨S_, .f32⟩
  | 119 => ⟨S128x128, .f32⟩
  | 120 => ⟨S128x128, .f32⟩
  | 121 => ⟨S1x128x128, .f32⟩
  | 122 => ⟨S4x1x1, .f32⟩
  | 123 => ⟨S4x128x128, .f32⟩
  | 124 => ⟨S4x128x128, .f32⟩
  | 125 => ⟨S4x128x128, .f32⟩
  | 126 => ⟨S4x128x128, .f32⟩
  | 127 => ⟨S_, .f32⟩
  | _ => ⟨S2x2304x512, .f32⟩

abbrev hbmTy0_4 (i : Nat) : BufTy := match i % 128 with
  | 0 => ⟨S_, .f32⟩
  | 1 => ⟨S4x128x128, .i1⟩
  | 2 => ⟨S4x128x128, .f32⟩
  | 3 => ⟨S4x128x128, .f32⟩
  | 4 => ⟨S2x2x4x128x128, .f32⟩
  | 5 => ⟨S1x1x4x128x128, .f32⟩
  | 6 => ⟨S2x2x4x128x128, .f32⟩
  | 7 => ⟨S2x2x4x128x128, .f32⟩
  | 8 => ⟨S2x2x4x128x128, .f32⟩
  | 9 => ⟨S2x2x128x4x128, .f32⟩
  | 10 => ⟨S_, .f32⟩
  | 11 => ⟨S128, .f32⟩
  | 12 => ⟨S128, .f32⟩
  | 13 => ⟨S128x1, .f32⟩
  | 14 => ⟨S1x4, .f32⟩
  | 15 => ⟨S128x4, .f32⟩
  | 16 => ⟨S128x4, .f32⟩
  | 17 => ⟨S128x4, .f32⟩
  | 18 => ⟨S128x4, .f32⟩
  | 19 => ⟨S1x1x128x4x1, .f32⟩
  | 20 => ⟨S2x2x128x4x128, .f32⟩
  | 21 => ⟨S2x2x128x4x128, .f32⟩
  | 22 => ⟨S2x2x4x128x128, .f32⟩
  | 23 => ⟨S_, .f32⟩
  | 24 => ⟨S4, .f32⟩
  | 25 => ⟨S4, .f32⟩
  | 26 => ⟨S4, .f32⟩
  | 27 => ⟨S1x4x1x1, .f32⟩
  | 28 => ⟨S2x4x128x128, .f32⟩
  | 29 => ⟨S2x4x128x128, .f32⟩
  | 30 => ⟨S2x1x4x128x128, .f32⟩
  | 31 => ⟨S2x4x128x128, .f32⟩
  | 32 => ⟨S2x4x128x128, .f32⟩
  | 33 => ⟨S2x4x128x128, .f32⟩
  | 34 => ⟨S2x4x128x128, .f32⟩
  | 35 => ⟨S2x1x4x128x128, .f32⟩
  | 36 => ⟨S2x4x128x128, .f32⟩
  | 37 => ⟨S2x4x128x128, .f32⟩
  | 38 => ⟨S2x1x4x128x128, .f32⟩
  | 39 => ⟨S2x1x4x128x128, .f32⟩
  | 40 => ⟨S2x2x4x128x128, .f32⟩
  | 41 => ⟨S_, .f32⟩
  | 42 => ⟨S2x4x128x128, .f32⟩
  | 43 => ⟨S_, .f32⟩
  | 44 => ⟨S128, .f32⟩
  | 45 => ⟨S128, .f32⟩
  | 46 => ⟨S128x1, .f32⟩
  | 47 => ⟨S1x4, .f32⟩
  | 48 => ⟨S128x4, .f32⟩
  | 49 => ⟨S128x4, .f32⟩
  | 50 => ⟨S128x4, .f32⟩
  | 51 => ⟨S128x4, .f32⟩
  | 52 => ⟨S1x1x128x4x1, .f32⟩
  | 53 => ⟨S2x2x128x4x128, .f32⟩
  | 54 => ⟨S2x2x128x4x128, .f32⟩
  | 55 => ⟨S2x2x4x128x128, .f32⟩
  | 56 => ⟨S2x2x128x4x128, .f32⟩
  | 57 => ⟨S2x2x128x4x128, .f32⟩
  | 58 => ⟨S2x256x4x128, .f32⟩
  | 59 => ⟨S2x2048x4x128, .f32⟩
  | 60 => ⟨S2x2048x4x128, .f32⟩
  | 61 => ⟨S2x2048x4x128, .f32⟩
  | 62 => ⟨S2x2048x4x128, .f32⟩
  | 63 => ⟨S2x2048x4x128, .f32⟩
  | 64 => ⟨S2x2048x4x128, .f32⟩
  | 65 => ⟨S2x16x128x4x128, .f32⟩
  | 66 => ⟨S2x16x128x4x128, .f32⟩
  | 67 => ⟨S2x16x128x4x128, .f32⟩
  | 68 => ⟨S128, .f32⟩
  | 69 => ⟨S128x1, .f32⟩
  | 70 => ⟨S1x128, .f32⟩
  | 71 => ⟨S128x128, .f32⟩
  | 72 => ⟨S128x128, .f32⟩
  | 73 => ⟨S128x128, .f32⟩
  | 74 => ⟨S_, .f32⟩
  | 75 => ⟨S128x128, .f32⟩
  | 76 => ⟨S128x128, .i1⟩
  | 77 => ⟨S1x128x128, .i1⟩
  | 78 => ⟨S_, .f32⟩
  | 79 => ⟨S128x128, .f32⟩
  | 80 => ⟨S128x128, .f32⟩
  | 81 => ⟨S1x128x128, .f32⟩
  | 82 => ⟨S4x1x1, .f32⟩
  | 83 => ⟨S4x128x128, .f32⟩
  | 84 => ⟨S4x128x128, .f32⟩
  | 85 => ⟨S4x128x128, .f32⟩
  | 86 => ⟨S4x128x128, .f32⟩
  | 87 => ⟨S_, .f32⟩
  | 88 => ⟨S_, .f32⟩
  | 89 => ⟨S4x128x128, .i1⟩
  | 90 => ⟨S4x128x128, .f32⟩
  | 91 => ⟨S4x128x128, .f32⟩
  | 92 => ⟨S2x16x4x128x128, .f32⟩
  | 93 => ⟨S1x1x4x128x128, .f32⟩
  | 94 => ⟨S2x16x4x128x128, .f32⟩
  | 95 => ⟨S2x16x4x128x128, .f32⟩
  | 96 => ⟨S2x16x4x128x128, .f32⟩
  | 97 => ⟨S2x16x128x4x128, .f32⟩
  | 98 => ⟨S_, .f32⟩
  | 99 => ⟨S128, .f32⟩
  | 100 => ⟨S128, .f32⟩
  | 101 => ⟨S128x1, .f32⟩
  | 102 => ⟨S1x4, .f32⟩
  | 103 => ⟨S128x4, .f32⟩
  | 104 => ⟨S128x4, .f32⟩
  | 105 => ⟨S128x4, .f32⟩
  | 106 => ⟨S128x4, .f32⟩
  | 107 => ⟨S1x1x128x4x1, .f32⟩
  | 108 => ⟨S2x16x128x4x128, .f32⟩
  | 109 => ⟨S2x16x128x4x128, .f32⟩
  | 110 => ⟨S2x16x4x128x128, .f32⟩
  | 111 => ⟨S_, .f32⟩
  | 112 => ⟨S4, .f32⟩
  | 113 => ⟨S4, .f32⟩
  | 114 => ⟨S4, .f32⟩
  | 115 => ⟨S1x4x1x1, .f32⟩
  | 116 => ⟨S2x4x128x128, .f32⟩
  | 117 => ⟨S2x4x128x128, .f32⟩
  | 118 => ⟨S2x1x4x128x128, .f32⟩
  | 119 => ⟨S2x4x128x128, .f32⟩
  | 120 => ⟨S2x4x128x128, .f32⟩
  | 121 => ⟨S2x4x128x128, .f32⟩
  | 122 => ⟨S2x4x128x128, .f32⟩
  | 123 => ⟨S2x1x4x128x128, .f32⟩
  | 124 => ⟨S2x4x128x128, .f32⟩
  | 125 => ⟨S2x4x128x128, .f32⟩
  | 126 => ⟨S2x4x128x128, .f32⟩
  | 127 => ⟨S2x4x128x128, .f32⟩
  | _ => ⟨S2x2304x512, .f32⟩

abbrev hbmTy0_5 (i : Nat) : BufTy := match i % 128 with
  | 0 => ⟨S2x1x4x128x128, .f32⟩
  | 1 => ⟨S2x4x128x128, .f32⟩
  | 2 => ⟨S2x4x128x128, .f32⟩
  | 3 => ⟨S2x4x128x128, .f32⟩
  | 4 => ⟨S2x4x128x128, .f32⟩
  | 5 => ⟨S2x1x4x128x128, .f32⟩
  | 6 => ⟨S2x4x128x128, .f32⟩
  | 7 => ⟨S2x4x128x128, .f32⟩
  | 8 => ⟨S2x4x128x128, .f32⟩
  | 9 => ⟨S2x4x128x128, .f32⟩
  | 10 => ⟨S2x1x4x128x128, .f32⟩
  | 11 => ⟨S2x4x128x128, .f32⟩
  | 12 => ⟨S2x4x128x128, .f32⟩
  | 13 => ⟨S2x4x128x128, .f32⟩
  | 14 => ⟨S2x4x128x128, .f32⟩
  | 15 => ⟨S2x1x4x128x128, .f32⟩
  | 16 => ⟨S2x4x128x128, .f32⟩
  | 17 => ⟨S2x4x128x128, .f32⟩
  | 18 => ⟨S2x4x128x128, .f32⟩
  | 19 => ⟨S2x4x128x128, .f32⟩
  | 20 => ⟨S2x1x4x128x128, .f32⟩
  | 21 => ⟨S2x4x128x128, .f32⟩
  | 22 => ⟨S2x4x128x128, .f32⟩
  | 23 => ⟨S2x4x128x128, .f32⟩
  | 24 => ⟨S2x4x128x128, .f32⟩
  | 25 => ⟨S2x1x4x128x128, .f32⟩
  | 26 => ⟨S2x4x128x128, .f32⟩
  | 27 => ⟨S2x4x128x128, .f32⟩
  | 28 => ⟨S2x4x128x128, .f32⟩
  | 29 => ⟨S2x4x128x128, .f32⟩
  | 30 => ⟨S2x1x4x128x128, .f32⟩
  | 31 => ⟨S2x4x128x128, .f32⟩
  | 32 => ⟨S2x4x128x128, .f32⟩
  | 33 => ⟨S2x4x128x128, .f32⟩
  | 34 => ⟨S2x4x128x128, .f32⟩
  | 35 => ⟨S2x1x4x128x128, .f32⟩
  | 36 => ⟨S2x4x128x128, .f32⟩
  | 37 => ⟨S2x4x128x128, .f32⟩
  | 38 => ⟨S2x4x128x128, .f32⟩
  | 39 => ⟨S2x4x128x128, .f32⟩
  | 40 => ⟨S2x1x4x128x128, .f32⟩
  | 41 => ⟨S2x4x128x128, .f32⟩
  | 42 => ⟨S2x4x128x128, .f32⟩
  | 43 => ⟨S2x4x128x128, .f32⟩
  | 44 => ⟨S2x4x128x128, .f32⟩
  | 45 => ⟨S2x1x4x128x128, .f32⟩
  | 46 => ⟨S2x4x128x128, .f32⟩
  | 47 => ⟨S2x4x128x128, .f32⟩
  | 48 => ⟨S2x4x128x128, .f32⟩
  | 49 => ⟨S2x4x128x128, .f32⟩
  | 50 => ⟨S2x1x4x128x128, .f32⟩
  | 51 => ⟨S2x4x128x128, .f32⟩
  | 52 => ⟨S2x4x128x128, .f32⟩
  | 53 => ⟨S2x4x128x128, .f32⟩
  | 54 => ⟨S2x4x128x128, .f32⟩
  | 55 => ⟨S2x1x4x128x128, .f32⟩
  | 56 => ⟨S2x4x128x128, .f32⟩
  | 57 => ⟨S2x4x128x128, .f32⟩
  | 58 => ⟨S2x4x128x128, .f32⟩
  | 59 => ⟨S2x4x128x128, .f32⟩
  | 60 => ⟨S2x1x4x128x128, .f32⟩
  | 61 => ⟨S2x4x128x128, .f32⟩
  | 62 => ⟨S2x4x128x128, .f32⟩
  | 63 => ⟨S2x4x128x128, .f32⟩
  | 64 => ⟨S2x4x128x128, .f32⟩
  | 65 => ⟨S2x1x4x128x128, .f32⟩
  | 66 => ⟨S2x4x128x128, .f32⟩
  | 67 => ⟨S2x4x128x128, .f32⟩
  | 68 => ⟨S2x1x4x128x128, .f32⟩
  | 69 => ⟨S2x1x4x128x128, .f32⟩
  | 70 => ⟨S2x1x4x128x128, .f32⟩
  | 71 => ⟨S2x1x4x128x128, .f32⟩
  | 72 => ⟨S2x1x4x128x128, .f32⟩
  | 73 => ⟨S2x1x4x128x128, .f32⟩
  | 74 => ⟨S2x1x4x128x128, .f32⟩
  | 75 => ⟨S2x1x4x128x128, .f32⟩
  | 76 => ⟨S2x1x4x128x128, .f32⟩
  | 77 => ⟨S2x1x4x128x128, .f32⟩
  | 78 => ⟨S2x1x4x128x128, .f32⟩
  | 79 => ⟨S2x1x4x128x128, .f32⟩
  | 80 => ⟨S2x1x4x128x128, .f32⟩
  | 81 => ⟨S2x1x4x128x128, .f32⟩
  | 82 => ⟨S2x1x4x128x128, .f32⟩
  | 83 => ⟨S2x1x4x128x128, .f32⟩
  | 84 => ⟨S2x16x4x128x128, .f32⟩
  | 85 => ⟨S_, .f32⟩
  | 86 => ⟨S128, .f32⟩
  | 87 => ⟨S128, .f32⟩
  | 88 => ⟨S128x1, .f32⟩
  | 89 => ⟨S1x4, .f32⟩
  | 90 => ⟨S128x4, .f32⟩
  | 91 => ⟨S128x4, .f32⟩
  | 92 => ⟨S128x4, .f32⟩
  | 93 => ⟨S128x4, .f32⟩
  | 94 => ⟨S1x1x128x4x1, .f32⟩
  | 95 => ⟨S2x16x128x4x128, .f32⟩
  | 96 => ⟨S2x16x128x4x128, .f32⟩
  | 97 => ⟨S2x16x4x128x128, .f32⟩
  | 98 => ⟨S2x16x128x4x128, .f32⟩
  | 99 => ⟨S2x16x128x4x128, .f32⟩
  | 100 => ⟨S2x2048x4x128, .f32⟩
  | 101 => ⟨S2x256x4x128, .f32⟩
  | 102 => ⟨S2x2048x4x128, .f32⟩
  | 103 => ⟨S2x2304x4x128, .f32⟩
  | 104 => ⟨S2x2304x512, .f32⟩
  | 105 => ⟨S2x2304x4x128, .f32⟩
  | 106 => ⟨S2x256x4x128, .f32⟩
  | 107 => ⟨S2x2048x4x128, .f32⟩
  | 108 => ⟨S2x2048x4x128, .f32⟩
  | 109 => ⟨S2x256x4x128, .f32⟩
  | 110 => ⟨S2x16x128x4x128, .f32⟩
  | 111 => ⟨S2x16x4x128x128, .f32⟩
  | 112 => ⟨S2x16x4x128x128, .f32⟩
  | 113 => ⟨S2x16x4x128x128, .f32⟩
  | 114 => ⟨S2x1x4x128x128, .f32⟩
  | 115 => ⟨S2x4x128x128, .f32⟩
  | 116 => ⟨S2x1x4x128x128, .f32⟩
  | 117 => ⟨S2x4x128x128, .f32⟩
  | 118 => ⟨S2x1x4x128x128, .f32⟩
  | 119 => ⟨S2x4x128x128, .f32⟩
  | 120 => ⟨S2x1x4x128x128, .f32⟩
  | 121 => ⟨S2x4x128x128, .f32⟩
  | 122 => ⟨S2x1x4x128x128, .f32⟩
  | 123 => ⟨S2x4x128x128, .f32⟩
  | 124 => ⟨S2x1x4x128x128, .f32⟩
  | 125 => ⟨S2x4x128x128, .f32⟩
  | 126 => ⟨S2x1x4x128x128, .f32⟩
  | 127 => ⟨S2x4x128x128, .f32⟩
  | _ => ⟨S2x2304x512, .f32⟩

abbrev hbmTy0_6 (i : Nat) : BufTy := match i % 128 with
  | 0 => ⟨S2x1x4x128x128, .f32⟩
  | 1 => ⟨S2x4x128x128, .f32⟩
  | 2 => ⟨S2x1x4x128x128, .f32⟩
  | 3 => ⟨S2x4x128x128, .f32⟩
  | 4 => ⟨S2x1x4x128x128, .f32⟩
  | 5 => ⟨S2x4x128x128, .f32⟩
  | 6 => ⟨S2x1x4x128x128, .f32⟩
  | 7 => ⟨S2x4x128x128, .f32⟩
  | 8 => ⟨S2x1x4x128x128, .f32⟩
  | 9 => ⟨S2x4x128x128, .f32⟩
  | 10 => ⟨S2x1x4x128x128, .f32⟩
  | 11 => ⟨S2x4x128x128, .f32⟩
  | 12 => ⟨S2x1x4x128x128, .f32⟩
  | 13 => ⟨S2x4x128x128, .f32⟩
  | 14 => ⟨S2x1x4x128x128, .f32⟩
  | 15 => ⟨S2x4x128x128, .f32⟩
  | 16 => ⟨S2x1x4x128x128, .f32⟩
  | 17 => ⟨S2x4x128x128, .f32⟩
  | 18 => ⟨S2x1x4x128x128, .f32⟩
  | 19 => ⟨S_, .f32⟩
  | 20 => ⟨S2x16x4x128x128, .f32⟩
  | 21 => ⟨S2x4x128x128, .f32⟩
  | 22 => ⟨S2x4x128x128, .f32⟩
  | 23 => ⟨S2x4x128x128, .f32⟩
  | 24 => ⟨S2x1x4x128x128, .f32⟩
  | 25 => ⟨S_, .f32⟩
  | 26 => ⟨S2x16x4x128x128, .f32⟩
  | 27 => ⟨S2x16x4x128x128, .f32⟩
  | 28 => ⟨S2x4x128x128, .f32⟩
  | 29 => ⟨S2x4x128x128, .f32⟩
  | 30 => ⟨S2x4x128x128, .f32⟩
  | 31 => ⟨S2x1x4x128x128, .f32⟩
  | 32 => ⟨S_, .f32⟩
  | 33 => ⟨S2x16x4x128x128, .f32⟩
  | 34 => ⟨S2x16x4x128x128, .f32⟩
  | 35 => ⟨S2x4x128x128, .f32⟩
  | 36 => ⟨S2x4x128x128, .f32⟩
  | 37 => ⟨S2x4x128x128, .f32⟩
  | 38 => ⟨S2x1x4x128x128, .f32⟩
  | 39 => ⟨S_, .f32⟩
  | 40 => ⟨S2x16x4x128x128, .f32⟩
  | 41 => ⟨S2x16x4x128x128, .f32⟩
  | 42 => ⟨S2x4x128x128, .f32⟩
  | 43 => ⟨S2x4x128x128, .f32⟩
  | 44 => ⟨S2x4x128x128, .f32⟩
  | 45 => ⟨S2x1x4x128x128, .f32⟩
  | 46 => ⟨S_, .f32⟩
  | 47 => ⟨S2x16x4x128x128, .f32⟩
  | 48 => ⟨S2x16x4x128x128, .f32⟩
  | 49 => ⟨S2x4x128x128, .f32⟩
  | 50 => ⟨S2x4x128x128, .f32⟩
  | 51 => ⟨S2x4x128x128, .f32⟩
  | 52 => ⟨S2x1x4x128x128, .f32⟩
  | 53 => ⟨S_, .f32⟩
  | 54 => ⟨S2x16x4x128x128, .f32⟩
  | 55 => ⟨S2x16x4x128x128, .f32⟩
  | 56 => ⟨S2x4x128x128, .f32⟩
  | 57 => ⟨S2x4x128x128, .f32⟩
  | 58 => ⟨S2x4x128x128, .f32⟩
  | 59 => ⟨S2x1x4x128x128, .f32⟩
  | 60 => ⟨S_, .f32⟩
  | 61 => ⟨S2x16x4x128x128, .f32⟩
  | 62 => ⟨S2x16x4x128x128, .f32⟩
  | 63 => ⟨S2x4x128x128, .f32⟩
  | 64 => ⟨S2x4x128x128, .f32⟩
  | 65 => ⟨S2x4x128x128, .f32⟩
  | 66 => ⟨S2x1x4x128x128, .f32⟩
  | 67 => ⟨S_, .f32⟩
  | 68 => ⟨S2x16x4x128x128, .f32⟩
  | 69 => ⟨S2x16x4x128x128, .f32⟩
  | 70 => ⟨S2x4x128x128, .f32⟩
  | 71 => ⟨S2x4x128x128, .f32⟩
  | 72 => ⟨S2x4x128x128, .f32⟩
  | 73 => ⟨S2x1x4x128x128, .f32⟩
  | 74 => ⟨S_, .f32⟩
  | 75 => ⟨S2x16x4x128x128, .f32⟩
  | 76 => ⟨S2x16x4x128x128, .f32⟩
  | 77 => ⟨S2x4x128x128, .f32⟩
  | 78 => ⟨S2x4x128x128, .f32⟩
  | 79 => ⟨S2x4x128x128, .f32⟩
  | 80 => ⟨S2x1x4x128x128, .f32⟩
  | 81 => ⟨S_, .f32⟩
  | 82 => ⟨S2x16x4x128x128, .f32⟩
  | 83 => ⟨S2x16x4x128x128, .f32⟩
  | 84 => ⟨S2x4x128x128, .f32⟩
  | 85 => ⟨S2x4x128x128, .f32⟩
  | 86 => ⟨S2x4x128x128, .f32⟩
  | 87 => ⟨S2x1x4x128x128, .f32⟩
  | 88 => ⟨S_, .f32⟩
  | 89 => ⟨S2x16x4x128x128, .f32⟩
  | 90 => ⟨S2x16x4x128x128, .f32⟩
  | 91 => ⟨S2x4x128x128, .f32⟩
  | 92 => ⟨S2x4x128x128, .f32⟩
  | 93 => ⟨S2x4x128x128, .f32⟩
  | 94 => ⟨S2x1x4x128x128, .f32⟩
  | 95 => ⟨S_, .f32⟩
  | 96 => ⟨S2x16x4x128x128, .f32⟩
  | 97 => ⟨S2x16x4x128x128, .f32⟩
  | 98 => ⟨S2x4x128x128, .f32⟩
  | 99 => ⟨S2x4x128x128, .f32⟩
  | 100 => ⟨S2x4x128x128, .f32⟩
  | 101 => ⟨S2x1x4x128x128, .f32⟩
  | 102 => ⟨S_, .f32⟩
  | 103 => ⟨S2x16x4x128x128, .f32⟩
  | 104 => ⟨S2x16x4x128x128, .f32⟩
  | 105 => ⟨S2x4x128x128, .f32⟩
  | 106 => ⟨S2x4x128x128, .f32⟩
  | 107 => ⟨S2x4x128x128, .f32⟩
  | 108 => ⟨S2x1x4x128x128, .f32⟩
  | 109 => ⟨S_, .f32⟩
  | 110 => ⟨S2x16x4x128x128, .f32⟩
  | 111 => ⟨S2x16x4x128x128, .f32⟩
  | 112 => ⟨S2x4x128x128, .f32⟩
  | 113 => ⟨S2x4x128x128, .f32⟩
  | 114 => ⟨S2x4x128x128, .f32⟩
  | 115 => ⟨S2x1x4x128x128, .f32⟩
  | 116 => ⟨S_, .f32⟩
  | 117 => ⟨S2x16x4x128x128, .f32⟩
  | 118 => ⟨S2x16x4x128x128, .f32⟩
  | 119 => ⟨S2x4x128x128, .f32⟩
  | 120 => ⟨S2x4x128x128, .f32⟩
  | 121 => ⟨S2x4x128x128, .f32⟩
  | 122 => ⟨S2x16x4x128x128, .f32⟩
  | 123 => ⟨S2x16x128x4x128, .f32⟩
  | 124 => ⟨S2x16x4x128x128, .f32⟩
  | 125 => ⟨S2x16x4x128x128, .f32⟩
  | 126 => ⟨S2x16x128x4x128, .f32⟩
  | 127 => ⟨S2x16x128x4x128, .f32⟩
  | _ => ⟨S2x2304x512, .f32⟩

abbrev hbmTy0_7 (i : Nat) : BufTy := match i % 128 with
  | 0 => ⟨S2x2048x4x128, .f32⟩
  | 1 => ⟨S2x2048x4x128, .f32⟩
  | 2 => ⟨S_, .f32⟩
  | 3 => ⟨S2x2304x4x128, .f32⟩
  | 4 => ⟨S2x2x128x4x128, .f32⟩
  | 5 => ⟨S2x2x4x128x128, .f32⟩
  | 6 => ⟨S2x2x4x128x128, .f32⟩
  | 7 => ⟨S2x2x4x128x128, .f32⟩
  | 8 => ⟨S2x1x4x128x128, .f32⟩
  | 9 => ⟨S2x4x128x128, .f32⟩
  | 10 => ⟨S2x1x4x128x128, .f32⟩
  | 11 => ⟨S2x4x128x128, .f32⟩
  | 12 => ⟨S2x1x4x128x128, .f32⟩
  | 13 => ⟨S_, .f32⟩
  | 14 => ⟨S2x2x4x128x128, .f32⟩
  | 15 => ⟨S2x4x128x128, .f32⟩
  | 16 => ⟨S2x4x128x128, .f32⟩
  | 17 => ⟨S2x4x128x128, .f32⟩
  | 18 => ⟨S2x1x4x128x128, .f32⟩
  | 19 => ⟨S_, .f32⟩
  | 20 => ⟨S2x2x4x128x128, .f32⟩
  | 21 => ⟨S2x2x4x128x128, .f32⟩
  | 22 => ⟨S2x2x4x128x128, .f32⟩
  | 23 => ⟨S2x2x128x4x128, .f32⟩
  | 24 => ⟨S2x2x4x128x128, .f32⟩
  | 25 => ⟨S2x2x4x128x128, .f32⟩
  | 26 => ⟨S2x2x128x4x128, .f32⟩
  | 27 => ⟨S2x2x128x4x128, .f32⟩
  | 28 => ⟨S2x256x4x128, .f32⟩
  | 29 => ⟨S2x256x4x128, .f32⟩
  | 30 => ⟨S_, .f32⟩
  | 31 => ⟨S2x2304x4x128, .f32⟩
  | 32 => ⟨S2x2304x4x128, .f32⟩
  | 33 => ⟨S2x2304x512, .f32⟩
  | _ => ⟨S2x2304x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x2304x512, .f32⟩

abbrev bufTy : (tb : Table) → Fin (tcTables nBuf tb) → BufTy
  | .hbm, ⟨i, _⟩ => hbmTy i
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_4 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_5 : Ref sig .tc := ⟨.hbm, 94, rfl⟩
abbrev main_v64 : Ref sig .tc := ⟨.hbm, 95, rfl⟩
abbrev main_cst_6 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_7 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_8 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_9 : Ref sig .tc := ⟨.hbm, 137, rfl⟩
abbrev main_call2_v0 : Ref sig .tc := ⟨.hbm, 138, rfl⟩
abbrev main_call2_v1 : Ref sig .tc := ⟨.hbm, 139, rfl⟩
abbrev main_call2_v2 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_10 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_11 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_cst_12 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_cst_13 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_cst_14 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_cst_15 : Ref sig .tc := ⟨.hbm, 334, rfl⟩
abbrev main_v291 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_cst_16 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_cst_17 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_cst_18 : Ref sig .tc := ⟨.hbm, 355, rfl⟩
abbrev main_v309 : Ref sig .tc := ⟨.hbm, 356, rfl⟩
abbrev main_v310 : Ref sig .tc := ⟨.hbm, 357, rfl⟩
abbrev main_v311 : Ref sig .tc := ⟨.hbm, 358, rfl⟩
abbrev main_v312 : Ref sig .tc := ⟨.hbm, 359, rfl⟩
abbrev main_v313 : Ref sig .tc := ⟨.hbm, 360, rfl⟩
abbrev main_v314 : Ref sig .tc := ⟨.hbm, 361, rfl⟩
abbrev main_cst_19 : Ref sig .tc := ⟨.hbm, 362, rfl⟩
abbrev main_v315 : Ref sig .tc := ⟨.hbm, 363, rfl⟩
abbrev main_v316 : Ref sig .tc := ⟨.hbm, 364, rfl⟩
abbrev main_v317 : Ref sig .tc := ⟨.hbm, 365, rfl⟩
abbrev main_v318 : Ref sig .tc := ⟨.hbm, 366, rfl⟩
abbrev main_v319 : Ref sig .tc := ⟨.hbm, 367, rfl⟩
abbrev main_v320 : Ref sig .tc := ⟨.hbm, 368, rfl⟩
abbrev main_cst_20 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_cst_21 : Ref sig .tc := ⟨.hbm, 376, rfl⟩
abbrev main_v327 : Ref sig .tc := ⟨.hbm, 377, rfl⟩
abbrev main_v328 : Ref sig .tc := ⟨.hbm, 378, rfl⟩
abbrev main_v329 : Ref sig .tc := ⟨.hbm, 379, rfl⟩
abbrev main_v330 : Ref sig .tc := ⟨.hbm, 380, rfl⟩
abbrev main_v331 : Ref sig .tc := ⟨.hbm, 381, rfl⟩
abbrev main_v332 : Ref sig .tc := ⟨.hbm, 382, rfl⟩
abbrev main_cst_22 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_cst_23 : Ref sig .tc := ⟨.hbm, 390, rfl⟩
abbrev main_v339 : Ref sig .tc := ⟨.hbm, 391, rfl⟩
abbrev main_v340 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_v344 : Ref sig .tc := ⟨.hbm, 396, rfl⟩
abbrev main_cst_24 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_cst_25 : Ref sig .tc := ⟨.hbm, 404, rfl⟩
abbrev main_v351 : Ref sig .tc := ⟨.hbm, 405, rfl⟩
abbrev main_v352 : Ref sig .tc := ⟨.hbm, 406, rfl⟩
abbrev main_v353 : Ref sig .tc := ⟨.hbm, 407, rfl⟩
abbrev main_v354 : Ref sig .tc := ⟨.hbm, 408, rfl⟩
abbrev main_v355 : Ref sig .tc := ⟨.hbm, 409, rfl⟩
abbrev main_v356 : Ref sig .tc := ⟨.hbm, 410, rfl⟩
abbrev main_cst_26 : Ref sig .tc := ⟨.hbm, 411, rfl⟩
abbrev main_v357 : Ref sig .tc := ⟨.hbm, 412, rfl⟩
abbrev main_v358 : Ref sig .tc := ⟨.hbm, 413, rfl⟩
abbrev main_v359 : Ref sig .tc := ⟨.hbm, 414, rfl⟩
abbrev main_v360 : Ref sig .tc := ⟨.hbm, 415, rfl⟩
abbrev main_v361 : Ref sig .tc := ⟨.hbm, 416, rfl⟩
abbrev main_v362 : Ref sig .tc := ⟨.hbm, 417, rfl⟩
abbrev main_cst_27 : Ref sig .tc := ⟨.hbm, 418, rfl⟩
abbrev main_v363 : Ref sig .tc := ⟨.hbm, 419, rfl⟩
abbrev main_v364 : Ref sig .tc := ⟨.hbm, 420, rfl⟩
abbrev main_v365 : Ref sig .tc := ⟨.hbm, 421, rfl⟩
abbrev main_v366 : Ref sig .tc := ⟨.hbm, 422, rfl⟩
abbrev main_v367 : Ref sig .tc := ⟨.hbm, 423, rfl⟩
abbrev main_v368 : Ref sig .tc := ⟨.hbm, 424, rfl⟩
abbrev main_v369 : Ref sig .tc := ⟨.hbm, 425, rfl⟩
abbrev main_v370 : Ref sig .tc := ⟨.hbm, 426, rfl⟩
abbrev main_v371 : Ref sig .tc := ⟨.hbm, 427, rfl⟩
abbrev main_v372 : Ref sig .tc := ⟨.hbm, 428, rfl⟩
abbrev main_v373 : Ref sig .tc := ⟨.hbm, 429, rfl⟩
abbrev main_v374 : Ref sig .tc := ⟨.hbm, 430, rfl⟩
abbrev main_cst_28 : Ref sig .tc := ⟨.hbm, 431, rfl⟩
abbrev main_v375 : Ref sig .tc := ⟨.hbm, 432, rfl⟩
abbrev main_v376 : Ref sig .tc := ⟨.hbm, 433, rfl⟩
abbrev main_v377 : Ref sig .tc := ⟨.hbm, 434, rfl⟩
abbrev main_v378 : Ref sig .tc := ⟨.hbm, 435, rfl⟩
abbrev main_v379 : Ref sig .tc := ⟨.hbm, 436, rfl⟩
abbrev main_v380 : Ref sig .tc := ⟨.hbm, 437, rfl⟩
abbrev main_v381 : Ref sig .tc := ⟨.hbm, 438, rfl⟩
abbrev main_v382 : Ref sig .tc := ⟨.hbm, 439, rfl⟩
abbrev main_v383 : Ref sig .tc := ⟨.hbm, 440, rfl⟩
abbrev main_v384 : Ref sig .tc := ⟨.hbm, 441, rfl⟩
abbrev main_cst_29 : Ref sig .tc := ⟨.hbm, 442, rfl⟩
abbrev main_v385 : Ref sig .tc := ⟨.hbm, 443, rfl⟩
abbrev main_v386 : Ref sig .tc := ⟨.hbm, 444, rfl⟩
abbrev main_v387 : Ref sig .tc := ⟨.hbm, 445, rfl⟩
abbrev main_v388 : Ref sig .tc := ⟨.hbm, 446, rfl⟩
abbrev main_v389 : Ref sig .tc := ⟨.hbm, 447, rfl⟩
abbrev main_cst_30 : Ref sig .tc := ⟨.hbm, 448, rfl⟩
abbrev main_v390 : Ref sig .tc := ⟨.hbm, 449, rfl⟩
abbrev main_v391 : Ref sig .tc := ⟨.hbm, 450, rfl⟩
abbrev main_v392 : Ref sig .tc := ⟨.hbm, 451, rfl⟩
abbrev main_v393 : Ref sig .tc := ⟨.hbm, 452, rfl⟩
abbrev main_v394 : Ref sig .tc := ⟨.hbm, 453, rfl⟩
abbrev main_v395 : Ref sig .tc := ⟨.hbm, 454, rfl⟩
abbrev main_v396 : Ref sig .tc := ⟨.hbm, 455, rfl⟩
abbrev main_v397 : Ref sig .tc := ⟨.hbm, 456, rfl⟩
abbrev main_v398 : Ref sig .tc := ⟨.hbm, 457, rfl⟩
abbrev main_cst_31 : Ref sig .tc := ⟨.hbm, 458, rfl⟩
abbrev main_v399 : Ref sig .tc := ⟨.hbm, 459, rfl⟩
abbrev main_v400 : Ref sig .tc := ⟨.hbm, 460, rfl⟩
abbrev main_v401 : Ref sig .tc := ⟨.hbm, 461, rfl⟩
abbrev main_call3_v0 : Ref sig .tc := ⟨.hbm, 462, rfl⟩
abbrev main_call3_call0_cst : Ref sig .tc := ⟨.hbm, 463, rfl⟩
abbrev main_call3_call0_v0 : Ref sig .tc := ⟨.hbm, 464, rfl⟩
abbrev main_call3_call0_v1 : Ref sig .tc := ⟨.hbm, 465, rfl⟩
abbrev main_call3_call0_v2 : Ref sig .tc := ⟨.hbm, 466, rfl⟩
abbrev main_call3_call0_v3 : Ref sig .tc := ⟨.hbm, 467, rfl⟩
abbrev main_call3_call0_v4 : Ref sig .tc := ⟨.hbm, 468, rfl⟩
abbrev main_call3_call0_v5 : Ref sig .tc := ⟨.hbm, 469, rfl⟩
abbrev main_call3_call0_v6 : Ref sig .tc := ⟨.hbm, 470, rfl⟩
abbrev main_call3_call0_v7 : Ref sig .tc := ⟨.hbm, 471, rfl⟩
abbrev main_call3_call0_v8 : Ref sig .tc := ⟨.hbm, 472, rfl⟩
abbrev main_call3_call0_v9 : Ref sig .tc := ⟨.hbm, 473, rfl⟩
abbrev main_call3_call0_v10 : Ref sig .tc := ⟨.hbm, 474, rfl⟩
abbrev main_call3_call0_v11 : Ref sig .tc := ⟨.hbm, 475, rfl⟩
abbrev main_call3_v1 : Ref sig .tc := ⟨.hbm, 476, rfl⟩
abbrev main_v402 : Ref sig .tc := ⟨.hbm, 477, rfl⟩
abbrev main_v403 : Ref sig .tc := ⟨.hbm, 478, rfl⟩
abbrev main_v404 : Ref sig .tc := ⟨.hbm, 479, rfl⟩
abbrev main_v405 : Ref sig .tc := ⟨.hbm, 480, rfl⟩
abbrev main_cst_32 : Ref sig .tc := ⟨.hbm, 481, rfl⟩
abbrev main_v406 : Ref sig .tc := ⟨.hbm, 482, rfl⟩
abbrev main_v407 : Ref sig .tc := ⟨.hbm, 483, rfl⟩
abbrev main_v408 : Ref sig .tc := ⟨.hbm, 484, rfl⟩
abbrev main_v409 : Ref sig .tc := ⟨.hbm, 485, rfl⟩
abbrev main_v410 : Ref sig .tc := ⟨.hbm, 486, rfl⟩
abbrev main_v411 : Ref sig .tc := ⟨.hbm, 487, rfl⟩
abbrev main_v412 : Ref sig .tc := ⟨.hbm, 488, rfl⟩
abbrev main_v413 : Ref sig .tc := ⟨.hbm, 489, rfl⟩
abbrev main_v414 : Ref sig .tc := ⟨.hbm, 490, rfl⟩
abbrev main_v415 : Ref sig .tc := ⟨.hbm, 491, rfl⟩
abbrev main_v416 : Ref sig .tc := ⟨.hbm, 492, rfl⟩
abbrev main_v417 : Ref sig .tc := ⟨.hbm, 493, rfl⟩
abbrev main_v418 : Ref sig .tc := ⟨.hbm, 494, rfl⟩
abbrev main_v419 : Ref sig .tc := ⟨.hbm, 495, rfl⟩
abbrev main_v420 : Ref sig .tc := ⟨.hbm, 496, rfl⟩
abbrev main_v421 : Ref sig .tc := ⟨.hbm, 497, rfl⟩
abbrev main_cst_33 : Ref sig .tc := ⟨.hbm, 498, rfl⟩
abbrev main_v422 : Ref sig .tc := ⟨.hbm, 499, rfl⟩
abbrev main_v423 : Ref sig .tc := ⟨.hbm, 500, rfl⟩
abbrev main_v424 : Ref sig .tc := ⟨.hbm, 501, rfl⟩
abbrev main_cst_34 : Ref sig .tc := ⟨.hbm, 502, rfl⟩
abbrev main_v425 : Ref sig .tc := ⟨.hbm, 503, rfl⟩
abbrev main_v426 : Ref sig .tc := ⟨.hbm, 504, rfl⟩
abbrev main_v427 : Ref sig .tc := ⟨.hbm, 505, rfl⟩
abbrev main_v428 : Ref sig .tc := ⟨.hbm, 506, rfl⟩
abbrev main_v429 : Ref sig .tc := ⟨.hbm, 507, rfl⟩
abbrev main_v430 : Ref sig .tc := ⟨.hbm, 508, rfl⟩
abbrev main_v431 : Ref sig .tc := ⟨.hbm, 509, rfl⟩
abbrev main_v432 : Ref sig .tc := ⟨.hbm, 510, rfl⟩
abbrev main_cst_35 : Ref sig .tc := ⟨.hbm, 511, rfl⟩
abbrev main_call7_v0 : Ref sig .tc := ⟨.hbm, 512, rfl⟩
abbrev main_call7_v1 : Ref sig .tc := ⟨.hbm, 513, rfl⟩
abbrev main_call7_v2 : Ref sig .tc := ⟨.hbm, 514, rfl⟩
abbrev main_v433 : Ref sig .tc := ⟨.hbm, 515, rfl⟩
abbrev main_v434 : Ref sig .tc := ⟨.hbm, 516, rfl⟩
abbrev main_v435 : Ref sig .tc := ⟨.hbm, 517, rfl⟩
abbrev main_v436 : Ref sig .tc := ⟨.hbm, 518, rfl⟩
abbrev main_v437 : Ref sig .tc := ⟨.hbm, 519, rfl⟩
abbrev main_v438 : Ref sig .tc := ⟨.hbm, 520, rfl⟩
abbrev main_v439 : Ref sig .tc := ⟨.hbm, 521, rfl⟩
abbrev main_cst_36 : Ref sig .tc := ⟨.hbm, 522, rfl⟩
abbrev main_v440 : Ref sig .tc := ⟨.hbm, 523, rfl⟩
abbrev main_v441 : Ref sig .tc := ⟨.hbm, 524, rfl⟩
abbrev main_v442 : Ref sig .tc := ⟨.hbm, 525, rfl⟩
abbrev main_v443 : Ref sig .tc := ⟨.hbm, 526, rfl⟩
abbrev main_v444 : Ref sig .tc := ⟨.hbm, 527, rfl⟩
abbrev main_v445 : Ref sig .tc := ⟨.hbm, 528, rfl⟩
abbrev main_v446 : Ref sig .tc := ⟨.hbm, 529, rfl⟩
abbrev main_v447 : Ref sig .tc := ⟨.hbm, 530, rfl⟩
abbrev main_v448 : Ref sig .tc := ⟨.hbm, 531, rfl⟩
abbrev main_v449 : Ref sig .tc := ⟨.hbm, 532, rfl⟩
abbrev main_v450 : Ref sig .tc := ⟨.hbm, 533, rfl⟩
abbrev main_v451 : Ref sig .tc := ⟨.hbm, 534, rfl⟩
abbrev main_cst_37 : Ref sig .tc := ⟨.hbm, 535, rfl⟩
abbrev main_v452 : Ref sig .tc := ⟨.hbm, 536, rfl⟩
abbrev main_v453 : Ref sig .tc := ⟨.hbm, 537, rfl⟩
abbrev main_v454 : Ref sig .tc := ⟨.hbm, 538, rfl⟩
abbrev main_v455 : Ref sig .tc := ⟨.hbm, 539, rfl⟩
abbrev main_v456 : Ref sig .tc := ⟨.hbm, 540, rfl⟩
abbrev main_v457 : Ref sig .tc := ⟨.hbm, 541, rfl⟩
abbrev main_v458 : Ref sig .tc := ⟨.hbm, 542, rfl⟩
abbrev main_v459 : Ref sig .tc := ⟨.hbm, 543, rfl⟩
abbrev main_v460 : Ref sig .tc := ⟨.hbm, 544, rfl⟩
abbrev main_v461 : Ref sig .tc := ⟨.hbm, 545, rfl⟩
abbrev main_v462 : Ref sig .tc := ⟨.hbm, 546, rfl⟩
abbrev main_v463 : Ref sig .tc := ⟨.hbm, 547, rfl⟩
abbrev main_v464 : Ref sig .tc := ⟨.hbm, 548, rfl⟩
abbrev main_v465 : Ref sig .tc := ⟨.hbm, 549, rfl⟩
abbrev main_v466 : Ref sig .tc := ⟨.hbm, 550, rfl⟩
abbrev main_v467 : Ref sig .tc := ⟨.hbm, 551, rfl⟩
abbrev main_v468 : Ref sig .tc := ⟨.hbm, 552, rfl⟩
abbrev main_cst_38 : Ref sig .tc := ⟨.hbm, 553, rfl⟩
abbrev main_v469 : Ref sig .tc := ⟨.hbm, 554, rfl⟩
abbrev main_cst_39 : Ref sig .tc := ⟨.hbm, 555, rfl⟩
abbrev main_v470 : Ref sig .tc := ⟨.hbm, 556, rfl⟩
abbrev main_v471 : Ref sig .tc := ⟨.hbm, 557, rfl⟩
abbrev main_v472 : Ref sig .tc := ⟨.hbm, 558, rfl⟩
abbrev main_v473 : Ref sig .tc := ⟨.hbm, 559, rfl⟩
abbrev main_v474 : Ref sig .tc := ⟨.hbm, 560, rfl⟩
abbrev main_v475 : Ref sig .tc := ⟨.hbm, 561, rfl⟩
abbrev main_v476 : Ref sig .tc := ⟨.hbm, 562, rfl⟩
abbrev main_v477 : Ref sig .tc := ⟨.hbm, 563, rfl⟩
abbrev main_v478 : Ref sig .tc := ⟨.hbm, 564, rfl⟩
abbrev main_v479 : Ref sig .tc := ⟨.hbm, 565, rfl⟩
abbrev main_v480 : Ref sig .tc := ⟨.hbm, 566, rfl⟩
abbrev main_v481 : Ref sig .tc := ⟨.hbm, 567, rfl⟩
abbrev main_v482 : Ref sig .tc := ⟨.hbm, 568, rfl⟩
abbrev main_v483 : Ref sig .tc := ⟨.hbm, 569, rfl⟩
abbrev main_v484 : Ref sig .tc := ⟨.hbm, 570, rfl⟩
abbrev main_v485 : Ref sig .tc := ⟨.hbm, 571, rfl⟩
abbrev main_v486 : Ref sig .tc := ⟨.hbm, 572, rfl⟩
abbrev main_v487 : Ref sig .tc := ⟨.hbm, 573, rfl⟩
abbrev main_v488 : Ref sig .tc := ⟨.hbm, 574, rfl⟩
abbrev main_v489 : Ref sig .tc := ⟨.hbm, 575, rfl⟩
abbrev main_v490 : Ref sig .tc := ⟨.hbm, 576, rfl⟩
abbrev main_v491 : Ref sig .tc := ⟨.hbm, 577, rfl⟩
abbrev main_v492 : Ref sig .tc := ⟨.hbm, 578, rfl⟩
abbrev main_v493 : Ref sig .tc := ⟨.hbm, 579, rfl⟩
abbrev main_v494 : Ref sig .tc := ⟨.hbm, 580, rfl⟩
abbrev main_v495 : Ref sig .tc := ⟨.hbm, 581, rfl⟩
abbrev main_v496 : Ref sig .tc := ⟨.hbm, 582, rfl⟩
abbrev main_v497 : Ref sig .tc := ⟨.hbm, 583, rfl⟩
abbrev main_v498 : Ref sig .tc := ⟨.hbm, 584, rfl⟩
abbrev main_v499 : Ref sig .tc := ⟨.hbm, 585, rfl⟩
abbrev main_cst_40 : Ref sig .tc := ⟨.hbm, 586, rfl⟩
abbrev main_v500 : Ref sig .tc := ⟨.hbm, 587, rfl⟩
abbrev main_v501 : Ref sig .tc := ⟨.hbm, 588, rfl⟩
abbrev main_v502 : Ref sig .tc := ⟨.hbm, 589, rfl⟩
abbrev main_cst_41 : Ref sig .tc := ⟨.hbm, 590, rfl⟩
abbrev main_v503 : Ref sig .tc := ⟨.hbm, 591, rfl⟩
abbrev main_v504 : Ref sig .tc := ⟨.hbm, 592, rfl⟩
abbrev main_v505 : Ref sig .tc := ⟨.hbm, 593, rfl⟩
abbrev main_v506 : Ref sig .tc := ⟨.hbm, 594, rfl⟩
abbrev main_v507 : Ref sig .tc := ⟨.hbm, 595, rfl⟩
abbrev main_v508 : Ref sig .tc := ⟨.hbm, 596, rfl⟩
abbrev main_v509 : Ref sig .tc := ⟨.hbm, 597, rfl⟩
abbrev main_v510 : Ref sig .tc := ⟨.hbm, 598, rfl⟩
abbrev main_cst_42 : Ref sig .tc := ⟨.hbm, 599, rfl⟩
abbrev main_call11_v0 : Ref sig .tc := ⟨.hbm, 600, rfl⟩
abbrev main_call11_v1 : Ref sig .tc := ⟨.hbm, 601, rfl⟩
abbrev main_call11_v2 : Ref sig .tc := ⟨.hbm, 602, rfl⟩
abbrev main_v511 : Ref sig .tc := ⟨.hbm, 603, rfl⟩
abbrev main_v512 : Ref sig .tc := ⟨.hbm, 604, rfl⟩
abbrev main_v513 : Ref sig .tc := ⟨.hbm, 605, rfl⟩
abbrev main_v514 : Ref sig .tc := ⟨.hbm, 606, rfl⟩
abbrev main_v515 : Ref sig .tc := ⟨.hbm, 607, rfl⟩
abbrev main_v516 : Ref sig .tc := ⟨.hbm, 608, rfl⟩
abbrev main_v517 : Ref sig .tc := ⟨.hbm, 609, rfl⟩
abbrev main_cst_43 : Ref sig .tc := ⟨.hbm, 610, rfl⟩
abbrev main_v518 : Ref sig .tc := ⟨.hbm, 611, rfl⟩
abbrev main_v519 : Ref sig .tc := ⟨.hbm, 612, rfl⟩
abbrev main_v520 : Ref sig .tc := ⟨.hbm, 613, rfl⟩
abbrev main_v521 : Ref sig .tc := ⟨.hbm, 614, rfl⟩
abbrev main_v522 : Ref sig .tc := ⟨.hbm, 615, rfl⟩
abbrev main_v523 : Ref sig .tc := ⟨.hbm, 616, rfl⟩
abbrev main_v524 : Ref sig .tc := ⟨.hbm, 617, rfl⟩
abbrev main_v525 : Ref sig .tc := ⟨.hbm, 618, rfl⟩
abbrev main_v526 : Ref sig .tc := ⟨.hbm, 619, rfl⟩
abbrev main_v527 : Ref sig .tc := ⟨.hbm, 620, rfl⟩
abbrev main_v528 : Ref sig .tc := ⟨.hbm, 621, rfl⟩
abbrev main_v529 : Ref sig .tc := ⟨.hbm, 622, rfl⟩
abbrev main_cst_44 : Ref sig .tc := ⟨.hbm, 623, rfl⟩
abbrev main_v530 : Ref sig .tc := ⟨.hbm, 624, rfl⟩
abbrev main_v531 : Ref sig .tc := ⟨.hbm, 625, rfl⟩
abbrev main_v532 : Ref sig .tc := ⟨.hbm, 626, rfl⟩
abbrev main_v533 : Ref sig .tc := ⟨.hbm, 627, rfl⟩
abbrev main_v534 : Ref sig .tc := ⟨.hbm, 628, rfl⟩
abbrev main_v535 : Ref sig .tc := ⟨.hbm, 629, rfl⟩
abbrev main_v536 : Ref sig .tc := ⟨.hbm, 630, rfl⟩
abbrev main_v537 : Ref sig .tc := ⟨.hbm, 631, rfl⟩
abbrev main_v538 : Ref sig .tc := ⟨.hbm, 632, rfl⟩
abbrev main_v539 : Ref sig .tc := ⟨.hbm, 633, rfl⟩
abbrev main_v540 : Ref sig .tc := ⟨.hbm, 634, rfl⟩
abbrev main_v541 : Ref sig .tc := ⟨.hbm, 635, rfl⟩
abbrev main_v542 : Ref sig .tc := ⟨.hbm, 636, rfl⟩
abbrev main_v543 : Ref sig .tc := ⟨.hbm, 637, rfl⟩
abbrev main_v544 : Ref sig .tc := ⟨.hbm, 638, rfl⟩
abbrev main_v545 : Ref sig .tc := ⟨.hbm, 639, rfl⟩
abbrev main_v546 : Ref sig .tc := ⟨.hbm, 640, rfl⟩
abbrev main_v547 : Ref sig .tc := ⟨.hbm, 641, rfl⟩
abbrev main_v548 : Ref sig .tc := ⟨.hbm, 642, rfl⟩
abbrev main_v549 : Ref sig .tc := ⟨.hbm, 643, rfl⟩
abbrev main_v550 : Ref sig .tc := ⟨.hbm, 644, rfl⟩
abbrev main_v551 : Ref sig .tc := ⟨.hbm, 645, rfl⟩
abbrev main_v552 : Ref sig .tc := ⟨.hbm, 646, rfl⟩
abbrev main_v553 : Ref sig .tc := ⟨.hbm, 647, rfl⟩
abbrev main_v554 : Ref sig .tc := ⟨.hbm, 648, rfl⟩
abbrev main_v555 : Ref sig .tc := ⟨.hbm, 649, rfl⟩
abbrev main_v556 : Ref sig .tc := ⟨.hbm, 650, rfl⟩
abbrev main_v557 : Ref sig .tc := ⟨.hbm, 651, rfl⟩
abbrev main_v558 : Ref sig .tc := ⟨.hbm, 652, rfl⟩
abbrev main_v559 : Ref sig .tc := ⟨.hbm, 653, rfl⟩
abbrev main_v560 : Ref sig .tc := ⟨.hbm, 654, rfl⟩
abbrev main_v561 : Ref sig .tc := ⟨.hbm, 655, rfl⟩
abbrev main_v562 : Ref sig .tc := ⟨.hbm, 656, rfl⟩
abbrev main_v563 : Ref sig .tc := ⟨.hbm, 657, rfl⟩
abbrev main_v564 : Ref sig .tc := ⟨.hbm, 658, rfl⟩
abbrev main_v565 : Ref sig .tc := ⟨.hbm, 659, rfl⟩
abbrev main_v566 : Ref sig .tc := ⟨.hbm, 660, rfl⟩
abbrev main_v567 : Ref sig .tc := ⟨.hbm, 661, rfl⟩
abbrev main_v568 : Ref sig .tc := ⟨.hbm, 662, rfl⟩
abbrev main_v569 : Ref sig .tc := ⟨.hbm, 663, rfl⟩
abbrev main_v570 : Ref sig .tc := ⟨.hbm, 664, rfl⟩
abbrev main_v571 : Ref sig .tc := ⟨.hbm, 665, rfl⟩
abbrev main_v572 : Ref sig .tc := ⟨.hbm, 666, rfl⟩
abbrev main_v573 : Ref sig .tc := ⟨.hbm, 667, rfl⟩
abbrev main_v574 : Ref sig .tc := ⟨.hbm, 668, rfl⟩
abbrev main_v575 : Ref sig .tc := ⟨.hbm, 669, rfl⟩
abbrev main_v576 : Ref sig .tc := ⟨.hbm, 670, rfl⟩
abbrev main_v577 : Ref sig .tc := ⟨.hbm, 671, rfl⟩
abbrev main_v578 : Ref sig .tc := ⟨.hbm, 672, rfl⟩
abbrev main_v579 : Ref sig .tc := ⟨.hbm, 673, rfl⟩
abbrev main_v580 : Ref sig .tc := ⟨.hbm, 674, rfl⟩
abbrev main_v581 : Ref sig .tc := ⟨.hbm, 675, rfl⟩
abbrev main_v582 : Ref sig .tc := ⟨.hbm, 676, rfl⟩
abbrev main_v583 : Ref sig .tc := ⟨.hbm, 677, rfl⟩
abbrev main_v584 : Ref sig .tc := ⟨.hbm, 678, rfl⟩
abbrev main_v585 : Ref sig .tc := ⟨.hbm, 679, rfl⟩
abbrev main_v586 : Ref sig .tc := ⟨.hbm, 680, rfl⟩
abbrev main_v587 : Ref sig .tc := ⟨.hbm, 681, rfl⟩
abbrev main_v588 : Ref sig .tc := ⟨.hbm, 682, rfl⟩
abbrev main_v589 : Ref sig .tc := ⟨.hbm, 683, rfl⟩
abbrev main_v590 : Ref sig .tc := ⟨.hbm, 684, rfl⟩
abbrev main_v591 : Ref sig .tc := ⟨.hbm, 685, rfl⟩
abbrev main_v592 : Ref sig .tc := ⟨.hbm, 686, rfl⟩
abbrev main_v593 : Ref sig .tc := ⟨.hbm, 687, rfl⟩
abbrev main_v594 : Ref sig .tc := ⟨.hbm, 688, rfl⟩
abbrev main_v595 : Ref sig .tc := ⟨.hbm, 689, rfl⟩
abbrev main_v596 : Ref sig .tc := ⟨.hbm, 690, rfl⟩
abbrev main_v597 : Ref sig .tc := ⟨.hbm, 691, rfl⟩
abbrev main_v598 : Ref sig .tc := ⟨.hbm, 692, rfl⟩
abbrev main_v599 : Ref sig .tc := ⟨.hbm, 693, rfl⟩
abbrev main_v600 : Ref sig .tc := ⟨.hbm, 694, rfl⟩
abbrev main_v601 : Ref sig .tc := ⟨.hbm, 695, rfl⟩
abbrev main_v602 : Ref sig .tc := ⟨.hbm, 696, rfl⟩
abbrev main_v603 : Ref sig .tc := ⟨.hbm, 697, rfl⟩
abbrev main_v604 : Ref sig .tc := ⟨.hbm, 698, rfl⟩
abbrev main_v605 : Ref sig .tc := ⟨.hbm, 699, rfl⟩
abbrev main_v606 : Ref sig .tc := ⟨.hbm, 700, rfl⟩
abbrev main_v607 : Ref sig .tc := ⟨.hbm, 701, rfl⟩
abbrev main_v608 : Ref sig .tc := ⟨.hbm, 702, rfl⟩
abbrev main_v609 : Ref sig .tc := ⟨.hbm, 703, rfl⟩
abbrev main_v610 : Ref sig .tc := ⟨.hbm, 704, rfl⟩
abbrev main_v611 : Ref sig .tc := ⟨.hbm, 705, rfl⟩
abbrev main_v612 : Ref sig .tc := ⟨.hbm, 706, rfl⟩
abbrev main_v613 : Ref sig .tc := ⟨.hbm, 707, rfl⟩
abbrev main_v614 : Ref sig .tc := ⟨.hbm, 708, rfl⟩
abbrev main_v615 : Ref sig .tc := ⟨.hbm, 709, rfl⟩
abbrev main_v616 : Ref sig .tc := ⟨.hbm, 710, rfl⟩
abbrev main_v617 : Ref sig .tc := ⟨.hbm, 711, rfl⟩
abbrev main_v618 : Ref sig .tc := ⟨.hbm, 712, rfl⟩
abbrev main_v619 : Ref sig .tc := ⟨.hbm, 713, rfl⟩
abbrev main_v620 : Ref sig .tc := ⟨.hbm, 714, rfl⟩
abbrev main_v621 : Ref sig .tc := ⟨.hbm, 715, rfl⟩
abbrev main_v622 : Ref sig .tc := ⟨.hbm, 716, rfl⟩
abbrev main_v623 : Ref sig .tc := ⟨.hbm, 717, rfl⟩
abbrev main_v624 : Ref sig .tc := ⟨.hbm, 718, rfl⟩
abbrev main_v625 : Ref sig .tc := ⟨.hbm, 719, rfl⟩
abbrev main_v626 : Ref sig .tc := ⟨.hbm, 720, rfl⟩
abbrev main_v627 : Ref sig .tc := ⟨.hbm, 721, rfl⟩
abbrev main_v628 : Ref sig .tc := ⟨.hbm, 722, rfl⟩
abbrev main_v629 : Ref sig .tc := ⟨.hbm, 723, rfl⟩
abbrev main_v630 : Ref sig .tc := ⟨.hbm, 724, rfl⟩
abbrev main_cst_45 : Ref sig .tc := ⟨.hbm, 725, rfl⟩
abbrev main_v631 : Ref sig .tc := ⟨.hbm, 726, rfl⟩
abbrev main_v632 : Ref sig .tc := ⟨.hbm, 727, rfl⟩
abbrev main_v633 : Ref sig .tc := ⟨.hbm, 728, rfl⟩
abbrev main_v634 : Ref sig .tc := ⟨.hbm, 729, rfl⟩
abbrev main_v635 : Ref sig .tc := ⟨.hbm, 730, rfl⟩
abbrev main_v636 : Ref sig .tc := ⟨.hbm, 731, rfl⟩
abbrev main_v637 : Ref sig .tc := ⟨.hbm, 732, rfl⟩
abbrev main_v638 : Ref sig .tc := ⟨.hbm, 733, rfl⟩
abbrev main_v639 : Ref sig .tc := ⟨.hbm, 734, rfl⟩
abbrev main_v640 : Ref sig .tc := ⟨.hbm, 735, rfl⟩
abbrev main_v641 : Ref sig .tc := ⟨.hbm, 736, rfl⟩
abbrev main_v642 : Ref sig .tc := ⟨.hbm, 737, rfl⟩
abbrev main_v643 : Ref sig .tc := ⟨.hbm, 738, rfl⟩
abbrev main_v644 : Ref sig .tc := ⟨.hbm, 739, rfl⟩
abbrev main_v645 : Ref sig .tc := ⟨.hbm, 740, rfl⟩
abbrev main_v646 : Ref sig .tc := ⟨.hbm, 741, rfl⟩
abbrev main_v647 : Ref sig .tc := ⟨.hbm, 742, rfl⟩
abbrev main_v648 : Ref sig .tc := ⟨.hbm, 743, rfl⟩
abbrev main_v649 : Ref sig .tc := ⟨.hbm, 744, rfl⟩
abbrev main_v650 : Ref sig .tc := ⟨.hbm, 745, rfl⟩
abbrev main_v651 : Ref sig .tc := ⟨.hbm, 746, rfl⟩
abbrev main_v652 : Ref sig .tc := ⟨.hbm, 747, rfl⟩
abbrev main_v653 : Ref sig .tc := ⟨.hbm, 748, rfl⟩
abbrev main_v654 : Ref sig .tc := ⟨.hbm, 749, rfl⟩
abbrev main_v655 : Ref sig .tc := ⟨.hbm, 750, rfl⟩
abbrev main_v656 : Ref sig .tc := ⟨.hbm, 751, rfl⟩
abbrev main_v657 : Ref sig .tc := ⟨.hbm, 752, rfl⟩
abbrev main_v658 : Ref sig .tc := ⟨.hbm, 753, rfl⟩
abbrev main_v659 : Ref sig .tc := ⟨.hbm, 754, rfl⟩
abbrev main_v660 : Ref sig .tc := ⟨.hbm, 755, rfl⟩
abbrev main_v661 : Ref sig .tc := ⟨.hbm, 756, rfl⟩
abbrev main_v662 : Ref sig .tc := ⟨.hbm, 757, rfl⟩
abbrev main_v663 : Ref sig .tc := ⟨.hbm, 758, rfl⟩
abbrev main_v664 : Ref sig .tc := ⟨.hbm, 759, rfl⟩
abbrev main_v665 : Ref sig .tc := ⟨.hbm, 760, rfl⟩
abbrev main_v666 : Ref sig .tc := ⟨.hbm, 761, rfl⟩
abbrev main_v667 : Ref sig .tc := ⟨.hbm, 762, rfl⟩
abbrev main_v668 : Ref sig .tc := ⟨.hbm, 763, rfl⟩
abbrev main_v669 : Ref sig .tc := ⟨.hbm, 764, rfl⟩
abbrev main_v670 : Ref sig .tc := ⟨.hbm, 765, rfl⟩
abbrev main_v671 : Ref sig .tc := ⟨.hbm, 766, rfl⟩
abbrev main_v672 : Ref sig .tc := ⟨.hbm, 767, rfl⟩
abbrev main_v673 : Ref sig .tc := ⟨.hbm, 768, rfl⟩
abbrev main_v674 : Ref sig .tc := ⟨.hbm, 769, rfl⟩
abbrev main_v675 : Ref sig .tc := ⟨.hbm, 770, rfl⟩
abbrev main_v676 : Ref sig .tc := ⟨.hbm, 771, rfl⟩
abbrev main_v677 : Ref sig .tc := ⟨.hbm, 772, rfl⟩
abbrev main_v678 : Ref sig .tc := ⟨.hbm, 773, rfl⟩
abbrev main_v679 : Ref sig .tc := ⟨.hbm, 774, rfl⟩
abbrev main_v680 : Ref sig .tc := ⟨.hbm, 775, rfl⟩
abbrev main_v681 : Ref sig .tc := ⟨.hbm, 776, rfl⟩
abbrev main_v682 : Ref sig .tc := ⟨.hbm, 777, rfl⟩
abbrev main_v683 : Ref sig .tc := ⟨.hbm, 778, rfl⟩
abbrev main_v684 : Ref sig .tc := ⟨.hbm, 779, rfl⟩
abbrev main_v685 : Ref sig .tc := ⟨.hbm, 780, rfl⟩
abbrev main_v686 : Ref sig .tc := ⟨.hbm, 781, rfl⟩
abbrev main_v687 : Ref sig .tc := ⟨.hbm, 782, rfl⟩
abbrev main_v688 : Ref sig .tc := ⟨.hbm, 783, rfl⟩
abbrev main_v689 : Ref sig .tc := ⟨.hbm, 784, rfl⟩
abbrev main_v690 : Ref sig .tc := ⟨.hbm, 785, rfl⟩
abbrev main_v691 : Ref sig .tc := ⟨.hbm, 786, rfl⟩
abbrev main_cst_46 : Ref sig .tc := ⟨.hbm, 787, rfl⟩
abbrev main_v692 : Ref sig .tc := ⟨.hbm, 788, rfl⟩
abbrev main_v693 : Ref sig .tc := ⟨.hbm, 789, rfl⟩
abbrev main_v694 : Ref sig .tc := ⟨.hbm, 790, rfl⟩
abbrev main_v695 : Ref sig .tc := ⟨.hbm, 791, rfl⟩
abbrev main_v696 : Ref sig .tc := ⟨.hbm, 792, rfl⟩
abbrev main_cst_47 : Ref sig .tc := ⟨.hbm, 793, rfl⟩
abbrev main_v697 : Ref sig .tc := ⟨.hbm, 794, rfl⟩
abbrev main_v698 : Ref sig .tc := ⟨.hbm, 795, rfl⟩
abbrev main_v699 : Ref sig .tc := ⟨.hbm, 796, rfl⟩
abbrev main_v700 : Ref sig .tc := ⟨.hbm, 797, rfl⟩
abbrev main_v701 : Ref sig .tc := ⟨.hbm, 798, rfl⟩
abbrev main_v702 : Ref sig .tc := ⟨.hbm, 799, rfl⟩
abbrev main_cst_48 : Ref sig .tc := ⟨.hbm, 800, rfl⟩
abbrev main_v703 : Ref sig .tc := ⟨.hbm, 801, rfl⟩
abbrev main_v704 : Ref sig .tc := ⟨.hbm, 802, rfl⟩
abbrev main_v705 : Ref sig .tc := ⟨.hbm, 803, rfl⟩
abbrev main_v706 : Ref sig .tc := ⟨.hbm, 804, rfl⟩
abbrev main_v707 : Ref sig .tc := ⟨.hbm, 805, rfl⟩
abbrev main_v708 : Ref sig .tc := ⟨.hbm, 806, rfl⟩
abbrev main_cst_49 : Ref sig .tc := ⟨.hbm, 807, rfl⟩
abbrev main_v709 : Ref sig .tc := ⟨.hbm, 808, rfl⟩
abbrev main_v710 : Ref sig .tc := ⟨.hbm, 809, rfl⟩
abbrev main_v711 : Ref sig .tc := ⟨.hbm, 810, rfl⟩
abbrev main_v712 : Ref sig .tc := ⟨.hbm, 811, rfl⟩
abbrev main_v713 : Ref sig .tc := ⟨.hbm, 812, rfl⟩
abbrev main_v714 : Ref sig .tc := ⟨.hbm, 813, rfl⟩
abbrev main_cst_50 : Ref sig .tc := ⟨.hbm, 814, rfl⟩
abbrev main_v715 : Ref sig .tc := ⟨.hbm, 815, rfl⟩
abbrev main_v716 : Ref sig .tc := ⟨.hbm, 816, rfl⟩
abbrev main_v717 : Ref sig .tc := ⟨.hbm, 817, rfl⟩
abbrev main_v718 : Ref sig .tc := ⟨.hbm, 818, rfl⟩
abbrev main_v719 : Ref sig .tc := ⟨.hbm, 819, rfl⟩
abbrev main_v720 : Ref sig .tc := ⟨.hbm, 820, rfl⟩
abbrev main_cst_51 : Ref sig .tc := ⟨.hbm, 821, rfl⟩
abbrev main_v721 : Ref sig .tc := ⟨.hbm, 822, rfl⟩
abbrev main_v722 : Ref sig .tc := ⟨.hbm, 823, rfl⟩
abbrev main_v723 : Ref sig .tc := ⟨.hbm, 824, rfl⟩
abbrev main_v724 : Ref sig .tc := ⟨.hbm, 825, rfl⟩
abbrev main_v725 : Ref sig .tc := ⟨.hbm, 826, rfl⟩
abbrev main_v726 : Ref sig .tc := ⟨.hbm, 827, rfl⟩
abbrev main_cst_52 : Ref sig .tc := ⟨.hbm, 828, rfl⟩
abbrev main_v727 : Ref sig .tc := ⟨.hbm, 829, rfl⟩
abbrev main_v728 : Ref sig .tc := ⟨.hbm, 830, rfl⟩
abbrev main_v729 : Ref sig .tc := ⟨.hbm, 831, rfl⟩
abbrev main_v730 : Ref sig .tc := ⟨.hbm, 832, rfl⟩
abbrev main_v731 : Ref sig .tc := ⟨.hbm, 833, rfl⟩
abbrev main_v732 : Ref sig .tc := ⟨.hbm, 834, rfl⟩
abbrev main_cst_53 : Ref sig .tc := ⟨.hbm, 835, rfl⟩
abbrev main_v733 : Ref sig .tc := ⟨.hbm, 836, rfl⟩
abbrev main_v734 : Ref sig .tc := ⟨.hbm, 837, rfl⟩
abbrev main_v735 : Ref sig .tc := ⟨.hbm, 838, rfl⟩
abbrev main_v736 : Ref sig .tc := ⟨.hbm, 839, rfl⟩
abbrev main_v737 : Ref sig .tc := ⟨.hbm, 840, rfl⟩
abbrev main_v738 : Ref sig .tc := ⟨.hbm, 841, rfl⟩
abbrev main_cst_54 : Ref sig .tc := ⟨.hbm, 842, rfl⟩
abbrev main_v739 : Ref sig .tc := ⟨.hbm, 843, rfl⟩
abbrev main_v740 : Ref sig .tc := ⟨.hbm, 844, rfl⟩
abbrev main_v741 : Ref sig .tc := ⟨.hbm, 845, rfl⟩
abbrev main_v742 : Ref sig .tc := ⟨.hbm, 846, rfl⟩
abbrev main_v743 : Ref sig .tc := ⟨.hbm, 847, rfl⟩
abbrev main_v744 : Ref sig .tc := ⟨.hbm, 848, rfl⟩
abbrev main_cst_55 : Ref sig .tc := ⟨.hbm, 849, rfl⟩
abbrev main_v745 : Ref sig .tc := ⟨.hbm, 850, rfl⟩
abbrev main_v746 : Ref sig .tc := ⟨.hbm, 851, rfl⟩
abbrev main_v747 : Ref sig .tc := ⟨.hbm, 852, rfl⟩
abbrev main_v748 : Ref sig .tc := ⟨.hbm, 853, rfl⟩
abbrev main_v749 : Ref sig .tc := ⟨.hbm, 854, rfl⟩
abbrev main_v750 : Ref sig .tc := ⟨.hbm, 855, rfl⟩
abbrev main_cst_56 : Ref sig .tc := ⟨.hbm, 856, rfl⟩
abbrev main_v751 : Ref sig .tc := ⟨.hbm, 857, rfl⟩
abbrev main_v752 : Ref sig .tc := ⟨.hbm, 858, rfl⟩
abbrev main_v753 : Ref sig .tc := ⟨.hbm, 859, rfl⟩
abbrev main_v754 : Ref sig .tc := ⟨.hbm, 860, rfl⟩
abbrev main_v755 : Ref sig .tc := ⟨.hbm, 861, rfl⟩
abbrev main_v756 : Ref sig .tc := ⟨.hbm, 862, rfl⟩
abbrev main_cst_57 : Ref sig .tc := ⟨.hbm, 863, rfl⟩
abbrev main_v757 : Ref sig .tc := ⟨.hbm, 864, rfl⟩
abbrev main_v758 : Ref sig .tc := ⟨.hbm, 865, rfl⟩
abbrev main_v759 : Ref sig .tc := ⟨.hbm, 866, rfl⟩
abbrev main_v760 : Ref sig .tc := ⟨.hbm, 867, rfl⟩
abbrev main_v761 : Ref sig .tc := ⟨.hbm, 868, rfl⟩
abbrev main_v762 : Ref sig .tc := ⟨.hbm, 869, rfl⟩
abbrev main_cst_58 : Ref sig .tc := ⟨.hbm, 870, rfl⟩
abbrev main_v763 : Ref sig .tc := ⟨.hbm, 871, rfl⟩
abbrev main_v764 : Ref sig .tc := ⟨.hbm, 872, rfl⟩
abbrev main_v765 : Ref sig .tc := ⟨.hbm, 873, rfl⟩
abbrev main_v766 : Ref sig .tc := ⟨.hbm, 874, rfl⟩
abbrev main_v767 : Ref sig .tc := ⟨.hbm, 875, rfl⟩
abbrev main_v768 : Ref sig .tc := ⟨.hbm, 876, rfl⟩
abbrev main_cst_59 : Ref sig .tc := ⟨.hbm, 877, rfl⟩
abbrev main_v769 : Ref sig .tc := ⟨.hbm, 878, rfl⟩
abbrev main_v770 : Ref sig .tc := ⟨.hbm, 879, rfl⟩
abbrev main_v771 : Ref sig .tc := ⟨.hbm, 880, rfl⟩
abbrev main_v772 : Ref sig .tc := ⟨.hbm, 881, rfl⟩
abbrev main_v773 : Ref sig .tc := ⟨.hbm, 882, rfl⟩
abbrev main_v774 : Ref sig .tc := ⟨.hbm, 883, rfl⟩
abbrev main_cst_60 : Ref sig .tc := ⟨.hbm, 884, rfl⟩
abbrev main_v775 : Ref sig .tc := ⟨.hbm, 885, rfl⟩
abbrev main_v776 : Ref sig .tc := ⟨.hbm, 886, rfl⟩
abbrev main_v777 : Ref sig .tc := ⟨.hbm, 887, rfl⟩
abbrev main_v778 : Ref sig .tc := ⟨.hbm, 888, rfl⟩
abbrev main_v779 : Ref sig .tc := ⟨.hbm, 889, rfl⟩
abbrev main_v780 : Ref sig .tc := ⟨.hbm, 890, rfl⟩
abbrev main_v781 : Ref sig .tc := ⟨.hbm, 891, rfl⟩
abbrev main_v782 : Ref sig .tc := ⟨.hbm, 892, rfl⟩
abbrev main_v783 : Ref sig .tc := ⟨.hbm, 893, rfl⟩
abbrev main_v784 : Ref sig .tc := ⟨.hbm, 894, rfl⟩
abbrev main_v785 : Ref sig .tc := ⟨.hbm, 895, rfl⟩
abbrev main_v786 : Ref sig .tc := ⟨.hbm, 896, rfl⟩
abbrev main_v787 : Ref sig .tc := ⟨.hbm, 897, rfl⟩
abbrev main_cst_61 : Ref sig .tc := ⟨.hbm, 898, rfl⟩
abbrev main_v788 : Ref sig .tc := ⟨.hbm, 899, rfl⟩
abbrev main_v789 : Ref sig .tc := ⟨.hbm, 900, rfl⟩
abbrev main_v790 : Ref sig .tc := ⟨.hbm, 901, rfl⟩
abbrev main_v791 : Ref sig .tc := ⟨.hbm, 902, rfl⟩
abbrev main_v792 : Ref sig .tc := ⟨.hbm, 903, rfl⟩
abbrev main_v793 : Ref sig .tc := ⟨.hbm, 904, rfl⟩
abbrev main_v794 : Ref sig .tc := ⟨.hbm, 905, rfl⟩
abbrev main_v795 : Ref sig .tc := ⟨.hbm, 906, rfl⟩
abbrev main_v796 : Ref sig .tc := ⟨.hbm, 907, rfl⟩
abbrev main_v797 : Ref sig .tc := ⟨.hbm, 908, rfl⟩
abbrev main_cst_62 : Ref sig .tc := ⟨.hbm, 909, rfl⟩
abbrev main_v798 : Ref sig .tc := ⟨.hbm, 910, rfl⟩
abbrev main_v799 : Ref sig .tc := ⟨.hbm, 911, rfl⟩
abbrev main_v800 : Ref sig .tc := ⟨.hbm, 912, rfl⟩
abbrev main_v801 : Ref sig .tc := ⟨.hbm, 913, rfl⟩
abbrev main_v802 : Ref sig .tc := ⟨.hbm, 914, rfl⟩
abbrev main_cst_63 : Ref sig .tc := ⟨.hbm, 915, rfl⟩
abbrev main_v803 : Ref sig .tc := ⟨.hbm, 916, rfl⟩
abbrev main_v804 : Ref sig .tc := ⟨.hbm, 917, rfl⟩
abbrev main_v805 : Ref sig .tc := ⟨.hbm, 918, rfl⟩
abbrev main_v806 : Ref sig .tc := ⟨.hbm, 919, rfl⟩
abbrev main_v807 : Ref sig .tc := ⟨.hbm, 920, rfl⟩
abbrev main_v808 : Ref sig .tc := ⟨.hbm, 921, rfl⟩
abbrev main_v809 : Ref sig .tc := ⟨.hbm, 922, rfl⟩
abbrev main_v810 : Ref sig .tc := ⟨.hbm, 923, rfl⟩
abbrev main_v811 : Ref sig .tc := ⟨.hbm, 924, rfl⟩
abbrev main_v812 : Ref sig .tc := ⟨.hbm, 925, rfl⟩
abbrev main_cst_64 : Ref sig .tc := ⟨.hbm, 926, rfl⟩
abbrev main_v813 : Ref sig .tc := ⟨.hbm, 927, rfl⟩
abbrev main_v814 : Ref sig .tc := ⟨.hbm, 928, rfl⟩
abbrev main_v815 : Ref sig .tc := ⟨.hbm, 929, rfl⟩

abbrev nD : Nat := 1
abbrev τ : Topo := Topo.v7x

variable {F : FTy → Type} [FloatOps F]
-- ==== Kernel5.lean ====
abbrev S2x2304x512 : Shape := ⟨3, ![2, 2304, 512]⟩
abbrev S4 : Shape := ⟨1, ![4]⟩
abbrev S4x1x1 : Shape := ⟨3, ![4, 1, 1]⟩
abbrev S4x1x128 : Shape := ⟨3, ![4, 1, 128]⟩
abbrev S4x8x128 : Shape := ⟨3, ![4, 8, 128]⟩
abbrev S1x2304x128 : Shape := ⟨3, ![1, 2304, 128]⟩
abbrev S1x1x128 : Shape := ⟨3, ![1, 1, 128]⟩
abbrev S1x8x128 : Shape := ⟨3, ![1, 8, 128]⟩
abbrev S256x256 : Shape := ⟨2, ![256, 256]⟩
abbrev S256x1 : Shape := ⟨2, ![256, 1]⟩
abbrev S1x128 : Shape := ⟨2, ![1, 128]⟩
abbrev S1x1 : Shape := ⟨2, ![1, 1]⟩
abbrev S128x128 : Shape := ⟨2, ![128, 128]⟩
abbrev S1x256x128 : Shape := ⟨3, ![1, 256, 128]⟩
abbrev S256x128 : Shape := ⟨2, ![256, 128]⟩
abbrev S1x256x256 : Shape := ⟨3, ![1, 256, 256]⟩
abbrev S1 : Shape := ⟨1, ![1]⟩
abbrev S1x1x1 : Shape := ⟨3, ![1, 1, 1]⟩
abbrev S8x128 : Shape := ⟨2, ![8, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x2304x512, .f32⟩
  | .hbm, ⟨1, _⟩ => ⟨S2x2304x512, .f32⟩
  | .hbm, ⟨2, _⟩ => ⟨S2x2304x512, .f32⟩
  | .hbm, ⟨3, _⟩ => ⟨S2x2304x512, .f32⟩
  | .hbm, ⟨4, _⟩ => ⟨S4, .f32⟩
  | .hbm, ⟨5, _⟩ => ⟨S4, .f32⟩
  | .hbm, ⟨6, _⟩ => ⟨S4x1x1, .f32⟩
  | .hbm, ⟨7, _⟩ => ⟨S4x1x128, .f32⟩
  | .hbm, ⟨8, _⟩ => ⟨S4x1x1, .f32⟩
  | .hbm, ⟨9, _⟩ => ⟨S4x1x128, .f32⟩
  | .hbm, ⟨10, _⟩ => ⟨S4x8x128, .f32⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x2304x128, .f32⟩
  | .local _ .vmem, ⟨7, _⟩ => ⟨S1x2304x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x8x128, .f32⟩
  | .local _ .vmem, ⟨13, _⟩ => ⟨S1x8x128, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32_431 : BitVec 32 := 0#32
  let v1132 : BitVec 1 := Scalar.cmpi .eq arg1 c0_i32_431
  let v1133 : BitVec 32 := Scalar.extui v1132
  let c0_i32_432 : BitVec 32 := 0#32
  let v1134 : BitVec 1 := Scalar.cmpi .ne v1133 c0_i32_432
  v1134

def k0_cond2 (i : grid0.Coords) : BitVec 1 :=
  let arg1 : BitVec 32 := BitVec.ofNat 32 (i 1).val
  let c0_i32_431 : BitVec 32 := 0#32
  let v1132 : BitVec 1 := Scalar.cmpi .eq arg1 c0_i32_431
  let v_true : BitVec 1 := 1#1
  let v1135 : BitVec 1 := Scalar.xori v1132 v_true
  let v1136 : BitVec 32 := Scalar.extui v1135
  let c0_i32_433 : BitVec 32 := 0#32
  let v1137 : BitVec 1 := Scalar.cmpi .ne v1136 c0_i32_433
  v1137

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S2x2304x512 : Shape := ⟨3, ![2, 2304, 512]⟩
abbrev S4 : Shape := ⟨1, ![4]⟩
abbrev S_ : Shape := ⟨0, ![]⟩
abbrev S2x2304x4x128 : Shape := ⟨4, ![2, 2304, 4, 128]⟩
abbrev S2x4x128x128 : Shape := ⟨4, ![2, 4, 128, 128]⟩
abbrev S2x256x4x128 : Shape := ⟨4, ![2, 256, 4, 128]⟩
abbrev S2x2x128x4x128 : Shape := ⟨5, ![2, 2, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S2x2x4x128x128 : Shape := ⟨5, ![2, 2, 4, 128, 128]⟩
abbrev S1x1x4x128x128 : Shape := ⟨5, ![1, 1, 4, 128, 128]⟩
abbrev S1x4 : Shape := ⟨2, ![1, 4]⟩
abbrev S128x4 : Shape := ⟨2, ![128, 4]⟩
abbrev S1x1x128x4x1 : Shape := ⟨5, ![1, 1, 128, 4, 1]⟩
abbrev S1x4x1x1 : Shape := ⟨4, ![1, 4, 1, 1]⟩
abbrev S2x1x4x128x128 : Shape := ⟨5, ![2, 1, 4, 128, 128]⟩
abbrev S2x2048x4x128 : Shape := ⟨4, ![2, 2048, 4, 128]⟩
abbrev S2x16x128x4x128 : Shape := ⟨5, ![2, 16, 128, 4, 128]⟩
abbrev S2x16x4x128x128 : Shape := ⟨5, ![2, 16, 4, 128, 128]⟩
abbrev S4x1x128 : Shape := ⟨3, ![4, 1, 128]⟩
abbrev S4x6x128 : Shape := ⟨3, ![4, 6, 128]⟩
abbrev S4x8x128 : Shape := ⟨3, ![4, 8, 128]⟩

abbrev nBuf : Space → Nat
  | .hbm => 1381
  | .vmem => 0
  | .smem => 0
  | _ => 0

abbrev hbmTy0_0 (i : Nat) : BufTy := match i % 128 with
  | 0 => ⟨S2x2304x512, .f32⟩
  | 1 => ⟨S2x2304x512, .f32⟩
  | 2 => ⟨S2x2304x512, .f32⟩
  | 3 => ⟨S2x2304x512, .f32⟩
  | 4 => ⟨S4, .f32⟩
  | 5 => ⟨S4, .f32⟩
  | 6 => ⟨S4, .f32⟩
  | 7 => ⟨S_, .f32⟩
  | 8 => ⟨S4, .f32⟩
  | 9 => ⟨S4, .f32⟩
  | 10 => ⟨S4, .f32⟩
  | 11 => ⟨S4, .f32⟩
  | 12 => ⟨S4, .i1⟩
  | 13 => ⟨S4, .f32⟩
  | 14 => ⟨S4, .f32⟩
  | 15 => ⟨S4, .f32⟩
  | 16 => ⟨S4, .f32⟩
  | 17 => ⟨S4, .f32⟩
  | 18 => ⟨S4, .f32⟩
  | 19 => ⟨S4, .f32⟩
  | 20 => ⟨S4, .f32⟩
  | 21 => ⟨S_, .f32⟩
  | 22 => ⟨S4, .f32⟩
  | 23 => ⟨S4, .i1⟩
  | 24 => ⟨S_, .f32⟩
  | 25 => ⟨S4, .f32⟩
  | 26 => ⟨S4, .f32⟩
  | 27 => ⟨S_, .f32⟩
  | 28 => ⟨S4, .f32⟩
  | 29 => ⟨S4, .i1⟩
  | 30 => ⟨S_, .f32⟩
  | 31 => ⟨S4, .f32⟩
  | 32 => ⟨S4, .f32⟩
  | 33 => ⟨S4, .f32⟩
  | 34 => ⟨S4, .f32⟩
  | 35 => ⟨S_, .f32⟩
  | 36 => ⟨S_, .f32⟩
  | 37 => ⟨S_, .i1⟩
  | 38 => ⟨S_, .f32⟩
  | 39 => ⟨S_, .f32⟩
  | 40 => ⟨S_, .f32⟩
  | 41 => ⟨S_, .f32⟩
  | 42 => ⟨S4, .f32⟩
  | 43 => ⟨S4, .i1⟩
  | 44 => ⟨S_, .f32⟩
  | 45 => ⟨S4, .f32⟩
  | 46 => ⟨S4, .f32⟩
  | 47 => ⟨S4, .f32⟩
  | 48 => ⟨S4, .f32⟩
  | 49 => ⟨S4, .f32⟩
  | 50 => ⟨S_, .f32⟩
  | 51 => ⟨S4, .f32⟩
  | 52 => ⟨S4, .f32⟩
  | 53 => ⟨S4, .f32⟩
  | 54 => ⟨S2x2304x4x128, .f32⟩
  | 55 => ⟨S2x2304x4x128, .f32⟩
  | 56 => ⟨S2x2304x4x128, .f32⟩
  | 57 => ⟨S_, .f32⟩
  | 58 => ⟨S2x4x128x128, .f32⟩
  | 59 => ⟨S2x256x4x128, .f32⟩
  | 60 => ⟨S2x256x4x128, .f32⟩
  | 61 => ⟨S2x256x4x128, .f32⟩
  | 62 => ⟨S2x2x128x4x128, .f32⟩
  | 63 => ⟨S2x2x128x4x128, .f32⟩
  | 64 => ⟨S2x2x128x4x128, .f32⟩
  | 65 => ⟨S128, .f32⟩
  | 66 => ⟨S128x1, .f32⟩
  | 67 => ⟨S1x128, .f32⟩
  | 68 => ⟨S128x128, .f32⟩
  | 69 => ⟨S128x128, .f32⟩
  | 70 => ⟨S128x128, .f32⟩
  | 71 => ⟨S_, .f32⟩
  | 72 => ⟨S128x128, .f32⟩
  | 73 => ⟨S128x128, .i1⟩
  | 74 => ⟨S1x128x128, .i1⟩
  | 75 => ⟨S_, .f32⟩
  | 76 => ⟨S128x128, .f32⟩
  | 77 => ⟨S128x128, .f32⟩
  | 78 => ⟨S1x128x128, .f32⟩
  | 79 => ⟨S4x1x1, .f32⟩
  | 80 => ⟨S4x128x128, .f32⟩
  | 81 => ⟨S4x128x128, .f32⟩
  | 82 => ⟨S4x128x128, .f32⟩
  | 83 => ⟨S4x128x128, .f32⟩
  | 84 => ⟨S_, .f32⟩
  | 85 => ⟨S_, .f32⟩
  | 86 => ⟨S4x128x128, .i1⟩
  | 87 => ⟨S4x128x128, .f32⟩
  | 88 => ⟨S4x128x128, .f32⟩
  | 89 => ⟨S_, .f32⟩
  | 90 => ⟨S4x128x128, .f32⟩
  | 91 => ⟨S2x2x4x128x128, .f32⟩
  | 92 => ⟨S1x1x4x128x128, .f32⟩
  | 93 => ⟨S2x2x4x128x128, .f32⟩
  | 94 => ⟨S2x2x4x128x128, .f32⟩
  | 95 => ⟨S2x2x4x128x128, .f32⟩
  | 96 => ⟨S2x2x128x4x128, .f32⟩
  | 97 => ⟨S_, .f32⟩
  | 98 => ⟨S128, .f32⟩
  | 99 => ⟨S128, .f32⟩
  | 100 => ⟨S128x1, .f32⟩
  | 101 => ⟨S1x4, .f32⟩
  | 102 => ⟨S128x4, .f32⟩
  | 103 => ⟨S128x4, .f32⟩
  | 104 => ⟨S128x4, .f32⟩
  | 105 => ⟨S128x4, .f32⟩
  | 106 => ⟨S1x1x128x4x1, .f32⟩
  | 107 => ⟨S2x2x128x4x128, .f32⟩
  | 108 => ⟨S2x2x128x4x128, .f32⟩
  | 109 => ⟨S2x2x4x128x128, .f32⟩
  | 110 => ⟨S_, .f32⟩
  | 111 => ⟨S4, .f32⟩
  | 112 => ⟨S4, .f32⟩
  | 113 => ⟨S4, .f32⟩
  | 114 => ⟨S1x4x1x1, .f32⟩
  | 115 => ⟨S2x4x128x128, .f32⟩
  | 116 => ⟨S2x4x128x128, .f32⟩
  | 117 => ⟨S2x1x4x128x128, .f32⟩
  | 118 => ⟨S2x4x128x128, .f32⟩
  | 119 => ⟨S2x4x128x128, .f32⟩
  | 120 => ⟨S2x4x128x128, .f32⟩
  | 121 => ⟨S2x4x128x128, .f32⟩
  | 122 => ⟨S2x1x4x128x128, .f32⟩
  | 123 => ⟨S2x4x128x128, .f32⟩
  | 124 => ⟨S2x4x128x128, .f32⟩
  | 125 => ⟨S2x1x4x128x128, .f32⟩
  | 126 => ⟨S2x1x4x128x128, .f32⟩
  | 127 => ⟨S2x2x4x128x128, .f32⟩
  | _ => ⟨S2x2304x512, .f32⟩

abbrev hbmTy0_1 (i : Nat) : BufTy := match i % 128 with
  | 0 => ⟨S_, .f32⟩
  | 1 => ⟨S2x4x128x128, .f32⟩
  | 2 => ⟨S_, .f32⟩
  | 3 => ⟨S128, .f32⟩
  | 4 => ⟨S128, .f32⟩
  | 5 => ⟨S128x1, .f32⟩
  | 6 => ⟨S1x4, .f32⟩
  | 7 => ⟨S128x4, .f32⟩
  | 8 => ⟨S128x4, .f32⟩
  | 9 => ⟨S128x4, .f32⟩
  | 10 => ⟨S128x4, .f32⟩
  | 11 => ⟨S1x1x128x4x1, .f32⟩
  | 12 => ⟨S2x2x128x4x128, .f32⟩
  | 13 => ⟨S2x2x128x4x128, .f32⟩
  | 14 => ⟨S2x2x4x128x128, .f32⟩
  | 15 => ⟨S2x2x128x4x128, .f32⟩
  | 16 => ⟨S2x2x128x4x128, .f32⟩
  | 17 => ⟨S2x256x4x128, .f32⟩
  | 18 => ⟨S2x2048x4x128, .f32⟩
  | 19 => ⟨S2x2048x4x128, .f32⟩
  | 20 => ⟨S2x2048x4x128, .f32⟩
  | 21 => ⟨S2x16x128x4x128, .f32⟩
  | 22 => ⟨S2x16x128x4x128, .f32⟩
  | 23 => ⟨S2x16x128x4x128, .f32⟩
  | 24 => ⟨S128, .f32⟩
  | 25 => ⟨S128x1, .f32⟩
  | 26 => ⟨S1x128, .f32⟩
  | 27 => ⟨S128x128, .f32⟩
  | 28 => ⟨S128x128, .f32⟩
  | 29 => ⟨S128x128, .f32⟩
  | 30 => ⟨S_, .f32⟩
  | 31 => ⟨S128x128, .f32⟩
  | 32 => ⟨S128x128, .i1⟩
  | 33 => ⟨S1x128x128, .i1⟩
  | 34 => ⟨S_, .f32⟩
  | 35 => ⟨S128x128, .f32⟩
  | 36 => ⟨S128x128, .f32⟩
  | 37 => ⟨S1x128x128, .f32⟩
  | 38 => ⟨S4x1x1, .f32⟩
  | 39 => ⟨S4x128x128, .f32⟩
  | 40 => ⟨S4x128x128, .f32⟩
  | 41 => ⟨S4x128x128, .f32⟩
  | 42 => ⟨S4x128x128, .f32⟩
  | 43 => ⟨S_, .f32⟩
  | 44 => ⟨S_, .f32⟩
  | 45 => ⟨S4x128x128, .i1⟩
  | 46 => ⟨S4x128x128, .f32⟩
  | 47 => ⟨S4x128x128, .f32⟩
  | 48 => ⟨S_, .f32⟩
  | 49 => ⟨S4x128x128, .f32⟩
  | 50 => ⟨S2x16x4x128x128, .f32⟩
  | 51 => ⟨S1x1x4x128x128, .f32⟩
  | 52 => ⟨S2x16x4x128x128, .f32⟩
  | 53 => ⟨S2x16x4x128x128, .f32⟩
  | 54 => ⟨S2x16x4x128x128, .f32⟩
  | 55 => ⟨S2x16x128x4x128, .f32⟩
  | 56 => ⟨S_, .f32⟩
  | 57 => ⟨S128, .f32⟩
  | 58 => ⟨S128, .f32⟩
  | 59 => ⟨S128x1, .f32⟩
  | 60 => ⟨S1x4, .f32⟩
  | 61 => ⟨S128x4, .f32⟩
  | 62 => ⟨S128x4, .f32⟩
  | 63 => ⟨S128x4, .f32⟩
  | 64 => ⟨S128x4, .f32⟩
  | 65 => ⟨S1x1x128x4x1, .f32⟩
  | 66 => ⟨S2x16x128x4x128, .f32⟩
  | 67 => ⟨S2x16x128x4x128, .f32⟩
  | 68 => ⟨S2x16x4x128x128, .f32⟩
  | 69 => ⟨S_, .f32⟩
  | 70 => ⟨S4, .f32⟩
  | 71 => ⟨S4, .f32⟩
  | 72 => ⟨S4, .f32⟩
  | 73 => ⟨S1x4x1x1, .f32⟩
  | 74 => ⟨S2x4x128x128, .f32⟩
  | 75 => ⟨S2x4x128x128, .f32⟩
  | 76 => ⟨S2x1x4x128x128, .f32⟩
  | 77 => ⟨S2x4x128x128, .f32⟩
  | 78 => ⟨S2x4x128x128, .f32⟩
  | 79 => ⟨S2x4x128x128, .f32⟩
  | 80 => ⟨S2x4x128x128, .f32⟩
  | 81 => ⟨S2x1x4x128x128, .f32⟩
  | 82 => ⟨S2x4x128x128, .f32⟩
  | 83 => ⟨S2x4x128x128, .f32⟩
  | 84 => ⟨S2x4x128x128, .f32⟩
  | 85 => ⟨S2x4x128x128, .f32⟩
  | 86 => ⟨S2x1x4x128x128, .f32⟩
  | 87 => ⟨S2x4x128x128, .f32⟩
  | 88 => ⟨S2x4x128x128, .f32⟩
  | 89 => ⟨S2x4x128x128, .f32⟩
  | 90 => ⟨S2x4x128x128, .f32⟩
  | 91 => ⟨S2x1x4x128x128, .f32⟩
  | 92 => ⟨S2x4x128x128, .f32⟩
  | 93 => ⟨S2x4x128x128, .f32⟩
  | 94 => ⟨S2x4x128x128, .f32⟩
  | 95 => ⟨S2x4x128x128, .f32⟩
  | 96 => ⟨S2x1x4x128x128, .f32⟩
  | 97 => ⟨S2x4x128x128, .f32⟩
  | 98 => ⟨S2x4x128x128, .f32⟩
  | 99 => ⟨S2x4x128x128, .f32⟩
  | 100 => ⟨S2x4x128x128, .f32⟩
  | 101 => ⟨S2x1x4x128x128, .f32⟩
  | 102 => ⟨S2x4x128x128, .f32⟩
  | 103 => ⟨S2x4x128x128, .f32⟩
  | 104 => ⟨S2x4x128x128, .f32⟩
  | 105 => ⟨S2x4x128x128, .f32⟩
  | 106 => ⟨S2x1x4x128x128, .f32⟩
  | 107 => ⟨S2x4x128x128, .f32⟩
  | 108 => ⟨S2x4x128x128, .f32⟩
  | 109 => ⟨S2x4x128x128, .f32⟩
  | 110 => ⟨S2x4x128x128, .f32⟩
  | 111 => ⟨S2x1x4x128x128, .f32⟩
  | 112 => ⟨S2x4x128x128, .f32⟩
  | 113 => ⟨S2x4x128x128, .f32⟩
  | 114 => ⟨S2x4x128x128, .f32⟩
  | 115 => ⟨S2x4x128x128, .f32⟩
  | 116 => ⟨S2x1x4x128x128, .f32⟩
  | 117 => ⟨S2x4x128x128, .f32⟩
  | 118 => ⟨S2x4x128x128, .f32⟩
  | 119 => ⟨S2x4x128x128, .f32⟩
  | 120 => ⟨S2x4x128x128, .f32⟩
  | 121 => ⟨S2x1x4x128x128, .f32⟩
  | 122 => ⟨S2x4x128x128, .f32⟩
  | 123 => ⟨S2x4x128x128, .f32⟩
  | 124 => ⟨S2x4x128x128, .f32⟩
  | 125 => ⟨S2x4x128x128, .f32⟩
  | 126 => ⟨S2x1x4x128x128, .f32⟩
  | 127 => ⟨S2x4x128x128, .f32⟩
  | _ => ⟨S2x2304x512, .f32⟩

abbrev hbmTy0_2 (i : Nat) : BufTy := match i % 128 with
  | 0 => ⟨S2x4x128x128, .f32⟩
  | 1 => ⟨S2x4x128x128, .f32⟩
  | 2 => ⟨S2x4x128x128, .f32⟩
  | 3 => ⟨S2x1x4x128x128, .f32⟩
  | 4 => ⟨S2x4x128x128, .f32⟩
  | 5 => ⟨S2x4x128x128, .f32⟩
  | 6 => ⟨S2x4x128x128, .f32⟩
  | 7 => ⟨S2x4x128x128, .f32⟩
  | 8 => ⟨S2x1x4x128x128, .f32⟩
  | 9 => ⟨S2x4x128x128, .f32⟩
  | 10 => ⟨S2x4x128x128, .f32⟩
  | 11 => ⟨S2x4x128x128, .f32⟩
  | 12 => ⟨S2x4x128x128, .f32⟩
  | 13 => ⟨S2x1x4x128x128, .f32⟩
  | 14 => ⟨S2x4x128x128, .f32⟩
  | 15 => ⟨S2x4x128x128, .f32⟩
  | 16 => ⟨S2x4x128x128, .f32⟩
  | 17 => ⟨S2x4x128x128, .f32⟩
  | 18 => ⟨S2x1x4x128x128, .f32⟩
  | 19 => ⟨S2x4x128x128, .f32⟩
  | 20 => ⟨S2x4x128x128, .f32⟩
  | 21 => ⟨S2x4x128x128, .f32⟩
  | 22 => ⟨S2x4x128x128, .f32⟩
  | 23 => ⟨S2x1x4x128x128, .f32⟩
  | 24 => ⟨S2x4x128x128, .f32⟩
  | 25 => ⟨S2x4x128x128, .f32⟩
  | 26 => ⟨S2x1x4x128x128, .f32⟩
  | 27 => ⟨S2x1x4x128x128, .f32⟩
  | 28 => ⟨S2x1x4x128x128, .f32⟩
  | 29 => ⟨S2x1x4x128x128, .f32⟩
  | 30 => ⟨S2x1x4x128x128, .f32⟩
  | 31 => ⟨S2x1x4x128x128, .f32⟩
  | 32 => ⟨S2x1x4x128x128, .f32⟩
  | 33 => ⟨S2x1x4x128x128, .f32⟩
  | 34 => ⟨S2x1x4x128x128, .f32⟩
  | 35 => ⟨S2x1x4x128x128, .f32⟩
  | 36 => ⟨S2x1x4x128x128, .f32⟩
  | 37 => ⟨S2x1x4x128x128, .f32⟩
  | 38 => ⟨S2x1x4x128x128, .f32⟩
  | 39 => ⟨S2x1x4x128x128, .f32⟩
  | 40 => ⟨S2x1x4x128x128, .f32⟩
  | 41 => ⟨S2x1x4x128x128, .f32⟩
  | 42 => ⟨S2x16x4x128x128, .f32⟩
  | 43 => ⟨S_, .f32⟩
  | 44 => ⟨S128, .f32⟩
  | 45 => ⟨S128, .f32⟩
  | 46 => ⟨S128x1, .f32⟩
  | 47 => ⟨S1x4, .f32⟩
  | 48 => ⟨S128x4, .f32⟩
  | 49 => ⟨S128x4, .f32⟩
  | 50 => ⟨S128x4, .f32⟩
  | 51 => ⟨S128x4, .f32⟩
  | 52 => ⟨S1x1x128x4x1, .f32⟩
  | 53 => ⟨S2x16x128x4x128, .f32⟩
  | 54 => ⟨S2x16x128x4x128, .f32⟩
  | 55 => ⟨S2x16x4x128x128, .f32⟩
  | 56 => ⟨S2x16x128x4x128, .f32⟩
  | 57 => ⟨S2x16x128x4x128, .f32⟩
  | 58 => ⟨S2x2048x4x128, .f32⟩
  | 59 => ⟨S2x2304x4x128, .f32⟩
  | 60 => ⟨S2x2304x512, .f32⟩
  | 61 => ⟨S2x2304x4x128, .f32⟩
  | 62 => ⟨S2x256x4x128, .f32⟩
  | 63 => ⟨S2x2048x4x128, .f32⟩
  | 64 => ⟨S2x16x128x4x128, .f32⟩
  | 65 => ⟨S2x16x4x128x128, .f32⟩
  | 66 => ⟨S2x16x4x128x128, .f32⟩
  | 67 => ⟨S2x16x128x4x128, .f32⟩
  | 68 => ⟨S2x16x4x128x128, .f32⟩
  | 69 => ⟨S2x16x4x128x128, .f32⟩
  | 70 => ⟨S2x16x128x4x128, .f32⟩
  | 71 => ⟨S_, .f32⟩
  | 72 => ⟨S128x4, .f32⟩
  | 73 => ⟨S1x1x128x4x1, .f32⟩
  | 74 => ⟨S_, .f32⟩
  | 75 => ⟨S128x4, .f32⟩
  | 76 => ⟨S128x4, .f32⟩
  | 77 => ⟨S128x4, .f32⟩
  | 78 => ⟨S128x4, .f32⟩
  | 79 => ⟨S_, .f32⟩
  | 80 => ⟨S4, .f32⟩
  | 81 => ⟨S1x4, .f32⟩
  | 82 => ⟨S_, .f32⟩
  | 83 => ⟨S4, .f32⟩
  | 84 => ⟨S2x1x4x128x128, .f32⟩
  | 85 => ⟨S2x4x128x128, .f32⟩
  | 86 => ⟨S2x1x4x128x128, .f32⟩
  | 87 => ⟨S2x4x128x128, .f32⟩
  | 88 => ⟨S2x1x4x128x128, .f32⟩
  | 89 => ⟨S2x4x128x128, .f32⟩
  | 90 => ⟨S2x1x4x128x128, .f32⟩
  | 91 => ⟨S2x4x128x128, .f32⟩
  | 92 => ⟨S2x1x4x128x128, .f32⟩
  | 93 => ⟨S2x4x128x128, .f32⟩
  | 94 => ⟨S2x1x4x128x128, .f32⟩
  | 95 => ⟨S2x4x128x128, .f32⟩
  | 96 => ⟨S2x1x4x128x128, .f32⟩
  | 97 => ⟨S2x4x128x128, .f32⟩
  | 98 => ⟨S2x1x4x128x128, .f32⟩
  | 99 => ⟨S2x4x128x128, .f32⟩
  | 100 => ⟨S2x1x4x128x128, .f32⟩
  | 101 => ⟨S2x4x128x128, .f32⟩
  | 102 => ⟨S2x1x4x128x128, .f32⟩
  | 103 => ⟨S2x4x128x128, .f32⟩
  | 104 => ⟨S2x1x4x128x128, .f32⟩
  | 105 => ⟨S2x4x128x128, .f32⟩
  | 106 => ⟨S2x1x4x128x128, .f32⟩
  | 107 => ⟨S2x4x128x128, .f32⟩
  | 108 => ⟨S2x1x4x128x128, .f32⟩
  | 109 => ⟨S2x4x128x128, .f32⟩
  | 110 => ⟨S2x1x4x128x128, .f32⟩
  | 111 => ⟨S2x4x128x128, .f32⟩
  | 112 => ⟨S2x1x4x128x128, .f32⟩
  | 113 => ⟨S2x4x128x128, .f32⟩
  | 114 => ⟨S2x1x4x128x128, .f32⟩
  | 115 => ⟨S2x4x128x128, .f32⟩
  | 116 => ⟨S2x1x4x128x128, .f32⟩
  | 117 => ⟨S_, .f32⟩
  | 118 => ⟨S2x16x4x128x128, .f32⟩
  | 119 => ⟨S2x4x128x128, .f32⟩
  | 120 => ⟨S2x4x128x128, .f32⟩
  | 121 => ⟨S2x4x128x128, .f32⟩
  | 122 => ⟨S2x4x128x128, .f32⟩
  | 123 => ⟨S_, .f32⟩
  | 124 => ⟨S4, .f32⟩
  | 125 => ⟨S1x4x1x1, .f32⟩
  | 126 => ⟨S2x1x4x128x128, .f32⟩
  | 127 => ⟨S_, .f32⟩
  | _ => ⟨S2x2304x512, .f32⟩

abbrev hbmTy0_3 (i : Nat) : BufTy := match i % 128 with
  | 0 => ⟨S2x16x4x128x128, .f32⟩
  | 1 => ⟨S2x16x4x128x128, .f32⟩
  | 2 => ⟨S2x4x128x128, .f32⟩
  | 3 => ⟨S2x4x128x128, .f32⟩
  | 4 => ⟨S2x4x128x128, .f32⟩
  | 5 => ⟨S2x4x128x128, .f32⟩
  | 6 => ⟨S_, .f32⟩
  | 7 => ⟨S4, .f32⟩
  | 8 => ⟨S1x4x1x1, .f32⟩
  | 9 => ⟨S1x4x1x1, .f32⟩
  | 10 => ⟨S2x1x4x128x128, .f32⟩
  | 11 => ⟨S_, .f32⟩
  | 12 => ⟨S2x16x4x128x128, .f32⟩
  | 13 => ⟨S2x16x4x128x128, .f32⟩
  | 14 => ⟨S2x4x128x128, .f32⟩
  | 15 => ⟨S2x4x128x128, .f32⟩
  | 16 => ⟨S2x4x128x128, .f32⟩
  | 17 => ⟨S2x4x128x128, .f32⟩
  | 18 => ⟨S_, .f32⟩
  | 19 => ⟨S4, .f32⟩
  | 20 => ⟨S1x4x1x1, .f32⟩
  | 21 => ⟨S1x4x1x1, .f32⟩
  | 22 => ⟨S2x1x4x128x128, .f32⟩
  | 23 => ⟨S_, .f32⟩
  | 24 => ⟨S2x16x4x128x128, .f32⟩
  | 25 => ⟨S2x16x4x128x128, .f32⟩
  | 26 => ⟨S2x4x128x128, .f32⟩
  | 27 => ⟨S2x4x128x128, .f32⟩
  | 28 => ⟨S2x4x128x128, .f32⟩
  | 29 => ⟨S2x4x128x128, .f32⟩
  | 30 => ⟨S_, .f32⟩
  | 31 => ⟨S4, .f32⟩
  | 32 => ⟨S1x4x1x1, .f32⟩
  | 33 => ⟨S1x4x1x1, .f32⟩
  | 34 => ⟨S2x1x4x128x128, .f32⟩
  | 35 => ⟨S_, .f32⟩
  | 36 => ⟨S2x16x4x128x128, .f32⟩
  | 37 => ⟨S2x16x4x128x128, .f32⟩
  | 38 => ⟨S2x4x128x128, .f32⟩
  | 39 => ⟨S2x4x128x128, .f32⟩
  | 40 => ⟨S2x4x128x128, .f32⟩
  | 41 => ⟨S2x4x128x128, .f32⟩
  | 42 => ⟨S_, .f32⟩
  | 43 => ⟨S4, .f32⟩
  | 44 => ⟨S1x4x1x1, .f32⟩
  | 45 => ⟨S1x4x1x1, .f32⟩
  | 46 => ⟨S2x1x4x128x128, .f32⟩
  | 47 => ⟨S_, .f32⟩
  | 48 => ⟨S2x16x4x128x128, .f32⟩
  | 49 => ⟨S2x16x4x128x128, .f32⟩
  | 50 => ⟨S2x4x128x128, .f32⟩
  | 51 => ⟨S2x4x128x128, .f32⟩
  | 52 => ⟨S2x4x128x128, .f32⟩
  | 53 => ⟨S2x4x128x128, .f32⟩
  | 54 => ⟨S_, .f32⟩
  | 55 => ⟨S4, .f32⟩
  | 56 => ⟨S1x4x1x1, .f32⟩
  | 57 => ⟨S1x4x1x1, .f32⟩
  | 58 => ⟨S2x1x4x128x128, .f32⟩
  | 59 => ⟨S_, .f32⟩
  | 60 => ⟨S2x16x4x128x128, .f32⟩
  | 61 => ⟨S2x16x4x128x128, .f32⟩
  | 62 => ⟨S2x4x128x128, .f32⟩
  | 63 => ⟨S2x4x128x128, .f32⟩
  | 64 => ⟨S2x4x128x128, .f32⟩
  | 65 => ⟨S2x4x128x128, .f32⟩
  | 66 => ⟨S_, .f32⟩
  | 67 => ⟨S4, .f32⟩
  | 68 => ⟨S1x4x1x1, .f32⟩
  | 69 => ⟨S1x4x1x1, .f32⟩
  | 70 => ⟨S2x1x4x128x128, .f32⟩
  | 71 => ⟨S_, .f32⟩
  | 72 => ⟨S2x16x4x128x128, .f32⟩
  | 73 => ⟨S2x16x4x128x128, .f32⟩
  | 74 => ⟨S2x4x128x128, .f32⟩
  | 75 => ⟨S2x4x128x128, .f32⟩
  | 76 => ⟨S2x4x128x128, .f32⟩
  | 77 => ⟨S2x4x128x128, .f32⟩
  | 78 => ⟨S_, .f32⟩
  | 79 => ⟨S4, .f32⟩
  | 80 => ⟨S1x4x1x1, .f32⟩
  | 81 => ⟨S1x4x1x1, .f32⟩
  | 82 => ⟨S2x1x4x128x128, .f32⟩
  | 83 => ⟨S_, .f32⟩
  | 84 => ⟨S2x16x4x128x128, .f32⟩
  | 85 => ⟨S2x16x4x128x128, .f32⟩
  | 86 => ⟨S2x4x128x128, .f32⟩
  | 87 => ⟨S2x4x128x128, .f32⟩
  | 88 => ⟨S2x4x128x128, .f32⟩
  | 89 => ⟨S2x4x128x128, .f32⟩
  | 90 => ⟨S_, .f32⟩
  | 91 => ⟨S4, .f32⟩
  | 92 => ⟨S1x4x1x1, .f32⟩
  | 93 => ⟨S1x4x1x1, .f32⟩
  | 94 => ⟨S2x1x4x128x128, .f32⟩
  | 95 => ⟨S_, .f32⟩
  | 96 => ⟨S2x16x4x128x128, .f32⟩
  | 97 => ⟨S2x16x4x128x128, .f32⟩
  | 98 => ⟨S2x4x128x128, .f32⟩
  | 99 => ⟨S2x4x128x128, .f32⟩
  | 100 => ⟨S2x4x128x128, .f32⟩
  | 101 => ⟨S2x4x128x128, .f32⟩
  | 102 => ⟨S_, .f32⟩
  | 103 => ⟨S4, .f32⟩
  | 104 => ⟨S1x4x1x1, .f32⟩
  | 105 => ⟨S1x4x1x1, .f32⟩
  | 106 => ⟨S2x1x4x128x128, .f32⟩
  | 107 => ⟨S_, .f32⟩
  | 108 => ⟨S2x16x4x128x128, .f32⟩
  | 109 => ⟨S2x16x4x128x128, .f32⟩
  | 110 => ⟨S2x4x128x128, .f32⟩
  | 111 => ⟨S2x4x128x128, .f32⟩
  | 112 => ⟨S2x4x128x128, .f32⟩
  | 113 => ⟨S2x4x128x128, .f32⟩
  | 114 => ⟨S_, .f32⟩
  | 115 => ⟨S4, .f32⟩
  | 116 => ⟨S1x4x1x1, .f32⟩
  | 117 => ⟨S1x4x1x1, .f32⟩
  | 118 => ⟨S2x1x4x128x128, .f32⟩
  | 119 => ⟨S_, .f32⟩
  | 120 => ⟨S2x16x4x128x128, .f32⟩
  | 121 => ⟨S2x16x4x128x128, .f32⟩
  | 122 => ⟨S2x4x128x128, .f32⟩
  | 123 => ⟨S2x4x128x128, .f32⟩
  | 124 => ⟨S2x4x128x128, .f32⟩
  | 125 => ⟨S2x4x128x128, .f32⟩
  | 126 => ⟨S_, .f32⟩
  | 127 => ⟨S4, .f32⟩
  | _ => ⟨S2x2304x512, .f32⟩

abbrev hbmTy0_4 (i : Nat) : BufTy := match i % 128 with
  | 0 => ⟨S1x4x1x1, .f32⟩
  | 1 => ⟨S1x4x1x1, .f32⟩
  | 2 => ⟨S2x1x4x128x128, .f32⟩
  | 3 => ⟨S_, .f32⟩
  | 4 => ⟨S2x16x4x128x128, .f32⟩
  | 5 => ⟨S2x16x4x128x128, .f32⟩
  | 6 => ⟨S2x4x128x128, .f32⟩
  | 7 => ⟨S2x4x128x128, .f32⟩
  | 8 => ⟨S2x4x128x128, .f32⟩
  | 9 => ⟨S2x4x128x128, .f32⟩
  | 10 => ⟨S_, .f32⟩
  | 11 => ⟨S4, .f32⟩
  | 12 => ⟨S1x4x1x1, .f32⟩
  | 13 => ⟨S1x4x1x1, .f32⟩
  | 14 => ⟨S2x1x4x128x128, .f32⟩
  | 15 => ⟨S_, .f32⟩
  | 16 => ⟨S2x16x4x128x128, .f32⟩
  | 17 => ⟨S2x16x4x128x128, .f32⟩
  | 18 => ⟨S2x4x128x128, .f32⟩
  | 19 => ⟨S2x4x128x128, .f32⟩
  | 20 => ⟨S2x4x128x128, .f32⟩
  | 21 => ⟨S2x4x128x128, .f32⟩
  | 22 => ⟨S_, .f32⟩
  | 23 => ⟨S4, .f32⟩
  | 24 => ⟨S1x4x1x1, .f32⟩
  | 25 => ⟨S1x4x1x1, .f32⟩
  | 26 => ⟨S2x1x4x128x128, .f32⟩
  | 27 => ⟨S_, .f32⟩
  | 28 => ⟨S2x16x4x128x128, .f32⟩
  | 29 => ⟨S2x16x4x128x128, .f32⟩
  | 30 => ⟨S2x4x128x128, .f32⟩
  | 31 => ⟨S2x4x128x128, .f32⟩
  | 32 => ⟨S2x4x128x128, .f32⟩
  | 33 => ⟨S2x4x128x128, .f32⟩
  | 34 => ⟨S_, .f32⟩
  | 35 => ⟨S4, .f32⟩
  | 36 => ⟨S1x4x1x1, .f32⟩
  | 37 => ⟨S1x4x1x1, .f32⟩
  | 38 => ⟨S_, .f32⟩
  | 39 => ⟨S4, .f32⟩
  | 40 => ⟨S4, .f32⟩
  | 41 => ⟨S_, .f32⟩
  | 42 => ⟨S4, .f32⟩
  | 43 => ⟨S4, .f32⟩
  | 44 => ⟨S4, .f32⟩
  | 45 => ⟨S2x16x4x128x128, .f32⟩
  | 46 => ⟨S2x16x128x4x128, .f32⟩
  | 47 => ⟨S2x16x128x4x128, .f32⟩
  | 48 => ⟨S_, .f32⟩
  | 49 => ⟨S128x4, .f32⟩
  | 50 => ⟨S1x1x128x4x1, .f32⟩
  | 51 => ⟨S_, .f32⟩
  | 52 => ⟨S128x4, .f32⟩
  | 53 => ⟨S128x4, .f32⟩
  | 54 => ⟨S128x4, .f32⟩
  | 55 => ⟨S128x4, .f32⟩
  | 56 => ⟨S_, .f32⟩
  | 57 => ⟨S4, .f32⟩
  | 58 => ⟨S1x4, .f32⟩
  | 59 => ⟨S_, .f32⟩
  | 60 => ⟨S4, .f32⟩
  | 61 => ⟨S4, .f32⟩
  | 62 => ⟨S2x16x4x128x128, .f32⟩
  | 63 => ⟨S2x16x4x128x128, .f32⟩
  | 64 => ⟨S2x16x4x128x128, .f32⟩
  | 65 => ⟨S_, .f32⟩
  | 66 => ⟨S4x128x128, .f32⟩
  | 67 => ⟨S1x1x4x128x128, .f32⟩
  | 68 => ⟨S_, .f32⟩
  | 69 => ⟨S4x128x128, .f32⟩
  | 70 => ⟨S_, .f32⟩
  | 71 => ⟨S4x128x128, .f32⟩
  | 72 => ⟨S4x128x128, .f32⟩
  | 73 => ⟨S4x128x128, .f32⟩
  | 74 => ⟨S4x128x128, .f32⟩
  | 75 => ⟨S4x128x128, .f32⟩
  | 76 => ⟨S_, .f32⟩
  | 77 => ⟨S4, .f32⟩
  | 78 => ⟨S4x1x1, .f32⟩
  | 79 => ⟨S_, .f32⟩
  | 80 => ⟨S4, .f32⟩
  | 81 => ⟨S4, .f32⟩
  | 82 => ⟨S2x2x128x4x128, .f32⟩
  | 83 => ⟨S2x2x4x128x128, .f32⟩
  | 84 => ⟨S2x2x4x128x128, .f32⟩
  | 85 => ⟨S2x2x128x4x128, .f32⟩
  | 86 => ⟨S2x2x4x128x128, .f32⟩
  | 87 => ⟨S2x2x4x128x128, .f32⟩
  | 88 => ⟨S2x2x128x4x128, .f32⟩
  | 89 => ⟨S_, .f32⟩
  | 90 => ⟨S128x4, .f32⟩
  | 91 => ⟨S1x1x128x4x1, .f32⟩
  | 92 => ⟨S_, .f32⟩
  | 93 => ⟨S128x4, .f32⟩
  | 94 => ⟨S128x4, .f32⟩
  | 95 => ⟨S128x4, .f32⟩
  | 96 => ⟨S128x4, .f32⟩
  | 97 => ⟨S_, .f32⟩
  | 98 => ⟨S4, .f32⟩
  | 99 => ⟨S1x4, .f32⟩
  | 100 => ⟨S_, .f32⟩
  | 101 => ⟨S4, .f32⟩
  | 102 => ⟨S4, .f32⟩
  | 103 => ⟨S2x1x4x128x128, .f32⟩
  | 104 => ⟨S2x4x128x128, .f32⟩
  | 105 => ⟨S2x1x4x128x128, .f32⟩
  | 106 => ⟨S2x4x128x128, .f32⟩
  | 107 => ⟨S2x1x4x128x128, .f32⟩
  | 108 => ⟨S_, .f32⟩
  | 109 => ⟨S2x2x4x128x128, .f32⟩
  | 110 => ⟨S2x4x128x128, .f32⟩
  | 111 => ⟨S2x4x128x128, .f32⟩
  | 112 => ⟨S2x4x128x128, .f32⟩
  | 113 => ⟨S2x4x128x128, .f32⟩
  | 114 => ⟨S_, .f32⟩
  | 115 => ⟨S4, .f32⟩
  | 116 => ⟨S1x4x1x1, .f32⟩
  | 117 => ⟨S2x1x4x128x128, .f32⟩
  | 118 => ⟨S_, .f32⟩
  | 119 => ⟨S2x2x4x128x128, .f32⟩
  | 120 => ⟨S2x2x4x128x128, .f32⟩
  | 121 => ⟨S2x4x128x128, .f32⟩
  | 122 => ⟨S_, .f32⟩
  | 123 => ⟨S4, .f32⟩
  | 124 => ⟨S1x4x1x1, .f32⟩
  | 125 => ⟨S1x4x1x1, .f32⟩
  | 126 => ⟨S_, .f32⟩
  | 127 => ⟨S4, .f32⟩
  | _ => ⟨S2x2304x512, .f32⟩

abbrev hbmTy0_5 (i : Nat) : BufTy := match i % 128 with
  | 0 => ⟨S4, .f32⟩
  | 1 => ⟨S_, .f32⟩
  | 2 => ⟨S4, .f32⟩
  | 3 => ⟨S4, .f32⟩
  | 4 => ⟨S4, .f32⟩
  | 5 => ⟨S2x2x4x128x128, .f32⟩
  | 6 => ⟨S2x2x128x4x128, .f32⟩
  | 7 => ⟨S2x2x128x4x128, .f32⟩
  | 8 => ⟨S_, .f32⟩
  | 9 => ⟨S128x4, .f32⟩
  | 10 => ⟨S1x1x128x4x1, .f32⟩
  | 11 => ⟨S_, .f32⟩
  | 12 => ⟨S128x4, .f32⟩
  | 13 => ⟨S128x4, .f32⟩
  | 14 => ⟨S128x4, .f32⟩
  | 15 => ⟨S128x4, .f32⟩
  | 16 => ⟨S_, .f32⟩
  | 17 => ⟨S4, .f32⟩
  | 18 => ⟨S1x4, .f32⟩
  | 19 => ⟨S_, .f32⟩
  | 20 => ⟨S4, .f32⟩
  | 21 => ⟨S4, .f32⟩
  | 22 => ⟨S2x2x4x128x128, .f32⟩
  | 23 => ⟨S2x2x4x128x128, .f32⟩
  | 24 => ⟨S2x2x4x128x128, .f32⟩
  | 25 => ⟨S_, .f32⟩
  | 26 => ⟨S4x128x128, .f32⟩
  | 27 => ⟨S1x1x4x128x128, .f32⟩
  | 28 => ⟨S_, .f32⟩
  | 29 => ⟨S4x128x128, .f32⟩
  | 30 => ⟨S_, .f32⟩
  | 31 => ⟨S4x128x128, .f32⟩
  | 32 => ⟨S4x128x128, .f32⟩
  | 33 => ⟨S4x128x128, .f32⟩
  | 34 => ⟨S4x128x128, .f32⟩
  | 35 => ⟨S4x128x128, .f32⟩
  | 36 => ⟨S_, .f32⟩
  | 37 => ⟨S4, .f32⟩
  | 38 => ⟨S4x1x1, .f32⟩
  | 39 => ⟨S_, .f32⟩
  | 40 => ⟨S4, .f32⟩
  | 41 => ⟨S4, .f32⟩
  | 42 => ⟨S4, .f32⟩
  | 43 => ⟨S4, .f32⟩
  | 44 => ⟨S4, .f32⟩
  | 45 => ⟨S4, .f32⟩
  | 46 => ⟨S_, .f32⟩
  | 47 => ⟨S4, .f32⟩
  | 48 => ⟨S4, .f32⟩
  | 49 => ⟨S4, .f32⟩
  | 50 => ⟨S4, .f32⟩
  | 51 => ⟨S4, .i1⟩
  | 52 => ⟨S4, .f32⟩
  | 53 => ⟨S4, .f32⟩
  | 54 => ⟨S4, .f32⟩
  | 55 => ⟨S4, .f32⟩
  | 56 => ⟨S4, .f32⟩
  | 57 => ⟨S4, .f32⟩
  | 58 => ⟨S4, .f32⟩
  | 59 => ⟨S4, .f32⟩
  | 60 => ⟨S_, .f32⟩
  | 61 => ⟨S4, .f32⟩
  | 62 => ⟨S4, .i1⟩
  | 63 => ⟨S_, .f32⟩
  | 64 => ⟨S4, .f32⟩
  | 65 => ⟨S4, .f32⟩
  | 66 => ⟨S_, .f32⟩
  | 67 => ⟨S4, .f32⟩
  | 68 => ⟨S4, .i1⟩
  | 69 => ⟨S_, .f32⟩
  | 70 => ⟨S4, .f32⟩
  | 71 => ⟨S4, .f32⟩
  | 72 => ⟨S4, .f32⟩
  | 73 => ⟨S4, .f32⟩
  | 74 => ⟨S_, .f32⟩
  | 75 => ⟨S_, .f32⟩
  | 76 => ⟨S_, .i1⟩
  | 77 => ⟨S_, .f32⟩
  | 78 => ⟨S_, .f32⟩
  | 79 => ⟨S_, .f32⟩
  | 80 => ⟨S_, .f32⟩
  | 81 => ⟨S4, .f32⟩
  | 82 => ⟨S4, .i1⟩
  | 83 => ⟨S_, .f32⟩
  | 84 => ⟨S4, .f32⟩
  | 85 => ⟨S4, .f32⟩
  | 86 => ⟨S4, .f32⟩
  | 87 => ⟨S4, .f32⟩
  | 88 => ⟨S4, .f32⟩
  | 89 => ⟨S_, .f32⟩
  | 90 => ⟨S4, .f32⟩
  | 91 => ⟨S4, .f32⟩
  | 92 => ⟨S4, .f32⟩
  | 93 => ⟨S2x2304x4x128, .f32⟩
  | 94 => ⟨S2x2304x4x128, .f32⟩
  | 95 => ⟨S2x2304x4x128, .f32⟩
  | 96 => ⟨S_, .f32⟩
  | 97 => ⟨S2x4x128x128, .f32⟩
  | 98 => ⟨S2x256x4x128, .f32⟩
  | 99 => ⟨S2x256x4x128, .f32⟩
  | 100 => ⟨S2x256x4x128, .f32⟩
  | 101 => ⟨S2x256x4x128, .f32⟩
  | 102 => ⟨S2x256x4x128, .f32⟩
  | 103 => ⟨S2x256x4x128, .f32⟩
  | 104 => ⟨S2x2x128x4x128, .f32⟩
  | 105 => ⟨S2x2x128x4x128, .f32⟩
  | 106 => ⟨S2x2x128x4x128, .f32⟩
  | 107 => ⟨S128, .f32⟩
  | 108 => ⟨S128x1, .f32⟩
  | 109 => ⟨S1x128, .f32⟩
  | 110 => ⟨S128x128, .f32⟩
  | 111 => ⟨S128x128, .f32⟩
  | 112 => ⟨S128x128, .f32⟩
  | 113 => ⟨S_, .f32⟩
  | 114 => ⟨S128x128, .f32⟩
  | 115 => ⟨S128x128, .i1⟩
  | 116 => ⟨S1x128x128, .i1⟩
  | 117 => ⟨S_, .f32⟩
  | 118 => ⟨S128x128, .f32⟩
  | 119 => ⟨S128x128, .f32⟩
  | 120 => ⟨S1x128x128, .f32⟩
  | 121 => ⟨S4x1x1, .f32⟩
  | 122 => ⟨S4x128x128, .f32⟩
  | 123 => ⟨S4x128x128, .f32⟩
  | 124 => ⟨S4x128x128, .f32⟩
  | 125 => ⟨S4x128x128, .f32⟩
  | 126 => ⟨S_, .f32⟩
  | 127 => ⟨S_, .f32⟩
  | _ => ⟨S2x2304x512, .f32⟩

abbrev hbmTy0_6 (i : Nat) : BufTy := match i % 128 with
  | 0 => ⟨S4x128x128, .i1⟩
  | 1 => ⟨S4x128x128, .f32⟩
  | 2 => ⟨S4x128x128, .f32⟩
  | 3 => ⟨S_, .f32⟩
  | 4 => ⟨S4x128x128, .f32⟩
  | 5 => ⟨S2x2x4x128x128, .f32⟩
  | 6 => ⟨S1x1x4x128x128, .f32⟩
  | 7 => ⟨S2x2x4x128x128, .f32⟩
  | 8 => ⟨S2x2x4x128x128, .f32⟩
  | 9 => ⟨S2x2x4x128x128, .f32⟩
  | 10 => ⟨S2x2x128x4x128, .f32⟩
  | 11 => ⟨S_, .f32⟩
  | 12 => ⟨S128, .f32⟩
  | 13 => ⟨S128, .f32⟩
  | 14 => ⟨S128x1, .f32⟩
  | 15 => ⟨S1x4, .f32⟩
  | 16 => ⟨S128x4, .f32⟩
  | 17 => ⟨S128x4, .f32⟩
  | 18 => ⟨S128x4, .f32⟩
  | 19 => ⟨S128x4, .f32⟩
  | 20 => ⟨S1x1x128x4x1, .f32⟩
  | 21 => ⟨S2x2x128x4x128, .f32⟩
  | 22 => ⟨S2x2x128x4x128, .f32⟩
  | 23 => ⟨S2x2x4x128x128, .f32⟩
  | 24 => ⟨S_, .f32⟩
  | 25 => ⟨S4, .f32⟩
  | 26 => ⟨S4, .f32⟩
  | 27 => ⟨S4, .f32⟩
  | 28 => ⟨S1x4x1x1, .f32⟩
  | 29 => ⟨S2x4x128x128, .f32⟩
  | 30 => ⟨S2x4x128x128, .f32⟩
  | 31 => ⟨S2x1x4x128x128, .f32⟩
  | 32 => ⟨S2x4x128x128, .f32⟩
  | 33 => ⟨S2x4x128x128, .f32⟩
  | 34 => ⟨S2x4x128x128, .f32⟩
  | 35 => ⟨S2x4x128x128, .f32⟩
  | 36 => ⟨S2x1x4x128x128, .f32⟩
  | 37 => ⟨S2x4x128x128, .f32⟩
  | 38 => ⟨S2x4x128x128, .f32⟩
  | 39 => ⟨S2x1x4x128x128, .f32⟩
  | 40 => ⟨S2x1x4x128x128, .f32⟩
  | 41 => ⟨S2x2x4x128x128, .f32⟩
  | 42 => ⟨S_, .f32⟩
  | 43 => ⟨S2x4x128x128, .f32⟩
  | 44 => ⟨S_, .f32⟩
  | 45 => ⟨S128, .f32⟩
  | 46 => ⟨S128, .f32⟩
  | 47 => ⟨S128x1, .f32⟩
  | 48 => ⟨S1x4, .f32⟩
  | 49 => ⟨S128x4, .f32⟩
  | 50 => ⟨S128x4, .f32⟩
  | 51 => ⟨S128x4, .f32⟩
  | 52 => ⟨S128x4, .f32⟩
  | 53 => ⟨S1x1x128x4x1, .f32⟩
  | 54 => ⟨S2x2x128x4x128, .f32⟩
  | 55 => ⟨S2x2x128x4x128, .f32⟩
  | 56 => ⟨S2x2x4x128x128, .f32⟩
  | 57 => ⟨S2x2x128x4x128, .f32⟩
  | 58 => ⟨S2x2x128x4x128, .f32⟩
  | 59 => ⟨S2x256x4x128, .f32⟩
  | 60 => ⟨S2x2048x4x128, .f32⟩
  | 61 => ⟨S2x2048x4x128, .f32⟩
  | 62 => ⟨S2x2048x4x128, .f32⟩
  | 63 => ⟨S2x2048x4x128, .f32⟩
  | 64 => ⟨S2x2048x4x128, .f32⟩
  | 65 => ⟨S2x2048x4x128, .f32⟩
  | 66 => ⟨S2x16x128x4x128, .f32⟩
  | 67 => ⟨S2x16x128x4x128, .f32⟩
  | 68 => ⟨S2x16x128x4x128, .f32⟩
  | 69 => ⟨S128, .f32⟩
  | 70 => ⟨S128x1, .f32⟩
  | 71 => ⟨S1x128, .f32⟩
  | 72 => ⟨S128x128, .f32⟩
  | 73 => ⟨S128x128, .f32⟩
  | 74 => ⟨S128x128, .f32⟩
  | 75 => ⟨S_, .f32⟩
  | 76 => ⟨S128x128, .f32⟩
  | 77 => ⟨S128x128, .i1⟩
  | 78 => ⟨S1x128x128, .i1⟩
  | 79 => ⟨S_, .f32⟩
  | 80 => ⟨S128x128, .f32⟩
  | 81 => ⟨S128x128, .f32⟩
  | 82 => ⟨S1x128x128, .f32⟩
  | 83 => ⟨S4x1x1, .f32⟩
  | 84 => ⟨S4x128x128, .f32⟩
  | 85 => ⟨S4x128x128, .f32⟩
  | 86 => ⟨S4x128x128, .f32⟩
  | 87 => ⟨S4x128x128, .f32⟩
  | 88 => ⟨S_, .f32⟩
  | 89 => ⟨S_, .f32⟩
  | 90 => ⟨S4x128x128, .i1⟩
  | 91 => ⟨S4x128x128, .f32⟩
  | 92 => ⟨S4x128x128, .f32⟩
  | 93 => ⟨S_, .f32⟩
  | 94 => ⟨S4x128x128, .f32⟩
  | 95 => ⟨S2x16x4x128x128, .f32⟩
  | 96 => ⟨S1x1x4x128x128, .f32⟩
  | 97 => ⟨S2x16x4x128x128, .f32⟩
  | 98 => ⟨S2x16x4x128x128, .f32⟩
  | 99 => ⟨S2x16x4x128x128, .f32⟩
  | 100 => ⟨S2x16x128x4x128, .f32⟩
  | 101 => ⟨S_, .f32⟩
  | 102 => ⟨S128, .f32⟩
  | 103 => ⟨S128, .f32⟩
  | 104 => ⟨S128x1, .f32⟩
  | 105 => ⟨S1x4, .f32⟩
  | 106 => ⟨S128x4, .f32⟩
  | 107 => ⟨S128x4, .f32⟩
  | 108 => ⟨S128x4, .f32⟩
  | 109 => ⟨S128x4, .f32⟩
  | 110 => ⟨S1x1x128x4x1, .f32⟩
  | 111 => ⟨S2x16x128x4x128, .f32⟩
  | 112 => ⟨S2x16x128x4x128, .f32⟩
  | 113 => ⟨S2x16x4x128x128, .f32⟩
  | 114 => ⟨S_, .f32⟩
  | 115 => ⟨S4, .f32⟩
  | 116 => ⟨S4, .f32⟩
  | 117 => ⟨S4, .f32⟩
  | 118 => ⟨S1x4x1x1, .f32⟩
  | 119 => ⟨S2x4x128x128, .f32⟩
  | 120 => ⟨S2x4x128x128, .f32⟩
  | 121 => ⟨S2x1x4x128x128, .f32⟩
  | 122 => ⟨S2x4x128x128, .f32⟩
  | 123 => ⟨S2x4x128x128, .f32⟩
  | 124 => ⟨S2x4x128x128, .f32⟩
  | 125 => ⟨S2x4x128x128, .f32⟩
  | 126 => ⟨S2x1x4x128x128, .f32⟩
  | 127 => ⟨S2x4x128x128, .f32⟩
  | _ => ⟨S2x2304x512, .f32⟩

abbrev hbmTy0_7 (i : Nat) : BufTy := match i % 128 with
  | 0 => ⟨S2x4x128x128, .f32⟩
  | 1 => ⟨S2x4x128x128, .f32⟩
  | 2 => ⟨S2x4x128x128, .f32⟩
  | 3 => ⟨S2x1x4x128x128, .f32⟩
  | 4 => ⟨S2x4x128x128, .f32⟩
  | 5 => ⟨S2x4x128x128, .f32⟩
  | 6 => ⟨S2x4x128x128, .f32⟩
  | 7 => ⟨S2x4x128x128, .f32⟩
  | 8 => ⟨S2x1x4x128x128, .f32⟩
  | 9 => ⟨S2x4x128x128, .f32⟩
  | 10 => ⟨S2x4x128x128, .f32⟩
  | 11 => ⟨S2x4x128x128, .f32⟩
  | 12 => ⟨S2x4x128x128, .f32⟩
  | 13 => ⟨S2x1x4x128x128, .f32⟩
  | 14 => ⟨S2x4x128x128, .f32⟩
  | 15 => ⟨S2x4x128x128, .f32⟩
  | 16 => ⟨S2x4x128x128, .f32⟩
  | 17 => ⟨S2x4x128x128, .f32⟩
  | 18 => ⟨S2x1x4x128x128, .f32⟩
  | 19 => ⟨S2x4x128x128, .f32⟩
  | 20 => ⟨S2x4x128x128, .f32⟩
  | 21 => ⟨S2x4x128x128, .f32⟩
  | 22 => ⟨S2x4x128x128, .f32⟩
  | 23 => ⟨S2x1x4x128x128, .f32⟩
  | 24 => ⟨S2x4x128x128, .f32⟩
  | 25 => ⟨S2x4x128x128, .f32⟩
  | 26 => ⟨S2x4x128x128, .f32⟩
  | 27 => ⟨S2x4x128x128, .f32⟩
  | 28 => ⟨S2x1x4x128x128, .f32⟩
  | 29 => ⟨S2x4x128x128, .f32⟩
  | 30 => ⟨S2x4x128x128, .f32⟩
  | 31 => ⟨S2x4x128x128, .f32⟩
  | 32 => ⟨S2x4x128x128, .f32⟩
  | 33 => ⟨S2x1x4x128x128, .f32⟩
  | 34 => ⟨S2x4x128x128, .f32⟩
  | 35 => ⟨S2x4x128x128, .f32⟩
  | 36 => ⟨S2x4x128x128, .f32⟩
  | 37 => ⟨S2x4x128x128, .f32⟩
  | 38 => ⟨S2x1x4x128x128, .f32⟩
  | 39 => ⟨S2x4x128x128, .f32⟩
  | 40 => ⟨S2x4x128x128, .f32⟩
  | 41 => ⟨S2x4x128x128, .f32⟩
  | 42 => ⟨S2x4x128x128, .f32⟩
  | 43 => ⟨S2x1x4x128x128, .f32⟩
  | 44 => ⟨S2x4x128x128, .f32⟩
  | 45 => ⟨S2x4x128x128, .f32⟩
  | 46 => ⟨S2x4x128x128, .f32⟩
  | 47 => ⟨S2x4x128x128, .f32⟩
  | 48 => ⟨S2x1x4x128x128, .f32⟩
  | 49 => ⟨S2x4x128x128, .f32⟩
  | 50 => ⟨S2x4x128x128, .f32⟩
  | 51 => ⟨S2x4x128x128, .f32⟩
  | 52 => ⟨S2x4x128x128, .f32⟩
  | 53 => ⟨S2x1x4x128x128, .f32⟩
  | 54 => ⟨S2x4x128x128, .f32⟩
  | 55 => ⟨S2x4x128x128, .f32⟩
  | 56 => ⟨S2x4x128x128, .f32⟩
  | 57 => ⟨S2x4x128x128, .f32⟩
  | 58 => ⟨S2x1x4x128x128, .f32⟩
  | 59 => ⟨S2x4x128x128, .f32⟩
  | 60 => ⟨S2x4x128x128, .f32⟩
  | 61 => ⟨S2x4x128x128, .f32⟩
  | 62 => ⟨S2x4x128x128, .f32⟩
  | 63 => ⟨S2x1x4x128x128, .f32⟩
  | 64 => ⟨S2x4x128x128, .f32⟩
  | 65 => ⟨S2x4x128x128, .f32⟩
  | 66 => ⟨S2x4x128x128, .f32⟩
  | 67 => ⟨S2x4x128x128, .f32⟩
  | 68 => ⟨S2x1x4x128x128, .f32⟩
  | 69 => ⟨S2x4x128x128, .f32⟩
  | 70 => ⟨S2x4x128x128, .f32⟩
  | 71 => ⟨S2x1x4x128x128, .f32⟩
  | 72 => ⟨S2x1x4x128x128, .f32⟩
  | 73 => ⟨S2x1x4x128x128, .f32⟩
  | 74 => ⟨S2x1x4x128x128, .f32⟩
  | 75 => ⟨S2x1x4x128x128, .f32⟩
  | 76 => ⟨S2x1x4x128x128, .f32⟩
  | 77 => ⟨S2x1x4x128x128, .f32⟩
  | 78 => ⟨S2x1x4x128x128, .f32⟩
  | 79 => ⟨S2x1x4x128x128, .f32⟩
  | 80 => ⟨S2x1x4x128x128, .f32⟩
  | 81 => ⟨S2x1x4x128x128, .f32⟩
  | 82 => ⟨S2x1x4x128x128, .f32⟩
  | 83 => ⟨S2x1x4x128x128, .f32⟩
  | 84 => ⟨S2x1x4x128x128, .f32⟩
  | 85 => ⟨S2x1x4x128x128, .f32⟩
  | 86 => ⟨S2x1x4x128x128, .f32⟩
  | 87 => ⟨S2x16x4x128x128, .f32⟩
  | 88 => ⟨S_, .f32⟩
  | 89 => ⟨S128, .f32⟩
  | 90 => ⟨S128, .f32⟩
  | 91 => ⟨S128x1, .f32⟩
  | 92 => ⟨S1x4, .f32⟩
  | 93 => ⟨S128x4, .f32⟩
  | 94 => ⟨S128x4, .f32⟩
  | 95 => ⟨S128x4, .f32⟩
  | 96 => ⟨S128x4, .f32⟩
  | 97 => ⟨S1x1x128x4x1, .f32⟩
  | 98 => ⟨S2x16x128x4x128, .f32⟩
  | 99 => ⟨S2x16x128x4x128, .f32⟩
  | 100 => ⟨S2x16x4x128x128, .f32⟩
  | 101 => ⟨S2x16x128x4x128, .f32⟩
  | 102 => ⟨S2x16x128x4x128, .f32⟩
  | 103 => ⟨S2x2048x4x128, .f32⟩
  | 104 => ⟨S2x256x4x128, .f32⟩
  | 105 => ⟨S2x2048x4x128, .f32⟩
  | 106 => ⟨S2x2304x4x128, .f32⟩
  | 107 => ⟨S2x2304x512, .f32⟩
  | 108 => ⟨S2x2304x4x128, .f32⟩
  | 109 => ⟨S2x256x4x128, .f32⟩
  | 110 => ⟨S2x2048x4x128, .f32⟩
  | 111 => ⟨S2x2048x4x128, .f32⟩
  | 112 => ⟨S2x256x4x128, .f32⟩
  | 113 => ⟨S2x16x128x4x128, .f32⟩
  | 114 => ⟨S2x16x4x128x128, .f32⟩
  | 115 => ⟨S2x16x4x128x128, .f32⟩
  | 116 => ⟨S2x16x128x4x128, .f32⟩
  | 117 => ⟨S2x16x4x128x128, .f32⟩
  | 118 => ⟨S2x16x4x128x128, .f32⟩
  | 119 => ⟨S2x16x128x4x128, .f32⟩
  | 120 => ⟨S_, .f32⟩
  | 121 => ⟨S128x4, .f32⟩
  | 122 => ⟨S1x1x128x4x1, .f32⟩
  | 123 => ⟨S_, .f32⟩
  | 124 => ⟨S128x4, .f32⟩
  | 125 => ⟨S128x4, .f32⟩
  | 126 => ⟨S128x4, .f32⟩
  | 127 => ⟨S128x4, .f32⟩
  | _ => ⟨S2x2304x512, .f32⟩

abbrev hbmTy0_8 (i : Nat) : BufTy := match i % 128 with
  | 0 => ⟨S_, .f32⟩
  | 1 => ⟨S4, .f32⟩
  | 2 => ⟨S1x4, .f32⟩
  | 3 => ⟨S_, .f32⟩
  | 4 => ⟨S4, .f32⟩
  | 5 => ⟨S2x1x4x128x128, .f32⟩
  | 6 => ⟨S2x4x128x128, .f32⟩
  | 7 => ⟨S2x1x4x128x128, .f32⟩
  | 8 => ⟨S2x4x128x128, .f32⟩
  | 9 => ⟨S2x1x4x128x128, .f32⟩
  | 10 => ⟨S2x4x128x128, .f32⟩
  | 11 => ⟨S2x1x4x128x128, .f32⟩
  | 12 => ⟨S2x4x128x128, .f32⟩
  | 13 => ⟨S2x1x4x128x128, .f32⟩
  | 14 => ⟨S2x4x128x128, .f32⟩
  | 15 => ⟨S2x1x4x128x128, .f32⟩
  | 16 => ⟨S2x4x128x128, .f32⟩
  | 17 => ⟨S2x1x4x128x128, .f32⟩
  | 18 => ⟨S2x4x128x128, .f32⟩
  | 19 => ⟨S2x1x4x128x128, .f32⟩
  | 20 => ⟨S2x4x128x128, .f32⟩
  | 21 => ⟨S2x1x4x128x128, .f32⟩
  | 22 => ⟨S2x4x128x128, .f32⟩
  | 23 => ⟨S2x1x4x128x128, .f32⟩
  | 24 => ⟨S2x4x128x128, .f32⟩
  | 25 => ⟨S2x1x4x128x128, .f32⟩
  | 26 => ⟨S2x4x128x128, .f32⟩
  | 27 => ⟨S2x1x4x128x128, .f32⟩
  | 28 => ⟨S2x4x128x128, .f32⟩
  | 29 => ⟨S2x1x4x128x128, .f32⟩
  | 30 => ⟨S2x4x128x128, .f32⟩
  | 31 => ⟨S2x1x4x128x128, .f32⟩
  | 32 => ⟨S2x4x128x128, .f32⟩
  | 33 => ⟨S2x1x4x128x128, .f32⟩
  | 34 => ⟨S2x4x128x128, .f32⟩
  | 35 => ⟨S2x1x4x128x128, .f32⟩
  | 36 => ⟨S2x4x128x128, .f32⟩
  | 37 => ⟨S2x1x4x128x128, .f32⟩
  | 38 => ⟨S_, .f32⟩
  | 39 => ⟨S2x16x4x128x128, .f32⟩
  | 40 => ⟨S2x4x128x128, .f32⟩
  | 41 => ⟨S2x4x128x128, .f32⟩
  | 42 => ⟨S2x4x128x128, .f32⟩
  | 43 => ⟨S2x4x128x128, .f32⟩
  | 44 => ⟨S_, .f32⟩
  | 45 => ⟨S4, .f32⟩
  | 46 => ⟨S1x4x1x1, .f32⟩
  | 47 => ⟨S2x1x4x128x128, .f32⟩
  | 48 => ⟨S_, .f32⟩
  | 49 => ⟨S2x16x4x128x128, .f32⟩
  | 50 => ⟨S2x16x4x128x128, .f32⟩
  | 51 => ⟨S2x4x128x128, .f32⟩
  | 52 => ⟨S2x4x128x128, .f32⟩
  | 53 => ⟨S2x4x128x128, .f32⟩
  | 54 => ⟨S2x4x128x128, .f32⟩
  | 55 => ⟨S_, .f32⟩
  | 56 => ⟨S4, .f32⟩
  | 57 => ⟨S1x4x1x1, .f32⟩
  | 58 => ⟨S1x4x1x1, .f32⟩
  | 59 => ⟨S2x1x4x128x128, .f32⟩
  | 60 => ⟨S_, .f32⟩
  | 61 => ⟨S2x16x4x128x128, .f32⟩
  | 62 => ⟨S2x16x4x128x128, .f32⟩
  | 63 => ⟨S2x4x128x128, .f32⟩
  | 64 => ⟨S2x4x128x128, .f32⟩
  | 65 => ⟨S2x4x128x128, .f32⟩
  | 66 => ⟨S2x4x128x128, .f32⟩
  | 67 => ⟨S_, .f32⟩
  | 68 => ⟨S4, .f32⟩
  | 69 => ⟨S1x4x1x1, .f32⟩
  | 70 => ⟨S1x4x1x1, .f32⟩
  | 71 => ⟨S2x1x4x128x128, .f32⟩
  | 72 => ⟨S_, .f32⟩
  | 73 => ⟨S2x16x4x128x128, .f32⟩
  | 74 => ⟨S2x16x4x128x128, .f32⟩
  | 75 => ⟨S2x4x128x128, .f32⟩
  | 76 => ⟨S2x4x128x128, .f32⟩
  | 77 => ⟨S2x4x128x128, .f32⟩
  | 78 => ⟨S2x4x128x128, .f32⟩
  | 79 => ⟨S_, .f32⟩
  | 80 => ⟨S4, .f32⟩
  | 81 => ⟨S1x4x1x1, .f32⟩
  | 82 => ⟨S1x4x1x1, .f32⟩
  | 83 => ⟨S2x1x4x128x128, .f32⟩
  | 84 => ⟨S_, .f32⟩
  | 85 => ⟨S2x16x4x128x128, .f32⟩
  | 86 => ⟨S2x16x4x128x128, .f32⟩
  | 87 => ⟨S2x4x128x128, .f32⟩
  | 88 => ⟨S2x4x128x128, .f32⟩
  | 89 => ⟨S2x4x128x128, .f32⟩
  | 90 => ⟨S2x4x128x128, .f32⟩
  | 91 => ⟨S_, .f32⟩
  | 92 => ⟨S4, .f32⟩
  | 93 => ⟨S1x4x1x1, .f32⟩
  | 94 => ⟨S1x4x1x1, .f32⟩
  | 95 => ⟨S2x1x4x128x128, .f32⟩
  | 96 => ⟨S_, .f32⟩
  | 97 => ⟨S2x16x4x128x128, .f32⟩
  | 98 => ⟨S2x16x4x128x128, .f32⟩
  | 99 => ⟨S2x4x128x128, .f32⟩
  | 100 => ⟨S2x4x128x128, .f32⟩
  | 101 => ⟨S2x4x128x128, .f32⟩
  | 102 => ⟨S2x4x128x128, .f32⟩
  | 103 => ⟨S_, .f32⟩
  | 104 => ⟨S4, .f32⟩
  | 105 => ⟨S1x4x1x1, .f32⟩
  | 106 => ⟨S1x4x1x1, .f32⟩
  | 107 => ⟨S2x1x4x128x128, .f32⟩
  | 108 => ⟨S_, .f32⟩
  | 109 => ⟨S2x16x4x128x128, .f32⟩
  | 110 => ⟨S2x16x4x128x128, .f32⟩
  | 111 => ⟨S2x4x128x128, .f32⟩
  | 112 => ⟨S2x4x128x128, .f32⟩
  | 113 => ⟨S2x4x128x128, .f32⟩
  | 114 => ⟨S2x4x128x128, .f32⟩
  | 115 => ⟨S_, .f32⟩
  | 116 => ⟨S4, .f32⟩
  | 117 => ⟨S1x4x1x1, .f32⟩
  | 118 => ⟨S1x4x1x1, .f32⟩
  | 119 => ⟨S2x1x4x128x128, .f32⟩
  | 120 => ⟨S_, .f32⟩
  | 121 => ⟨S2x16x4x128x128, .f32⟩
  | 122 => ⟨S2x16x4x128x128, .f32⟩
  | 123 => ⟨S2x4x128x128, .f32⟩
  | 124 => ⟨S2x4x128x128, .f32⟩
  | 125 => ⟨S2x4x128x128, .f32⟩
  | 126 => ⟨S2x4x128x128, .f32⟩
  | 127 => ⟨S_, .f32⟩
  | _ => ⟨S2x2304x512, .f32⟩

abbrev hbmTy0_9 (i : Nat) : BufTy := match i % 128 with
  | 0 => ⟨S4, .f32⟩
  | 1 => ⟨S1x4x1x1, .f32⟩
  | 2 => ⟨S1x4x1x1, .f32⟩
  | 3 => ⟨S2x1x4x128x128, .f32⟩
  | 4 => ⟨S_, .f32⟩
  | 5 => ⟨S2x16x4x128x128, .f32⟩
  | 6 => ⟨S2x16x4x128x128, .f32⟩
  | 7 => ⟨S2x4x128x128, .f32⟩
  | 8 => ⟨S2x4x128x128, .f32⟩
  | 9 => ⟨S2x4x128x128, .f32⟩
  | 10 => ⟨S2x4x128x128, .f32⟩
  | 11 => ⟨S_, .f32⟩
  | 12 => ⟨S4, .f32⟩
  | 13 => ⟨S1x4x1x1, .f32⟩
  | 14 => ⟨S1x4x1x1, .f32⟩
  | 15 => ⟨S2x1x4x128x128, .f32⟩
  | 16 => ⟨S_, .f32⟩
  | 17 => ⟨S2x16x4x128x128, .f32⟩
  | 18 => ⟨S2x16x4x128x128, .f32⟩
  | 19 => ⟨S2x4x128x128, .f32⟩
  | 20 => ⟨S2x4x128x128, .f32⟩
  | 21 => ⟨S2x4x128x128, .f32⟩
  | 22 => ⟨S2x4x128x128, .f32⟩
  | 23 => ⟨S_, .f32⟩
  | 24 => ⟨S4, .f32⟩
  | 25 => ⟨S1x4x1x1, .f32⟩
  | 26 => ⟨S1x4x1x1, .f32⟩
  | 27 => ⟨S2x1x4x128x128, .f32⟩
  | 28 => ⟨S_, .f32⟩
  | 29 => ⟨S2x16x4x128x128, .f32⟩
  | 30 => ⟨S2x16x4x128x128, .f32⟩
  | 31 => ⟨S2x4x128x128, .f32⟩
  | 32 => ⟨S2x4x128x128, .f32⟩
  | 33 => ⟨S2x4x128x128, .f32⟩
  | 34 => ⟨S2x4x128x128, .f32⟩
  | 35 => ⟨S_, .f32⟩
  | 36 => ⟨S4, .f32⟩
  | 37 => ⟨S1x4x1x1, .f32⟩
  | 38 => ⟨S1x4x1x1, .f32⟩
  | 39 => ⟨S2x1x4x128x128, .f32⟩
  | 40 => ⟨S_, .f32⟩
  | 41 => ⟨S2x16x4x128x128, .f32⟩
  | 42 => ⟨S2x16x4x128x128, .f32⟩
  | 43 => ⟨S2x4x128x128, .f32⟩
  | 44 => ⟨S2x4x128x128, .f32⟩
  | 45 => ⟨S2x4x128x128, .f32⟩
  | 46 => ⟨S2x4x128x128, .f32⟩
  | 47 => ⟨S_, .f32⟩
  | 48 => ⟨S4, .f32⟩
  | 49 => ⟨S1x4x1x1, .f32⟩
  | 50 => ⟨S1x4x1x1, .f32⟩
  | 51 => ⟨S2x1x4x128x128, .f32⟩
  | 52 => ⟨S_, .f32⟩
  | 53 => ⟨S2x16x4x128x128, .f32⟩
  | 54 => ⟨S2x16x4x128x128, .f32⟩
  | 55 => ⟨S2x4x128x128, .f32⟩
  | 56 => ⟨S2x4x128x128, .f32⟩
  | 57 => ⟨S2x4x128x128, .f32⟩
  | 58 => ⟨S2x4x128x128, .f32⟩
  | 59 => ⟨S_, .f32⟩
  | 60 => ⟨S4, .f32⟩
  | 61 => ⟨S1x4x1x1, .f32⟩
  | 62 => ⟨S1x4x1x1, .f32⟩
  | 63 => ⟨S2x1x4x128x128, .f32⟩
  | 64 => ⟨S_, .f32⟩
  | 65 => ⟨S2x16x4x128x128, .f32⟩
  | 66 => ⟨S2x16x4x128x128, .f32⟩
  | 67 => ⟨S2x4x128x128, .f32⟩
  | 68 => ⟨S2x4x128x128, .f32⟩
  | 69 => ⟨S2x4x128x128, .f32⟩
  | 70 => ⟨S2x4x128x128, .f32⟩
  | 71 => ⟨S_, .f32⟩
  | 72 => ⟨S4, .f32⟩
  | 73 => ⟨S1x4x1x1, .f32⟩
  | 74 => ⟨S1x4x1x1, .f32⟩
  | 75 => ⟨S2x1x4x128x128, .f32⟩
  | 76 => ⟨S_, .f32⟩
  | 77 => ⟨S2x16x4x128x128, .f32⟩
  | 78 => ⟨S2x16x4x128x128, .f32⟩
  | 79 => ⟨S2x4x128x128, .f32⟩
  | 80 => ⟨S2x4x128x128, .f32⟩
  | 81 => ⟨S2x4x128x128, .f32⟩
  | 82 => ⟨S2x4x128x128, .f32⟩
  | 83 => ⟨S_, .f32⟩
  | 84 => ⟨S4, .f32⟩
  | 85 => ⟨S1x4x1x1, .f32⟩
  | 86 => ⟨S1x4x1x1, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S4, .f32⟩
  | 94 => ⟨S2x16x4x128x128, .f32⟩
  | 95 => ⟨S2x16x128x4x128, .f32⟩
  | 96 => ⟨S2x16x128x4x128, .f32⟩
  | 97 => ⟨S_, .f32⟩
  | 98 => ⟨S128x4, .f32⟩
  | 99 => ⟨S1x1x128x4x1, .f32⟩
  | 100 => ⟨S_, .f32⟩
  | 101 => ⟨S128x4, .f32⟩
  | 102 => ⟨S128x4, .f32⟩
  | 103 => ⟨S128x4, .f32⟩
  | 104 => ⟨S128x4, .f32⟩
  | 105 => ⟨S_, .f32⟩
  | 106 => ⟨S4, .f32⟩
  | 107 => ⟨S1x4, .f32⟩
  | 108 => ⟨S_, .f32⟩
  | 109 => ⟨S4, .f32⟩
  | 110 => ⟨S4, .f32⟩
  | 111 => ⟨S2x16x4x128x128, .f32⟩
  | 112 => ⟨S2x16x4x128x128, .f32⟩
  | 113 => ⟨S2x16x4x128x128, .f32⟩
  | 114 => ⟨S_, .f32⟩
  | 115 => ⟨S4x128x128, .f32⟩
  | 116 => ⟨S1x1x4x128x128, .f32⟩
  | 117 => ⟨S_, .f32⟩
  | 118 => ⟨S4x128x128, .f32⟩
  | 119 => ⟨S_, .f32⟩
  | 120 => ⟨S4x128x128, .f32⟩
  | 121 => ⟨S4x128x128, .f32⟩
  | 122 => ⟨S4x128x128, .f32⟩
  | 123 => ⟨S4x128x128, .f32⟩
  | 124 => ⟨S4x128x128, .f32⟩
  | 125 => ⟨S_, .f32⟩
  | 126 => ⟨S4, .f32⟩
  | 127 => ⟨S4x1x1, .f32⟩
  | _ => ⟨S2x2304x512, .f32⟩

abbrev hbmTy0_10 (i : Nat) : BufTy := match i % 128 with
  | 0 => ⟨S_, .f32⟩
  | 1 => ⟨S4, .f32⟩
  | 2 => ⟨S4, .f32⟩
  | 3 => ⟨S2x2x128x4x128, .f32⟩
  | 4 => ⟨S2x2x4x128x128, .f32⟩
  | 5 => ⟨S2x2x4x128x128, .f32⟩
  | 6 => ⟨S2x2x128x4x128, .f32⟩
  | 7 => ⟨S2x2x4x128x128, .f32⟩
  | 8 => ⟨S2x2x4x128x128, .f32⟩
  | 9 => ⟨S2x2x128x4x128, .f32⟩
  | 10 => ⟨S_, .f32⟩
  | 11 => ⟨S128x4, .f32⟩
  | 12 => ⟨S1x1x128x4x1, .f32⟩
  | 13 => ⟨S_, .f32⟩
  | 14 => ⟨S128x4, .f32⟩
  | 15 => ⟨S128x4, .f32⟩
  | 16 => ⟨S128x4, .f32⟩
  | 17 => ⟨S128x4, .f32⟩
  | 18 => ⟨S_, .f32⟩
  | 19 => ⟨S4, .f32⟩
  | 20 => ⟨S1x4, .f32⟩
  | 21 => ⟨S_, .f32⟩
  | 22 => ⟨S4, .f32⟩
  | 23 => ⟨S4, .f32⟩
  | 24 => ⟨S2x1x4x128x128, .f32⟩
  | 25 => ⟨S2x4x128x128, .f32⟩
  | 26 => ⟨S2x1x4x128x128, .f32⟩
  | 27 => ⟨S2x4x128x128, .f32⟩
  | 28 => ⟨S2x1x4x128x128, .f32⟩
  | 29 => ⟨S_, .f32⟩
  | 30 => ⟨S2x2x4x128x128, .f32⟩
  | 31 => ⟨S2x4x128x128, .f32⟩
  | 32 => ⟨S2x4x128x128, .f32⟩
  | 33 => ⟨S2x4x128x128, .f32⟩
  | 34 => ⟨S2x4x128x128, .f32⟩
  | 35 => ⟨S_, .f32⟩
  | 36 => ⟨S4, .f32⟩
  | 37 => ⟨S1x4x1x1, .f32⟩
  | 38 => ⟨S2x1x4x128x128, .f32⟩
  | 39 => ⟨S_, .f32⟩
  | 40 => ⟨S2x2x4x128x128, .f32⟩
  | 41 => ⟨S2x2x4x128x128, .f32⟩
  | 42 => ⟨S2x4x128x128, .f32⟩
  | 43 => ⟨S_, .f32⟩
  | 44 => ⟨S4, .f32⟩
  | 45 => ⟨S1x4x1x1, .f32⟩
  | 46 => ⟨S1x4x1x1, .f32⟩
  | 47 => ⟨S_, .f32⟩
  | 48 => ⟨S4, .f32⟩
  | 49 => ⟨S4, .f32⟩
  | 50 => ⟨S_, .f32⟩
  | 51 => ⟨S4, .f32⟩
  | 52 => ⟨S4, .f32⟩
  | 53 => ⟨S4, .f32⟩
  | 54 => ⟨S2x2x4x128x128, .f32⟩
  | 55 => ⟨S2x2x128x4x128, .f32⟩
  | 56 => ⟨S2x2x128x4x128, .f32⟩
  | 57 => ⟨S_, .f32⟩
  | 58 => ⟨S128x4, .f32⟩
  | 59 => ⟨S1x1x128x4x1, .f32⟩
  | 60 => ⟨S_, .f32⟩
  | 61 => ⟨S128x4, .f32⟩
  | 62 => ⟨S128x4, .f32⟩
  | 63 => ⟨S128x4, .f32⟩
  | 64 => ⟨S128x4, .f32⟩
  | 65 => ⟨S_, .f32⟩
  | 66 => ⟨S4, .f32⟩
  | 67 => ⟨S1x4, .f32⟩
  | 68 => ⟨S_, .f32⟩
  | 69 => ⟨S4, .f32⟩
  | 70 => ⟨S4, .f32⟩
  | 71 => ⟨S2x2x4x128x128, .f32⟩
  | 72 => ⟨S2x2x4x128x128, .f32⟩
  | 73 => ⟨S2x2x4x128x128, .f32⟩
  | 74 => ⟨S_, .f32⟩
  | 75 => ⟨S4x128x128, .f32⟩
  | 76 => ⟨S1x1x4x128x128, .f32⟩
  | 77 => ⟨S_, .f32⟩
  | 78 => ⟨S4x128x128, .f32⟩
  | 79 => ⟨S_, .f32⟩
  | 80 => ⟨S4x128x128, .f32⟩
  | 81 => ⟨S4x128x128, .f32⟩
  | 82 => ⟨S4x128x128, .f32⟩
  | 83 => ⟨S4x128x128, .f32⟩
  | 84 => ⟨S4x128x128, .f32⟩
  | 85 => ⟨S_, .f32⟩
  | 86 => ⟨S4, .f32⟩
  | 87 => ⟨S4x1x1, .f32⟩
  | 88 => ⟨S_, .f32⟩
  | 89 => ⟨S4, .f32⟩
  | 90 => ⟨S4, .f32⟩
  | 91 => ⟨S4, .f32⟩
  | 92 => ⟨S4, .f32⟩
  | 93 => ⟨S4, .f32⟩
  | 94 => ⟨S4x1x1, .f32⟩
  | 95 => ⟨S4x1x128, .f32⟩
  | 96 => ⟨S4x1x1, .f32⟩
  | 97 => ⟨S4x1x128, .f32⟩
  | 98 => ⟨S_, .f32⟩
  | 99 => ⟨S4x6x128, .f32⟩
  | 100 => ⟨S4x8x128, .f32⟩
  | _ => ⟨S2x2304x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S2x2304x512, .f32⟩

abbrev bufTy : (tb : Table) → Fin (tcTables nBuf tb) → BufTy
  | .hbm, ⟨i, _⟩ => hbmTy i
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v0_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v0_2 : Ref sig .tc := ⟨.hbm, 52, rfl⟩
abbrev main_v0_0 : Ref sig .tc := ⟨.hbm, 53, rfl⟩
abbrev main_v1 : Ref sig .tc := ⟨.hbm, 54, rfl⟩
abbrev main_v2 : Ref sig .tc := ⟨.hbm, 55, rfl⟩
abbrev main_v3 : Ref sig .tc := ⟨.hbm, 56, rfl⟩
abbrev main_cst : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_cst_0 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_cst_1 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_cst_2 : Ref sig .tc := ⟨.hbm, 84, rfl⟩
abbrev main_call1_v0 : Ref sig .tc := ⟨.hbm, 85, rfl⟩
abbrev main_v28_1 : Ref sig .tc := ⟨.hbm, 86, rfl⟩
abbrev main_call1_v2 : Ref sig .tc := ⟨.hbm, 87, rfl⟩
abbrev main_v28_0 : Ref sig .tc := ⟨.hbm, 88, rfl⟩
abbrev main_call1_cst : Ref sig .tc := ⟨.hbm, 89, rfl⟩
abbrev main_v28_2 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_cst_3 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_cst_4 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_5 : Ref sig .tc := ⟨.hbm, 128, rfl⟩
abbrev main_v64 : Ref sig .tc := ⟨.hbm, 129, rfl⟩
abbrev main_cst_6 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_cst_7 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_cst_8 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_cst_9 : Ref sig .tc := ⟨.hbm, 171, rfl⟩
abbrev main_call2_v0 : Ref sig .tc := ⟨.hbm, 172, rfl⟩
abbrev main_v103_1 : Ref sig .tc := ⟨.hbm, 173, rfl⟩
abbrev main_call2_v2 : Ref sig .tc := ⟨.hbm, 174, rfl⟩
abbrev main_v103_0 : Ref sig .tc := ⟨.hbm, 175, rfl⟩
abbrev main_call2_cst : Ref sig .tc := ⟨.hbm, 176, rfl⟩
abbrev main_v103_2 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_cst_10 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_cst_11 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_cst_12 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_cst_13 : Ref sig .tc := ⟨.hbm, 327, rfl⟩
abbrev main_v250 : Ref sig .tc := ⟨.hbm, 328, rfl⟩
abbrev main_v251 : Ref sig .tc := ⟨.hbm, 329, rfl⟩
abbrev main_cst_14 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_cst_15 : Ref sig .tc := ⟨.hbm, 335, rfl⟩
abbrev main_v256 : Ref sig .tc := ⟨.hbm, 336, rfl⟩
abbrev main_v257 : Ref sig .tc := ⟨.hbm, 337, rfl⟩
abbrev main_cst_16 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩
abbrev main_v267 : Ref sig .tc := ⟨.hbm, 348, rfl⟩
abbrev main_v268 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_cst_17 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_cst_18 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_cst_19 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_v304 : Ref sig .tc := ⟨.hbm, 388, rfl⟩
abbrev main_v305 : Ref sig .tc := ⟨.hbm, 389, rfl⟩
abbrev main_cst_20 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_cst_21 : Ref sig .tc := ⟨.hbm, 395, rfl⟩
abbrev main_v310 : Ref sig .tc := ⟨.hbm, 396, rfl⟩
abbrev main_v311 : Ref sig .tc := ⟨.hbm, 397, rfl⟩
abbrev main_v312 : Ref sig .tc := ⟨.hbm, 398, rfl⟩
abbrev main_v313 : Ref sig .tc := ⟨.hbm, 399, rfl⟩
abbrev main_v314 : Ref sig .tc := ⟨.hbm, 400, rfl⟩
abbrev main_v315 : Ref sig .tc := ⟨.hbm, 401, rfl⟩
abbrev main_cst_22 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_v319 : Ref sig .tc := ⟨.hbm, 406, rfl⟩
abbrev main_cst_23 : Ref sig .tc := ⟨.hbm, 407, rfl⟩
abbrev main_v320 : Ref sig .tc := ⟨.hbm, 408, rfl⟩
abbrev main_v321 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_cst_24 : Ref sig .tc := ⟨.hbm, 414, rfl⟩
abbrev main_v326 : Ref sig .tc := ⟨.hbm, 415, rfl⟩
abbrev main_v327 : Ref sig .tc := ⟨.hbm, 416, rfl⟩
abbrev main_v328 : Ref sig .tc := ⟨.hbm, 417, rfl⟩
abbrev main_v329 : Ref sig .tc := ⟨.hbm, 418, rfl⟩
abbrev main_cst_25 : Ref sig .tc := ⟨.hbm, 419, rfl⟩
abbrev main_v330 : Ref sig .tc := ⟨.hbm, 420, rfl⟩
abbrev main_v331 : Ref sig .tc := ⟨.hbm, 421, rfl⟩
abbrev main_v332 : Ref sig .tc := ⟨.hbm, 422, rfl⟩
abbrev main_v333 : Ref sig .tc := ⟨.hbm, 423, rfl⟩
abbrev main_v334 : Ref sig .tc := ⟨.hbm, 424, rfl⟩
abbrev main_v335 : Ref sig .tc := ⟨.hbm, 425, rfl⟩
abbrev main_cst_26 : Ref sig .tc := ⟨.hbm, 426, rfl⟩
abbrev main_v336 : Ref sig .tc := ⟨.hbm, 427, rfl⟩
abbrev main_v337 : Ref sig .tc := ⟨.hbm, 428, rfl⟩
abbrev main_v338 : Ref sig .tc := ⟨.hbm, 429, rfl⟩
abbrev main_v339 : Ref sig .tc := ⟨.hbm, 430, rfl⟩
abbrev main_cst_27 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_cst_28 : Ref sig .tc := ⟨.hbm, 438, rfl⟩
abbrev main_v346 : Ref sig .tc := ⟨.hbm, 439, rfl⟩
abbrev main_v347 : Ref sig .tc := ⟨.hbm, 440, rfl⟩
abbrev main_v348 : Ref sig .tc := ⟨.hbm, 441, rfl⟩
abbrev main_v349 : Ref sig .tc := ⟨.hbm, 442, rfl⟩
abbrev main_cst_29 : Ref sig .tc := ⟨.hbm, 443, rfl⟩
abbrev main_v350 : Ref sig .tc := ⟨.hbm, 444, rfl⟩
abbrev main_v351 : Ref sig .tc := ⟨.hbm, 445, rfl⟩
abbrev main_v352 : Ref sig .tc := ⟨.hbm, 446, rfl⟩
abbrev main_v353 : Ref sig .tc := ⟨.hbm, 447, rfl⟩
abbrev main_v354 : Ref sig .tc := ⟨.hbm, 448, rfl⟩
abbrev main_v355 : Ref sig .tc := ⟨.hbm, 449, rfl⟩
abbrev main_cst_30 : Ref sig .tc := ⟨.hbm, 450, rfl⟩
abbrev main_v356 : Ref sig .tc := ⟨.hbm, 451, rfl⟩
abbrev main_v357 : Ref sig .tc := ⟨.hbm, 452, rfl⟩
abbrev main_v358 : Ref sig .tc := ⟨.hbm, 453, rfl⟩
abbrev main_v359 : Ref sig .tc := ⟨.hbm, 454, rfl⟩
abbrev main_cst_31 : Ref sig .tc := ⟨.hbm, 455, rfl⟩
abbrev main_v360 : Ref sig .tc := ⟨.hbm, 456, rfl⟩
abbrev main_v361 : Ref sig .tc := ⟨.hbm, 457, rfl⟩
abbrev main_v362 : Ref sig .tc := ⟨.hbm, 458, rfl⟩
abbrev main_v363 : Ref sig .tc := ⟨.hbm, 459, rfl⟩
abbrev main_v364 : Ref sig .tc := ⟨.hbm, 460, rfl⟩
abbrev main_v365 : Ref sig .tc := ⟨.hbm, 461, rfl⟩
abbrev main_cst_32 : Ref sig .tc := ⟨.hbm, 462, rfl⟩
abbrev main_v366 : Ref sig .tc := ⟨.hbm, 463, rfl⟩
abbrev main_v367 : Ref sig .tc := ⟨.hbm, 464, rfl⟩
abbrev main_v368 : Ref sig .tc := ⟨.hbm, 465, rfl⟩
abbrev main_v369 : Ref sig .tc := ⟨.hbm, 466, rfl⟩
abbrev main_cst_33 : Ref sig .tc := ⟨.hbm, 467, rfl⟩
abbrev main_v370 : Ref sig .tc := ⟨.hbm, 468, rfl⟩
abbrev main_v371 : Ref sig .tc := ⟨.hbm, 469, rfl⟩
abbrev main_v372 : Ref sig .tc := ⟨.hbm, 470, rfl⟩
abbrev main_v373 : Ref sig .tc := ⟨.hbm, 471, rfl⟩
abbrev main_v374 : Ref sig .tc := ⟨.hbm, 472, rfl⟩
abbrev main_v375 : Ref sig .tc := ⟨.hbm, 473, rfl⟩
abbrev main_cst_34 : Ref sig .tc := ⟨.hbm, 474, rfl⟩
abbrev main_v376 : Ref sig .tc := ⟨.hbm, 475, rfl⟩
abbrev main_v377 : Ref sig .tc := ⟨.hbm, 476, rfl⟩
abbrev main_v378 : Ref sig .tc := ⟨.hbm, 477, rfl⟩
abbrev main_v379 : Ref sig .tc := ⟨.hbm, 478, rfl⟩
abbrev main_cst_35 : Ref sig .tc := ⟨.hbm, 479, rfl⟩
abbrev main_v380 : Ref sig .tc := ⟨.hbm, 480, rfl⟩
abbrev main_v381 : Ref sig .tc := ⟨.hbm, 481, rfl⟩
abbrev main_v382 : Ref sig .tc := ⟨.hbm, 482, rfl⟩
abbrev main_v383 : Ref sig .tc := ⟨.hbm, 483, rfl⟩
abbrev main_v384 : Ref sig .tc := ⟨.hbm, 484, rfl⟩
abbrev main_v385 : Ref sig .tc := ⟨.hbm, 485, rfl⟩
abbrev main_cst_36 : Ref sig .tc := ⟨.hbm, 486, rfl⟩
abbrev main_v386 : Ref sig .tc := ⟨.hbm, 487, rfl⟩
abbrev main_v387 : Ref sig .tc := ⟨.hbm, 488, rfl⟩
abbrev main_v388 : Ref sig .tc := ⟨.hbm, 489, rfl⟩
abbrev main_v389 : Ref sig .tc := ⟨.hbm, 490, rfl⟩
abbrev main_cst_37 : Ref sig .tc := ⟨.hbm, 491, rfl⟩
abbrev main_v390 : Ref sig .tc := ⟨.hbm, 492, rfl⟩
abbrev main_v391 : Ref sig .tc := ⟨.hbm, 493, rfl⟩
abbrev main_v392 : Ref sig .tc := ⟨.hbm, 494, rfl⟩
abbrev main_v393 : Ref sig .tc := ⟨.hbm, 495, rfl⟩
abbrev main_v394 : Ref sig .tc := ⟨.hbm, 496, rfl⟩
abbrev main_v395 : Ref sig .tc := ⟨.hbm, 497, rfl⟩
abbrev main_cst_38 : Ref sig .tc := ⟨.hbm, 498, rfl⟩
abbrev main_v396 : Ref sig .tc := ⟨.hbm, 499, rfl⟩
abbrev main_v397 : Ref sig .tc := ⟨.hbm, 500, rfl⟩
abbrev main_v398 : Ref sig .tc := ⟨.hbm, 501, rfl⟩
abbrev main_v399 : Ref sig .tc := ⟨.hbm, 502, rfl⟩
abbrev main_cst_39 : Ref sig .tc := ⟨.hbm, 503, rfl⟩
abbrev main_v400 : Ref sig .tc := ⟨.hbm, 504, rfl⟩
abbrev main_v401 : Ref sig .tc := ⟨.hbm, 505, rfl⟩
abbrev main_v402 : Ref sig .tc := ⟨.hbm, 506, rfl⟩
abbrev main_v403 : Ref sig .tc := ⟨.hbm, 507, rfl⟩
abbrev main_v404 : Ref sig .tc := ⟨.hbm, 508, rfl⟩
abbrev main_v405 : Ref sig .tc := ⟨.hbm, 509, rfl⟩
abbrev main_cst_40 : Ref sig .tc := ⟨.hbm, 510, rfl⟩
abbrev main_v406 : Ref sig .tc := ⟨.hbm, 511, rfl⟩
abbrev main_v407 : Ref sig .tc := ⟨.hbm, 512, rfl⟩
abbrev main_v408 : Ref sig .tc := ⟨.hbm, 513, rfl⟩
abbrev main_v409 : Ref sig .tc := ⟨.hbm, 514, rfl⟩
abbrev main_cst_41 : Ref sig .tc := ⟨.hbm, 515, rfl⟩
abbrev main_v410 : Ref sig .tc := ⟨.hbm, 516, rfl⟩
abbrev main_v411 : Ref sig .tc := ⟨.hbm, 517, rfl⟩
abbrev main_v412 : Ref sig .tc := ⟨.hbm, 518, rfl⟩
abbrev main_v413 : Ref sig .tc := ⟨.hbm, 519, rfl⟩
abbrev main_v414 : Ref sig .tc := ⟨.hbm, 520, rfl⟩
abbrev main_v415 : Ref sig .tc := ⟨.hbm, 521, rfl⟩
abbrev main_cst_42 : Ref sig .tc := ⟨.hbm, 522, rfl⟩
abbrev main_v416 : Ref sig .tc := ⟨.hbm, 523, rfl⟩
abbrev main_v417 : Ref sig .tc := ⟨.hbm, 524, rfl⟩
abbrev main_v418 : Ref sig .tc := ⟨.hbm, 525, rfl⟩
abbrev main_v419 : Ref sig .tc := ⟨.hbm, 526, rfl⟩
abbrev main_cst_43 : Ref sig .tc := ⟨.hbm, 527, rfl⟩
abbrev main_v420 : Ref sig .tc := ⟨.hbm, 528, rfl⟩
abbrev main_v421 : Ref sig .tc := ⟨.hbm, 529, rfl⟩
abbrev main_v422 : Ref sig .tc := ⟨.hbm, 530, rfl⟩
abbrev main_v423 : Ref sig .tc := ⟨.hbm, 531, rfl⟩
abbrev main_v424 : Ref sig .tc := ⟨.hbm, 532, rfl⟩
abbrev main_v425 : Ref sig .tc := ⟨.hbm, 533, rfl⟩
abbrev main_cst_44 : Ref sig .tc := ⟨.hbm, 534, rfl⟩
abbrev main_v426 : Ref sig .tc := ⟨.hbm, 535, rfl⟩
abbrev main_v427 : Ref sig .tc := ⟨.hbm, 536, rfl⟩
abbrev main_v428 : Ref sig .tc := ⟨.hbm, 537, rfl⟩
abbrev main_v429 : Ref sig .tc := ⟨.hbm, 538, rfl⟩
abbrev main_cst_45 : Ref sig .tc := ⟨.hbm, 539, rfl⟩
abbrev main_v430 : Ref sig .tc := ⟨.hbm, 540, rfl⟩
abbrev main_v431 : Ref sig .tc := ⟨.hbm, 541, rfl⟩
abbrev main_v432 : Ref sig .tc := ⟨.hbm, 542, rfl⟩
abbrev main_v433 : Ref sig .tc := ⟨.hbm, 543, rfl⟩
abbrev main_v434 : Ref sig .tc := ⟨.hbm, 544, rfl⟩
abbrev main_v435 : Ref sig .tc := ⟨.hbm, 545, rfl⟩
abbrev main_cst_46 : Ref sig .tc := ⟨.hbm, 546, rfl⟩
abbrev main_v436 : Ref sig .tc := ⟨.hbm, 547, rfl⟩
abbrev main_v437 : Ref sig .tc := ⟨.hbm, 548, rfl⟩
abbrev main_v438 : Ref sig .tc := ⟨.hbm, 549, rfl⟩
abbrev main_cst_47 : Ref sig .tc := ⟨.hbm, 550, rfl⟩
abbrev main_v439 : Ref sig .tc := ⟨.hbm, 551, rfl⟩
abbrev main_v440 : Ref sig .tc := ⟨.hbm, 552, rfl⟩
abbrev main_cst_48 : Ref sig .tc := ⟨.hbm, 553, rfl⟩
abbrev main_v441 : Ref sig .tc := ⟨.hbm, 554, rfl⟩
abbrev main_v442 : Ref sig .tc := ⟨.hbm, 555, rfl⟩
abbrev main_v443 : Ref sig .tc := ⟨.hbm, 556, rfl⟩
abbrev main_v444 : Ref sig .tc := ⟨.hbm, 557, rfl⟩
abbrev main_v445 : Ref sig .tc := ⟨.hbm, 558, rfl⟩
abbrev main_v446 : Ref sig .tc := ⟨.hbm, 559, rfl⟩
abbrev main_cst_49 : Ref sig .tc := ⟨.hbm, 560, rfl⟩
abbrev main_v447 : Ref sig .tc := ⟨.hbm, 561, rfl⟩
abbrev main_v448 : Ref sig .tc := ⟨.hbm, 562, rfl⟩
abbrev main_cst_50 : Ref sig .tc := ⟨.hbm, 563, rfl⟩
abbrev main_v449 : Ref sig .tc := ⟨.hbm, 564, rfl⟩
abbrev main_v450 : Ref sig .tc := ⟨.hbm, 565, rfl⟩
abbrev main_v451 : Ref sig .tc := ⟨.hbm, 566, rfl⟩
abbrev main_v452 : Ref sig .tc := ⟨.hbm, 567, rfl⟩
abbrev main_cst_51 : Ref sig .tc := ⟨.hbm, 568, rfl⟩
abbrev main_v453 : Ref sig .tc := ⟨.hbm, 569, rfl⟩
abbrev main_v454 : Ref sig .tc := ⟨.hbm, 570, rfl⟩
abbrev main_cst_52 : Ref sig .tc := ⟨.hbm, 571, rfl⟩
abbrev main_v455 : Ref sig .tc := ⟨.hbm, 572, rfl⟩
abbrev main_v456 : Ref sig .tc := ⟨.hbm, 573, rfl⟩
abbrev main_v457 : Ref sig .tc := ⟨.hbm, 574, rfl⟩
abbrev main_v458 : Ref sig .tc := ⟨.hbm, 575, rfl⟩
abbrev main_v459 : Ref sig .tc := ⟨.hbm, 576, rfl⟩
abbrev main_cst_53 : Ref sig .tc := ⟨.hbm, 577, rfl⟩
abbrev main_v460 : Ref sig .tc := ⟨.hbm, 578, rfl⟩
abbrev main_v461 : Ref sig .tc := ⟨.hbm, 579, rfl⟩
abbrev main_cst_54 : Ref sig .tc := ⟨.hbm, 580, rfl⟩
abbrev main_v462 : Ref sig .tc := ⟨.hbm, 581, rfl⟩
abbrev main_call3_cst : Ref sig .tc := ⟨.hbm, 582, rfl⟩
abbrev main_call3_v0 : Ref sig .tc := ⟨.hbm, 583, rfl⟩
abbrev main_v463 : Ref sig .tc := ⟨.hbm, 584, rfl⟩
abbrev main_v464 : Ref sig .tc := ⟨.hbm, 585, rfl⟩
abbrev main_v465 : Ref sig .tc := ⟨.hbm, 586, rfl⟩
abbrev main_v466 : Ref sig .tc := ⟨.hbm, 587, rfl⟩
abbrev main_cst_55 : Ref sig .tc := ⟨.hbm, 588, rfl⟩
abbrev main_v467 : Ref sig .tc := ⟨.hbm, 589, rfl⟩
abbrev main_v468 : Ref sig .tc := ⟨.hbm, 590, rfl⟩
abbrev main_cst_56 : Ref sig .tc := ⟨.hbm, 591, rfl⟩
abbrev main_v469 : Ref sig .tc := ⟨.hbm, 592, rfl⟩
abbrev main_v470 : Ref sig .tc := ⟨.hbm, 593, rfl⟩
abbrev main_v471 : Ref sig .tc := ⟨.hbm, 594, rfl⟩
abbrev main_v472 : Ref sig .tc := ⟨.hbm, 595, rfl⟩
abbrev main_v473 : Ref sig .tc := ⟨.hbm, 596, rfl⟩
abbrev main_v474 : Ref sig .tc := ⟨.hbm, 597, rfl⟩
abbrev main_v475 : Ref sig .tc := ⟨.hbm, 598, rfl⟩
abbrev main_v476 : Ref sig .tc := ⟨.hbm, 599, rfl⟩
abbrev main_v477 : Ref sig .tc := ⟨.hbm, 600, rfl⟩
abbrev main_cst_57 : Ref sig .tc := ⟨.hbm, 601, rfl⟩
abbrev main_v478 : Ref sig .tc := ⟨.hbm, 602, rfl⟩
abbrev main_v479 : Ref sig .tc := ⟨.hbm, 603, rfl⟩
abbrev main_cst_58 : Ref sig .tc := ⟨.hbm, 604, rfl⟩
abbrev main_v480 : Ref sig .tc := ⟨.hbm, 605, rfl⟩
abbrev main_v481 : Ref sig .tc := ⟨.hbm, 606, rfl⟩
abbrev main_v482 : Ref sig .tc := ⟨.hbm, 607, rfl⟩
abbrev main_v483 : Ref sig .tc := ⟨.hbm, 608, rfl⟩
abbrev main_cst_59 : Ref sig .tc := ⟨.hbm, 609, rfl⟩
abbrev main_v484 : Ref sig .tc := ⟨.hbm, 610, rfl⟩
abbrev main_v485 : Ref sig .tc := ⟨.hbm, 611, rfl⟩
abbrev main_cst_60 : Ref sig .tc := ⟨.hbm, 612, rfl⟩
abbrev main_v486 : Ref sig .tc := ⟨.hbm, 613, rfl⟩
abbrev main_v487 : Ref sig .tc := ⟨.hbm, 614, rfl⟩
abbrev main_v488 : Ref sig .tc := ⟨.hbm, 615, rfl⟩
abbrev main_v489 : Ref sig .tc := ⟨.hbm, 616, rfl⟩
abbrev main_v490 : Ref sig .tc := ⟨.hbm, 617, rfl⟩
abbrev main_v491 : Ref sig .tc := ⟨.hbm, 618, rfl⟩
abbrev main_v492 : Ref sig .tc := ⟨.hbm, 619, rfl⟩
abbrev main_cst_61 : Ref sig .tc := ⟨.hbm, 620, rfl⟩
abbrev main_v493 : Ref sig .tc := ⟨.hbm, 621, rfl⟩
abbrev main_v494 : Ref sig .tc := ⟨.hbm, 622, rfl⟩
abbrev main_v495 : Ref sig .tc := ⟨.hbm, 623, rfl⟩
abbrev main_v496 : Ref sig .tc := ⟨.hbm, 624, rfl⟩
abbrev main_v497 : Ref sig .tc := ⟨.hbm, 625, rfl⟩
abbrev main_cst_62 : Ref sig .tc := ⟨.hbm, 626, rfl⟩
abbrev main_v498 : Ref sig .tc := ⟨.hbm, 627, rfl⟩
abbrev main_v499 : Ref sig .tc := ⟨.hbm, 628, rfl⟩
abbrev main_v500 : Ref sig .tc := ⟨.hbm, 629, rfl⟩
abbrev main_cst_63 : Ref sig .tc := ⟨.hbm, 630, rfl⟩
abbrev main_v501 : Ref sig .tc := ⟨.hbm, 631, rfl⟩
abbrev main_v502 : Ref sig .tc := ⟨.hbm, 632, rfl⟩
abbrev main_v503 : Ref sig .tc := ⟨.hbm, 633, rfl⟩
abbrev main_cst_64 : Ref sig .tc := ⟨.hbm, 634, rfl⟩
abbrev main_v504 : Ref sig .tc := ⟨.hbm, 635, rfl⟩
abbrev main_v505 : Ref sig .tc := ⟨.hbm, 636, rfl⟩
abbrev main_v506 : Ref sig .tc := ⟨.hbm, 637, rfl⟩
abbrev main_cst_65 : Ref sig .tc := ⟨.hbm, 638, rfl⟩
abbrev main_v507 : Ref sig .tc := ⟨.hbm, 639, rfl⟩
abbrev main_v508 : Ref sig .tc := ⟨.hbm, 640, rfl⟩
abbrev main_cst_66 : Ref sig .tc := ⟨.hbm, 641, rfl⟩
abbrev main_v509 : Ref sig .tc := ⟨.hbm, 642, rfl⟩
abbrev main_v510 : Ref sig .tc := ⟨.hbm, 643, rfl⟩
abbrev main_v511 : Ref sig .tc := ⟨.hbm, 644, rfl⟩
abbrev main_v512 : Ref sig .tc := ⟨.hbm, 645, rfl⟩
abbrev main_v513 : Ref sig .tc := ⟨.hbm, 646, rfl⟩
abbrev main_v514 : Ref sig .tc := ⟨.hbm, 647, rfl⟩
abbrev main_cst_67 : Ref sig .tc := ⟨.hbm, 648, rfl⟩
abbrev main_v515 : Ref sig .tc := ⟨.hbm, 649, rfl⟩
abbrev main_v516 : Ref sig .tc := ⟨.hbm, 650, rfl⟩
abbrev main_cst_68 : Ref sig .tc := ⟨.hbm, 651, rfl⟩
abbrev main_v517 : Ref sig .tc := ⟨.hbm, 652, rfl⟩
abbrev main_v518 : Ref sig .tc := ⟨.hbm, 653, rfl⟩
abbrev main_v519 : Ref sig .tc := ⟨.hbm, 654, rfl⟩
abbrev main_v520 : Ref sig .tc := ⟨.hbm, 655, rfl⟩
abbrev main_cst_69 : Ref sig .tc := ⟨.hbm, 656, rfl⟩
abbrev main_v521 : Ref sig .tc := ⟨.hbm, 657, rfl⟩
abbrev main_v522 : Ref sig .tc := ⟨.hbm, 658, rfl⟩
abbrev main_cst_70 : Ref sig .tc := ⟨.hbm, 659, rfl⟩
abbrev main_v523 : Ref sig .tc := ⟨.hbm, 660, rfl⟩
abbrev main_v524 : Ref sig .tc := ⟨.hbm, 661, rfl⟩
abbrev main_v525 : Ref sig .tc := ⟨.hbm, 662, rfl⟩
abbrev main_v526 : Ref sig .tc := ⟨.hbm, 663, rfl⟩
abbrev main_v527 : Ref sig .tc := ⟨.hbm, 664, rfl⟩
abbrev main_cst_71 : Ref sig .tc := ⟨.hbm, 665, rfl⟩
abbrev main_v528 : Ref sig .tc := ⟨.hbm, 666, rfl⟩
abbrev main_v529 : Ref sig .tc := ⟨.hbm, 667, rfl⟩
abbrev main_cst_72 : Ref sig .tc := ⟨.hbm, 668, rfl⟩
abbrev main_v530 : Ref sig .tc := ⟨.hbm, 669, rfl⟩
abbrev main_call4_cst : Ref sig .tc := ⟨.hbm, 670, rfl⟩
abbrev main_call4_v0 : Ref sig .tc := ⟨.hbm, 671, rfl⟩
abbrev main_v531 : Ref sig .tc := ⟨.hbm, 672, rfl⟩
abbrev main_v532 : Ref sig .tc := ⟨.hbm, 673, rfl⟩
abbrev main_v533 : Ref sig .tc := ⟨.hbm, 674, rfl⟩
abbrev main_v534 : Ref sig .tc := ⟨.hbm, 675, rfl⟩
abbrev main_cst_73 : Ref sig .tc := ⟨.hbm, 676, rfl⟩
abbrev main_v535 : Ref sig .tc := ⟨.hbm, 677, rfl⟩
abbrev main_v536 : Ref sig .tc := ⟨.hbm, 678, rfl⟩
abbrev main_cst_74 : Ref sig .tc := ⟨.hbm, 679, rfl⟩
abbrev main_v537 : Ref sig .tc := ⟨.hbm, 680, rfl⟩
abbrev main_v538 : Ref sig .tc := ⟨.hbm, 681, rfl⟩
abbrev main_call5_v0 : Ref sig .tc := ⟨.hbm, 682, rfl⟩
abbrev main_call5_v1 : Ref sig .tc := ⟨.hbm, 683, rfl⟩
abbrev main_v539 : Ref sig .tc := ⟨.hbm, 684, rfl⟩
abbrev main_call6_v0 : Ref sig .tc := ⟨.hbm, 685, rfl⟩
abbrev main_call6_call0_cst : Ref sig .tc := ⟨.hbm, 686, rfl⟩
abbrev main_call6_call0_v0 : Ref sig .tc := ⟨.hbm, 687, rfl⟩
abbrev main_call6_call0_v1 : Ref sig .tc := ⟨.hbm, 688, rfl⟩
abbrev main_call6_call0_v2 : Ref sig .tc := ⟨.hbm, 689, rfl⟩
abbrev main_call6_call0_v3 : Ref sig .tc := ⟨.hbm, 690, rfl⟩
abbrev main_call6_call0_v4 : Ref sig .tc := ⟨.hbm, 691, rfl⟩
abbrev main_call6_call0_v5 : Ref sig .tc := ⟨.hbm, 692, rfl⟩
abbrev main_call6_call0_v6 : Ref sig .tc := ⟨.hbm, 693, rfl⟩
abbrev main_call6_call0_v7 : Ref sig .tc := ⟨.hbm, 694, rfl⟩
abbrev main_call6_call0_v8 : Ref sig .tc := ⟨.hbm, 695, rfl⟩
abbrev main_call6_call0_v9 : Ref sig .tc := ⟨.hbm, 696, rfl⟩
abbrev main_call6_call0_v10 : Ref sig .tc := ⟨.hbm, 697, rfl⟩
abbrev main_call6_call0_v11 : Ref sig .tc := ⟨.hbm, 698, rfl⟩
abbrev main_call6_v1_0 : Ref sig .tc := ⟨.hbm, 699, rfl⟩
abbrev main_call6_call0_cst_0 : Ref sig .tc := ⟨.hbm, 700, rfl⟩
abbrev main_call6_call0_v13 : Ref sig .tc := ⟨.hbm, 701, rfl⟩
abbrev main_call6_call0_v14 : Ref sig .tc := ⟨.hbm, 702, rfl⟩
abbrev main_call6_call0_cst_1 : Ref sig .tc := ⟨.hbm, 703, rfl⟩
abbrev main_call6_call0_v15 : Ref sig .tc := ⟨.hbm, 704, rfl⟩
abbrev main_call6_call0_v16 : Ref sig .tc := ⟨.hbm, 705, rfl⟩
abbrev main_call6_call0_cst_2 : Ref sig .tc := ⟨.hbm, 706, rfl⟩
abbrev main_call6_call0_v17 : Ref sig .tc := ⟨.hbm, 707, rfl⟩
abbrev main_call6_call0_v18 : Ref sig .tc := ⟨.hbm, 708, rfl⟩
abbrev main_call6_call0_cst_3 : Ref sig .tc := ⟨.hbm, 709, rfl⟩
abbrev main_call6_call0_v19 : Ref sig .tc := ⟨.hbm, 710, rfl⟩
abbrev main_call6_call0_v20 : Ref sig .tc := ⟨.hbm, 711, rfl⟩
abbrev main_call6_call0_v21 : Ref sig .tc := ⟨.hbm, 712, rfl⟩
abbrev main_v540_1 : Ref sig .tc := ⟨.hbm, 713, rfl⟩
abbrev main_call6_call0_cst_4 : Ref sig .tc := ⟨.hbm, 714, rfl⟩
abbrev main_call6_call0_cst_5 : Ref sig .tc := ⟨.hbm, 715, rfl⟩
abbrev main_call6_call0_v23 : Ref sig .tc := ⟨.hbm, 716, rfl⟩
abbrev main_call6_call0_cst_6 : Ref sig .tc := ⟨.hbm, 717, rfl⟩
abbrev main_call6_call0_cst_7 : Ref sig .tc := ⟨.hbm, 718, rfl⟩
abbrev main_call6_call0_v24 : Ref sig .tc := ⟨.hbm, 719, rfl⟩
abbrev main_call6_call0_cst_8 : Ref sig .tc := ⟨.hbm, 720, rfl⟩
abbrev main_call6_call0_v25 : Ref sig .tc := ⟨.hbm, 721, rfl⟩
abbrev main_call6_call0_v26 : Ref sig .tc := ⟨.hbm, 722, rfl⟩
abbrev main_call6_call0_cst_9 : Ref sig .tc := ⟨.hbm, 723, rfl⟩
abbrev main_call6_call0_v27 : Ref sig .tc := ⟨.hbm, 724, rfl⟩
abbrev main_call6_call0_v28 : Ref sig .tc := ⟨.hbm, 725, rfl⟩
abbrev main_call6_call0_v29 : Ref sig .tc := ⟨.hbm, 726, rfl⟩
abbrev main_call6_call0_v30 : Ref sig .tc := ⟨.hbm, 727, rfl⟩
abbrev main_call6_call0_v31 : Ref sig .tc := ⟨.hbm, 728, rfl⟩
abbrev main_call6_call0_cst_10 : Ref sig .tc := ⟨.hbm, 729, rfl⟩
abbrev main_call6_call0_v32 : Ref sig .tc := ⟨.hbm, 730, rfl⟩
abbrev main_v540_2 : Ref sig .tc := ⟨.hbm, 731, rfl⟩
abbrev main_v540_0 : Ref sig .tc := ⟨.hbm, 732, rfl⟩
abbrev main_v541 : Ref sig .tc := ⟨.hbm, 733, rfl⟩
abbrev main_v542 : Ref sig .tc := ⟨.hbm, 734, rfl⟩
abbrev main_v543 : Ref sig .tc := ⟨.hbm, 735, rfl⟩
abbrev main_cst_75 : Ref sig .tc := ⟨.hbm, 736, rfl⟩
abbrev main_v544 : Ref sig .tc := ⟨.hbm, 737, rfl⟩
abbrev main_v545 : Ref sig .tc := ⟨.hbm, 738, rfl⟩
abbrev main_v546 : Ref sig .tc := ⟨.hbm, 739, rfl⟩
abbrev main_v547 : Ref sig .tc := ⟨.hbm, 740, rfl⟩
abbrev main_v548 : Ref sig .tc := ⟨.hbm, 741, rfl⟩
abbrev main_v549 : Ref sig .tc := ⟨.hbm, 742, rfl⟩
abbrev main_v550 : Ref sig .tc := ⟨.hbm, 743, rfl⟩
abbrev main_v551 : Ref sig .tc := ⟨.hbm, 744, rfl⟩
abbrev main_v552 : Ref sig .tc := ⟨.hbm, 745, rfl⟩
abbrev main_v553 : Ref sig .tc := ⟨.hbm, 746, rfl⟩
abbrev main_v554 : Ref sig .tc := ⟨.hbm, 747, rfl⟩
abbrev main_v555 : Ref sig .tc := ⟨.hbm, 748, rfl⟩
abbrev main_v556 : Ref sig .tc := ⟨.hbm, 749, rfl⟩
abbrev main_v557 : Ref sig .tc := ⟨.hbm, 750, rfl⟩
abbrev main_v558 : Ref sig .tc := ⟨.hbm, 751, rfl⟩
abbrev main_v559 : Ref sig .tc := ⟨.hbm, 752, rfl⟩
abbrev main_cst_76 : Ref sig .tc := ⟨.hbm, 753, rfl⟩
abbrev main_v560 : Ref sig .tc := ⟨.hbm, 754, rfl⟩
abbrev main_v561 : Ref sig .tc := ⟨.hbm, 755, rfl⟩
abbrev main_v562 : Ref sig .tc := ⟨.hbm, 756, rfl⟩
abbrev main_cst_77 : Ref sig .tc := ⟨.hbm, 757, rfl⟩
abbrev main_v563 : Ref sig .tc := ⟨.hbm, 758, rfl⟩
abbrev main_v564 : Ref sig .tc := ⟨.hbm, 759, rfl⟩
abbrev main_v565 : Ref sig .tc := ⟨.hbm, 760, rfl⟩
abbrev main_v566 : Ref sig .tc := ⟨.hbm, 761, rfl⟩
abbrev main_v567 : Ref sig .tc := ⟨.hbm, 762, rfl⟩
abbrev main_v568 : Ref sig .tc := ⟨.hbm, 763, rfl⟩
abbrev main_v569 : Ref sig .tc := ⟨.hbm, 764, rfl⟩
abbrev main_v570 : Ref sig .tc := ⟨.hbm, 765, rfl⟩
abbrev main_cst_78 : Ref sig .tc := ⟨.hbm, 766, rfl⟩
abbrev main_call10_v0 : Ref sig .tc := ⟨.hbm, 767, rfl⟩
abbrev main_v571_1 : Ref sig .tc := ⟨.hbm, 768, rfl⟩
abbrev main_call10_v2 : Ref sig .tc := ⟨.hbm, 769, rfl⟩
abbrev main_v571_0 : Ref sig .tc := ⟨.hbm, 770, rfl⟩
abbrev main_call10_cst : Ref sig .tc := ⟨.hbm, 771, rfl⟩
abbrev main_v571_2 : Ref sig .tc := ⟨.hbm, 772, rfl⟩
abbrev main_v572 : Ref sig .tc := ⟨.hbm, 773, rfl⟩
abbrev main_v573 : Ref sig .tc := ⟨.hbm, 774, rfl⟩
abbrev main_v574 : Ref sig .tc := ⟨.hbm, 775, rfl⟩
abbrev main_v575 : Ref sig .tc := ⟨.hbm, 776, rfl⟩
abbrev main_v576 : Ref sig .tc := ⟨.hbm, 777, rfl⟩
abbrev main_v577 : Ref sig .tc := ⟨.hbm, 778, rfl⟩
abbrev main_cst_79 : Ref sig .tc := ⟨.hbm, 779, rfl⟩
abbrev main_v578 : Ref sig .tc := ⟨.hbm, 780, rfl⟩
abbrev main_v579 : Ref sig .tc := ⟨.hbm, 781, rfl⟩
abbrev main_v580 : Ref sig .tc := ⟨.hbm, 782, rfl⟩
abbrev main_v581 : Ref sig .tc := ⟨.hbm, 783, rfl⟩
abbrev main_v582 : Ref sig .tc := ⟨.hbm, 784, rfl⟩
abbrev main_v583 : Ref sig .tc := ⟨.hbm, 785, rfl⟩
abbrev main_v584 : Ref sig .tc := ⟨.hbm, 786, rfl⟩
abbrev main_v585 : Ref sig .tc := ⟨.hbm, 787, rfl⟩
abbrev main_v586 : Ref sig .tc := ⟨.hbm, 788, rfl⟩
abbrev main_v587 : Ref sig .tc := ⟨.hbm, 789, rfl⟩
abbrev main_v588 : Ref sig .tc := ⟨.hbm, 790, rfl⟩
abbrev main_v589 : Ref sig .tc := ⟨.hbm, 791, rfl⟩
abbrev main_cst_80 : Ref sig .tc := ⟨.hbm, 792, rfl⟩
abbrev main_v590 : Ref sig .tc := ⟨.hbm, 793, rfl⟩
abbrev main_v591 : Ref sig .tc := ⟨.hbm, 794, rfl⟩
abbrev main_v592 : Ref sig .tc := ⟨.hbm, 795, rfl⟩
abbrev main_v593 : Ref sig .tc := ⟨.hbm, 796, rfl⟩
abbrev main_v594 : Ref sig .tc := ⟨.hbm, 797, rfl⟩
abbrev main_v595 : Ref sig .tc := ⟨.hbm, 798, rfl⟩
abbrev main_v596 : Ref sig .tc := ⟨.hbm, 799, rfl⟩
abbrev main_v597 : Ref sig .tc := ⟨.hbm, 800, rfl⟩
abbrev main_v598 : Ref sig .tc := ⟨.hbm, 801, rfl⟩
abbrev main_v599 : Ref sig .tc := ⟨.hbm, 802, rfl⟩
abbrev main_v600 : Ref sig .tc := ⟨.hbm, 803, rfl⟩
abbrev main_v601 : Ref sig .tc := ⟨.hbm, 804, rfl⟩
abbrev main_v602 : Ref sig .tc := ⟨.hbm, 805, rfl⟩
abbrev main_v603 : Ref sig .tc := ⟨.hbm, 806, rfl⟩
abbrev main_v604 : Ref sig .tc := ⟨.hbm, 807, rfl⟩
abbrev main_v605 : Ref sig .tc := ⟨.hbm, 808, rfl⟩
abbrev main_v606 : Ref sig .tc := ⟨.hbm, 809, rfl⟩
abbrev main_cst_81 : Ref sig .tc := ⟨.hbm, 810, rfl⟩
abbrev main_v607 : Ref sig .tc := ⟨.hbm, 811, rfl⟩
abbrev main_cst_82 : Ref sig .tc := ⟨.hbm, 812, rfl⟩
abbrev main_v608 : Ref sig .tc := ⟨.hbm, 813, rfl⟩
abbrev main_v609 : Ref sig .tc := ⟨.hbm, 814, rfl⟩
abbrev main_v610 : Ref sig .tc := ⟨.hbm, 815, rfl⟩
abbrev main_v611 : Ref sig .tc := ⟨.hbm, 816, rfl⟩
abbrev main_v612 : Ref sig .tc := ⟨.hbm, 817, rfl⟩
abbrev main_v613 : Ref sig .tc := ⟨.hbm, 818, rfl⟩
abbrev main_v614 : Ref sig .tc := ⟨.hbm, 819, rfl⟩
abbrev main_v615 : Ref sig .tc := ⟨.hbm, 820, rfl⟩
abbrev main_v616 : Ref sig .tc := ⟨.hbm, 821, rfl⟩
abbrev main_v617 : Ref sig .tc := ⟨.hbm, 822, rfl⟩
abbrev main_v618 : Ref sig .tc := ⟨.hbm, 823, rfl⟩
abbrev main_v619 : Ref sig .tc := ⟨.hbm, 824, rfl⟩
abbrev main_v620 : Ref sig .tc := ⟨.hbm, 825, rfl⟩
abbrev main_v621 : Ref sig .tc := ⟨.hbm, 826, rfl⟩
abbrev main_v622 : Ref sig .tc := ⟨.hbm, 827, rfl⟩
abbrev main_v623 : Ref sig .tc := ⟨.hbm, 828, rfl⟩
abbrev main_v624 : Ref sig .tc := ⟨.hbm, 829, rfl⟩
abbrev main_v625 : Ref sig .tc := ⟨.hbm, 830, rfl⟩
abbrev main_v626 : Ref sig .tc := ⟨.hbm, 831, rfl⟩
abbrev main_v627 : Ref sig .tc := ⟨.hbm, 832, rfl⟩
abbrev main_v628 : Ref sig .tc := ⟨.hbm, 833, rfl⟩
abbrev main_v629 : Ref sig .tc := ⟨.hbm, 834, rfl⟩
abbrev main_v630 : Ref sig .tc := ⟨.hbm, 835, rfl⟩
abbrev main_v631 : Ref sig .tc := ⟨.hbm, 836, rfl⟩
abbrev main_v632 : Ref sig .tc := ⟨.hbm, 837, rfl⟩
abbrev main_v633 : Ref sig .tc := ⟨.hbm, 838, rfl⟩
abbrev main_v634 : Ref sig .tc := ⟨.hbm, 839, rfl⟩
abbrev main_v635 : Ref sig .tc := ⟨.hbm, 840, rfl⟩
abbrev main_v636 : Ref sig .tc := ⟨.hbm, 841, rfl⟩
abbrev main_v637 : Ref sig .tc := ⟨.hbm, 842, rfl⟩
abbrev main_cst_83 : Ref sig .tc := ⟨.hbm, 843, rfl⟩
abbrev main_v638 : Ref sig .tc := ⟨.hbm, 844, rfl⟩
abbrev main_v639 : Ref sig .tc := ⟨.hbm, 845, rfl⟩
abbrev main_v640 : Ref sig .tc := ⟨.hbm, 846, rfl⟩
abbrev main_cst_84 : Ref sig .tc := ⟨.hbm, 847, rfl⟩
abbrev main_v641 : Ref sig .tc := ⟨.hbm, 848, rfl⟩
abbrev main_v642 : Ref sig .tc := ⟨.hbm, 849, rfl⟩
abbrev main_v643 : Ref sig .tc := ⟨.hbm, 850, rfl⟩
abbrev main_v644 : Ref sig .tc := ⟨.hbm, 851, rfl⟩
abbrev main_v645 : Ref sig .tc := ⟨.hbm, 852, rfl⟩
abbrev main_v646 : Ref sig .tc := ⟨.hbm, 853, rfl⟩
abbrev main_v647 : Ref sig .tc := ⟨.hbm, 854, rfl⟩
abbrev main_v648 : Ref sig .tc := ⟨.hbm, 855, rfl⟩
abbrev main_cst_85 : Ref sig .tc := ⟨.hbm, 856, rfl⟩
abbrev main_call14_v0 : Ref sig .tc := ⟨.hbm, 857, rfl⟩
abbrev main_v649_1 : Ref sig .tc := ⟨.hbm, 858, rfl⟩
abbrev main_call14_v2 : Ref sig .tc := ⟨.hbm, 859, rfl⟩
abbrev main_v649_0 : Ref sig .tc := ⟨.hbm, 860, rfl⟩
abbrev main_call14_cst : Ref sig .tc := ⟨.hbm, 861, rfl⟩
abbrev main_v649_2 : Ref sig .tc := ⟨.hbm, 862, rfl⟩
abbrev main_v650 : Ref sig .tc := ⟨.hbm, 863, rfl⟩
abbrev main_v651 : Ref sig .tc := ⟨.hbm, 864, rfl⟩
abbrev main_v652 : Ref sig .tc := ⟨.hbm, 865, rfl⟩
abbrev main_v653 : Ref sig .tc := ⟨.hbm, 866, rfl⟩
abbrev main_v654 : Ref sig .tc := ⟨.hbm, 867, rfl⟩
abbrev main_v655 : Ref sig .tc := ⟨.hbm, 868, rfl⟩
abbrev main_cst_86 : Ref sig .tc := ⟨.hbm, 869, rfl⟩
abbrev main_v656 : Ref sig .tc := ⟨.hbm, 870, rfl⟩
abbrev main_v657 : Ref sig .tc := ⟨.hbm, 871, rfl⟩
abbrev main_v658 : Ref sig .tc := ⟨.hbm, 872, rfl⟩
abbrev main_v659 : Ref sig .tc := ⟨.hbm, 873, rfl⟩
abbrev main_v660 : Ref sig .tc := ⟨.hbm, 874, rfl⟩
abbrev main_v661 : Ref sig .tc := ⟨.hbm, 875, rfl⟩
abbrev main_v662 : Ref sig .tc := ⟨.hbm, 876, rfl⟩
abbrev main_v663 : Ref sig .tc := ⟨.hbm, 877, rfl⟩
abbrev main_v664 : Ref sig .tc := ⟨.hbm, 878, rfl⟩
abbrev main_v665 : Ref sig .tc := ⟨.hbm, 879, rfl⟩
abbrev main_v666 : Ref sig .tc := ⟨.hbm, 880, rfl⟩
abbrev main_v667 : Ref sig .tc := ⟨.hbm, 881, rfl⟩
abbrev main_cst_87 : Ref sig .tc := ⟨.hbm, 882, rfl⟩
abbrev main_v668 : Ref sig .tc := ⟨.hbm, 883, rfl⟩
abbrev main_v669 : Ref sig .tc := ⟨.hbm, 884, rfl⟩
abbrev main_v670 : Ref sig .tc := ⟨.hbm, 885, rfl⟩
abbrev main_v671 : Ref sig .tc := ⟨.hbm, 886, rfl⟩
abbrev main_v672 : Ref sig .tc := ⟨.hbm, 887, rfl⟩
abbrev main_v673 : Ref sig .tc := ⟨.hbm, 888, rfl⟩
abbrev main_v674 : Ref sig .tc := ⟨.hbm, 889, rfl⟩
abbrev main_v675 : Ref sig .tc := ⟨.hbm, 890, rfl⟩
abbrev main_v676 : Ref sig .tc := ⟨.hbm, 891, rfl⟩
abbrev main_v677 : Ref sig .tc := ⟨.hbm, 892, rfl⟩
abbrev main_v678 : Ref sig .tc := ⟨.hbm, 893, rfl⟩
abbrev main_v679 : Ref sig .tc := ⟨.hbm, 894, rfl⟩
abbrev main_v680 : Ref sig .tc := ⟨.hbm, 895, rfl⟩
abbrev main_v681 : Ref sig .tc := ⟨.hbm, 896, rfl⟩
abbrev main_v682 : Ref sig .tc := ⟨.hbm, 897, rfl⟩
abbrev main_v683 : Ref sig .tc := ⟨.hbm, 898, rfl⟩
abbrev main_v684 : Ref sig .tc := ⟨.hbm, 899, rfl⟩
abbrev main_v685 : Ref sig .tc := ⟨.hbm, 900, rfl⟩
abbrev main_v686 : Ref sig .tc := ⟨.hbm, 901, rfl⟩
abbrev main_v687 : Ref sig .tc := ⟨.hbm, 902, rfl⟩
abbrev main_v688 : Ref sig .tc := ⟨.hbm, 903, rfl⟩
abbrev main_v689 : Ref sig .tc := ⟨.hbm, 904, rfl⟩
abbrev main_v690 : Ref sig .tc := ⟨.hbm, 905, rfl⟩
abbrev main_v691 : Ref sig .tc := ⟨.hbm, 906, rfl⟩
abbrev main_v692 : Ref sig .tc := ⟨.hbm, 907, rfl⟩
abbrev main_v693 : Ref sig .tc := ⟨.hbm, 908, rfl⟩
abbrev main_v694 : Ref sig .tc := ⟨.hbm, 909, rfl⟩
abbrev main_v695 : Ref sig .tc := ⟨.hbm, 910, rfl⟩
abbrev main_v696 : Ref sig .tc := ⟨.hbm, 911, rfl⟩
abbrev main_v697 : Ref sig .tc := ⟨.hbm, 912, rfl⟩
abbrev main_v698 : Ref sig .tc := ⟨.hbm, 913, rfl⟩
abbrev main_v699 : Ref sig .tc := ⟨.hbm, 914, rfl⟩
abbrev main_v700 : Ref sig .tc := ⟨.hbm, 915, rfl⟩
abbrev main_v701 : Ref sig .tc := ⟨.hbm, 916, rfl⟩
abbrev main_v702 : Ref sig .tc := ⟨.hbm, 917, rfl⟩
abbrev main_v703 : Ref sig .tc := ⟨.hbm, 918, rfl⟩
abbrev main_v704 : Ref sig .tc := ⟨.hbm, 919, rfl⟩
abbrev main_v705 : Ref sig .tc := ⟨.hbm, 920, rfl⟩
abbrev main_v706 : Ref sig .tc := ⟨.hbm, 921, rfl⟩
abbrev main_v707 : Ref sig .tc := ⟨.hbm, 922, rfl⟩
abbrev main_v708 : Ref sig .tc := ⟨.hbm, 923, rfl⟩
abbrev main_v709 : Ref sig .tc := ⟨.hbm, 924, rfl⟩
abbrev main_v710 : Ref sig .tc := ⟨.hbm, 925, rfl⟩
abbrev main_v711 : Ref sig .tc := ⟨.hbm, 926, rfl⟩
abbrev main_v712 : Ref sig .tc := ⟨.hbm, 927, rfl⟩
abbrev main_v713 : Ref sig .tc := ⟨.hbm, 928, rfl⟩
abbrev main_v714 : Ref sig .tc := ⟨.hbm, 929, rfl⟩
abbrev main_v715 : Ref sig .tc := ⟨.hbm, 930, rfl⟩
abbrev main_v716 : Ref sig .tc := ⟨.hbm, 931, rfl⟩
abbrev main_v717 : Ref sig .tc := ⟨.hbm, 932, rfl⟩
abbrev main_v718 : Ref sig .tc := ⟨.hbm, 933, rfl⟩
abbrev main_v719 : Ref sig .tc := ⟨.hbm, 934, rfl⟩
abbrev main_v720 : Ref sig .tc := ⟨.hbm, 935, rfl⟩
abbrev main_v721 : Ref sig .tc := ⟨.hbm, 936, rfl⟩
abbrev main_v722 : Ref sig .tc := ⟨.hbm, 937, rfl⟩
abbrev main_v723 : Ref sig .tc := ⟨.hbm, 938, rfl⟩
abbrev main_v724 : Ref sig .tc := ⟨.hbm, 939, rfl⟩
abbrev main_v725 : Ref sig .tc := ⟨.hbm, 940, rfl⟩
abbrev main_v726 : Ref sig .tc := ⟨.hbm, 941, rfl⟩
abbrev main_v727 : Ref sig .tc := ⟨.hbm, 942, rfl⟩
abbrev main_v728 : Ref sig .tc := ⟨.hbm, 943, rfl⟩
abbrev main_v729 : Ref sig .tc := ⟨.hbm, 944, rfl⟩
abbrev main_v730 : Ref sig .tc := ⟨.hbm, 945, rfl⟩
abbrev main_v731 : Ref sig .tc := ⟨.hbm, 946, rfl⟩
abbrev main_v732 : Ref sig .tc := ⟨.hbm, 947, rfl⟩
abbrev main_v733 : Ref sig .tc := ⟨.hbm, 948, rfl⟩
abbrev main_v734 : Ref sig .tc := ⟨.hbm, 949, rfl⟩
abbrev main_v735 : Ref sig .tc := ⟨.hbm, 950, rfl⟩
abbrev main_v736 : Ref sig .tc := ⟨.hbm, 951, rfl⟩
abbrev main_v737 : Ref sig .tc := ⟨.hbm, 952, rfl⟩
abbrev main_v738 : Ref sig .tc := ⟨.hbm, 953, rfl⟩
abbrev main_v739 : Ref sig .tc := ⟨.hbm, 954, rfl⟩
abbrev main_v740 : Ref sig .tc := ⟨.hbm, 955, rfl⟩
abbrev main_v741 : Ref sig .tc := ⟨.hbm, 956, rfl⟩
abbrev main_v742 : Ref sig .tc := ⟨.hbm, 957, rfl⟩
abbrev main_v743 : Ref sig .tc := ⟨.hbm, 958, rfl⟩
abbrev main_v744 : Ref sig .tc := ⟨.hbm, 959, rfl⟩
abbrev main_v745 : Ref sig .tc := ⟨.hbm, 960, rfl⟩
abbrev main_v746 : Ref sig .tc := ⟨.hbm, 961, rfl⟩
abbrev main_v747 : Ref sig .tc := ⟨.hbm, 962, rfl⟩
abbrev main_v748 : Ref sig .tc := ⟨.hbm, 963, rfl⟩
abbrev main_v749 : Ref sig .tc := ⟨.hbm, 964, rfl⟩
abbrev main_v750 : Ref sig .tc := ⟨.hbm, 965, rfl⟩
abbrev main_v751 : Ref sig .tc := ⟨.hbm, 966, rfl⟩
abbrev main_v752 : Ref sig .tc := ⟨.hbm, 967, rfl⟩
abbrev main_v753 : Ref sig .tc := ⟨.hbm, 968, rfl⟩
abbrev main_v754 : Ref sig .tc := ⟨.hbm, 969, rfl⟩
abbrev main_v755 : Ref sig .tc := ⟨.hbm, 970, rfl⟩
abbrev main_v756 : Ref sig .tc := ⟨.hbm, 971, rfl⟩
abbrev main_v757 : Ref sig .tc := ⟨.hbm, 972, rfl⟩
abbrev main_v758 : Ref sig .tc := ⟨.hbm, 973, rfl⟩
abbrev main_v759 : Ref sig .tc := ⟨.hbm, 974, rfl⟩
abbrev main_v760 : Ref sig .tc := ⟨.hbm, 975, rfl⟩
abbrev main_v761 : Ref sig .tc := ⟨.hbm, 976, rfl⟩
abbrev main_v762 : Ref sig .tc := ⟨.hbm, 977, rfl⟩
abbrev main_v763 : Ref sig .tc := ⟨.hbm, 978, rfl⟩
abbrev main_v764 : Ref sig .tc := ⟨.hbm, 979, rfl⟩
abbrev main_v765 : Ref sig .tc := ⟨.hbm, 980, rfl⟩
abbrev main_v766 : Ref sig .tc := ⟨.hbm, 981, rfl⟩
abbrev main_v767 : Ref sig .tc := ⟨.hbm, 982, rfl⟩
abbrev main_v768 : Ref sig .tc := ⟨.hbm, 983, rfl⟩
abbrev main_cst_88 : Ref sig .tc := ⟨.hbm, 984, rfl⟩
abbrev main_v769 : Ref sig .tc := ⟨.hbm, 985, rfl⟩
abbrev main_v770 : Ref sig .tc := ⟨.hbm, 986, rfl⟩
abbrev main_v771 : Ref sig .tc := ⟨.hbm, 987, rfl⟩
abbrev main_v772 : Ref sig .tc := ⟨.hbm, 988, rfl⟩
abbrev main_v773 : Ref sig .tc := ⟨.hbm, 989, rfl⟩
abbrev main_v774 : Ref sig .tc := ⟨.hbm, 990, rfl⟩
abbrev main_v775 : Ref sig .tc := ⟨.hbm, 991, rfl⟩
abbrev main_v776 : Ref sig .tc := ⟨.hbm, 992, rfl⟩
abbrev main_v777 : Ref sig .tc := ⟨.hbm, 993, rfl⟩
abbrev main_v778 : Ref sig .tc := ⟨.hbm, 994, rfl⟩
abbrev main_v779 : Ref sig .tc := ⟨.hbm, 995, rfl⟩
abbrev main_v780 : Ref sig .tc := ⟨.hbm, 996, rfl⟩
abbrev main_v781 : Ref sig .tc := ⟨.hbm, 997, rfl⟩
abbrev main_v782 : Ref sig .tc := ⟨.hbm, 998, rfl⟩
abbrev main_v783 : Ref sig .tc := ⟨.hbm, 999, rfl⟩
abbrev main_v784 : Ref sig .tc := ⟨.hbm, 1000, rfl⟩
abbrev main_v785 : Ref sig .tc := ⟨.hbm, 1001, rfl⟩
abbrev main_v786 : Ref sig .tc := ⟨.hbm, 1002, rfl⟩
abbrev main_v787 : Ref sig .tc := ⟨.hbm, 1003, rfl⟩
abbrev main_v788 : Ref sig .tc := ⟨.hbm, 1004, rfl⟩
abbrev main_v789 : Ref sig .tc := ⟨.hbm, 1005, rfl⟩
abbrev main_v790 : Ref sig .tc := ⟨.hbm, 1006, rfl⟩
abbrev main_v791 : Ref sig .tc := ⟨.hbm, 1007, rfl⟩
abbrev main_v792 : Ref sig .tc := ⟨.hbm, 1008, rfl⟩
abbrev main_v793 : Ref sig .tc := ⟨.hbm, 1009, rfl⟩
abbrev main_v794 : Ref sig .tc := ⟨.hbm, 1010, rfl⟩
abbrev main_v795 : Ref sig .tc := ⟨.hbm, 1011, rfl⟩
abbrev main_v796 : Ref sig .tc := ⟨.hbm, 1012, rfl⟩
abbrev main_v797 : Ref sig .tc := ⟨.hbm, 1013, rfl⟩
abbrev main_v798 : Ref sig .tc := ⟨.hbm, 1014, rfl⟩
abbrev main_v799 : Ref sig .tc := ⟨.hbm, 1015, rfl⟩
abbrev main_cst_89 : Ref sig .tc := ⟨.hbm, 1016, rfl⟩
abbrev main_v800 : Ref sig .tc := ⟨.hbm, 1017, rfl⟩
abbrev main_v801 : Ref sig .tc := ⟨.hbm, 1018, rfl⟩
abbrev main_cst_90 : Ref sig .tc := ⟨.hbm, 1019, rfl⟩
abbrev main_v802 : Ref sig .tc := ⟨.hbm, 1020, rfl⟩
abbrev main_v803 : Ref sig .tc := ⟨.hbm, 1021, rfl⟩
abbrev main_v804 : Ref sig .tc := ⟨.hbm, 1022, rfl⟩
abbrev main_v805 : Ref sig .tc := ⟨.hbm, 1023, rfl⟩
abbrev main_cst_91 : Ref sig .tc := ⟨.hbm, 1024, rfl⟩
abbrev main_v806 : Ref sig .tc := ⟨.hbm, 1025, rfl⟩
abbrev main_v807 : Ref sig .tc := ⟨.hbm, 1026, rfl⟩
abbrev main_cst_92 : Ref sig .tc := ⟨.hbm, 1027, rfl⟩
abbrev main_v808 : Ref sig .tc := ⟨.hbm, 1028, rfl⟩
abbrev main_v809 : Ref sig .tc := ⟨.hbm, 1029, rfl⟩
abbrev main_v810 : Ref sig .tc := ⟨.hbm, 1030, rfl⟩
abbrev main_v811 : Ref sig .tc := ⟨.hbm, 1031, rfl⟩
abbrev main_v812 : Ref sig .tc := ⟨.hbm, 1032, rfl⟩
abbrev main_v813 : Ref sig .tc := ⟨.hbm, 1033, rfl⟩
abbrev main_v814 : Ref sig .tc := ⟨.hbm, 1034, rfl⟩
abbrev main_v815 : Ref sig .tc := ⟨.hbm, 1035, rfl⟩
abbrev main_v816 : Ref sig .tc := ⟨.hbm, 1036, rfl⟩
abbrev main_v817 : Ref sig .tc := ⟨.hbm, 1037, rfl⟩
abbrev main_v818 : Ref sig .tc := ⟨.hbm, 1038, rfl⟩
abbrev main_v819 : Ref sig .tc := ⟨.hbm, 1039, rfl⟩
abbrev main_v820 : Ref sig .tc := ⟨.hbm, 1040, rfl⟩
abbrev main_v821 : Ref sig .tc := ⟨.hbm, 1041, rfl⟩
abbrev main_v822 : Ref sig .tc := ⟨.hbm, 1042, rfl⟩
abbrev main_v823 : Ref sig .tc := ⟨.hbm, 1043, rfl⟩
abbrev main_v824 : Ref sig .tc := ⟨.hbm, 1044, rfl⟩
abbrev main_v825 : Ref sig .tc := ⟨.hbm, 1045, rfl⟩
abbrev main_v826 : Ref sig .tc := ⟨.hbm, 1046, rfl⟩
abbrev main_v827 : Ref sig .tc := ⟨.hbm, 1047, rfl⟩
abbrev main_v828 : Ref sig .tc := ⟨.hbm, 1048, rfl⟩
abbrev main_v829 : Ref sig .tc := ⟨.hbm, 1049, rfl⟩
abbrev main_v830 : Ref sig .tc := ⟨.hbm, 1050, rfl⟩
abbrev main_v831 : Ref sig .tc := ⟨.hbm, 1051, rfl⟩
abbrev main_v832 : Ref sig .tc := ⟨.hbm, 1052, rfl⟩
abbrev main_v833 : Ref sig .tc := ⟨.hbm, 1053, rfl⟩
abbrev main_v834 : Ref sig .tc := ⟨.hbm, 1054, rfl⟩
abbrev main_v835 : Ref sig .tc := ⟨.hbm, 1055, rfl⟩
abbrev main_v836 : Ref sig .tc := ⟨.hbm, 1056, rfl⟩
abbrev main_v837 : Ref sig .tc := ⟨.hbm, 1057, rfl⟩
abbrev main_v838 : Ref sig .tc := ⟨.hbm, 1058, rfl⟩
abbrev main_v839 : Ref sig .tc := ⟨.hbm, 1059, rfl⟩
abbrev main_v840 : Ref sig .tc := ⟨.hbm, 1060, rfl⟩
abbrev main_v841 : Ref sig .tc := ⟨.hbm, 1061, rfl⟩
abbrev main_cst_93 : Ref sig .tc := ⟨.hbm, 1062, rfl⟩
abbrev main_v842 : Ref sig .tc := ⟨.hbm, 1063, rfl⟩
abbrev main_v843 : Ref sig .tc := ⟨.hbm, 1064, rfl⟩
abbrev main_v844 : Ref sig .tc := ⟨.hbm, 1065, rfl⟩
abbrev main_v845 : Ref sig .tc := ⟨.hbm, 1066, rfl⟩
abbrev main_v846 : Ref sig .tc := ⟨.hbm, 1067, rfl⟩
abbrev main_cst_94 : Ref sig .tc := ⟨.hbm, 1068, rfl⟩
abbrev main_v847 : Ref sig .tc := ⟨.hbm, 1069, rfl⟩
abbrev main_v848 : Ref sig .tc := ⟨.hbm, 1070, rfl⟩
abbrev main_v849 : Ref sig .tc := ⟨.hbm, 1071, rfl⟩
abbrev main_cst_95 : Ref sig .tc := ⟨.hbm, 1072, rfl⟩
abbrev main_v850 : Ref sig .tc := ⟨.hbm, 1073, rfl⟩
abbrev main_v851 : Ref sig .tc := ⟨.hbm, 1074, rfl⟩
abbrev main_v852 : Ref sig .tc := ⟨.hbm, 1075, rfl⟩
abbrev main_v853 : Ref sig .tc := ⟨.hbm, 1076, rfl⟩
abbrev main_v854 : Ref sig .tc := ⟨.hbm, 1077, rfl⟩
abbrev main_v855 : Ref sig .tc := ⟨.hbm, 1078, rfl⟩
abbrev main_cst_96 : Ref sig .tc := ⟨.hbm, 1079, rfl⟩
abbrev main_v856 : Ref sig .tc := ⟨.hbm, 1080, rfl⟩
abbrev main_v857 : Ref sig .tc := ⟨.hbm, 1081, rfl⟩
abbrev main_v858 : Ref sig .tc := ⟨.hbm, 1082, rfl⟩
abbrev main_v859 : Ref sig .tc := ⟨.hbm, 1083, rfl⟩
abbrev main_cst_97 : Ref sig .tc := ⟨.hbm, 1084, rfl⟩
abbrev main_v860 : Ref sig .tc := ⟨.hbm, 1085, rfl⟩
abbrev main_v861 : Ref sig .tc := ⟨.hbm, 1086, rfl⟩
abbrev main_v862 : Ref sig .tc := ⟨.hbm, 1087, rfl⟩
abbrev main_v863 : Ref sig .tc := ⟨.hbm, 1088, rfl⟩
abbrev main_v864 : Ref sig .tc := ⟨.hbm, 1089, rfl⟩
abbrev main_v865 : Ref sig .tc := ⟨.hbm, 1090, rfl⟩
abbrev main_cst_98 : Ref sig .tc := ⟨.hbm, 1091, rfl⟩
abbrev main_v866 : Ref sig .tc := ⟨.hbm, 1092, rfl⟩
abbrev main_v867 : Ref sig .tc := ⟨.hbm, 1093, rfl⟩
abbrev main_v868 : Ref sig .tc := ⟨.hbm, 1094, rfl⟩
abbrev main_v869 : Ref sig .tc := ⟨.hbm, 1095, rfl⟩
abbrev main_cst_99 : Ref sig .tc := ⟨.hbm, 1096, rfl⟩
abbrev main_v870 : Ref sig .tc := ⟨.hbm, 1097, rfl⟩
abbrev main_v871 : Ref sig .tc := ⟨.hbm, 1098, rfl⟩
abbrev main_v872 : Ref sig .tc := ⟨.hbm, 1099, rfl⟩
abbrev main_v873 : Ref sig .tc := ⟨.hbm, 1100, rfl⟩
abbrev main_v874 : Ref sig .tc := ⟨.hbm, 1101, rfl⟩
abbrev main_v875 : Ref sig .tc := ⟨.hbm, 1102, rfl⟩
abbrev main_cst_100 : Ref sig .tc := ⟨.hbm, 1103, rfl⟩
abbrev main_v876 : Ref sig .tc := ⟨.hbm, 1104, rfl⟩
abbrev main_v877 : Ref sig .tc := ⟨.hbm, 1105, rfl⟩
abbrev main_v878 : Ref sig .tc := ⟨.hbm, 1106, rfl⟩
abbrev main_v879 : Ref sig .tc := ⟨.hbm, 1107, rfl⟩
abbrev main_cst_101 : Ref sig .tc := ⟨.hbm, 1108, rfl⟩
abbrev main_v880 : Ref sig .tc := ⟨.hbm, 1109, rfl⟩
abbrev main_v881 : Ref sig .tc := ⟨.hbm, 1110, rfl⟩
abbrev main_v882 : Ref sig .tc := ⟨.hbm, 1111, rfl⟩
abbrev main_v883 : Ref sig .tc := ⟨.hbm, 1112, rfl⟩
abbrev main_v884 : Ref sig .tc := ⟨.hbm, 1113, rfl⟩
abbrev main_v885 : Ref sig .tc := ⟨.hbm, 1114, rfl⟩
abbrev main_cst_102 : Ref sig .tc := ⟨.hbm, 1115, rfl⟩
abbrev main_v886 : Ref sig .tc := ⟨.hbm, 1116, rfl⟩
abbrev main_v887 : Ref sig .tc := ⟨.hbm, 1117, rfl⟩
abbrev main_v888 : Ref sig .tc := ⟨.hbm, 1118, rfl⟩
abbrev main_v889 : Ref sig .tc := ⟨.hbm, 1119, rfl⟩
abbrev main_cst_103 : Ref sig .tc := ⟨.hbm, 1120, rfl⟩
abbrev main_v890 : Ref sig .tc := ⟨.hbm, 1121, rfl⟩
abbrev main_v891 : Ref sig .tc := ⟨.hbm, 1122, rfl⟩
abbrev main_v892 : Ref sig .tc := ⟨.hbm, 1123, rfl⟩
abbrev main_v893 : Ref sig .tc := ⟨.hbm, 1124, rfl⟩
abbrev main_v894 : Ref sig .tc := ⟨.hbm, 1125, rfl⟩
abbrev main_v895 : Ref sig .tc := ⟨.hbm, 1126, rfl⟩
abbrev main_cst_104 : Ref sig .tc := ⟨.hbm, 1127, rfl⟩
abbrev main_v896 : Ref sig .tc := ⟨.hbm, 1128, rfl⟩
abbrev main_v897 : Ref sig .tc := ⟨.hbm, 1129, rfl⟩
abbrev main_v898 : Ref sig .tc := ⟨.hbm, 1130, rfl⟩
abbrev main_v899 : Ref sig .tc := ⟨.hbm, 1131, rfl⟩
abbrev main_cst_105 : Ref sig .tc := ⟨.hbm, 1132, rfl⟩
abbrev main_v900 : Ref sig .tc := ⟨.hbm, 1133, rfl⟩
abbrev main_v901 : Ref sig .tc := ⟨.hbm, 1134, rfl⟩
abbrev main_v902 : Ref sig .tc := ⟨.hbm, 1135, rfl⟩
abbrev main_v903 : Ref sig .tc := ⟨.hbm, 1136, rfl⟩
abbrev main_v904 : Ref sig .tc := ⟨.hbm, 1137, rfl⟩
abbrev main_v905 : Ref sig .tc := ⟨.hbm, 1138, rfl⟩
abbrev main_cst_106 : Ref sig .tc := ⟨.hbm, 1139, rfl⟩
abbrev main_v906 : Ref sig .tc := ⟨.hbm, 1140, rfl⟩
abbrev main_v907 : Ref sig .tc := ⟨.hbm, 1141, rfl⟩
abbrev main_v908 : Ref sig .tc := ⟨.hbm, 1142, rfl⟩
abbrev main_v909 : Ref sig .tc := ⟨.hbm, 1143, rfl⟩
abbrev main_cst_107 : Ref sig .tc := ⟨.hbm, 1144, rfl⟩
abbrev main_v910 : Ref sig .tc := ⟨.hbm, 1145, rfl⟩
abbrev main_v911 : Ref sig .tc := ⟨.hbm, 1146, rfl⟩
abbrev main_v912 : Ref sig .tc := ⟨.hbm, 1147, rfl⟩
abbrev main_v913 : Ref sig .tc := ⟨.hbm, 1148, rfl⟩
abbrev main_v914 : Ref sig .tc := ⟨.hbm, 1149, rfl⟩
abbrev main_v915 : Ref sig .tc := ⟨.hbm, 1150, rfl⟩
abbrev main_cst_108 : Ref sig .tc := ⟨.hbm, 1151, rfl⟩
abbrev main_v916 : Ref sig .tc := ⟨.hbm, 1152, rfl⟩
abbrev main_v917 : Ref sig .tc := ⟨.hbm, 1153, rfl⟩
abbrev main_v918 : Ref sig .tc := ⟨.hbm, 1154, rfl⟩
abbrev main_v919 : Ref sig .tc := ⟨.hbm, 1155, rfl⟩
abbrev main_cst_109 : Ref sig .tc := ⟨.hbm, 1156, rfl⟩
abbrev main_v920 : Ref sig .tc := ⟨.hbm, 1157, rfl⟩
abbrev main_v921 : Ref sig .tc := ⟨.hbm, 1158, rfl⟩
abbrev main_v922 : Ref sig .tc := ⟨.hbm, 1159, rfl⟩
abbrev main_v923 : Ref sig .tc := ⟨.hbm, 1160, rfl⟩
abbrev main_v924 : Ref sig .tc := ⟨.hbm, 1161, rfl⟩
abbrev main_v925 : Ref sig .tc := ⟨.hbm, 1162, rfl⟩
abbrev main_cst_110 : Ref sig .tc := ⟨.hbm, 1163, rfl⟩
abbrev main_v926 : Ref sig .tc := ⟨.hbm, 1164, rfl⟩
abbrev main_v927 : Ref sig .tc := ⟨.hbm, 1165, rfl⟩
abbrev main_v928 : Ref sig .tc := ⟨.hbm, 1166, rfl⟩
abbrev main_v929 : Ref sig .tc := ⟨.hbm, 1167, rfl⟩
abbrev main_cst_111 : Ref sig .tc := ⟨.hbm, 1168, rfl⟩
abbrev main_v930 : Ref sig .tc := ⟨.hbm, 1169, rfl⟩
abbrev main_v931 : Ref sig .tc := ⟨.hbm, 1170, rfl⟩
abbrev main_v932 : Ref sig .tc := ⟨.hbm, 1171, rfl⟩
abbrev main_v933 : Ref sig .tc := ⟨.hbm, 1172, rfl⟩
abbrev main_v934 : Ref sig .tc := ⟨.hbm, 1173, rfl⟩
abbrev main_v935 : Ref sig .tc := ⟨.hbm, 1174, rfl⟩
abbrev main_cst_112 : Ref sig .tc := ⟨.hbm, 1175, rfl⟩
abbrev main_v936 : Ref sig .tc := ⟨.hbm, 1176, rfl⟩
abbrev main_v937 : Ref sig .tc := ⟨.hbm, 1177, rfl⟩
abbrev main_v938 : Ref sig .tc := ⟨.hbm, 1178, rfl⟩
abbrev main_v939 : Ref sig .tc := ⟨.hbm, 1179, rfl⟩
abbrev main_cst_113 : Ref sig .tc := ⟨.hbm, 1180, rfl⟩
abbrev main_v940 : Ref sig .tc := ⟨.hbm, 1181, rfl⟩
abbrev main_v941 : Ref sig .tc := ⟨.hbm, 1182, rfl⟩
abbrev main_v942 : Ref sig .tc := ⟨.hbm, 1183, rfl⟩
abbrev main_v943 : Ref sig .tc := ⟨.hbm, 1184, rfl⟩
abbrev main_v944 : Ref sig .tc := ⟨.hbm, 1185, rfl⟩
abbrev main_v945 : Ref sig .tc := ⟨.hbm, 1186, rfl⟩
abbrev main_cst_114 : Ref sig .tc := ⟨.hbm, 1187, rfl⟩
abbrev main_v946 : Ref sig .tc := ⟨.hbm, 1188, rfl⟩
abbrev main_v947 : Ref sig .tc := ⟨.hbm, 1189, rfl⟩
abbrev main_v948 : Ref sig .tc := ⟨.hbm, 1190, rfl⟩
abbrev main_v949 : Ref sig .tc := ⟨.hbm, 1191, rfl⟩
abbrev main_cst_115 : Ref sig .tc := ⟨.hbm, 1192, rfl⟩
abbrev main_v950 : Ref sig .tc := ⟨.hbm, 1193, rfl⟩
abbrev main_v951 : Ref sig .tc := ⟨.hbm, 1194, rfl⟩
abbrev main_v952 : Ref sig .tc := ⟨.hbm, 1195, rfl⟩
abbrev main_v953 : Ref sig .tc := ⟨.hbm, 1196, rfl⟩
abbrev main_v954 : Ref sig .tc := ⟨.hbm, 1197, rfl⟩
abbrev main_v955 : Ref sig .tc := ⟨.hbm, 1198, rfl⟩
abbrev main_cst_116 : Ref sig .tc := ⟨.hbm, 1199, rfl⟩
abbrev main_v956 : Ref sig .tc := ⟨.hbm, 1200, rfl⟩
abbrev main_v957 : Ref sig .tc := ⟨.hbm, 1201, rfl⟩
abbrev main_v958 : Ref sig .tc := ⟨.hbm, 1202, rfl⟩
abbrev main_v959 : Ref sig .tc := ⟨.hbm, 1203, rfl⟩
abbrev main_cst_117 : Ref sig .tc := ⟨.hbm, 1204, rfl⟩
abbrev main_v960 : Ref sig .tc := ⟨.hbm, 1205, rfl⟩
abbrev main_v961 : Ref sig .tc := ⟨.hbm, 1206, rfl⟩
abbrev main_v962 : Ref sig .tc := ⟨.hbm, 1207, rfl⟩
abbrev main_v963 : Ref sig .tc := ⟨.hbm, 1208, rfl⟩
abbrev main_v964 : Ref sig .tc := ⟨.hbm, 1209, rfl⟩
abbrev main_v965 : Ref sig .tc := ⟨.hbm, 1210, rfl⟩
abbrev main_cst_118 : Ref sig .tc := ⟨.hbm, 1211, rfl⟩
abbrev main_v966 : Ref sig .tc := ⟨.hbm, 1212, rfl⟩
abbrev main_v967 : Ref sig .tc := ⟨.hbm, 1213, rfl⟩
abbrev main_v968 : Ref sig .tc := ⟨.hbm, 1214, rfl⟩
abbrev main_v969 : Ref sig .tc := ⟨.hbm, 1215, rfl⟩
abbrev main_cst_119 : Ref sig .tc := ⟨.hbm, 1216, rfl⟩
abbrev main_v970 : Ref sig .tc := ⟨.hbm, 1217, rfl⟩
abbrev main_v971 : Ref sig .tc := ⟨.hbm, 1218, rfl⟩
abbrev main_v972 : Ref sig .tc := ⟨.hbm, 1219, rfl⟩
abbrev main_v973 : Ref sig .tc := ⟨.hbm, 1220, rfl⟩
abbrev main_v974 : Ref sig .tc := ⟨.hbm, 1221, rfl⟩
abbrev main_v975 : Ref sig .tc := ⟨.hbm, 1222, rfl⟩
abbrev main_cst_120 : Ref sig .tc := ⟨.hbm, 1223, rfl⟩
abbrev main_v976 : Ref sig .tc := ⟨.hbm, 1224, rfl⟩
abbrev main_v977 : Ref sig .tc := ⟨.hbm, 1225, rfl⟩
abbrev main_v978 : Ref sig .tc := ⟨.hbm, 1226, rfl⟩
abbrev main_v979 : Ref sig .tc := ⟨.hbm, 1227, rfl⟩
abbrev main_cst_121 : Ref sig .tc := ⟨.hbm, 1228, rfl⟩
abbrev main_v980 : Ref sig .tc := ⟨.hbm, 1229, rfl⟩
abbrev main_v981 : Ref sig .tc := ⟨.hbm, 1230, rfl⟩
abbrev main_v982 : Ref sig .tc := ⟨.hbm, 1231, rfl⟩
abbrev main_v983 : Ref sig .tc := ⟨.hbm, 1232, rfl⟩
abbrev main_v984 : Ref sig .tc := ⟨.hbm, 1233, rfl⟩
abbrev main_v985 : Ref sig .tc := ⟨.hbm, 1234, rfl⟩
abbrev main_cst_122 : Ref sig .tc := ⟨.hbm, 1235, rfl⟩
abbrev main_v986 : Ref sig .tc := ⟨.hbm, 1236, rfl⟩
abbrev main_v987 : Ref sig .tc := ⟨.hbm, 1237, rfl⟩
abbrev main_v988 : Ref sig .tc := ⟨.hbm, 1238, rfl⟩
abbrev main_cst_123 : Ref sig .tc := ⟨.hbm, 1239, rfl⟩
abbrev main_v989 : Ref sig .tc := ⟨.hbm, 1240, rfl⟩
abbrev main_v990 : Ref sig .tc := ⟨.hbm, 1241, rfl⟩
abbrev main_cst_124 : Ref sig .tc := ⟨.hbm, 1242, rfl⟩
abbrev main_v991 : Ref sig .tc := ⟨.hbm, 1243, rfl⟩
abbrev main_v992 : Ref sig .tc := ⟨.hbm, 1244, rfl⟩
abbrev main_v993 : Ref sig .tc := ⟨.hbm, 1245, rfl⟩
abbrev main_v994 : Ref sig .tc := ⟨.hbm, 1246, rfl⟩
abbrev main_v995 : Ref sig .tc := ⟨.hbm, 1247, rfl⟩
abbrev main_v996 : Ref sig .tc := ⟨.hbm, 1248, rfl⟩
abbrev main_cst_125 : Ref sig .tc := ⟨.hbm, 1249, rfl⟩
abbrev main_v997 : Ref sig .tc := ⟨.hbm, 1250, rfl⟩
abbrev main_v998 : Ref sig .tc := ⟨.hbm, 1251, rfl⟩
abbrev main_cst_126 : Ref sig .tc := ⟨.hbm, 1252, rfl⟩
abbrev main_v999 : Ref sig .tc := ⟨.hbm, 1253, rfl⟩
abbrev main_v1000 : Ref sig .tc := ⟨.hbm, 1254, rfl⟩
abbrev main_v1001 : Ref sig .tc := ⟨.hbm, 1255, rfl⟩
abbrev main_v1002 : Ref sig .tc := ⟨.hbm, 1256, rfl⟩
abbrev main_cst_127 : Ref sig .tc := ⟨.hbm, 1257, rfl⟩
abbrev main_v1003 : Ref sig .tc := ⟨.hbm, 1258, rfl⟩
abbrev main_v1004 : Ref sig .tc := ⟨.hbm, 1259, rfl⟩
abbrev main_cst_128 : Ref sig .tc := ⟨.hbm, 1260, rfl⟩
abbrev main_v1005 : Ref sig .tc := ⟨.hbm, 1261, rfl⟩
abbrev main_v1006 : Ref sig .tc := ⟨.hbm, 1262, rfl⟩
abbrev main_v1007 : Ref sig .tc := ⟨.hbm, 1263, rfl⟩
abbrev main_v1008 : Ref sig .tc := ⟨.hbm, 1264, rfl⟩
abbrev main_v1009 : Ref sig .tc := ⟨.hbm, 1265, rfl⟩
abbrev main_cst_129 : Ref sig .tc := ⟨.hbm, 1266, rfl⟩
abbrev main_v1010 : Ref sig .tc := ⟨.hbm, 1267, rfl⟩
abbrev main_v1011 : Ref sig .tc := ⟨.hbm, 1268, rfl⟩
abbrev main_cst_130 : Ref sig .tc := ⟨.hbm, 1269, rfl⟩
abbrev main_v1012 : Ref sig .tc := ⟨.hbm, 1270, rfl⟩
abbrev main_call19_cst : Ref sig .tc := ⟨.hbm, 1271, rfl⟩
abbrev main_call19_v0 : Ref sig .tc := ⟨.hbm, 1272, rfl⟩
abbrev main_v1013 : Ref sig .tc := ⟨.hbm, 1273, rfl⟩
abbrev main_v1014 : Ref sig .tc := ⟨.hbm, 1274, rfl⟩
abbrev main_v1015 : Ref sig .tc := ⟨.hbm, 1275, rfl⟩
abbrev main_v1016 : Ref sig .tc := ⟨.hbm, 1276, rfl⟩
abbrev main_cst_131 : Ref sig .tc := ⟨.hbm, 1277, rfl⟩
abbrev main_v1017 : Ref sig .tc := ⟨.hbm, 1278, rfl⟩
abbrev main_v1018 : Ref sig .tc := ⟨.hbm, 1279, rfl⟩
abbrev main_cst_132 : Ref sig .tc := ⟨.hbm, 1280, rfl⟩
abbrev main_v1019 : Ref sig .tc := ⟨.hbm, 1281, rfl⟩
abbrev main_v1020 : Ref sig .tc := ⟨.hbm, 1282, rfl⟩
abbrev main_v1021 : Ref sig .tc := ⟨.hbm, 1283, rfl⟩
abbrev main_v1022 : Ref sig .tc := ⟨.hbm, 1284, rfl⟩
abbrev main_v1023 : Ref sig .tc := ⟨.hbm, 1285, rfl⟩
abbrev main_v1024 : Ref sig .tc := ⟨.hbm, 1286, rfl⟩
abbrev main_v1025 : Ref sig .tc := ⟨.hbm, 1287, rfl⟩
abbrev main_v1026 : Ref sig .tc := ⟨.hbm, 1288, rfl⟩
abbrev main_v1027 : Ref sig .tc := ⟨.hbm, 1289, rfl⟩
abbrev main_cst_133 : Ref sig .tc := ⟨.hbm, 1290, rfl⟩
abbrev main_v1028 : Ref sig .tc := ⟨.hbm, 1291, rfl⟩
abbrev main_v1029 : Ref sig .tc := ⟨.hbm, 1292, rfl⟩
abbrev main_cst_134 : Ref sig .tc := ⟨.hbm, 1293, rfl⟩
abbrev main_v1030 : Ref sig .tc := ⟨.hbm, 1294, rfl⟩
abbrev main_v1031 : Ref sig .tc := ⟨.hbm, 1295, rfl⟩
abbrev main_v1032 : Ref sig .tc := ⟨.hbm, 1296, rfl⟩
abbrev main_v1033 : Ref sig .tc := ⟨.hbm, 1297, rfl⟩
abbrev main_cst_135 : Ref sig .tc := ⟨.hbm, 1298, rfl⟩
abbrev main_v1034 : Ref sig .tc := ⟨.hbm, 1299, rfl⟩
abbrev main_v1035 : Ref sig .tc := ⟨.hbm, 1300, rfl⟩
abbrev main_cst_136 : Ref sig .tc := ⟨.hbm, 1301, rfl⟩
abbrev main_v1036 : Ref sig .tc := ⟨.hbm, 1302, rfl⟩
abbrev main_v1037 : Ref sig .tc := ⟨.hbm, 1303, rfl⟩
abbrev main_v1038 : Ref sig .tc := ⟨.hbm, 1304, rfl⟩
abbrev main_v1039 : Ref sig .tc := ⟨.hbm, 1305, rfl⟩
abbrev main_v1040 : Ref sig .tc := ⟨.hbm, 1306, rfl⟩
abbrev main_v1041 : Ref sig .tc := ⟨.hbm, 1307, rfl⟩
abbrev main_v1042 : Ref sig .tc := ⟨.hbm, 1308, rfl⟩
abbrev main_cst_137 : Ref sig .tc := ⟨.hbm, 1309, rfl⟩
abbrev main_v1043 : Ref sig .tc := ⟨.hbm, 1310, rfl⟩
abbrev main_v1044 : Ref sig .tc := ⟨.hbm, 1311, rfl⟩
abbrev main_v1045 : Ref sig .tc := ⟨.hbm, 1312, rfl⟩
abbrev main_v1046 : Ref sig .tc := ⟨.hbm, 1313, rfl⟩
abbrev main_v1047 : Ref sig .tc := ⟨.hbm, 1314, rfl⟩
abbrev main_cst_138 : Ref sig .tc := ⟨.hbm, 1315, rfl⟩
abbrev main_v1048 : Ref sig .tc := ⟨.hbm, 1316, rfl⟩
abbrev main_v1049 : Ref sig .tc := ⟨.hbm, 1317, rfl⟩
abbrev main_v1050 : Ref sig .tc := ⟨.hbm, 1318, rfl⟩
abbrev main_cst_139 : Ref sig .tc := ⟨.hbm, 1319, rfl⟩
abbrev main_v1051 : Ref sig .tc := ⟨.hbm, 1320, rfl⟩
abbrev main_v1052 : Ref sig .tc := ⟨.hbm, 1321, rfl⟩
abbrev main_v1053 : Ref sig .tc := ⟨.hbm, 1322, rfl⟩
abbrev main_cst_140 : Ref sig .tc := ⟨.hbm, 1323, rfl⟩
abbrev main_v1054 : Ref sig .tc := ⟨.hbm, 1324, rfl⟩
abbrev main_v1055 : Ref sig .tc := ⟨.hbm, 1325, rfl⟩
abbrev main_v1056 : Ref sig .tc := ⟨.hbm, 1326, rfl⟩
abbrev main_cst_141 : Ref sig .tc := ⟨.hbm, 1327, rfl⟩
abbrev main_v1057 : Ref sig .tc := ⟨.hbm, 1328, rfl⟩
abbrev main_v1058 : Ref sig .tc := ⟨.hbm, 1329, rfl⟩
abbrev main_cst_142 : Ref sig .tc := ⟨.hbm, 1330, rfl⟩
abbrev main_v1059 : Ref sig .tc := ⟨.hbm, 1331, rfl⟩
abbrev main_v1060 : Ref sig .tc := ⟨.hbm, 1332, rfl⟩
abbrev main_v1061 : Ref sig .tc := ⟨.hbm, 1333, rfl⟩
abbrev main_v1062 : Ref sig .tc := ⟨.hbm, 1334, rfl⟩
abbrev main_v1063 : Ref sig .tc := ⟨.hbm, 1335, rfl⟩
abbrev main_v1064 : Ref sig .tc := ⟨.hbm, 1336, rfl⟩
abbrev main_cst_143 : Ref sig .tc := ⟨.hbm, 1337, rfl⟩
abbrev main_v1065 : Ref sig .tc := ⟨.hbm, 1338, rfl⟩
abbrev main_v1066 : Ref sig .tc := ⟨.hbm, 1339, rfl⟩
abbrev main_cst_144 : Ref sig .tc := ⟨.hbm, 1340, rfl⟩
abbrev main_v1067 : Ref sig .tc := ⟨.hbm, 1341, rfl⟩
abbrev main_v1068 : Ref sig .tc := ⟨.hbm, 1342, rfl⟩
abbrev main_v1069 : Ref sig .tc := ⟨.hbm, 1343, rfl⟩
abbrev main_v1070 : Ref sig .tc := ⟨.hbm, 1344, rfl⟩
abbrev main_cst_145 : Ref sig .tc := ⟨.hbm, 1345, rfl⟩
abbrev main_v1071 : Ref sig .tc := ⟨.hbm, 1346, rfl⟩
abbrev main_v1072 : Ref sig .tc := ⟨.hbm, 1347, rfl⟩
abbrev main_cst_146 : Ref sig .tc := ⟨.hbm, 1348, rfl⟩
abbrev main_v1073 : Ref sig .tc := ⟨.hbm, 1349, rfl⟩
abbrev main_v1074 : Ref sig .tc := ⟨.hbm, 1350, rfl⟩
abbrev main_v1075 : Ref sig .tc := ⟨.hbm, 1351, rfl⟩
abbrev main_v1076 : Ref sig .tc := ⟨.hbm, 1352, rfl⟩
abbrev main_v1077 : Ref sig .tc := ⟨.hbm, 1353, rfl⟩
abbrev main_cst_147 : Ref sig .tc := ⟨.hbm, 1354, rfl⟩
abbrev main_v1078 : Ref sig .tc := ⟨.hbm, 1355, rfl⟩
abbrev main_v1079 : Ref sig .tc := ⟨.hbm, 1356, rfl⟩
abbrev main_cst_148 : Ref sig .tc := ⟨.hbm, 1357, rfl⟩
abbrev main_v1080 : Ref sig .tc := ⟨.hbm, 1358, rfl⟩
abbrev main_call20_cst : Ref sig .tc := ⟨.hbm, 1359, rfl⟩
abbrev main_call20_v0 : Ref sig .tc := ⟨.hbm, 1360, rfl⟩
abbrev main_v1081 : Ref sig .tc := ⟨.hbm, 1361, rfl⟩
abbrev main_v1082 : Ref sig .tc := ⟨.hbm, 1362, rfl⟩
abbrev main_v1083 : Ref sig .tc := ⟨.hbm, 1363, rfl⟩
abbrev main_v1084 : Ref sig .tc := ⟨.hbm, 1364, rfl⟩
abbrev main_cst_149 : Ref sig .tc := ⟨.hbm, 1365, rfl⟩
abbrev main_v1085 : Ref sig .tc := ⟨.hbm, 1366, rfl⟩
abbrev main_v1086 : Ref sig .tc := ⟨.hbm, 1367, rfl⟩
abbrev main_cst_150 : Ref sig .tc := ⟨.hbm, 1368, rfl⟩
abbrev main_v1087 : Ref sig .tc := ⟨.hbm, 1369, rfl⟩
abbrev main_v1088 : Ref sig .tc := ⟨.hbm, 1370, rfl⟩
abbrev main_call21_v0 : Ref sig .tc := ⟨.hbm, 1371, rfl⟩
abbrev main_call21_v1 : Ref sig .tc := ⟨.hbm, 1372, rfl⟩
abbrev main_v1089 : Ref sig .tc := ⟨.hbm, 1373, rfl⟩
abbrev main_v1090 : Ref sig .tc := ⟨.hbm, 1374, rfl⟩
abbrev main_v1091 : Ref sig .tc := ⟨.hbm, 1375, rfl⟩
abbrev main_v1092 : Ref sig .tc := ⟨.hbm, 1376, rfl⟩
abbrev main_v1093 : Ref sig .tc := ⟨.hbm, 1377, rfl⟩
abbrev main_cst_151 : Ref sig .tc := ⟨.hbm, 1378, rfl⟩
abbrev main_v1094 : Ref sig .tc := ⟨.hbm, 1379, rfl⟩
abbrev main_v1095 : Ref sig .tc := ⟨.hbm, 1380, rfl⟩

abbrev nD : Nat := 1
abbrev τ : Topo := Topo.v7x

variable {F : FTy → Type} [FloatOps F]
-- ==== Kernel6.lean ====
abbrev S16x1024 : Shape := ⟨2, ![16, 1024]⟩
abbrev S1024 : Shape := ⟨1, ![1024]⟩
abbrev S2x16x2304 : Shape := ⟨3, ![2, 16, 2304]⟩
abbrev S2x2x2304 : Shape := ⟨3, ![2, 2, 2304]⟩
abbrev S2x1024x2304 : Shape := ⟨3, ![2, 1024, 2304]⟩
abbrev S1x1024 : Shape := ⟨2, ![1, 1024]⟩
abbrev S_ : Shape := ⟨0, ![]⟩
abbrev S6x1024 : Shape := ⟨2, ![6, 1024]⟩
abbrev S24x1024 : Shape := ⟨2, ![24, 1024]⟩
abbrev S2x6x2304 : Shape := ⟨3, ![2, 6, 2304]⟩
abbrev S2x24x2304 : Shape := ⟨3, ![2, 24, 2304]⟩
abbrev S1x24x768 : Shape := ⟨3, ![1, 24, 768]⟩
abbrev S1x1024x768 : Shape := ⟨3, ![1, 1024, 768]⟩
abbrev S24x768 : Shape := ⟨2, ![24, 768]⟩
abbrev S1024x768 : Shape := ⟨2, ![1024, 768]⟩

abbrev nBuf : Space → Nat
  | .hbm => 15
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S2x16x2304, .f32⟩
  | .hbm, ⟨3, _⟩ => ⟨S2x2x2304, .f32⟩
  | .hbm, ⟨4, _⟩ => ⟨S2x1024x2304, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S6x1024, .f32⟩
  | .hbm, ⟨9, _⟩ => ⟨S24x1024, .f32⟩
  | .hbm, ⟨10, _⟩ => ⟨S_, .f32⟩
  | .hbm, ⟨11, _⟩ => ⟨S2x6x2304, .f32⟩
  | .hbm, ⟨12, _⟩ => ⟨S2x24x2304, .f32⟩
  | .hbm, ⟨13, _⟩ => ⟨S2x1024x2304, .f32⟩
  | .hbm, ⟨14, _⟩ => ⟨S24x1024, .f32⟩
  | .local _ .vmem, ⟨0, _⟩ => ⟨S24x1024, .f32⟩
  | .local _ .vmem, ⟨1, _⟩ => ⟨S1x24x768, .f32⟩
  | .local _ .vmem, ⟨2, _⟩ => ⟨S1x24x768, .f32⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1024x768, .f32⟩
  | .local _ .vmem, ⟨7, _⟩ => ⟨S24x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let arg1 : BitVec 32 := BitVec.ofNat 32 (i 1).val
  let c0_i32_11 : BitVec 32 := 0#32
  let v17 : BitVec 1 := Scalar.cmpi .eq arg1 c0_i32_11
  let v18 : BitVec 1 := Scalar.andi v16 v17
  let v19 : BitVec 32 := Scalar.extui v18
  let c0_i32_12 : BitVec 32 := 0#32
  let v20 : BitVec 1 := Scalar.cmpi .ne v19 c0_i32_12
  v20

def k0_cond2 (i : grid0.Coords) : BitVec 1 :=
  let arg0 : BitVec 32 := BitVec.ofNat 32 (i 0).val
  let c0_i32 : BitVec 32 := 0#32
  let v16 : BitVec 1 := Scalar.cmpi .eq arg0 c0_i32
  let arg1 : BitVec 32 := BitVec.ofNat 32 (i 1).val
  let c0_i32_11 : BitVec 32 := 0#32
  let v17 : BitVec 1 := Scalar.cmpi .eq arg1 c0_i32_11
  let v18 : BitVec 1 := Scalar.andi v16 v17
  let v_true : BitVec 1 := 1#1
  let v21 : BitVec 1 := Scalar.xori v18 v_true
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x24x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference6Ideal.lean ====
abbrev S16x1024 : Shape := ⟨2, ![16, 1024]⟩
abbrev S1024 : Shape := ⟨1, ![1024]⟩
abbrev S2x16x2304 : Shape := ⟨3, ![2, 16, 2304]⟩
abbrev S2x2x2304 : Shape := ⟨3, ![2, 2, 2304]⟩
abbrev S2x1024x2304 : Shape := ⟨3, ![2, 1024, 2304]⟩
abbrev S1x1024 : Shape := ⟨2, ![1, 1024]⟩
abbrev S18x1024 : Shape := ⟨2, ![18, 1024]⟩
abbrev S_ : Shape := ⟨0, ![]⟩
abbrev S1x1024x2304 : Shape := ⟨3, ![1, 1024, 2304]⟩
abbrev S1024x2304 : Shape := ⟨2, ![1024, 2304]⟩
abbrev S18x2304 : Shape := ⟨2, ![18, 2304]⟩
abbrev S1x18x2304 : Shape := ⟨3, ![1, 18, 2304]⟩
abbrev S2x18x2304 : Shape := ⟨3, ![2, 18, 2304]⟩
abbrev S2304x1024 : Shape := ⟨2, ![2304, 1024]⟩
abbrev S6x1024 : Shape := ⟨2, ![6, 1024]⟩
abbrev S24x1024 : Shape := ⟨2, ![24, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S2x16x2304, .f32⟩
  | .hbm, ⟨3, _⟩ => ⟨S2x2x2304, .f32⟩
  | .hbm, ⟨4, _⟩ => ⟨S2x1024x2304, .f32⟩
  | .hbm, ⟨5, _⟩ => ⟨S1x1024, .f32⟩
  | .hbm, ⟨6, _⟩ => ⟨S1x1024, .f32⟩
  | .hbm, ⟨7, _⟩ => ⟨S18x1024, .f32⟩
  | .hbm, ⟨8, _⟩ => ⟨S18x1024, .f32⟩
  | .hbm, ⟨9, _⟩ => ⟨S18x1024, .f32⟩
  | .hbm, ⟨10, _⟩ => ⟨S_, .f32⟩
  | .hbm, ⟨11, _⟩ => ⟨S18x1024, .f32⟩
  | .hbm, ⟨12, _⟩ => ⟨S18x1024, .f32⟩
  | .hbm, ⟨13, _⟩ => ⟨S_, .f32⟩
  | .hbm, ⟨14, _⟩ => ⟨S18x1024, .f32⟩
  | .hbm, ⟨15, _⟩ => ⟨S18x1024, .f32⟩
  | .hbm, ⟨16, _⟩ => ⟨S18x1024, .f32⟩
  | .hbm, ⟨17, _⟩ => ⟨S1x1024x2304, .f32⟩
  | .hbm, ⟨18, _⟩ => ⟨S1024x2304, .f32⟩
  | .hbm, ⟨19, _⟩ => ⟨S18x2304, .f32⟩
  | .hbm, ⟨20, _⟩ => ⟨S1x1024x2304, .f32⟩
  | .hbm, ⟨21, _⟩ => ⟨S1024x2304, .f32⟩
  | .hbm, ⟨22, _⟩ => ⟨S18x2304, .f32⟩
  | .hbm, ⟨23, _⟩ => ⟨S1x18x2304, .f32⟩
  | .hbm, ⟨24, _⟩ => ⟨S1x18x2304, .f32⟩
  | .hbm, ⟨25, _⟩ => ⟨S2x18x2304, .f32⟩
  | .hbm, ⟨26, _⟩ => ⟨S2x18x2304, .f32⟩
  | .hbm, ⟨27, _⟩ => ⟨S1x18x2304, .f32⟩
  | .hbm, ⟨28, _⟩ => ⟨S18x2304, .f32⟩
  | .hbm, ⟨29, _⟩ => ⟨S1x18x2304, .f32⟩
  | .hbm, ⟨30, _⟩ => ⟨S18x2304, .f32⟩
  | .hbm, ⟨31, _⟩ => ⟨S2304x1024, .f32⟩
  | .hbm, ⟨32, _⟩ => ⟨S1024x2304, .f32⟩
  | .hbm, ⟨33, _⟩ => ⟨S18x1024, .f32⟩
  | .hbm, ⟨34, _⟩ => ⟨S1x1024x2304, .f32⟩
  | .hbm, ⟨35, _⟩ => ⟨S_, .f32⟩
  | .hbm, ⟨36, _⟩ => ⟨S2x1024x2304, .f32⟩
  | .hbm, ⟨37, _⟩ => ⟨S2304x1024, .f32⟩
  | .hbm, ⟨38, _⟩ => ⟨S1024x2304, .f32⟩
  | .hbm, ⟨39, _⟩ => ⟨S18x1024, .f32⟩
  | .hbm, ⟨40, _⟩ => ⟨S18x1024, .f32⟩
  | .hbm, ⟨41, _⟩ => ⟨S1x1024x2304, .f32⟩
  | .hbm, ⟨42, _⟩ => ⟨S_, .f32⟩
  | .hbm, ⟨43, _⟩ => ⟨S2x1024x2304, .f32⟩
  | .hbm, ⟨44, _⟩ => ⟨S2x1024x2304, .f32⟩
  | .hbm, ⟨45, _⟩ => ⟨S_, .f32⟩
  | .hbm, ⟨46, _⟩ => ⟨S6x1024, .f32⟩
  | .hbm, ⟨47, _⟩ => ⟨S24x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_0 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel9.lean ====
abbrev S2x2304x1024 : Shape := ⟨3, ![2, 2304, 1024]⟩
abbrev S2x2048x1024 : Shape := ⟨3, ![2, 2048, 1024]⟩
abbrev S1024 : Shape := ⟨1, ![1024]⟩
abbrev S1x1024 : Shape := ⟨2, ![1, 1024]⟩
abbrev S8x128 : Shape := ⟨2, ![8, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2x2304x1024, .f32⟩
  | .hbm, ⟨1, _⟩ => ⟨S2x2048x1024, .f32⟩
  | .hbm, ⟨2, _⟩ => ⟨S1024, .f32⟩
  | .hbm, ⟨3, _⟩ => ⟨S1x1024, .f32⟩
  | .hbm, ⟨4, _⟩ => ⟨S2x2304x1024, .f32⟩
  | .hbm, ⟨5, _⟩ => ⟨S1x1024, .f32⟩
  | .hbm, ⟨6, _⟩ => ⟨S8x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x1024, .f32⟩
  | .local _ .vmem, ⟨8, _⟩ => ⟨S8x128, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v6 : BitVec 32 := Scalar.extui v2
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference9Ideal.lean ====
abbrev S2x2304x1024 : Shape := ⟨3, ![2, 2304, 1024]⟩
abbrev S2x2048x1024 : Shape := ⟨3, ![2, 2048, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x1024 : Shape := ⟨2, ![1, 1024]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S2x2048x1024, .f32⟩
  | .hbm, ⟨2, _⟩ => ⟨S1024, .f32⟩
  | .hbm, ⟨3, _⟩ => ⟨S2x2048x1024, .f32⟩
  | .hbm, ⟨4, _⟩ => ⟨S2x2048x1024, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048, .f32⟩
  | .hbm, ⟨31, _⟩ => ⟨S_, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2x2048, .f32⟩
  | .hbm, ⟨42, _⟩ => ⟨S_, .f32⟩
  | .hbm, ⟨43, _⟩ => ⟨S2x2048, .f32⟩
  | .hbm, ⟨44, _⟩ => ⟨S2x2048, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S_, .f32⟩
  | .hbm, ⟨49, _⟩ => ⟨S1024, .f32⟩
  | .hbm, ⟨50, _⟩ => ⟨S1x1x1024, .f32⟩
  | .hbm, ⟨51, _⟩ => ⟨S2x2048x1024, .f32⟩
  | .hbm, ⟨52, _⟩ => ⟨S2x2048x1024, .f32⟩
  | .hbm, ⟨53, _⟩ => ⟨S_, .f32⟩
  | .hbm, ⟨54, _⟩ => ⟨S1024, .f32⟩
  | .hbm, ⟨55, _⟩ => ⟨S2x2048x1024, .f32⟩
  | .hbm, ⟨56, _⟩ => ⟨S_, .f32⟩
  | .hbm, ⟨57, _⟩ => ⟨S2x2048, .f32⟩
  | .hbm, ⟨58, _⟩ => ⟨S2x2048x1, .f32⟩
  | .hbm, ⟨59, _⟩ => ⟨S2x2048x1024, .f32⟩
  | .hbm, ⟨60, _⟩ => ⟨S2x2048x1024, .f32⟩
  | .hbm, ⟨61, _⟩ => ⟨S2x2048x1, .f32⟩
  | .hbm, ⟨62, _⟩ => ⟨S_, .f32⟩
  | .hbm, ⟨63, _⟩ => ⟨S2x2048x1, .f32⟩
  | .hbm, ⟨64, _⟩ => ⟨S2x2048x1, .f32⟩
  | .hbm, ⟨65, _⟩ => ⟨S_, .f32⟩
  | .hbm, ⟨66, _⟩ => ⟨S2x2048, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S2x2048x1024, .f32⟩
  | .hbm, ⟨72, _⟩ => ⟨S_, .f32⟩
  | .hbm, ⟨73, _⟩ => ⟨S2x2304x1024, .f32⟩
  | .hbm, ⟨74, _⟩ => ⟨S1x1024, .f32⟩
  | .hbm, ⟨75, _⟩ => ⟨S8x128, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel7.lean ====
abbrev S2x2304x1024 : Shape := ⟨3, ![2, 2304, 1024]⟩
abbrev S2x2x3x1024 : Shape := ⟨4, ![2, 2, 3, 1024]⟩
abbrev S1024 : Shape := ⟨1, ![1024]⟩
abbrev S1024x2816 : Shape := ⟨2, ![1024, 2816]⟩
abbrev S2816x1024 : Shape := ⟨2, ![2816, 1024]⟩
abbrev S2x256x1024 : Shape := ⟨3, ![2, 256, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S2x2048x1024 : Shape := ⟨3, ![2, 2048, 1024]⟩
abbrev S2x2048 : Shape := ⟨2, ![2, 2048]⟩
abbrev S2x2048x1 : Shape := ⟨3, ![2, 2048, 1]⟩
abbrev S2x2304x2816 : Shape := ⟨3, ![2, 2304, 2816]⟩
abbrev S1x2816x1024 : Shape := ⟨3, ![1, 2816, 1024]⟩
abbrev S3x2816x1024 : Shape := ⟨3, ![3, 2816, 1024]⟩
abbrev S1x1024 : Shape := ⟨2, ![1, 1024]⟩
abbrev S1x256x1024 : Shape := ⟨3, ![1, 256, 1024]⟩
abbrev S1x1x3x1024 : Shape := ⟨4, ![1, 1, 3, 1024]⟩
abbrev S1x256x2816 : Shape := ⟨3, ![1, 256, 2816]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S1x1408x1024 : Shape := ⟨3, ![1, 1408, 1024]⟩
abbrev S1408x1024 : Shape := ⟨2, ![1408, 1024]⟩
abbrev S256x1408 : Shape := ⟨2, ![256, 1408]⟩
abbrev S1x256x1408 : Shape := ⟨3, ![1, 256, 1408]⟩
abbrev S3x1024 : Shape := ⟨2, ![3, 1024]⟩

abbrev nBuf : Space → Nat
  | .hbm => 99
  | .vmem => 27
  | .smem => 0
  | _ => 0

abbrev bufTy : (tb : Table) → Fin (tcTables nBuf tb) → BufTy
  | .hbm, ⟨0, _⟩ => ⟨S2x2304x1024, .f32⟩
  | .hbm, ⟨1, _⟩ => ⟨S2x2304x1024, .f32⟩
  | .hbm, ⟨2, _⟩ => ⟨S2x2x3x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x256x1024, .f32⟩
  | .hbm, ⟨8, _⟩ => ⟨S2x256x1024, .f32⟩
  | .hbm, ⟨9, _⟩ => ⟨S_, .f32⟩
  | .hbm, ⟨10, _⟩ => ⟨S2x256, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S_, .f32⟩
  | .hbm, ⟨16, _⟩ => ⟨S2x256x1, .f32⟩
  | .hbm, ⟨17, _⟩ => ⟨S2x256x1, .f32⟩
  | .hbm, ⟨18, _⟩ => ⟨S2x256x1, .f32⟩
  | .hbm, ⟨19, _⟩ => ⟨S2x256x1024, .f32⟩
  | .hbm, ⟨20, _⟩ => ⟨S2x256x1024, .f32⟩
  | .hbm, ⟨21, _⟩ => ⟨S1x1x1024, .f32⟩
  | .hbm, ⟨22, _⟩ => ⟨S2x256x1024, .f32⟩
  | .hbm, ⟨23, _⟩ => ⟨S2x256x1024, .f32⟩
  | .hbm, ⟨24, _⟩ => ⟨S2x1x1x1024, .f32⟩
  | .hbm, ⟨25, _⟩ => ⟨S2x1024, .f32⟩
  | .hbm, ⟨26, _⟩ => ⟨S2x1x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x256x1024, .f32⟩
  | .hbm, ⟨31, _⟩ => ⟨S2x256x1024, .f32⟩
  | .hbm, ⟨32, _⟩ => ⟨S2x1x1x1024, .f32⟩
  | .hbm, ⟨33, _⟩ => ⟨S2x1024, .f32⟩
  | .hbm, ⟨34, _⟩ => ⟨S2x1x1024, .f32⟩
  | .hbm, ⟨35, _⟩ => ⟨S2x256x1024, .f32⟩
  | .hbm, ⟨36, _⟩ => ⟨S2x256x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S2x2048x1, .f32⟩
  | .hbm, ⟨49, _⟩ => ⟨S2x2048x1024, .f32⟩
  | .hbm, ⟨50, _⟩ => ⟨S2x2048x1024, .f32⟩
  | .hbm, ⟨51, _⟩ => ⟨S1x1x1024, .f32⟩
  | .hbm, ⟨52, _⟩ => ⟨S2x2048x1024, .f32⟩
  | .hbm, ⟨53, _⟩ => ⟨S2x2048x1024, .f32⟩
  | .hbm, ⟨54, _⟩ => ⟨S2x1x1x1024, .f32⟩
  | .hbm, ⟨55, _⟩ => ⟨S2x1024, .f32⟩
  | .hbm, ⟨56, _⟩ => ⟨S2x1x1024, .f32⟩
  | .hbm, ⟨57, _⟩ => ⟨S_, .f32⟩
  | .hbm, ⟨58, _⟩ => ⟨S2x1x1024, .f32⟩
  | .hbm, ⟨59, _⟩ => ⟨S2x1x1024, .f32⟩
  | .hbm, ⟨60, _⟩ => ⟨S2x2048x1024, .f32⟩
  | .hbm, ⟨61, _⟩ => ⟨S2x2048x1024, .f32⟩
  | .hbm, ⟨62, _⟩ => ⟨S2x1x1x1024, .f32⟩
  | .hbm, ⟨63, _⟩ => ⟨S2x1024, .f32⟩
  | .hbm, ⟨64, _⟩ => ⟨S2x1x1024, .f32⟩
  | .hbm, ⟨65, _⟩ => ⟨S2x2048x1024, .f32⟩
  | .hbm, ⟨66, _⟩ => ⟨S2x2048x1024, .f32⟩
  | .hbm, ⟨67, _⟩ => ⟨S2x2304x1024, .f32⟩
  | .hbm, ⟨68, _⟩ => ⟨S2x2304x2816, .f32⟩
  | .hbm, ⟨69, _⟩ => ⟨S2x2304x2816, .f32⟩
  | .hbm, ⟨70, _⟩ => ⟨S2x2304x2816, .f32⟩
  | .hbm, ⟨71, _⟩ => ⟨S_, .f32⟩
  | .hbm, ⟨72, _⟩ => ⟨S2x2304x2816, .f32⟩
  | .hbm, ⟨73, _⟩ => ⟨S2x2304x2816, .f32⟩
  | .hbm, ⟨74, _⟩ => ⟨S_, .f32⟩
  | .hbm, ⟨75, _⟩ => ⟨S2x2304x2816, .f32⟩
  | .hbm, ⟨76, _⟩ => ⟨S2x2304x2816, .f32⟩
  | .hbm, ⟨77, _⟩ => ⟨S2x2304x2816, .f32⟩
  | .hbm, ⟨78, _⟩ => ⟨S2x2304x2816, .f32⟩
  | .hbm, ⟨79, _⟩ => ⟨S2x2304x2816, .f32⟩
  | .hbm, ⟨80, _⟩ => ⟨S2x2304x1024, .f32⟩
  | .hbm, ⟨81, _⟩ => ⟨S2816x1024, .f32⟩
  | .hbm, ⟨82, _⟩ => ⟨S2816x1024, .bf16⟩
  | .hbm, ⟨83, _⟩ => ⟨S2816x1024, .f32⟩
  | .hbm, ⟨84, _⟩ => ⟨S2816x1024, .bf16⟩
  | .hbm, ⟨85, _⟩ => ⟨S2816x1024, .bf16⟩
  | .hbm, ⟨86, _⟩ => ⟨S1x2816x1024, .bf16⟩
  | .hbm, ⟨87, _⟩ => ⟨S1x2816x1024, .bf16⟩
  | .hbm, ⟨88, _⟩ => ⟨S1x2816x1024, .bf16⟩
  | .hbm, ⟨89, _⟩ => ⟨S3x2816x1024, .bf16⟩
  | .hbm, ⟨90, _⟩ => ⟨S1x1024, .f32⟩
  | .hbm, ⟨91, _⟩ => ⟨S2x2304x1024, .f32⟩
  | .hbm, ⟨92, _⟩ => ⟨S2x2304x1024, .bf16⟩
  | .hbm, ⟨93, _⟩ => ⟨S2x2304x2816, .bf16⟩
  | .hbm, ⟨94, _⟩ => ⟨S2x2304x2816, .bf16⟩
  | .hbm, ⟨95, _⟩ => ⟨S2x2304x2816, .bf16⟩
  | .hbm, ⟨96, _⟩ => ⟨S2x2304x1024, .bf16⟩
  | .hbm, ⟨97, _⟩ => ⟨S2x2x3x1024, .f32⟩
  | .hbm, ⟨98, _⟩ => ⟨S1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x3x1024, .f32⟩
  | .local _ .vmem, ⟨7, _⟩ => ⟨S1x1x3x1024, .f32⟩
  | .local _ .vmem, ⟨8, _⟩ => ⟨S1x1024, .f32⟩
  | .local _ .vmem, ⟨9, _⟩ => ⟨S1x2816x1024, .bf16⟩
  | .local _ .vmem, ⟨10, _⟩ => ⟨S1x2816x1024, .bf16⟩
  | .local _ .vmem, ⟨11, _⟩ => ⟨S1x2816x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x2816, .bf16⟩
  | .local _ .vmem, ⟨17, _⟩ => ⟨S1x256x2816, .bf16⟩
  | .local _ .vmem, ⟨18, _⟩ => ⟨S1x256x2816, .bf16⟩
  | .local _ .vmem, ⟨19, _⟩ => ⟨S1x256x2816, .bf16⟩
  | .local _ .vmem, ⟨20, _⟩ => ⟨S1x256x2816, .bf16⟩
  | .local _ .vmem, ⟨21, _⟩ => ⟨S1x256x2816, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x1x3x1024, .f32⟩
  | .local _ .vmem, ⟨25, _⟩ => ⟨S1x1x3x1024, .f32⟩
  | .local _ .vmem, ⟨26, _⟩ => ⟨S1x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68_0 : Ref sig .tc := ⟨.hbm, 91, rfl⟩
abbrev main_v68_1 : Ref sig .tc := ⟨.hbm, 92, rfl⟩
abbrev main_v68_2 : Ref sig .tc := ⟨.hbm, 93, rfl⟩
abbrev main_v68_3 : Ref sig .tc := ⟨.hbm, 94, rfl⟩
abbrev main_v68_4 : Ref sig .tc := ⟨.hbm, 95, rfl⟩
abbrev main_v68_5 : Ref sig .tc := ⟨.hbm, 96, rfl⟩
abbrev main_v68_6 : Ref sig .tc := ⟨.hbm, 97, rfl⟩
abbrev main_v68_7 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg1 : BitVec 32 := BitVec.ofNat 32 (i 1).val
  let c1_i32 : BitVec 32 := 1#32
  let v167 : BitVec 1 := Scalar.cmpi .sle arg1 c1_i32
  let v168 : BitVec 32 := Scalar.extui v167
  let c0_i32 : BitVec 32 := 0#32
  let v169 : BitVec 1 := Scalar.cmpi .ne v168 c0_i32
  v169

def k0_cond2 (i : grid0.Coords) : BitVec 1 :=
  let arg1 : BitVec 32 := BitVec.ofNat 32 (i 1).val
  let c1_i32 : BitVec 32 := 1#32
  let v167 : BitVec 1 := Scalar.cmpi .sle arg1 c1_i32
  let v_true : BitVec 1 := 1#1
  let v170 : BitVec 1 := Scalar.xori v167 v_true
  let v171 : BitVec 32 := Scalar.extui v170
  let c0_i32_104 : BitVec 32 := 0#32
  let v172 : BitVec 1 := Scalar.cmpi .ne v171 c0_i32_104
  v172

def k0_cond3 (i : grid0.Coords) : BitVec 1 :=
  let arg0 : BitVec 32 := BitVec.ofNat 32 (i 0).val
  let c0_i32_105 : BitVec 32 := 0#32
  let v173 : BitVec 1 := Scalar.cmpi .eq arg0 c0_i32_105
  let arg1 : BitVec 32 := BitVec.ofNat 32 (i 1).val
  let c0_i32_106 : BitVec 32 := 0#32
  let v174 : BitVec 1 := Scalar.cmpi .eq arg1 c0_i32_106
  let v175 : BitVec 1 := Scalar.andi v173 v174
  let v176 : BitVec 32 := Scalar.extui v175
  let c0_i32_107 : BitVec 32 := 0#32
  let v177 : BitVec 1 := Scalar.cmpi .ne v176 c0_i32_107
  v177

def k0_cond4 (i : grid0.Coords) : BitVec 1 :=
  let arg0 : BitVec 32 := BitVec.ofNat 32 (i 0).val
  let c0_i32_105 : BitVec 32 := 0#32
  let v173 : BitVec 1 := Scalar.cmpi .eq arg0 c0_i32_105
  let arg1 : BitVec 32 := BitVec.ofNat 32 (i 1).val
  let c0_i32_106 : BitVec 32 := 0#32
  let v174 : BitVec 1 := Scalar.cmpi .eq arg1 c0_i32_106
  let v175 : BitVec 1 := Scalar.andi v173 v174
  let true_108 : BitVec 1 := 1#1
  let v178 : BitVec 1 := Scalar.xori v175 true_108
  let v179 : BitVec 32 := Scalar.extui v178
  let c0_i32_109 : BitVec 32 := 0#32
  let v180 : BitVec 1 := Scalar.cmpi .ne v179 c0_i32_109
  v180

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x3x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference7Ideal.lean ====
abbrev S2x2304x1024 : Shape := ⟨3, ![2, 2304, 1024]⟩
abbrev S2x2x3x1024 : Shape := ⟨4, ![2, 2, 3, 1024]⟩
abbrev S1024 : Shape := ⟨1, ![1024]⟩
abbrev S1024x2816 : Shape := ⟨2, ![1024, 2816]⟩
abbrev S2816x1024 : Shape := ⟨2, ![2816, 1024]⟩
abbrev S2x256x1024 : Shape := ⟨3, ![2, 256, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S2x2048x1024 : Shape := ⟨3, ![2, 2048, 1024]⟩
abbrev S2x2048 : Shape := ⟨2, ![2, 2048]⟩
abbrev S2x2048x1 : Shape := ⟨3, ![2, 2048, 1]⟩
abbrev S2x2304x2816 : Shape := ⟨3, ![2, 2304, 2816]⟩
abbrev S1x1024 : Shape := ⟨2, ![1, 1024]⟩

abbrev nBuf : Space → Nat
  | .hbm => 380
  | .vmem => 0
  | .smem => 0
  | _ => 0

abbrev hbmTy0_0 (i : Nat) : BufTy := match i % 128 with
  | 0 => ⟨S2x2304x1024, .f32⟩
  | 1 => ⟨S2x2304x1024, .f32⟩
  | 2 => ⟨S2x2x3x1024, .f32⟩
  | 3 => ⟨S1024, .f32⟩
  | 4 => ⟨S1024x2816, .f32⟩
  | 5 => ⟨S1024x2816, .f32⟩
  | 6 => ⟨S2816x1024, .f32⟩
  | 7 => ⟨S2x256x1024, .f32⟩
  | 8 => ⟨S2x256x1024, .f32⟩
  | 9 => ⟨S_, .f32⟩
  | 10 => ⟨S2x256, .f32⟩
  | 11 => ⟨S2x256x1, .f32⟩
  | 12 => ⟨S_, .f32⟩
  | 13 => ⟨S2x256x1, .f32⟩
  | 14 => ⟨S2x256x1, .f32⟩
  | 15 => ⟨S_, .f32⟩
  | 16 => ⟨S2x256x1, .f32⟩
  | 17 => ⟨S2x256x1, .f32⟩
  | 18 => ⟨S2x256x1, .f32⟩
  | 19 => ⟨S2x256x1, .f32⟩
  | 20 => ⟨S_, .f32⟩
  | 21 => ⟨S2x256x1, .f32⟩
  | 22 => ⟨S2x256x1, .f32⟩
  | 23 => ⟨S2x256x1024, .f32⟩
  | 24 => ⟨S2x256x1024, .f32⟩
  | 25 => ⟨S1x1x1024, .f32⟩
  | 26 => ⟨S2x256x1024, .f32⟩
  | 27 => ⟨S2x256x1024, .f32⟩
  | 28 => ⟨S2x1x1x1024, .f32⟩
  | 29 => ⟨S2x1024, .f32⟩
  | 30 => ⟨S2x1x1024, .f32⟩
  | 31 => ⟨S_, .f32⟩
  | 32 => ⟨S2x1x1024, .f32⟩
  | 33 => ⟨S2x1x1024, .f32⟩
  | 34 => ⟨S2x256x1024, .f32⟩
  | 35 => ⟨S2x256x1024, .f32⟩
  | 36 => ⟨S2x1x1x1024, .f32⟩
  | 37 => ⟨S2x1024, .f32⟩
  | 38 => ⟨S2x1x1024, .f32⟩
  | 39 => ⟨S2x256x1024, .f32⟩
  | 40 => ⟨S2x256x1024, .f32⟩
  | 41 => ⟨S2x2048x1024, .f32⟩
  | 42 => ⟨S2x2048x1024, .f32⟩
  | 43 => ⟨S_, .f32⟩
  | 44 => ⟨S2x2048, .f32⟩
  | 45 => ⟨S2x2048x1, .f32⟩
  | 46 => ⟨S_, .f32⟩
  | 47 => ⟨S2x2048x1, .f32⟩
  | 48 => ⟨S2x2048x1, .f32⟩
  | 49 => ⟨S_, .f32⟩
  | 50 => ⟨S2x2048x1, .f32⟩
  | 51 => ⟨S2x2048x1, .f32⟩
  | 52 => ⟨S2x2048x1, .f32⟩
  | 53 => ⟨S2x2048x1, .f32⟩
  | 54 => ⟨S_, .f32⟩
  | 55 => ⟨S2x2048x1, .f32⟩
  | 56 => ⟨S2x2048x1, .f32⟩
  | 57 => ⟨S2x2048x1024, .f32⟩
  | 58 => ⟨S2x2048x1024, .f32⟩
  | 59 => ⟨S1x1x1024, .f32⟩
  | 60 => ⟨S2x2048x1024, .f32⟩
  | 61 => ⟨S2x2048x1024, .f32⟩
  | 62 => ⟨S2x1x1x1024, .f32⟩
  | 63 => ⟨S2x1024, .f32⟩
  | 64 => ⟨S2x1x1024, .f32⟩
  | 65 => ⟨S_, .f32⟩
  | 66 => ⟨S2x1x1024, .f32⟩
  | 67 => ⟨S2x1x1024, .f32⟩
  | 68 => ⟨S2x2048x1024, .f32⟩
  | 69 => ⟨S2x2048x1024, .f32⟩
  | 70 => ⟨S2x1x1x1024, .f32⟩
  | 71 => ⟨S2x1024, .f32⟩
  | 72 => ⟨S2x1x1024, .f32⟩
  | 73 => ⟨S2x2048x1024, .f32⟩
  | 74 => ⟨S2x2048x1024, .f32⟩
  | 75 => ⟨S2x2304x1024, .f32⟩
  | 76 => ⟨S2x2304x2816, .f32⟩
  | 77 => ⟨S2x2304x2816, .f32⟩
  | 78 => ⟨S2x2304x2816, .f32⟩
  | 79 => ⟨S2x2304x2816, .f32⟩
  | 80 => ⟨S_, .f32⟩
  | 81 => ⟨S2x2304x2816, .f32⟩
  | 82 => ⟨S2x2304x2816, .f32⟩
  | 83 => ⟨S_, .f32⟩
  | 84 => ⟨S2x2304x2816, .f32⟩
  | 85 => ⟨S2x2304x2816, .f32⟩
  | 86 => ⟨S_, .f32⟩
  | 87 => ⟨S2x2304x2816, .f32⟩
  | 88 => ⟨S2x2304x2816, .f32⟩
  | 89 => ⟨S2x2304x2816, .f32⟩
  | 90 => ⟨S2x2304x2816, .f32⟩
  | 91 => ⟨S2x2304x2816, .f32⟩
  | 92 => ⟨S2x2304x1024, .f32⟩
  | 93 => ⟨S2x256x1024, .f32⟩
  | 94 => ⟨S2x1x1x1024, .f32⟩
  | 95 => ⟨S2x1024, .f32⟩
  | 96 => ⟨S2x1x1024, .f32⟩
  | 97 => ⟨S_, .f32⟩
  | 98 => ⟨S2x1x1024, .f32⟩
  | 99 => ⟨S2x1x1024, .f32⟩
  | 100 => ⟨S2x256x1024, .f32⟩
  | 101 => ⟨S2x256x1024, .f32⟩
  | 102 => ⟨S2x256x1024, .f32⟩
  | 103 => ⟨S2x256x1024, .f32⟩
  | 104 => ⟨S2x2048x1024, .f32⟩
  | 105 => ⟨S2x1x1x1024, .f32⟩
  | 106 => ⟨S2x1024, .f32⟩
  | 107 => ⟨S2x1x1024, .f32⟩
  | 108 => ⟨S_, .f32⟩
  | 109 => ⟨S2x1x1024, .f32⟩
  | 110 => ⟨S2x1x1024, .f32⟩
  | 111 => ⟨S2x2048x1024, .f32⟩
  | 112 => ⟨S2x2048x1024, .f32⟩
  | 113 => ⟨S2x2048x1024, .f32⟩
  | 114 => ⟨S2x2048x1024, .f32⟩
  | 115 => ⟨S2x2304x1024, .f32⟩
  | 116 => ⟨S2x2304x2816, .f32⟩
  | 117 => ⟨S2x2304x2816, .f32⟩
  | 118 => ⟨S_, .f32⟩
  | 119 => ⟨S2x2304x2816, .f32⟩
  | 120 => ⟨S2x2304x2816, .f32⟩
  | 121 => ⟨S_, .f32⟩
  | 122 => ⟨S2x2304x2816, .f32⟩
  | 123 => ⟨S2x2304x2816, .f32⟩
  | 124 => ⟨S2x2304x2816, .f32⟩
  | 125 => ⟨S2x2304x2816, .f32⟩
  | 126 => ⟨S2x2304x1024, .f32⟩
  | 127 => ⟨S2x256x1024, .f32⟩
  | _ => ⟨S2x2304x1024, .f32⟩

abbrev hbmTy0_1 (i : Nat) : BufTy := match i % 128 with
  | 0 => ⟨S2x1x1x1024, .f32⟩
  | 1 => ⟨S2x1024, .f32⟩
  | 2 => ⟨S2x1x1024, .f32⟩
  | 3 => ⟨S_, .f32⟩
  | 4 => ⟨S2x1x1024, .f32⟩
  | 5 => ⟨S2x1x1024, .f32⟩
  | 6 => ⟨S2x256x1024, .f32⟩
  | 7 => ⟨S2x256x1024, .f32⟩
  | 8 => ⟨S2x256x1024, .f32⟩
  | 9 => ⟨S2x256x1024, .f32⟩
  | 10 => ⟨S2x2048x1024, .f32⟩
  | 11 => ⟨S2x1x1x1024, .f32⟩
  | 12 => ⟨S2x1024, .f32⟩
  | 13 => ⟨S2x1x1024, .f32⟩
  | 14 => ⟨S_, .f32⟩
  | 15 => ⟨S2x1x1024, .f32⟩
  | 16 => ⟨S2x1x1024, .f32⟩
  | 17 => ⟨S2x2048x1024, .f32⟩
  | 18 => ⟨S2x2048x1024, .f32⟩
  | 19 => ⟨S2x2048x1024, .f32⟩
  | 20 => ⟨S2x2048x1024, .f32⟩
  | 21 => ⟨S2x2304x1024, .f32⟩
  | 22 => ⟨S2x256x1024, .f32⟩
  | 23 => ⟨S2x2048x1024, .f32⟩
  | 24 => ⟨S2x2048x1024, .f32⟩
  | 25 => ⟨S2x2048x1024, .f32⟩
  | 26 => ⟨S_, .f32⟩
  | 27 => ⟨S2x2304x1024, .f32⟩
  | 28 => ⟨S2x256x1024, .f32⟩
  | 29 => ⟨S2x256x1024, .f32⟩
  | 30 => ⟨S_, .f32⟩
  | 31 => ⟨S2x2304x1024, .f32⟩
  | 32 => ⟨S2x2304x1024, .f32⟩
  | 33 => ⟨S2x256x1024, .f32⟩
  | 34 => ⟨S2x2048x1024, .f32⟩
  | 35 => ⟨S2x2048x1024, .f32⟩
  | 36 => ⟨S2x2048x1024, .f32⟩
  | 37 => ⟨S2x2048x1024, .f32⟩
  | 38 => ⟨S_, .f32⟩
  | 39 => ⟨S2x1024, .f32⟩
  | 40 => ⟨S2x1x1024, .f32⟩
  | 41 => ⟨S_, .f32⟩
  | 42 => ⟨S2x2304x1024, .f32⟩
  | 43 => ⟨S_, .f32⟩
  | 44 => ⟨S2x1x1024, .f32⟩
  | 45 => ⟨S2x1x1024, .f32⟩
  | 46 => ⟨S_, .f32⟩
  | 47 => ⟨S2x1024, .f32⟩
  | 48 => ⟨S2x1x1x1024, .f32⟩
  | 49 => ⟨S_, .f32⟩
  | 50 => ⟨S2x2x3x1024, .f32⟩
  | 51 => ⟨S_, .f32⟩
  | 52 => ⟨S2x2304x1024, .f32⟩
  | 53 => ⟨S2x256x1024, .f32⟩
  | 54 => ⟨S2x256x1024, .f32⟩
  | 55 => ⟨S2x256x1024, .f32⟩
  | 56 => ⟨S_, .f32⟩
  | 57 => ⟨S2x1024, .f32⟩
  | 58 => ⟨S2x1x1024, .f32⟩
  | 59 => ⟨S_, .f32⟩
  | 60 => ⟨S2x2304x1024, .f32⟩
  | 61 => ⟨S2x2304x1024, .f32⟩
  | 62 => ⟨S_, .f32⟩
  | 63 => ⟨S2x1x1024, .f32⟩
  | 64 => ⟨S2x1x1024, .f32⟩
  | 65 => ⟨S_, .f32⟩
  | 66 => ⟨S2x1024, .f32⟩
  | 67 => ⟨S2x1x1x1024, .f32⟩
  | 68 => ⟨S_, .f32⟩
  | 69 => ⟨S2x2x3x1024, .f32⟩
  | 70 => ⟨S2x2x3x1024, .f32⟩
  | 71 => ⟨S_, .f32⟩
  | 72 => ⟨S2x2304x1024, .f32⟩
  | 73 => ⟨S2x2304x1024, .f32⟩
  | 74 => ⟨S2x2304x2816, .f32⟩
  | 75 => ⟨S2x2304x2816, .f32⟩
  | 76 => ⟨S2x2304x2816, .f32⟩
  | 77 => ⟨S2x2304x2816, .f32⟩
  | 78 => ⟨S2x2304x2816, .f32⟩
  | 79 => ⟨S2x2304x2816, .f32⟩
  | 80 => ⟨S2x2304x2816, .f32⟩
  | 81 => ⟨S2x2304x1024, .f32⟩
  | 82 => ⟨S2x2304x1024, .f32⟩
  | 83 => ⟨S2x2304x1024, .f32⟩
  | 84 => ⟨S2x256x1024, .f32⟩
  | 85 => ⟨S2x2048x1024, .f32⟩
  | 86 => ⟨S_, .f32⟩
  | 87 => ⟨S2x1024, .f32⟩
  | 88 => ⟨S2x1x1024, .f32⟩
  | 89 => ⟨S_, .f32⟩
  | 90 => ⟨S2x1024, .f32⟩
  | 91 => ⟨S2x1x1x1024, .f32⟩
  | 92 => ⟨S_, .f32⟩
  | 93 => ⟨S2x2x3x1024, .f32⟩
  | 94 => ⟨S2x2048x1024, .f32⟩
  | 95 => ⟨S_, .f32⟩
  | 96 => ⟨S2x1024, .f32⟩
  | 97 => ⟨S2x1x1024, .f32⟩
  | 98 => ⟨S2x2048x1024, .f32⟩
  | 99 => ⟨S2x2048x1024, .f32⟩
  | 100 => ⟨S_, .f32⟩
  | 101 => ⟨S2x1024, .f32⟩
  | 102 => ⟨S2x1x1x1024, .f32⟩
  | 103 => ⟨S_, .f32⟩
  | 104 => ⟨S2x2x3x1024, .f32⟩
  | 105 => ⟨S2x2x3x1024, .f32⟩
  | 106 => ⟨S2x2048x1024, .f32⟩
  | 107 => ⟨S_, .f32⟩
  | 108 => ⟨S1024, .f32⟩
  | 109 => ⟨S1x1x1024, .f32⟩
  | 110 => ⟨S2x2048x1024, .f32⟩
  | 111 => ⟨S2x2048x1024, .f32⟩
  | 112 => ⟨S_, .f32⟩
  | 113 => ⟨S1024, .f32⟩
  | 114 => ⟨S2x2048x1024, .f32⟩
  | 115 => ⟨S_, .f32⟩
  | 116 => ⟨S2x2048, .f32⟩
  | 117 => ⟨S2x2048x1, .f32⟩
  | 118 => ⟨S2x2048x1024, .f32⟩
  | 119 => ⟨S2x2048x1024, .f32⟩
  | 120 => ⟨S2x2048x1, .f32⟩
  | 121 => ⟨S_, .f32⟩
  | 122 => ⟨S2x2048x1, .f32⟩
  | 123 => ⟨S2x2048x1, .f32⟩
  | 124 => ⟨S_, .f32⟩
  | 125 => ⟨S2x2048, .f32⟩
  | 126 => ⟨S2x2048x1024, .f32⟩
  | 127 => ⟨S2x2048x1024, .f32⟩
  | _ => ⟨S2x2304x1024, .f32⟩

abbrev hbmTy0_2 (i : Nat) : BufTy := match i % 128 with
  | 0 => ⟨S2x2048x1024, .f32⟩
  | 1 => ⟨S2x2048x1024, .f32⟩
  | 2 => ⟨S2x2048x1024, .f32⟩
  | 3 => ⟨S_, .f32⟩
  | 4 => ⟨S2x2304x1024, .f32⟩
  | 5 => ⟨S_, .f32⟩
  | 6 => ⟨S2x1024, .f32⟩
  | 7 => ⟨S2x1x1024, .f32⟩
  | 8 => ⟨S_, .f32⟩
  | 9 => ⟨S2x1024, .f32⟩
  | 10 => ⟨S2x1x1x1024, .f32⟩
  | 11 => ⟨S_, .f32⟩
  | 12 => ⟨S2x2x3x1024, .f32⟩
  | 13 => ⟨S2x2x3x1024, .f32⟩
  | 14 => ⟨S2x256x1024, .f32⟩
  | 15 => ⟨S_, .f32⟩
  | 16 => ⟨S2x1024, .f32⟩
  | 17 => ⟨S2x1x1024, .f32⟩
  | 18 => ⟨S2x256x1024, .f32⟩
  | 19 => ⟨S2x256x1024, .f32⟩
  | 20 => ⟨S_, .f32⟩
  | 21 => ⟨S2x1024, .f32⟩
  | 22 => ⟨S2x1x1x1024, .f32⟩
  | 23 => ⟨S_, .f32⟩
  | 24 => ⟨S2x2x3x1024, .f32⟩
  | 25 => ⟨S2x2x3x1024, .f32⟩
  | 26 => ⟨S2x256x1024, .f32⟩
  | 27 => ⟨S_, .f32⟩
  | 28 => ⟨S1024, .f32⟩
  | 29 => ⟨S1x1x1024, .f32⟩
  | 30 => ⟨S2x256x1024, .f32⟩
  | 31 => ⟨S2x256x1024, .f32⟩
  | 32 => ⟨S_, .f32⟩
  | 33 => ⟨S1024, .f32⟩
  | 34 => ⟨S1024, .f32⟩
  | 35 => ⟨S2x256x1024, .f32⟩
  | 36 => ⟨S_, .f32⟩
  | 37 => ⟨S2x256, .f32⟩
  | 38 => ⟨S2x256x1, .f32⟩
  | 39 => ⟨S2x256x1024, .f32⟩
  | 40 => ⟨S2x256x1024, .f32⟩
  | 41 => ⟨S2x256x1, .f32⟩
  | 42 => ⟨S_, .f32⟩
  | 43 => ⟨S2x256x1, .f32⟩
  | 44 => ⟨S2x256x1, .f32⟩
  | 45 => ⟨S_, .f32⟩
  | 46 => ⟨S2x256, .f32⟩
  | 47 => ⟨S2x256x1024, .f32⟩
  | 48 => ⟨S2x256x1024, .f32⟩
  | 49 => ⟨S2x256x1024, .f32⟩
  | 50 => ⟨S2x256x1024, .f32⟩
  | 51 => ⟨S2x256x1024, .f32⟩
  | 52 => ⟨S_, .f32⟩
  | 53 => ⟨S2x2304x1024, .f32⟩
  | 54 => ⟨S2x2304x1024, .f32⟩
  | 55 => ⟨S2x256x1024, .f32⟩
  | 56 => ⟨S2x256x1024, .f32⟩
  | 57 => ⟨S_, .f32⟩
  | 58 => ⟨S2x256, .f32⟩
  | 59 => ⟨S2x256x1, .f32⟩
  | 60 => ⟨S_, .f32⟩
  | 61 => ⟨S2x256x1, .f32⟩
  | 62 => ⟨S2x256x1, .f32⟩
  | 63 => ⟨S_, .f32⟩
  | 64 => ⟨S2x256x1, .f32⟩
  | 65 => ⟨S2x256x1, .f32⟩
  | 66 => ⟨S2x256x1, .f32⟩
  | 67 => ⟨S2x256x1024, .f32⟩
  | 68 => ⟨S2x256x1024, .f32⟩
  | 69 => ⟨S1x1x1024, .f32⟩
  | 70 => ⟨S2x256x1024, .f32⟩
  | 71 => ⟨S2x256x1024, .f32⟩
  | 72 => ⟨S2x1x1x1024, .f32⟩
  | 73 => ⟨S2x1024, .f32⟩
  | 74 => ⟨S2x1x1024, .f32⟩
  | 75 => ⟨S_, .f32⟩
  | 76 => ⟨S2x1x1024, .f32⟩
  | 77 => ⟨S2x1x1024, .f32⟩
  | 78 => ⟨S2x256x1024, .f32⟩
  | 79 => ⟨S2x256x1024, .f32⟩
  | 80 => ⟨S2x1x1x1024, .f32⟩
  | 81 => ⟨S2x1024, .f32⟩
  | 82 => ⟨S2x1x1024, .f32⟩
  | 83 => ⟨S2x256x1024, .f32⟩
  | 84 => ⟨S2x256x1024, .f32⟩
  | 85 => ⟨S2x2048x1024, .f32⟩
  | 86 => ⟨S2x2048x1024, .f32⟩
  | 87 => ⟨S_, .f32⟩
  | 88 => ⟨S2x2048, .f32⟩
  | 89 => ⟨S2x2048x1, .f32⟩
  | 90 => ⟨S_, .f32⟩
  | 91 => ⟨S2x2048x1, .f32⟩
  | 92 => ⟨S2x2048x1, .f32⟩
  | 93 => ⟨S_, .f32⟩
  | 94 => ⟨S2x2048x1, .f32⟩
  | 95 => ⟨S2x2048x1, .f32⟩
  | 96 => ⟨S2x2048x1, .f32⟩
  | 97 => ⟨S2x2048x1024, .f32⟩
  | 98 => ⟨S2x2048x1024, .f32⟩
  | 99 => ⟨S1x1x1024, .f32⟩
  | 100 => ⟨S2x2048x1024, .f32⟩
  | 101 => ⟨S2x2048x1024, .f32⟩
  | 102 => ⟨S2x1x1x1024, .f32⟩
  | 103 => ⟨S2x1024, .f32⟩
  | 104 => ⟨S2x1x1024, .f32⟩
  | 105 => ⟨S_, .f32⟩
  | 106 => ⟨S2x1x1024, .f32⟩
  | 107 => ⟨S2x1x1024, .f32⟩
  | 108 => ⟨S2x2048x1024, .f32⟩
  | 109 => ⟨S2x2048x1024, .f32⟩
  | 110 => ⟨S2x1x1x1024, .f32⟩
  | 111 => ⟨S2x1024, .f32⟩
  | 112 => ⟨S2x1x1024, .f32⟩
  | 113 => ⟨S2x2048x1024, .f32⟩
  | 114 => ⟨S2x2048x1024, .f32⟩
  | 115 => ⟨S2x2304x1024, .f32⟩
  | 116 => ⟨S2x2304x1024, .f32⟩
  | 117 => ⟨S2x2304x1024, .bf16⟩
  | 118 => ⟨S2x2304x2816, .bf16⟩
  | 119 => ⟨S2x2304x2816, .bf16⟩
  | 120 => ⟨S2x2304x2816, .bf16⟩
  | 121 => ⟨S2x2304x1024, .bf16⟩
  | 122 => ⟨S2x2x3x1024, .f32⟩
  | 123 => ⟨S1x1024, .f32⟩
  | _ => ⟨S2x2304x1024, .f32⟩

abbrev hbmTy (i : Nat) : BufTy := match i / 128 with
  | 0 => hbmTy0_0 i
  | 1 => hbmTy0_1 i
  | 2 => hbmTy0_2 i
  | _ => ⟨S2x2304x1024, .f32⟩

abbrev bufTy : (tb : Table) → Fin (tcTables nBuf tb) → BufTy
  | .hbm, ⟨i, _⟩ => hbmTy i
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_v61_2 : Ref sig .tc := ⟨.hbm, 85, rfl⟩
abbrev main_call0_cst_1 : Ref sig .tc := ⟨.hbm, 86, rfl⟩
abbrev main_call0_v6 : Ref sig .tc := ⟨.hbm, 87, rfl⟩
abbrev main_call0_v7 : Ref sig .tc := ⟨.hbm, 88, rfl⟩
abbrev main_v61_1 : Ref sig .tc := ⟨.hbm, 89, rfl⟩
abbrev main_v61_0 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_9 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_10 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_11 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_12 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_13 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_14 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_15 : Ref sig .tc := ⟨.hbm, 166, rfl⟩
abbrev main_v123 : Ref sig .tc := ⟨.hbm, 167, rfl⟩
abbrev main_v124 : Ref sig .tc := ⟨.hbm, 168, rfl⟩
abbrev main_cst_16 : Ref sig .tc := ⟨.hbm, 169, rfl⟩
abbrev main_v125 : Ref sig .tc := ⟨.hbm, 170, rfl⟩
abbrev main_cst_17 : Ref sig .tc := ⟨.hbm, 171, rfl⟩
abbrev main_v126 : Ref sig .tc := ⟨.hbm, 172, rfl⟩
abbrev main_v127 : Ref sig .tc := ⟨.hbm, 173, rfl⟩
abbrev main_cst_18 : Ref sig .tc := ⟨.hbm, 174, rfl⟩
abbrev main_v128 : Ref sig .tc := ⟨.hbm, 175, rfl⟩
abbrev main_v129 : Ref sig .tc := ⟨.hbm, 176, rfl⟩
abbrev main_cst_19 : Ref sig .tc := ⟨.hbm, 177, rfl⟩
abbrev main_v130 : Ref sig .tc := ⟨.hbm, 178, rfl⟩
abbrev main_cst_20 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_21 : Ref sig .tc := ⟨.hbm, 184, rfl⟩
abbrev main_v135 : Ref sig .tc := ⟨.hbm, 185, rfl⟩
abbrev main_v136 : Ref sig .tc := ⟨.hbm, 186, rfl⟩
abbrev main_cst_22 : Ref sig .tc := ⟨.hbm, 187, rfl⟩
abbrev main_v137 : Ref sig .tc := ⟨.hbm, 188, rfl⟩
abbrev main_v138 : Ref sig .tc := ⟨.hbm, 189, rfl⟩
abbrev main_cst_23 : Ref sig .tc := ⟨.hbm, 190, rfl⟩
abbrev main_v139 : Ref sig .tc := ⟨.hbm, 191, rfl⟩
abbrev main_v140 : Ref sig .tc := ⟨.hbm, 192, rfl⟩
abbrev main_cst_24 : Ref sig .tc := ⟨.hbm, 193, rfl⟩
abbrev main_v141 : Ref sig .tc := ⟨.hbm, 194, rfl⟩
abbrev main_v142 : Ref sig .tc := ⟨.hbm, 195, rfl⟩
abbrev main_cst_25 : Ref sig .tc := ⟨.hbm, 196, rfl⟩
abbrev main_v143 : Ref sig .tc := ⟨.hbm, 197, rfl⟩
abbrev main_v144 : Ref sig .tc := ⟨.hbm, 198, rfl⟩
abbrev main_cst_26 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_call2_v0 : Ref sig .tc := ⟨.hbm, 205, rfl⟩
abbrev main_call2_v1 : Ref sig .tc := ⟨.hbm, 206, rfl⟩
abbrev main_call2_v2 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_27 : Ref sig .tc := ⟨.hbm, 214, rfl⟩
abbrev main_v156 : Ref sig .tc := ⟨.hbm, 215, rfl⟩
abbrev main_v157 : Ref sig .tc := ⟨.hbm, 216, rfl⟩
abbrev main_cst_28 : Ref sig .tc := ⟨.hbm, 217, rfl⟩
abbrev main_v158 : Ref sig .tc := ⟨.hbm, 218, rfl⟩
abbrev main_v159 : Ref sig .tc := ⟨.hbm, 219, rfl⟩
abbrev main_cst_29 : Ref sig .tc := ⟨.hbm, 220, rfl⟩
abbrev main_v160 : Ref sig .tc := ⟨.hbm, 221, rfl⟩
abbrev main_v161 : Ref sig .tc := ⟨.hbm, 222, rfl⟩
abbrev main_cst_30 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_cst_31 : Ref sig .tc := ⟨.hbm, 228, rfl⟩
abbrev main_v166 : Ref sig .tc := ⟨.hbm, 229, rfl⟩
abbrev main_v167 : Ref sig .tc := ⟨.hbm, 230, rfl⟩
abbrev main_cst_32 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_cst_33 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_cst_34 : Ref sig .tc := ⟨.hbm, 240, rfl⟩
abbrev main_v175 : Ref sig .tc := ⟨.hbm, 241, rfl⟩
abbrev main_v176 : Ref sig .tc := ⟨.hbm, 242, rfl⟩
abbrev main_cst_35 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_cst_36 : Ref sig .tc := ⟨.hbm, 249, rfl⟩
abbrev main_v182 : Ref sig .tc := ⟨.hbm, 250, rfl⟩
abbrev main_v183 : Ref sig .tc := ⟨.hbm, 251, rfl⟩
abbrev main_cst_37 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_cst_38 : Ref sig .tc := ⟨.hbm, 259, rfl⟩
abbrev main_v190 : Ref sig .tc := ⟨.hbm, 260, rfl⟩
abbrev main_cst_39 : Ref sig .tc := ⟨.hbm, 261, rfl⟩
abbrev main_v191 : Ref sig .tc := ⟨.hbm, 262, rfl⟩
abbrev main_v192 : Ref sig .tc := ⟨.hbm, 263, rfl⟩
abbrev main_cst_40 : Ref sig .tc := ⟨.hbm, 264, rfl⟩
abbrev main_v193 : Ref sig .tc := ⟨.hbm, 265, rfl⟩
abbrev main_v194 : Ref sig .tc := ⟨.hbm, 266, rfl⟩
abbrev main_cst_41 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_cst_42 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_cst_43 : Ref sig .tc := ⟨.hbm, 276, rfl⟩
abbrev main_v202 : Ref sig .tc := ⟨.hbm, 277, rfl⟩
abbrev main_v203 : Ref sig .tc := ⟨.hbm, 278, rfl⟩
abbrev main_cst_44 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_cst_45 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_cst_46 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_cst_47 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_cst_48 : Ref sig .tc := ⟨.hbm, 298, rfl⟩
abbrev main_v219 : Ref sig .tc := ⟨.hbm, 299, rfl⟩
abbrev main_v220 : Ref sig .tc := ⟨.hbm, 300, rfl⟩
abbrev main_cst_49 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_cst_50 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_cst_51 : Ref sig .tc := ⟨.hbm, 313, rfl⟩
abbrev main_v231 : Ref sig .tc := ⟨.hbm, 314, rfl⟩
abbrev main_v232 : Ref sig .tc := ⟨.hbm, 315, rfl⟩
abbrev main_cst_52 : Ref sig .tc := ⟨.hbm, 316, rfl⟩
abbrev main_v233 : Ref sig .tc := ⟨.hbm, 317, rfl⟩
abbrev main_v234 : Ref sig .tc := ⟨.hbm, 318, rfl⟩
abbrev main_cst_53 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_cst_54 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_cst_55 : Ref sig .tc := ⟨.hbm, 343, rfl⟩
abbrev main_v257 : Ref sig .tc := ⟨.hbm, 344, rfl⟩
abbrev main_v258 : Ref sig .tc := ⟨.hbm, 345, rfl⟩
abbrev main_cst_56 : Ref sig .tc := ⟨.hbm, 346, rfl⟩
abbrev main_v259 : Ref sig .tc := ⟨.hbm, 347, rfl⟩
abbrev main_v260 : Ref sig .tc := ⟨.hbm, 348, rfl⟩
abbrev main_cst_57 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_cst_58 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩

abbrev nD : Nat := 1
abbrev τ : Topo := Topo.v7x

variable {F : FTy → Type} [FloatOps F]
-- ==== Kernel8.lean ====
abbrev S2x2304x512 : Shape := ⟨3, ![2, 2304, 512]⟩
abbrev S2x2304x256 : Shape := ⟨3, ![2, 2304, 256]⟩
abbrev S31x256 : Shape := ⟨2, ![31, 256]⟩
abbrev S256 : Shape := ⟨1, ![256]⟩
abbrev S_ : Shape := ⟨0, ![]⟩
abbrev S32x256 : Shape := ⟨2, ![32, 256]⟩
abbrev S1x256 : Shape := ⟨2, ![1, 256]⟩
abbrev S1x2304x512 : Shape := ⟨3, ![1, 2304, 512]⟩
abbrev S1x2304x256 : Shape := ⟨3, ![1, 2304, 256]⟩
abbrev S2304x512 : Shape := ⟨2, ![2304, 512]⟩
abbrev S2304x256 : Shape := ⟨2, ![2304, 256]⟩

abbrev nBuf : Space → Nat
  | .hbm => 11
  | .vmem => 8
  | .smem => 0
  | _ => 0

abbrev bufTy : (tb : Table) → Fin (tcTables nBuf tb) → BufTy
  | .hbm, ⟨0, _⟩ => ⟨S2x2304x512, .f32⟩
  | .hbm, ⟨1, _⟩ => ⟨S2x2304x256, .f32⟩
  | .hbm, ⟨2, _⟩ => ⟨S31x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S32x256, .f32⟩
  | .hbm, ⟨7, _⟩ => ⟨S1x256, .f32⟩
  | .hbm, ⟨8, _⟩ => ⟨S2x2304x512, .f32⟩
  | .hbm, ⟨9, _⟩ => ⟨S32x256, .f32⟩
  | .hbm, ⟨10, _⟩ => ⟨S1x256, .f32⟩
  | .local _ .vmem, ⟨0, _⟩ => ⟨S1x2304x512, .f32⟩
  | .local _ .vmem, ⟨1, _⟩ => ⟨S1x2304x256, .f32⟩
  | .local _ .vmem, ⟨2, _⟩ => ⟨S32x256, .f32⟩
  | .local _ .vmem, ⟨3, _⟩ => ⟨S1x256, .f32⟩
  | .local _ .vmem, ⟨4, _⟩ => ⟨S1x2304x512, .f32⟩
  | .local _ .vmem, ⟨5, _⟩ => ⟨S1x2304x512, .f32⟩
  | .local _ .vmem, ⟨6, _⟩ => ⟨S32x256, .f32⟩
  | .local _ .vmem, ⟨7, _⟩ => ⟨S1x256, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1605 : BitVec 32 := Scalar.extui v0
  let c0_i32_586 : BitVec 32 := 0#32
  let v1606 : BitVec 1 := Scalar.cmpi .ne v1605 c0_i32_586
  v1606

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v1607 : BitVec 1 := Scalar.xori v0 v_true
  let v1608 : BitVec 32 := Scalar.extui v1607
  let c0_i32_587 : BitVec 32 := 0#32
  let v1609 : BitVec 1 := Scalar.cmpi .ne v1608 c0_i32_587
  v1609

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v1610 : BitVec 32 := Scalar.extui v0
  let c0_i32_588 : BitVec 32 := 0#32
  let v1611 : BitVec 1 := Scalar.cmpi .ne v1610 c0_i32_588
  v1611

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_589 : BitVec 1 := 1#1
  let v1612 : BitVec 1 := Scalar.xori v0 true_589
  let v1613 : BitVec 32 := Scalar.extui v1612
  let c0_i32_590 : BitVec 32 := 0#32
  let v1614 : BitVec 1 := Scalar.cmpi .ne v1613 c0_i32_590
  v1614

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2304x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2304x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2304x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel10.lean ====
abbrev S2x2304x1024 : Shape := ⟨3, ![2, 2304, 1024]⟩
abbrev S2x2304x256 : Shape := ⟨3, ![2, 2304, 256]⟩
abbrev S2x2304x512 : Shape := ⟨3, ![2, 2304, 512]⟩
abbrev S512 : Shape := ⟨1, ![512]⟩
abbrev S256 : Shape := ⟨1, ![256]⟩
abbrev S2x2x3x1024 : Shape := ⟨4, ![2, 2, 3, 1024]⟩
abbrev S1024x1024 : Shape := ⟨2, ![1024, 1024]⟩
abbrev S2x2304x4x128 : Shape := ⟨4, ![2, 2304, 4, 128]⟩
abbrev S_ : Shape := ⟨0, ![]⟩
abbrev S2x2304x4 : Shape := ⟨3, ![2, 2304, 4]⟩
abbrev S2x2304x4x1 : Shape := ⟨4, ![2, 2304, 4, 1]⟩
abbrev S1x1x512 : Shape := ⟨3, ![1, 1, 512]⟩
abbrev S2x2304 : Shape := ⟨2, ![2, 2304]⟩
abbrev S2x2304x1 : Shape := ⟨3, ![2, 2304, 1]⟩
abbrev S1x1x256 : Shape := ⟨3, ![1, 1, 256]⟩
abbrev S1x512 : Shape := ⟨2, ![1, 512]⟩
abbrev S1x256 : Shape := ⟨2, ![1, 256]⟩
abbrev S1x1024x1024 : Shape := ⟨3, ![1, 1024, 1024]⟩
abbrev S1x256x1024 : Shape := ⟨3, ![1, 256, 1024]⟩
abbrev S1x256x256 : Shape := ⟨3, ![1, 256, 256]⟩
abbrev S1x256x512 : Shape := ⟨3, ![1, 256, 512]⟩
abbrev S1x1x3x1024 : Shape := ⟨4, ![1, 1, 3, 1024]⟩
abbrev S256x1024 : Shape := ⟨2, ![256, 1024]⟩
abbrev S256x256 : Shape := ⟨2, ![256, 256]⟩
abbrev S256x512 : Shape := ⟨2, ![256, 512]⟩
abbrev S256x128 : Shape := ⟨2, ![256, 128]⟩
abbrev S256x1 : Shape := ⟨2, ![256, 1]⟩
abbrev S1x1x1x1024 : Shape := ⟨4, ![1, 1, 1, 1024]⟩
abbrev S1x1024 : Shape := ⟨2, ![1, 1024]⟩
abbrev S1024 : Shape := ⟨1, ![1024]⟩
abbrev S256x384 : Shape := ⟨2, ![256, 384]⟩
abbrev S3x1024 : Shape := ⟨2, ![3, 1024]⟩

abbrev nBuf : Space → Nat
  | .hbm => 105
  | .vmem => 37
  | .smem => 0
  | _ => 0

abbrev bufTy : (tb : Table) → Fin (tcTables nBuf tb) → BufTy
  | .hbm, ⟨0, _⟩ => ⟨S2x2304x1024, .f32⟩
  | .hbm, ⟨1, _⟩ => ⟨S2x2304x256, .f32⟩
  | .hbm, ⟨2, _⟩ => ⟨S2x2304x512, .f32⟩
  | .hbm, ⟨3, _⟩ => ⟨S2x2304x512, .f32⟩
  | .hbm, ⟨4, _⟩ => ⟨S2x2304x512, .f32⟩
  | .hbm, ⟨5, _⟩ => ⟨S2x2304x256, .f32⟩
  | .hbm, ⟨6, _⟩ => ⟨S512, .f32⟩
  | .hbm, ⟨7, _⟩ => ⟨S256, .f32⟩
  | .hbm, ⟨8, _⟩ => ⟨S256, .f32⟩
  | .hbm, ⟨9, _⟩ => ⟨S2x2x3x1024, .f32⟩
  | .hbm, ⟨10, _⟩ => ⟨S1024x1024, .f32⟩
  | .hbm, ⟨11, _⟩ => ⟨S2x2304x512, .f32⟩
  | .hbm, ⟨12, _⟩ => ⟨S2x2304x4x128, .f32⟩
  | .hbm, ⟨13, _⟩ => ⟨S_, .f32⟩
  | .hbm, ⟨14, _⟩ => ⟨S2x2304x4, .f32⟩
  | .hbm, ⟨15, _⟩ => ⟨S2x2304x4x1, .f32⟩
  | .hbm, ⟨16, _⟩ => ⟨S_, .f32⟩
  | .hbm, ⟨17, _⟩ => ⟨S2x2304x4x1, .f32⟩
  | .hbm, ⟨18, _⟩ => ⟨S2x2304x4x1, .f32⟩
  | .hbm, ⟨19, _⟩ => ⟨S2x2304x4x128, .f32⟩
  | .hbm, ⟨20, _⟩ => ⟨S2x2304x4x128, .f32⟩
  | .hbm, ⟨21, _⟩ => ⟨S2x2304x4x128, .f32⟩
  | .hbm, ⟨22, _⟩ => ⟨S2x2304x4x128, .f32⟩
  | .hbm, ⟨23, _⟩ => ⟨S2x2304x4x128, .f32⟩
  | .hbm, ⟨24, _⟩ => ⟨S_, .f32⟩
  | .hbm, ⟨25, _⟩ => ⟨S2x2304x4, .f32⟩
  | .hbm, ⟨26, _⟩ => ⟨S2x2304x4x1, .f32⟩
  | .hbm, ⟨27, _⟩ => ⟨S_, .f32⟩
  | .hbm, ⟨28, _⟩ => ⟨S2x2304x4x1, .f32⟩
  | .hbm, ⟨29, _⟩ => ⟨S2x2304x4x1, .f32⟩
  | .hbm, ⟨30, _⟩ => ⟨S_, .f32⟩
  | .hbm, ⟨31, _⟩ => ⟨S2x2304x4x1, .f32⟩
  | .hbm, ⟨32, _⟩ => ⟨S2x2304x4x1, .f32⟩
  | .hbm, ⟨33, _⟩ => ⟨S2x2304x4x1, .f32⟩
  | .hbm, ⟨34, _⟩ => ⟨S2x2304x4x128, .f32⟩
  | .hbm, ⟨35, _⟩ => ⟨S2x2304x4x128, .f32⟩
  | .hbm, ⟨36, _⟩ => ⟨S2x2304x512, .f32⟩
  | .hbm, ⟨37, _⟩ => ⟨S1x1x512, .f32⟩
  | .hbm, ⟨38, _⟩ => ⟨S2x2304x512, .f32⟩
  | .hbm, ⟨39, _⟩ => ⟨S2x2304x512, .f32⟩
  | .hbm, ⟨40, _⟩ => ⟨S2x2304x512, .f32⟩
  | .hbm, ⟨41, _⟩ => ⟨S2x2304x512, .f32⟩
  | .hbm, ⟨42, _⟩ => ⟨S_, .f32⟩
  | .hbm, ⟨43, _⟩ => ⟨S2x2304x512, .f32⟩
  | .hbm, ⟨44, _⟩ => ⟨S2x2304x512, .f32⟩
  | .hbm, ⟨45, _⟩ => ⟨S_, .f32⟩
  | .hbm, ⟨46, _⟩ => ⟨S2x2304x512, .f32⟩
  | .hbm, ⟨47, _⟩ => ⟨S2x2304x512, .f32⟩
  | .hbm, ⟨48, _⟩ => ⟨S2x2304x512, .f32⟩
  | .hbm, ⟨49, _⟩ => ⟨S2x2304x512, .f32⟩
  | .hbm, ⟨50, _⟩ => ⟨S_, .f32⟩
  | .hbm, ⟨51, _⟩ => ⟨S2x2304, .f32⟩
  | .hbm, ⟨52, _⟩ => ⟨S2x2304x1, .f32⟩
  | .hbm, ⟨53, _⟩ => ⟨S_, .f32⟩
  | .hbm, ⟨54, _⟩ => ⟨S2x2304x1, .f32⟩
  | .hbm, ⟨55, _⟩ => ⟨S2x2304x1, .f32⟩
  | .hbm, ⟨56, _⟩ => ⟨S2x2304x256, .f32⟩
  | .hbm, ⟨57, _⟩ => ⟨S2x2304x256, .f32⟩
  | .hbm, ⟨58, _⟩ => ⟨S2x2304x256, .f32⟩
  | .hbm, ⟨59, _⟩ => ⟨S2x2304x256, .f32⟩
  | .hbm, ⟨60, _⟩ => ⟨S2x2304x256, .f32⟩
  | .hbm, ⟨61, _⟩ => ⟨S_, .f32⟩
  | .hbm, ⟨62, _⟩ => ⟨S2x2304, .f32⟩
  | .hbm, ⟨63, _⟩ => ⟨S2x2304x1, .f32⟩
  | .hbm, ⟨64, _⟩ => ⟨S_, .f32⟩
  | .hbm, ⟨65, _⟩ => ⟨S2x2304x1, .f32⟩
  | .hbm, ⟨66, _⟩ => ⟨S2x2304x1, .f32⟩
  | .hbm, ⟨67, _⟩ => ⟨S_, .f32⟩
  | .hbm, ⟨68, _⟩ => ⟨S2x2304x1, .f32⟩
  | .hbm, ⟨69, _⟩ => ⟨S2x2304x1, .f32⟩
  | .hbm, ⟨70, _⟩ => ⟨S2x2304x1, .f32⟩
  | .hbm, ⟨71, _⟩ => ⟨S2x2304x256, .f32⟩
  | .hbm, ⟨72, _⟩ => ⟨S2x2304x256, .f32⟩
  | .hbm, ⟨73, _⟩ => ⟨S1x1x256, .f32⟩
  | .hbm, ⟨74, _⟩ => ⟨S2x2304x256, .f32⟩
  | .hbm, ⟨75, _⟩ => ⟨S2x2304x256, .f32⟩
  | .hbm, ⟨76, _⟩ => ⟨S1x1x256, .f32⟩
  | .hbm, ⟨77, _⟩ => ⟨S2x2304x256, .f32⟩
  | .hbm, ⟨78, _⟩ => ⟨S2x2304x256, .f32⟩
  | .hbm, ⟨79, _⟩ => ⟨S2x2304x256, .f32⟩
  | .hbm, ⟨80, _⟩ => ⟨S2x2304x256, .f32⟩
  | .hbm, ⟨81, _⟩ => ⟨S_, .f32⟩
  | .hbm, ⟨82, _⟩ => ⟨S2x2304x256, .f32⟩
  | .hbm, ⟨83, _⟩ => ⟨S2x2304x256, .f32⟩
  | .hbm, ⟨84, _⟩ => ⟨S_, .f32⟩
  | .hbm, ⟨85, _⟩ => ⟨S2x2304x256, .f32⟩
  | .hbm, ⟨86, _⟩ => ⟨S2x2304x256, .f32⟩
  | .hbm, ⟨87, _⟩ => ⟨S2x2304x256, .f32⟩
  | .hbm, ⟨88, _⟩ => ⟨S2x2304x1024, .f32⟩
  | .hbm, ⟨89, _⟩ => ⟨S2x2304x1024, .f32⟩
  | .hbm, ⟨90, _⟩ => ⟨S1x512, .f32⟩
  | .hbm, ⟨91, _⟩ => ⟨S1x256, .f32⟩
  | .hbm, ⟨92, _⟩ => ⟨S1x256, .f32⟩
  | .hbm, ⟨93, _⟩ => ⟨S1024x1024, .bf16⟩
  | .hbm, ⟨94, _⟩ => ⟨S1x1024x1024, .bf16⟩
  | .hbm, ⟨95, _⟩ => ⟨S2x2304x256, .f32⟩
  | .hbm, ⟨96, _⟩ => ⟨S2x2304x512, .f32⟩
  | .hbm, ⟨97, _⟩ => ⟨S2x2304x512, .f32⟩
  | .hbm, ⟨98, _⟩ => ⟨S2x2304x256, .f32⟩
  | .hbm, ⟨99, _⟩ => ⟨S2x2304x1024, .bf16⟩
  | .hbm, ⟨100, _⟩ => ⟨S2x2304x1024, .bf16⟩
  | .hbm, ⟨101, _⟩ => ⟨S2x2x3x1024, .f32⟩
  | .hbm, ⟨102, _⟩ => ⟨S1x512, .f32⟩
  | .hbm, ⟨103, _⟩ => ⟨S1x256, .f32⟩
  | .hbm, ⟨104, _⟩ => ⟨S1x256, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x256, .f32⟩
  | .local _ .vmem, ⟨5, _⟩ => ⟨S1x256x256, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x256, .f32⟩
  | .local _ .vmem, ⟨13, _⟩ => ⟨S1x256x256, .f32⟩
  | .local _ .vmem, ⟨14, _⟩ => ⟨S1x512, .f32⟩
  | .local _ .vmem, ⟨15, _⟩ => ⟨S1x256, .f32⟩
  | .local _ .vmem, ⟨16, _⟩ => ⟨S1x256, .f32⟩
  | .local _ .vmem, ⟨17, _⟩ => ⟨S1x1x3x1024, .f32⟩
  | .local _ .vmem, ⟨18, _⟩ => ⟨S1x1x3x1024, .f32⟩
  | .local _ .vmem, ⟨19, _⟩ => ⟨S1x1024x1024, .bf16⟩
  | .local _ .vmem, ⟨20, _⟩ => ⟨S1x256x256, .f32⟩
  | .local _ .vmem, ⟨21, _⟩ => ⟨S1x256x256, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x256, .f32⟩
  | .local _ .vmem, ⟨27, _⟩ => ⟨S1x256x256, .f32⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x256x1024, .bf16⟩
  | .local _ .vmem, ⟨32, _⟩ => ⟨S1x1x3x1024, .f32⟩
  | .local _ .vmem, ⟨33, _⟩ => ⟨S1x1x3x1024, .f32⟩
  | .local _ .vmem, ⟨34, _⟩ => ⟨S1x512, .f32⟩
  | .local _ .vmem, ⟨35, _⟩ => ⟨S1x256, .f32⟩
  | .local _ .vmem, ⟨36, _⟩ => ⟨S1x256, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58_0 : Ref sig .tc := ⟨.hbm, 95, rfl⟩
abbrev main_v58_1 : Ref sig .tc := ⟨.hbm, 96, rfl⟩
abbrev main_v58_2 : Ref sig .tc := ⟨.hbm, 97, rfl⟩
abbrev main_v58_3 : Ref sig .tc := ⟨.hbm, 98, rfl⟩
abbrev main_v58_4 : Ref sig .tc := ⟨.hbm, 99, rfl⟩
abbrev main_v58_5 : Ref sig .tc := ⟨.hbm, 100, rfl⟩
abbrev main_v58_6 : Ref sig .tc := ⟨.hbm, 101, rfl⟩
abbrev main_v58_7 : Ref sig .tc := ⟨.hbm, 102, rfl⟩
abbrev main_v58_8 : Ref sig .tc := ⟨.hbm, 103, rfl⟩
abbrev main_v58_9 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem20_0 : DmaSem sig := 35
abbrev cc0_sem21_0 : DmaSem sig := 36

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg1 : BitVec 32 := BitVec.ofNat 32 (i 1).val
  let c1_i32 : BitVec 32 := 1#32
  let v340 : BitVec 1 := Scalar.cmpi .sle arg1 c1_i32
  let v341 : BitVec 32 := Scalar.extui v340
  let c0_i32 : BitVec 32 := 0#32
  let v342 : BitVec 1 := Scalar.cmpi .ne v341 c0_i32
  v342

def k0_cond2 (i : grid0.Coords) : BitVec 1 :=
  let arg1 : BitVec 32 := BitVec.ofNat 32 (i 1).val
  let c1_i32 : BitVec 32 := 1#32
  let v340 : BitVec 1 := Scalar.cmpi .sle arg1 c1_i32
  let v_true : BitVec 1 := 1#1
  let v343 : BitVec 1 := Scalar.xori v340 v_true
  let v344 : BitVec 32 := Scalar.extui v343
  let c0_i32_126 : BitVec 32 := 0#32
  let v345 : BitVec 1 := Scalar.cmpi .ne v344 c0_i32_126
  v345

def k0_cond3 (i : grid0.Coords) : BitVec 1 :=
  let arg0 : BitVec 32 := BitVec.ofNat 32 (i 0).val
  let c0_i32_127 : BitVec 32 := 0#32
  let v346 : BitVec 1 := Scalar.cmpi .eq arg0 c0_i32_127
  let arg1 : BitVec 32 := BitVec.ofNat 32 (i 1).val
  let c0_i32_128 : BitVec 32 := 0#32
  let v347 : BitVec 1 := Scalar.cmpi .eq arg1 c0_i32_128
  let v348 : BitVec 1 := Scalar.andi v346 v347
  let v349 : BitVec 32 := Scalar.extui v348
  let c0_i32_129 : BitVec 32 := 0#32
  let v350 : BitVec 1 := Scalar.cmpi .ne v349 c0_i32_129
  v350

def k0_cond4 (i : grid0.Coords) : BitVec 1 :=
  let arg0 : BitVec 32 := BitVec.ofNat 32 (i 0).val
  let c0_i32_127 : BitVec 32 := 0#32
  let v346 : BitVec 1 := Scalar.cmpi .eq arg0 c0_i32_127
  let arg1 : BitVec 32 := BitVec.ofNat 32 (i 1).val
  let c0_i32_128 : BitVec 32 := 0#32
  let v347 : BitVec 1 := Scalar.cmpi .eq arg1 c0_i32_128
  let v348 : BitVec 1 := Scalar.andi v346 v347
  let true_130 : BitVec 1 := 1#1
  let v351 : BitVec 1 := Scalar.xori v348 true_130
  let v352 : BitVec 32 := Scalar.extui v351
  let c0_i32_131 : BitVec 32 := 0#32
  let v353 : BitVec 1 := Scalar.cmpi .ne v352 c0_i32_131
  v353

def k0_cond5 (i : grid0.Coords) : BitVec 1 :=
  let arg0 : BitVec 32 := BitVec.ofNat 32 (i 0).val
  let c0_i32_127 : BitVec 32 := 0#32
  let v346 : BitVec 1 := Scalar.cmpi .eq arg0 c0_i32_127
  let arg1 : BitVec 32 := BitVec.ofNat 32 (i 1).val
  let c0_i32_128 : BitVec 32 := 0#32
  let v347 : BitVec 1 := Scalar.cmpi .eq arg1 c0_i32_128
  let v348 : BitVec 1 := Scalar.andi v346 v347
  let v354 : BitVec 32 := Scalar.extui v348
  let c0_i32_132 : BitVec 32 := 0#32
  let v355 : BitVec 1 := Scalar.cmpi .ne v354 c0_i32_132
  v355

def k0_cond6 (i : grid0.Coords) : BitVec 1 :=
  let arg0 : BitVec 32 := BitVec.ofNat 32 (i 0).val
  let c0_i32_127 : BitVec 32 := 0#32
  let v346 : BitVec 1 := Scalar.cmpi .eq arg0 c0_i32_127
  let arg1 : BitVec 32 := BitVec.ofNat 32 (i 1).val
  let c0_i32_128 : BitVec 32 := 0#32
  let v347 : BitVec 1 := Scalar.cmpi .eq arg1 c0_i32_128
  let v348 : BitVec 1 := Scalar.andi v346 v347
  let true_133 : BitVec 1 := 1#1
  let v356 : BitVec 1 := Scalar.xori v348 true_133
  let v357 : BitVec 32 := Scalar.extui v356
  let c0_i32_134 : BitVec 32 := 0#32
  let v358 : BitVec 1 := Scalar.cmpi .ne v357 c0_i32_134
  v358

def k0_cond7 (i : grid0.Coords) : BitVec 1 :=
  let arg0 : BitVec 32 := BitVec.ofNat 32 (i 0).val
  let c0_i32_127 : BitVec 32 := 0#32
  let v346 : BitVec 1 := Scalar.cmpi .eq arg0 c0_i32_127
  let arg1 : BitVec 32 := BitVec.ofNat 32 (i 1).val
  let c0_i32_128 : BitVec 32 := 0#32
  let v347 : BitVec 1 := Scalar.cmpi .eq arg1 c0_i32_128
  let v348 : BitVec 1 := Scalar.andi v346 v347
  let v359 : BitVec 32 := Scalar.extui v348
  let c0_i32_135 : BitVec 32 := 0#32
  let v360 : BitVec 1 := Scalar.cmpi .ne v359 c0_i32_135
  v360

def k0_cond8 (i : grid0.Coords) : BitVec 1 :=
  let arg0 : BitVec 32 := BitVec.ofNat 32 (i 0).val
  let c0_i32_127 : BitVec 32 := 0#32
  let v346 : BitVec 1 := Scalar.cmpi .eq arg0 c0_i32_127
  let arg1 : BitVec 32 := BitVec.ofNat 32 (i 1).val
  let c0_i32_128 : BitVec 32 := 0#32
  let v347 : BitVec 1 := Scalar.cmpi .eq arg1 c0_i32_128
  let v348 : BitVec 1 := Scalar.andi v346 v347
  let true_136 : BitVec 1 := 1#1
  let v361 : BitVec 1 := Scalar.xori v348 true_136
  let v362 : BitVec 32 := Scalar.extui v361
  let c0_i32_137 : BitVec 32 := 0#32
  let v363 : BitVec 1 := Scalar.cmpi .ne v362 c0_i32_137
  v363

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x3x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x3x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]
-- ==== Kernel11.lean ====
abbrev S2x2304x1024 : Shape := ⟨3, ![2, 2304, 1024]⟩
abbrev S2x2304x256 : Shape := ⟨3, ![2, 2304, 256]⟩
abbrev S2x2304x512 : Shape := ⟨3, ![2, 2304, 512]⟩
abbrev S2x2x3x1024 : Shape := ⟨4, ![2, 2, 3, 1024]⟩
abbrev S1024 : Shape := ⟨1, ![1024]⟩
abbrev S1024x2816 : Shape := ⟨2, ![1024, 2816]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S128 : Shape := ⟨1, ![128]⟩
abbrev S1x128 : Shape := ⟨2, ![1, 128]⟩
abbrev S1x1024 : Shape := ⟨2, ![1, 1024]⟩
abbrev S2816x1024 : Shape := ⟨2, ![2816, 1024]⟩
abbrev S1x2816x1024 : Shape := ⟨3, ![1, 2816, 1024]⟩
abbrev S2x2304x2816 : Shape := ⟨3, ![2, 2304, 2816]⟩
abbrev S1x256x1024 : Shape := ⟨3, ![1, 256, 1024]⟩
abbrev S1x256x256 : Shape := ⟨3, ![1, 256, 256]⟩
abbrev S1x256x512 : Shape := ⟨3, ![1, 256, 512]⟩
abbrev S1x1x3x1024 : Shape := ⟨4, ![1, 1, 3, 1024]⟩
abbrev S1x256x2816 : Shape := ⟨3, ![1, 256, 2816]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x512 : Shape := ⟨2, ![256, 512]⟩
abbrev S256x256 : Shape := ⟨2, ![256, 256]⟩
abbrev S256x2816 : Shape := ⟨2, ![256, 2816]⟩
abbrev S3x1024 : Shape := ⟨2, ![3, 1024]⟩

abbrev nBuf : Space → Nat
  | .hbm => 125
  | .vmem => 39
  | .smem => 0
  | _ => 0

abbrev bufTy : (tb : Table) → Fin (tcTables nBuf tb) → BufTy
  | .hbm, ⟨0, _⟩ => ⟨S2x2304x1024, .f32⟩
  | .hbm, ⟨1, _⟩ => ⟨S2x2304x1024, .f32⟩
  | .hbm, ⟨2, _⟩ => ⟨S2x2304x256, .f32⟩
  | .hbm, ⟨3, _⟩ => ⟨S2x2304x512, .f32⟩
  | .hbm, ⟨4, _⟩ => ⟨S2x2304x512, .f32⟩
  | .hbm, ⟨5, _⟩ => ⟨S2x2304x512, .f32⟩
  | .hbm, ⟨6, _⟩ => ⟨S2x2304x512, .f32⟩
  | .hbm, ⟨7, _⟩ => ⟨S2x2304x512, .f32⟩
  | .hbm, ⟨8, _⟩ => ⟨S2x2304x512, .f32⟩
  | .hbm, ⟨9, _⟩ => ⟨S2x2304x512, .f32⟩
  | .hbm, ⟨10, _⟩ => ⟨S2x2304x512, .f32⟩
  | .hbm, ⟨11, _⟩ => ⟨S2x2x3x1024, .f32⟩
  | .hbm, ⟨12, _⟩ => ⟨S1024, .f32⟩
  | .hbm, ⟨13, _⟩ => ⟨S1024x2816, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048, .i32⟩
  | .hbm, ⟨23, _⟩ => ⟨S_, .i32⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .i32⟩
  | .hbm, ⟨41, _⟩ => ⟨S2048, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S_, .i32⟩
  | .hbm, ⟨57, _⟩ => ⟨S_, .i1⟩
  | .hbm, ⟨58, _⟩ => ⟨S2048, .i1⟩
  | .hbm, ⟨59, _⟩ => ⟨S2048, .i1⟩
  | .hbm, ⟨60, _⟩ => ⟨S2048, .i1⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048, .f32⟩
  | .hbm, ⟨65, _⟩ => ⟨S2048x1, .f32⟩
  | .hbm, ⟨66, _⟩ => ⟨S1x32, .f32⟩
  | .hbm, ⟨67, _⟩ => ⟨S2048x32, .f32⟩
  | .hbm, ⟨68, _⟩ => ⟨S2048x32, .f32⟩
  | .hbm, ⟨69, _⟩ => ⟨S2048x32, .f32⟩
  | .hbm, ⟨70, _⟩ => ⟨S2048x1, .f32⟩
  | .hbm, ⟨71, _⟩ => ⟨S1x32, .f32⟩
  | .hbm, ⟨72, _⟩ => ⟨S2048x32, .f32⟩
  | .hbm, ⟨73, _⟩ => ⟨S2048x32, .f32⟩
  | .hbm, ⟨74, _⟩ => ⟨S2048x32, .f32⟩
  | .hbm, ⟨75, _⟩ => ⟨S2048x128, .f32⟩
  | .hbm, ⟨76, _⟩ => ⟨S_, .f32⟩
  | .hbm, ⟨77, _⟩ => ⟨S256x128, .f32⟩
  | .hbm, ⟨78, _⟩ => ⟨S2304x128, .f32⟩
  | .hbm, ⟨79, _⟩ => ⟨S128, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .i32⟩
  | .hbm, ⟨85, _⟩ => ⟨S_, .i32⟩
  | .hbm, ⟨86, _⟩ => ⟨S128, .i32⟩
  | .hbm, ⟨87, _⟩ => ⟨S128, .i32⟩
  | .hbm, ⟨88, _⟩ => ⟨S_, .i32⟩
  | .hbm, ⟨89, _⟩ => ⟨S128, .i32⟩
  | .hbm, ⟨90, _⟩ => ⟨S128, .i1⟩
  | .hbm, ⟨91, _⟩ => ⟨S_, .i32⟩
  | .hbm, ⟨92, _⟩ => ⟨S128, .i32⟩
  | .hbm, ⟨93, _⟩ => ⟨S128, .i1⟩
  | .hbm, ⟨94, _⟩ => ⟨S_, .i32⟩
  | .hbm, ⟨95, _⟩ => ⟨S_, .i1⟩
  | .hbm, ⟨96, _⟩ => ⟨S128, .i1⟩
  | .hbm, ⟨97, _⟩ => ⟨S128, .i1⟩
  | .hbm, ⟨98, _⟩ => ⟨S128, .i1⟩
  | .hbm, ⟨99, _⟩ => ⟨S128, .i32⟩
  | .hbm, ⟨100, _⟩ => ⟨S128, .i32⟩
  | .hbm, ⟨101, _⟩ => ⟨S128, .i32⟩
  | .hbm, ⟨102, _⟩ => ⟨S_, .i32⟩
  | .hbm, ⟨103, _⟩ => ⟨S128, .i32⟩
  | .hbm, ⟨104, _⟩ => ⟨S128, .i1⟩
  | .hbm, ⟨105, _⟩ => ⟨S_, .f32⟩
  | .hbm, ⟨106, _⟩ => ⟨S_, .f32⟩
  | .hbm, ⟨107, _⟩ => ⟨S128, .f32⟩
  | .hbm, ⟨108, _⟩ => ⟨S128, .f32⟩
  | .hbm, ⟨109, _⟩ => ⟨S128, .f32⟩
  | .hbm, ⟨110, _⟩ => ⟨S128, .f32⟩
  | .hbm, ⟨111, _⟩ => ⟨S2304x128, .f32⟩
  | .hbm, ⟨112, _⟩ => ⟨S2304x128, .f32⟩
  | .hbm, ⟨113, _⟩ => ⟨S1x128, .f32⟩
  | .hbm, ⟨114, _⟩ => ⟨S2304x128, .f32⟩
  | .hbm, ⟨115, _⟩ => ⟨S2304x128, .f32⟩
  | .hbm, ⟨116, _⟩ => ⟨S1x1024, .f32⟩
  | .hbm, ⟨117, _⟩ => ⟨S2816x1024, .f32⟩
  | .hbm, ⟨118, _⟩ => ⟨S2816x1024, .bf16⟩
  | .hbm, ⟨119, _⟩ => ⟨S1x2816x1024, .bf16⟩
  | .hbm, ⟨120, _⟩ => ⟨S2x2304x1024, .f32⟩
  | .hbm, ⟨121, _⟩ => ⟨S2x2304x1024, .bf16⟩
  | .hbm, ⟨122, _⟩ => ⟨S2x2304x2816, .bf16⟩
  | .hbm, ⟨123, _⟩ => ⟨S2x2x3x1024, .f32⟩
  | .hbm, ⟨124, _⟩ => ⟨S1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x256, .f32⟩
  | .local _ .vmem, ⟨5, _⟩ => ⟨S1x256x256, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x1x3x1024, .f32⟩
  | .local _ .vmem, ⟨23, _⟩ => ⟨S1x1x3x1024, .f32⟩
  | .local _ .vmem, ⟨24, _⟩ => ⟨S1x1024, .f32⟩
  | .local _ .vmem, ⟨25, _⟩ => ⟨S1x2816x1024, .bf16⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S1x256x1024, .f32⟩
  | .local _ .vmem, ⟨31, _⟩ => ⟨S1x256x1024, .f32⟩
  | .local _ .vmem, ⟨32, _⟩ => ⟨S1x256x1024, .bf16⟩
  | .local _ .vmem, ⟨33, _⟩ => ⟨S1x256x1024, .bf16⟩
  | .local _ .vmem, ⟨34, _⟩ => ⟨S1x256x2816, .bf16⟩
  | .local _ .vmem, ⟨35, _⟩ => ⟨S1x256x2816, .bf16⟩
  | .local _ .vmem, ⟨36, _⟩ => ⟨S1x1x3x1024, .f32⟩
  | .local _ .vmem, ⟨37, _⟩ => ⟨S1x1x3x1024, .f32⟩
  | .local _ .vmem, ⟨38, _⟩ => ⟨S1x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v7 : Ref sig .tc := ⟨.hbm, 40, rfl⟩
abbrev main_v8 : Ref sig .tc := ⟨.hbm, 41, rfl⟩
abbrev main_c_1 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_1 : Ref sig .tc := ⟨.hbm, 50, rfl⟩
abbrev main_call1_v5 : Ref sig .tc := ⟨.hbm, 51, rfl⟩
abbrev main_call1_v6 : Ref sig .tc := ⟨.hbm, 52, rfl⟩
abbrev main_call1_c_2 : Ref sig .tc := ⟨.hbm, 53, rfl⟩
abbrev main_call1_v7 : Ref sig .tc := ⟨.hbm, 54, rfl⟩
abbrev main_call1_v8 : Ref sig .tc := ⟨.hbm, 55, rfl⟩
abbrev main_call1_c_3 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_cst_2 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_c_3 : Ref sig .tc := ⟨.hbm, 80, rfl⟩
abbrev main_call2_v0 : Ref sig .tc := ⟨.hbm, 81, rfl⟩
abbrev main_call2_c : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_c_1 : Ref sig .tc := ⟨.hbm, 88, rfl⟩
abbrev main_call2_v5 : Ref sig .tc := ⟨.hbm, 89, rfl⟩
abbrev main_call2_v6 : Ref sig .tc := ⟨.hbm, 90, rfl⟩
abbrev main_call2_c_2 : Ref sig .tc := ⟨.hbm, 91, rfl⟩
abbrev main_call2_v7 : Ref sig .tc := ⟨.hbm, 92, rfl⟩
abbrev main_call2_v8 : Ref sig .tc := ⟨.hbm, 93, rfl⟩
abbrev main_call2_c_3 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_v25 : Ref sig .tc := ⟨.hbm, 101, rfl⟩
abbrev main_c_4 : Ref sig .tc := ⟨.hbm, 102, rfl⟩
abbrev main_v26 : Ref sig .tc := ⟨.hbm, 103, rfl⟩
abbrev main_v27 : Ref sig .tc := ⟨.hbm, 104, rfl⟩
abbrev main_cst_5 : Ref sig .tc := ⟨.hbm, 105, rfl⟩
abbrev main_cst_6 : Ref sig .tc := ⟨.hbm, 106, rfl⟩
abbrev main_call3_v0 : Ref sig .tc := ⟨.hbm, 107, rfl⟩
abbrev main_call3_v1 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩
abbrev main_v39_0 : Ref sig .tc := ⟨.hbm, 120, rfl⟩
abbrev main_v39_1 : Ref sig .tc := ⟨.hbm, 121, rfl⟩
abbrev main_v39_2 : Ref sig .tc := ⟨.hbm, 122, rfl⟩
abbrev main_v39_3 : Ref sig .tc := ⟨.hbm, 123, rfl⟩
abbrev main_v39_4 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg1 : BitVec 32 := BitVec.ofNat 32 (i 1).val
  let c1_i32_83 : BitVec 32 := 1#32
  let v155 : BitVec 1 := Scalar.cmpi .sle arg1 c1_i32_83
  let v156 : BitVec 32 := Scalar.extui v155
  let c0_i32_84 : BitVec 32 := 0#32
  let v157 : BitVec 1 := Scalar.cmpi .ne v156 c0_i32_84
  v157

def k0_cond2 (i : grid0.Coords) : BitVec 1 :=
  let arg1 : BitVec 32 := BitVec.ofNat 32 (i 1).val
  let c1_i32_83 : BitVec 32 := 1#32
  let v155 : BitVec 1 := Scalar.cmpi .sle arg1 c1_i32_83
  let v_true : BitVec 1 := 1#1
  let v158 : BitVec 1 := Scalar.xori v155 v_true
  let v159 : BitVec 32 := Scalar.extui v158
  let c0_i32_85 : BitVec 32 := 0#32
  let v160 : BitVec 1 := Scalar.cmpi .ne v159 c0_i32_85
  v160

def k0_cond3 (i : grid0.Coords) : BitVec 1 :=
  let arg0 : BitVec 32 := BitVec.ofNat 32 (i 0).val
  let c0_i32_86 : BitVec 32 := 0#32
  let v161 : BitVec 1 := Scalar.cmpi .eq arg0 c0_i32_86
  let arg1 : BitVec 32 := BitVec.ofNat 32 (i 1).val
  let c0_i32_87 : BitVec 32 := 0#32
  let v162 : BitVec 1 := Scalar.cmpi .eq arg1 c0_i32_87
  let v163 : BitVec 1 := Scalar.andi v161 v162
  let v164 : BitVec 32 := Scalar.extui v163
  let c0_i32_88 : BitVec 32 := 0#32
  let v165 : BitVec 1 := Scalar.cmpi .ne v164 c0_i32_88
  v165

def k0_cond4 (i : grid0.Coords) : BitVec 1 :=
  let arg0 : BitVec 32 := BitVec.ofNat 32 (i 0).val
  let c0_i32_86 : BitVec 32 := 0#32
  let v161 : BitVec 1 := Scalar.cmpi .eq arg0 c0_i32_86
  let arg1 : BitVec 32 := BitVec.ofNat 32 (i 1).val
  let c0_i32_87 : BitVec 32 := 0#32
  let v162 : BitVec 1 := Scalar.cmpi .eq arg1 c0_i32_87
  let v163 : BitVec 1 := Scalar.andi v161 v162
  let true_89 : BitVec 1 := 1#1
  let v166 : BitVec 1 := Scalar.xori v163 true_89
  let v167 : BitVec 32 := Scalar.extui v166
  let c0_i32_90 : BitVec 32 := 0#32
  let v168 : BitVec 1 := Scalar.cmpi .ne v167 c0_i32_90
  v168

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x3x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x3x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== Kernel12.lean ====
abbrev S2x2304x256 : Shape := ⟨3, ![2, 2304, 256]⟩
abbrev S4x64x64 : Shape := ⟨3, ![4, 64, 64]⟩
abbrev S256 : Shape := ⟨1, ![256]⟩
abbrev S_ : Shape := ⟨0, ![]⟩
abbrev S256x256 : Shape := ⟨2, ![256, 256]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x256 : Shape := ⟨2, ![1, 256]⟩
abbrev S1x2304x256 : Shape := ⟨3, ![1, 2304, 256]⟩
abbrev S2304x256 : Shape := ⟨2, ![2304, 256]⟩

abbrev nBuf : Space → Nat
  | .hbm => 42
  | .vmem => 8
  | .smem => 0
  | _ => 0

abbrev bufTy : (tb : Table) → Fin (tcTables nBuf tb) → BufTy
  | .hbm, ⟨0, _⟩ => ⟨S2x2304x256, .f32⟩
  | .hbm, ⟨1, _⟩ => ⟨S2x2304x256, .f32⟩
  | .hbm, ⟨2, _⟩ => ⟨S4x64x64, .f32⟩
  | .hbm, ⟨3, _⟩ => ⟨S256, .f32⟩
  | .hbm, ⟨4, _⟩ => ⟨S_, .f32⟩
  | .hbm, ⟨5, _⟩ => ⟨S256x256, .f32⟩
  | .hbm, ⟨6, _⟩ => ⟨S1x64x64, .f32⟩
  | .hbm, ⟨7, _⟩ => ⟨S64x64, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S256x256, .f32⟩
  | .hbm, ⟨14, _⟩ => ⟨S1x64x64, .f32⟩
  | .hbm, ⟨15, _⟩ => ⟨S64x64, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S256x256, .f32⟩
  | .hbm, ⟨22, _⟩ => ⟨S1x64x64, .f32⟩
  | .hbm, ⟨23, _⟩ => ⟨S64x64, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S256x256, .f32⟩
  | .hbm, ⟨30, _⟩ => ⟨S1x64x64, .f32⟩
  | .hbm, ⟨31, _⟩ => ⟨S64x64, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S256x256, .f32⟩
  | .hbm, ⟨38, _⟩ => ⟨S1x256, .f32⟩
  | .hbm, ⟨39, _⟩ => ⟨S2x2304x256, .f32⟩
  | .hbm, ⟨40, _⟩ => ⟨S256x256, .f32⟩
  | .hbm, ⟨41, _⟩ => ⟨S1x256, .f32⟩
  | .local _ .vmem, ⟨0, _⟩ => ⟨S1x2304x256, .f32⟩
  | .local _ .vmem, ⟨1, _⟩ => ⟨S1x2304x256, .f32⟩
  | .local _ .vmem, ⟨2, _⟩ => ⟨S256x256, .f32⟩
  | .local _ .vmem, ⟨3, _⟩ => ⟨S1x256, .f32⟩
  | .local _ .vmem, ⟨4, _⟩ => ⟨S1x2304x256, .f32⟩
  | .local _ .vmem, ⟨5, _⟩ => ⟨S1x2304x256, .f32⟩
  | .local _ .vmem, ⟨6, _⟩ => ⟨S256x256, .f32⟩
  | .local _ .vmem, ⟨7, _⟩ => ⟨S1x256, .f32⟩
  | _, _ => ⟨S2x2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1168 : BitVec 32 := Scalar.extui v0
  let c0_i32_459 : BitVec 32 := 0#32
  let v1169 : BitVec 1 := Scalar.cmpi .ne v1168 c0_i32_459
  v1169

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v1170 : BitVec 1 := Scalar.xori v0 v_true
  let v1171 : BitVec 32 := Scalar.extui v1170
  let c0_i32_460 : BitVec 32 := 0#32
  let v1172 : BitVec 1 := Scalar.cmpi .ne v1171 c0_i32_460
  v1172

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v1173 : BitVec 32 := Scalar.extui v0
  let c0_i32_461 : BitVec 32 := 0#32
  let v1174 : BitVec 1 := Scalar.cmpi .ne v1173 c0_i32_461
  v1174

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_462 : BitVec 1 := 1#1
  let v1175 : BitVec 1 := Scalar.xori v0 true_462
  let v1176 : BitVec 32 := Scalar.extui v1175
  let c0_i32_463 : BitVec 32 := 0#32
  let v1177 : BitVec 1 := Scalar.cmpi .ne v1176 c0_i32_463
  v1177

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2304x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2304x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2304x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel13.lean ====
abbrev S2x2304x512 : Shape := ⟨3, ![2, 2304, 512]⟩
abbrev S4 : Shape := ⟨1, ![4]⟩
abbrev S4x1x1 : Shape := ⟨3, ![4, 1, 1]⟩
abbrev S4x1x128 : Shape := ⟨3, ![4, 1, 128]⟩
abbrev S1x2304x128 : Shape := ⟨3, ![1, 2304, 128]⟩
abbrev S1x1x128 : Shape := ⟨3, ![1, 1, 128]⟩
abbrev S256x256 : Shape := ⟨2, ![256, 256]⟩
abbrev S256x1 : Shape := ⟨2, ![256, 1]⟩
abbrev S1x128 : Shape := ⟨2, ![1, 128]⟩
abbrev S1x1 : Shape := ⟨2, ![1, 1]⟩
abbrev S128x128 : Shape := ⟨2, ![128, 128]⟩
abbrev S1x256x128 : Shape := ⟨3, ![1, 256, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x2304x512, .f32⟩
  | .hbm, ⟨1, _⟩ => ⟨S2x2304x512, .f32⟩
  | .hbm, ⟨2, _⟩ => ⟨S2x2304x512, .f32⟩
  | .hbm, ⟨3, _⟩ => ⟨S4, .f32⟩
  | .hbm, ⟨4, _⟩ => ⟨S4, .f32⟩
  | .hbm, ⟨5, _⟩ => ⟨S4x1x1, .f32⟩
  | .hbm, ⟨6, _⟩ => ⟨S4x1x128, .f32⟩
  | .hbm, ⟨7, _⟩ => ⟨S4x1x1, .f32⟩
  | .hbm, ⟨8, _⟩ => ⟨S4x1x128, .f32⟩
  | .hbm, ⟨9, _⟩ => ⟨S2x2304x512, .f32⟩
  | .hbm, ⟨10, _⟩ => ⟨S2x2304x512, .f32⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x2304x128, .f32⟩
  | .local _ .vmem, ⟨11, _⟩ => ⟨S1x2304x128, .f32⟩
  | .local _ .vmem, ⟨12, _⟩ => ⟨S1x2304x128, .f32⟩
  | .local _ .vmem, ⟨13, _⟩ => ⟨S1x2304x128, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference13Ideal.lean ====
abbrev S2x2304x512 : Shape := ⟨3, ![2, 2304, 512]⟩
abbrev S4 : Shape := ⟨1, ![4]⟩
abbrev S_ : Shape := ⟨0, ![]⟩
abbrev S2x2304x4x128 : Shape := ⟨4, ![2, 2304, 4, 128]⟩
abbrev S2x4x128x128 : Shape := ⟨4, ![2, 4, 128, 128]⟩
abbrev S2x256x4x128 : Shape := ⟨4, ![2, 256, 4, 128]⟩
abbrev S2x2x128x4x128 : Shape := ⟨5, ![2, 2, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S2x2x4x128x128 : Shape := ⟨5, ![2, 2, 4, 128, 128]⟩
abbrev S1x1x4x128x128 : Shape := ⟨5, ![1, 1, 4, 128, 128]⟩
abbrev S1x4 : Shape := ⟨2, ![1, 4]⟩
abbrev S128x4 : Shape := ⟨2, ![128, 4]⟩
abbrev S1x1x128x4x1 : Shape := ⟨5, ![1, 1, 128, 4, 1]⟩
abbrev S1x4x1x1 : Shape := ⟨4, ![1, 4, 1, 1]⟩
abbrev S2x1x4x128x128 : Shape := ⟨5, ![2, 1, 4, 128, 128]⟩
abbrev S2x2048x4x128 : Shape := ⟨4, ![2, 2048, 4, 128]⟩
abbrev S2x16x128x4x128 : Shape := ⟨5, ![2, 16, 128, 4, 128]⟩
abbrev S2x16x4x128x128 : Shape := ⟨5, ![2, 16, 4, 128, 128]⟩

abbrev nBuf : Space → Nat
  | .hbm => 559
  | .vmem => 0
  | .smem => 0
  | _ => 0

abbrev hbmTy0_0 (i : Nat) : BufTy := match i % 128 with
  | 0 => ⟨S2x2304x512, .f32⟩
  | 1 => ⟨S2x2304x512, .f32⟩
  | 2 => ⟨S2x2304x512, .f32⟩
  | 3 => ⟨S4, .f32⟩
  | 4 => ⟨S4, .f32⟩
  | 5 => ⟨S4, .f32⟩
  | 6 => ⟨S_, .f32⟩
  | 7 => ⟨S4, .f32⟩
  | 8 => ⟨S4, .f32⟩
  | 9 => ⟨S4, .f32⟩
  | 10 => ⟨S4, .f32⟩
  | 11 => ⟨S4, .i1⟩
  | 12 => ⟨S4, .f32⟩
  | 13 => ⟨S4, .f32⟩
  | 14 => ⟨S4, .f32⟩
  | 15 => ⟨S4, .f32⟩
  | 16 => ⟨S4, .f32⟩
  | 17 => ⟨S4, .f32⟩
  | 18 => ⟨S4, .f32⟩
  | 19 => ⟨S4, .f32⟩
  | 20 => ⟨S4, .f32⟩
  | 21 => ⟨S2x2304x4x128, .f32⟩
  | 22 => ⟨S2x2304x4x128, .f32⟩
  | 23 => ⟨S2x2304x4x128, .f32⟩
  | 24 => ⟨S_, .f32⟩
  | 25 => ⟨S2x4x128x128, .f32⟩
  | 26 => ⟨S2x256x4x128, .f32⟩
  | 27 => ⟨S2x256x4x128, .f32⟩
  | 28 => ⟨S2x256x4x128, .f32⟩
  | 29 => ⟨S2x2x128x4x128, .f32⟩
  | 30 => ⟨S2x2x128x4x128, .f32⟩
  | 31 => ⟨S2x2x128x4x128, .f32⟩
  | 32 => ⟨S128, .f32⟩
  | 33 => ⟨S128x1, .f32⟩
  | 34 => ⟨S1x128, .f32⟩
  | 35 => ⟨S128x128, .f32⟩
  | 36 => ⟨S128x128, .f32⟩
  | 37 => ⟨S128x128, .f32⟩
  | 38 => ⟨S_, .f32⟩
  | 39 => ⟨S128x128, .f32⟩
  | 40 => ⟨S128x128, .i1⟩
  | 41 => ⟨S1x128x128, .i1⟩
  | 42 => ⟨S_, .f32⟩
  | 43 => ⟨S128x128, .f32⟩
  | 44 => ⟨S128x128, .f32⟩
  | 45 => ⟨S1x128x128, .f32⟩
  | 46 => ⟨S4x1x1, .f32⟩
  | 47 => ⟨S4x128x128, .f32⟩
  | 48 => ⟨S4x128x128, .f32⟩
  | 49 => ⟨S4x128x128, .f32⟩
  | 50 => ⟨S4x128x128, .f32⟩
  | 51 => ⟨S_, .f32⟩
  | 52 => ⟨S_, .f32⟩
  | 53 => ⟨S4x128x128, .i1⟩
  | 54 => ⟨S4x128x128, .f32⟩
  | 55 => ⟨S4x128x128, .f32⟩
  | 56 => ⟨S2x2x4x128x128, .f32⟩
  | 57 => ⟨S1x1x4x128x128, .f32⟩
  | 58 => ⟨S2x2x4x128x128, .f32⟩
  | 59 => ⟨S2x2x4x128x128, .f32⟩
  | 60 => ⟨S2x2x4x128x128, .f32⟩
  | 61 => ⟨S2x2x128x4x128, .f32⟩
  | 62 => ⟨S_, .f32⟩
  | 63 => ⟨S128, .f32⟩
  | 64 => ⟨S128, .f32⟩
  | 65 => ⟨S128x1, .f32⟩
  | 66 => ⟨S1x4, .f32⟩
  | 67 => ⟨S128x4, .f32⟩
  | 68 => ⟨S128x4, .f32⟩
  | 69 => ⟨S128x4, .f32⟩
  | 70 => ⟨S128x4, .f32⟩
  | 71 => ⟨S1x1x128x4x1, .f32⟩
  | 72 => ⟨S2x2x128x4x128, .f32⟩
  | 73 => ⟨S2x2x128x4x128, .f32⟩
  | 74 => ⟨S2x2x4x128x128, .f32⟩
  | 75 => ⟨S_, .f32⟩
  | 76 => ⟨S4, .f32⟩
  | 77 => ⟨S4, .f32⟩
  | 78 => ⟨S4, .f32⟩
  | 79 => ⟨S1x4x1x1, .f32⟩
  | 80 => ⟨S2x4x128x128, .f32⟩
  | 81 => ⟨S2x4x128x128, .f32⟩
  | 82 => ⟨S2x1x4x128x128, .f32⟩
  | 83 => ⟨S2x4x128x128, .f32⟩
  | 84 => ⟨S2x4x128x128, .f32⟩
  | 85 => ⟨S2x4x128x128, .f32⟩
  | 86 => ⟨S2x4x128x128, .f32⟩
  | 87 => ⟨S2x1x4x128x128, .f32⟩
  | 88 => ⟨S2x4x128x128, .f32⟩
  | 89 => ⟨S2x4x128x128, .f32⟩
  | 90 => ⟨S2x1x4x128x128, .f32⟩
  | 91 => ⟨S2x1x4x128x128, .f32⟩
  | 92 => ⟨S2x2x4x128x128, .f32⟩
  | 93 => ⟨S_, .f32⟩
  | 94 => ⟨S128, .f32⟩
  | 95 => ⟨S128, .f32⟩
  | 96 => ⟨S128x1, .f32⟩
  | 97 => ⟨S1x4, .f32⟩
  | 98 => ⟨S128x4, .f32⟩
  | 99 => ⟨S128x4, .f32⟩
  | 100 => ⟨S128x4, .f32⟩
  | 101 => ⟨S128x4, .f32⟩
  | 102 => ⟨S1x1x128x4x1, .f32⟩
  | 103 => ⟨S2x2x128x4x128, .f32⟩
  | 104 => ⟨S2x2x128x4x128, .f32⟩
  | 105 => ⟨S2x2x4x128x128, .f32⟩
  | 106 => ⟨S2x2x128x4x128, .f32⟩
  | 107 => ⟨S2x2x128x4x128, .f32⟩
  | 108 => ⟨S2x256x4x128, .f32⟩
  | 109 => ⟨S2x2048x4x128, .f32⟩
  | 110 => ⟨S2x2048x4x128, .f32⟩
  | 111 => ⟨S2x2048x4x128, .f32⟩
  | 112 => ⟨S2x16x128x4x128, .f32⟩
  | 113 => ⟨S2x16x128x4x128, .f32⟩
  | 114 => ⟨S2x16x128x4x128, .f32⟩
  | 115 => ⟨S128, .f32⟩
  | 116 => ⟨S128x1, .f32⟩
  | 117 => ⟨S1x128, .f32⟩
  | 118 => ⟨S128x128, .f32⟩
  | 119 => ⟨S128x128, .f32⟩
  | 120 => ⟨S128x128, .f32⟩
  | 121 => ⟨S_, .f32⟩
  | 122 => ⟨S128x128, .f32⟩
  | 123 => ⟨S128x128, .i1⟩
  | 124 => ⟨S1x128x128, .i1⟩
  | 125 => ⟨S_, .f32⟩
  | 126 => ⟨S128x128, .f32⟩
  | 127 => ⟨S128x128, .f32⟩
  | _ => ⟨S2x2304x512, .f32⟩

abbrev hbmTy0_1 (i : Nat) : BufTy := match i % 128 with
  | 0 => ⟨S1x128x128, .f32⟩
  | 1 => ⟨S4x1x1, .f32⟩
  | 2 => ⟨S4x128x128, .f32⟩
  | 3 => ⟨S4x128x128, .f32⟩
  | 4 => ⟨S4x128x128, .f32⟩
  | 5 => ⟨S4x128x128, .f32⟩
  | 6 => ⟨S_, .f32⟩
  | 7 => ⟨S_, .f32⟩
  | 8 => ⟨S4x128x128, .i1⟩
  | 9 => ⟨S4x128x128, .f32⟩
  | 10 => ⟨S4x128x128, .f32⟩
  | 11 => ⟨S2x16x4x128x128, .f32⟩
  | 12 => ⟨S1x1x4x128x128, .f32⟩
  | 13 => ⟨S2x16x4x128x128, .f32⟩
  | 14 => ⟨S2x16x4x128x128, .f32⟩
  | 15 => ⟨S2x16x4x128x128, .f32⟩
  | 16 => ⟨S2x16x128x4x128, .f32⟩
  | 17 => ⟨S_, .f32⟩
  | 18 => ⟨S128, .f32⟩
  | 19 => ⟨S128, .f32⟩
  | 20 => ⟨S128x1, .f32⟩
  | 21 => ⟨S1x4, .f32⟩
  | 22 => ⟨S128x4, .f32⟩
  | 23 => ⟨S128x4, .f32⟩
  | 24 => ⟨S128x4, .f32⟩
  | 25 => ⟨S128x4, .f32⟩
  | 26 => ⟨S1x1x128x4x1, .f32⟩
  | 27 => ⟨S2x16x128x4x128, .f32⟩
  | 28 => ⟨S2x16x128x4x128, .f32⟩
  | 29 => ⟨S2x16x4x128x128, .f32⟩
  | 30 => ⟨S_, .f32⟩
  | 31 => ⟨S4, .f32⟩
  | 32 => ⟨S4, .f32⟩
  | 33 => ⟨S4, .f32⟩
  | 34 => ⟨S1x4x1x1, .f32⟩
  | 35 => ⟨S2x4x128x128, .f32⟩
  | 36 => ⟨S2x4x128x128, .f32⟩
  | 37 => ⟨S2x1x4x128x128, .f32⟩
  | 38 => ⟨S2x4x128x128, .f32⟩
  | 39 => ⟨S2x4x128x128, .f32⟩
  | 40 => ⟨S2x4x128x128, .f32⟩
  | 41 => ⟨S2x4x128x128, .f32⟩
  | 42 => ⟨S2x1x4x128x128, .f32⟩
  | 43 => ⟨S2x4x128x128, .f32⟩
  | 44 => ⟨S2x4x128x128, .f32⟩
  | 45 => ⟨S2x4x128x128, .f32⟩
  | 46 => ⟨S2x4x128x128, .f32⟩
  | 47 => ⟨S2x1x4x128x128, .f32⟩
  | 48 => ⟨S2x4x128x128, .f32⟩
  | 49 => ⟨S2x4x128x128, .f32⟩
  | 50 => ⟨S2x4x128x128, .f32⟩
  | 51 => ⟨S2x4x128x128, .f32⟩
  | 52 => ⟨S2x1x4x128x128, .f32⟩
  | 53 => ⟨S2x4x128x128, .f32⟩
  | 54 => ⟨S2x4x128x128, .f32⟩
  | 55 => ⟨S2x4x128x128, .f32⟩
  | 56 => ⟨S2x4x128x128, .f32⟩
  | 57 => ⟨S2x1x4x128x128, .f32⟩
  | 58 => ⟨S2x4x128x128, .f32⟩
  | 59 => ⟨S2x4x128x128, .f32⟩
  | 60 => ⟨S2x4x128x128, .f32⟩
  | 61 => ⟨S2x4x128x128, .f32⟩
  | 62 => ⟨S2x1x4x128x128, .f32⟩
  | 63 => ⟨S2x4x128x128, .f32⟩
  | 64 => ⟨S2x4x128x128, .f32⟩
  | 65 => ⟨S2x4x128x128, .f32⟩
  | 66 => ⟨S2x4x128x128, .f32⟩
  | 67 => ⟨S2x1x4x128x128, .f32⟩
  | 68 => ⟨S2x4x128x128, .f32⟩
  | 69 => ⟨S2x4x128x128, .f32⟩
  | 70 => ⟨S2x4x128x128, .f32⟩
  | 71 => ⟨S2x4x128x128, .f32⟩
  | 72 => ⟨S2x1x4x128x128, .f32⟩
  | 73 => ⟨S2x4x128x128, .f32⟩
  | 74 => ⟨S2x4x128x128, .f32⟩
  | 75 => ⟨S2x4x128x128, .f32⟩
  | 76 => ⟨S2x4x128x128, .f32⟩
  | 77 => ⟨S2x1x4x128x128, .f32⟩
  | 78 => ⟨S2x4x128x128, .f32⟩
  | 79 => ⟨S2x4x128x128, .f32⟩
  | 80 => ⟨S2x4x128x128, .f32⟩
  | 81 => ⟨S2x4x128x128, .f32⟩
  | 82 => ⟨S2x1x4x128x128, .f32⟩
  | 83 => ⟨S2x4x128x128, .f32⟩
  | 84 => ⟨S2x4x128x128, .f32⟩
  | 85 => ⟨S2x4x128x128, .f32⟩
  | 86 => ⟨S2x4x128x128, .f32⟩
  | 87 => ⟨S2x1x4x128x128, .f32⟩
  | 88 => ⟨S2x4x128x128, .f32⟩
  | 89 => ⟨S2x4x128x128, .f32⟩
  | 90 => ⟨S2x4x128x128, .f32⟩
  | 91 => ⟨S2x4x128x128, .f32⟩
  | 92 => ⟨S2x1x4x128x128, .f32⟩
  | 93 => ⟨S2x4x128x128, .f32⟩
  | 94 => ⟨S2x4x128x128, .f32⟩
  | 95 => ⟨S2x4x128x128, .f32⟩
  | 96 => ⟨S2x4x128x128, .f32⟩
  | 97 => ⟨S2x1x4x128x128, .f32⟩
  | 98 => ⟨S2x4x128x128, .f32⟩
  | 99 => ⟨S2x4x128x128, .f32⟩
  | 100 => ⟨S2x4x128x128, .f32⟩
  | 101 => ⟨S2x4x128x128, .f32⟩
  | 102 => ⟨S2x1x4x128x128, .f32⟩
  | 103 => ⟨S2x4x128x128, .f32⟩
  | 104 => ⟨S2x4x128x128, .f32⟩
  | 105 => ⟨S2x4x128x128, .f32⟩
  | 106 => ⟨S2x4x128x128, .f32⟩
  | 107 => ⟨S2x1x4x128x128, .f32⟩
  | 108 => ⟨S2x4x128x128, .f32⟩
  | 109 => ⟨S2x4x128x128, .f32⟩
  | 110 => ⟨S2x4x128x128, .f32⟩
  | 111 => ⟨S2x4x128x128, .f32⟩
  | 112 => ⟨S2x1x4x128x128, .f32⟩
  | 113 => ⟨S2x4x128x128, .f32⟩
  | 114 => ⟨S2x4x128x128, .f32⟩
  | 115 => ⟨S2x1x4x128x128, .f32⟩
  | 116 => ⟨S2x1x4x128x128, .f32⟩
  | 117 => ⟨S2x1x4x128x128, .f32⟩
  | 118 => ⟨S2x1x4x128x128, .f32⟩
  | 119 => ⟨S2x1x4x128x128, .f32⟩
  | 120 => ⟨S2x1x4x128x128, .f32⟩
  | 121 => ⟨S2x1x4x128x128, .f32⟩
  | 122 => ⟨S2x1x4x128x128, .f32⟩
  | 123 => ⟨S2x1x4x128x128, .f32⟩
  | 124 => ⟨S2x1x4x128x128, .f32⟩
  | 125 => ⟨S2x1x4x128x128, .f32⟩
  | 126 => ⟨S2x1x4x128x128, .f32⟩
  | 127 => ⟨S2x1x4x128x128, .f32⟩
  | _ => ⟨S2x2304x512, .f32⟩

abbrev hbmTy0_2 (i : Nat) : BufTy := match i % 128 with
  | 0 => ⟨S2x1x4x128x128, .f32⟩
  | 1 => ⟨S2x1x4x128x128, .f32⟩
  | 2 => ⟨S2x1x4x128x128, .f32⟩
  | 3 => ⟨S2x16x4x128x128, .f32⟩
  | 4 => ⟨S_, .f32⟩
  | 5 => ⟨S128, .f32⟩
  | 6 => ⟨S128, .f32⟩
  | 7 => ⟨S128x1, .f32⟩
  | 8 => ⟨S1x4, .f32⟩
  | 9 => ⟨S128x4, .f32⟩
  | 10 => ⟨S128x4, .f32⟩
  | 11 => ⟨S128x4, .f32⟩
  | 12 => ⟨S128x4, .f32⟩
  | 13 => ⟨S1x1x128x4x1, .f32⟩
  | 14 => ⟨S2x16x128x4x128, .f32⟩
  | 15 => ⟨S2x16x128x4x128, .f32⟩
  | 16 => ⟨S2x16x4x128x128, .f32⟩
  | 17 => ⟨S2x16x128x4x128, .f32⟩
  | 18 => ⟨S2x16x128x4x128, .f32⟩
  | 19 => ⟨S2x2048x4x128, .f32⟩
  | 20 => ⟨S2x2304x4x128, .f32⟩
  | 21 => ⟨S2x2304x512, .f32⟩
  | 22 => ⟨S4, .f32⟩
  | 23 => ⟨S_, .f32⟩
  | 24 => ⟨S4, .f32⟩
  | 25 => ⟨S4, .f32⟩
  | 26 => ⟨S4, .f32⟩
  | 27 => ⟨S4, .f32⟩
  | 28 => ⟨S4, .i1⟩
  | 29 => ⟨S4, .f32⟩
  | 30 => ⟨S4, .f32⟩
  | 31 => ⟨S4, .f32⟩
  | 32 => ⟨S4, .f32⟩
  | 33 => ⟨S4, .f32⟩
  | 34 => ⟨S4, .f32⟩
  | 35 => ⟨S4, .f32⟩
  | 36 => ⟨S4, .f32⟩
  | 37 => ⟨S4, .f32⟩
  | 38 => ⟨S2x2304x4x128, .f32⟩
  | 39 => ⟨S2x2304x4x128, .f32⟩
  | 40 => ⟨S2x2304x4x128, .f32⟩
  | 41 => ⟨S_, .f32⟩
  | 42 => ⟨S2x4x128x128, .f32⟩
  | 43 => ⟨S2x256x4x128, .f32⟩
  | 44 => ⟨S2x256x4x128, .f32⟩
  | 45 => ⟨S2x256x4x128, .f32⟩
  | 46 => ⟨S2x256x4x128, .f32⟩
  | 47 => ⟨S2x256x4x128, .f32⟩
  | 48 => ⟨S2x256x4x128, .f32⟩
  | 49 => ⟨S2x2x128x4x128, .f32⟩
  | 50 => ⟨S2x2x128x4x128, .f32⟩
  | 51 => ⟨S2x2x128x4x128, .f32⟩
  | 52 => ⟨S128, .f32⟩
  | 53 => ⟨S128x1, .f32⟩
  | 54 => ⟨S1x128, .f32⟩
  | 55 => ⟨S128x128, .f32⟩
  | 56 => ⟨S128x128, .f32⟩
  | 57 => ⟨S128x128, .f32⟩
  | 58 => ⟨S_, .f32⟩
  | 59 => ⟨S128x128, .f32⟩
  | 60 => ⟨S128x128, .i1⟩
  | 61 => ⟨S1x128x128, .i1⟩
  | 62 => ⟨S_, .f32⟩
  | 63 => ⟨S128x128, .f32⟩
  | 64 => ⟨S128x128, .f32⟩
  | 65 => ⟨S1x128x128, .f32⟩
  | 66 => ⟨S4x1x1, .f32⟩
  | 67 => ⟨S4x128x128, .f32⟩
  | 68 => ⟨S4x128x128, .f32⟩
  | 69 => ⟨S4x128x128, .f32⟩
  | 70 => ⟨S4x128x128, .f32⟩
  | 71 => ⟨S_, .f32⟩
  | 72 => ⟨S_, .f32⟩
  | 73 => ⟨S4x128x128, .i1⟩
  | 74 => ⟨S4x128x128, .f32⟩
  | 75 => ⟨S4x128x128, .f32⟩
  | 76 => ⟨S2x2x4x128x128, .f32⟩
  | 77 => ⟨S1x1x4x128x128, .f32⟩
  | 78 => ⟨S2x2x4x128x128, .f32⟩
  | 79 => ⟨S2x2x4x128x128, .f32⟩
  | 80 => ⟨S2x2x4x128x128, .f32⟩
  | 81 => ⟨S2x2x128x4x128, .f32⟩
  | 82 => ⟨S_, .f32⟩
  | 83 => ⟨S128, .f32⟩
  | 84 => ⟨S128, .f32⟩
  | 85 => ⟨S128x1, .f32⟩
  | 86 => ⟨S1x4, .f32⟩
  | 87 => ⟨S128x4, .f32⟩
  | 88 => ⟨S128x4, .f32⟩
  | 89 => ⟨S128x4, .f32⟩
  | 90 => ⟨S128x4, .f32⟩
  | 91 => ⟨S1x1x128x4x1, .f32⟩
  | 92 => ⟨S2x2x128x4x128, .f32⟩
  | 93 => ⟨S2x2x128x4x128, .f32⟩
  | 94 => ⟨S2x2x4x128x128, .f32⟩
  | 95 => ⟨S_, .f32⟩
  | 96 => ⟨S4, .f32⟩
  | 97 => ⟨S4, .f32⟩
  | 98 => ⟨S4, .f32⟩
  | 99 => ⟨S1x4x1x1, .f32⟩
  | 100 => ⟨S2x4x128x128, .f32⟩
  | 101 => ⟨S2x4x128x128, .f32⟩
  | 102 => ⟨S2x1x4x128x128, .f32⟩
  | 103 => ⟨S2x4x128x128, .f32⟩
  | 104 => ⟨S2x4x128x128, .f32⟩
  | 105 => ⟨S2x4x128x128, .f32⟩
  | 106 => ⟨S2x4x128x128, .f32⟩
  | 107 => ⟨S2x1x4x128x128, .f32⟩
  | 108 => ⟨S2x4x128x128, .f32⟩
  | 109 => ⟨S2x4x128x128, .f32⟩
  | 110 => ⟨S2x1x4x128x128, .f32⟩
  | 111 => ⟨S2x1x4x128x128, .f32⟩
  | 112 => ⟨S2x2x4x128x128, .f32⟩
  | 113 => ⟨S_, .f32⟩
  | 114 => ⟨S128, .f32⟩
  | 115 => ⟨S128, .f32⟩
  | 116 => ⟨S128x1, .f32⟩
  | 117 => ⟨S1x4, .f32⟩
  | 118 => ⟨S128x4, .f32⟩
  | 119 => ⟨S128x4, .f32⟩
  | 120 => ⟨S128x4, .f32⟩
  | 121 => ⟨S128x4, .f32⟩
  | 122 => ⟨S1x1x128x4x1, .f32⟩
  | 123 => ⟨S2x2x128x4x128, .f32⟩
  | 124 => ⟨S2x2x128x4x128, .f32⟩
  | 125 => ⟨S2x2x4x128x128, .f32⟩
  | 126 => ⟨S2x2x128x4x128, .f32⟩
  | 127 => ⟨S2x2x128x4x128, .f32⟩
  | _ => ⟨S2x2304x512, .f32⟩

abbrev hbmTy0_3 (i : Nat) : BufTy := match i % 128 with
  | 0 => ⟨S2x256x4x128, .f32⟩
  | 1 => ⟨S2x2048x4x128, .f32⟩
  | 2 => ⟨S2x2048x4x128, .f32⟩
  | 3 => ⟨S2x2048x4x128, .f32⟩
  | 4 => ⟨S2x2048x4x128, .f32⟩
  | 5 => ⟨S2x2048x4x128, .f32⟩
  | 6 => ⟨S2x2048x4x128, .f32⟩
  | 7 => ⟨S2x16x128x4x128, .f32⟩
  | 8 => ⟨S2x16x128x4x128, .f32⟩
  | 9 => ⟨S2x16x128x4x128, .f32⟩
  | 10 => ⟨S128, .f32⟩
  | 11 => ⟨S128x1, .f32⟩
  | 12 => ⟨S1x128, .f32⟩
  | 13 => ⟨S128x128, .f32⟩
  | 14 => ⟨S128x128, .f32⟩
  | 15 => ⟨S128x128, .f32⟩
  | 16 => ⟨S_, .f32⟩
  | 17 => ⟨S128x128, .f32⟩
  | 18 => ⟨S128x128, .i1⟩
  | 19 => ⟨S1x128x128, .i1⟩
  | 20 => ⟨S_, .f32⟩
  | 21 => ⟨S128x128, .f32⟩
  | 22 => ⟨S128x128, .f32⟩
  | 23 => ⟨S1x128x128, .f32⟩
  | 24 => ⟨S4x1x1, .f32⟩
  | 25 => ⟨S4x128x128, .f32⟩
  | 26 => ⟨S4x128x128, .f32⟩
  | 27 => ⟨S4x128x128, .f32⟩
  | 28 => ⟨S4x128x128, .f32⟩
  | 29 => ⟨S_, .f32⟩
  | 30 => ⟨S_, .f32⟩
  | 31 => ⟨S4x128x128, .i1⟩
  | 32 => ⟨S4x128x128, .f32⟩
  | 33 => ⟨S4x128x128, .f32⟩
  | 34 => ⟨S2x16x4x128x128, .f32⟩
  | 35 => ⟨S1x1x4x128x128, .f32⟩
  | 36 => ⟨S2x16x4x128x128, .f32⟩
  | 37 => ⟨S2x16x4x128x128, .f32⟩
  | 38 => ⟨S2x16x4x128x128, .f32⟩
  | 39 => ⟨S2x16x128x4x128, .f32⟩
  | 40 => ⟨S_, .f32⟩
  | 41 => ⟨S128, .f32⟩
  | 42 => ⟨S128, .f32⟩
  | 43 => ⟨S128x1, .f32⟩
  | 44 => ⟨S1x4, .f32⟩
  | 45 => ⟨S128x4, .f32⟩
  | 46 => ⟨S128x4, .f32⟩
  | 47 => ⟨S128x4, .f32⟩
  | 48 => ⟨S128x4, .f32⟩
  | 49 => ⟨S1x1x128x4x1, .f32⟩
  | 50 => ⟨S2x16x128x4x128, .f32⟩
  | 51 => ⟨S2x16x128x4x128, .f32⟩
  | 52 => ⟨S2x16x4x128x128, .f32⟩
  | 53 => ⟨S_, .f32⟩
  | 54 => ⟨S4, .f32⟩
  | 55 => ⟨S4, .f32⟩
  | 56 => ⟨S4, .f32⟩
  | 57 => ⟨S1x4x1x1, .f32⟩
  | 58 => ⟨S2x4x128x128, .f32⟩
  | 59 => ⟨S2x4x128x128, .f32⟩
  | 60 => ⟨S2x1x4x128x128, .f32⟩
  | 61 => ⟨S2x4x128x128, .f32⟩
  | 62 => ⟨S2x4x128x128, .f32⟩
  | 63 => ⟨S2x4x128x128, .f32⟩
  | 64 => ⟨S2x4x128x128, .f32⟩
  | 65 => ⟨S2x1x4x128x128, .f32⟩
  | 66 => ⟨S2x4x128x128, .f32⟩
  | 67 => ⟨S2x4x128x128, .f32⟩
  | 68 => ⟨S2x4x128x128, .f32⟩
  | 69 => ⟨S2x4x128x128, .f32⟩
  | 70 => ⟨S2x1x4x128x128, .f32⟩
  | 71 => ⟨S2x4x128x128, .f32⟩
  | 72 => ⟨S2x4x128x128, .f32⟩
  | 73 => ⟨S2x4x128x128, .f32⟩
  | 74 => ⟨S2x4x128x128, .f32⟩
  | 75 => ⟨S2x1x4x128x128, .f32⟩
  | 76 => ⟨S2x4x128x128, .f32⟩
  | 77 => ⟨S2x4x128x128, .f32⟩
  | 78 => ⟨S2x4x128x128, .f32⟩
  | 79 => ⟨S2x4x128x128, .f32⟩
  | 80 => ⟨S2x1x4x128x128, .f32⟩
  | 81 => ⟨S2x4x128x128, .f32⟩
  | 82 => ⟨S2x4x128x128, .f32⟩
  | 83 => ⟨S2x4x128x128, .f32⟩
  | 84 => ⟨S2x4x128x128, .f32⟩
  | 85 => ⟨S2x1x4x128x128, .f32⟩
  | 86 => ⟨S2x4x128x128, .f32⟩
  | 87 => ⟨S2x4x128x128, .f32⟩
  | 88 => ⟨S2x4x128x128, .f32⟩
  | 89 => ⟨S2x4x128x128, .f32⟩
  | 90 => ⟨S2x1x4x128x128, .f32⟩
  | 91 => ⟨S2x4x128x128, .f32⟩
  | 92 => ⟨S2x4x128x128, .f32⟩
  | 93 => ⟨S2x4x128x128, .f32⟩
  | 94 => ⟨S2x4x128x128, .f32⟩
  | 95 => ⟨S2x1x4x128x128, .f32⟩
  | 96 => ⟨S2x4x128x128, .f32⟩
  | 97 => ⟨S2x4x128x128, .f32⟩
  | 98 => ⟨S2x4x128x128, .f32⟩
  | 99 => ⟨S2x4x128x128, .f32⟩
  | 100 => ⟨S2x1x4x128x128, .f32⟩
  | 101 => ⟨S2x4x128x128, .f32⟩
  | 102 => ⟨S2x4x128x128, .f32⟩
  | 103 => ⟨S2x4x128x128, .f32⟩
  | 104 => ⟨S2x4x128x128, .f32⟩
  | 105 => ⟨S2x1x4x128x128, .f32⟩
  | 106 => ⟨S2x4x128x128, .f32⟩
  | 107 => ⟨S2x4x128x128, .f32⟩
  | 108 => ⟨S2x4x128x128, .f32⟩
  | 109 => ⟨S2x4x128x128, .f32⟩
  | 110 => ⟨S2x1x4x128x128, .f32⟩
  | 111 => ⟨S2x4x128x128, .f32⟩
  | 112 => ⟨S2x4x128x128, .f32⟩
  | 113 => ⟨S2x4x128x128, .f32⟩
  | 114 => ⟨S2x4x128x128, .f32⟩
  | 115 => ⟨S2x1x4x128x128, .f32⟩
  | 116 => ⟨S2x4x128x128, .f32⟩
  | 117 => ⟨S2x4x128x128, .f32⟩
  | 118 => ⟨S2x4x128x128, .f32⟩
  | 119 => ⟨S2x4x128x128, .f32⟩
  | 120 => ⟨S2x1x4x128x128, .f32⟩
  | 121 => ⟨S2x4x128x128, .f32⟩
  | 122 => ⟨S2x4x128x128, .f32⟩
  | 123 => ⟨S2x4x128x128, .f32⟩
  | 124 => ⟨S2x4x128x128, .f32⟩
  | 125 => ⟨S2x1x4x128x128, .f32⟩
  | 126 => ⟨S2x4x128x128, .f32⟩
  | 127 => ⟨S2x4x128x128, .f32⟩
  | _ => ⟨S2x2304x512, .f32⟩

abbrev hbmTy0_4 (i : Nat) : BufTy := match i % 128 with
  | 0 => ⟨S2x4x128x128, .f32⟩
  | 1 => ⟨S2x4x128x128, .f32⟩
  | 2 => ⟨S2x1x4x128x128, .f32⟩
  | 3 => ⟨S2x4x128x128, .f32⟩
  | 4 => ⟨S2x4x128x128, .f32⟩
  | 5 => ⟨S2x4x128x128, .f32⟩
  | 6 => ⟨S2x4x128x128, .f32⟩
  | 7 => ⟨S2x1x4x128x128, .f32⟩
  | 8 => ⟨S2x4x128x128, .f32⟩
  | 9 => ⟨S2x4x128x128, .f32⟩
  | 10 => ⟨S2x1x4x128x128, .f32⟩
  | 11 => ⟨S2x1x4x128x128, .f32⟩
  | 12 => ⟨S2x1x4x128x128, .f32⟩
  | 13 => ⟨S2x1x4x128x128, .f32⟩
  | 14 => ⟨S2x1x4x128x128, .f32⟩
  | 15 => ⟨S2x1x4x128x128, .f32⟩
  | 16 => ⟨S2x1x4x128x128, .f32⟩
  | 17 => ⟨S2x1x4x128x128, .f32⟩
  | 18 => ⟨S2x1x4x128x128, .f32⟩
  | 19 => ⟨S2x1x4x128x128, .f32⟩
  | 20 => ⟨S2x1x4x128x128, .f32⟩
  | 21 => ⟨S2x1x4x128x128, .f32⟩
  | 22 => ⟨S2x1x4x128x128, .f32⟩
  | 23 => ⟨S2x1x4x128x128, .f32⟩
  | 24 => ⟨S2x1x4x128x128, .f32⟩
  | 25 => ⟨S2x1x4x128x128, .f32⟩
  | 26 => ⟨S2x16x4x128x128, .f32⟩
  | 27 => ⟨S_, .f32⟩
  | 28 => ⟨S128, .f32⟩
  | 29 => ⟨S128, .f32⟩
  | 30 => ⟨S128x1, .f32⟩
  | 31 => ⟨S1x4, .f32⟩
  | 32 => ⟨S128x4, .f32⟩
  | 33 => ⟨S128x4, .f32⟩
  | 34 => ⟨S128x4, .f32⟩
  | 35 => ⟨S128x4, .f32⟩
  | 36 => ⟨S1x1x128x4x1, .f32⟩
  | 37 => ⟨S2x16x128x4x128, .f32⟩
  | 38 => ⟨S2x16x128x4x128, .f32⟩
  | 39 => ⟨S2x16x4x128x128, .f32⟩
  | 40 => ⟨S2x16x128x4x128, .f32⟩
  | 41 => ⟨S2x16x128x4x128, .f32⟩
  | 42 => ⟨S2x2048x4x128, .f32⟩
  | 43 => ⟨S2x256x4x128, .f32⟩
  | 44 => ⟨S2x2048x4x128, .f32⟩
  | 45 => ⟨S2x2304x4x128, .f32⟩
  | 46 => ⟨S2x2304x512, .f32⟩
  | _ => ⟨S2x2304x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x2304x512, .f32⟩

abbrev bufTy : (tb : Table) → Fin (tcTables nBuf tb) → BufTy
  | .hbm, ⟨i, _⟩ => hbmTy i
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_3 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_5 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_6 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_7 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_8 : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_9 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_10 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_cst_11 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_call3_v0 : Ref sig .tc := ⟨.hbm, 278, rfl⟩
abbrev main_call3_call0_cst : Ref sig .tc := ⟨.hbm, 279, rfl⟩
abbrev main_call3_call0_v0 : Ref sig .tc := ⟨.hbm, 280, rfl⟩
abbrev main_call3_call0_v1 : Ref sig .tc := ⟨.hbm, 281, rfl⟩
abbrev main_call3_call0_v2 : Ref sig .tc := ⟨.hbm, 282, rfl⟩
abbrev main_call3_call0_v3 : Ref sig .tc := ⟨.hbm, 283, rfl⟩
abbrev main_call3_call0_v4 : Ref sig .tc := ⟨.hbm, 284, rfl⟩
abbrev main_call3_call0_v5 : Ref sig .tc := ⟨.hbm, 285, rfl⟩
abbrev main_call3_call0_v6 : Ref sig .tc := ⟨.hbm, 286, rfl⟩
abbrev main_call3_call0_v7 : Ref sig .tc := ⟨.hbm, 287, rfl⟩
abbrev main_call3_call0_v8 : Ref sig .tc := ⟨.hbm, 288, rfl⟩
abbrev main_call3_call0_v9 : Ref sig .tc := ⟨.hbm, 289, rfl⟩
abbrev main_call3_call0_v10 : Ref sig .tc := ⟨.hbm, 290, rfl⟩
abbrev main_call3_call0_v11 : Ref sig .tc := ⟨.hbm, 291, rfl⟩
abbrev main_call3_v1 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_cst_12 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_cst_13 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_cst_14 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_cst_15 : Ref sig .tc := ⟨.hbm, 327, rfl⟩
abbrev main_call7_v0 : Ref sig .tc := ⟨.hbm, 328, rfl⟩
abbrev main_call7_v1 : Ref sig .tc := ⟨.hbm, 329, rfl⟩
abbrev main_call7_v2 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_cst_16 : Ref sig .tc := ⟨.hbm, 338, rfl⟩
abbrev main_v277 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_v281 : Ref sig .tc := ⟨.hbm, 343, rfl⟩
abbrev main_v282 : Ref sig .tc := ⟨.hbm, 344, rfl⟩
abbrev main_v283 : Ref sig .tc := ⟨.hbm, 345, rfl⟩
abbrev main_v284 : Ref sig .tc := ⟨.hbm, 346, rfl⟩
abbrev main_v285 : Ref sig .tc := ⟨.hbm, 347, rfl⟩
abbrev main_v286 : Ref sig .tc := ⟨.hbm, 348, rfl⟩
abbrev main_v287 : Ref sig .tc := ⟨.hbm, 349, rfl⟩
abbrev main_v288 : Ref sig .tc := ⟨.hbm, 350, rfl⟩
abbrev main_cst_17 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_v295 : Ref sig .tc := ⟨.hbm, 358, rfl⟩
abbrev main_v296 : Ref sig .tc := ⟨.hbm, 359, rfl⟩
abbrev main_v297 : Ref sig .tc := ⟨.hbm, 360, rfl⟩
abbrev main_v298 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_cst_18 : Ref sig .tc := ⟨.hbm, 369, rfl⟩
abbrev main_v306 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_v311 : Ref sig .tc := ⟨.hbm, 375, rfl⟩
abbrev main_v312 : Ref sig .tc := ⟨.hbm, 376, rfl⟩
abbrev main_v313 : Ref sig .tc := ⟨.hbm, 377, rfl⟩
abbrev main_v314 : Ref sig .tc := ⟨.hbm, 378, rfl⟩
abbrev main_v315 : Ref sig .tc := ⟨.hbm, 379, rfl⟩
abbrev main_v316 : Ref sig .tc := ⟨.hbm, 380, rfl⟩
abbrev main_v317 : Ref sig .tc := ⟨.hbm, 381, rfl⟩
abbrev main_v318 : Ref sig .tc := ⟨.hbm, 382, rfl⟩
abbrev main_v319 : Ref sig .tc := ⟨.hbm, 383, rfl⟩
abbrev main_v320 : Ref sig .tc := ⟨.hbm, 384, rfl⟩
abbrev main_v321 : Ref sig .tc := ⟨.hbm, 385, rfl⟩
abbrev main_v322 : Ref sig .tc := ⟨.hbm, 386, rfl⟩
abbrev main_v323 : Ref sig .tc := ⟨.hbm, 387, rfl⟩
abbrev main_v324 : Ref sig .tc := ⟨.hbm, 388, rfl⟩
abbrev main_v325 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_cst_19 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_cst_20 : Ref sig .tc := ⟨.hbm, 404, rfl⟩
abbrev main_v339 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_v345 : Ref sig .tc := ⟨.hbm, 411, rfl⟩
abbrev main_v346 : Ref sig .tc := ⟨.hbm, 412, rfl⟩
abbrev main_cst_21 : Ref sig .tc := ⟨.hbm, 413, rfl⟩
abbrev main_call11_v0 : Ref sig .tc := ⟨.hbm, 414, rfl⟩
abbrev main_call11_v1 : Ref sig .tc := ⟨.hbm, 415, rfl⟩
abbrev main_call11_v2 : Ref sig .tc := ⟨.hbm, 416, rfl⟩
abbrev main_v347 : Ref sig .tc := ⟨.hbm, 417, rfl⟩
abbrev main_v348 : Ref sig .tc := ⟨.hbm, 418, rfl⟩
abbrev main_v349 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_cst_22 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_v357 : Ref sig .tc := ⟨.hbm, 428, rfl⟩
abbrev main_v358 : Ref sig .tc := ⟨.hbm, 429, rfl⟩
abbrev main_v359 : Ref sig .tc := ⟨.hbm, 430, rfl⟩
abbrev main_v360 : Ref sig .tc := ⟨.hbm, 431, rfl⟩
abbrev main_v361 : Ref sig .tc := ⟨.hbm, 432, rfl⟩
abbrev main_v362 : Ref sig .tc := ⟨.hbm, 433, rfl⟩
abbrev main_v363 : Ref sig .tc := ⟨.hbm, 434, rfl⟩
abbrev main_v364 : Ref sig .tc := ⟨.hbm, 435, rfl⟩
abbrev main_v365 : Ref sig .tc := ⟨.hbm, 436, rfl⟩
abbrev main_cst_23 : Ref sig .tc := ⟨.hbm, 437, rfl⟩
abbrev main_v366 : Ref sig .tc := ⟨.hbm, 438, rfl⟩
abbrev main_v367 : Ref sig .tc := ⟨.hbm, 439, rfl⟩
abbrev main_v368 : Ref sig .tc := ⟨.hbm, 440, rfl⟩
abbrev main_v369 : Ref sig .tc := ⟨.hbm, 441, rfl⟩
abbrev main_v370 : Ref sig .tc := ⟨.hbm, 442, rfl⟩
abbrev main_v371 : Ref sig .tc := ⟨.hbm, 443, rfl⟩
abbrev main_v372 : Ref sig .tc := ⟨.hbm, 444, rfl⟩
abbrev main_v373 : Ref sig .tc := ⟨.hbm, 445, rfl⟩
abbrev main_v374 : Ref sig .tc := ⟨.hbm, 446, rfl⟩
abbrev main_v375 : Ref sig .tc := ⟨.hbm, 447, rfl⟩
abbrev main_v376 : Ref sig .tc := ⟨.hbm, 448, rfl⟩
abbrev main_v377 : Ref sig .tc := ⟨.hbm, 449, rfl⟩
abbrev main_v378 : Ref sig .tc := ⟨.hbm, 450, rfl⟩
abbrev main_v379 : Ref sig .tc := ⟨.hbm, 451, rfl⟩
abbrev main_v380 : Ref sig .tc := ⟨.hbm, 452, rfl⟩
abbrev main_v381 : Ref sig .tc := ⟨.hbm, 453, rfl⟩
abbrev main_v382 : Ref sig .tc := ⟨.hbm, 454, rfl⟩
abbrev main_v383 : Ref sig .tc := ⟨.hbm, 455, rfl⟩
abbrev main_v384 : Ref sig .tc := ⟨.hbm, 456, rfl⟩
abbrev main_v385 : Ref sig .tc := ⟨.hbm, 457, rfl⟩
abbrev main_v386 : Ref sig .tc := ⟨.hbm, 458, rfl⟩
abbrev main_v387 : Ref sig .tc := ⟨.hbm, 459, rfl⟩
abbrev main_v388 : Ref sig .tc := ⟨.hbm, 460, rfl⟩
abbrev main_v389 : Ref sig .tc := ⟨.hbm, 461, rfl⟩
abbrev main_v390 : Ref sig .tc := ⟨.hbm, 462, rfl⟩
abbrev main_v391 : Ref sig .tc := ⟨.hbm, 463, rfl⟩
abbrev main_v392 : Ref sig .tc := ⟨.hbm, 464, rfl⟩
abbrev main_v393 : Ref sig .tc := ⟨.hbm, 465, rfl⟩
abbrev main_v394 : Ref sig .tc := ⟨.hbm, 466, rfl⟩
abbrev main_v395 : Ref sig .tc := ⟨.hbm, 467, rfl⟩
abbrev main_v396 : Ref sig .tc := ⟨.hbm, 468, rfl⟩
abbrev main_v397 : Ref sig .tc := ⟨.hbm, 469, rfl⟩
abbrev main_v398 : Ref sig .tc := ⟨.hbm, 470, rfl⟩
abbrev main_v399 : Ref sig .tc := ⟨.hbm, 471, rfl⟩
abbrev main_v400 : Ref sig .tc := ⟨.hbm, 472, rfl⟩
abbrev main_v401 : Ref sig .tc := ⟨.hbm, 473, rfl⟩
abbrev main_v402 : Ref sig .tc := ⟨.hbm, 474, rfl⟩
abbrev main_v403 : Ref sig .tc := ⟨.hbm, 475, rfl⟩
abbrev main_v404 : Ref sig .tc := ⟨.hbm, 476, rfl⟩
abbrev main_v405 : Ref sig .tc := ⟨.hbm, 477, rfl⟩
abbrev main_v406 : Ref sig .tc := ⟨.hbm, 478, rfl⟩
abbrev main_v407 : Ref sig .tc := ⟨.hbm, 479, rfl⟩
abbrev main_v408 : Ref sig .tc := ⟨.hbm, 480, rfl⟩
abbrev main_v409 : Ref sig .tc := ⟨.hbm, 481, rfl⟩
abbrev main_v410 : Ref sig .tc := ⟨.hbm, 482, rfl⟩
abbrev main_v411 : Ref sig .tc := ⟨.hbm, 483, rfl⟩
abbrev main_v412 : Ref sig .tc := ⟨.hbm, 484, rfl⟩
abbrev main_v413 : Ref sig .tc := ⟨.hbm, 485, rfl⟩
abbrev main_v414 : Ref sig .tc := ⟨.hbm, 486, rfl⟩
abbrev main_v415 : Ref sig .tc := ⟨.hbm, 487, rfl⟩
abbrev main_v416 : Ref sig .tc := ⟨.hbm, 488, rfl⟩
abbrev main_v417 : Ref sig .tc := ⟨.hbm, 489, rfl⟩
abbrev main_v418 : Ref sig .tc := ⟨.hbm, 490, rfl⟩
abbrev main_v419 : Ref sig .tc := ⟨.hbm, 491, rfl⟩
abbrev main_v420 : Ref sig .tc := ⟨.hbm, 492, rfl⟩
abbrev main_v421 : Ref sig .tc := ⟨.hbm, 493, rfl⟩
abbrev main_v422 : Ref sig .tc := ⟨.hbm, 494, rfl⟩
abbrev main_v423 : Ref sig .tc := ⟨.hbm, 495, rfl⟩
abbrev main_v424 : Ref sig .tc := ⟨.hbm, 496, rfl⟩
abbrev main_v425 : Ref sig .tc := ⟨.hbm, 497, rfl⟩
abbrev main_v426 : Ref sig .tc := ⟨.hbm, 498, rfl⟩
abbrev main_v427 : Ref sig .tc := ⟨.hbm, 499, rfl⟩
abbrev main_v428 : Ref sig .tc := ⟨.hbm, 500, rfl⟩
abbrev main_v429 : Ref sig .tc := ⟨.hbm, 501, rfl⟩
abbrev main_v430 : Ref sig .tc := ⟨.hbm, 502, rfl⟩
abbrev main_v431 : Ref sig .tc := ⟨.hbm, 503, rfl⟩
abbrev main_v432 : Ref sig .tc := ⟨.hbm, 504, rfl⟩
abbrev main_v433 : Ref sig .tc := ⟨.hbm, 505, rfl⟩
abbrev main_v434 : Ref sig .tc := ⟨.hbm, 506, rfl⟩
abbrev main_v435 : Ref sig .tc := ⟨.hbm, 507, rfl⟩
abbrev main_v436 : Ref sig .tc := ⟨.hbm, 508, rfl⟩
abbrev main_v437 : Ref sig .tc := ⟨.hbm, 509, rfl⟩
abbrev main_v438 : Ref sig .tc := ⟨.hbm, 510, rfl⟩
abbrev main_v439 : Ref sig .tc := ⟨.hbm, 511, rfl⟩
abbrev main_v440 : Ref sig .tc := ⟨.hbm, 512, rfl⟩
abbrev main_v441 : Ref sig .tc := ⟨.hbm, 513, rfl⟩
abbrev main_v442 : Ref sig .tc := ⟨.hbm, 514, rfl⟩
abbrev main_v443 : Ref sig .tc := ⟨.hbm, 515, rfl⟩
abbrev main_v444 : Ref sig .tc := ⟨.hbm, 516, rfl⟩
abbrev main_v445 : Ref sig .tc := ⟨.hbm, 517, rfl⟩
abbrev main_v446 : Ref sig .tc := ⟨.hbm, 518, rfl⟩
abbrev main_v447 : Ref sig .tc := ⟨.hbm, 519, rfl⟩
abbrev main_v448 : Ref sig .tc := ⟨.hbm, 520, rfl⟩
abbrev main_v449 : Ref sig .tc := ⟨.hbm, 521, rfl⟩
abbrev main_v450 : Ref sig .tc := ⟨.hbm, 522, rfl⟩
abbrev main_v451 : Ref sig .tc := ⟨.hbm, 523, rfl⟩
abbrev main_v452 : Ref sig .tc := ⟨.hbm, 524, rfl⟩
abbrev main_v453 : Ref sig .tc := ⟨.hbm, 525, rfl⟩
abbrev main_v454 : Ref sig .tc := ⟨.hbm, 526, rfl⟩
abbrev main_v455 : Ref sig .tc := ⟨.hbm, 527, rfl⟩
abbrev main_v456 : Ref sig .tc := ⟨.hbm, 528, rfl⟩
abbrev main_v457 : Ref sig .tc := ⟨.hbm, 529, rfl⟩
abbrev main_v458 : Ref sig .tc := ⟨.hbm, 530, rfl⟩
abbrev main_v459 : Ref sig .tc := ⟨.hbm, 531, rfl⟩
abbrev main_v460 : Ref sig .tc := ⟨.hbm, 532, rfl⟩
abbrev main_v461 : Ref sig .tc := ⟨.hbm, 533, rfl⟩
abbrev main_v462 : Ref sig .tc := ⟨.hbm, 534, rfl⟩
abbrev main_v463 : Ref sig .tc := ⟨.hbm, 535, rfl⟩
abbrev main_v464 : Ref sig .tc := ⟨.hbm, 536, rfl⟩
abbrev main_v465 : Ref sig .tc := ⟨.hbm, 537, rfl⟩
abbrev main_v466 : Ref sig .tc := ⟨.hbm, 538, rfl⟩
abbrev main_cst_24 : Ref sig .tc := ⟨.hbm, 539, rfl⟩
abbrev main_v467 : Ref sig .tc := ⟨.hbm, 540, rfl⟩
abbrev main_v468 : Ref sig .tc := ⟨.hbm, 541, rfl⟩
abbrev main_v469 : Ref sig .tc := ⟨.hbm, 542, rfl⟩
abbrev main_v470 : Ref sig .tc := ⟨.hbm, 543, rfl⟩
abbrev main_v471 : Ref sig .tc := ⟨.hbm, 544, rfl⟩
abbrev main_v472 : Ref sig .tc := ⟨.hbm, 545, rfl⟩
abbrev main_v473 : Ref sig .tc := ⟨.hbm, 546, rfl⟩
abbrev main_v474 : Ref sig .tc := ⟨.hbm, 547, rfl⟩
abbrev main_v475 : Ref sig .tc := ⟨.hbm, 548, rfl⟩
abbrev main_v476 : Ref sig .tc := ⟨.hbm, 549, rfl⟩
abbrev main_v477 : Ref sig .tc := ⟨.hbm, 550, rfl⟩
abbrev main_v478 : Ref sig .tc := ⟨.hbm, 551, rfl⟩
abbrev main_v479 : Ref sig .tc := ⟨.hbm, 552, rfl⟩
abbrev main_v480 : Ref sig .tc := ⟨.hbm, 553, rfl⟩
abbrev main_v481 : Ref sig .tc := ⟨.hbm, 554, rfl⟩
abbrev main_v482 : Ref sig .tc := ⟨.hbm, 555, rfl⟩
abbrev main_v483 : Ref sig .tc := ⟨.hbm, 556, rfl⟩
abbrev main_v484 : Ref sig .tc := ⟨.hbm, 557, rfl⟩
abbrev main_v485 : Ref sig .tc := ⟨.hbm, 558, rfl⟩

abbrev nD : Nat := 1
abbrev τ : Topo := Topo.v7x

variable {F : FTy → Type} [FloatOps F]
-- ==== Kernel14.lean ====
abbrev S2x2304x1024 : Shape := ⟨3, ![2, 2304, 1024]⟩
abbrev S2x2x3x1024 : Shape := ⟨4, ![2, 2, 3, 1024]⟩
abbrev S1024 : Shape := ⟨1, ![1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S1x1024 : Shape := ⟨2, ![1, 1024]⟩
abbrev S1x256x1024 : Shape := ⟨3, ![1, 256, 1024]⟩
abbrev S1x1x3x1024 : Shape := ⟨4, ![1, 1, 3, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S1x1408x1024 : Shape := ⟨3, ![1, 1408, 1024]⟩
abbrev S1408x1024 : Shape := ⟨2, ![1408, 1024]⟩
abbrev S256x1408 : Shape := ⟨2, ![256, 1408]⟩

abbrev nBuf : Space → Nat
  | .hbm => 18
  | .vmem => 12
  | .smem => 0
  | _ => 0

abbrev bufTy : (tb : Table) → Fin (tcTables nBuf tb) → BufTy
  | .hbm, ⟨0, _⟩ => ⟨S2x2304x1024, .f32⟩
  | .hbm, ⟨1, _⟩ => ⟨S2x2x3x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S1x2816x1024, .bf16⟩
  | .hbm, ⟨12, _⟩ => ⟨S1x2816x1024, .bf16⟩
  | .hbm, ⟨13, _⟩ => ⟨S1x2816x1024, .bf16⟩
  | .hbm, ⟨14, _⟩ => ⟨S3x2816x1024, .bf16⟩
  | .hbm, ⟨15, _⟩ => ⟨S1x1024, .f32⟩
  | .hbm, ⟨16, _⟩ => ⟨S2x2304x1024, .f32⟩
  | .hbm, ⟨17, _⟩ => ⟨S2x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3x1024, .f32⟩
  | .local _ .vmem, ⟨3, _⟩ => ⟨S1x1x3x1024, .f32⟩
  | .local _ .vmem, ⟨4, _⟩ => ⟨S1x1024, .f32⟩
  | .local _ .vmem, ⟨5, _⟩ => ⟨S1x2816x1024, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S2x2304x1024 : Shape := ⟨3, ![2, 2304, 1024]⟩
abbrev S2x2x3x1024 : Shape := ⟨4, ![2, 2, 3, 1024]⟩
abbrev S1024 : Shape := ⟨1, ![1024]⟩
abbrev S1024x2816 : Shape := ⟨2, ![1024, 2816]⟩
abbrev S2816x1024 : Shape := ⟨2, ![2816, 1024]⟩
abbrev S2x256x1024 : Shape := ⟨3, ![2, 256, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S2x2048x1024 : Shape := ⟨3, ![2, 2048, 1024]⟩
abbrev S2x2048 : Shape := ⟨2, ![2, 2048]⟩
abbrev S2x2048x1 : Shape := ⟨3, ![2, 2048, 1]⟩
abbrev S2x2304x2816 : Shape := ⟨3, ![2, 2304, 2816]⟩

abbrev nBuf : Space → Nat
  | .hbm => 103
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S2x2x3x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2x256x1024, .f32⟩
  | .hbm, ⟨7, _⟩ => ⟨S2x256x1024, .f32⟩
  | .hbm, ⟨8, _⟩ => ⟨S_, .f32⟩
  | .hbm, ⟨9, _⟩ => ⟨S2x256, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S2x256x1, .f32⟩
  | .hbm, ⟨18, _⟩ => ⟨S2x256x1024, .f32⟩
  | .hbm, ⟨19, _⟩ => ⟨S2x256x1024, .f32⟩
  | .hbm, ⟨20, _⟩ => ⟨S1x1x1024, .f32⟩
  | .hbm, ⟨21, _⟩ => ⟨S2x256x1024, .f32⟩
  | .hbm, ⟨22, _⟩ => ⟨S2x256x1024, .f32⟩
  | .hbm, ⟨23, _⟩ => ⟨S2x1x1x1024, .f32⟩
  | .hbm, ⟨24, _⟩ => ⟨S2x1024, .f32⟩
  | .hbm, ⟨25, _⟩ => ⟨S2x1x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x256x1024, .f32⟩
  | .hbm, ⟨30, _⟩ => ⟨S2x256x1024, .f32⟩
  | .hbm, ⟨31, _⟩ => ⟨S2x1x1x1024, .f32⟩
  | .hbm, ⟨32, _⟩ => ⟨S2x1024, .f32⟩
  | .hbm, ⟨33, _⟩ => ⟨S2x1x1024, .f32⟩
  | .hbm, ⟨34, _⟩ => ⟨S2x256x1024, .f32⟩
  | .hbm, ⟨35, _⟩ => ⟨S2x256x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S_, .f32⟩
  | .hbm, ⟨42, _⟩ => ⟨S2x2048x1, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1, .f32⟩
  | .hbm, ⟨48, _⟩ => ⟨S2x2048x1024, .f32⟩
  | .hbm, ⟨49, _⟩ => ⟨S2x2048x1024, .f32⟩
  | .hbm, ⟨50, _⟩ => ⟨S1x1x1024, .f32⟩
  | .hbm, ⟨51, _⟩ => ⟨S2x2048x1024, .f32⟩
  | .hbm, ⟨52, _⟩ => ⟨S2x2048x1024, .f32⟩
  | .hbm, ⟨53, _⟩ => ⟨S2x1x1x1024, .f32⟩
  | .hbm, ⟨54, _⟩ => ⟨S2x1024, .f32⟩
  | .hbm, ⟨55, _⟩ => ⟨S2x1x1024, .f32⟩
  | .hbm, ⟨56, _⟩ => ⟨S_, .f32⟩
  | .hbm, ⟨57, _⟩ => ⟨S2x1x1024, .f32⟩
  | .hbm, ⟨58, _⟩ => ⟨S2x1x1024, .f32⟩
  | .hbm, ⟨59, _⟩ => ⟨S2x2048x1024, .f32⟩
  | .hbm, ⟨60, _⟩ => ⟨S2x2048x1024, .f32⟩
  | .hbm, ⟨61, _⟩ => ⟨S2x1x1x1024, .f32⟩
  | .hbm, ⟨62, _⟩ => ⟨S2x1024, .f32⟩
  | .hbm, ⟨63, _⟩ => ⟨S2x1x1024, .f32⟩
  | .hbm, ⟨64, _⟩ => ⟨S2x2048x1024, .f32⟩
  | .hbm, ⟨65, _⟩ => ⟨S2x2048x1024, .f32⟩
  | .hbm, ⟨66, _⟩ => ⟨S2x2304x1024, .f32⟩
  | .hbm, ⟨67, _⟩ => ⟨S2x2304x2816, .f32⟩
  | .hbm, ⟨68, _⟩ => ⟨S2x2304x2816, .f32⟩
  | .hbm, ⟨69, _⟩ => ⟨S2x2304x2816, .f32⟩
  | .hbm, ⟨70, _⟩ => ⟨S2x2304x2816, .f32⟩
  | .hbm, ⟨71, _⟩ => ⟨S_, .f32⟩
  | .hbm, ⟨72, _⟩ => ⟨S2x2304x2816, .f32⟩
  | .hbm, ⟨73, _⟩ => ⟨S2x2304x2816, .f32⟩
  | .hbm, ⟨74, _⟩ => ⟨S_, .f32⟩
  | .hbm, ⟨75, _⟩ => ⟨S2x2304x2816, .f32⟩
  | .hbm, ⟨76, _⟩ => ⟨S2x2304x2816, .f32⟩
  | .hbm, ⟨77, _⟩ => ⟨S2x2304x2816, .f32⟩
  | .hbm, ⟨78, _⟩ => ⟨S2x2304x2816, .f32⟩
  | .hbm, ⟨79, _⟩ => ⟨S2x2304x1024, .f32⟩
  | .hbm, ⟨80, _⟩ => ⟨S2x256x1024, .f32⟩
  | .hbm, ⟨81, _⟩ => ⟨S2x1x1x1024, .f32⟩
  | .hbm, ⟨82, _⟩ => ⟨S2x1024, .f32⟩
  | .hbm, ⟨83, _⟩ => ⟨S2x1x1024, .f32⟩
  | .hbm, ⟨84, _⟩ => ⟨S_, .f32⟩
  | .hbm, ⟨85, _⟩ => ⟨S2x1x1024, .f32⟩
  | .hbm, ⟨86, _⟩ => ⟨S2x1x1024, .f32⟩
  | .hbm, ⟨87, _⟩ => ⟨S2x256x1024, .f32⟩
  | .hbm, ⟨88, _⟩ => ⟨S2x256x1024, .f32⟩
  | .hbm, ⟨89, _⟩ => ⟨S2x256x1024, .f32⟩
  | .hbm, ⟨90, _⟩ => ⟨S2x256x1024, .f32⟩
  | .hbm, ⟨91, _⟩ => ⟨S2x2048x1024, .f32⟩
  | .hbm, ⟨92, _⟩ => ⟨S2x1x1x1024, .f32⟩
  | .hbm, ⟨93, _⟩ => ⟨S2x1024, .f32⟩
  | .hbm, ⟨94, _⟩ => ⟨S2x1x1024, .f32⟩
  | .hbm, ⟨95, _⟩ => ⟨S_, .f32⟩
  | .hbm, ⟨96, _⟩ => ⟨S2x1x1024, .f32⟩
  | .hbm, ⟨97, _⟩ => ⟨S2x1x1024, .f32⟩
  | .hbm, ⟨98, _⟩ => ⟨S2x2048x1024, .f32⟩
  | .hbm, ⟨99, _⟩ => ⟨S2x2048x1024, .f32⟩
  | .hbm, ⟨100, _⟩ => ⟨S2x2048x1024, .f32⟩
  | .hbm, ⟨101, _⟩ => ⟨S2x2048x1024, .f32⟩
  | .hbm, ⟨102, _⟩ => ⟨S2x2304x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_7 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_8 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel15.lean ====
abbrev S16x1024 : Shape := ⟨2, ![16, 1024]⟩
abbrev S1024 : Shape := ⟨1, ![1024]⟩
abbrev S2x1024x2304 : Shape := ⟨3, ![2, 1024, 2304]⟩
abbrev S2x2304 : Shape := ⟨2, ![2, 2304]⟩
abbrev S1x1024 : Shape := ⟨2, ![1, 1024]⟩
abbrev S_ : Shape := ⟨0, ![]⟩
abbrev S6x1024 : Shape := ⟨2, ![6, 1024]⟩
abbrev S24x1024 : Shape := ⟨2, ![24, 1024]⟩
abbrev S2x1x2304 : Shape := ⟨3, ![2, 1, 2304]⟩
abbrev S2x24x2304 : Shape := ⟨3, ![2, 24, 2304]⟩
abbrev S1x1024x768 : Shape := ⟨3, ![1, 1024, 768]⟩
abbrev S1x1x768 : Shape := ⟨3, ![1, 1, 768]⟩
abbrev S1x24x768 : Shape := ⟨3, ![1, 24, 768]⟩
abbrev S1024x768 : Shape := ⟨2, ![1024, 768]⟩
abbrev S24x768 : Shape := ⟨2, ![24, 768]⟩
abbrev S1x768 : Shape := ⟨2, ![1, 768]⟩

abbrev nBuf : Space → Nat
  | .hbm => 11
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S2x1024x2304, .f32⟩
  | .hbm, ⟨3, _⟩ => ⟨S2x2304, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S6x1024, .f32⟩
  | .hbm, ⟨8, _⟩ => ⟨S24x1024, .f32⟩
  | .hbm, ⟨9, _⟩ => ⟨S2x1x2304, .f32⟩
  | .hbm, ⟨10, _⟩ => ⟨S2x24x2304, .f32⟩
  | .local _ .vmem, ⟨0, _⟩ => ⟨S24x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x24x768, .f32⟩
  | .local _ .vmem, ⟨6, _⟩ => ⟨S1x24x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference15Ideal.lean ====
abbrev S16x1024 : Shape := ⟨2, ![16, 1024]⟩
abbrev S1024 : Shape := ⟨1, ![1024]⟩
abbrev S2x1024x2304 : Shape := ⟨3, ![2, 1024, 2304]⟩
abbrev S2x2304 : Shape := ⟨2, ![2, 2304]⟩
abbrev S1x1024 : Shape := ⟨2, ![1, 1024]⟩
abbrev S18x1024 : Shape := ⟨2, ![18, 1024]⟩
abbrev S_ : Shape := ⟨0, ![]⟩
abbrev S1x1024x2304 : Shape := ⟨3, ![1, 1024, 2304]⟩
abbrev S1024x2304 : Shape := ⟨2, ![1024, 2304]⟩
abbrev S18x2304 : Shape := ⟨2, ![18, 2304]⟩
abbrev S1x2304 : Shape := ⟨2, ![1, 2304]⟩
abbrev S2304 : Shape := ⟨1, ![2304]⟩
abbrev S1x18x2304 : Shape := ⟨3, ![1, 18, 2304]⟩
abbrev S2x18x2304 : Shape := ⟨3, ![2, 18, 2304]⟩
abbrev S2x1x2304 : Shape := ⟨3, ![2, 1, 2304]⟩
abbrev S2x6x2304 : Shape := ⟨3, ![2, 6, 2304]⟩
abbrev S2x24x2304 : Shape := ⟨3, ![2, 24, 2304]⟩

abbrev nBuf : Space → Nat
  | .hbm => 38
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S2x1024x2304, .f32⟩
  | .hbm, ⟨3, _⟩ => ⟨S2x2304, .f32⟩
  | .hbm, ⟨4, _⟩ => ⟨S1x1024, .f32⟩
  | .hbm, ⟨5, _⟩ => ⟨S1x1024, .f32⟩
  | .hbm, ⟨6, _⟩ => ⟨S18x1024, .f32⟩
  | .hbm, ⟨7, _⟩ => ⟨S18x1024, .f32⟩
  | .hbm, ⟨8, _⟩ => ⟨S18x1024, .f32⟩
  | .hbm, ⟨9, _⟩ => ⟨S_, .f32⟩
  | .hbm, ⟨10, _⟩ => ⟨S18x1024, .f32⟩
  | .hbm, ⟨11, _⟩ => ⟨S18x1024, .f32⟩
  | .hbm, ⟨12, _⟩ => ⟨S_, .f32⟩
  | .hbm, ⟨13, _⟩ => ⟨S18x1024, .f32⟩
  | .hbm, ⟨14, _⟩ => ⟨S18x1024, .f32⟩
  | .hbm, ⟨15, _⟩ => ⟨S18x1024, .f32⟩
  | .hbm, ⟨16, _⟩ => ⟨S1x1024x2304, .f32⟩
  | .hbm, ⟨17, _⟩ => ⟨S1024x2304, .f32⟩
  | .hbm, ⟨18, _⟩ => ⟨S18x2304, .f32⟩
  | .hbm, ⟨19, _⟩ => ⟨S1x2304, .f32⟩
  | .hbm, ⟨20, _⟩ => ⟨S2304, .f32⟩
  | .hbm, ⟨21, _⟩ => ⟨S1x2304, .f32⟩
  | .hbm, ⟨22, _⟩ => ⟨S18x2304, .f32⟩
  | .hbm, ⟨23, _⟩ => ⟨S18x2304, .f32⟩
  | .hbm, ⟨24, _⟩ => ⟨S1x1024x2304, .f32⟩
  | .hbm, ⟨25, _⟩ => ⟨S1024x2304, .f32⟩
  | .hbm, ⟨26, _⟩ => ⟨S18x2304, .f32⟩
  | .hbm, ⟨27, _⟩ => ⟨S1x2304, .f32⟩
  | .hbm, ⟨28, _⟩ => ⟨S2304, .f32⟩
  | .hbm, ⟨29, _⟩ => ⟨S1x2304, .f32⟩
  | .hbm, ⟨30, _⟩ => ⟨S18x2304, .f32⟩
  | .hbm, ⟨31, _⟩ => ⟨S18x2304, .f32⟩
  | .hbm, ⟨32, _⟩ => ⟨S1x18x2304, .f32⟩
  | .hbm, ⟨33, _⟩ => ⟨S1x18x2304, .f32⟩
  | .hbm, ⟨34, _⟩ => ⟨S2x18x2304, .f32⟩
  | .hbm, ⟨35, _⟩ => ⟨S2x1x2304, .f32⟩
  | .hbm, ⟨36, _⟩ => ⟨S2x6x2304, .f32⟩
  | .hbm, ⟨37, _⟩ => ⟨S2x24x2304, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.Finite.lean ====
/- Finite extended reals: what a precondition `|x| < ∞` over a whole array says, and the sum of finitely many reals. -/
module

public import Idealize.ShloMosaic.Lib.Pipeline.ValueKit
public import Idealize.ShloMosaic.Lib.Pointwise
public import Idealize.ShloMosaic.Lib.ReduceAll
public import Idealize.ShloMosaic.Lib.IdealHost

@[expose] public section

namespace Step

open Idealize.ShloMosaic

/-- The word of `+∞` is `⊤`. -/
theorem ofBits_inf : Ideal.ofBits .f32 0x7F800000#32 = ⊤ := by
  simp [Ideal.ofBits, Ideal.ieee]

theorem ofBits_255 : Ideal.ofBits .f32 0x437F0000#32 = ((255 : ℝ) : EReal) := by
  simp [Ideal.ofBits, Ideal.ieee]; norm_cast; norm_num

theorem ofBits_256 : Ideal.ofBits .f32 0x43800000#32 = ((256 : ℝ) : EReal) := by
  simp [Ideal.ofBits, Ideal.ieee]; norm_cast; norm_num

theorem ofBits_127 : Ideal.ofBits .f32 0x42FE0000#32 = ((127 : ℝ) : EReal) := by
  simp [Ideal.ofBits, Ideal.ieee]; norm_cast; norm_num

theorem ofBits_128 : Ideal.ofBits .f32 0x43000000#32 = ((128 : ℝ) : EReal) := by
  simp [Ideal.ofBits, Ideal.ieee]; norm_cast; norm_num

/-- An extended real whose absolute value lies below `⊤` is a real. -/
theorem real_of_abs_lt {x : EReal} (h : max x (-x) < ⊤) : ∃ r : ℝ, x = (r : EReal) := by
  induction x with
  | bot => simp at h
  | top => simp at h
  | coe r => exact ⟨r, rfl⟩

/-- What `jnp.all(jnp.abs(x) < jnp.inf)` says of an array: every element is a real. -/
theorem reals_of_all {s : Shape} {axes : List (Fin s.rank)} {dims} (X : FVec Ideal s .f32) (hb : (⟨0, ![]⟩ : Shape).BroadcastsInDim s dims)
    (init : (⟨0, ![]⟩ : Shape).Idx → BitVec 1) (hr : s.ReducesTo axes ⟨0, ![]⟩) (hu : 0 < (⟨0, ![]⟩ : Shape).numel)
    (j : (⟨0, ![]⟩ : Shape).Idx)
    (h : Host.reduce IntOp.andi (cmpf .olt (Host.absf X) (broadcastInDim s dims hb (constant ⟨0, ![]⟩ .f32 0x7F800000#32))) init hr hu j = 1#1) :
    ∃ x : s.Idx → ℝ, X = fun i => (x i : EReal) := by
  haveI : Subsingleton (⟨0, ![]⟩ : Shape).Idx := ⟨fun a b => by funext k; exact k.elim0⟩
  have key : ∀ i, ∃ r : ℝ, X i = (r : EReal) := by
    intro i
    have e := Host.reduce_andi_all _ _ _ _ j h i
    refine real_of_abs_lt ?_
    have e2 : Ideal.cmp .olt (max (X i) (-(X i))) (Ideal.ofBits .f32 0x7F800000#32) = 1#1 := e
    rw [ofBits_inf] at e2
    by_contra hn
    simp [Ideal.cmp, hn] at e2
  exact ⟨fun i => (key i).choose, funext fun i => (key i).choose_spec⟩

/-- A finite sum of reals, read in the extended reals. -/
@[norm_cast] theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

@[norm_cast] theorem coe_max (a b : ℝ) : ((max a b : ℝ) : EReal) = max (a : EReal) (b : EReal) :=
  EReal.coe_strictMono.monotone.map_max

@[norm_cast] theorem coe_min (a b : ℝ) : ((min a b : ℝ) : EReal) = min (a : EReal) (b : EReal) :=
  EReal.coe_strictMono.monotone.map_min

@[norm_cast] theorem coe_exp (a : ℝ) : ((Real.exp a : ℝ) : EReal) = Ideal.exp (a : EReal) := rfl

@[norm_cast] theorem coe_if (p : Prop) [Decidable p] (a b : ℝ) :
    ((if p then a else b : ℝ) : EReal) = if p then (a : EReal) else (b : EReal) := by split <;> rfl

theorem absf_coe (a : ℝ) : FloatOps.absf (F := Ideal) (φ := .f32) (a : EReal) = ((|a| : ℝ) : EReal) := by
  rw [show FloatOps.absf (F := Ideal) (φ := .f32) (a : EReal) = max (a : EReal) (-(a : EReal)) from rfl, abs]
  norm_cast

theorem log_pos {a : ℝ} (h : 0 < a) : Ideal.log (a : EReal) = (Real.log a : EReal) := by
  rw [Ideal.log_coe, if_neg (not_le.2 h)]

theorem sitofp_eq {w : ℕ} (x : BitVec w) (z : ℤ) (h : x.toInt = z) :
    FloatOps.sitofp (F := Ideal) FTy.f32 x = ((z : ℝ) : EReal) := by
  rw [← h]; rfl

/-- A small natural number's word, cast to a real. -/
theorem sitofp_ofNat {i : ℕ} (hi : i < 2 ^ 24) : FloatOps.sitofp (F := Ideal) FTy.f32 (BitVec.ofNat 32 i) = ((i : ℝ) : EReal) := by
  rw [sitofp_eq _ (i : ℤ) (by rw [BitVec.toInt_eq_toNat_of_lt (by simp only [BitVec.toNat_ofNat]; omega), BitVec.toNat_ofNat]; omega)]; rfl

/-- The word of a small natural number, read as an integer. -/
theorem toInt_ofNat {i : ℕ} (hi : i < 2 ^ 24) : (BitVec.ofNat 32 i).toInt = (i : ℤ) := by
  rw [BitVec.toInt_eq_toNat_of_lt (by simp only [BitVec.toNat_ofNat]; omega), BitVec.toNat_ofNat]; omega

/-- The difference of two small natural numbers' words, read as an integer. -/
theorem toInt_sub {i j : ℕ} (hi : i < 2 ^ 24) (hj : j < 2 ^ 24) :
    (IntOp.subi (BitVec.ofNat 32 i) (BitVec.ofNat 32 j)).toInt = (i : ℤ) - j := by
  rw [show IntOp.subi (BitVec.ofNat 32 i) (BitVec.ofNat 32 j) = BitVec.ofNat 32 i - BitVec.ofNat 32 j from rfl, BitVec.toInt_sub,
    toInt_ofNat hi, toInt_ofNat hj]
  apply Int.bmod_eq_of_le <;> omega

/-- The host's sum over the first two axes of a rank-3 array. -/
theorem hostReduceAdd_first_two {n0 n1 n2 : Nat} (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ k : Fin n0, ∑ l : Fin n1, v (ix3 k l (j 0)) := by
  unfold Ideal.hostReduceAdd
  congr 1
  rw [Finset.sum_filter_eq_sum_of_fiber (fun i => h.drop i = j) (fun kl : Fin n0 × Fin n1 => ix3 kl.1 kl.2 (j 0))
    (fun a b e => Prod.ext (congrFun e 0) (congrFun e 1)) (fun i => ?_) v, Fintype.sum_prod_type]
  have drop0 : (h.drop i 0).val = (i 2).val := rfl
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm.trans drop0
  · rintro ⟨k, rfl⟩
    funext b
    apply Fin.ext
    match b with
    | ⟨0, _⟩ => rfl

end Step
-- ==== Proof.Retention.lean ====
/- Retention over the reals: a sum over all earlier positions with exponentially decaying weights, and the same sum computed chunk
by chunk with a carried state. -/
module

public import Mathlib.Analysis.SpecialFunctions.Exp
public import Mathlib.Analysis.SpecialFunctions.Log.Basic
public import Mathlib.Algebra.BigOperators.Fin
public import Mathlib.Tactic.Ring
public import Mathlib.Tactic.Linarith
public import Mathlib.Tactic.NormNum

@[expose] public section

namespace Step.Retention

open Finset

/-- The weight of a position at distance `x` (counted along the scan): `γ ^ x` with `γ = exp L` at or before the query, else `0`.
The strict weight leaves the position itself out. -/
noncomputable def wt (strict : Bool) (L x : ℝ) : ℝ :=
  if (if strict then 0 < x else 0 ≤ x) then Real.exp (max x 0 * L) else 0

/-- The logarithm of the decay, from its parameter: `log (sigmoid x)`. -/
noncomputable def lsg (x : ℝ) : ℝ := min x 0 - Real.log (1 + Real.exp (-|x|))

variable {D E : Type*} [Fintype D]

/-- The state carried after the first `n` positions. -/
noncomputable def state (L : ℝ) (b : ℕ → D → ℝ) (c : ℕ → E → ℝ) (n : ℕ) (d : D) (e : E) : ℝ :=
  ∑ t ∈ range n, Real.exp (((n : ℝ) - 1 - t) * L) * (b t d * c t e)

/-- The output at position `s`: all positions below `N`, each with its weight. -/
noncomputable def whole (strict : Bool) (L : ℝ) (a b : ℕ → D → ℝ) (c : ℕ → E → ℝ) (N s : ℕ) (e : E) : ℝ :=
  ∑ t ∈ range N, wt strict L ((s : ℝ) - t) * (∑ d, a s d * b t d) * c t e

omit [Fintype D] in
theorem state_zero (L : ℝ) (b : ℕ → D → ℝ) (c : ℕ → E → ℝ) (d : D) (e : E) : state L b c 0 d e = 0 := by simp [state]

omit [Fintype D] in
/-- One chunk of `C` positions more. -/
theorem state_add (L : ℝ) (b : ℕ → D → ℝ) (c : ℕ → E → ℝ) (n C : ℕ) (d : D) (e : E) :
    state L b c (n + C) d e = Real.exp (C * L) * state L b c n d e
      + ∑ r ∈ range C, Real.exp (((C : ℝ) - 1 - r) * L) * (b (n + r) d * c (n + r) e) := by
  unfold state
  rw [sum_range_add, mul_sum]
  congr 1
  · refine sum_congr rfl fun t _ => ?_
    rw [← mul_assoc (Real.exp (C * L)), ← Real.exp_add]; push_cast; congr 2; ring
  · refine sum_congr rfl fun t _ => ?_
    push_cast; congr 2; ring

theorem wt_of_pos (strict : Bool) (L : ℝ) {x : ℝ} (h : 0 < x) : wt strict L x = Real.exp (x * L) := by
  unfold wt
  rw [max_eq_left h.le, if_pos (by cases strict <;> simp [h, h.le])]

theorem wt_of_neg (strict : Bool) (L : ℝ) {x : ℝ} (h : x < 0) : wt strict L x = 0 := by
  unfold wt
  rw [if_neg (by cases strict <;> simp [h, h.le])]

/-- The output by chunks: the chunk's own positions, and the state carried into the chunk. -/
theorem whole_chunk (strict : Bool) (L : ℝ) (a b : ℕ → D → ℝ) (c : ℕ → E → ℝ) {n C r N : ℕ} (hr : r < C) (h : n + C ≤ N) (e : E) :
    whole strict L a b c N (n + r) e
      = ∑ r' ∈ range C, wt strict L ((r : ℝ) - r') * (∑ d, a (n + r) d * b (n + r') d) * c (n + r') e
        + ∑ d, a (n + r) d * Real.exp (((r : ℝ) + 1) * L) * state L b c n d e := by
  obtain ⟨M, rfl⟩ := Nat.exists_eq_add_of_le h
  unfold whole
  rw [sum_range_add, sum_range_add]
  have tail : ∑ t ∈ range M, wt strict L (((n + r : ℕ) : ℝ) - ((n + C + t : ℕ) : ℝ)) * (∑ d, a (n + r) d * b (n + C + t) d) * c (n + C + t) e = 0 := by
    refine sum_eq_zero fun t _ => ?_
    rw [wt_of_neg, zero_mul, zero_mul]
    have : (r : ℝ) < C := by exact_mod_cast hr
    push_cast; have := Nat.cast_nonneg (α := ℝ) t; linarith
  have head : ∑ t ∈ range n, wt strict L (((n + r : ℕ) : ℝ) - (t : ℝ)) * (∑ d, a (n + r) d * b t d) * c t e
      = ∑ d, a (n + r) d * Real.exp (((r : ℝ) + 1) * L) * state L b c n d e := by
    unfold state
    simp only [mul_sum, sum_mul]
    rw [sum_comm]
    refine sum_congr rfl fun d _ => sum_congr rfl fun t ht => ?_
    have ht : (t : ℝ) < n := by exact_mod_cast mem_range.1 ht
    rw [wt_of_pos _ _ (by push_cast; have := Nat.cast_nonneg (α := ℝ) r; linarith)]
    have e1 : (((n + r : ℕ) : ℝ) - t) * L = ((r : ℝ) + 1) * L + ((n : ℝ) - 1 - t) * L := by push_cast; ring
    rw [e1, Real.exp_add]; ring
  rw [tail, head, add_zero, add_comm]
  congr 1
  refine sum_congr rfl fun t _ => ?_
  congr 3
  push_cast; ring

/-- A sum over a chunk, taken in scan order. -/
theorem sum_scan {C : ℕ} (ρ : Equiv.Perm (Fin C)) (g : ℕ → ℝ) : ∑ j, g (ρ j).val = ∑ r ∈ range C, g r := by
  rw [Equiv.sum_comp ρ (fun j => g j.val), Fin.sum_univ_eq_sum_range]

omit [Fintype D] in
/-- One chunk of the state, its rows in any order. -/
theorem chunk_state {C : ℕ} (κ κ' : ℝ) (hκ : (C : ℝ) = κ) (hκ' : κ - 1 = κ') (ρ : Equiv.Perm (Fin C)) (L : ℝ) (b : ℕ → D → ℝ) (c : ℕ → E → ℝ)
    (n : ℕ) (d : D) (e : E) :
    Real.exp (κ * L) * state L b c n d e + ∑ j, b (n + (ρ j).val) d * Real.exp ((κ' - ((ρ j).val : ℝ)) * L) * c (n + (ρ j).val) e
      = state L b c (n + C) d e := by
  subst hκ hκ'
  rw [state_add, ← sum_scan ρ]
  congr 1
  refine sum_congr rfl fun j _ => ?_
  ring

/-- One chunk of the output, its rows in any order. -/
theorem chunk_out {C N : ℕ} (ρ : Equiv.Perm (Fin C)) (strict : Bool) (L : ℝ) (a b : ℕ → D → ℝ) (c : ℕ → E → ℝ) (n : ℕ) (h : n + C ≤ N)
    (i : Fin C) (e : E) :
    ∑ j, (∑ d, a (n + (ρ i).val) d * b (n + (ρ j).val) d) * wt strict L (((ρ i).val : ℝ) - ((ρ j).val : ℝ)) * c (n + (ρ j).val) e
      + ∑ d, a (n + (ρ i).val) d * Real.exp ((((ρ i).val : ℝ) + 1) * L) * state L b c n d e
      = whole strict L a b c N (n + (ρ i).val) e := by
  rw [whole_chunk strict L a b c (ρ i).isLt h, ← sum_scan ρ]
  congr 1
  refine sum_congr rfl fun j _ => ?_
  ring

variable {α : Type*} (x : Fin 2304 → α)

/-- A sequence read along the forward scan. -/
def fw (t : ℕ) : α := x (Fin.ofNat 2304 t)

/-- A sequence read along the backward scan: the first 256 positions reversed, then the others reversed. -/
def bw (t : ℕ) : α := x (Fin.ofNat 2304 (if t < 256 then 255 - t else 2559 - t))

/-- The place of a position in the backward scan. -/
def bpos (s : ℕ) : ℕ := if s < 256 then 255 - s else 2559 - s

/-- A sequence read against a scan. -/
def rv {β : Type*} (y : ℕ → β) (t : ℕ) : β := y (2303 - t)

/-- A sequence read against the forward scan. -/
def fwr : ℕ → α := rv (fw x)

/-- A sequence read against the backward scan. -/
def bwr : ℕ → α := rv (bw x)

/-- What the positions from `n` on hand back to the state before them. -/
noncomputable def tail (L : ℝ) (b : ℕ → D → ℝ) (c : ℕ → E → ℝ) (n : ℕ) (d : D) (e : E) : ℝ :=
  Real.exp L * state L (rv b) (rv c) (2304 - n) d e

/-- The output at position `s` against the scan: all positions from `s` on, each with its weight. -/
noncomputable def later (strict : Bool) (L : ℝ) (a b : ℕ → D → ℝ) (c : ℕ → E → ℝ) (s : ℕ) (e : E) : ℝ :=
  whole strict L (rv a) (rv b) (rv c) 2304 (2303 - s) e

omit [Fintype D] in
theorem tail_end (L : ℝ) (b : ℕ → D → ℝ) (c : ℕ → E → ℝ) (d : D) (e : E) : tail L b c 2304 d e = 0 := by
  rw [tail, Nat.sub_self, state_zero, mul_zero]

theorem rv_at {β : Type*} (y : ℕ → β) {n : ℕ} (h : n + 128 ≤ 2304) (j : Fin 128) : rv y (2176 - n + (Fin.revPerm j).val) = y (n + j.val) := by
  rw [rv, Fin.revPerm_apply, Fin.val_rev]; congr 1; omega

theorem rev_cast (j : Fin 128) : (((Fin.revPerm j).val : ℕ) : ℝ) = 127 - (j.val : ℝ) := by
  rw [Fin.revPerm_apply, Fin.val_rev, Nat.cast_sub (by omega)]; push_cast; ring

omit [Fintype D] in
theorem tail_chunk (L : ℝ) (b : ℕ → D → ℝ) (c : ℕ → E → ℝ) {n : ℕ} (h : n + 128 ≤ 2304) (d : D) (e : E) :
    ∑ j : Fin 128, b (n + j.val) d * Real.exp (((j.val : ℝ) + 1) * L) * c (n + j.val) e + Real.exp (128 * L) * tail L b c (n + 128) d e = tail L b c n d e := by
  have k := chunk_state (C := 128) 128 127 (by norm_num) (by norm_num) Fin.revPerm L (rv b) (rv c) (2176 - n) d e
  unfold tail
  rw [show 2304 - n = 2176 - n + 128 by omega, ← k, show 2304 - (n + 128) = 2176 - n by omega, mul_add, add_comm, mul_sum]
  congr 1
  · ring
  refine sum_congr rfl fun j _ => ?_
  rw [rv_at b h, rv_at c h, rev_cast, show ((j.val : ℝ) + 1) * L = L + (127 - (127 - (j.val : ℝ))) * L by ring, Real.exp_add]
  ring

theorem later_chunk (strict : Bool) (L : ℝ) (a b : ℕ → D → ℝ) (c : ℕ → E → ℝ) {n : ℕ} (h : n + 128 ≤ 2304) (i : Fin 128) (e : E) :
    ∑ d, a (n + i.val) d * Real.exp ((127 - (i.val : ℝ)) * L) * tail L b c (n + 128) d e
      + ∑ j : Fin 128, (∑ d, a (n + i.val) d * b (n + j.val) d) * wt strict L ((j.val : ℝ) - (i.val : ℝ)) * c (n + j.val) e
      = later strict L a b c (n + i.val) e := by
  have k := chunk_out (C := 128) (N := 2304) Fin.revPerm strict L (rv a) (rv b) (rv c) (2176 - n) (by omega) i e
  rw [later, show 2303 - (n + i.val) = 2176 - n + (Fin.revPerm i).val by rw [Fin.revPerm_apply, Fin.val_rev]; omega, ← k, add_comm]
  simp only [rv_at _ h, rev_cast]
  congr 1
  · refine sum_congr rfl fun j _ => ?_
    congr 3; ring
  · unfold tail
    rw [show 2304 - (n + 128) = 2176 - n by omega]
    refine sum_congr rfl fun d _ => ?_
    rw [show (127 - (i.val : ℝ) + 1) * L = (127 - (i.val : ℝ)) * L + L by ring, Real.exp_add]
    ring

end Step.Retention
-- ==== Proof.RetentionKernel.lean ====
/- What one chunk of the retention kernel computes, over the reals: its output rows and the state it hands on. -/
module

public import proofs.«01_k».proof.Proof.Gen.KernelIdeal.Value
public import proofs.«01_k».proof.Proof.Finite
public import proofs.«01_k».proof.Proof.Retention

@[expose] public section

set_option maxRecDepth 16384

noncomputable section

namespace Cert.KernelIdeal.Value

open Cert.KernelIdeal Cert.KernelIdeal.Gen Idealize.ShloMosaic Idealize.ShloMosaic.TcCoe Idealize.SL.Sem
open Step.Retention

/-- A chunk's output block over the reals. -/
theorem out_read (D : Fin 256 → Fin 256 → ℝ) (W : Fin 256 → ℝ) (S : Fin 128 → Fin 128 → ℝ) (a b c : Fin 256 → Fin 128 → ℝ) :
    k0_pay12 (F := Ideal) (fun i => (D (i 0) (i 1) : EReal)) (fun i => (W (i 0) : EReal)) (fun i => (S (i 0) (i 1) : EReal))
        (fun i => (a (i 1) (i 2) : EReal)) (fun i => (b (i 1) (i 2) : EReal)) (fun i => (c (i 1) (i 2) : EReal))
      = fun i => ((∑ j, (∑ d, a (i 1) d * b j d) * D (i 1) j * c j (i 2) + ∑ d, a (i 1) d * W (i 1) * S d (i 2) : ℝ) : EReal) := by
  funext i
  pointwise [k0_pay12, k0_pay10, k0_pay11]
  norm_cast

/-- The state a chunk hands on, over the reals. -/
theorem state_read (WK : Fin 256 → ℝ) (g : ℝ) (S : Fin 128 → Fin 128 → ℝ) (b c : Fin 256 → Fin 128 → ℝ) :
    k0_pay13 (F := Ideal) (fun i => (WK (i 0) : EReal)) (fun _ => (g : EReal)) (fun i => (S (i 0) (i 1) : EReal))
        (fun i => (b (i 1) (i 2) : EReal)) (fun i => (c (i 1) (i 2) : EReal))
      = fun i => ((g * S (i 0) (i 1) + ∑ j, b j (i 0) * WK j * c j (i 1) : ℝ) : EReal) := by
  funext i
  pointwise [k0_pay13, k0_pay10, k0_pay11]
  norm_cast

/-- The logarithm of the decay over the reals. -/
theorem lsg_read (δ : ℝ) : k0_pay3 (F := Ideal) (fun _ => (δ : EReal)) = fun _ => (lsg δ : EReal) := by
  funext i
  pointwise [k0_pay3]
  rw [Step.absf_coe]
  norm_cast
  rw [Step.log_pos (by positivity), zero_sub]
  norm_cast

theorem dist_read {i j : ℕ} (hi : i < 256) (hj : j < 256) : FloatOps.sitofp (F := Ideal) FTy.f32 (IntOp.subi (BitVec.ofNat 32 i) (BitVec.ofNat 32 j))
    = (((i : ℝ) - (j : ℝ) : ℝ) : EReal) := by
  rw [Step.sitofp_eq _ _ (Step.toInt_sub (by omega) (by omega))]
  push_cast; norm_cast

theorem pos_read {i : ℕ} (hi : i < 256) : FloatOps.sitofp (F := Ideal) FTy.f32 (BitVec.ofNat 32 i) = ((i : ℝ) : EReal) := by
  rw [Step.sitofp_eq _ _ (Step.toInt_ofNat (by omega))]; rfl

theorem decay_read (δ : ℝ) : k0_pay5 (F := Ideal) (fun _ => (δ : EReal))
    = fun i => (wt false (lsg δ) (((i 0).val : ℝ) - ((i 1).val : ℝ)) : EReal) := by
  funext i
  pointwise [k0_pay5, k0_pay4, lsg_read]
  rw [dist_read (i 0).isLt (i 1).isLt]
  unfold wt
  norm_cast

theorem wq_read (δ : ℝ) : k0_pay6 (F := Ideal) (fun _ => (δ : EReal))
    = fun i => (Real.exp ((((i 0).val : ℝ) + 1) * lsg δ) : EReal) := by
  funext i
  pointwise [k0_pay6, k0_pay4, k0_pay2, lsg_read]
  rw [pos_read (i 0).isLt]
  norm_cast

theorem wk_read (δ : ℝ) : k0_pay7 (F := Ideal) (fun _ => (δ : EReal))
    = fun i => (Real.exp ((255 - ((i 0).val : ℝ)) * lsg δ) : EReal) := by
  funext i
  pointwise [k0_pay7, k0_pay4, k0_pay2, lsg_read]
  rw [pos_read (i 0).isLt, Step.ofBits_255]
  norm_cast

theorem cd_read (δ : ℝ) : k0_pay8 (F := Ideal) (fun _ => (δ : EReal)) = fun _ => (Real.exp (256 * lsg δ) : EReal) := by
  funext i
  pointwise [k0_pay8, lsg_read]
  rw [Step.ofBits_256]
  norm_cast

theorem zero_read : k0_pay9 (F := Ideal) = fun _ => ((0 : ℝ) : EReal) := by
  funext i
  pointwise [k0_pay9]
  norm_cast

/-- The state handed on, along the scan: `ρ` turns a chunk's rows into its scan order. -/
theorem state_step (ρ : Equiv.Perm (Fin 256)) (L : ℝ) (b c : ℕ → Fin 128 → ℝ) (n : ℕ) :
    k0_pay13 (F := Ideal) (fun i => (Real.exp ((255 - ((ρ (i 0)).val : ℝ)) * L) : EReal)) (fun _ => (Real.exp (256 * L) : EReal))
        (fun i => (state L b c n (i 0) (i 1) : EReal))
        (fun i => (b (n + (ρ (i 1)).val) (i 2) : EReal)) (fun i => (c (n + (ρ (i 1)).val) (i 2) : EReal))
      = fun i => (state L b c (n + 256) (i 0) (i 1) : EReal) := by
  refine (state_read (fun j => Real.exp ((255 - ((ρ j).val : ℝ)) * L)) _ _ (fun j => b (n + (ρ j).val)) (fun j => c (n + (ρ j).val))).trans ?_
  exact funext fun i => congrArg Real.toEReal (chunk_state 256 255 (by norm_num) (by norm_num) ρ L b c n (i 0) (i 1))

/-- A chunk's output along the scan. -/
theorem out_step (ρ : Equiv.Perm (Fin 256)) (strict : Bool) (L : ℝ) (a b c : ℕ → Fin 128 → ℝ) (n : ℕ) (h : n + 256 ≤ 2304) :
    k0_pay12 (F := Ideal) (fun i => (wt strict L (((ρ (i 0)).val : ℝ) - ((ρ (i 1)).val : ℝ)) : EReal))
        (fun i => (Real.exp ((((ρ (i 0)).val : ℝ) + 1) * L) : EReal)) (fun i => (state L b c n (i 0) (i 1) : EReal))
        (fun i => (a (n + (ρ (i 1)).val) (i 2) : EReal)) (fun i => (b (n + (ρ (i 1)).val) (i 2) : EReal))
        (fun i => (c (n + (ρ (i 1)).val) (i 2) : EReal))
      = fun i => (whole strict L a b c 2304 (n + (ρ (i 1)).val) (i 2) : EReal) := by
  refine (out_read (fun i j => wt strict L (((ρ i).val : ℝ) - ((ρ j).val : ℝ))) (fun i => Real.exp ((((ρ i).val : ℝ) + 1) * L)) _
    (fun j => a (n + (ρ j).val)) (fun j => b (n + (ρ j).val)) (fun j => c (n + (ρ j).val))).trans ?_
  exact funext fun i => congrArg Real.toEReal (chunk_out ρ strict L a b c n h (i 1) (i 2))

/-- A sequence's block, as the body reads it. -/
abbrev blk (x : Fin 2304 → Fin 128 → ℝ) : Vec Ideal S1x2304x128 .f32 := fun i => (x (i 1) (i 2) : EReal)

abbrev dec (δ : ℝ) : Vec Ideal S1x1x128 .f32 := fun _ => (δ : EReal)

/-- The state after `n` positions of a scan. -/
abbrev st (L : ℝ) (b c : ℕ → Fin 128 → ℝ) (n : ℕ) : FVec Ideal S128x128 .f32 := fun i => (state L b c n (i 0) (i 1) : EReal)

/-- The chunk that begins at position `n` of a scan. -/
abbrev ch (ρ : Equiv.Perm (Fin 256)) (y : ℕ → Fin 128 → ℝ) (n : ℕ) : Vec Ideal S1x256x128 .f32 :=
  fun i => (y (n + (ρ (i 1)).val) (i 2) : EReal)

abbrev wkv (ρ : Equiv.Perm (Fin 256)) (L : ℝ) : FVec Ideal S256x1 .f32 := fun i => (Real.exp ((255 - ((ρ (i 0)).val : ℝ)) * L) : EReal)
abbrev wqv (ρ : Equiv.Perm (Fin 256)) (L : ℝ) : FVec Ideal S256x1 .f32 := fun i => (Real.exp ((((ρ (i 0)).val : ℝ) + 1) * L) : EReal)
abbrev wdv (ρ : Equiv.Perm (Fin 256)) (strict : Bool) (L : ℝ) : FVec Ideal S256x256 .f32 :=
  fun i => (wt strict L (((ρ (i 0)).val : ℝ) - ((ρ (i 1)).val : ℝ)) : EReal)

theorem step {ρ : Equiv.Perm (Fin 256)} {L : ℝ} {b c : ℕ → Fin 128 → ℝ} {n : ℕ} {WK CD S B C} (hWK : WK = wkv ρ L)
    (hCD : CD = fun _ => (Real.exp (256 * L) : EReal)) (hS : S = st L b c n) (hB : B = ch ρ b n) (hC : C = ch ρ c n) :
    k0_pay13 WK CD S B C = st L b c (n + 256) := by
  subst hWK hCD hS hB hC; exact state_step ρ L b c n

theorem outp {ρ : Equiv.Perm (Fin 256)} {strict : Bool} {L : ℝ} {a b c : ℕ → Fin 128 → ℝ} {n : ℕ} (h : n + 256 ≤ 2304) {WD WQ S A B C}
    (hWD : WD = wdv ρ strict L) (hWQ : WQ = wqv ρ L) (hS : S = st L b c n) (hA : A = ch ρ a n) (hB : B = ch ρ b n) (hC : C = ch ρ c n) :
    k0_pay12 WD WQ S A B C = fun i => (whole strict L a b c 2304 (n + (ρ (i 1)).val) (i 2) : EReal) := by
  subst hWD hWQ hS hA hB hC; exact out_step ρ strict L a b c n h

/-- A chunk's load, in scan order. -/
theorem ld_scan (x : Fin 2304 → Fin 128 → ℝ) (ρ : Equiv.Perm (Fin 256)) (y : ℕ → Fin 128 → ℝ) (o n : ℕ) (h)
    (hy : ∀ j d, y (n + (ρ j).val) d = x (Fin.ofNat 2304 (o + j.val)) d) :
    View.ld (blk x) (Rect.unit (s := S1x2304x128) ![0, o, 0] S1x256x128.size h) = ch ρ y n := by
  funext i
  refine (congrArg Real.toEReal ?_).trans (congrArg Real.toEReal (hy (i 1) (i 2)).symm)
  have h1 : (i 1).val < 256 := (i 1).isLt
  have h2 : o + 256 ≤ 2304 := h 1
  refine congrArg₂ x (Fin.ext ?_) (Fin.ext ?_)
  · simp [Fin.ofNat]
    show o + (i 1).val = (o + (i 1).val) % 2304
    omega
  · simp

theorem inb {o : ℕ} (h : o + 256 ≤ 2304) : ∀ a : Fin S1x2304x128.rank, (![0, o, 0] : Fin 3 → ℕ) a + S1x256x128.size a ≤ S1x2304x128.size a
  | ⟨0, _⟩ => le_refl 1
  | ⟨1, _⟩ => h
  | ⟨2, _⟩ => le_refl 128

theorem ldF (x : Fin 2304 → Fin 128 → ℝ) (k : Fin 9) :
    View.ld (blk x) (Rect.unit (s := S1x2304x128) ![0, 256 * k.val, 0] S1x256x128.size (inb (by omega))) = ch 1 (fw x) (256 * k.val) :=
  ld_scan x 1 (fw x) _ _ _ fun _ _ => rfl

theorem ldB0 (x : Fin 2304 → Fin 128 → ℝ) : View.ld (blk x) r0_1 = ch Fin.revPerm (bw x) 0 :=
  ld_scan x _ _ _ _ _ fun j d => by
    simp only [bw, Fin.revPerm_apply, Fin.val_rev]
    rw [if_pos (by omega)]; congr 2; omega

theorem ldB (x : Fin 2304 → Fin 128 → ℝ) (k : Fin 8) :
    View.ld (blk x) (Rect.unit (s := S1x2304x128) ![0, 256 * (8 - k.val), 0] S1x256x128.size (inb (by omega))) = ch Fin.revPerm (bw x) (256 * (k.val + 1)) :=
  ld_scan x _ _ _ _ _ fun j d => by
    simp only [bw, Fin.revPerm_apply, Fin.val_rev]
    rw [if_neg (by omega)]; congr 2; omega

/-- A chunk's stored row, at its place in the whole array. -/
theorem at_scan {f : ℕ → Fin 128 → ℝ} {ρ : Equiv.Perm (Fin 256)} {n : ℕ} {P : Vec Ideal S1x256x128 .f32}
    (o : P = fun i => (f (n + (ρ (i 1)).val) (i 2) : EReal)) {s : ℕ} {x : S1x256x128.Idx} {y : S1x2304x128.Idx} (h1 : n + (ρ (x 1)).val = s)
    (h2 : (y 2).val = (x 2).val) : P x = (f s (y 2) : EReal) := by
  subst h1
  exact (congrFun o x).trans (congrArg Real.toEReal (congrArg (f _) (Fin.ext h2.symm)))

section

variable (δ δ' : ℝ) (x0 x1 x2 : Fin 2304 → Fin 128 → ℝ)

theorem stF0 : k0_pay113 (F := Ideal) (blk x0) (blk x1) (blk x2) (dec δ) (dec δ') = st (lsg δ) (fw x1) (fw x2) 0 :=
  zero_read.trans (funext fun i => congrArg Real.toEReal (state_zero _ _ _ _ _).symm)

theorem wkF : k0_pay111 (F := Ideal) (blk x0) (blk x1) (blk x2) (dec δ) (dec δ') = wkv 1 (lsg δ) := wk_read δ
theorem wqF : k0_pay110 (F := Ideal) (blk x0) (blk x1) (blk x2) (dec δ) (dec δ') = wqv 1 (lsg δ) := wq_read δ
theorem wdF : k0_pay109 (F := Ideal) (blk x0) (blk x1) (blk x2) (dec δ) (dec δ') = wdv 1 false (lsg δ) := decay_read δ
theorem cdF : k0_pay112 (F := Ideal) (blk x0) (blk x1) (blk x2) (dec δ) (dec δ') = fun _ => (Real.exp (256 * lsg δ) : EReal) := cd_read δ

theorem out5 : out0_5 (F := Ideal) (blk x0) (blk x1) (blk x2) (dec δ) (dec δ')
    = fun i => (whole false (lsg δ) (fw x0) (fw x1) (fw x2) 2304 (i 1).val (i 2) : EReal) := by
  have wk := wkF δ δ' x0 x1 x2
  have wq := wqF δ δ' x0 x1 x2
  have wd := wdF δ δ' x0 x1 x2
  have cd := cdF δ δ' x0 x1 x2
  have s0 := stF0 δ δ' x0 x1 x2
  have s1 := step wk cd s0 (ldF x1 0) (ldF x2 0)
  have s2 := step wk cd s1 (ldF x1 1) (ldF x2 1)
  have s3 := step wk cd s2 (ldF x1 2) (ldF x2 2)
  have s4 := step wk cd s3 (ldF x1 3) (ldF x2 3)
  have s5 := step wk cd s4 (ldF x1 4) (ldF x2 4)
  have s6 := step wk cd s5 (ldF x1 5) (ldF x2 5)
  have s7 := step wk cd s6 (ldF x1 6) (ldF x2 6)
  have s8 := step wk cd s7 (ldF x1 7) (ldF x2 7)
  have o0 := outp (by norm_num) wd wq s0 (ldF x0 0) (ldF x1 0) (ldF x2 0)
  have o1 := outp (by norm_num) wd wq s1 (ldF x0 1) (ldF x1 1) (ldF x2 1)
  have o2 := outp (by norm_num) wd wq s2 (ldF x0 2) (ldF x1 2) (ldF x2 2)
  have o3 := outp (by norm_num) wd wq s3 (ldF x0 3) (ldF x1 3) (ldF x2 3)
  have o4 := outp (by norm_num) wd wq s4 (ldF x0 4) (ldF x1 4) (ldF x2 4)
  have o5 := outp (by norm_num) wd wq s5 (ldF x0 5) (ldF x1 5) (ldF x2 5)
  have o6 := outp (by norm_num) wd wq s6 (ldF x0 6) (ldF x1 6) (ldF x2 6)
  have o7 := outp (by norm_num) wd wq s7 (ldF x0 7) (ldF x1 7) (ldF x2 7)
  have o8 := outp (by norm_num) wd wq s8 (ldF x0 8) (ldF x1 8) (ldF x2 8)
  funext y
  unfold out0_5
  canon_tiles x h
  · exact at_scan o8 (by simp only [h1]; rfl) h2
  · exact at_scan o7 (by simp only [h1]; rfl) h2
  · exact at_scan o6 (by simp only [h1]; rfl) h2
  · exact at_scan o5 (by simp only [h1]; rfl) h2
  · exact at_scan o4 (by simp only [h1]; rfl) h2
  · exact at_scan o3 (by simp only [h1]; rfl) h2
  · exact at_scan o2 (by simp only [h1]; rfl) h2
  · exact at_scan o1 (by simp only [h1]; rfl) h2
  · exact at_scan o0 (by simp only [h1]; exact Nat.zero_add _) h2

theorem revc (i : Fin 256) : (((Fin.revPerm i).val : ℕ) : ℝ) = 255 - (i.val : ℝ) := by
  rw [Fin.revPerm_apply, Fin.val_rev, Nat.cast_sub (by omega)]; push_cast; ring

theorem lsg_read' (δ : ℝ) : k0_pay56 (F := Ideal) (k0_pay54 (fun _ => (δ : EReal))) (k0_pay55 (fun _ => (δ : EReal))) = fun _ => (lsg δ : EReal) :=
  Eq.trans (b := (fun i => min (δ : EReal) 0 - Ideal.log (1 + Ideal.exp (0 - FloatOps.absf (F := Ideal) (φ := .f32) (δ : EReal)))))
    (by funext i; pointwise [k0_pay56, k0_pay54, k0_pay55, k0_pay53]) (by
  funext i
  rw [Step.absf_coe]
  norm_cast
  rw [Step.log_pos (by positivity), zero_sub]
  norm_cast)

theorem wdB : k0_pay129 (F := Ideal) (blk x0) (blk x1) (blk x2) (dec δ') (dec δ) = wdv Fin.revPerm true (lsg δ) := by
  funext i
  show k0_pay58 (F := Ideal) (iota .tc S256x256 32 [0] iota_S256x256_d0_w32) (iota .tc S256x256 32 [1] iota_S256x256_d1_w32)
    (k0_pay54 (fun _ => (δ : EReal))) (k0_pay55 (fun _ => (δ : EReal))) i = _
  pointwise [k0_pay58, k0_pay57, lsg_read']
  rw [dist_read (i 1).isLt (i 0).isLt]
  refine Eq.trans ?_ (congrArg (fun z : ℝ => (wt true (lsg δ) z : EReal)) (show _ = ((Fin.revPerm (i 0)).val : ℝ) - ((Fin.revPerm (i 1)).val : ℝ) from
    (show ((i 1).val : ℝ) - ((i 0).val : ℝ) = (255 - ((i 0).val : ℝ)) - (255 - ((i 1).val : ℝ)) by ring).trans
      (congrArg₂ (· - ·) (revc (i 0)).symm (revc (i 1)).symm)))
  unfold wt
  norm_cast

theorem wqB : k0_pay130 (F := Ideal) (blk x0) (blk x1) (blk x2) (dec δ') (dec δ) = wqv Fin.revPerm (lsg δ) := by
  funext i
  show k0_pay60 (F := Ideal) (k0_pay2 (F := Ideal)) (k0_pay54 (fun _ => (δ : EReal))) (k0_pay55 (fun _ => (δ : EReal))) i = _
  pointwise [k0_pay60, k0_pay59, k0_pay57, k0_pay2, lsg_read']
  rw [pos_read (i 0).isLt, Step.ofBits_255]
  refine Eq.trans ?_ (congrArg (fun z : ℝ => (Real.exp ((z + 1) * lsg δ) : EReal)) (revc (i 0)).symm)
  norm_cast

theorem wkB : k0_pay131 (F := Ideal) (blk x0) (blk x1) (blk x2) (dec δ') (dec δ) = wkv Fin.revPerm (lsg δ) := by
  funext i
  show k0_pay61 (F := Ideal) (k0_pay2 (F := Ideal)) (k0_pay54 (fun _ => (δ : EReal))) (k0_pay55 (fun _ => (δ : EReal))) i = _
  pointwise [k0_pay61, k0_pay59, k0_pay57, k0_pay2, lsg_read']
  rw [pos_read (i 0).isLt, Step.ofBits_255]
  refine Eq.trans ?_ (congrArg (fun z : ℝ => (Real.exp ((255 - z) * lsg δ) : EReal)) (revc (i 0)).symm)
  norm_cast

theorem cdB : k0_pay132 (F := Ideal) (blk x0) (blk x1) (blk x2) (dec δ') (dec δ) = fun _ => (Real.exp (256 * lsg δ) : EReal) := by
  funext i
  show k0_pay62 (F := Ideal) (k0_pay54 (fun _ => (δ : EReal))) (k0_pay55 (fun _ => (δ : EReal))) i = _
  pointwise [k0_pay62, lsg_read']
  rw [Step.ofBits_256]
  norm_cast

theorem stB0 : k0_pay133 (F := Ideal) (blk x0) (blk x1) (blk x2) (dec δ') (dec δ) = st (lsg δ) (bw x1) (bw x2) 0 :=
  zero_read.trans (funext fun i => congrArg Real.toEReal (state_zero _ _ _ _ _).symm)

theorem bpos_lo {i : Fin 256} {s : ℕ} (h : s = i.val) : 0 + (Fin.revPerm i).val = bpos s := by
  rw [Fin.revPerm_apply, Fin.val_rev, bpos, if_pos (by omega)]; omega

theorem bpos_hi {i : Fin 256} {n o s : ℕ} (h : s = o + i.val) (ho : 256 ≤ o) (hn : o + n = 2304) : n + (Fin.revPerm i).val = bpos s := by
  rw [Fin.revPerm_apply, Fin.val_rev, bpos, if_neg (by omega)]; omega

/-- The second output: the backward scan. -/
theorem out6 : out0_6 (F := Ideal) (blk x0) (blk x1) (blk x2) (dec δ') (dec δ)
    = fun i => (whole true (lsg δ) (bw x0) (bw x1) (bw x2) 2304 (bpos (i 1).val) (i 2) : EReal) := by
  have wk := wkB δ δ' x0 x1 x2
  have wq := wqB δ δ' x0 x1 x2
  have wd := wdB δ δ' x0 x1 x2
  have cd := cdB δ δ' x0 x1 x2
  have s0 := stB0 δ δ' x0 x1 x2
  have s1 := step wk cd s0 (ldB0 x1) (ldB0 x2)
  have s2 := step wk cd s1 (ldB x1 0) (ldB x2 0)
  have s3 := step wk cd s2 (ldB x1 1) (ldB x2 1)
  have s4 := step wk cd s3 (ldB x1 2) (ldB x2 2)
  have s5 := step wk cd s4 (ldB x1 3) (ldB x2 3)
  have s6 := step wk cd s5 (ldB x1 4) (ldB x2 4)
  have s7 := step wk cd s6 (ldB x1 5) (ldB x2 5)
  have s8 := step wk cd s7 (ldB x1 6) (ldB x2 6)
  have o0 := outp (by norm_num) wd wq s0 (ldB0 x0) (ldB0 x1) (ldB0 x2)
  have o1 := outp (by norm_num) wd wq s1 (ldB x0 0) (ldB x1 0) (ldB x2 0)
  have o2 := outp (by norm_num) wd wq s2 (ldB x0 1) (ldB x1 1) (ldB x2 1)
  have o3 := outp (by norm_num) wd wq s3 (ldB x0 2) (ldB x1 2) (ldB x2 2)
  have o4 := outp (by norm_num) wd wq s4 (ldB x0 3) (ldB x1 3) (ldB x2 3)
  have o5 := outp (by norm_num) wd wq s5 (ldB x0 4) (ldB x1 4) (ldB x2 4)
  have o6 := outp (by norm_num) wd wq s6 (ldB x0 5) (ldB x1 5) (ldB x2 5)
  have o7 := outp (by norm_num) wd wq s7 (ldB x0 6) (ldB x1 6) (ldB x2 6)
  have o8 := outp (by norm_num) wd wq s8 (ldB x0 7) (ldB x1 7) (ldB x2 7)
  funext y
  unfold out0_6
  canon_tiles x h
  · exact at_scan o8 (bpos_hi h1 (by norm_num) rfl) h2
  · exact at_scan o7 (bpos_hi h1 (by norm_num) rfl) h2
  · exact at_scan o6 (bpos_hi h1 (by norm_num) rfl) h2
  · exact at_scan o5 (bpos_hi h1 (by norm_num) rfl) h2
  · exact at_scan o4 (bpos_hi h1 (by norm_num) rfl) h2
  · exact at_scan o3 (bpos_hi h1 (by norm_num) rfl) h2
  · exact at_scan o2 (bpos_hi h1 (by norm_num) rfl) h2
  · exact at_scan o1 (bpos_hi h1 (by norm_num) rfl) h2
  · exact at_scan o0 (bpos_lo h1) h2

end

end Cert.KernelIdeal.Value
-- ==== Proof.RetentionFinal.lean ====
/- The retention kernel's two arrays over the reals: each head's forward and backward scan. -/
module

public import proofs.«01_k».proof.Proof.RetentionKernel

@[expose] public section

set_option maxRecDepth 16384

noncomputable section

namespace Cert.KernelIdeal.Value

open Cert.KernelIdeal Cert.KernelIdeal.Gen Idealize.ShloMosaic Idealize.ShloMosaic.TcCoe Idealize.SL.Sem
open Step.Retention

variable (m : (ℓ : Loc nD τ sig) → Buf (Elt Ideal) ℓ) (c : Dev nD)

/-- One head of one batch row. -/
def hd (x : S2x2304x512.Idx → ℝ) (b : Fin 2) (h : Fin 4) : Fin 2304 → Fin 128 → ℝ :=
  fun s e => x (ix3 b s ⟨128 * h.val + e.val, by omega⟩)

/-- The head of a column, and its place in the head. -/
abbrev hof (j : Fin 512) : Fin 4 := ⟨j.val / 128, by omega⟩
abbrev eof (j : Fin 512) : Fin 128 := ⟨j.val % 128, by omega⟩

theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val % 4, 0, 0] ∧ win0_4.index t = ![t.val % 4, 0, 0]
    ∧ win0_5.index t = ![t.val / 4, 0, t.val % 4] ∧ win0_6.index t = ![t.val / 4, 0, t.val % 4] :=
  (by decide +kernel : ∀ t : Fin grid0.N, _)

theorem lt8 (t : Fin cfg0.N) : t.val < 8 := lt_of_lt_of_eq t.isLt N_0

abbrev tb (t : Fin cfg0.N) : Fin 2 := ⟨t.val / 4, by have := lt8 t; omega⟩
abbrev th (t : Fin cfg0.N) : Fin 4 := ⟨t.val % 4, by omega⟩

/-- A block's column in the whole array. -/
abbrev col (t : Fin cfg0.N) (j : S1x2304x128.Idx) : Fin 512 := ⟨128 * (t.val % 4) + (j 2).val, by have : (j 2).val < 128 := (j 2).isLt; omega⟩

theorem blk0 (t : Fin cfg0.N) (x : S2x2304x512.Idx → ℝ) (hx : m ((c : Thread nD τ).loc main_arg3) = fun i => (x i : EReal)) :
    iblk m c 0 t = blk (hd x (tb t) (th t)) := by
  funext j
  refine Eq.trans (b := m ((c : Thread nD τ).loc main_arg3) (ix3 (tb t) (j 1) (col t j))) ?_ (by rw [hx]; rfl)
  blk_point [iblk, V, idx t]

theorem blk1 (t : Fin cfg0.N) (x : S2x2304x512.Idx → ℝ) (hx : m ((c : Thread nD τ).loc main_arg2) = fun i => (x i : EReal)) :
    iblk m c 1 t = blk (hd x (tb t) (th t)) := by
  funext j
  refine Eq.trans (b := m ((c : Thread nD τ).loc main_arg2) (ix3 (tb t) (j 1) (col t j))) ?_ (by rw [hx]; rfl)
  blk_point [iblk, V, idx t]

theorem blk2 (t : Fin cfg0.N) (x : S2x2304x512.Idx → ℝ) (hx : m ((c : Thread nD τ).loc main_arg1) = fun i => (x i : EReal)) :
    iblk m c 2 t = blk (hd x (tb t) (th t)) := by
  funext j
  refine Eq.trans (b := m ((c : Thread nD τ).loc main_arg1) (ix3 (tb t) (j 1) (col t j))) ?_ (by rw [hx]; rfl)
  blk_point [iblk, V, idx t]

theorem blk3 (t : Fin cfg0.N) (x : S4.Idx → ℝ) (hx : m ((c : Thread nD τ).loc main_arg4) = fun i => (x i : EReal)) :
    iblk m c 3 t = dec (x (ix1 (th t))) := by
  funext j
  refine Eq.trans (b := m ((c : Thread nD τ).loc main_arg4) (ix1 (th t))) ?_ (by rw [hx])
  unfold iblk
  entry_read
  blk_simp
  pointwise
  blk_point [idx t]

theorem blk4 (t : Fin cfg0.N) (x : S4.Idx → ℝ) (hx : m ((c : Thread nD τ).loc main_arg5) = fun i => (x i : EReal)) :
    iblk m c 4 t = dec (x (ix1 (th t))) := by
  funext j
  refine Eq.trans (b := m ((c : Thread nD τ).loc main_arg5) (ix1 (th t))) ?_ (by rw [hx])
  unfold iblk
  entry_read
  blk_simp
  pointwise
  blk_point [idx t]

/-- Retention of three whole arrays over the reals, every head by itself. -/
def ret (strict : Bool) (scan : ∀ {α : Type}, (Fin 2304 → α) → ℕ → α) (pos : ℕ → ℕ) (δ : S4.Idx → ℝ) (a b c : S2x2304x512.Idx → ℝ) :
    S2x2304x512.Idx → ℝ := fun i =>
  whole strict (lsg (δ (ix1 (hof (i 2))))) (scan (hd a (i 0) (hof (i 2)))) (scan (hd b (i 0) (hof (i 2)))) (scan (hd c (i 0) (hof (i 2)))) 2304
    (pos (i 1).val) (eof (i 2))

variable (x0 x1 x2 : S2x2304x512.Idx → ℝ) (d d' : S4.Idx → ℝ)
  (h0 : m ((c : Thread nD τ).loc main_arg3) = fun i => (x0 i : EReal)) (h1 : m ((c : Thread nD τ).loc main_arg2) = fun i => (x1 i : EReal))
  (h2 : m ((c : Thread nD τ).loc main_arg1) = fun i => (x2 i : EReal)) (h3 : m ((c : Thread nD τ).loc main_arg4) = fun i => (d i : EReal))
  (h4 : m ((c : Thread nD τ).loc main_arg5) = fun i => (d' i : EReal))

include h0 h1 h2 h3 h4

theorem point5 (t : Fin cfg0.N) (y : S1x2304x128.Idx) (i : S2x2304x512.Idx) (e0 : (i 0).val = t.val / 4) (e1 : (i 1).val = (y 1).val)
    (e2 : (i 2).val = 128 * (t.val % 4) + (y 2).val) :
    out0_5 (iblk m c 0 t) (iblk m c 1 t) (iblk m c 2 t) (iblk m c 3 t) (iblk m c 4 t) y = (ret false fw id d x0 x1 x2 i : EReal) := by
  rw [blk0 m c t x0 h0, blk1 m c t x1 h1, blk2 m c t x2 h2, blk3 m c t d h3, blk4 m c t d' h4, out5]
  have hy : (y 2).val < 128 := (y 2).isLt
  refine congrArg Real.toEReal ?_
  unfold ret
  rw [show i 0 = tb t from Fin.ext e0, show hof (i 2) = th t from Fin.ext (by show (i 2).val / 128 = t.val % 4; omega),
    show eof (i 2) = y 2 from Fin.ext (by show (i 2).val % 128 = (y 2).val; omega), e1]
  rfl

theorem final5 : (dats m 0 c).arrAt 5 (cfgs 0).N = fun i => (ret false fw id d x0 x1 x2 i : EReal) := by
  refine (dats m 0 c).arrAt_eq_of_covers 5 _ (by decide +kernel) fun t _ y => ?_
  blk_simp
  rw [after0_5]
  refine point5 m c x0 x1 x2 d d' h0 h1 h2 h3 h4 t y _ ?_ ?_ ?_ <;> (blk_simp; rw [(idx t).2.2.2.2.2.1] <;> simp [mul_comm])

theorem point6 (t : Fin cfg0.N) (y : S1x2304x128.Idx) (i : S2x2304x512.Idx) (e0 : (i 0).val = t.val / 4) (e1 : (i 1).val = (y 1).val)
    (e2 : (i 2).val = 128 * (t.val % 4) + (y 2).val) :
    out0_6 (iblk m c 0 t) (iblk m c 1 t) (iblk m c 2 t) (iblk m c 3 t) (iblk m c 4 t) y = (ret true bw bpos d' x0 x1 x2 i : EReal) := by
  rw [blk0 m c t x0 h0, blk1 m c t x1 h1, blk2 m c t x2 h2, blk3 m c t d h3, blk4 m c t d' h4, out6]
  have hy : (y 2).val < 128 := (y 2).isLt
  refine congrArg Real.toEReal ?_
  unfold ret
  rw [show i 0 = tb t from Fin.ext e0, show hof (i 2) = th t from Fin.ext (by show (i 2).val / 128 = t.val % 4; omega),
    show eof (i 2) = y 2 from Fin.ext (by show (i 2).val % 128 = (y 2).val; omega), e1]

theorem final6 : (dats m 0 c).arrAt 6 (cfgs 0).N = fun i => (ret true bw bpos d' x0 x1 x2 i : EReal) := by
  refine (dats m 0 c).arrAt_eq_of_covers 6 _ (by decide +kernel) fun t _ y => ?_
  blk_simp
  rw [after0_6]
  refine point6 m c x0 x1 x2 d d' h0 h1 h2 h3 h4 t y _ ?_ ?_ ?_ <;> (blk_simp; rw [(idx t).2.2.2.2.2.2] <;> simp [mul_comm])

end Cert.KernelIdeal.Value
-- ==== Proof.RetArrays.lean ====
/- The reference's chunked array operations over the reals: the chunks' outer products, the carried state, and the rows of a chunk's result. -/
module

public import proofs.«01_k».proof.Proof.Retention
public import proofs.«01_k».proof.Proof.Finite
public import proofs.«01_k».proof.Proof.Gen.ReferenceIdeal.Read

@[expose] public section

set_option maxRecDepth 16384

noncomputable section

namespace Cert.ReferenceIdeal.Chunks

open Cert.ReferenceIdeal Cert.ReferenceIdeal.Gen Idealize.ShloMosaic Idealize.ShloMosaic.TcCoe Idealize.SL.Sem Idealize.ShloMosaic.StableHlo
open Step.Retention

/-- A family of sequences, one for each batch row and head, read along a scan. -/
abbrev Seqs := Fin 2 → Fin 4 → ℕ → Fin 128 → ℝ

/-- Such a family's positions from `n` on, in chunks of 128. -/
abbrev ch2 (b : Seqs) (n : ℕ) : FVec Ideal S2x2x128x4x128 .f32 := fun i => (b (i 0) (i 3) (n + 128 * (i 1).val + (i 2).val) (i 4) : EReal)
abbrev ch16 (b : Seqs) (n : ℕ) : FVec Ideal S2x16x128x4x128 .f32 := fun i => (b (i 0) (i 3) (n + 128 * (i 1).val + (i 2).val) (i 4) : EReal)

/-- The states of all heads after `n` positions, and those at the start of each chunk. -/
abbrev stA (L : Fin 4 → ℝ) (b c : Seqs) (n : ℕ) : FVec Ideal S2x4x128x128 .f32 :=
  fun i => (state (L (i 1)) (b (i 0) (i 1)) (c (i 0) (i 1)) n (i 2) (i 3) : EReal)
abbrev stA2 (L : Fin 4 → ℝ) (b c : Seqs) (n : ℕ) : FVec Ideal S2x2x4x128x128 .f32 :=
  fun i => (state (L (i 2)) (b (i 0) (i 2)) (c (i 0) (i 2)) (n + 128 * (i 1).val) (i 3) (i 4) : EReal)
abbrev stA16 (L : Fin 4 → ℝ) (b c : Seqs) (n : ℕ) : FVec Ideal S2x16x4x128x128 .f32 :=
  fun i => (state (L (i 2)) (b (i 0) (i 2)) (c (i 0) (i 2)) (n + 128 * (i 1).val) (i 3) (i 4) : EReal)

abbrev wkA (L : Fin 4 → ℝ) : FVec Ideal S128x4 .f32 := fun i => (Real.exp ((127 - ((i 0).val : ℝ)) * L (i 1)) : EReal)
abbrev wqA (L : Fin 4 → ℝ) : FVec Ideal S128x4 .f32 := fun i => (Real.exp ((((i 0).val : ℝ) + 1) * L (i 1)) : EReal)
abbrev cdA (L : Fin 4 → ℝ) : FVec Ideal S4 .f32 := fun i => (Real.exp (128 * L (i 0)) : EReal)
abbrev wdA (strict : Bool) (L : Fin 4 → ℝ) : FVec Ideal S4x128x128 .f32 :=
  fun i => (wt strict (L (i 0)) (((i 1).val : ℝ) - ((i 2).val : ℝ)) : EReal)

def bw2 (W : FVec Ideal S128x4 .f32) : FVec Ideal S2x2x128x4x128 .f32 :=
  broadcastInDim S2x2x128x4x128 ![0, 1, 2, 3, 4] bcast_S1x1x128x4x1_S2x2x128x4x128_0_1_2_3_4
    (broadcastInDim S1x1x128x4x1 ![2, 3] bcast_S128x4_S1x1x128x4x1_2_3 W)

def bw16 (W : FVec Ideal S128x4 .f32) : FVec Ideal S2x16x128x4x128 .f32 :=
  broadcastInDim S2x16x128x4x128 ![0, 1, 2, 3, 4] bcast_S1x1x128x4x1_S2x16x128x4x128_0_1_2_3_4
    (broadcastInDim S1x1x128x4x1 ![2, 3] bcast_S128x4_S1x1x128x4x1_2_3 W)

def kv2 (K V : FVec Ideal S2x2x128x4x128 .f32) (W : FVec Ideal S128x4 .f32) : FVec Ideal S2x2x4x128x128 .f32 :=
  Host.dotGeneral dot_S2x2x128x4x128_S2x2x128x4x128_S2x2x4x128x128_2_2_4_4_013_013 none (mulf K (bw2 W)) V

def kv16 (K V : FVec Ideal S2x16x128x4x128 .f32) (W : FVec Ideal S128x4 .f32) : FVec Ideal S2x16x4x128x128 .f32 :=
  Host.dotGeneral dot_S2x16x128x4x128_S2x16x128x4x128_S2x16x4x128x128_2_2_4_4_013_013 none (mulf K (bw16 W)) V

theorem kv2_read (L : Fin 4 → ℝ) (b c : Seqs) (n : ℕ) : kv2 (ch2 b n) (ch2 c n) (wkA L)
    = fun i => ((∑ j : Fin 128, b (i 0) (i 2) (n + 128 * (i 1).val + j.val) (i 3) * Real.exp ((127 - (j.val : ℝ)) * L (i 2))
        * c (i 0) (i 2) (n + 128 * (i 1).val + j.val) (i 4) : ℝ) : EReal) := by
  funext i
  pointwise [kv2, bw2]
  norm_cast

theorem kv16_read (L : Fin 4 → ℝ) (b c : Seqs) (n : ℕ) : kv16 (ch16 b n) (ch16 c n) (wkA L)
    = fun i => ((∑ j : Fin 128, b (i 0) (i 2) (n + 128 * (i 1).val + j.val) (i 3) * Real.exp ((127 - (j.val : ℝ)) * L (i 2))
        * c (i 0) (i 2) (n + 128 * (i 1).val + j.val) (i 4) : ℝ) : EReal) := by
  funext i
  pointwise [kv16, bw16]
  norm_cast

/-- The next state, from one chunk's outer products. -/
def next2 (CD : FVec Ideal S4 .f32) (S : FVec Ideal S2x4x128x128 .f32) (KV : FVec Ideal S2x2x4x128x128 .f32) (k : ℕ)
    (h : S2x2x4x128x128.Slices ![0, k, 0, 0, 0] S2x1x4x128x128) : FVec Ideal S2x4x128x128 .f32 :=
  addf (mulf (broadcastInDim S2x4x128x128 ![0, 1, 2, 3] bcast_S1x4x1x1_S2x4x128x128_0_1_2_3 (broadcastInDim S1x4x1x1 ![1] bcast_S4_S1x4x1x1_1 CD)) S)
    (shapeCast S2x4x128x128 (extractStridedSlice S2x1x4x128x128 ![0, k, 0, 0, 0] KV h) shapeCasts_S2x1x4x128x128_S2x4x128x128)

theorem next2_read (L : Fin 4 → ℝ) (b c : Seqs) (n k : ℕ) (h) :
    next2 (cdA L) (stA L b c (n + 128 * k)) (kv2 (ch2 b n) (ch2 c n) (wkA L)) k h = stA L b c (n + 128 * (k + 1)) := by
  rw [kv2_read, show n + 128 * (k + 1) = n + 128 * k + 128 from by ring]
  funext i
  pointwise [next2]
  simp only [← EReal.coe_mul, ← EReal.coe_add]
  exact congrArg Real.toEReal (chunk_state (C := 128) 128 127 (by norm_num) (by norm_num) (Equiv.refl _) (L (i 1)) (b (i 0) (i 1)) (c (i 0) (i 1)) (n + 128 * k) (i 2) (i 3))

/-- The next state, from one chunk's outer products, of sixteen chunks. -/
def next16 (CD : FVec Ideal S4 .f32) (S : FVec Ideal S2x4x128x128 .f32) (KV : FVec Ideal S2x16x4x128x128 .f32) (k : ℕ)
    (h : S2x16x4x128x128.Slices ![0, k, 0, 0, 0] S2x1x4x128x128) : FVec Ideal S2x4x128x128 .f32 :=
  addf (mulf (broadcastInDim S2x4x128x128 ![0, 1, 2, 3] bcast_S1x4x1x1_S2x4x128x128_0_1_2_3 (broadcastInDim S1x4x1x1 ![1] bcast_S4_S1x4x1x1_1 CD)) S)
    (shapeCast S2x4x128x128 (extractStridedSlice S2x1x4x128x128 ![0, k, 0, 0, 0] KV h) shapeCasts_S2x1x4x128x128_S2x4x128x128)

theorem next16_read (L : Fin 4 → ℝ) (b c : Seqs) (n k : ℕ) (h) :
    next16 (cdA L) (stA L b c (n + 128 * k)) (kv16 (ch16 b n) (ch16 c n) (wkA L)) k h = stA L b c (n + 128 * (k + 1)) := by
  rw [kv16_read, show n + 128 * (k + 1) = n + 128 * k + 128 from by ring]
  funext i
  pointwise [next16]
  simp only [← EReal.coe_mul, ← EReal.coe_add]
  exact congrArg Real.toEReal (chunk_state (C := 128) 128 127 (by norm_num) (by norm_num) (Equiv.refl _) (L (i 1)) (b (i 0) (i 1)) (c (i 0) (i 1)) (n + 128 * k) (i 2) (i 3))

/-- A row of the result is what its chunk sees of itself and of the state the chunk began with. -/
theorem out_real (strict : Bool) (L : ℝ) (a b c : ℕ → Fin 128 → ℝ) (n : ℕ) (h : n + 128 ≤ 2304) (i e : Fin 128) :
    (∑ d, a (n + i.val) d * state L c b n e d) * Real.exp (((i.val : ℝ) + 1) * L)
      + ∑ j : Fin 128, (∑ d, a (n + i.val) d * b (n + j.val) d) * wt strict L ((i.val : ℝ) - (j.val : ℝ)) * c (n + j.val) e
      = whole strict L a b c 2304 (n + i.val) e := by
  rw [add_comm]
  refine Eq.trans (congrArg₂ _ rfl ?_) (chunk_out (C := 128) (Equiv.refl _) strict L a b c n h i e)
  rw [Finset.sum_mul]
  refine Finset.sum_congr rfl fun d _ => ?_
  have : state L c b n e d = state L b c n d e := Finset.sum_congr rfl fun t _ => by ring
  rw [this]
  simp only [Equiv.refl_apply]
  ring

/-- The rows of all chunks' results: what a chunk sees of the states, and of itself. -/
def dq2 (G V K : FVec Ideal S2x2x128x4x128 .f32) (S : FVec Ideal S2x2x4x128x128 .f32) (WQ : FVec Ideal S128x4 .f32) (W : FVec Ideal S4x128x128 .f32) :
    FVec Ideal S2x2x128x4x128 .f32 :=
  addf
    (mulf (transpose S2x2x128x4x128 [0, 1, 3, 2, 4] (Host.dotGeneral dot_S2x2x4x128x128_S2x2x4x128x128_S2x2x4x128x128_3_4_4_3_012_012 none
      (transpose S2x2x4x128x128 [0, 1, 3, 4, 2] G transposes_S2x2x128x4x128_S2x2x4x128x128_0_1_3_4_2) S) transposes_S2x2x4x128x128_S2x2x128x4x128_0_1_3_2_4) (bw2 WQ))
    (transpose S2x2x128x4x128 [0, 1, 3, 2, 4] (Host.dotGeneral dot_S2x2x4x128x128_S2x2x128x4x128_S2x2x4x128x128_4_2_3_4_012_013 none
      (mulf (Host.dotGeneral dot_S2x2x4x128x128_S2x2x128x4x128_S2x2x4x128x128_3_4_4_2_012_013 none
        (transpose S2x2x4x128x128 [0, 1, 3, 4, 2] G transposes_S2x2x128x4x128_S2x2x4x128x128_0_1_3_4_2) V)
        (broadcastInDim S2x2x4x128x128 ![0, 1, 2, 3, 4] bcast_S1x1x4x128x128_S2x2x4x128x128_0_1_2_3_4
          (broadcastInDim S1x1x4x128x128 ![2, 3, 4] bcast_S4x128x128_S1x1x4x128x128_2_3_4 W))) K) transposes_S2x2x4x128x128_S2x2x128x4x128_0_1_3_2_4)

theorem dq2_read (strict : Bool) (L : Fin 4 → ℝ) (a b c : Seqs) (n : ℕ) (h : n + 128 * 2 ≤ 2304) :
    dq2 (ch2 a n) (ch2 b n) (ch2 c n) (stA2 L c b n) (wqA L) (wdA strict L)
      = fun i => (whole strict (L (i 3)) (a (i 0) (i 3)) (b (i 0) (i 3)) (c (i 0) (i 3)) 2304 (n + 128 * (i 1).val + (i 2).val) (i 4) : EReal) := by
  funext i
  pointwise [dq2, bw2]
  simp only [← EReal.coe_mul, ← Step.coe_sum, ← EReal.coe_add]
  have hi := (i 1).isLt
  exact congrArg Real.toEReal (out_real strict (L (i 3)) (a (i 0) (i 3)) (b (i 0) (i 3)) (c (i 0) (i 3)) (n + 128 * (i 1).val) (by change (i 1).val < 2 at hi; omega) (i 2) (i 4))

/-- The rows of all chunks' results: what a chunk sees of the states, and of itself. -/
def dq16 (G V K : FVec Ideal S2x16x128x4x128 .f32) (S : FVec Ideal S2x16x4x128x128 .f32) (WQ : FVec Ideal S128x4 .f32) (W : FVec Ideal S4x128x128 .f32) :
    FVec Ideal S2x16x128x4x128 .f32 :=
  addf
    (mulf (transpose S2x16x128x4x128 [0, 1, 3, 2, 4] (Host.dotGeneral dot_S2x16x4x128x128_S2x16x4x128x128_S2x16x4x128x128_3_4_4_3_012_012 none
      (transpose S2x16x4x128x128 [0, 1, 3, 4, 2] G transposes_S2x16x128x4x128_S2x16x4x128x128_0_1_3_4_2) S) transposes_S2x16x4x128x128_S2x16x128x4x128_0_1_3_2_4) (bw16 WQ))
    (transpose S2x16x128x4x128 [0, 1, 3, 2, 4] (Host.dotGeneral dot_S2x16x4x128x128_S2x16x128x4x128_S2x16x4x128x128_4_2_3_4_012_013 none
      (mulf (Host.dotGeneral dot_S2x16x4x128x128_S2x16x128x4x128_S2x16x4x128x128_3_4_4_2_012_013 none
        (transpose S2x16x4x128x128 [0, 1, 3, 4, 2] G transposes_S2x16x128x4x128_S2x16x4x128x128_0_1_3_4_2) V)
        (broadcastInDim S2x16x4x128x128 ![0, 1, 2, 3, 4] bcast_S1x1x4x128x128_S2x16x4x128x128_0_1_2_3_4
          (broadcastInDim S1x1x4x128x128 ![2, 3, 4] bcast_S4x128x128_S1x1x4x128x128_2_3_4 W))) K) transposes_S2x16x4x128x128_S2x16x128x4x128_0_1_3_2_4)

theorem dq16_read (strict : Bool) (L : Fin 4 → ℝ) (a b c : Seqs) (n : ℕ) (h : n + 128 * 16 ≤ 2304) :
    dq16 (ch16 a n) (ch16 b n) (ch16 c n) (stA16 L c b n) (wqA L) (wdA strict L)
      = fun i => (whole strict (L (i 3)) (a (i 0) (i 3)) (b (i 0) (i 3)) (c (i 0) (i 3)) 2304 (n + 128 * (i 1).val + (i 2).val) (i 4) : EReal) := by
  funext i
  pointwise [dq16, bw16]
  simp only [← EReal.coe_mul, ← Step.coe_sum, ← EReal.coe_add]
  have hi := (i 1).isLt
  exact congrArg Real.toEReal (out_real strict (L (i 3)) (a (i 0) (i 3)) (b (i 0) (i 3)) (c (i 0) (i 3)) (n + 128 * (i 1).val) (by change (i 1).val < 16 at hi; omega) (i 2) (i 4))

theorem slice16 : ∀ k : Fin 16, S2x16x4x128x128.Slices ![0, k.val, 0, 0, 0] S2x1x4x128x128 := by decide

/-- A chain of states, each one chunk after the last. -/
theorem chain16 (L : Fin 4 → ℝ) (b c : Seqs) (n : ℕ) (CD : FVec Ideal S4 .f32) (KV : FVec Ideal S2x16x4x128x128 .f32) (S : Fin 16 → FVec Ideal S2x4x128x128 .f32)
    (hc : CD = cdA L) (hk : KV = kv16 (ch16 b n) (ch16 c n) (wkA L)) (h0 : S 0 = stA L b c n)
    (hs : ∀ k : Fin 15, S k.succ = next16 CD (S k.castSucc) KV k.val (slice16 k.castSucc)) (k : Fin 16) : S k = stA L b c (n + 128 * k.val) := by
  subst hc hk
  induction k using Fin.induction with
  | zero => exact h0
  | succ k ih => rw [hs k, ih]; exact next16_read L b c n k.val _

abbrev row (S : FVec Ideal S2x4x128x128 .f32) : FVec Ideal S2x1x4x128x128 .f32 :=
  broadcastInDim S2x1x4x128x128 ![0, 2, 3, 4] bcast_S2x4x128x128_S2x1x4x128x128_0_2_3_4 S

/-- The states the sixteen chunks begin with, in one array. -/
def stack16 (S : Fin 16 → FVec Ideal S2x4x128x128 .f32) : FVec Ideal S2x16x4x128x128 .f32 :=
  concatenate S2x16x4x128x128 1 [⟨_, row (S 0)⟩, ⟨_, row (S 1)⟩, ⟨_, row (S 2)⟩, ⟨_, row (S 3)⟩, ⟨_, row (S 4)⟩, ⟨_, row (S 5)⟩, ⟨_, row (S 6)⟩, ⟨_, row (S 7)⟩, ⟨_, row (S 8)⟩, ⟨_, row (S 9)⟩, ⟨_, row (S 10)⟩, ⟨_, row (S 11)⟩, ⟨_, row (S 12)⟩, ⟨_, row (S 13)⟩, ⟨_, row (S 14)⟩, ⟨_, row (S 15)⟩]
    concatenates_S2x1x4x128x128_S2x1x4x128x128_S2x1x4x128x128_S2x1x4x128x128_S2x1x4x128x128_S2x1x4x128x128_S2x1x4x128x128_S2x1x4x128x128_S2x1x4x128x128_S2x1x4x128x128_S2x1x4x128x128_S2x1x4x128x128_S2x1x4x128x128_S2x1x4x128x128_S2x1x4x128x128_S2x1x4x128x128_S2x16x4x128x128_d1

def stack2 (S S' : FVec Ideal S2x4x128x128 .f32) : FVec Ideal S2x2x4x128x128 .f32 :=
  concatenate S2x2x4x128x128 1 [⟨_, row S⟩, ⟨_, row S'⟩] concatenates_S2x1x4x128x128_S2x1x4x128x128_S2x2x4x128x128_d1

theorem stA_at (L : Fin 4 → ℝ) (b c : Seqs) {n n' : ℕ} (h : n = n') (i0 : Fin 2) (i2 : Fin 4) (i3 i4 : Fin 128) :
    stA L b c n (ix4 i0 i2 i3 i4) = (state (L i2) (b i0 i2) (c i0 i2) n' i3 i4 : EReal) := by subst h; rfl

theorem stack2_read (L : Fin 4 → ℝ) (b c : Seqs) (n : ℕ) : stack2 (stA L b c n) (stA L b c (n + 128)) = stA2 L b c n := by
  funext i
  pointwise [stack2, row]
  have hi : (i 1).val < 2 := (i 1).isLt
  split_ifs <;> exact stA_at L b c (by omega) _ _ _ _

theorem stack16_read (L : Fin 4 → ℝ) (b c : Seqs) (n : ℕ) (S : Fin 16 → FVec Ideal S2x4x128x128 .f32) (h : ∀ k, S k = stA L b c (n + 128 * k.val)) :
    stack16 S = stA16 L b c n := by
  funext i
  have hi : (i 1).val < 16 := (i 1).isLt
  obtain rfl : S = fun k => stA L b c (n + 128 * k.val) := funext h
  pointwise [stack16]
  clear h
  change _ = ((state (L (i 2)) (b (i 0) (i 2)) (c (i 0) (i 2)) (n + 128 * (i 1).val) (i 3) (i 4) : ℝ) : EReal)
  generalize (i 1).val = j at hi ⊢
  interval_cases j <;> rfl

end Cert.ReferenceIdeal.Chunks
-- ==== Proof.RetRef.lean ====
/- The reference's retention gradient over the reals. -/
module

public import proofs.«01_k».proof.Proof.RetArrays
public import proofs.«01_k».proof.Proof.RetentionFinal

@[expose] public section

set_option maxRecDepth 16384

noncomputable section

namespace Cert.ReferenceIdeal.Chunks

open Cert.ReferenceIdeal Cert.ReferenceIdeal.Gen Idealize.ShloMosaic Idealize.ShloMosaic.TcCoe Idealize.SL.Sem Idealize.ShloMosaic.StableHlo
open Cert.ReferenceIdeal.Read
open Step.Retention Step
open Cert.KernelIdeal.Value (hd)

abbrev up {s : Shape} (x : s.Idx → ℝ) : FVec Ideal s .f32 := fun i => (x i : EReal)

/-- The sequences an array holds, read along a scan. -/
abbrev sq (scan : (Fin 2304 → Fin 128 → ℝ) → ℕ → Fin 128 → ℝ) (x : S2x2304x512.Idx → ℝ) : Seqs := fun b h => scan (hd x b h)
abbrev lg (δ : S4.Idx → ℝ) : Fin 4 → ℝ := fun h => lsg (δ (ix1 h))

variable (k v g : S2x2304x512.Idx → ℝ) (δ : S4.Idx → ℝ)

/-- Minus the softplus of the negative is the logarithm of the sigmoid. -/
theorem softplus_lsg (x : ℝ) : -(max (-(x : EReal)) 0 + Ideal.log1p (Ideal.exp (-FloatOps.absf (F := Ideal) (φ := .f32) (-(x : EReal))))) = (lsg x : EReal) := by
  rw [← EReal.coe_neg, absf_coe, ← EReal.coe_neg, ← coe_exp, Ideal.log1p, ← EReal.coe_zero, ← coe_max, ← EReal.coe_one, ← EReal.coe_add,
    log_pos (by positivity), ← EReal.coe_add, ← EReal.coe_neg]
  unfold lsg
  rw [abs_neg]
  congr 1
  rcases le_total x 0 with h | h
  · rw [max_eq_left (by linarith), min_eq_left h]; ring
  · rw [max_eq_right (by linarith), min_eq_right h]; ring

theorem lsg0 : val_main_v0 (F := Ideal) (up δ) = fun i => (lg δ (i 0) : EReal) := by
  funext i
  pointwise [val_main_v0, val_main_call0_v1, val_main_call0_call0_v11, val_main_call0_call0_v1, val_main_call0_call0_v0, val_main_call0_call0_cst, val_main_call0_v0, val_main_call0_call0_v10, val_main_call0_call0_v9, val_main_call0_call0_v8, val_main_call0_call0_v7, val_main_call0_call0_v3, val_main_call0_call0_v2, val_main_call0_call0_v4, val_main_call0_call0_v6, val_main_call0_call0_v5]
  rw [if_neg (by simp)]
  refine (softplus_lsg (δ i)).trans (congrArg (fun j => (lsg (δ j) : EReal)) ?_)
  funext a
  rw [show a = 0 from Subsingleton.elim _ _]; rfl

theorem decay28 : val_main_v28 (F := Ideal) (up δ) = wdA false (lg δ) := by
  funext i
  pointwise [val_main_v28, lsg0, val_main_call1_v1, val_main_v19, val_main_v18, val_main_v16, val_main_v14, val_main_v12, val_main_v11, val_main_v15, val_main_v13, val_main_v17, val_main_cst_0, val_main_call1_v2, val_main_call1_v0, val_main_cst_2, val_main_v27, val_main_v26, val_main_v24, val_main_v22, val_main_v21, val_main_v20, val_main_cst_1, val_main_v25, val_main_v23]
  have h1 : (i 1).val < 128 := (i 1).isLt
  have h2 : (i 2).val < 128 := (i 2).isLt
  rw [sitofp_ofNat (by omega), sitofp_ofNat (by omega)]
  have hz : id (constant (F := Ideal) S_ FTy.f32 0#32) ix0 = 0 := by
    change Ideal.ofBits .f32 0#32 = 0
    simp [Ideal.ofBits, Ideal.ieee]
  rw [hz]
  simp only [wdA, wt, Bool.false_eq_true, if_false, ← EReal.coe_sub, ← EReal.coe_zero, ← coe_max, ← EReal.coe_mul, ← coe_exp, EReal.coe_le_coe_iff]
  exact (coe_if _ _ _).symm

theorem wk42 : val_main_v42 (F := Ideal) (up δ) = wkA (lg δ) := by
  funext i
  pointwise [val_main_v42, val_main_v41, val_main_v39, val_main_v37, val_main_v36, val_main_v11, val_main_v35, val_main_cst_3, val_main_v40, val_main_v38, lsg0]
  have h1 : (i 0).val < 128 := (i 0).isLt
  rw [sitofp_ofNat (by omega), ofBits_127, ← EReal.coe_sub, ← EReal.coe_mul]
  rfl

theorem wq71 : val_main_v71 (F := Ideal) (up δ) = wqA (lg δ) := by
  funext i
  pointwise [val_main_v71, val_main_v70, val_main_v68, val_main_v66, val_main_v65, val_main_v11, val_main_v64, val_main_cst_5, val_main_v69, val_main_v67, lsg0]
  have h1 : (i 0).val < 128 := (i 0).isLt
  rw [sitofp_ofNat (by omega), ← EReal.coe_one, ← EReal.coe_add, ← EReal.coe_mul]
  rfl

theorem cd49 : val_main_v49 (F := Ideal) (up δ) = cdA (lg δ) := by
  funext i
  pointwise [val_main_v49, val_main_v48, val_main_v47, val_main_cst_4, lsg0]
  rw [ofBits_128]
  norm_cast

/-- A chunk's row of an array, along the forward scan. -/
theorem fw_at (x : S2x2304x512.Idx → ℝ) (b : Fin 2) (h : Fin 4) (e : Fin 128) (t : ℕ) (r : Fin 2304) (q : Fin 512) (hr : r.val = t) (hq : q.val = h.val * 128 + e.val) :
    up x (ix3 b r q) = ((sq fw x b h t e : ℝ) : EReal) := by
  subst hr
  refine congrArg (fun j => (x j : EReal)) ?_
  rw [ix3_inj]
  refine ⟨rfl, Fin.ext (Nat.mod_eq_of_lt r.isLt).symm, Fin.ext ?_⟩
  change q.val = 128 * h.val + e.val
  omega

theorem k9 : val_main_v9 (F := Ideal) (up k) = ch2 (sq fw k) 0 := by
  funext i
  pointwise [val_main_v9, val_main_v6, val_main_v2]
  exact fw_at k _ _ _ _ _ _ (by simp only []; omega) rfl

theorem k83 : val_main_v83 (F := Ideal) (up k) = ch16 (sq fw k) 256 := by
  funext i
  pointwise [val_main_v83, val_main_v80, val_main_v2]
  exact fw_at k _ _ _ _ _ _ (by simp only []; omega) rfl

theorem g242 : val_main_v242 (F := Ideal) (up k) = ch16 (sq fw k) 256 := by
  funext i
  pointwise [val_main_v242, val_main_v241, val_main_v239]
  exact fw_at k _ _ _ _ _ _ (by simp only []; omega) rfl

theorem g257 : val_main_v257 (F := Ideal) (up k) = ch2 (sq fw k) 0 := by
  funext i
  pointwise [val_main_v257, val_main_v240, val_main_v239]
  exact fw_at k _ _ _ _ _ _ (by simp only []; omega) rfl

theorem zero4 (L : Fin 4 → ℝ) (b c : Seqs) : val_main_v4 (F := Ideal) = stA L b c 0 := by
  funext i
  pointwise [val_main_v4, val_main_cst]
  simp only [stA, state_zero]
  rfl

theorem st0 : val_main_v55 (F := Ideal) (up k) (up v) (up δ) = stA (lg δ) (sq fw k) (sq fw v) 128 := by
  refine Eq.trans ?_ (next2_read (lg δ) (sq fw k) (sq fw v) 0 0 slices_S2x2x4x128x128_S2x1x4x128x128_0_0_0_0_0)
  rw [← wk42, ← cd49, ← k9 k, ← k9 v, ← zero4]
  rfl

theorem st1 : val_main_v60 (F := Ideal) (up k) (up v) (up δ) = stA (lg δ) (sq fw k) (sq fw v) 256 := by
  refine Eq.trans ?_ (next2_read (lg δ) (sq fw k) (sq fw v) 0 1 slices_S2x2x4x128x128_S2x1x4x128x128_0_1_0_0_0)
  rw [← wk42, ← cd49, ← k9 k, ← k9 v, ← st0]
  rfl

theorem stack63 : val_main_v63 (F := Ideal) (up k) (up v) (up δ) = stA2 (lg δ) (sq fw k) (sq fw v) 0 := by
  rw [← stack2_read, ← zero4 (lg δ) (sq fw k) (sq fw v), ← st0]
  rfl

/-- The states the latent part's chunks begin with. -/
abbrev sts : Fin 16 → FVec Ideal S2x4x128x128 .f32 :=
  ![val_main_v60 (F := Ideal) (up k) (up v) (up δ), val_main_v129 (F := Ideal) (up k) (up v) (up δ), val_main_v134 (F := Ideal) (up k) (up v) (up δ), val_main_v139 (F := Ideal) (up k) (up v) (up δ), val_main_v144 (F := Ideal) (up k) (up v) (up δ), val_main_v149 (F := Ideal) (up k) (up v) (up δ), val_main_v154 (F := Ideal) (up k) (up v) (up δ), val_main_v159 (F := Ideal) (up k) (up v) (up δ), val_main_v164 (F := Ideal) (up k) (up v) (up δ), val_main_v169 (F := Ideal) (up k) (up v) (up δ), val_main_v174 (F := Ideal) (up k) (up v) (up δ), val_main_v179 (F := Ideal) (up k) (up v) (up δ), val_main_v184 (F := Ideal) (up k) (up v) (up δ), val_main_v189 (F := Ideal) (up k) (up v) (up δ), val_main_v194 (F := Ideal) (up k) (up v) (up δ), val_main_v199 (F := Ideal) (up k) (up v) (up δ)]

theorem sts_eq (j : Fin 16) : sts k v δ j = stA (lg δ) (sq fw k) (sq fw v) (256 + 128 * j.val) := by
  refine chain16 (lg δ) (sq fw k) (sq fw v) 256 (val_main_v123 (F := Ideal) (up δ)) (val_main_v120 (F := Ideal) (up k) (up v) (up δ)) (sts k v δ) (cd49 δ) ?_
    (st1 k v δ) (fun j => ?_) j
  · rw [← wk42, ← k83 k, ← k83 v]; rfl
  · fin_cases j <;> rfl

theorem stack221 : val_main_v221 (F := Ideal) (up k) (up v) (up δ) = stA16 (lg δ) (sq fw k) (sq fw v) 256 :=
  Eq.trans rfl (stack16_read _ _ _ _ _ (sts_eq k v δ))

theorem lat254 : val_main_v254 (F := Ideal) (up k) (up v) (up g) (up δ) = fun i =>
    (whole false (lg δ (i 3)) (sq fw g (i 0) (i 3)) (sq fw v (i 0) (i 3)) (sq fw k (i 0) (i 3)) 2304 (256 + 128 * (i 1).val + (i 2).val) (i 4) : EReal) := by
  rw [← dq16_read _ _ _ _ _ _ (by norm_num), ← decay28, ← wq71, ← stack221, ← k83 k, ← k83 v, ← g242]
  rfl

theorem ctx269 : val_main_v269 (F := Ideal) (up k) (up v) (up g) (up δ) = fun i =>
    (whole false (lg δ (i 3)) (sq fw g (i 0) (i 3)) (sq fw v (i 0) (i 3)) (sq fw k (i 0) (i 3)) 2304 (0 + 128 * (i 1).val + (i 2).val) (i 4) : EReal) := by
  rw [← dq2_read _ _ _ _ _ _ (by norm_num), ← decay28, ← wq71, ← stack63, ← k9 k, ← k9 v, ← g257]
  rfl

/-- The two parts of a scan, each padded to the whole sequence and added. -/
theorem glue (f : ℕ → ℝ) {s j : ℕ} (hs : s < 2304) (hj : j < 512) :
    ((if (256 ≤ s ∧ s - 256 < 2048) ∧ j / 128 < 4 ∧ j % 128 < 128 then (f (256 + 128 * ((s - 256) / 128) + (s - 256) % 128) : EReal) else 0)
      + if s < 256 ∧ j / 128 < 4 ∧ j % 128 < 128 then (f (128 * (s / 128) + s % 128) : EReal) else 0) = f s := by
  rcases Nat.lt_or_ge s 256 with h | h
  · rw [if_neg (by omega), if_pos (by omega), zero_add, show 128 * (s / 128) + s % 128 = s by omega]
  · rw [if_pos (by omega), if_neg (by omega), add_zero, show 256 + 128 * ((s - 256) / 128) + (s - 256) % 128 = s by omega]

theorem dqf : val_main_v273 (F := Ideal) (up k) (up v) (up g) (up δ) = fun i => (Cert.KernelIdeal.Value.ret false fw id δ g v k i : EReal) := by
  funext i
  pointwise [val_main_v273, val_main_v272, val_main_v256, val_main_cst_12, val_main_v255, val_main_v271, val_main_cst_13, val_main_v270, lat254, ctx269]
  have h1 : (i 1).val < 2304 := (i 1).isLt
  have h2 : (i 2).val < 512 := (i 2).isLt
  exact glue (fun t => whole false (lg δ (Cert.KernelIdeal.Value.hof (i 2))) (sq fw g (i 0) (Cert.KernelIdeal.Value.hof (i 2))) (sq fw v (i 0) (Cert.KernelIdeal.Value.hof (i 2)))
    (sq fw k (i 0) (Cert.KernelIdeal.Value.hof (i 2))) 2304 t (Cert.KernelIdeal.Value.eof (i 2))) h1 h2

end Cert.ReferenceIdeal.Chunks
-- ==== Proof.RetRefBack.lean ====
/- The reference's retention gradient of the scan running backwards, over the reals. -/
module

public import proofs.«01_k».proof.Proof.RetRef

@[expose] public section

set_option maxRecDepth 16384

noncomputable section

namespace Cert.ReferenceIdeal.Chunks

open Cert.ReferenceIdeal Cert.ReferenceIdeal.Gen Idealize.ShloMosaic Idealize.ShloMosaic.TcCoe Idealize.SL.Sem Idealize.ShloMosaic.StableHlo
open Cert.ReferenceIdeal.Read
open Step.Retention Step
open Cert.KernelIdeal.Value (hd)

variable (k v g : S2x2304x512.Idx → ℝ) (δ : S4.Idx → ℝ)

theorem decay305 : val_main_v305 (F := Ideal) (up δ) = wdA true (lg δ) := by
  funext i
  pointwise [val_main_v305, show val_main_v274 (F := Ideal) (up δ) = _ from lsg0 δ, val_main_call7_v1, val_main_v296, val_main_v295, val_main_v293, val_main_v291, val_main_v289, val_main_v288, val_main_v292, val_main_v290, val_main_v294, val_main_cst_15, val_main_call7_v2, val_main_call7_v0, val_main_cst_17, val_main_v304, val_main_v303, val_main_v301, val_main_v299, val_main_v298, val_main_v297, val_main_cst_16, val_main_v302, val_main_v300]
  have h1 : (i 1).val < 128 := (i 1).isLt
  have h2 : (i 2).val < 128 := (i 2).isLt
  rw [sitofp_ofNat (by omega), sitofp_ofNat (by omega)]
  have hz : id (constant (F := Ideal) S_ FTy.f32 0#32) ix0 = 0 := by
    change Ideal.ofBits .f32 0#32 = 0
    simp [Ideal.ofBits, Ideal.ieee]
  rw [hz]
  simp only [wdA, wt, if_true, ← EReal.coe_sub, ← EReal.coe_zero, ← coe_max, ← EReal.coe_mul, ← coe_exp, EReal.coe_lt_coe_iff]
  exact (coe_if _ _ _).symm

/-- A chunk's row of an array, along the backward scan. -/
theorem bw_at (x : S2x2304x512.Idx → ℝ) (b : Fin 2) (h : Fin 4) (e : Fin 128) (t : ℕ) (r : Fin 2304) (q : Fin 512)
    (hr : r.val = if t < 256 then 255 - t else 2559 - t) (hq : q.val = h.val * 128 + e.val) :
    up x (ix3 b r q) = ((sq bw x b h t e : ℝ) : EReal) := by
  refine congrArg (fun j => (x j : EReal)) ?_
  rw [ix3_inj]
  refine ⟨rfl, Fin.ext ?_, Fin.ext ?_⟩
  · rw [hr]; exact (Nat.mod_eq_of_lt (by rw [← hr]; exact r.isLt)).symm
  · change q.val = 128 * h.val + e.val
    omega

theorem k286 : val_main_v286 (F := Ideal) (up k) = ch2 (sq bw k) 0 := by
  funext i
  pointwise [val_main_v286, val_main_v282, val_main_v281, val_main_v276]
  have h1 : (i 1).val < 2 := (i 1).isLt
  have h2 : (i 2).val < 128 := (i 2).isLt
  exact bw_at k _ _ _ _ _ _ (Eq.trans (Fin.val_rev (n := 256) ⟨(i 1).val * 128 + (i 2).val, by omega⟩) (by simp only []; split_ifs <;> omega)) rfl

theorem k363 : val_main_v363 (F := Ideal) (up k) = ch16 (sq bw k) 256 := by
  funext i
  pointwise [val_main_v363, val_main_v359, val_main_v358, val_main_v276]
  have h1 : (i 1).val < 16 := (i 1).isLt
  have h2 : (i 2).val < 128 := (i 2).isLt
  exact bw_at k _ _ _ _ _ _ (Eq.trans (congrArg (256 + ·) (Fin.val_rev (n := 2048) ⟨(i 1).val * 128 + (i 2).val, by omega⟩)) (by simp only []; split_ifs <;> omega)) rfl

theorem bst0 : val_main_v332 (F := Ideal) (up k) (up v) (up δ) = stA (lg δ) (sq bw k) (sq bw v) 128 := by
  refine Eq.trans ?_ (next2_read (lg δ) (sq bw k) (sq bw v) 0 0 slices_S2x2x4x128x128_S2x1x4x128x128_0_0_0_0_0)
  rw [← wk42, ← cd49, ← k286 k, ← k286 v, ← zero4]
  rfl

theorem bst1 : val_main_v337 (F := Ideal) (up k) (up v) (up δ) = stA (lg δ) (sq bw k) (sq bw v) 256 := by
  refine Eq.trans ?_ (next2_read (lg δ) (sq bw k) (sq bw v) 0 1 slices_S2x2x4x128x128_S2x1x4x128x128_0_1_0_0_0)
  rw [← wk42, ← cd49, ← k286 k, ← k286 v, ← bst0]
  rfl

theorem stack340 : val_main_v340 (F := Ideal) (up k) (up v) (up δ) = stA2 (lg δ) (sq bw k) (sq bw v) 0 := by
  rw [← stack2_read, ← zero4 (lg δ) (sq bw k) (sq bw v), ← bst0]
  rfl

abbrev bsts : Fin 16 → FVec Ideal S2x4x128x128 .f32 :=
  ![val_main_v337 (F := Ideal) (up k) (up v) (up δ), val_main_v409 (F := Ideal) (up k) (up v) (up δ), val_main_v414 (F := Ideal) (up k) (up v) (up δ), val_main_v419 (F := Ideal) (up k) (up v) (up δ), val_main_v424 (F := Ideal) (up k) (up v) (up δ), val_main_v429 (F := Ideal) (up k) (up v) (up δ), val_main_v434 (F := Ideal) (up k) (up v) (up δ), val_main_v439 (F := Ideal) (up k) (up v) (up δ), val_main_v444 (F := Ideal) (up k) (up v) (up δ), val_main_v449 (F := Ideal) (up k) (up v) (up δ), val_main_v454 (F := Ideal) (up k) (up v) (up δ), val_main_v459 (F := Ideal) (up k) (up v) (up δ), val_main_v464 (F := Ideal) (up k) (up v) (up δ), val_main_v469 (F := Ideal) (up k) (up v) (up δ), val_main_v474 (F := Ideal) (up k) (up v) (up δ), val_main_v479 (F := Ideal) (up k) (up v) (up δ)]

theorem bsts_eq (j : Fin 16) : bsts k v δ j = stA (lg δ) (sq bw k) (sq bw v) (256 + 128 * j.val) := by
  refine chain16 (lg δ) (sq bw k) (sq bw v) 256 (val_main_v403 (F := Ideal) (up δ)) (val_main_v400 (F := Ideal) (up k) (up v) (up δ)) (bsts k v δ) (cd49 δ) ?_
    (bst1 k v δ) (fun j => ?_) j
  · rw [← wk42, ← k363 k, ← k363 v]; rfl
  · fin_cases j <;> rfl

theorem stack501 : val_main_v501 (F := Ideal) (up k) (up v) (up δ) = stA16 (lg δ) (sq bw k) (sq bw v) 256 :=
  Eq.trans rfl (stack16_read _ _ _ _ _ (bsts_eq k v δ))

theorem lat538 : val_main_v538 (F := Ideal) (up k) (up v) (up g) (up δ) = fun i =>
    (whole true (lg δ (i 3)) (sq bw g (i 0) (i 3)) (sq bw v (i 0) (i 3)) (sq bw k (i 0) (i 3)) 2304 (256 + 128 * (i 1).val + (i 2).val) (i 4) : EReal) := by
  rw [← dq16_read _ _ _ _ _ _ (by norm_num), ← decay305, ← wq71, ← stack501, ← k363 k, ← k363 v, ← k363 g]
  rfl

theorem ctx554 : val_main_v554 (F := Ideal) (up k) (up v) (up g) (up δ) = fun i =>
    (whole true (lg δ (i 3)) (sq bw g (i 0) (i 3)) (sq bw v (i 0) (i 3)) (sq bw k (i 0) (i 3)) 2304 (0 + 128 * (i 1).val + (i 2).val) (i 4) : EReal) := by
  rw [← dq2_read _ _ _ _ _ _ (by norm_num), ← decay305, ← wq71, ← stack340, ← k286 k, ← k286 v, ← k286 g]
  rfl

/-- The two parts of the backward scan, turned round, each padded to the whole sequence and added. -/
theorem glue_back (f : ℕ → ℝ) {s j : ℕ} (hs : s < 2304) (hj : j < 512) :
    ((if (256 ≤ s ∧ s - 256 < 2048) ∧ j / 128 < 4 ∧ j % 128 < 128 then
        (f (256 + 128 * ((2048 - (s - 256 + 1)) / 128) + (2048 - (s - 256 + 1)) % 128) : EReal) else 0)
      + if s < 256 ∧ j / 128 < 4 ∧ j % 128 < 128 then (f (128 * ((256 - (s + 1)) / 128) + (256 - (s + 1)) % 128) : EReal) else 0) = f (bpos s) := by
  rcases Nat.lt_or_ge s 256 with h | h
  · rw [if_neg (by omega), if_pos (by omega), zero_add, show 128 * ((256 - (s + 1)) / 128) + (256 - (s + 1)) % 128 = bpos s by rw [bpos, if_pos h]; omega]
  · rw [if_pos (by omega), if_neg (by omega), add_zero,
      show 256 + 128 * ((2048 - (s - 256 + 1)) / 128) + (2048 - (s - 256 + 1)) % 128 = bpos s by rw [bpos, if_neg (by omega)]; omega]

theorem dqb : val_main_v559 (F := Ideal) (up k) (up v) (up g) (up δ) = fun i => (Cert.KernelIdeal.Value.ret true bw bpos δ g v k i : EReal) := by
  funext i
  pointwise [val_main_v559, val_main_v558, val_main_v541, val_main_cst_27, val_main_v540, val_main_v539, val_main_v557, val_main_cst_28, val_main_v556, val_main_v555, lat538, ctx554]
  have h1 : (i 1).val < 2304 := (i 1).isLt
  have h2 : (i 2).val < 512 := (i 2).isLt
  exact glue_back (fun t => whole true (lg δ (Cert.KernelIdeal.Value.hof (i 2))) (sq bw g (i 0) (Cert.KernelIdeal.Value.hof (i 2))) (sq bw v (i 0) (Cert.KernelIdeal.Value.hof (i 2)))
    (sq bw k (i 0) (Cert.KernelIdeal.Value.hof (i 2))) 2304 t (Cert.KernelIdeal.Value.eof (i 2))) h1 h2

end Cert.ReferenceIdeal.Chunks
-- ==== Proof.DqClaim.lean ====
/- The retention's gradient by its queries: kernel and reference agree. -/
module

public import proofs.«01_k».proof.Defs
public import proofs.«01_k».proof.Proof.RetentionFinal
public import proofs.«01_k».proof.Proof.RetRefBack
public import proofs.«01_k».proof.Proof.Gen.Pre_finite
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem

/-- What the precondition says: all arguments but the queries hold reals. -/
theorem reals (A0 A1 A2 A3 : FVec Ideal S2x2304x512 .f32) (A4 A5 : FVec Ideal S4 .f32)
    (h : Cert.Pre_finite.fn (F := Ideal) A0 A1 A2 A3 A4 A5 = fun _ => 1#1) :
    (∃ k : S2x2304x512.Idx → ℝ, A1 = fun i => (k i : EReal)) ∧ (∃ v : S2x2304x512.Idx → ℝ, A2 = fun i => (v i : EReal))
      ∧ (∃ g : S2x2304x512.Idx → ℝ, A3 = fun i => (g i : EReal)) ∧ (∃ d : S4.Idx → ℝ, A4 = fun i => (d i : EReal))
      ∧ ∃ d : S4.Idx → ℝ, A5 = fun i => (d i : EReal) := by
  have e := congrFun h fun a => a.elim0
  simp only [Cert.Pre_finite.fn] at e
  obtain ⟨e1, e2⟩ := IntOp.andi_eq_one.1 e
  obtain ⟨h1, e3⟩ := IntOp.andi_eq_one.1 e1
  obtain ⟨h2, h3⟩ := IntOp.andi_eq_one.1 e3
  obtain ⟨h4, h5⟩ := IntOp.andi_eq_one.1 e2
  exact ⟨Step.reals_of_all _ _ _ _ _ _ h1, Step.reals_of_all _ _ _ _ _ _ h2, Step.reals_of_all _ _ _ _ _ _ h3,
    Step.reals_of_all _ _ _ _ _ _ h4, Step.reals_of_all _ _ _ _ _ _ h5⟩

/-- From equal arguments with real entries both programs end with equal results. -/
theorem algebraic : Cert.algebraic_KernelIdeal_ReferenceIdeal_pre_finite := by
  intro m g m' g' hpre hagree
  refine ⟨_, _, run_blocks m g, (θ_run _ _ _).mono (fun r h c => ?_) (Cert.ReferenceIdeal.Value.run m' g')⟩
  obtain ⟨e0, e1, e2, e3, e4, e5⟩ := hagree c
  obtain ⟨r5, r6, a0, a1, a2, a3, a4, a5⟩ := h c
  obtain ⟨⟨k, hk⟩, ⟨v, hv⟩, ⟨x, hx⟩, ⟨d, hd⟩, ⟨d', hd'⟩⟩ := reals _ _ _ _ _ _ (hpre c)
  refine ⟨r5.trans ?_, r6.trans ?_, a0, a1, a2, a3, a4, a5⟩
  · refine (Cert.ReferenceIdeal.Read.val_main_v273_eq (StableHlo.launchContents m' c)).trans ?_
    refine Eq.trans ?_ ((Cert.ReferenceIdeal.Chunks.dqf k v x d).trans (final5 m c x v k d d' hx hv hk hd hd').symm)
    exact congr (congr (congr (congrArg Cert.ReferenceIdeal.Read.val_main_v273 (e1.trans hk)) (e2.trans hv)) (e3.trans hx)) (e4.trans hd)
  · refine (Cert.ReferenceIdeal.Read.val_main_v559_eq (StableHlo.launchContents m' c)).trans ?_
    refine Eq.trans ?_ ((Cert.ReferenceIdeal.Chunks.dqb k v x d').trans (final6 m c x v k d d' hx hv hk hd hd').symm)
    exact congr (congr (congr (congrArg Cert.ReferenceIdeal.Read.val_main_v559 (e1.trans hk)) (e2.trans hv)) (e3.trans hx)) (e5.trans hd')

end Cert.KernelIdeal.Value
end
-- ==== Proof.BmodValue.lean ====
/- The gradients of the modulation's bias and of the context embedding. -/
module

public import proofs.«01_k».proof.Defs
public import proofs.«01_k».proof.Proof.Gen.Kernel2Ideal.Value
public import proofs.«01_k».proof.Proof.Gen.Reference2Ideal.Read
public import proofs.«01_k».proof.Proof.Gen.Pre_finite2
public import proofs.«01_k».proof.Proof.Finite
public import Idealize.ShloMosaic.Lib.Claim

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![0, 0, 0] ∧ win0_1.index t = ![0, 0, 0] ∧ win0_2.index t = ![0, 0] :=
  (by decide +kernel : ∀ t : Fin grid0.N, _)

theorem final3 : (dats m 0 c).arrAt 3 (cfgs 0).N = k0_pay1 (m ((c : Thread nD τ).loc main_arg0)) := by
  refine (dats m 0 c).arrAt_eq_of_after_last 3 t0_0 (by decide +kernel) _ fun j => ?_
  blk_simp
  rw [after0_3]
  frame_out
  blk_point [iblk, V, idx t0_0]

theorem blk1 : iblk m c 1 t0_0 = m ((c : Thread nD τ).loc main_arg1) := by
  funext j
  blk_point [iblk, V, idx t0_0]

theorem blk2 : iblk m c 2 t0_0 = shapeCast S1x1024 (m ((c : Thread nD τ).loc main_arg2)) shapeCasts_S1024_S1x1024 := by
  funext j
  unfold iblk
  entry_read
  blk_point [idx t0_0]

theorem pay2 (B : Vec Ideal S4x8x1024 .f32) (X : FVec Ideal S1024 .f32) (b : S4x8x1024.Idx → ℝ) (x : S1024.Idx → ℝ)
    (hB : B = fun i => (b i : EReal)) (hX : X = fun i => (x i : EReal)) :
    k0_pay2 (F := Ideal) (View.ld B r0_2) (View.ld B r0_3) (View.ld B r0_4) (View.ld B r0_5) (shapeCast S1x1024 X shapeCasts_S1024_S1x1024)
     = Cert.Reference2Ideal.Read.val_main_v8 (F := Ideal) B X := by
  funext j
  rw [Cert.Reference2Ideal.Read.val_main_v8_apply]
  pointwise [k0_pay2, Cert.Reference2Ideal.Read.val_main_v5, Cert.Reference2Ideal.Read.val_main_call1_v1, Cert.Reference2Ideal.Read.val_main_call1_v2, Cert.Reference2Ideal.Read.val_main_call1_v0,
    Cert.Reference2Ideal.Read.val_main_v2_1, Cert.Reference2Ideal.Read.val_main_v4, Cert.Reference2Ideal.Read.val_main_v2_2, Cert.Reference2Ideal.Read.val_main_call0_v7, Cert.Reference2Ideal.Read.val_main_call0_v6, Cert.Reference2Ideal.Read.val_main_call0_cst_1,
    Cert.Reference2Ideal.Read.val_main_call0_v4, Cert.Reference2Ideal.Read.val_main_call0_cst_0, Cert.Reference2Ideal.Read.val_main_call0_v3, Cert.Reference2Ideal.Read.val_main_call0_v2, Cert.Reference2Ideal.Read.val_main_call0_cst,
    Cert.Reference2Ideal.Read.val_main_call0_v1, Cert.Reference2Ideal.Read.val_main_call0_v0, Cert.Reference2Ideal.Read.val_main_cst_0]
  rw [Step.hostReduceAdd_first_two]
  subst hB hX
  have hi : Cert.Reference2Ideal.Read.idx_main_v8 j = ix1 (j 1) := by
    funext a
    apply Fin.ext
    match a with
    | ⟨0, _⟩ => have h0 : (j 0).val < 1 := (j 0).isLt; show (j 0).val * 1024 + (j 1).val = (j 1).val; omega
  have hl : ∀ y : EReal, Ideal.div 1 (1 + Ideal.exp (-y)) = Ideal.logistic y := fun _ => rfl
  rw [hi, hl]
  have hs : ∑ k : Fin 8, (b (ix3 0 k (j 1)) + b (ix3 1 k (j 1)) + b (ix3 2 k (j 1)) + b (ix3 3 k (j 1)))
      = ∑ k : Fin 4, ∑ l : Fin 8, b (ix3 k l ((ix1 (j 1) : S1024.Idx) 0)) := by
    simp only [Fin.sum_univ_four, Finset.sum_add_distrib]
    rfl
  simp only [Ideal.logistic_coe, zero_add]
  norm_cast
  rw [hs]
  have key : ∀ S y e : ℝ, S * (e * (1 + y * (1 - e))) = S * e + y * S * (e * (1 - e)) := fun S y e => by ring
  exact key _ _ _

theorem final4 (b : S4x8x1024.Idx → ℝ) (x : S1024.Idx → ℝ) (hB : m ((c : Thread nD τ).loc main_arg1) = fun i => (b i : EReal))
    (hX : m ((c : Thread nD τ).loc main_arg2) = fun i => (x i : EReal)) : (dats m 0 c).arrAt 4 (cfgs 0).N
    = Cert.Reference2Ideal.Read.val_main_v8 (F := Ideal) (m ((c : Thread nD τ).loc main_arg1)) (m ((c : Thread nD τ).loc main_arg2)) := by
  refine (dats m 0 c).arrAt_eq_of_after_last 4 t0_0 (by decide +kernel) _ fun j => ?_
  blk_simp
  rw [after0_4]
  frame_out
  rw [blk2, blk1, pay2 _ _ b x hB hX]

theorem final3' : (dats m 0 c).arrAt 3 (cfgs 0).N
    = Cert.Reference2Ideal.Read.val_main_v7 (F := Ideal) (m ((c : Thread nD τ).loc main_arg0)) := by
  rw [final3]
  funext j
  rw [Cert.Reference2Ideal.Read.val_main_v7_apply, Cert.Reference2Ideal.Read.val_main_v6_apply]
  pointwise [k0_pay1, Cert.Reference2Ideal.Read.val_main_cst_1]
  refine Finset.sum_congr rfl fun k _ => congrArg _ (funext fun a => ?_)
  match a with
  | ⟨0, _⟩ => rfl
  | ⟨1, _⟩ => rfl
  | ⟨2, _⟩ => rfl

/-- What the precondition says: the second and the third argument hold reals. -/
theorem reals (A0 : FVec Ideal S2x24x9216 .f32) (A1 : FVec Ideal S4x8x1024 .f32) (A2 : FVec Ideal S1024 .f32)
    (h : Cert.Pre_finite2.fn (F := Ideal) A0 A1 A2 = fun _ => 1#1) :
    (∃ b : S4x8x1024.Idx → ℝ, A1 = fun i => (b i : EReal)) ∧ ∃ x : S1024.Idx → ℝ, A2 = fun i => (x i : EReal) := by
  have e := congrFun h fun a => a.elim0
  simp only [Cert.Pre_finite2.fn] at e
  obtain ⟨h1, h2⟩ := IntOp.andi_eq_one.1 e
  exact ⟨Step.reals_of_all _ _ _ _ _ _ h1, Step.reals_of_all _ _ _ _ _ _ h2⟩

/-- From equal arguments with real entries both programs end with equal results. -/
theorem algebraic : Cert.algebraic_Kernel2Ideal_Reference2Ideal_pre_finite2 := by
  intro m g m' g' hpre hagree
  refine ⟨_, _, run_blocks m g, (θ_run _ _ _).mono (fun r h c => ?_) (Cert.Reference2Ideal.Value.run m' g')⟩
  obtain ⟨e0, e1, e2⟩ := hagree c
  obtain ⟨r7, r8, a0, a1, a2⟩ := h c
  obtain ⟨⟨b, hb⟩, ⟨x, hx⟩⟩ := reals _ _ _ (hpre c)
  refine ⟨r7.trans ?_, r8.trans ?_, a0, a1, a2⟩
  · rw [e0, Cert.Reference2Ideal.Read.val_main_v7_eq]
    exact (final3' m c).symm
  · rw [e1, e2, Cert.Reference2Ideal.Read.val_main_v8_eq]
    exact (final4 m c b x hb hx).symm

end Cert.Kernel2Ideal.Value
end
-- ==== Proof.RetentionKernel3.lean ====
/- The retention kernel run against both scans: what each of its chunks computes, over the reals. -/
module

public import proofs.«01_k».proof.Proof.Gen.Kernel3Ideal.Value
public import proofs.«01_k».proof.Proof.RetentionKernel

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Step.Retention
open Cert.KernelIdeal.Value (blk dec st ch wkv wqv wdv step outp at_scan ld_scan revc dist_read pos_read zero_read inb)

/-- A chunk against the forward scan, the chunks taken from the last to the first. -/
theorem ldR (x : Fin 2304 → Fin 128 → ℝ) (k : Fin 9) :
    View.ld (blk x) (Rect.unit (s := S1x2304x128) ![0, 256 * (8 - k.val), 0] S1x256x128.size (inb (by omega))) = ch Fin.revPerm (fwr x) (256 * k.val) :=
  ld_scan x _ _ _ _ _ fun j d => by
    simp only [fwr, rv, fw, Fin.revPerm_apply, Fin.val_rev]
    congr 2; omega

/-- A chunk against the backward scan: from the second to the last, then the first. -/
theorem ldC (x : Fin 2304 → Fin 128 → ℝ) (k : Fin 8) :
    View.ld (blk x) (Rect.unit (s := S1x2304x128) ![0, 256 * (k.val + 1), 0] S1x256x128.size (inb (by omega))) = ch 1 (bwr x) (256 * k.val) :=
  ld_scan x _ _ _ _ _ fun j d => by
    show x (Fin.ofNat 2304 (if 2303 - (256 * k.val + j.val) < 256 then 255 - (2303 - (256 * k.val + j.val)) else 2559 - (2303 - (256 * k.val + j.val)))) d = _
    rw [if_neg (by omega)]; congr 2; omega

theorem ldC8 (x : Fin 2304 → Fin 128 → ℝ) : View.ld (blk x) (Rect.unit (s := S1x2304x128) ![0, 0, 0] S1x256x128.size (inb (by omega))) = ch 1 (bwr x) 2048 :=
  ld_scan x _ _ _ _ _ fun j d => by
    show x (Fin.ofNat 2304 (if 2303 - (2048 + j.val) < 256 then 255 - (2303 - (2048 + j.val)) else 2559 - (2303 - (2048 + j.val)))) d = _
    rw [if_pos (by omega)]; congr 2; omega

section

variable (δ δ' : ℝ) (x0 x1 x2 : Fin 2304 → Fin 128 → ℝ)

theorem lsg_read : k0_pay3 (F := Ideal) (fun _ => (δ : EReal)) = fun _ => (lsg δ : EReal) := Cert.KernelIdeal.Value.lsg_read δ

theorem wdR : k0_pay108 (F := Ideal) (blk x0) (blk x1) (blk x2) (dec δ) (dec δ') = wdv Fin.revPerm false (lsg δ) := by
  funext i
  show k0_pay5 (F := Ideal) (fun _ => (δ : EReal)) i = _
  pointwise [k0_pay5, k0_pay4, lsg_read]
  rw [dist_read (i 1).isLt (i 0).isLt]
  refine Eq.trans ?_ (congrArg (fun z : ℝ => (wt false (lsg δ) z : EReal)) (show _ = ((Fin.revPerm (i 0)).val : ℝ) - ((Fin.revPerm (i 1)).val : ℝ) from
    (show ((i 1).val : ℝ) - ((i 0).val : ℝ) = (255 - ((i 0).val : ℝ)) - (255 - ((i 1).val : ℝ)) by ring).trans
      (congrArg₂ (· - ·) (revc (i 0)).symm (revc (i 1)).symm)))
  unfold wt
  norm_cast

theorem wqR : k0_pay109 (F := Ideal) (blk x0) (blk x1) (blk x2) (dec δ) (dec δ') = wqv Fin.revPerm (lsg δ) := by
  funext i
  show k0_pay7 (F := Ideal) (fun _ => (δ : EReal)) i = _
  pointwise [k0_pay7, k0_pay6, k0_pay4, k0_pay2, lsg_read]
  rw [pos_read (i 0).isLt, Step.ofBits_255]
  refine Eq.trans ?_ (congrArg (fun z : ℝ => (Real.exp ((z + 1) * lsg δ) : EReal)) (revc (i 0)).symm)
  norm_cast

theorem wkR : k0_pay110 (F := Ideal) (blk x0) (blk x1) (blk x2) (dec δ) (dec δ') = wkv Fin.revPerm (lsg δ) := by
  funext i
  show k0_pay8 (F := Ideal) (fun _ => (δ : EReal)) i = _
  pointwise [k0_pay8, k0_pay6, k0_pay4, k0_pay2, lsg_read]
  rw [pos_read (i 0).isLt, Step.ofBits_255]
  refine Eq.trans ?_ (congrArg (fun z : ℝ => (Real.exp ((255 - z) * lsg δ) : EReal)) (revc (i 0)).symm)
  norm_cast

theorem cdR : k0_pay111 (F := Ideal) (blk x0) (blk x1) (blk x2) (dec δ) (dec δ') = fun _ => (Real.exp (256 * lsg δ) : EReal) :=
  Cert.KernelIdeal.Value.cd_read δ

theorem stR0 : k0_pay112 (F := Ideal) (blk x0) (blk x1) (blk x2) (dec δ) (dec δ') = st (lsg δ) (fwr x1) (fwr x2) 0 :=
  zero_read.trans (funext fun i => congrArg Real.toEReal (state_zero _ _ _ _ _).symm)

theorem fpos {i : Fin 256} {n o s : ℕ} (h : s = o + i.val) (hn : o + n = 2048) : n + (Fin.revPerm i).val = 2303 - s := by
  rw [Fin.revPerm_apply, Fin.val_rev]; omega

/-- The first output: against the forward scan. -/
theorem out5 : out0_5 (F := Ideal) (blk x0) (blk x1) (blk x2) (dec δ) (dec δ')
    = fun i => (whole false (lsg δ) (fwr x0) (fwr x1) (fwr x2) 2304 (2303 - (i 1).val) (i 2) : EReal) := by
  have wk := wkR δ δ' x0 x1 x2
  have wq := wqR δ δ' x0 x1 x2
  have wd := wdR δ δ' x0 x1 x2
  have cd := cdR δ δ' x0 x1 x2
  have s0 := stR0 δ δ' x0 x1 x2
  have s1 := step wk cd s0 (ldR x1 0) (ldR x2 0)
  have s2 := step wk cd s1 (ldR x1 1) (ldR x2 1)
  have s3 := step wk cd s2 (ldR x1 2) (ldR x2 2)
  have s4 := step wk cd s3 (ldR x1 3) (ldR x2 3)
  have s5 := step wk cd s4 (ldR x1 4) (ldR x2 4)
  have s6 := step wk cd s5 (ldR x1 5) (ldR x2 5)
  have s7 := step wk cd s6 (ldR x1 6) (ldR x2 6)
  have s8 := step wk cd s7 (ldR x1 7) (ldR x2 7)
  have o0 := outp (by norm_num) wd wq s0 (ldR x0 0) (ldR x1 0) (ldR x2 0)
  have o1 := outp (by norm_num) wd wq s1 (ldR x0 1) (ldR x1 1) (ldR x2 1)
  have o2 := outp (by norm_num) wd wq s2 (ldR x0 2) (ldR x1 2) (ldR x2 2)
  have o3 := outp (by norm_num) wd wq s3 (ldR x0 3) (ldR x1 3) (ldR x2 3)
  have o4 := outp (by norm_num) wd wq s4 (ldR x0 4) (ldR x1 4) (ldR x2 4)
  have o5 := outp (by norm_num) wd wq s5 (ldR x0 5) (ldR x1 5) (ldR x2 5)
  have o6 := outp (by norm_num) wd wq s6 (ldR x0 6) (ldR x1 6) (ldR x2 6)
  have o7 := outp (by norm_num) wd wq s7 (ldR x0 7) (ldR x1 7) (ldR x2 7)
  have o8 := outp (by norm_num) wd wq s8 (ldR x0 8) (ldR x1 8) (ldR x2 8)
  funext y
  unfold out0_5
  canon_tiles x h
  · exact at_scan o8 (fpos (o := 0) (by simp only [h1]; omega) rfl) h2
  · exact at_scan o7 (fpos h1 rfl) h2
  · exact at_scan o6 (fpos h1 rfl) h2
  · exact at_scan o5 (fpos h1 rfl) h2
  · exact at_scan o4 (fpos h1 rfl) h2
  · exact at_scan o3 (fpos h1 rfl) h2
  · exact at_scan o2 (fpos h1 rfl) h2
  · exact at_scan o1 (fpos h1 rfl) h2
  · exact at_scan o0 (fpos h1 rfl) h2

theorem lsg_read' : k0_pay56 (F := Ideal) (k0_pay54 (fun _ => (δ : EReal))) (k0_pay55 (fun _ => (δ : EReal))) (1 : EReal)
    = fun _ => (lsg δ : EReal) :=
  (congrArg (k0_pay56 (F := Ideal) (k0_pay54 (fun _ => (δ : EReal))) (k0_pay55 (fun _ => (δ : EReal))))
    (by simp [Scalar.ofBits, Ideal.ofBits, Ideal.ieee]; norm_cast; norm_num : (1 : EReal) = Scalar.ofBits (F := Ideal) .f32 0x3F800000#32)).trans (Cert.KernelIdeal.Value.lsg_read' δ)

theorem wdC : k0_pay128 (F := Ideal) (blk x0) (blk x1) (blk x2) (dec δ') (dec δ) = wdv 1 true (lsg δ) := by
  funext i
  show k0_pay58 (F := Ideal) (iota .tc S256x256 32 [0] iota_S256x256_d0_w32) (iota .tc S256x256 32 [1] iota_S256x256_d1_w32)
    (k0_pay54 (fun _ => (δ : EReal))) (k0_pay55 (fun _ => (δ : EReal))) (Scalar.ofBits .f32 0x3F800000#32) i = _
  pointwise [k0_pay58, k0_pay57, lsg_read']
  rw [dist_read (i 0).isLt (i 1).isLt]
  show _ = ((wt true (lsg δ) (((i 0).val : ℝ) - ((i 1).val : ℝ)) : ℝ) : EReal)
  unfold wt
  norm_cast

theorem wqC : k0_pay129 (F := Ideal) (blk x0) (blk x1) (blk x2) (dec δ') (dec δ) = wqv 1 (lsg δ) := by
  funext i
  show k0_pay59 (F := Ideal) (k0_pay2 (F := Ideal)) (k0_pay54 (fun _ => (δ : EReal))) (k0_pay55 (fun _ => (δ : EReal))) (Scalar.ofBits .f32 0x3F800000#32) i = _
  pointwise [k0_pay59, k0_pay57, k0_pay2, lsg_read']
  rw [pos_read (i 0).isLt]
  show _ = ((Real.exp ((((i 0).val : ℝ) + 1) * lsg δ) : ℝ) : EReal)
  norm_cast

theorem wkC : k0_pay130 (F := Ideal) (blk x0) (blk x1) (blk x2) (dec δ') (dec δ) = wkv 1 (lsg δ) := by
  funext i
  show k0_pay60 (F := Ideal) (k0_pay2 (F := Ideal)) (k0_pay54 (fun _ => (δ : EReal))) (k0_pay55 (fun _ => (δ : EReal))) (Scalar.ofBits .f32 0x3F800000#32) i = _
  pointwise [k0_pay60, k0_pay57, k0_pay2, lsg_read']
  rw [pos_read (i 0).isLt, Step.ofBits_255]
  show _ = ((Real.exp ((255 - ((i 0).val : ℝ)) * lsg δ) : ℝ) : EReal)
  norm_cast

theorem cdC : k0_pay131 (F := Ideal) (blk x0) (blk x1) (blk x2) (dec δ') (dec δ) = fun _ => (Real.exp (256 * lsg δ) : EReal) := by
  funext i
  show k0_pay61 (F := Ideal) (k0_pay54 (fun _ => (δ : EReal))) (k0_pay55 (fun _ => (δ : EReal))) (Scalar.ofBits .f32 0x3F800000#32) i = _
  pointwise [k0_pay61, lsg_read']
  rw [Step.ofBits_256]
  norm_cast

theorem stC0 : k0_pay132 (F := Ideal) (blk x0) (blk x1) (blk x2) (dec δ') (dec δ) = st (lsg δ) (bwr x1) (bwr x2) 0 :=
  zero_read.trans (funext fun i => congrArg Real.toEReal (state_zero _ _ _ _ _).symm)

theorem cpos_hi {i : Fin 256} {n o s : ℕ} (h : s = o + i.val) (ho : 256 ≤ o) (hn : n + 256 = o) (ht : o ≤ 2048) :
    n + ((1 : Equiv.Perm (Fin 256)) i).val = 2303 - bpos s := by
  rw [Equiv.Perm.coe_one, id_eq, bpos, if_neg (by omega)]; omega

theorem cpos_lo {i : Fin 256} {s : ℕ} (h : s = i.val) : 2048 + ((1 : Equiv.Perm (Fin 256)) i).val = 2303 - bpos s := by
  rw [Equiv.Perm.coe_one, id_eq, bpos, if_pos (by omega)]; omega

/-- The second output: against the backward scan. -/
theorem out6 : out0_6 (F := Ideal) (blk x0) (blk x1) (blk x2) (dec δ') (dec δ)
    = fun i => (whole true (lsg δ) (bwr x0) (bwr x1) (bwr x2) 2304 (2303 - bpos (i 1).val) (i 2) : EReal) := by
  have wk := wkC δ δ' x0 x1 x2
  have wq := wqC δ δ' x0 x1 x2
  have wd := wdC δ δ' x0 x1 x2
  have cd := cdC δ δ' x0 x1 x2
  have s0 := stC0 δ δ' x0 x1 x2
  have s1 := step wk cd s0 (ldC x1 0) (ldC x2 0)
  have s2 := step wk cd s1 (ldC x1 1) (ldC x2 1)
  have s3 := step wk cd s2 (ldC x1 2) (ldC x2 2)
  have s4 := step wk cd s3 (ldC x1 3) (ldC x2 3)
  have s5 := step wk cd s4 (ldC x1 4) (ldC x2 4)
  have s6 := step wk cd s5 (ldC x1 5) (ldC x2 5)
  have s7 := step wk cd s6 (ldC x1 6) (ldC x2 6)
  have s8 := step wk cd s7 (ldC x1 7) (ldC x2 7)
  have o0 := outp (by norm_num) wd wq s0 (ldC x0 0) (ldC x1 0) (ldC x2 0)
  have o1 := outp (by norm_num) wd wq s1 (ldC x0 1) (ldC x1 1) (ldC x2 1)
  have o2 := outp (by norm_num) wd wq s2 (ldC x0 2) (ldC x1 2) (ldC x2 2)
  have o3 := outp (by norm_num) wd wq s3 (ldC x0 3) (ldC x1 3) (ldC x2 3)
  have o4 := outp (by norm_num) wd wq s4 (ldC x0 4) (ldC x1 4) (ldC x2 4)
  have o5 := outp (by norm_num) wd wq s5 (ldC x0 5) (ldC x1 5) (ldC x2 5)
  have o6 := outp (by norm_num) wd wq s6 (ldC x0 6) (ldC x1 6) (ldC x2 6)
  have o7 := outp (by norm_num) wd wq s7 (ldC x0 7) (ldC x1 7) (ldC x2 7)
  have o8 := outp (by norm_num) wd wq s8 (ldC8 x0) (ldC8 x1) (ldC8 x2)
  funext y
  unfold out0_6
  canon_tiles x h
  · exact at_scan o8 (cpos_lo (by simp only [h1])) h2
  · exact at_scan o7 (cpos_hi h1 (by norm_num) rfl (by norm_num)) h2
  · exact at_scan o6 (cpos_hi h1 (by norm_num) rfl (by norm_num)) h2
  · exact at_scan o5 (cpos_hi h1 (by norm_num) rfl (by norm_num)) h2
  · exact at_scan o4 (cpos_hi h1 (by norm_num) rfl (by norm_num)) h2
  · exact at_scan o3 (cpos_hi h1 (by norm_num) rfl (by norm_num)) h2
  · exact at_scan o2 (cpos_hi h1 (by norm_num) rfl (by norm_num)) h2
  · exact at_scan o1 (cpos_hi h1 (by norm_num) rfl (by norm_num)) h2
  · exact at_scan o0 (cpos_hi h1 (by norm_num) rfl (by norm_num)) h2

end

end Cert.Kernel3Ideal.Value
-- ==== Proof.RetentionFinal3.lean ====
/- The arrays the retention kernel leaves when it runs against both scans, for the gradient by the keys. -/
module

public import proofs.«01_k».proof.Proof.RetentionKernel3
public import proofs.«01_k».proof.Proof.RetentionFinal

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Step.Retention
open Cert.KernelIdeal.Value (blk dec hd hof eof ret)

variable (m : (ℓ : Loc nD τ sig) → Buf (Elt Ideal) ℓ) (c : Dev nD)

theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val % 4, 0, 0] ∧ win0_4.index t = ![t.val % 4, 0, 0]
    ∧ win0_5.index t = ![t.val / 4, 0, t.val % 4] ∧ win0_6.index t = ![t.val / 4, 0, t.val % 4] :=
  (by decide +kernel : ∀ t : Fin grid0.N, _)

theorem lt8 (t : Fin cfg0.N) : t.val < 8 := lt_of_lt_of_eq t.isLt N_0

abbrev tb (t : Fin cfg0.N) : Fin 2 := ⟨t.val / 4, by have := lt8 t; omega⟩
abbrev th (t : Fin cfg0.N) : Fin 4 := ⟨t.val % 4, by omega⟩

/-- A block's column in the whole array. -/
abbrev col (t : Fin cfg0.N) (j : S1x2304x128.Idx) : Fin 512 := ⟨128 * (t.val % 4) + (j 2).val, by have : (j 2).val < 128 := (j 2).isLt; omega⟩

theorem blk0 (t : Fin cfg0.N) (x : S2x2304x512.Idx → ℝ) (hx : m ((c : Thread nD τ).loc main_arg2) = fun i => (x i : EReal)) :
    iblk m c 0 t = blk (hd x (tb t) (th t)) := by
  funext j
  refine Eq.trans (b := m ((c : Thread nD τ).loc main_arg2) (ix3 (tb t) (j 1) (col t j))) ?_ (by rw [hx]; rfl)
  blk_point [iblk, V, idx t]

theorem blk1 (t : Fin cfg0.N) (x : S2x2304x512.Idx → ℝ) (hx : m ((c : Thread nD τ).loc main_arg3) = fun i => (x i : EReal)) :
    iblk m c 1 t = blk (hd x (tb t) (th t)) := by
  funext j
  refine Eq.trans (b := m ((c : Thread nD τ).loc main_arg3) (ix3 (tb t) (j 1) (col t j))) ?_ (by rw [hx]; rfl)
  blk_point [iblk, V, idx t]

theorem blk2 (t : Fin cfg0.N) (x : S2x2304x512.Idx → ℝ) (hx : m ((c : Thread nD τ).loc main_arg0) = fun i => (x i : EReal)) :
    iblk m c 2 t = blk (hd x (tb t) (th t)) := by
  funext j
  refine Eq.trans (b := m ((c : Thread nD τ).loc main_arg0) (ix3 (tb t) (j 1) (col t j))) ?_ (by rw [hx]; rfl)
  blk_point [iblk, V, idx t]

theorem blk3 (t : Fin cfg0.N) (x : S4.Idx → ℝ) (hx : m ((c : Thread nD τ).loc main_arg4) = fun i => (x i : EReal)) :
    iblk m c 3 t = dec (x (ix1 (th t))) := by
  funext j
  refine Eq.trans (b := m ((c : Thread nD τ).loc main_arg4) (ix1 (th t))) ?_ (by rw [hx])
  unfold iblk
  entry_read
  blk_simp
  pointwise
  blk_point [idx t]

theorem blk4 (t : Fin cfg0.N) (x : S4.Idx → ℝ) (hx : m ((c : Thread nD τ).loc main_arg5) = fun i => (x i : EReal)) :
    iblk m c 4 t = dec (x (ix1 (th t))) := by
  funext j
  refine Eq.trans (b := m ((c : Thread nD τ).loc main_arg5) (ix1 (th t))) ?_ (by rw [hx])
  unfold iblk
  entry_read
  blk_simp
  pointwise
  blk_point [idx t]

variable (x0 x1 x2 : S2x2304x512.Idx → ℝ) (d d' : S4.Idx → ℝ)
  (h0 : m ((c : Thread nD τ).loc main_arg2) = fun i => (x0 i : EReal)) (h1 : m ((c : Thread nD τ).loc main_arg3) = fun i => (x1 i : EReal))
  (h2 : m ((c : Thread nD τ).loc main_arg0) = fun i => (x2 i : EReal)) (h3 : m ((c : Thread nD τ).loc main_arg4) = fun i => (d i : EReal))
  (h4 : m ((c : Thread nD τ).loc main_arg5) = fun i => (d' i : EReal))

include h0 h1 h2 h3 h4

theorem point5 (t : Fin cfg0.N) (y : S1x2304x128.Idx) (i : S2x2304x512.Idx) (e0 : (i 0).val = t.val / 4) (e1 : (i 1).val = (y 1).val)
    (e2 : (i 2).val = 128 * (t.val % 4) + (y 2).val) :
    out0_5 (iblk m c 0 t) (iblk m c 1 t) (iblk m c 2 t) (iblk m c 3 t) (iblk m c 4 t) y = (ret false fwr (2303 - ·) d x0 x1 x2 i : EReal) := by
  rw [blk0 m c t x0 h0, blk1 m c t x1 h1, blk2 m c t x2 h2, blk3 m c t d h3, blk4 m c t d' h4, out5]
  have hy : (y 2).val < 128 := (y 2).isLt
  refine congrArg Real.toEReal ?_
  unfold ret
  rw [show i 0 = tb t from Fin.ext e0, show hof (i 2) = th t from Fin.ext (by show (i 2).val / 128 = t.val % 4; omega),
    show eof (i 2) = y 2 from Fin.ext (by show (i 2).val % 128 = (y 2).val; omega), e1]

theorem final5 : (dats m 0 c).arrAt 5 (cfgs 0).N = fun i => (ret false fwr (2303 - ·) d x0 x1 x2 i : EReal) := by
  refine (dats m 0 c).arrAt_eq_of_covers 5 _ (by decide +kernel) fun t _ y => ?_
  blk_simp
  rw [after0_5]
  refine point5 m c x0 x1 x2 d d' h0 h1 h2 h3 h4 t y _ ?_ ?_ ?_ <;> (blk_simp; rw [(idx t).2.2.2.2.2.1] <;> simp [mul_comm])

theorem point6 (t : Fin cfg0.N) (y : S1x2304x128.Idx) (i : S2x2304x512.Idx) (e0 : (i 0).val = t.val / 4) (e1 : (i 1).val = (y 1).val)
    (e2 : (i 2).val = 128 * (t.val % 4) + (y 2).val) :
    out0_6 (iblk m c 0 t) (iblk m c 1 t) (iblk m c 2 t) (iblk m c 3 t) (iblk m c 4 t) y = (ret true bwr (2303 - bpos ·) d' x0 x1 x2 i : EReal) := by
  rw [blk0 m c t x0 h0, blk1 m c t x1 h1, blk2 m c t x2 h2, blk3 m c t d h3, blk4 m c t d' h4, out6]
  have hy : (y 2).val < 128 := (y 2).isLt
  refine congrArg Real.toEReal ?_
  unfold ret
  rw [show i 0 = tb t from Fin.ext e0, show hof (i 2) = th t from Fin.ext (by show (i 2).val / 128 = t.val % 4; omega),
    show eof (i 2) = y 2 from Fin.ext (by show (i 2).val % 128 = (y 2).val; omega), e1]

theorem final6 : (dats m 0 c).arrAt 6 (cfgs 0).N = fun i => (ret true bwr (2303 - bpos ·) d' x0 x1 x2 i : EReal) := by
  refine (dats m 0 c).arrAt_eq_of_covers 6 _ (by decide +kernel) fun t _ y => ?_
  blk_simp
  rw [after0_6]
  refine point6 m c x0 x1 x2 d d' h0 h1 h2 h3 h4 t y _ ?_ ?_ ?_ <;> (blk_simp; rw [(idx t).2.2.2.2.2.2] <;> simp [mul_comm])

end Cert.Kernel3Ideal.Value
-- ==== Proof.RetArrays3.lean ====
/- The reference's chunked operations against a scan, over the reals: what each chunk hands back to the state before it, and the rows
of a chunk's gradient by the keys. -/
module

public import proofs.«01_k».proof.Proof.RetArrays
public import proofs.«01_k».proof.Proof.Gen.Reference3Ideal.Read

@[expose] public section

set_option maxRecDepth 16384

noncomputable section

namespace Cert.Reference3Ideal.Chunks

open Cert.Reference3Ideal Cert.Reference3Ideal.Gen Idealize.ShloMosaic Idealize.ShloMosaic.TcCoe Idealize.SL.Sem Idealize.ShloMosaic.StableHlo
open Step.Retention
open Cert.ReferenceIdeal.Chunks (Seqs ch2 ch16 wkA wqA cdA wdA bw2 bw16 row)

/-- What the positions from `n` on hand back, for all heads, and what each chunk's state is handed. -/
abbrev tlA (L : Fin 4 → ℝ) (b c : Seqs) (n : ℕ) : FVec Ideal S2x4x128x128 .f32 :=
  fun i => (tail (L (i 1)) (b (i 0) (i 1)) (c (i 0) (i 1)) n (i 2) (i 3) : EReal)
abbrev tlA2 (L : Fin 4 → ℝ) (b c : Seqs) (n : ℕ) : FVec Ideal S2x2x4x128x128 .f32 :=
  fun i => (tail (L (i 2)) (b (i 0) (i 2)) (c (i 0) (i 2)) (n + 128 * ((i 1).val + 1)) (i 3) (i 4) : EReal)
abbrev tlA16 (L : Fin 4 → ℝ) (b c : Seqs) (n : ℕ) : FVec Ideal S2x16x4x128x128 .f32 :=
  fun i => (tail (L (i 2)) (b (i 0) (i 2)) (c (i 0) (i 2)) (n + 128 * ((i 1).val + 1)) (i 3) (i 4) : EReal)

/-- The chunks' own outer products. -/
def og2 (Q G : FVec Ideal S2x2x128x4x128 .f32) (W : FVec Ideal S128x4 .f32) : FVec Ideal S2x2x4x128x128 .f32 :=
  transpose S2x2x4x128x128 [0, 1, 2, 4, 3] (Host.dotGeneral dot_S2x2x4x128x128_S2x2x128x4x128_S2x2x4x128x128_4_2_3_4_012_013 none
    (transpose S2x2x4x128x128 [0, 1, 3, 4, 2] G transposes_S2x2x128x4x128_S2x2x4x128x128_0_1_3_4_2) (mulf Q (bw2 W)))
    transposes_S2x2x4x128x128_S2x2x4x128x128_0_1_2_4_3

def og16 (Q G : FVec Ideal S2x16x128x4x128 .f32) (W : FVec Ideal S128x4 .f32) : FVec Ideal S2x16x4x128x128 .f32 :=
  transpose S2x16x4x128x128 [0, 1, 2, 4, 3] (Host.dotGeneral dot_S2x16x4x128x128_S2x16x128x4x128_S2x16x4x128x128_4_2_3_4_012_013 none
    (transpose S2x16x4x128x128 [0, 1, 3, 4, 2] G transposes_S2x16x128x4x128_S2x16x4x128x128_0_1_3_4_2) (mulf Q (bw16 W)))
    transposes_S2x16x4x128x128_S2x16x4x128x128_0_1_2_4_3

theorem og2_read (L : Fin 4 → ℝ) (b c : Seqs) (n : ℕ) : og2 (ch2 b n) (ch2 c n) (wqA L)
    = fun i => ((∑ j : Fin 128, b (i 0) (i 2) (n + 128 * (i 1).val + j.val) (i 3) * Real.exp (((j.val : ℝ) + 1) * L (i 2))
        * c (i 0) (i 2) (n + 128 * (i 1).val + j.val) (i 4) : ℝ) : EReal) := by
  funext i
  pointwise [og2, bw2]
  simp only [← EReal.coe_mul, ← Step.coe_sum]
  exact congrArg Real.toEReal (Finset.sum_congr rfl fun j _ => mul_comm _ _)

theorem og16_read (L : Fin 4 → ℝ) (b c : Seqs) (n : ℕ) : og16 (ch16 b n) (ch16 c n) (wqA L)
    = fun i => ((∑ j : Fin 128, b (i 0) (i 2) (n + 128 * (i 1).val + j.val) (i 3) * Real.exp (((j.val : ℝ) + 1) * L (i 2))
        * c (i 0) (i 2) (n + 128 * (i 1).val + j.val) (i 4) : ℝ) : EReal) := by
  funext i
  pointwise [og16, bw16]
  simp only [← EReal.coe_mul, ← Step.coe_sum]
  exact congrArg Real.toEReal (Finset.sum_congr rfl fun j _ => mul_comm _ _)

abbrev sl16 (KV : FVec Ideal S2x16x4x128x128 .f32) (k : ℕ) (h : S2x16x4x128x128.Slices ![0, k, 0, 0, 0] S2x1x4x128x128) : FVec Ideal S2x4x128x128 .f32 :=
  shapeCast S2x4x128x128 (extractStridedSlice S2x1x4x128x128 ![0, k, 0, 0, 0] KV h) shapeCasts_S2x1x4x128x128_S2x4x128x128

abbrev sl2 (KV : FVec Ideal S2x2x4x128x128 .f32) (k : ℕ) (h : S2x2x4x128x128.Slices ![0, k, 0, 0, 0] S2x1x4x128x128) : FVec Ideal S2x4x128x128 .f32 :=
  shapeCast S2x4x128x128 (extractStridedSlice S2x1x4x128x128 ![0, k, 0, 0, 0] KV h) shapeCasts_S2x1x4x128x128_S2x4x128x128

/-- One chunk back. -/
def back (CD : FVec Ideal S4 .f32) (S T : FVec Ideal S2x4x128x128 .f32) : FVec Ideal S2x4x128x128 .f32 :=
  addf T (mulf (broadcastInDim S2x4x128x128 ![0, 1, 2, 3] bcast_S1x4x1x1_S2x4x128x128_0_1_2_3 (broadcastInDim S1x4x1x1 ![1] bcast_S4_S1x4x1x1_1 CD)) S)

theorem sl16_read (L : Fin 4 → ℝ) (b c : Seqs) (n k : ℕ) (h) : sl16 (og16 (ch16 b n) (ch16 c n) (wqA L)) k h
    = fun i => ((∑ j : Fin 128, b (i 0) (i 1) (n + 128 * k + j.val) (i 2) * Real.exp (((j.val : ℝ) + 1) * L (i 1))
        * c (i 0) (i 1) (n + 128 * k + j.val) (i 3) : ℝ) : EReal) := by
  rw [og16_read]
  funext i
  pointwise [sl16]

theorem sl2_read (L : Fin 4 → ℝ) (b c : Seqs) (n k : ℕ) (h) : sl2 (og2 (ch2 b n) (ch2 c n) (wqA L)) k h
    = fun i => ((∑ j : Fin 128, b (i 0) (i 1) (n + 128 * k + j.val) (i 2) * Real.exp (((j.val : ℝ) + 1) * L (i 1))
        * c (i 0) (i 1) (n + 128 * k + j.val) (i 3) : ℝ) : EReal) := by
  rw [og2_read]
  funext i
  pointwise [sl2]

theorem back_read (L : Fin 4 → ℝ) (b c : Seqs) (n : ℕ) (h : n + 128 ≤ 2304) :
    back (cdA L) (tlA L b c (n + 128)) (fun i => ((∑ j : Fin 128, b (i 0) (i 1) (n + j.val) (i 2) * Real.exp (((j.val : ℝ) + 1) * L (i 1))
        * c (i 0) (i 1) (n + j.val) (i 3) : ℝ) : EReal)) = tlA L b c n := by
  funext i
  pointwise [back]
  simp only [← EReal.coe_mul, ← EReal.coe_add]
  exact congrArg Real.toEReal (tail_chunk (L (i 1)) (b (i 0) (i 1)) (c (i 0) (i 1)) h (i 2) (i 3))

theorem tail_last (L : ℝ) (b c : ℕ → Fin 128 → ℝ) {n : ℕ} (h : n + 128 = 2304) (d e : Fin 128) :
    ∑ j : Fin 128, b (n + j.val) d * Real.exp (((j.val : ℝ) + 1) * L) * c (n + j.val) e = tail L b c n d e := by
  have k := tail_chunk L b c h.le d e
  rw [h, tail_end, mul_zero, add_zero] at k
  exact k

theorem last_read (L : Fin 4 → ℝ) (b c : Seqs) (n : ℕ) (h : n + 128 = 2304) :
    (fun i => ((∑ j : Fin 128, b (i 0) (i 1) (n + j.val) (i 2) * Real.exp (((j.val : ℝ) + 1) * L (i 1))
        * c (i 0) (i 1) (n + j.val) (i 3) : ℝ) : EReal) : FVec Ideal S2x4x128x128 .f32) = tlA L b c n :=
  funext fun i => congrArg Real.toEReal (tail_last (L (i 1)) (b (i 0) (i 1)) (c (i 0) (i 1)) h (i 2) (i 3))

theorem slice15 : S2x16x4x128x128.Slices ![0, 15, 0, 0, 0] S2x1x4x128x128 := by decide
theorem slices : ∀ k : Fin 15, S2x16x4x128x128.Slices ![0, 14 - k.val, 0, 0, 0] S2x1x4x128x128 := by decide

/-- The chain of states handed back, from the last chunk to the first. -/
theorem chainB (L : Fin 4 → ℝ) (b c : Seqs) (n : ℕ) (hn : n + 2048 = 2304) (CD : FVec Ideal S4 .f32) (KV : FVec Ideal S2x16x4x128x128 .f32) (S : Fin 16 → FVec Ideal S2x4x128x128 .f32)
    (hc : CD = cdA L) (hk : KV = og16 (ch16 b n) (ch16 c n) (wqA L)) (h0 : S 0 = sl16 KV 15 slice15)
    (hs : ∀ k : Fin 15, S k.succ = back CD (S k.castSucc) (sl16 KV (14 - k.val) (slices k))) (k : Fin 16) :
    S k = tlA L b c (n + 128 * (15 - k.val)) := by
  subst hc hk
  induction k using Fin.induction with
  | zero => rw [h0, sl16_read]; exact last_read L b c (n + 128 * 15) (by omega)
  | succ k ih =>
    rw [hs k, ih, sl16_read]
    have e : n + 128 * (15 - k.castSucc.val) = n + 128 * (14 - k.val) + 128 := by
      have := k.isLt; simp only [Fin.val_castSucc]; omega
    rw [e]
    refine (back_read L b c (n + 128 * (14 - k.val)) (by omega)).trans ?_
    rw [show 14 - k.val = 15 - k.succ.val by simp only [Fin.val_succ]; omega]

theorem padsB : ∀ k : Fin 15, S2x1x4x128x128.Pads ![0, 14 - k.val, 0, 0, 0] ![0, 1 + k.val, 0, 0, 0] ![0, 0, 0, 0, 0] S2x16x4x128x128 := by decide

/-- A state at its place among the sixteen. -/
def at16 (Z : FVec Ideal S_ .f32) (k : Fin 15) (S : FVec Ideal S2x4x128x128 .f32) : FVec Ideal S2x16x4x128x128 .f32 :=
  pad S2x16x4x128x128 ![0, 14 - k.val, 0, 0, 0] ![0, 1 + k.val, 0, 0, 0] ![0, 0, 0, 0, 0] (row S) Z (padsB k) h_S_

theorem zero_at : constant (F := Ideal) S_ FTy.f32 0#32 = fun _ => (0 : EReal) := by
  funext i
  change Ideal.ofBits .f32 0#32 = 0
  simp [Ideal.ofBits, Ideal.ieee]

theorem at16_read (k : Fin 15) (S : FVec Ideal S2x4x128x128 .f32) :
    at16 (constant (F := Ideal) S_ FTy.f32 0#32) k S = fun i => if (i 1).val = 14 - k.val then S (ix4 (i 0) (i 2) (i 3) (i 4)) else 0 := by
  funext i
  rw [zero_at]
  pointwise [at16]
  split_ifs <;> first | rfl | omega

theorem tlA_at (L : Fin 4 → ℝ) (b c : Seqs) {n n' : ℕ} (h : n = n') (i0 : Fin 2) (i2 : Fin 4) (i3 i4 : Fin 128) :
    tlA L b c n (ix4 i0 i2 i3 i4) = (tail (L i2) (b i0 i2) (c i0 i2) n' i3 i4 : EReal) := by subst h; rfl

/-- Adding one state more to those already in place. -/
theorem add_at {A B p : Prop} [Decidable A] [Decidable B] [Decidable p] {x y : EReal} (hA : ¬(A ∧ p)) (hB : B ↔ A ∨ p) (hxy : p → y = x) :
    (if A then x else 0) + (if p then y else 0) = if B then x else 0 := by
  by_cases ha : A
  · have hp : ¬p := fun h => hA ⟨ha, h⟩
    rw [if_pos ha, if_neg hp, if_pos (hB.2 (.inl ha)), add_zero]
  · by_cases hp : p
    · rw [if_neg ha, if_pos hp, if_pos (hB.2 (.inr hp)), zero_add, hxy hp]
    · rw [if_neg ha, if_neg hp, if_neg (fun h => (hB.1 h).elim ha hp), add_zero]

/-- The states handed back, put in place one after the other. -/
theorem chainP (L : Fin 4 → ℝ) (b c : Seqs) (n : ℕ) (hn : n + 2048 = 2304) (U : Fin 16 → FVec Ideal S2x4x128x128 .f32) (A : Fin 15 → FVec Ideal S2x16x4x128x128 .f32)
    (hU : ∀ k, U k = tlA L b c (n + 128 * (15 - k.val))) (h0 : A 0 = at16 (constant (F := Ideal) S_ FTy.f32 0#32) 0 (U 0))
    (hs : ∀ k : Fin 14, A k.succ = addf (A k.castSucc) (at16 (constant (F := Ideal) S_ FTy.f32 0#32) k.succ (U k.castSucc.succ))) :
    A 14 = tlA16 L b c n := by
  have key : ∀ k : Fin 15, A k = fun i => if 14 - k.val ≤ (i 1).val ∧ (i 1).val ≤ 14 then tlA16 L b c n i else 0 := by
    intro k
    induction k using Fin.induction with
    | zero =>
      rw [h0, at16_read, hU 0]
      funext i
      by_cases h : (i 1).val = 14
      · exact (if_pos h).trans ((tlA_at L b c (by rw [h]; rfl) _ _ _ _).trans (if_pos ⟨h.ge, h.le⟩).symm)
      · exact (if_neg h).trans (if_neg (fun h' => h (le_antisymm h'.2 h'.1))).symm
    | succ k ih =>
      rw [hs k, ih, at16_read, hU]
      funext i
      have hk := k.isLt
      refine add_at (p := (i 1).val = 14 - k.succ.val) ?_ ?_ ?_
      · simp only [Fin.val_succ, Fin.val_castSucc]; omega
      · simp only [Fin.val_succ, Fin.val_castSucc]; omega
      · intro h
        exact tlA_at L b c (by simp only [Fin.val_succ, Fin.val_castSucc] at h ⊢; omega) _ _ _ _
  rw [key 14]
  funext i
  have hi : (i 1).val < 16 := (i 1).isLt
  by_cases h : (i 1).val ≤ 14
  · exact if_pos ⟨Nat.zero_le _, h⟩
  · refine (if_neg (fun h' => h h'.2)).trans ?_
    have e : n + 128 * ((i 1).val + 1) = 2304 := by omega
    exact (congrArg Real.toEReal ((congrArg (fun t => tail (L (i 2)) (b (i 0) (i 2)) (c (i 0) (i 2)) t (i 3) (i 4)) e).trans (tail_end _ _ _ _ _))).symm

/-- The two states of the context's chunks. -/
def pair2 (Z : FVec Ideal S_ .f32) (S' S : FVec Ideal S2x4x128x128 .f32) : FVec Ideal S2x2x4x128x128 .f32 :=
  addf (pad S2x2x4x128x128 ![0, 1, 0, 0, 0] ![0, 0, 0, 0, 0] ![0, 0, 0, 0, 0] (row S') Z pads_S2x1x4x128x128_S2x2x4x128x128_000_100_000_000_000 h_S_)
    (pad S2x2x4x128x128 ![0, 0, 0, 0, 0] ![0, 1, 0, 0, 0] ![0, 0, 0, 0, 0] (row S) Z pads_S2x1x4x128x128_S2x2x4x128x128_000_010_000_000_000 h_S_)

theorem pair2_read (L : Fin 4 → ℝ) (b c : Seqs) (n : ℕ) :
    pair2 (constant (F := Ideal) S_ FTy.f32 0#32) (tlA L b c (n + 256)) (tlA L b c (n + 128)) = tlA2 L b c n := by
  funext i
  rw [zero_at]
  pointwise [pair2]
  have hi : (i 1).val < 2 := (i 1).isLt
  by_cases h : (i 1).val < 1
  · exact (congrArg₂ (· + ·) (dif_neg (by omega)) (dif_pos h)).trans ((zero_add _).trans (tlA_at L b c (by omega) _ _ _ _))
  · exact (congrArg₂ (· + ·) (dif_pos (by omega)) (dif_neg h)).trans ((add_zero _).trans (tlA_at L b c (by omega) _ _ _ _))

/-- A row of the gradient by the keys is what its chunk hands back, and what it sees of itself. -/
theorem dk_real (strict : Bool) (L : ℝ) (a b c : ℕ → Fin 128 → ℝ) (n : ℕ) (h : n + 128 ≤ 2304) (i e : Fin 128) :
    (∑ d, tail L c b (n + 128) e d * a (n + i.val) d) * Real.exp ((127 - (i.val : ℝ)) * L)
      + ∑ j : Fin 128, (∑ d, b (n + j.val) d * a (n + i.val) d) * wt strict L ((j.val : ℝ) - (i.val : ℝ)) * c (n + j.val) e
      = later strict L a b c (n + i.val) e := by
  refine Eq.trans (congrArg₂ _ ?_ ?_) (later_chunk strict L a b c h i e)
  · rw [Finset.sum_mul]
    refine Finset.sum_congr rfl fun d _ => ?_
    have : tail L c b (n + 128) e d = tail L b c (n + 128) d e := congrArg (Real.exp L * ·) (Finset.sum_congr rfl fun t _ => by ring)
    rw [this]; ring
  · refine Finset.sum_congr rfl fun j _ => ?_
    rw [Finset.sum_congr rfl fun d _ => mul_comm _ _]

/-- The rows of all chunks' gradients by the keys. -/
def dk2 (V Q G : FVec Ideal S2x2x128x4x128 .f32) (S : FVec Ideal S2x2x4x128x128 .f32) (WK : FVec Ideal S128x4 .f32) (W : FVec Ideal S4x128x128 .f32) :
    FVec Ideal S2x2x128x4x128 .f32 :=
  addf
    (mulf (transpose S2x2x128x4x128 [0, 1, 4, 2, 3] (Host.dotGeneral dot_S2x2x4x128x128_S2x2x128x4x128_S2x2x4x128x128_4_4_3_2_012_013 none S V)
      transposes_S2x2x4x128x128_S2x2x128x4x128_0_1_4_2_3) (bw2 WK))
    (transpose S2x2x128x4x128 [0, 1, 3, 2, 4] (Host.dotGeneral dot_S2x2x4x128x128_S2x2x128x4x128_S2x2x4x128x128_3_2_4_4_012_013 none
      (mulf (Host.dotGeneral dot_S2x2x4x128x128_S2x2x128x4x128_S2x2x4x128x128_3_4_4_2_012_013 none
        (transpose S2x2x4x128x128 [0, 1, 3, 4, 2] G transposes_S2x2x128x4x128_S2x2x4x128x128_0_1_3_4_2) V)
        (broadcastInDim S2x2x4x128x128 ![0, 1, 2, 3, 4] bcast_S1x1x4x128x128_S2x2x4x128x128_0_1_2_3_4
          (broadcastInDim S1x1x4x128x128 ![2, 3, 4] bcast_S4x128x128_S1x1x4x128x128_2_3_4 W))) Q) transposes_S2x2x4x128x128_S2x2x128x4x128_0_1_3_2_4)

theorem dk2_read (strict : Bool) (L : Fin 4 → ℝ) (a b c : Seqs) (n : ℕ) (h : n + 128 * 2 ≤ 2304) :
    dk2 (ch2 a n) (ch2 c n) (ch2 b n) (tlA2 L c b n) (wkA L) (wdA strict L)
      = fun i => (later strict (L (i 3)) (a (i 0) (i 3)) (b (i 0) (i 3)) (c (i 0) (i 3)) (n + 128 * (i 1).val + (i 2).val) (i 4) : EReal) := by
  funext i
  pointwise [dk2, bw2]
  simp only [← EReal.coe_mul, ← Step.coe_sum, ← EReal.coe_add]
  have hi : (i 1).val < 2 := (i 1).isLt
  exact congrArg Real.toEReal (dk_real strict (L (i 3)) (a (i 0) (i 3)) (b (i 0) (i 3)) (c (i 0) (i 3)) (n + 128 * (i 1).val) (by omega) (i 2) (i 4))

def dk16 (V Q G : FVec Ideal S2x16x128x4x128 .f32) (S : FVec Ideal S2x16x4x128x128 .f32) (WK : FVec Ideal S128x4 .f32) (W : FVec Ideal S4x128x128 .f32) :
    FVec Ideal S2x16x128x4x128 .f32 :=
  addf
    (mulf (transpose S2x16x128x4x128 [0, 1, 4, 2, 3] (Host.dotGeneral dot_S2x16x4x128x128_S2x16x128x4x128_S2x16x4x128x128_4_4_3_2_012_013 none S V)
      transposes_S2x16x4x128x128_S2x16x128x4x128_0_1_4_2_3) (bw16 WK))
    (transpose S2x16x128x4x128 [0, 1, 3, 2, 4] (Host.dotGeneral dot_S2x16x4x128x128_S2x16x128x4x128_S2x16x4x128x128_3_2_4_4_012_013 none
      (mulf (Host.dotGeneral dot_S2x16x4x128x128_S2x16x128x4x128_S2x16x4x128x128_3_4_4_2_012_013 none
        (transpose S2x16x4x128x128 [0, 1, 3, 4, 2] G transposes_S2x16x128x4x128_S2x16x4x128x128_0_1_3_4_2) V)
        (broadcastInDim S2x16x4x128x128 ![0, 1, 2, 3, 4] bcast_S1x1x4x128x128_S2x16x4x128x128_0_1_2_3_4
          (broadcastInDim S1x1x4x128x128 ![2, 3, 4] bcast_S4x128x128_S1x1x4x128x128_2_3_4 W))) Q) transposes_S2x16x4x128x128_S2x16x128x4x128_0_1_3_2_4)

theorem dk16_read (strict : Bool) (L : Fin 4 → ℝ) (a b c : Seqs) (n : ℕ) (h : n + 128 * 16 ≤ 2304) :
    dk16 (ch16 a n) (ch16 c n) (ch16 b n) (tlA16 L c b n) (wkA L) (wdA strict L)
      = fun i => (later strict (L (i 3)) (a (i 0) (i 3)) (b (i 0) (i 3)) (c (i 0) (i 3)) (n + 128 * (i 1).val + (i 2).val) (i 4) : EReal) := by
  funext i
  pointwise [dk16, bw16]
  simp only [← EReal.coe_mul, ← Step.coe_sum, ← EReal.coe_add]
  have hi : (i 1).val < 16 := (i 1).isLt
  exact congrArg Real.toEReal (dk_real strict (L (i 3)) (a (i 0) (i 3)) (b (i 0) (i 3)) (c (i 0) (i 3)) (n + 128 * (i 1).val) (by omega) (i 2) (i 4))

end Cert.Reference3Ideal.Chunks
-- ==== Proof.RetRef3.lean ====
/- What the reference's chunks hand back to the state before them, over the reals, along both scans. -/
module

public import proofs.«01_k».proof.Proof.RetArrays3
public import proofs.«01_k».proof.Proof.RetRefBack

@[expose] public section

set_option maxRecDepth 16384

noncomputable section

namespace Cert.Reference3Ideal.Chunks

open Cert.Reference3Ideal Cert.Reference3Ideal.Gen Idealize.ShloMosaic Idealize.ShloMosaic.TcCoe Idealize.SL.Sem Idealize.ShloMosaic.StableHlo
open Cert.Reference3Ideal.Read
open Step.Retention Step
open Cert.KernelIdeal.Value (hd hof eof ret)
open Cert.ReferenceIdeal.Chunks (Seqs ch2 ch16 wkA wqA cdA wdA up sq lg decay28 decay305 wk42 wq71 cd49 k9 k83 k286 k363 glue glue_back)

variable (q v g : S2x2304x512.Idx → ℝ) (δ : S4.Idx → ℝ)

/-- The states handed back against the forward scan, from the last of the latent part's chunks to the first. -/
abbrev fU : Fin 16 → FVec Ideal S2x4x128x128 .f32 :=
  ![val_main_v278 (F := Ideal) (up q) (up g) (up δ), val_main_v283 (F := Ideal) (up q) (up g) (up δ), val_main_v289 (F := Ideal) (up q) (up g) (up δ), val_main_v295 (F := Ideal) (up q) (up g) (up δ), val_main_v301 (F := Ideal) (up q) (up g) (up δ), val_main_v307 (F := Ideal) (up q) (up g) (up δ), val_main_v313 (F := Ideal) (up q) (up g) (up δ), val_main_v319 (F := Ideal) (up q) (up g) (up δ), val_main_v325 (F := Ideal) (up q) (up g) (up δ), val_main_v331 (F := Ideal) (up q) (up g) (up δ), val_main_v337 (F := Ideal) (up q) (up g) (up δ), val_main_v343 (F := Ideal) (up q) (up g) (up δ), val_main_v349 (F := Ideal) (up q) (up g) (up δ), val_main_v355 (F := Ideal) (up q) (up g) (up δ), val_main_v361 (F := Ideal) (up q) (up g) (up δ), val_main_v367 (F := Ideal) (up q) (up g) (up δ)]

/-- The same states, put in place one after the other. -/
abbrev fA : Fin 15 → FVec Ideal S2x16x4x128x128 .f32 :=
  ![val_main_v280 (F := Ideal) (up q) (up g) (up δ), val_main_v286 (F := Ideal) (up q) (up g) (up δ), val_main_v292 (F := Ideal) (up q) (up g) (up δ), val_main_v298 (F := Ideal) (up q) (up g) (up δ), val_main_v304 (F := Ideal) (up q) (up g) (up δ), val_main_v310 (F := Ideal) (up q) (up g) (up δ), val_main_v316 (F := Ideal) (up q) (up g) (up δ), val_main_v322 (F := Ideal) (up q) (up g) (up δ), val_main_v328 (F := Ideal) (up q) (up g) (up δ), val_main_v334 (F := Ideal) (up q) (up g) (up δ), val_main_v340 (F := Ideal) (up q) (up g) (up δ), val_main_v346 (F := Ideal) (up q) (up g) (up δ), val_main_v352 (F := Ideal) (up q) (up g) (up δ), val_main_v358 (F := Ideal) (up q) (up g) (up δ), val_main_v364 (F := Ideal) (up q) (up g) (up δ)]

theorem fU_eq (j : Fin 16) : fU q g δ j = tlA (lg δ) (sq fw q) (sq fw g) (256 + 128 * (15 - j.val)) := by
  refine chainB (lg δ) (sq fw q) (sq fw g) 256 (by norm_num) (val_main_v124 (F := Ideal) (up δ)) (val_main_v246 (F := Ideal) (up q) (up g) (up δ)) (fU q g δ) (cd49 δ) ?_ rfl (fun j => ?_) j
  · rw [← wq71, ← k83 q, ← k83 g]; rfl
  · fin_cases j <;> rfl

theorem fA_eq : val_main_v364 (F := Ideal) (up q) (up g) (up δ) = tlA16 (lg δ) (sq fw q) (sq fw g) 256 := by
  refine chainP (lg δ) (sq fw q) (sq fw g) 256 (by norm_num) (fU q g δ) (fA q g δ) (fU_eq q g δ) rfl fun j => ?_
  fin_cases j <;> rfl

theorem fU15 : val_main_v367 (F := Ideal) (up q) (up g) (up δ) = tlA (lg δ) (sq fw q) (sq fw g) (0 + 256) := fU_eq q g δ 15

theorem fT : val_main_v388 (F := Ideal) (up q) (up g) (up δ) = sl2 (og2 (ch2 (sq fw q) 0) (ch2 (sq fw g) 0) (wqA (lg δ))) 1 slices_S2x2x4x128x128_S2x1x4x128x128_0_1_0_0_0 := by
  rw [← wq71, ← k9 q, ← k9 g]; rfl

theorem fS : val_main_v393 (F := Ideal) (up q) (up g) (up δ) = tlA (lg δ) (sq fw q) (sq fw g) (0 + 128) :=
  Eq.trans (show _ = back (Cert.ReferenceIdeal.Read.val_main_v49 (F := Ideal) (up δ)) (val_main_v367 (F := Ideal) (up q) (up g) (up δ)) (val_main_v388 (F := Ideal) (up q) (up g) (up δ)) from rfl)
    ((congr (congr (congrArg back (cd49 δ)) (fU15 q g δ)) ((fT q g δ).trans (sl2_read _ _ _ 0 1 _))).trans
      (back_read (lg δ) (sq fw q) (sq fw g) (0 + 128 * 1) (by norm_num)))

theorem fP : val_main_v396 (F := Ideal) (up q) (up g) (up δ) = tlA2 (lg δ) (sq fw q) (sq fw g) 0 := by
  rw [← pair2_read, ← fU15, ← fS]
  rfl

/-- The states handed back against the backward scan, from the last of the latent part's chunks to the first. -/
abbrev bU : Fin 16 → FVec Ideal S2x4x128x128 .f32 :=
  ![val_main_v700 (F := Ideal) (up q) (up g) (up δ), val_main_v705 (F := Ideal) (up q) (up g) (up δ), val_main_v711 (F := Ideal) (up q) (up g) (up δ), val_main_v717 (F := Ideal) (up q) (up g) (up δ), val_main_v723 (F := Ideal) (up q) (up g) (up δ), val_main_v729 (F := Ideal) (up q) (up g) (up δ), val_main_v735 (F := Ideal) (up q) (up g) (up δ), val_main_v741 (F := Ideal) (up q) (up g) (up δ), val_main_v747 (F := Ideal) (up q) (up g) (up δ), val_main_v753 (F := Ideal) (up q) (up g) (up δ), val_main_v759 (F := Ideal) (up q) (up g) (up δ), val_main_v765 (F := Ideal) (up q) (up g) (up δ), val_main_v771 (F := Ideal) (up q) (up g) (up δ), val_main_v777 (F := Ideal) (up q) (up g) (up δ), val_main_v783 (F := Ideal) (up q) (up g) (up δ), val_main_v789 (F := Ideal) (up q) (up g) (up δ)]

/-- The same states, put in place one after the other. -/
abbrev bA : Fin 15 → FVec Ideal S2x16x4x128x128 .f32 :=
  ![val_main_v702 (F := Ideal) (up q) (up g) (up δ), val_main_v708 (F := Ideal) (up q) (up g) (up δ), val_main_v714 (F := Ideal) (up q) (up g) (up δ), val_main_v720 (F := Ideal) (up q) (up g) (up δ), val_main_v726 (F := Ideal) (up q) (up g) (up δ), val_main_v732 (F := Ideal) (up q) (up g) (up δ), val_main_v738 (F := Ideal) (up q) (up g) (up δ), val_main_v744 (F := Ideal) (up q) (up g) (up δ), val_main_v750 (F := Ideal) (up q) (up g) (up δ), val_main_v756 (F := Ideal) (up q) (up g) (up δ), val_main_v762 (F := Ideal) (up q) (up g) (up δ), val_main_v768 (F := Ideal) (up q) (up g) (up δ), val_main_v774 (F := Ideal) (up q) (up g) (up δ), val_main_v780 (F := Ideal) (up q) (up g) (up δ), val_main_v786 (F := Ideal) (up q) (up g) (up δ)]

theorem bU_eq (j : Fin 16) : bU q g δ j = tlA (lg δ) (sq bw q) (sq bw g) (256 + 128 * (15 - j.val)) := by
  refine chainB (lg δ) (sq bw q) (sq bw g) 256 (by norm_num) (val_main_v542 (F := Ideal) (up δ)) (val_main_v668 (F := Ideal) (up q) (up g) (up δ)) (bU q g δ) (cd49 δ) ?_ rfl (fun j => ?_) j
  · rw [← wq71, ← k363 q, ← k363 g]; rfl
  · fin_cases j <;> rfl

theorem bA_eq : val_main_v786 (F := Ideal) (up q) (up g) (up δ) = tlA16 (lg δ) (sq bw q) (sq bw g) 256 := by
  refine chainP (lg δ) (sq bw q) (sq bw g) 256 (by norm_num) (bU q g δ) (bA q g δ) (bU_eq q g δ) rfl fun j => ?_
  fin_cases j <;> rfl

theorem bU15 : val_main_v789 (F := Ideal) (up q) (up g) (up δ) = tlA (lg δ) (sq bw q) (sq bw g) (0 + 256) := bU_eq q g δ 15

theorem bT : val_main_v811 (F := Ideal) (up q) (up g) (up δ) = sl2 (og2 (ch2 (sq bw q) 0) (ch2 (sq bw g) 0) (wqA (lg δ))) 1 slices_S2x2x4x128x128_S2x1x4x128x128_0_1_0_0_0 := by
  rw [← wq71, ← k286 q, ← k286 g]; rfl

theorem bS : val_main_v816 (F := Ideal) (up q) (up g) (up δ) = tlA (lg δ) (sq bw q) (sq bw g) (0 + 128) :=
  Eq.trans (show _ = back (Cert.ReferenceIdeal.Read.val_main_v49 (F := Ideal) (up δ)) (val_main_v789 (F := Ideal) (up q) (up g) (up δ)) (val_main_v811 (F := Ideal) (up q) (up g) (up δ)) from rfl)
    ((congr (congr (congrArg back (cd49 δ)) (bU15 q g δ)) ((bT q g δ).trans (sl2_read _ _ _ 0 1 _))).trans
      (back_read (lg δ) (sq bw q) (sq bw g) (0 + 128 * 1) (by norm_num)))

theorem bP : val_main_v819 (F := Ideal) (up q) (up g) (up δ) = tlA2 (lg δ) (sq bw q) (sq bw g) 0 := by
  rw [← pair2_read, ← bU15, ← bS]
  rfl

end Cert.Reference3Ideal.Chunks
-- ==== Proof.DkRef.lean ====
/- The reference's retention gradient by the keys, over the reals. -/
module

public import proofs.«01_k».proof.Proof.RetRef3

@[expose] public section

set_option maxRecDepth 16384

noncomputable section

namespace Cert.Reference3Ideal.Chunks

open Cert.Reference3Ideal Cert.Reference3Ideal.Gen Idealize.ShloMosaic Idealize.ShloMosaic.TcCoe Idealize.SL.Sem Idealize.ShloMosaic.StableHlo
open Cert.Reference3Ideal.Read
open Step.Retention Step
open Cert.KernelIdeal.Value (hd hof eof ret)
open Cert.ReferenceIdeal.Chunks (Seqs ch2 ch16 wkA wqA cdA wdA up sq lg decay28 decay305 wk42 wq71 cd49 k9 k83 k286 k363 glue glue_back)

variable (q v g : S2x2304x512.Idx → ℝ) (δ : S4.Idx → ℝ)

theorem flat : val_main_v378 (F := Ideal) (up q) (up v) (up g) (up δ) = fun i =>
    (later false (lg δ (i 3)) (sq fw v (i 0) (i 3)) (sq fw g (i 0) (i 3)) (sq fw q (i 0) (i 3)) (256 + 128 * (i 1).val + (i 2).val) (i 4) : EReal) := by
  rw [← dk16_read _ _ _ _ _ _ (by norm_num), ← decay28, ← wk42, ← fA_eq, ← k83 q, ← k83 v, ← k83 g]
  rfl

theorem fctx : val_main_v407 (F := Ideal) (up q) (up v) (up g) (up δ) = fun i =>
    (later false (lg δ (i 3)) (sq fw v (i 0) (i 3)) (sq fw g (i 0) (i 3)) (sq fw q (i 0) (i 3)) (0 + 128 * (i 1).val + (i 2).val) (i 4) : EReal) := by
  rw [← dk2_read _ _ _ _ _ _ (by norm_num), ← decay28, ← wk42, ← fP, ← k9 q, ← k9 v, ← k9 g]
  rfl

/-- The gradient by the keys of the forward scan. -/
theorem fdk : val_main_v411 (F := Ideal) (up q) (up v) (up g) (up δ) = fun i => (ret false fwr (2303 - ·) δ v g q i : EReal) := by
  funext i
  pointwise [val_main_v411, val_main_v410, val_main_v380, val_main_cst_28, val_main_v379, val_main_v409, val_main_cst_31, val_main_v408, flat, fctx]
  have h1 : (i 1).val < 2304 := (i 1).isLt
  have h2 : (i 2).val < 512 := (i 2).isLt
  exact glue (fun t => later false (lg δ (hof (i 2))) (sq fw v (i 0) (hof (i 2))) (sq fw g (i 0) (hof (i 2))) (sq fw q (i 0) (hof (i 2))) t (eof (i 2))) h1 h2

theorem blat : val_main_v800 (F := Ideal) (up q) (up v) (up g) (up δ) = fun i =>
    (later true (lg δ (i 3)) (sq bw v (i 0) (i 3)) (sq bw g (i 0) (i 3)) (sq bw q (i 0) (i 3)) (256 + 128 * (i 1).val + (i 2).val) (i 4) : EReal) := by
  rw [← dk16_read _ _ _ _ _ _ (by norm_num), ← decay305, ← wk42, ← bA_eq, ← k363 q, ← k363 v, ← k363 g]
  rfl

theorem bctx : val_main_v830 (F := Ideal) (up q) (up v) (up g) (up δ) = fun i =>
    (later true (lg δ (i 3)) (sq bw v (i 0) (i 3)) (sq bw g (i 0) (i 3)) (sq bw q (i 0) (i 3)) (0 + 128 * (i 1).val + (i 2).val) (i 4) : EReal) := by
  rw [← dk2_read _ _ _ _ _ _ (by norm_num), ← decay305, ← wk42, ← bP, ← k286 q, ← k286 v, ← k286 g]
  rfl

/-- The gradient by the keys of the backward scan. -/
theorem bdk : val_main_v835 (F := Ideal) (up q) (up v) (up g) (up δ) = fun i => (ret true bwr (2303 - bpos ·) δ v g q i : EReal) := by
  funext i
  pointwise [val_main_v835, val_main_v834, val_main_v803, val_main_cst_61, val_main_v802, val_main_v801, val_main_v833, val_main_cst_64, val_main_v832, val_main_v831, blat, bctx]
  have h1 : (i 1).val < 2304 := (i 1).isLt
  have h2 : (i 2).val < 512 := (i 2).isLt
  exact glue_back (fun t => later true (lg δ (hof (i 2))) (sq bw v (i 0) (hof (i 2))) (sq bw g (i 0) (hof (i 2))) (sq bw q (i 0) (hof (i 2))) t (eof (i 2))) h1 h2

end Cert.Reference3Ideal.Chunks
-- ==== Proof.DkClaim.lean ====
/- The claim about the keys' gradient: the kernel and the reference end with equal arrays. -/
module

public import proofs.«01_k».proof.Proof.RetentionFinal3
public import proofs.«01_k».proof.Proof.DkRef
public import proofs.«01_k».proof.Proof.Finite
public import proofs.«01_k».proof.Proof.Gen.Reference3Ideal.Run
public import proofs.«01_k».proof.Defs
public import proofs.«01_k».proof.Proof.Gen.Pre_finite3
public import Idealize.ShloMosaic.Lib.Claim

@[expose] public section

set_option maxRecDepth 16384

noncomputable section

namespace Cert.Kernel3Ideal.Value

open Cert.Kernel3Ideal Cert.Kernel3Ideal.Gen Idealize.ShloMosaic Idealize.ShloMosaic.TcCoe Idealize.SL.Sem

/-- What the precondition says: all arguments but the keys hold reals. -/
theorem reals (A0 A1 A2 A3 : FVec Ideal S2x2304x512 .f32) (A4 A5 : FVec Ideal S4 .f32)
    (h : Cert.Pre_finite3.fn (F := Ideal) A0 A1 A2 A3 A4 A5 = fun _ => 1#1) :
    (∃ q : S2x2304x512.Idx → ℝ, A0 = fun i => (q i : EReal)) ∧ (∃ v : S2x2304x512.Idx → ℝ, A2 = fun i => (v i : EReal))
      ∧ (∃ x : S2x2304x512.Idx → ℝ, A3 = fun i => (x i : EReal)) ∧ (∃ d : S4.Idx → ℝ, A4 = fun i => (d i : EReal))
      ∧ ∃ d : S4.Idx → ℝ, A5 = fun i => (d i : EReal) := by
  have e := congrFun h fun a => a.elim0
  simp only [Cert.Pre_finite3.fn] at e
  obtain ⟨e1, e2⟩ := IntOp.andi_eq_one.1 e
  obtain ⟨h1, e3⟩ := IntOp.andi_eq_one.1 e1
  obtain ⟨h2, h3⟩ := IntOp.andi_eq_one.1 e3
  obtain ⟨h4, h5⟩ := IntOp.andi_eq_one.1 e2
  exact ⟨Step.reals_of_all _ _ _ _ _ _ h1, Step.reals_of_all _ _ _ _ _ _ h2, Step.reals_of_all _ _ _ _ _ _ h3,
    Step.reals_of_all _ _ _ _ _ _ h4, Step.reals_of_all _ _ _ _ _ _ h5⟩

/-- From equal arguments with real entries both programs end with equal results. -/
theorem algebraic : Cert.algebraic_Kernel3Ideal_Reference3Ideal_pre_finite3 := by
  intro m g m' g' hpre hagree
  refine ⟨_, _, run_blocks m g, (θ_run _ _ _).mono (fun r h c => ?_) (Cert.Reference3Ideal.Value.run m' g')⟩
  obtain ⟨e0, e1, e2, e3, e4, e5⟩ := hagree c
  obtain ⟨r5, r6, a0, a1, a2, a3, a4, a5⟩ := h c
  obtain ⟨⟨q, h0⟩, ⟨v, h1⟩, ⟨x, h2⟩, ⟨d, hd⟩, ⟨d', hd'⟩⟩ := reals _ _ _ _ _ _ (hpre c)
  refine ⟨r5.trans ?_, r6.trans ?_, a0, a1, a2, a3, a4, a5⟩
  · refine (Cert.Reference3Ideal.Read.val_main_v411_eq (StableHlo.launchContents m' c)).trans ?_
    refine Eq.trans ?_ ((Cert.Reference3Ideal.Chunks.fdk q v x d).trans (final5 m c v x q d d' h1 h2 h0 hd hd').symm)
    exact congr (congr (congr (congrArg Cert.Reference3Ideal.Read.val_main_v411 (e0.trans h0)) (e2.trans h1)) (e3.trans h2)) (e4.trans hd)
  · refine (Cert.Reference3Ideal.Read.val_main_v835_eq (StableHlo.launchContents m' c)).trans ?_
    refine Eq.trans ?_ ((Cert.Reference3Ideal.Chunks.bdk q v x d').trans (final6 m c v x q d d' h1 h2 h0 hd hd').symm)
    exact congr (congr (congr (congrArg Cert.Reference3Ideal.Read.val_main_v835 (e0.trans h0)) (e2.trans h1)) (e3.trans h2)) (e5.trans hd')

end Cert.Kernel3Ideal.Value
end
-- ==== Proof.RetentionFinal4.lean ====
/- The arrays the retention kernel leaves when it runs against both scans, for the gradient by the values. -/
module

public import proofs.«01_k».proof.Proof.Gen.Kernel4Ideal.Value
public import proofs.«01_k».proof.Proof.RetentionKernel3
public import proofs.«01_k».proof.Proof.RetentionFinal

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Step.Retention
open Cert.KernelIdeal.Value (blk dec hd hof eof ret)

variable (m : (ℓ : Loc nD τ sig) → Buf (Elt Ideal) ℓ) (c : Dev nD)

theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val % 4, 0, 0] ∧ win0_4.index t = ![t.val % 4, 0, 0]
    ∧ win0_5.index t = ![t.val / 4, 0, t.val % 4] ∧ win0_6.index t = ![t.val / 4, 0, t.val % 4] :=
  (by decide +kernel : ∀ t : Fin grid0.N, _)

theorem lt8 (t : Fin cfg0.N) : t.val < 8 := lt_of_lt_of_eq t.isLt N_0

abbrev tb (t : Fin cfg0.N) : Fin 2 := ⟨t.val / 4, by have := lt8 t; omega⟩
abbrev th (t : Fin cfg0.N) : Fin 4 := ⟨t.val % 4, by omega⟩

/-- A block's column in the whole array. -/
abbrev col (t : Fin cfg0.N) (j : S1x2304x128.Idx) : Fin 512 := ⟨128 * (t.val % 4) + (j 2).val, by have : (j 2).val < 128 := (j 2).isLt; omega⟩

theorem blk0 (t : Fin cfg0.N) (x : S2x2304x512.Idx → ℝ) (hx : m ((c : Thread nD τ).loc main_arg1) = fun i => (x i : EReal)) :
    iblk m c 0 t = blk (hd x (tb t) (th t)) := by
  funext j
  refine Eq.trans (b := m ((c : Thread nD τ).loc main_arg1) (ix3 (tb t) (j 1) (col t j))) ?_ (by rw [hx]; rfl)
  blk_point [iblk, V, idx t]

theorem blk1 (t : Fin cfg0.N) (x : S2x2304x512.Idx → ℝ) (hx : m ((c : Thread nD τ).loc main_arg0) = fun i => (x i : EReal)) :
    iblk m c 1 t = blk (hd x (tb t) (th t)) := by
  funext j
  refine Eq.trans (b := m ((c : Thread nD τ).loc main_arg0) (ix3 (tb t) (j 1) (col t j))) ?_ (by rw [hx]; rfl)
  blk_point [iblk, V, idx t]

theorem blk2 (t : Fin cfg0.N) (x : S2x2304x512.Idx → ℝ) (hx : m ((c : Thread nD τ).loc main_arg3) = fun i => (x i : EReal)) :
    iblk m c 2 t = blk (hd x (tb t) (th t)) := by
  funext j
  refine Eq.trans (b := m ((c : Thread nD τ).loc main_arg3) (ix3 (tb t) (j 1) (col t j))) ?_ (by rw [hx]; rfl)
  blk_point [iblk, V, idx t]

theorem blk3 (t : Fin cfg0.N) (x : S4.Idx → ℝ) (hx : m ((c : Thread nD τ).loc main_arg4) = fun i => (x i : EReal)) :
    iblk m c 3 t = dec (x (ix1 (th t))) := by
  funext j
  refine Eq.trans (b := m ((c : Thread nD τ).loc main_arg4) (ix1 (th t))) ?_ (by rw [hx])
  unfold iblk
  entry_read
  blk_simp
  pointwise
  blk_point [idx t]

theorem blk4 (t : Fin cfg0.N) (x : S4.Idx → ℝ) (hx : m ((c : Thread nD τ).loc main_arg5) = fun i => (x i : EReal)) :
    iblk m c 4 t = dec (x (ix1 (th t))) := by
  funext j
  refine Eq.trans (b := m ((c : Thread nD τ).loc main_arg5) (ix1 (th t))) ?_ (by rw [hx])
  unfold iblk
  entry_read
  blk_simp
  pointwise
  blk_point [idx t]

/-- The body is the one of the gradient by the keys. -/
theorem out5 (δ δ' : ℝ) (x0 x1 x2 : Fin 2304 → Fin 128 → ℝ) : out0_5 (F := Ideal) (blk x0) (blk x1) (blk x2) (dec δ) (dec δ')
    = fun i => (whole false (lsg δ) (fwr x0) (fwr x1) (fwr x2) 2304 (2303 - (i 1).val) (i 2) : EReal) :=
  Cert.Kernel3Ideal.Value.out5 δ δ' x0 x1 x2

theorem out6 (δ δ' : ℝ) (x0 x1 x2 : Fin 2304 → Fin 128 → ℝ) : out0_6 (F := Ideal) (blk x0) (blk x1) (blk x2) (dec δ') (dec δ)
    = fun i => (whole true (lsg δ) (bwr x0) (bwr x1) (bwr x2) 2304 (2303 - bpos (i 1).val) (i 2) : EReal) :=
  Cert.Kernel3Ideal.Value.out6 δ δ' x0 x1 x2

variable (x0 x1 x2 : S2x2304x512.Idx → ℝ) (d d' : S4.Idx → ℝ)
  (h0 : m ((c : Thread nD τ).loc main_arg1) = fun i => (x0 i : EReal)) (h1 : m ((c : Thread nD τ).loc main_arg0) = fun i => (x1 i : EReal))
  (h2 : m ((c : Thread nD τ).loc main_arg3) = fun i => (x2 i : EReal)) (h3 : m ((c : Thread nD τ).loc main_arg4) = fun i => (d i : EReal))
  (h4 : m ((c : Thread nD τ).loc main_arg5) = fun i => (d' i : EReal))

include h0 h1 h2 h3 h4

theorem point5 (t : Fin cfg0.N) (y : S1x2304x128.Idx) (i : S2x2304x512.Idx) (e0 : (i 0).val = t.val / 4) (e1 : (i 1).val = (y 1).val)
    (e2 : (i 2).val = 128 * (t.val % 4) + (y 2).val) :
    out0_5 (iblk m c 0 t) (iblk m c 1 t) (iblk m c 2 t) (iblk m c 3 t) (iblk m c 4 t) y = (ret false fwr (2303 - ·) d x0 x1 x2 i : EReal) := by
  rw [blk0 m c t x0 h0, blk1 m c t x1 h1, blk2 m c t x2 h2, blk3 m c t d h3, blk4 m c t d' h4, out5]
  have hy : (y 2).val < 128 := (y 2).isLt
  refine congrArg Real.toEReal ?_
  unfold ret
  rw [show i 0 = tb t from Fin.ext e0, show hof (i 2) = th t from Fin.ext (by show (i 2).val / 128 = t.val % 4; omega),
    show eof (i 2) = y 2 from Fin.ext (by show (i 2).val % 128 = (y 2).val; omega), e1]

theorem final5 : (dats m 0 c).arrAt 5 (cfgs 0).N = fun i => (ret false fwr (2303 - ·) d x0 x1 x2 i : EReal) := by
  refine (dats m 0 c).arrAt_eq_of_covers 5 _ (by decide +kernel) fun t _ y => ?_
  blk_simp
  rw [after0_5]
  refine point5 m c x0 x1 x2 d d' h0 h1 h2 h3 h4 t y _ ?_ ?_ ?_ <;> (blk_simp; rw [(idx t).2.2.2.2.2.1] <;> simp [mul_comm])

theorem point6 (t : Fin cfg0.N) (y : S1x2304x128.Idx) (i : S2x2304x512.Idx) (e0 : (i 0).val = t.val / 4) (e1 : (i 1).val = (y 1).val)
    (e2 : (i 2).val = 128 * (t.val % 4) + (y 2).val) :
    out0_6 (iblk m c 0 t) (iblk m c 1 t) (iblk m c 2 t) (iblk m c 3 t) (iblk m c 4 t) y = (ret true bwr (2303 - bpos ·) d' x0 x1 x2 i : EReal) := by
  rw [blk0 m c t x0 h0, blk1 m c t x1 h1, blk2 m c t x2 h2, blk3 m c t d h3, blk4 m c t d' h4, out6]
  have hy : (y 2).val < 128 := (y 2).isLt
  refine congrArg Real.toEReal ?_
  unfold ret
  rw [show i 0 = tb t from Fin.ext e0, show hof (i 2) = th t from Fin.ext (by show (i 2).val / 128 = t.val % 4; omega),
    show eof (i 2) = y 2 from Fin.ext (by show (i 2).val % 128 = (y 2).val; omega), e1]

theorem final6 : (dats m 0 c).arrAt 6 (cfgs 0).N = fun i => (ret true bwr (2303 - bpos ·) d' x0 x1 x2 i : EReal) := by
  refine (dats m 0 c).arrAt_eq_of_covers 6 _ (by decide +kernel) fun t _ y => ?_
  blk_simp
  rw [after0_6]
  refine point6 m c x0 x1 x2 d d' h0 h1 h2 h3 h4 t y _ ?_ ?_ ?_ <;> (blk_simp; rw [(idx t).2.2.2.2.2.2] <;> simp [mul_comm])

end Cert.Kernel4Ideal.Value
-- ==== Proof.RetArrays4.lean ====
/- The rows of a chunk's gradient by the values, in the reference's operations, over the reals. -/
module

public import proofs.«01_k».proof.Proof.RetArrays3
public import proofs.«01_k».proof.Proof.Gen.Reference4Ideal.Read

@[expose] public section

set_option maxRecDepth 16384

noncomputable section

namespace Cert.Reference4Ideal.Chunks

open Cert.Reference4Ideal Cert.Reference4Ideal.Gen Idealize.ShloMosaic Idealize.ShloMosaic.TcCoe Idealize.SL.Sem Idealize.ShloMosaic.StableHlo
open Step.Retention
open Cert.ReferenceIdeal.Chunks (Seqs ch2 ch16 wkA wqA cdA wdA bw2 bw16 row)
open Cert.Reference3Ideal.Chunks (tlA2 tlA16)

theorem dv_real (strict : Bool) (L : ℝ) (a b c : ℕ → Fin 128 → ℝ) (n : ℕ) (h : n + 128 ≤ 2304) (i e : Fin 128) :
    (∑ d, tail L b c (n + 128) d e * (a (n + i.val) d * Real.exp ((127 - (i.val : ℝ)) * L)))
      + ∑ j : Fin 128, c (n + j.val) e * ((∑ d, b (n + j.val) d * a (n + i.val) d) * wt strict L ((j.val : ℝ) - (i.val : ℝ)))
      = later strict L a b c (n + i.val) e := by
  refine Eq.trans (congrArg₂ _ ?_ ?_) (later_chunk strict L a b c h i e)
  · exact Finset.sum_congr rfl fun d _ => mul_comm _ _
  · refine Finset.sum_congr rfl fun j _ => ?_
    rw [Finset.sum_congr rfl fun d _ => mul_comm (b (n + j.val) d) _, mul_comm]

/-- The rows of all chunks' gradients by the values. -/
def dv2 (K Q G : FVec Ideal S2x2x128x4x128 .f32) (S : FVec Ideal S2x2x4x128x128 .f32) (WK : FVec Ideal S128x4 .f32) (W : FVec Ideal S4x128x128 .f32) :
    FVec Ideal S2x2x128x4x128 .f32 :=
  addf
    (transpose S2x2x128x4x128 [0, 1, 4, 2, 3] (Host.dotGeneral dot_S2x2x4x128x128_S2x2x128x4x128_S2x2x4x128x128_3_4_4_2_012_013 none S (mulf K (bw2 WK)))
      transposes_S2x2x4x128x128_S2x2x128x4x128_0_1_4_2_3)
    (transpose S2x2x128x4x128 [0, 1, 4, 2, 3] (Host.dotGeneral dot_S2x2x4x128x128_S2x2x4x128x128_S2x2x4x128x128_4_3_3_4_012_012 none
      (transpose S2x2x4x128x128 [0, 1, 3, 4, 2] G transposes_S2x2x128x4x128_S2x2x4x128x128_0_1_3_4_2)
      (mulf (Host.dotGeneral dot_S2x2x128x4x128_S2x2x128x4x128_S2x2x4x128x128_4_4_2_2_013_013 none Q K)
        (broadcastInDim S2x2x4x128x128 ![0, 1, 2, 3, 4] bcast_S1x1x4x128x128_S2x2x4x128x128_0_1_2_3_4
          (broadcastInDim S1x1x4x128x128 ![2, 3, 4] bcast_S4x128x128_S1x1x4x128x128_2_3_4 W)))) transposes_S2x2x4x128x128_S2x2x128x4x128_0_1_4_2_3)

theorem dv2_read (strict : Bool) (L : Fin 4 → ℝ) (a b c : Seqs) (n : ℕ) (h : n + 128 * 2 ≤ 2304) :
    dv2 (ch2 a n) (ch2 b n) (ch2 c n) (tlA2 L b c n) (wkA L) (wdA strict L)
      = fun i => (later strict (L (i 3)) (a (i 0) (i 3)) (b (i 0) (i 3)) (c (i 0) (i 3)) (n + 128 * (i 1).val + (i 2).val) (i 4) : EReal) := by
  funext i
  pointwise [dv2, bw2]
  simp only [← EReal.coe_mul, ← Step.coe_sum, ← EReal.coe_add]
  have hi : (i 1).val < 2 := (i 1).isLt
  exact congrArg Real.toEReal (dv_real strict (L (i 3)) (a (i 0) (i 3)) (b (i 0) (i 3)) (c (i 0) (i 3)) (n + 128 * (i 1).val) (by omega) (i 2) (i 4))

def dv16 (K Q G : FVec Ideal S2x16x128x4x128 .f32) (S : FVec Ideal S2x16x4x128x128 .f32) (WK : FVec Ideal S128x4 .f32) (W : FVec Ideal S4x128x128 .f32) :
    FVec Ideal S2x16x128x4x128 .f32 :=
  addf
    (transpose S2x16x128x4x128 [0, 1, 4, 2, 3] (Host.dotGeneral dot_S2x16x4x128x128_S2x16x128x4x128_S2x16x4x128x128_3_4_4_2_012_013 none S (mulf K (bw16 WK)))
      transposes_S2x16x4x128x128_S2x16x128x4x128_0_1_4_2_3)
    (transpose S2x16x128x4x128 [0, 1, 4, 2, 3] (Host.dotGeneral dot_S2x16x4x128x128_S2x16x4x128x128_S2x16x4x128x128_4_3_3_4_012_012 none
      (transpose S2x16x4x128x128 [0, 1, 3, 4, 2] G transposes_S2x16x128x4x128_S2x16x4x128x128_0_1_3_4_2)
      (mulf (Host.dotGeneral dot_S2x16x128x4x128_S2x16x128x4x128_S2x16x4x128x128_4_4_2_2_013_013 none Q K)
        (broadcastInDim S2x16x4x128x128 ![0, 1, 2, 3, 4] bcast_S1x1x4x128x128_S2x16x4x128x128_0_1_2_3_4
          (broadcastInDim S1x1x4x128x128 ![2, 3, 4] bcast_S4x128x128_S1x1x4x128x128_2_3_4 W)))) transposes_S2x16x4x128x128_S2x16x128x4x128_0_1_4_2_3)

theorem dv16_read (strict : Bool) (L : Fin 4 → ℝ) (a b c : Seqs) (n : ℕ) (h : n + 128 * 16 ≤ 2304) :
    dv16 (ch16 a n) (ch16 b n) (ch16 c n) (tlA16 L b c n) (wkA L) (wdA strict L)
      = fun i => (later strict (L (i 3)) (a (i 0) (i 3)) (b (i 0) (i 3)) (c (i 0) (i 3)) (n + 128 * (i 1).val + (i 2).val) (i 4) : EReal) := by
  funext i
  pointwise [dv16, bw16]
  simp only [← EReal.coe_mul, ← Step.coe_sum, ← EReal.coe_add]
  have hi : (i 1).val < 16 := (i 1).isLt
  exact congrArg Real.toEReal (dv_real strict (L (i 3)) (a (i 0) (i 3)) (b (i 0) (i 3)) (c (i 0) (i 3)) (n + 128 * (i 1).val) (by omega) (i 2) (i 4))

end Cert.Reference4Ideal.Chunks
-- ==== Proof.DvRef.lean ====
/- The reference's retention gradient by the values, over the reals. -/
module

public import proofs.«01_k».proof.Proof.RetArrays4
public import proofs.«01_k».proof.Proof.RetRef3

@[expose] public section

set_option maxRecDepth 16384

noncomputable section

namespace Cert.Reference4Ideal.Chunks

open Cert.Reference4Ideal Cert.Reference4Ideal.Gen Idealize.ShloMosaic Idealize.ShloMosaic.TcCoe Idealize.SL.Sem Idealize.ShloMosaic.StableHlo
open Cert.Reference4Ideal.Read
open Step.Retention Step
open Cert.KernelIdeal.Value (hd hof eof ret)
open Cert.ReferenceIdeal.Chunks (Seqs ch2 ch16 wkA wqA cdA wdA up sq lg decay28 decay305 wk42 wq71 cd49 k9 k83 k286 k363 glue glue_back)

variable (q k g : S2x2304x512.Idx → ℝ) (δ : S4.Idx → ℝ)

theorem fA : val_main_v364 (F := Ideal) (up q) (up g) (up δ) = Cert.Reference3Ideal.Read.val_main_v364 (F := Ideal) (up q) (up g) (up δ) := rfl

theorem fP : val_main_v391 (F := Ideal) (up q) (up g) (up δ) = Cert.Reference3Ideal.Read.val_main_v396 (F := Ideal) (up q) (up g) (up δ) := rfl

theorem flat : val_main_v373 (F := Ideal) (up q) (up k) (up g) (up δ) = fun i =>
    (later false (lg δ (i 3)) (sq fw k (i 0) (i 3)) (sq fw q (i 0) (i 3)) (sq fw g (i 0) (i 3)) (256 + 128 * (i 1).val + (i 2).val) (i 4) : EReal) := by
  rw [← dv16_read _ _ _ _ _ _ (by norm_num), ← decay28, ← wk42, ← Cert.Reference3Ideal.Chunks.fA_eq, ← fA, ← k83 q, ← k83 k, ← k83 g]
  rfl

theorem fctx : val_main_v397 (F := Ideal) (up q) (up k) (up g) (up δ) = fun i =>
    (later false (lg δ (i 3)) (sq fw k (i 0) (i 3)) (sq fw q (i 0) (i 3)) (sq fw g (i 0) (i 3)) (0 + 128 * (i 1).val + (i 2).val) (i 4) : EReal) := by
  rw [← dv2_read _ _ _ _ _ _ (by norm_num), ← decay28, ← wk42, ← Cert.Reference3Ideal.Chunks.fP, ← fP, ← k9 q, ← k9 k, ← k9 g]
  rfl

/-- The gradient by the values of the forward scan. -/
theorem fdv : val_main_v401 (F := Ideal) (up q) (up k) (up g) (up δ) = fun i => (ret false fwr (2303 - ·) δ k q g i : EReal) := by
  funext i
  pointwise [val_main_v401, val_main_v400, val_main_v375, val_main_cst_28, val_main_v374, val_main_v399, val_main_cst_31, val_main_v398, flat, fctx]
  have h1 : (i 1).val < 2304 := (i 1).isLt
  have h2 : (i 2).val < 512 := (i 2).isLt
  exact glue (fun t => later false (lg δ (hof (i 2))) (sq fw k (i 0) (hof (i 2))) (sq fw q (i 0) (hof (i 2))) (sq fw g (i 0) (hof (i 2))) t (eof (i 2))) h1 h2

theorem bA : val_main_v776 (F := Ideal) (up q) (up g) (up δ) = Cert.Reference3Ideal.Read.val_main_v786 (F := Ideal) (up q) (up g) (up δ) := rfl

theorem bP : val_main_v804 (F := Ideal) (up q) (up g) (up δ) = Cert.Reference3Ideal.Read.val_main_v819 (F := Ideal) (up q) (up g) (up δ) := rfl

theorem blat : val_main_v785 (F := Ideal) (up q) (up k) (up g) (up δ) = fun i =>
    (later true (lg δ (i 3)) (sq bw k (i 0) (i 3)) (sq bw q (i 0) (i 3)) (sq bw g (i 0) (i 3)) (256 + 128 * (i 1).val + (i 2).val) (i 4) : EReal) := by
  rw [← dv16_read _ _ _ _ _ _ (by norm_num), ← decay305, ← wk42, ← Cert.Reference3Ideal.Chunks.bA_eq, ← bA, ← k363 q, ← k363 k, ← k363 g]
  rfl

theorem bctx : val_main_v810 (F := Ideal) (up q) (up k) (up g) (up δ) = fun i =>
    (later true (lg δ (i 3)) (sq bw k (i 0) (i 3)) (sq bw q (i 0) (i 3)) (sq bw g (i 0) (i 3)) (0 + 128 * (i 1).val + (i 2).val) (i 4) : EReal) := by
  rw [← dv2_read _ _ _ _ _ _ (by norm_num), ← decay305, ← wk42, ← Cert.Reference3Ideal.Chunks.bP, ← bP, ← k286 q, ← k286 k, ← k286 g]
  rfl

/-- The gradient by the values of the backward scan. -/
theorem bdv : val_main_v815 (F := Ideal) (up q) (up k) (up g) (up δ) = fun i => (ret true bwr (2303 - bpos ·) δ k q g i : EReal) := by
  funext i
  pointwise [val_main_v815, val_main_v814, val_main_v788, val_main_cst_61, val_main_v787, val_main_v786, val_main_v813, val_main_cst_64, val_main_v812, val_main_v811, blat, bctx]
  have h1 : (i 1).val < 2304 := (i 1).isLt
  have h2 : (i 2).val < 512 := (i 2).isLt
  exact glue_back (fun t => later true (lg δ (hof (i 2))) (sq bw k (i 0) (hof (i 2))) (sq bw q (i 0) (hof (i 2))) (sq bw g (i 0) (hof (i 2))) t (eof (i 2))) h1 h2

end Cert.Reference4Ideal.Chunks
-- ==== Proof.DvClaim.lean ====
/- The claim about the values' gradient: the kernel and the reference end with equal arrays. -/
module

public import proofs.«01_k».proof.Proof.RetentionFinal4
public import proofs.«01_k».proof.Proof.DvRef
public import proofs.«01_k».proof.Proof.Finite
public import proofs.«01_k».proof.Proof.Gen.Reference4Ideal.Run
public import proofs.«01_k».proof.Defs
public import proofs.«01_k».proof.Proof.Gen.Pre_finite4
public import Idealize.ShloMosaic.Lib.Claim

@[expose] public section

set_option maxRecDepth 16384

noncomputable section

namespace Cert.Kernel4Ideal.Value

open Cert.Kernel4Ideal Cert.Kernel4Ideal.Gen Idealize.ShloMosaic Idealize.ShloMosaic.TcCoe Idealize.SL.Sem

/-- What the precondition says: all arguments but the values hold reals. -/
theorem reals (A0 A1 A2 A3 : FVec Ideal S2x2304x512 .f32) (A4 A5 : FVec Ideal S4 .f32)
    (h : Cert.Pre_finite4.fn (F := Ideal) A0 A1 A2 A3 A4 A5 = fun _ => 1#1) :
    (∃ q : S2x2304x512.Idx → ℝ, A0 = fun i => (q i : EReal)) ∧ (∃ k : S2x2304x512.Idx → ℝ, A1 = fun i => (k i : EReal))
      ∧ (∃ x : S2x2304x512.Idx → ℝ, A3 = fun i => (x i : EReal)) ∧ (∃ d : S4.Idx → ℝ, A4 = fun i => (d i : EReal))
      ∧ ∃ d : S4.Idx → ℝ, A5 = fun i => (d i : EReal) := by
  have e := congrFun h fun a => a.elim0
  simp only [Cert.Pre_finite4.fn] at e
  obtain ⟨e1, e2⟩ := IntOp.andi_eq_one.1 e
  obtain ⟨h1, e3⟩ := IntOp.andi_eq_one.1 e1
  obtain ⟨h2, h3⟩ := IntOp.andi_eq_one.1 e3
  obtain ⟨h4, h5⟩ := IntOp.andi_eq_one.1 e2
  exact ⟨Step.reals_of_all _ _ _ _ _ _ h1, Step.reals_of_all _ _ _ _ _ _ h2, Step.reals_of_all _ _ _ _ _ _ h3,
    Step.reals_of_all _ _ _ _ _ _ h4, Step.reals_of_all _ _ _ _ _ _ h5⟩

/-- From equal arguments with real entries both programs end with equal results. -/
theorem algebraic : Cert.algebraic_Kernel4Ideal_Reference4Ideal_pre_finite4 := by
  intro m g m' g' hpre hagree
  refine ⟨_, _, run_blocks m g, (θ_run _ _ _).mono (fun r h c => ?_) (Cert.Reference4Ideal.Value.run m' g')⟩
  obtain ⟨e0, e1, e2, e3, e4, e5⟩ := hagree c
  obtain ⟨r5, r6, a0, a1, a2, a3, a4, a5⟩ := h c
  obtain ⟨⟨q, h0⟩, ⟨k, h1⟩, ⟨x, h2⟩, ⟨d, hd⟩, ⟨d', hd'⟩⟩ := reals _ _ _ _ _ _ (hpre c)
  refine ⟨r5.trans ?_, r6.trans ?_, a0, a1, a2, a3, a4, a5⟩
  · refine (Cert.Reference4Ideal.Read.val_main_v401_eq (StableHlo.launchContents m' c)).trans ?_
    refine Eq.trans ?_ ((Cert.Reference4Ideal.Chunks.fdv q k x d).trans (final5 m c k q x d d' h1 h0 h2 hd hd').symm)
    exact congr (congr (congr (congrArg Cert.Reference4Ideal.Read.val_main_v401 (e0.trans h0)) (e1.trans h1)) (e3.trans h2)) (e4.trans hd)
  · refine (Cert.Reference4Ideal.Read.val_main_v815_eq (StableHlo.launchContents m' c)).trans ?_
    refine Eq.trans ?_ ((Cert.Reference4Ideal.Chunks.bdv q k x d').trans (final6 m c k q x d d' h1 h0 h2 hd hd').symm)
    exact congr (congr (congr (congrArg Cert.Reference4Ideal.Read.val_main_v815 (e0.trans h0)) (e1.trans h1)) (e3.trans h2)) (e5.trans hd')

end Cert.Kernel4Ideal.Value
end
-- ==== Proof.RetentionDecay.lean ====
/- The derivative of the retention by the logarithm of its decay, over the reals: as one sum over pairs of positions, by chunks with a
carried derivative of the state, and by chunks with what the later positions hand back. -/
module

public import proofs.«01_k».proof.Proof.Retention

@[expose] public section

namespace Step.Retention

open Finset

variable {D E : Type*} [Fintype D] [Fintype E]

/-- The derivative of the carried state by the logarithm of the decay. -/
noncomputable def dstate (L : ℝ) (b : ℕ → D → ℝ) (c : ℕ → E → ℝ) (n : ℕ) (d : D) (e : E) : ℝ :=
  ∑ t ∈ range n, ((n : ℝ) - 1 - t) * Real.exp (((n : ℝ) - 1 - t) * L) * (b t d * c t e)

/-- The derivative of the output. -/
noncomputable def dwhole (strict : Bool) (L : ℝ) (a b : ℕ → D → ℝ) (c : ℕ → E → ℝ) (N s : ℕ) (e : E) : ℝ :=
  ∑ t ∈ range N, (((s : ℝ) - t) * wt strict L ((s : ℝ) - t)) * (∑ d, a s d * b t d) * c t e

/-- The derivative of the outputs `o`, summed against their cotangents `g`. -/
noncomputable def total (strict : Bool) (L : ℝ) (a b : ℕ → D → ℝ) (c g : ℕ → E → ℝ) (N : ℕ) : ℝ :=
  ∑ s ∈ range N, ∑ e, dwhole strict L a b c N s e * g s e

omit [Fintype D] [Fintype E] in
theorem dstate_zero (L : ℝ) (b : ℕ → D → ℝ) (c : ℕ → E → ℝ) (d : D) (e : E) : dstate L b c 0 d e = 0 := by simp [dstate]

omit [Fintype D] [Fintype E] in
theorem dstate_add (L : ℝ) (b : ℕ → D → ℝ) (c : ℕ → E → ℝ) (n C : ℕ) (d : D) (e : E) :
    dstate L b c (n + C) d e = Real.exp (C * L) * (dstate L b c n d e + C * state L b c n d e)
      + ∑ r ∈ range C, ((C : ℝ) - 1 - r) * Real.exp (((C : ℝ) - 1 - r) * L) * (b (n + r) d * c (n + r) e) := by
  unfold dstate state
  rw [sum_range_add, mul_sum, ← sum_add_distrib, mul_sum]
  congr 1
  · refine sum_congr rfl fun t _ => ?_
    have e1 : (((n + C : ℕ) : ℝ) - 1 - t) * L = C * L + ((n : ℝ) - 1 - t) * L := by push_cast; ring
    rw [e1, Real.exp_add]; push_cast; ring
  · refine sum_congr rfl fun t _ => ?_
    have e1 : (((n + C : ℕ) : ℝ) - 1 - ((n + t : ℕ) : ℝ)) = (C : ℝ) - 1 - t := by push_cast; ring
    rw [e1]

omit [Fintype E] in
/-- The derivative of the output by chunks. -/
theorem dwhole_chunk (strict : Bool) (L : ℝ) (a b : ℕ → D → ℝ) (c : ℕ → E → ℝ) {n C r N : ℕ} (hr : r < C) (h : n + C ≤ N) (e : E) :
    dwhole strict L a b c N (n + r) e
      = ∑ r' ∈ range C, (((r : ℝ) - r') * wt strict L ((r : ℝ) - r')) * (∑ d, a (n + r) d * b (n + r') d) * c (n + r') e
        + ∑ d, a (n + r) d * Real.exp (((r : ℝ) + 1) * L) * (((r : ℝ) + 1) * state L b c n d e + dstate L b c n d e) := by
  obtain ⟨M, rfl⟩ := Nat.exists_eq_add_of_le h
  unfold dwhole
  rw [sum_range_add, sum_range_add]
  have tail : ∑ t ∈ range M, ((((n + r : ℕ) : ℝ) - ((n + C + t : ℕ) : ℝ)) * wt strict L (((n + r : ℕ) : ℝ) - ((n + C + t : ℕ) : ℝ)))
      * (∑ d, a (n + r) d * b (n + C + t) d) * c (n + C + t) e = 0 := by
    refine sum_eq_zero fun t _ => ?_
    rw [wt_of_neg, mul_zero, zero_mul, zero_mul]
    have : (r : ℝ) < C := by exact_mod_cast hr
    push_cast; have := Nat.cast_nonneg (α := ℝ) t; linarith
  have head : ∑ t ∈ range n, ((((n + r : ℕ) : ℝ) - (t : ℝ)) * wt strict L (((n + r : ℕ) : ℝ) - (t : ℝ))) * (∑ d, a (n + r) d * b t d) * c t e
      = ∑ d, a (n + r) d * Real.exp (((r : ℝ) + 1) * L) * (((r : ℝ) + 1) * state L b c n d e + dstate L b c n d e) := by
    unfold state dstate
    simp only [mul_sum, sum_mul, ← sum_add_distrib]
    rw [sum_comm]
    refine sum_congr rfl fun d _ => sum_congr rfl fun t ht => ?_
    have ht : (t : ℝ) < n := by exact_mod_cast mem_range.1 ht
    rw [wt_of_pos _ _ (by push_cast; have := Nat.cast_nonneg (α := ℝ) r; linarith)]
    have e1 : (((n + r : ℕ) : ℝ) - t) * L = ((r : ℝ) + 1) * L + ((n : ℝ) - 1 - t) * L := by push_cast; ring
    rw [e1, Real.exp_add]; push_cast; ring
  rw [tail, head, add_zero, add_comm]
  congr 1
  refine sum_congr rfl fun t _ => ?_
  have e1 : (((n + r : ℕ) : ℝ) - ((n + t : ℕ) : ℝ)) = (r : ℝ) - t := by push_cast; ring
  rw [e1]

omit [Fintype D] [Fintype E] in
/-- One chunk of the state's derivative, its rows in any order. -/
theorem chunk_dstate {C : ℕ} (κ κ' : ℝ) (hκ : (C : ℝ) = κ) (hκ' : κ - 1 = κ') (ρ : Equiv.Perm (Fin C)) (L : ℝ) (b : ℕ → D → ℝ) (c : ℕ → E → ℝ)
    (n : ℕ) (d : D) (e : E) :
    Real.exp (κ * L) * (dstate L b c n d e + κ * state L b c n d e)
      + ∑ j, b (n + (ρ j).val) d * ((κ' - ((ρ j).val : ℝ)) * Real.exp ((κ' - ((ρ j).val : ℝ)) * L)) * c (n + (ρ j).val) e
      = dstate L b c (n + C) d e := by
  subst hκ hκ'
  rw [dstate_add, ← sum_scan ρ]
  congr 1
  refine sum_congr rfl fun j _ => ?_
  ring

/-- One chunk's part of the derivative, its rows in any order. -/
theorem chunk_total {C N : ℕ} (ρ : Equiv.Perm (Fin C)) (strict : Bool) (L : ℝ) (a b : ℕ → D → ℝ) (c g : ℕ → E → ℝ) (n : ℕ) (h : n + C ≤ N) :
    ∑ i, ∑ j, (∑ d, a (n + (ρ i).val) d * b (n + (ρ j).val) d) * (∑ e, g (n + (ρ i).val) e * c (n + (ρ j).val) e)
        * ((((ρ i).val : ℝ) - ((ρ j).val : ℝ)) * wt strict L (((ρ i).val : ℝ) - ((ρ j).val : ℝ)))
      + ∑ i, ∑ e, ((((ρ i).val : ℝ) + 1) * (∑ d, a (n + (ρ i).val) d * Real.exp ((((ρ i).val : ℝ) + 1) * L) * state L b c n d e)
          + ∑ d, a (n + (ρ i).val) d * Real.exp ((((ρ i).val : ℝ) + 1) * L) * dstate L b c n d e) * g (n + (ρ i).val) e
      = ∑ r ∈ range C, ∑ e, dwhole strict L a b c N (n + r) e * g (n + r) e := by
  rw [← sum_scan ρ, ← sum_add_distrib]
  refine sum_congr rfl fun i _ => ?_
  have k : ∀ e, dwhole strict L a b c N (n + (ρ i).val) e = _ := fun e => dwhole_chunk strict L a b c (ρ i).isLt h e
  refine Eq.trans ?_ (sum_congr rfl fun e _ => (congrArg (· * g (n + (ρ i).val) e) (k e)).symm)
  have split : ∀ X Y G : E → ℝ, ∑ e, (X e + Y e) * G e = ∑ e, X e * G e + ∑ e, Y e * G e := fun X Y G => by simp only [add_mul, sum_add_distrib]
  refine Eq.trans (congrArg₂ (· + ·) ?_ ?_) (split _ _ _).symm
  · have sw : ∀ (X : ℕ → ℝ) (G : E → ℝ), ∑ e, (∑ r ∈ range C, X r * c (n + r) e) * G e = ∑ j, X (ρ j).val * ∑ e, G e * c (n + (ρ j).val) e :=
      fun X G => by
        simp only [← sum_scan ρ, mul_sum, sum_mul]
        rw [sum_comm]
        exact sum_congr rfl fun j _ => sum_congr rfl fun e _ => by ring
    rw [sw]
    exact sum_congr rfl fun j _ => by ring
  · refine sum_congr rfl fun e _ => ?_
    rw [mul_sum, ← sum_add_distrib]
    congr 1
    refine sum_congr rfl fun d _ => ?_
    ring

/-- What a chunk's end and the state's derivative there make together. -/
noncomputable def meet (L : ℝ) (a b : ℕ → D → ℝ) (c g : ℕ → E → ℝ) (n : ℕ) : ℝ := ∑ d, ∑ e, tail L a g n d e * dstate L b c n d e

/-- One chunk's part of the derivative, with what the later positions hand back. -/
theorem chunk_back (strict : Bool) (L : ℝ) (a b : ℕ → D → ℝ) (c g : ℕ → E → ℝ) {n : ℕ} (h : n + 128 ≤ 2304) :
    ∑ i : Fin 128, ((i.val : ℝ) + 1) * ((∑ d, a (n + i.val) d * (∑ e, g (n + i.val) e * state L b c n d e)) * Real.exp (((i.val : ℝ) + 1) * L))
      + 128 * ((∑ d, ∑ e, tail L a g (n + 128) d e * state L b c n d e) * Real.exp (128 * L))
      + ∑ j : Fin 128, (127 - (j.val : ℝ)) * ((∑ d, b (n + j.val) d * (∑ e, tail L a g (n + 128) d e * c (n + j.val) e)) * Real.exp ((127 - (j.val : ℝ)) * L))
      + ∑ i : Fin 128, ∑ j : Fin 128, (∑ d, a (n + i.val) d * b (n + j.val) d) * (∑ e, g (n + i.val) e * c (n + j.val) e)
        * (((i.val : ℝ) - (j.val : ℝ)) * wt strict L ((i.val : ℝ) - (j.val : ℝ)))
      + meet L a b c g n
      = ∑ r ∈ range 128, ∑ e, dwhole strict L a b c 2304 (n + r) e * g (n + r) e + meet L a b c g (n + 128) := by
  rw [← chunk_total (1 : Equiv.Perm (Fin 128)) strict L a b c g n h]
  simp only [Equiv.Perm.coe_one, id_eq]
  have hm : meet L a b c g n = ∑ i : Fin 128, ∑ e, (∑ d, a (n + i.val) d * Real.exp (((i.val : ℝ) + 1) * L) * dstate L b c n d e) * g (n + i.val) e
      + Real.exp (128 * L) * ∑ d, ∑ e, tail L a g (n + 128) d e * dstate L b c n d e := by
    unfold meet
    have t : ∀ d e, tail L a g n d e = _ := fun d e => (tail_chunk L a g h d e).symm
    simp only [t, add_mul, sum_add_distrib, sum_mul, mul_sum]
    congr 1
    · rw [sum_congr rfl fun d _ => sum_comm, sum_comm]
      refine sum_congr rfl fun i _ => ?_
      rw [sum_comm]
      refine sum_congr rfl fun e _ => sum_congr rfl fun d _ => ?_
      ring
    · refine sum_congr rfl fun d _ => sum_congr rfl fun e _ => ?_
      ring
  have hm' : meet L a b c g (n + 128) = Real.exp (128 * L) * ∑ d, ∑ e, tail L a g (n + 128) d e * dstate L b c n d e
      + 128 * ((∑ d, ∑ e, tail L a g (n + 128) d e * state L b c n d e) * Real.exp (128 * L))
      + ∑ j : Fin 128, (127 - (j.val : ℝ)) * ((∑ d, b (n + j.val) d * (∑ e, tail L a g (n + 128) d e * c (n + j.val) e)) * Real.exp ((127 - (j.val : ℝ)) * L)) := by
    unfold meet
    have t : ∀ d e, dstate L b c (n + 128) d e = _ := fun d e => (chunk_dstate (C := 128) 128 127 (by norm_num) (by norm_num) 1 L b c n d e).symm
    simp only [t, mul_add, sum_add_distrib, sum_mul, mul_sum, Equiv.Perm.coe_one, id_eq]
    congr 1
    · congr 1
      · refine sum_congr rfl fun d _ => sum_congr rfl fun e _ => ?_
        ring
      · refine sum_congr rfl fun d _ => sum_congr rfl fun e _ => ?_
        ring
    · rw [sum_congr rfl fun d _ => sum_comm, sum_comm]
      refine sum_congr rfl fun j _ => sum_congr rfl fun d _ => sum_congr rfl fun e _ => ?_
      ring
  have ha : ∑ i : Fin 128, ((i.val : ℝ) + 1) * ((∑ d, a (n + i.val) d * (∑ e, g (n + i.val) e * state L b c n d e)) * Real.exp (((i.val : ℝ) + 1) * L))
      = ∑ i : Fin 128, ∑ e, (((i.val : ℝ) + 1) * ∑ d, a (n + i.val) d * Real.exp (((i.val : ℝ) + 1) * L) * state L b c n d e) * g (n + i.val) e := by
    refine sum_congr rfl fun i _ => ?_
    simp only [mul_sum, sum_mul]
    rw [sum_comm]
    refine sum_congr rfl fun e _ => sum_congr rfl fun d _ => ?_
    ring
  have split : ∀ X Y G : Fin 128 → E → ℝ, ∑ i, ∑ e, (X i e + Y i e) * G i e = ∑ i, ∑ e, X i e * G i e + ∑ i, ∑ e, Y i e * G i e := fun X Y G => by
    simp only [add_mul, sum_add_distrib]
  rw [hm, hm', ha, split]
  ring

omit [Fintype D] [Fintype E] in
theorem sum_chunks (f : ℕ → ℝ) (n C K : ℕ) : ∑ k ∈ range K, ∑ r ∈ range C, f (n + C * k + r) = ∑ s ∈ range (C * K), f (n + s) := by
  induction K with
  | zero => simp
  | succ K ih => rw [sum_range_succ, ih, Nat.mul_succ, sum_range_add]; simp only [add_assoc]

/-- The four parts of a group's derivative: by the queries' weights, by the chunks' weights, by the keys' weights, by the weights inside a chunk. -/
noncomputable def partA (L : ℝ) (a b : Fin 2 → ℕ → D → ℝ) (c g : Fin 2 → ℕ → E → ℝ) (n K : ℕ) : ℝ :=
  ∑ i : Fin 128, ((i.val : ℝ) + 1) * ((∑ p, ∑ k : Fin K, ∑ d, a p (n + 128 * k.val + i.val) d * (∑ e, g p (n + 128 * k.val + i.val) e * state L (b p) (c p) (n + 128 * k.val) d e))
        * Real.exp (((i.val : ℝ) + 1) * L))
noncomputable def partB (L : ℝ) (a b : Fin 2 → ℕ → D → ℝ) (c g : Fin 2 → ℕ → E → ℝ) (n K : ℕ) : ℝ :=
  128 * ((∑ k : Fin K, ∑ p, ∑ d, ∑ e, tail L (a p) (g p) (n + 128 * (k.val + 1)) d e * state L (b p) (c p) (n + 128 * k.val) d e) * Real.exp (128 * L))
noncomputable def partC (L : ℝ) (a b : Fin 2 → ℕ → D → ℝ) (c g : Fin 2 → ℕ → E → ℝ) (n K : ℕ) : ℝ :=
  ∑ j : Fin 128, (127 - (j.val : ℝ)) * ((∑ p, ∑ k : Fin K, ∑ d, b p (n + 128 * k.val + j.val) d * (∑ e, tail L (a p) (g p) (n + 128 * (k.val + 1)) d e * c p (n + 128 * k.val + j.val) e))
        * Real.exp ((127 - (j.val : ℝ)) * L))
noncomputable def partD (strict : Bool) (L : ℝ) (a b : Fin 2 → ℕ → D → ℝ) (c g : Fin 2 → ℕ → E → ℝ) (n K : ℕ) : ℝ :=
  ∑ i : Fin 128, ∑ j : Fin 128, (∑ p, ∑ k : Fin K, (∑ d, a p (n + 128 * k.val + i.val) d * b p (n + 128 * k.val + j.val) d) * (∑ e, g p (n + 128 * k.val + i.val) e * c p (n + 128 * k.val + j.val) e))
        * (((i.val : ℝ) - (j.val : ℝ)) * wt strict L ((i.val : ℝ) - (j.val : ℝ)))

/-- All chunks' parts from `n` on, over both batch rows, with what the later positions hand back. -/
theorem group_back (strict : Bool) (L : ℝ) (a b : Fin 2 → ℕ → D → ℝ) (c g : Fin 2 → ℕ → E → ℝ) (n K : ℕ) (h : n + 128 * K ≤ 2304) :
    partA L a b c g n K + partB L a b c g n K + partC L a b c g n K + partD strict L a b c g n K
      + ∑ p, meet L (a p) (b p) (c p) (g p) n
      = ∑ p, ∑ s ∈ range (128 * K), ∑ e, dwhole strict L (a p) (b p) (c p) 2304 (n + s) e * g p (n + s) e + ∑ p, meet L (a p) (b p) (c p) (g p) (n + 128 * K) := by
  unfold partA partB partC partD
  have sw : ∀ (X : Fin 2 → Fin K → Fin 128 → ℝ) (P W : Fin 128 → ℝ), ∑ i, P i * ((∑ p, ∑ k, X p k i) * W i) = ∑ p, ∑ k, ∑ i, P i * (X p k i * W i) := fun X P W => by
    simp only [sum_mul, mul_sum]
    rw [sum_comm]
    exact sum_congr rfl fun p _ => sum_comm
  have sw2 : ∀ (X : Fin 2 → Fin K → Fin 128 → Fin 128 → ℝ) (W : Fin 128 → Fin 128 → ℝ),
      ∑ i, ∑ j, (∑ p, ∑ k, X p k i j) * W i j = ∑ p, ∑ k, ∑ i, ∑ j, X p k i j * W i j := fun X W => by
    simp only [sum_mul]
    rw [sum_congr rfl fun i _ => sum_comm, sum_comm]
    refine sum_congr rfl fun p _ => ?_
    rw [sum_congr rfl fun i _ => sum_comm, sum_comm]
  have sw3 : ∀ (X : Fin 2 → Fin K → ℝ) (P W : ℝ), P * ((∑ k, ∑ p, X p k) * W) = ∑ p, ∑ k, P * (X p k * W) := fun X P W => by
    simp only [sum_mul, mul_sum]
    rw [sum_comm]
  rw [sw (fun p k i => ∑ d, a p (n + 128 * k.val + i.val) d * (∑ e, g p (n + 128 * k.val + i.val) e * state L (b p) (c p) (n + 128 * k.val) d e)),
    sw (fun p k j => ∑ d, b p (n + 128 * k.val + j.val) d * (∑ e, tail L (a p) (g p) (n + 128 * (k.val + 1)) d e * c p (n + 128 * k.val + j.val) e)),
    sw2 (fun p k i j => (∑ d, a p (n + 128 * k.val + i.val) d * b p (n + 128 * k.val + j.val) d) * (∑ e, g p (n + 128 * k.val + i.val) e * c p (n + 128 * k.val + j.val) e)),
    sw3 (fun p k => ∑ d, ∑ e, tail L (a p) (g p) (n + 128 * (k.val + 1)) d e * state L (b p) (c p) (n + 128 * k.val) d e)]
  simp only [← sum_add_distrib]
  refine sum_congr rfl fun p _ => ?_
  have step : ∀ m ≤ K, ∑ k ∈ range m, (∑ s ∈ range 128, ∑ e, dwhole strict L (a p) (b p) (c p) 2304 (n + 128 * k + s) e * g p (n + 128 * k + s) e
      + meet L (a p) (b p) (c p) (g p) (n + 128 * (k + 1)) - meet L (a p) (b p) (c p) (g p) (n + 128 * k)) + meet L (a p) (b p) (c p) (g p) n
      = ∑ s ∈ range (128 * m), ∑ e, dwhole strict L (a p) (b p) (c p) 2304 (n + s) e * g p (n + s) e + meet L (a p) (b p) (c p) (g p) (n + 128 * m) := by
    intro m hm
    rw [← sum_chunks (fun s => ∑ e, dwhole strict L (a p) (b p) (c p) 2304 s e * g p s e) n 128 m]
    induction m with
    | zero => simp
    | succ m ih =>
      have := ih (by omega)
      rw [sum_range_succ _ m, sum_range_succ _ m]
      linarith
  rw [← step K le_rfl, sum_range]
  congr 1
  refine sum_congr rfl fun k _ => ?_
  have hk : n + 128 * k.val + 128 ≤ 2304 := by have := k.isLt; omega
  have := chunk_back strict L (a p) (b p) (c p) (g p) hk
  rw [show n + 128 * (k.val + 1) = n + 128 * k.val + 128 by ring]
  linarith

/-- The whole derivative, over both batch rows: the context's two chunks and the latent part's sixteen. -/
theorem total_groups (strict : Bool) (L : ℝ) (a b : Fin 2 → ℕ → D → ℝ) (c g : Fin 2 → ℕ → E → ℝ) :
    (∑ p, ∑ s ∈ range (128 * 2), ∑ e, dwhole strict L (a p) (b p) (c p) 2304 (0 + s) e * g p (0 + s) e)
      + ∑ p, ∑ s ∈ range (128 * 16), ∑ e, dwhole strict L (a p) (b p) (c p) 2304 (256 + s) e * g p (256 + s) e
      = ∑ p, total strict L (a p) (b p) (c p) (g p) 2304 := by
  rw [← sum_add_distrib]
  refine sum_congr rfl fun p _ => ?_
  have := sum_range_add (fun s => ∑ e, dwhole strict L (a p) (b p) (c p) 2304 s e * g p s e) 256 2048
  simp only [zero_add]
  exact this.symm

theorem meet_zero (L : ℝ) (a b : ℕ → D → ℝ) (c g : ℕ → E → ℝ) : meet L a b c g 0 = 0 := by simp [meet, dstate_zero]
theorem meet_end (L : ℝ) (a b : ℕ → D → ℝ) (c g : ℕ → E → ℝ) : meet L a b c g 2304 = 0 := by simp [meet, tail_end]

/-- Both groups' parts together. -/
theorem parts_total (strict : Bool) (L : ℝ) (a b : Fin 2 → ℕ → D → ℝ) (c g : Fin 2 → ℕ → E → ℝ) :
    partA L a b c g 256 16 + partB L a b c g 256 16 + partC L a b c g 256 16 + partD strict L a b c g 256 16
      + partA L a b c g 0 2 + partB L a b c g 0 2 + partC L a b c g 0 2 + partD strict L a b c g 0 2
      = ∑ p, total strict L (a p) (b p) (c p) (g p) 2304 := by
  have h1 := group_back strict L a b c g 256 16 (by norm_num)
  have h2 := group_back strict L a b c g 0 2 (by norm_num)
  have h3 := total_groups strict L a b c g
  simp only [meet_zero, show 256 + 128 * 16 = 2304 from rfl, show 0 + 128 * 2 = 256 from rfl, meet_end, sum_const_zero] at h1 h2
  linarith

end Step.Retention
-- ==== Proof.RetentionKernel5.lean ====
/- What one chunk of the decay gradient's kernel adds and hands on, over the reals. -/
module

public import proofs.«01_k».proof.Proof.Gen.Kernel5Ideal.Skeleton
public import proofs.«01_k».proof.Proof.RetentionKernel
public import proofs.«01_k».proof.Proof.RetentionDecay

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Step.Retention

/-- The state and its derivative after a chunk, and the running sum. -/
def sStep (wk : FVec Ideal S256x1 .f32) (cd : FVec Ideal S1x128 .f32) (S : FVec Ideal S128x128 .f32) (k v : Vec Ideal S1x256x128 .f32) :=
  k0_pay31 wk cd S (k0_pay21 k) (k0_pay23 v)
def dStep (p wk : FVec Ideal S256x1 .f32) (cd : FVec Ideal S1x128 .f32) (D S : FVec Ideal S128x128 .f32) (k v : Vec Ideal S1x256x128 .f32) :=
  k0_pay30 p wk cd D S (k0_pay21 k) (k0_pay23 v)
def tStep (p : FVec Ideal S256x1 .f32) (W : FVec Ideal S256x256 .f32) (wq : FVec Ideal S256x1 .f32) (t : Ideal .f32) (D S : FVec Ideal S128x128 .f32)
    (q k v g : Vec Ideal S1x256x128 .f32) : Ideal .f32 :=
  k0_pay29 p W t (k0_pay22 g) (k0_pay24 q k) (k0_pay25 v g)
    (matmul dot_S256x128_S128x128_S256x128_1_0_0_1_n_n none (k0_pay26 wq q) (truncf .bf16 S bitsLt_bf16_f32) (constant S256x128 .f32 0x00000000#32))
    (matmul dot_S256x128_S128x128_S256x128_1_0_0_1_n_n none (k0_pay26 wq q) (truncf .bf16 D bitsLt_bf16_f32) (constant S256x128 .f32 0x00000000#32))

theorem dstate_read (P WK : Fin 256 → ℝ) (g : ℝ) (D S : Fin 128 → Fin 128 → ℝ) (b c : Fin 256 → Fin 128 → ℝ) :
    dStep (fun i => (P (i 0) : EReal)) (fun i => (WK (i 0) : EReal)) (fun _ => (g : EReal)) (fun i => (D (i 0) (i 1) : EReal))
        (fun i => (S (i 0) (i 1) : EReal)) (fun i => (b (i 1) (i 2) : EReal)) (fun i => (c (i 1) (i 2) : EReal))
      = fun i => ((g * (D (i 0) (i 1) + 256 * S (i 0) (i 1)) + ∑ j, b j (i 0) * ((255 - P j) * WK j) * c j (i 1) : ℝ) : EReal) := by
  funext i
  pointwise [dStep, k0_pay30, k0_pay21, k0_pay23]
  rw [Step.ofBits_255, Step.ofBits_256]
  norm_cast

theorem sumA (X : FVec Ideal S256x256 .f32) :
    extractAt ![0, 0, 0] (shapeCast S1x1x1 (multiReduction .add [1, 2] S1 (shapeCast S1x256x256 X shapeCasts_S256x256_S1x256x256) 0x00000000#32
      reduces_S1x256x256_S1 (.inl rfl) rfl) shapeCasts_S1_S1x1x1) inpos_S1x1x1_p0_0_0 = ∑ i : Fin 256, ∑ j : Fin 256, X (ix2 i j) := by
  pointwise

theorem sumB (X : FVec Ideal S256x128 .f32) :
    extractAt ![0, 0, 0] (shapeCast S1x1x1 (multiReduction .add [1, 2] S1 (shapeCast S1x256x128 X shapeCasts_S256x128_S1x256x128) 0x00000000#32
      reduces_S1x256x128_S1 (.inl rfl) rfl) shapeCasts_S1_S1x1x1) inpos_S1x1x1_p0_0_0 = ∑ i : Fin 256, ∑ j : Fin 128, X (ix2 i j) := by
  pointwise

/-- The scores by their cotangents and the weights, and what reaches the chunk from before by its cotangent. -/
def prodA (W : FVec Ideal S256x256 .f32) (q k v g : Vec Ideal S1x256x128 .f32) : FVec Ideal S256x256 .f32 :=
  mulf (mulf (k0_pay24 q k) (k0_pay25 v g)) W
def prodB (p : FVec Ideal S256x1 .f32) (wq : FVec Ideal S256x1 .f32) (D S : FVec Ideal S128x128 .f32) (q g : Vec Ideal S1x256x128 .f32) : FVec Ideal S256x128 .f32 :=
  mulf (addf (mulf (broadcastTo S256x128 (addf p (broadcast S256x1 (Scalar.ofBits .f32 0x3F800000#32 : Ideal .f32))) broadcasts_S256x1_S256x128)
    (matmul dot_S256x128_S128x128_S256x128_1_0_0_1_n_n none (k0_pay26 wq q) (truncf .bf16 S bitsLt_bf16_f32) (constant S256x128 .f32 0x00000000#32)))
    (matmul dot_S256x128_S128x128_S256x128_1_0_0_1_n_n none (k0_pay26 wq q) (truncf .bf16 D bitsLt_bf16_f32) (constant S256x128 .f32 0x00000000#32)))
    (k0_pay22 g)

theorem tStep_eq (p : FVec Ideal S256x1 .f32) (W : FVec Ideal S256x256 .f32) (wq : FVec Ideal S256x1 .f32) (t : Ideal .f32) (D S : FVec Ideal S128x128 .f32)
    (q k v g : Vec Ideal S1x256x128 .f32) : tStep p W wq t D S q k v g
      = t + ∑ i : Fin 256, ∑ j : Fin 256, prodA W q k v g (ix2 i j) + ∑ i : Fin 256, ∑ j : Fin 128, prodB p wq D S q g (ix2 i j) :=
  (congrArg₂ (· + ·) (congrArg (t + ·) (sumA (prodA W q k v g))) (sumB (prodB p wq D S q g)) :)

theorem prodA_read (W : Fin 256 → Fin 256 → ℝ) (q k v g : Fin 256 → Fin 128 → ℝ) :
    prodA (fun i => (W (i 0) (i 1) : EReal)) (fun i => (q (i 1) (i 2) : EReal)) (fun i => (k (i 1) (i 2) : EReal)) (fun i => (v (i 1) (i 2) : EReal))
        (fun i => (g (i 1) (i 2) : EReal))
      = fun i => (((∑ d, q (i 0) d * k (i 1) d) * (∑ e, g (i 0) e * v (i 1) e) * W (i 0) (i 1) : ℝ) : EReal) := by
  funext i
  pointwise [prodA, k0_pay22, k0_pay24, k0_pay25, k0_pay20, k0_pay21, k0_pay23]
  norm_cast

theorem prodB_read (P WQ : Fin 256 → ℝ) (D S : Fin 128 → Fin 128 → ℝ) (q g : Fin 256 → Fin 128 → ℝ) :
    prodB (fun i => (P (i 0) : EReal)) (fun i => (WQ (i 0) : EReal)) (fun i => (D (i 0) (i 1) : EReal))
        (fun i => (S (i 0) (i 1) : EReal)) (fun i => (q (i 1) (i 2) : EReal)) (fun i => (g (i 1) (i 2) : EReal))
      = fun i => ((((P (i 0) + 1) * (∑ d, q (i 0) d * WQ (i 0) * S d (i 1)) + ∑ d, q (i 0) d * WQ (i 0) * D d (i 1)) * g (i 0) (i 1) : ℝ) : EReal) := by
  funext i
  pointwise [prodB, k0_pay22, k0_pay26, k0_pay20]
  norm_cast

theorem tot_read (P WQ : Fin 256 → ℝ) (W : Fin 256 → Fin 256 → ℝ) (t : ℝ) (D S : Fin 128 → Fin 128 → ℝ) (q k v g : Fin 256 → Fin 128 → ℝ) :
    tStep (fun i => (P (i 0) : EReal)) (fun i => (W (i 0) (i 1) : EReal)) (fun i => (WQ (i 0) : EReal)) (t : EReal) (fun i => (D (i 0) (i 1) : EReal))
        (fun i => (S (i 0) (i 1) : EReal)) (fun i => (q (i 1) (i 2) : EReal)) (fun i => (k (i 1) (i 2) : EReal)) (fun i => (v (i 1) (i 2) : EReal))
        (fun i => (g (i 1) (i 2) : EReal))
      = ((t + ∑ i, ∑ j, (∑ d, q i d * k j d) * (∑ e, g i e * v j e) * W i j
          + ∑ i, ∑ e, ((P i + 1) * (∑ d, q i d * WQ i * S d e) + ∑ d, q i d * WQ i * D d e) * g i e : ℝ) : EReal) := by
  rw [tStep_eq, prodA_read W q k v g, prodB_read P WQ D S q g]
  simp only [EReal.coe_add, Step.coe_sum]
  rfl

abbrev st (L : ℝ) (b c : ℕ → Fin 128 → ℝ) (n : ℕ) : FVec Ideal S128x128 .f32 := fun i => (state L b c n (i 0) (i 1) : EReal)
abbrev dst (L : ℝ) (b c : ℕ → Fin 128 → ℝ) (n : ℕ) : FVec Ideal S128x128 .f32 := fun i => (dstate L b c n (i 0) (i 1) : EReal)
abbrev ch (ρ : Equiv.Perm (Fin 256)) (y : ℕ → Fin 128 → ℝ) (n : ℕ) : Vec Ideal S1x256x128 .f32 :=
  fun i => (y (n + (ρ (i 1)).val) (i 2) : EReal)
abbrev posv (ρ : Equiv.Perm (Fin 256)) : FVec Ideal S256x1 .f32 := fun i => ((((ρ (i 0)).val : ℕ) : ℝ) : EReal)
abbrev wkv (ρ : Equiv.Perm (Fin 256)) (L : ℝ) : FVec Ideal S256x1 .f32 := fun i => (Real.exp ((255 - ((ρ (i 0)).val : ℝ)) * L) : EReal)
abbrev wqv (ρ : Equiv.Perm (Fin 256)) (L : ℝ) : FVec Ideal S256x1 .f32 := fun i => (Real.exp ((((ρ (i 0)).val : ℝ) + 1) * L) : EReal)
abbrev ddv (ρ : Equiv.Perm (Fin 256)) (strict : Bool) (L : ℝ) : FVec Ideal S256x256 .f32 :=
  fun i => (((((ρ (i 0)).val : ℝ) - ((ρ (i 1)).val : ℝ)) * wt strict L (((ρ (i 0)).val : ℝ) - ((ρ (i 1)).val : ℝ)) : ℝ) : EReal)
abbrev cdv (L : ℝ) : FVec Ideal S1x128 .f32 := fun _ => (Real.exp (256 * L) : EReal)

/-- The part of the derivative that the first `n` positions of a scan make. -/
abbrev part (strict : Bool) (L : ℝ) (a b c g : ℕ → Fin 128 → ℝ) (n : ℕ) : ℝ :=
  ∑ s ∈ Finset.range n, ∑ e, dwhole strict L a b c 2304 s e * g s e

theorem sStep_st {ρ : Equiv.Perm (Fin 256)} {L : ℝ} {b c : ℕ → Fin 128 → ℝ} {n : ℕ} {S} (hS : S = st L b c n) :
    sStep (wkv ρ L) (cdv L) S (ch ρ b n) (ch ρ c n) = st L b c (n + 256) := by
  subst hS; exact Cert.KernelIdeal.Value.state_step ρ L b c n

theorem dStep_dst {ρ : Equiv.Perm (Fin 256)} {L : ℝ} {b c : ℕ → Fin 128 → ℝ} {n : ℕ} {D S} (hD : D = dst L b c n) (hS : S = st L b c n) :
    dStep (posv ρ) (wkv ρ L) (cdv L) D S (ch ρ b n) (ch ρ c n) = dst L b c (n + 256) := by
  subst hD hS
  refine (dstate_read (fun j => ((ρ j).val : ℝ)) (fun j => Real.exp ((255 - ((ρ j).val : ℝ)) * L)) _ _ _ (fun j => b (n + (ρ j).val)) (fun j => c (n + (ρ j).val))).trans ?_
  exact funext fun i => congrArg Real.toEReal (chunk_dstate 256 255 (by norm_num) (by norm_num) ρ L b c n (i 0) (i 1))

theorem tStep_part {ρ : Equiv.Perm (Fin 256)} {strict : Bool} {L : ℝ} {a b c g : ℕ → Fin 128 → ℝ} {n : ℕ} {D S} {t : Ideal .f32} (h : n + 256 ≤ 2304)
    (ht : t = (part strict L a b c g n : EReal)) (hD : D = dst L b c n) (hS : S = st L b c n) :
    tStep (posv ρ) (ddv ρ strict L) (wqv ρ L) t D S (ch ρ a n) (ch ρ b n) (ch ρ c n) (ch ρ g n) = (part strict L a b c g (n + 256) : EReal) := by
  subst ht hD hS
  refine (tot_read (fun j => ((ρ j).val : ℝ)) (fun i => Real.exp ((((ρ i).val : ℝ) + 1) * L)) (fun i j => (((ρ i).val : ℝ) - ((ρ j).val : ℝ)) * wt strict L (((ρ i).val : ℝ) - ((ρ j).val : ℝ)))
    _ _ _ (fun j => a (n + (ρ j).val)) (fun j => b (n + (ρ j).val)) (fun j => c (n + (ρ j).val)) (fun j => g (n + (ρ j).val))).trans (congrArg Real.toEReal ?_)
  rw [add_assoc, chunk_total ρ strict L a b c g n h, ← Finset.sum_range_add]

/-- Nine chunks: the states, their derivatives and the running sum. -/
def stS (wk : FVec Ideal S256x1 .f32) (cd : FVec Ideal S1x128 .f32) (k v : ℕ → Vec Ideal S1x256x128 .f32) : ℕ → FVec Ideal S128x128 .f32
  | 0 => k0_pay12
  | n + 1 => sStep wk cd (stS wk cd k v n) (k n) (v n)
def stD (p wk : FVec Ideal S256x1 .f32) (cd : FVec Ideal S1x128 .f32) (k v : ℕ → Vec Ideal S1x256x128 .f32) : ℕ → FVec Ideal S128x128 .f32
  | 0 => k0_pay13
  | n + 1 => dStep p wk cd (stD p wk cd k v n) (stS wk cd k v n) (k n) (v n)
def totN (p : FVec Ideal S256x1 .f32) (W : FVec Ideal S256x256 .f32) (wq wk : FVec Ideal S256x1 .f32) (cd : FVec Ideal S1x128 .f32)
    (q k v g : ℕ → Vec Ideal S1x256x128 .f32) : ℕ → Ideal .f32
  | 0 => Scalar.ofBits .f32 0x00000000#32
  | n + 1 => tStep p W wq (totN p W wq wk cd q k v g n) (stD p wk cd k v n) (stS wk cd k v n) (q n) (k n) (v n) (g n)

/-- All nine chunks of a scan. -/
theorem scan_total (ρ : Equiv.Perm (Fin 256)) (strict : Bool) (L : ℝ) (a b c g : ℕ → Fin 128 → ℝ) {p W wq wk cd} {q k v x : ℕ → Vec Ideal S1x256x128 .f32}
    (hp : p = posv ρ) (hW : W = ddv ρ strict L) (hq : wq = wqv ρ L) (hk : wk = wkv ρ L) (hc : cd = cdv L)
    (h0 : ∀ n < 9, q n = ch ρ a (256 * n)) (h1 : ∀ n < 9, k n = ch ρ b (256 * n)) (h2 : ∀ n < 9, v n = ch ρ c (256 * n)) (h3 : ∀ n < 9, x n = ch ρ g (256 * n)) :
    totN p W wq wk cd q k v x 9 = (total strict L a b c g 2304 : EReal) := by
  subst hp hW hq hk hc
  have key : ∀ n ≤ 9, stS (wkv ρ L) (cdv L) k v n = st L b c (256 * n) ∧ stD (posv ρ) (wkv ρ L) (cdv L) k v n = dst L b c (256 * n)
      ∧ totN (posv ρ) (ddv ρ strict L) (wqv ρ L) (wkv ρ L) (cdv L) q k v x n = (part strict L a b c g (256 * n) : EReal) := by
    intro n
    induction n with
    | zero =>
      refine fun _ => ⟨?_, ?_, ?_⟩
      · exact Cert.KernelIdeal.Value.zero_read.trans (funext fun i => congrArg Real.toEReal (state_zero _ _ _ _ _).symm)
      · exact Cert.KernelIdeal.Value.zero_read.trans (funext fun i => congrArg Real.toEReal (dstate_zero _ _ _ _ _).symm)
      · show Ideal.ofBits .f32 0x00000000#32 = _
        simp [Ideal.ofBits, Ideal.ieee, part]
    | succ n ih =>
      intro hn
      obtain ⟨i1, i2, i3⟩ := ih (by omega)
      have e : 256 * (n + 1) = 256 * n + 256 := by ring
      rw [e]
      refine ⟨?_, ?_, ?_⟩
      · show sStep _ _ _ _ _ = _
        rw [h1 n (by omega), h2 n (by omega)]; exact sStep_st i1
      · show dStep _ _ _ _ _ _ _ = _
        rw [h1 n (by omega), h2 n (by omega)]; exact dStep_dst i2 i1
      · show tStep _ _ _ _ _ _ _ _ _ _ = _
        rw [h0 n (by omega), h1 n (by omega), h2 n (by omega), h3 n (by omega)]; exact tStep_part (by omega) i3 i2 i1
  exact (key 9 le_rfl).2.2

end Cert.Kernel5Ideal.Value
-- ==== Proof.RetentionFinal5.lean ====
/- The decay gradient's kernel over the reals: for each head, both scans' totals over the batch, each by the derivative of its decay's logarithm. -/
module

public import proofs.«01_k».proof.Proof.RetentionKernel5
public import proofs.«01_k».proof.Proof.RetentionFinal
public import proofs.«01_k».proof.Proof.Gen.Kernel5Ideal.Value

@[expose] public section

set_option maxRecDepth 65536

noncomputable section

namespace Cert.Kernel5Ideal.Value

open Cert.Kernel5Ideal Cert.Kernel5Ideal.Gen Idealize.ShloMosaic Idealize.ShloMosaic.TcCoe Idealize.SL.Sem
open Step.Retention

/-- A chunk of a block as the body loads it. -/
def rd (a : Memref sig .tc .vmem S1x2304x128 .f32) (ha : a.IsWhole) (x : Vec Ideal S1x2304x128 .f32) (o : ℕ) (h : o + 256 ≤ 2304) : Vec Ideal S1x256x128 .f32 :=
  View.readAt (Elt Ideal) a.view (Rect.unit (s := S1x2304x128) ![0, o, 0] S1x256x128.size (Cert.KernelIdeal.Value.inb h)).toLoadRect (ha.unread x)

/-- The chunks of a block, in a scan's order. -/
def rdF (a : Memref sig .tc .vmem S1x2304x128 .f32) (ha : a.IsWhole) (x : Vec Ideal S1x2304x128 .f32) (n : ℕ) : Vec Ideal S1x256x128 .f32 :=
  if h : 256 * n + 256 ≤ 2304 then rd a ha x (256 * n) h else 0
def rdB (a : Memref sig .tc .vmem S1x2304x128 .f32) (ha : a.IsWhole) (x : Vec Ideal S1x2304x128 .f32) : ℕ → Vec Ideal S1x256x128 .f32
  | 0 => rd a ha x 0 (by norm_num)
  | n + 1 => if h : 256 * (8 - n) + 256 ≤ 2304 then rd a ha x (256 * (8 - n)) h else 0

/-- The decay parameter's row as the body loads it. -/
def rdD (a : Memref sig .tc .vmem S1x1x128 .f32) (ha : a.IsWhole) (x : Vec Ideal S1x1x128 .f32) : Vec Ideal S1x1x128 .f32 :=
  View.readAt (Elt Ideal) a.view (Rect.unit (s := S1x1x128) ![0, 0, 0] S1x1x128.size inb_S1x1x128_S1x1x128_0_0_0).toLoadRect (ha.unread x)

def totF (q k v g : ℕ → Vec Ideal S1x256x128 .f32) (x : Vec Ideal S1x1x128 .f32) : Ideal .f32 :=
  totN (k0_pay4 (F := Ideal)) (k0_pay8 x) (k0_pay9 x) (k0_pay10 x) (k0_pay11 x) q k v g 9
def totB (q k v g : ℕ → Vec Ideal S1x256x128 .f32) (x : Vec Ideal S1x1x128 .f32) : Ideal .f32 :=
  totN (k0_pay96 (F := Ideal) k0_pay4) (k0_pay95 (iota .tc S256x256 32 [0] iota_S256x256_d0_w32) (iota .tc S256x256 32 [1] iota_S256x256_d1_w32) x)
    (k0_pay97 k0_pay4 x) (k0_pay98 k0_pay4 x) (k0_pay99 x) q k v g 9

/-- A scan's total by the derivative of its decay's logarithm. -/
def rowOf (t : Ideal .f32) (x : Vec Ideal S1x1x128 .f32) : FVec Ideal S1x128 .f32 :=
  mulf (broadcast S1x128 t) (logistic (subf (broadcast S1x128 (Scalar.ofBits .f32 0x00000000#32 : Ideal .f32)) (k0_pay5 x)))

variable (c : Dev nD) (i : grid0.Coords) (arg2 : Memref sig .tc .vmem S1x2304x128 .f32) (harg2 : arg2.IsWhole) (arg3 : Memref sig .tc .vmem S1x2304x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x1x128 .f32) (harg6 : arg6.IsWhole) (arg7 : Memref sig .tc .vmem S1x1x128 .f32) (harg7 : arg7.IsWhole) (x0 x1 x2 x3 : Vec Ideal S1x2304x128 .f32) (x4 x5 : Vec Ideal S1x1x128 .f32)

theorem rowF : kernelRun0_A.sl.r_73 c arg2 harg2 arg3 harg3 arg4 harg4 arg5 harg5 arg6 harg6 x0 x1 x2 x3 x4
    = rowOf (totF (rdF arg2 harg2 x0) (rdF arg3 harg3 x1) (rdF arg4 harg4 x2) (rdF arg5 harg5 x3) (rdD arg6 harg6 x4)) (rdD arg6 harg6 x4) := by
  rfl

theorem rowB : kernelRun0_A.sl.r_150 c arg2 harg2 arg3 harg3 arg4 harg4 arg5 harg5 arg7 harg7 x0 x1 x2 x3 x5
    = rowOf (totB (rdB arg2 harg2 x0) (rdB arg3 harg3 x1) (rdB arg4 harg4 x2) (rdB arg5 harg5 x3) (rdD arg7 harg7 x5)) (rdD arg7 harg7 x5) := by
  rfl

theorem rd_eq (a : Memref sig .tc .vmem S1x2304x128 .f32) (ha : a.IsWhole) (x : Vec Ideal S1x2304x128 .f32) (o : ℕ) (h : o + 256 ≤ 2304) :
    rd a ha x o h = View.ld x (Rect.unit (s := S1x2304x128) ![0, o, 0] S1x256x128.size (Cert.KernelIdeal.Value.inb h)) := by
  unfold rd
  rw [View.readAt_eq_ld, ha.read_unread]

theorem rdD_eq (a : Memref sig .tc .vmem S1x1x128 .f32) (ha : a.IsWhole) (δ : ℝ) : rdD a ha (fun _ => (δ : EReal)) = fun _ => (δ : EReal) := by
  unfold rdD
  rw [View.readAt_eq_ld, ha.read_unread]
  rfl

abbrev blk (x : Fin 2304 → Fin 128 → ℝ) : Vec Ideal S1x2304x128 .f32 := fun i => (x (i 1) (i 2) : EReal)

theorem rdF_eq (a : Memref sig .tc .vmem S1x2304x128 .f32) (ha : a.IsWhole) (x : Fin 2304 → Fin 128 → ℝ) (n : ℕ) (hn : n < 9) :
    rdF a ha (blk x) n = ch 1 (fw x) (256 * n) := by
  unfold rdF
  rw [dif_pos (by omega), rd_eq]
  exact Cert.KernelIdeal.Value.ldF x ⟨n, hn⟩

theorem rdB_eq (a : Memref sig .tc .vmem S1x2304x128 .f32) (ha : a.IsWhole) (x : Fin 2304 → Fin 128 → ℝ) : ∀ n < 9,
    rdB a ha (blk x) n = ch Fin.revPerm (bw x) (256 * n)
  | 0, _ => (rd_eq a ha _ _ (by norm_num)).trans (Cert.KernelIdeal.Value.ldB0 x)
  | n + 1, hn => by
    have h : 256 * (8 - n) + 256 ≤ 2304 := by omega
    refine (show rdB a ha (blk x) (n + 1) = rd a ha (blk x) (256 * (8 - n)) h from dif_pos h).trans ((rd_eq a ha _ _ h).trans ?_)
    exact Cert.KernelIdeal.Value.ldB x ⟨n, by omega⟩

theorem posF : k0_pay4 (F := Ideal) = posv 1 := by
  funext i
  pointwise [k0_pay4]
  rw [Cert.KernelIdeal.Value.pos_read (i 0).isLt]
  rfl

theorem posB : k0_pay96 (F := Ideal) k0_pay4 = posv Fin.revPerm := by
  rw [posF]
  funext i
  pointwise [k0_pay96]
  rw [Step.ofBits_255]
  refine Eq.trans ?_ (congrArg Real.toEReal (Cert.KernelIdeal.Value.revc (i 0)).symm)
  norm_cast

theorem ddF (δ : ℝ) : k0_pay8 (F := Ideal) (fun _ => (δ : EReal)) = ddv 1 false (lsg δ) := by
  funext i
  have e : k0_pay6 (F := Ideal) (fun _ => (δ : EReal)) = fun _ => (lsg δ : EReal) := Cert.KernelIdeal.Value.lsg_read δ
  pointwise [k0_pay8, k0_pay7, e]
  rw [Cert.KernelIdeal.Value.dist_read (i 0).isLt (i 1).isLt]
  refine Eq.trans ?_ (show (((((i 0).val : ℝ) - ((i 1).val : ℝ)) * wt false (lsg δ) (((i 0).val : ℝ) - ((i 1).val : ℝ)) : ℝ) : EReal) = _ from rfl)
  unfold wt
  rw [mul_ite, mul_zero]
  norm_cast

theorem ddB (δ : ℝ) : k0_pay95 (F := Ideal) (iota .tc S256x256 32 [0] iota_S256x256_d0_w32) (iota .tc S256x256 32 [1] iota_S256x256_d1_w32) (fun _ => (δ : EReal))
    = ddv Fin.revPerm true (lsg δ) := by
  funext i
  have e : k0_pay93 (F := Ideal) (fun _ => (δ : EReal)) = fun _ => (lsg δ : EReal) := Cert.KernelIdeal.Value.lsg_read δ
  pointwise [k0_pay95, k0_pay94, e]
  rw [Cert.KernelIdeal.Value.dist_read (i 1).isLt (i 0).isLt]
  refine Eq.trans ?_ (congrArg (fun z : ℝ => ((z * wt true (lsg δ) z : ℝ) : EReal)) (show _ = ((Fin.revPerm (i 0)).val : ℝ) - ((Fin.revPerm (i 1)).val : ℝ) from
    (show ((i 1).val : ℝ) - ((i 0).val : ℝ) = (255 - ((i 0).val : ℝ)) - (255 - ((i 1).val : ℝ)) by ring).trans
      (congrArg₂ (· - ·) (Cert.KernelIdeal.Value.revc (i 0)).symm (Cert.KernelIdeal.Value.revc (i 1)).symm)))
  unfold wt
  rw [mul_ite, mul_zero]
  norm_cast

theorem wqB (δ : ℝ) : k0_pay97 (F := Ideal) k0_pay4 (fun _ => (δ : EReal)) = wqv Fin.revPerm (lsg δ) := by
  funext i
  have e : k0_pay93 (F := Ideal) (fun _ => (δ : EReal)) = fun _ => (lsg δ : EReal) := Cert.KernelIdeal.Value.lsg_read δ
  pointwise [k0_pay97, k0_pay94, e, posB]
  norm_cast

theorem wkB (δ : ℝ) : k0_pay98 (F := Ideal) k0_pay4 (fun _ => (δ : EReal)) = wkv Fin.revPerm (lsg δ) := by
  funext i
  have e : k0_pay93 (F := Ideal) (fun _ => (δ : EReal)) = fun _ => (lsg δ : EReal) := Cert.KernelIdeal.Value.lsg_read δ
  pointwise [k0_pay98, k0_pay94, e, posB]
  rw [Step.ofBits_255]
  simp only [← EReal.coe_mul, ← EReal.coe_sub]
  rfl

theorem totF_eq (δ : ℝ) (x0 x1 x2 x3 : Fin 2304 → Fin 128 → ℝ) :
    totF (rdF arg2 harg2 (blk x0)) (rdF arg3 harg3 (blk x1)) (rdF arg4 harg4 (blk x2)) (rdF arg5 harg5 (blk x3)) (fun _ => (δ : EReal))
      = (total false (lsg δ) (fw x0) (fw x1) (fw x2) (fw x3) 2304 : EReal) :=
  scan_total 1 false (lsg δ) _ _ _ _ posF (ddF δ) (Cert.KernelIdeal.Value.wq_read δ) (Cert.KernelIdeal.Value.wk_read δ) (Cert.KernelIdeal.Value.cd_read δ)
    (rdF_eq _ _ _) (rdF_eq _ _ _) (rdF_eq _ _ _) (rdF_eq _ _ _)

theorem totB_eq (δ : ℝ) (x0 x1 x2 x3 : Fin 2304 → Fin 128 → ℝ) :
    totB (rdB arg2 harg2 (blk x0)) (rdB arg3 harg3 (blk x1)) (rdB arg4 harg4 (blk x2)) (rdB arg5 harg5 (blk x3)) (fun _ => (δ : EReal))
      = (total true (lsg δ) (bw x0) (bw x1) (bw x2) (bw x3) 2304 : EReal) :=
  scan_total Fin.revPerm true (lsg δ) _ _ _ _ posB (ddB δ) (wqB δ) (wkB δ) (Cert.KernelIdeal.Value.cd_read δ)
    (rdB_eq _ _ _) (rdB_eq _ _ _) (rdB_eq _ _ _) (rdB_eq _ _ _)

/-- The derivative of `log (sigmoid x)`. -/
def dlsg (x : ℝ) : ℝ := 1 / (1 + Real.exp x)

theorem rowOf_eq (t δ : ℝ) : rowOf (t : EReal) (fun _ => (δ : EReal)) = fun _ => ((t * dlsg δ : ℝ) : EReal) := by
  funext i
  pointwise [rowOf, k0_pay5]
  unfold dlsg
  rw [show (0 : EReal) - (δ : EReal) = ((-δ : ℝ) : EReal) by rw [zero_sub]; rfl, Ideal.logistic_coe, neg_neg, ← one_div]
  norm_cast

theorem tile_eq (a b : ℝ) (y : S8x128.Idx) : k0_pay1 (F := Ideal) (fun _ => (a : EReal)) (fun _ => (b : EReal)) (iota .tc S8x128 32 [0] iota_S8x128_d0_w32) y
    = (((if (y 0).val = 0 then a else 0) + (if (y 0).val = 1 then b else 0) : ℝ) : EReal) := by
  pointwise [k0_pay1]
  have h0 : IntOp.cmpi CmpIPredicate.eq (BitVec.ofNat 32 (y 0).val) 0#32 = if (y 0).val = 0 then 1#1 else 0#1 :=
    (by decide : ∀ k : Fin 8, IntOp.cmpi CmpIPredicate.eq (BitVec.ofNat 32 k.val) 0#32 = if k.val = 0 then 1#1 else 0#1) (y 0)
  have h1 : IntOp.cmpi CmpIPredicate.eq (BitVec.ofNat 32 (y 0).val) 1#32 = if (y 0).val = 1 then 1#1 else 0#1 :=
    (by decide : ∀ k : Fin 8, IntOp.cmpi CmpIPredicate.eq (BitVec.ofNat 32 k.val) 1#32 = if k.val = 1 then 1#1 else 0#1) (y 0)
  rw [h0, h1, EReal.coe_add]
  refine congrArg₂ (· + ·) ?_ ?_ <;> split_ifs <;> simp [Scalar.select]

/-- The rows of one head's tile that one batch row adds: the forward scan's in row 0, the backward scan's in row 1. -/
def tileR (δ δ' : ℝ) (x0 x1 x2 x3 : Fin 2304 → Fin 128 → ℝ) (r : ℕ) : ℝ :=
  (if r = 0 then total false (lsg δ) (fw x0) (fw x1) (fw x2) (fw x3) 2304 * dlsg δ else 0)
    + (if r = 1 then total true (lsg δ') (bw x0) (bw x1) (bw x2) (bw x3) 2304 * dlsg δ' else 0)

theorem pay1_eq (δ δ' : ℝ) (x0 x1 x2 x3 : Fin 2304 → Fin 128 → ℝ) (y : S8x128.Idx) :
    k0_pay1 (kernelRun0_A.sl.r_73 c arg2 harg2 arg3 harg3 arg4 harg4 arg5 harg5 arg6 harg6 (blk x0) (blk x1) (blk x2) (blk x3) (fun _ => (δ : EReal)))
      (kernelRun0_A.sl.r_150 c arg2 harg2 arg3 harg3 arg4 harg4 arg5 harg5 arg7 harg7 (blk x0) (blk x1) (blk x2) (blk x3) (fun _ => (δ' : EReal)))
      (iota .tc S8x128 32 [0] iota_S8x128_d0_w32) y = (tileR δ δ' x0 x1 x2 x3 (y 0).val : EReal) := by
  rw [rowF, rowB, rdD_eq, rdD_eq, totF_eq, totB_eq, rowOf_eq, rowOf_eq, tile_eq]
  rfl

theorem hz : (![0, 0, 0] : Fin 3 → ℕ) = fun _ => 0 := by decide

variable (arg8 : Memref sig .tc .vmem S1x8x128 .f32) (harg8 : arg8.IsWhole)

theorem outA (hc0 : cond0_0 i) (hc1 : ¬cond0_1 i) (δ δ' : ℝ) (x0 x1 x2 x3 : Fin 2304 → Fin 128 → ℝ) (y : S1x8x128.Idx) :
    out0_A_6 c i arg2 harg2 arg3 harg3 arg4 harg4 arg5 harg5 arg6 harg6 arg7 harg7 arg8 harg8 hc0 hc1 (blk x0) (blk x1) (blk x2) (blk x3)
      (fun _ => (δ : EReal)) (fun _ => (δ' : EReal)) y = (tileR δ δ' x0 x1 x2 x3 (y 1).val : EReal) := by
  unfold out0_A_6
  rw [View.read_writes_eq_canon _ _ _ (cover0_A_6 c i arg2 harg2 arg3 harg3 arg4 harg4 arg5 harg5 arg6 harg6 arg7 harg7 arg8 harg8 hc0 hc1 _ _ _ _ _ _)]
  unfold kernelRun0_A
  dsimp only
  rw [View.canon_unit_zero (S := S1x8x128) hz]
  unfold k0_pay2
  refine Eq.trans ?_ (pay1_eq c arg2 harg2 arg3 harg3 arg4 harg4 arg5 harg5 arg6 harg6 arg7 harg7 δ δ' x0 x1 x2 x3 (ix2 (y 1) (y 2)))
  pointwise
  rfl

theorem outB (hc0 : ¬cond0_0 i) (hc1 : cond0_1 i) (δ δ' : ℝ) (x0 x1 x2 x3 : Fin 2304 → Fin 128 → ℝ) (xo : Vec Ideal S1x8x128 .f32) (y : S1x8x128.Idx) :
    out0_B_6 c i arg2 harg2 arg3 harg3 arg4 harg4 arg5 harg5 arg6 harg6 arg7 harg7 arg8 harg8 hc0 hc1 (blk x0) (blk x1) (blk x2) (blk x3)
      (fun _ => (δ : EReal)) (fun _ => (δ' : EReal)) xo y = xo y + (tileR δ δ' x0 x1 x2 x3 (y 1).val : EReal) := by
  unfold out0_B_6
  rw [View.read_writes_eq_canon _ _ _ (cover0_B_6 c i arg2 harg2 arg3 harg3 arg4 harg4 arg5 harg5 arg6 harg6 arg7 harg7 arg8 harg8 hc0 hc1 _ _ _ _ _ _ _)]
  unfold kernelRun0_B
  dsimp only
  rw [View.canon_unit_zero (S := S1x8x128) hz]
  unfold k0_pay3
  simp only [View.readAt_eq_ld, harg8.read_unread, View.ld_unit_zero (S := S1x8x128) hz]
  refine Eq.trans ?_ (congrArg (xo y + ·) (pay1_eq c arg2 harg2 arg3 harg3 arg4 harg4 arg5 harg5 arg6 harg6 arg7 harg7 δ δ' x0 x1 x2 x3 (ix2 (y 1) (y 2))))
  pointwise
  rfl

open Cert.KernelIdeal.Value (hd)

variable (m : (ℓ : Loc nD τ sig) → Buf (Elt Ideal) ℓ)

theorem idx : ∀ t : Fin cfg0.N, win0_0.index t = ![t.val % 2, 0, t.val / 2] ∧ win0_1.index t = ![t.val % 2, 0, t.val / 2]
    ∧ win0_2.index t = ![t.val % 2, 0, t.val / 2] ∧ win0_3.index t = ![t.val % 2, 0, t.val / 2]
    ∧ win0_4.index t = ![t.val / 2, 0, 0] ∧ win0_5.index t = ![t.val / 2, 0, 0] ∧ win0_6.index t = ![t.val / 2, 0, 0] :=
  (by decide +kernel : ∀ t : Fin grid0.N, _)

theorem lt8 (t : Fin cfg0.N) : t.val < 8 := lt_of_lt_of_eq t.isLt N_0

abbrev tb (t : Fin cfg0.N) : Fin 2 := ⟨t.val % 2, by omega⟩
abbrev th (t : Fin cfg0.N) : Fin 4 := ⟨t.val / 2, by have := lt8 t; omega⟩

/-- A block's column in the whole array. -/
abbrev col (t : Fin cfg0.N) (j : S1x2304x128.Idx) : Fin 512 :=
  ⟨128 * (t.val / 2) + (j 2).val, by have : (j 2).val < 128 := (j 2).isLt; have := lt8 t; omega⟩

theorem blk0 (t : Fin cfg0.N) (x : S2x2304x512.Idx → ℝ) (hx : m ((c : Thread nD τ).loc main_arg0) = fun i => (x i : EReal)) :
    iblk m c 0 t = blk (hd x (tb t) (th t)) := by
  funext j
  refine Eq.trans (b := m ((c : Thread nD τ).loc main_arg0) (ix3 (tb t) (j 1) (col t j))) ?_ (by rw [hx]; rfl)
  blk_point [iblk, V, idx t]

theorem blk1 (t : Fin cfg0.N) (x : S2x2304x512.Idx → ℝ) (hx : m ((c : Thread nD τ).loc main_arg1) = fun i => (x i : EReal)) :
    iblk m c 1 t = blk (hd x (tb t) (th t)) := by
  funext j
  refine Eq.trans (b := m ((c : Thread nD τ).loc main_arg1) (ix3 (tb t) (j 1) (col t j))) ?_ (by rw [hx]; rfl)
  blk_point [iblk, V, idx t]

theorem blk2 (t : Fin cfg0.N) (x : S2x2304x512.Idx → ℝ) (hx : m ((c : Thread nD τ).loc main_arg2) = fun i => (x i : EReal)) :
    iblk m c 2 t = blk (hd x (tb t) (th t)) := by
  funext j
  refine Eq.trans (b := m ((c : Thread nD τ).loc main_arg2) (ix3 (tb t) (j 1) (col t j))) ?_ (by rw [hx]; rfl)
  blk_point [iblk, V, idx t]

theorem blk3 (t : Fin cfg0.N) (x : S2x2304x512.Idx → ℝ) (hx : m ((c : Thread nD τ).loc main_arg3) = fun i => (x i : EReal)) :
    iblk m c 3 t = blk (hd x (tb t) (th t)) := by
  funext j
  refine Eq.trans (b := m ((c : Thread nD τ).loc main_arg3) (ix3 (tb t) (j 1) (col t j))) ?_ (by rw [hx]; rfl)
  blk_point [iblk, V, idx t]

theorem blk4 (t : Fin cfg0.N) (x : S4.Idx → ℝ) (hx : m ((c : Thread nD τ).loc main_arg4) = fun i => (x i : EReal)) :
    iblk m c 4 t = fun _ => (x (ix1 (th t)) : EReal) := by
  funext j
  refine Eq.trans (b := m ((c : Thread nD τ).loc main_arg4) (ix1 (th t))) ?_ (by rw [hx])
  unfold iblk
  entry_read
  blk_simp
  pointwise
  blk_point [idx t]

theorem blk5 (t : Fin cfg0.N) (x : S4.Idx → ℝ) (hx : m ((c : Thread nD τ).loc main_arg5) = fun i => (x i : EReal)) :
    iblk m c 5 t = fun _ => (x (ix1 (th t)) : EReal) := by
  funext j
  refine Eq.trans (b := m ((c : Thread nD τ).loc main_arg5) (ix1 (th t))) ?_ (by rw [hx])
  unfold iblk
  entry_read
  blk_simp
  pointwise
  blk_point [idx t]

variable (x0 x1 x2 x3 : S2x2304x512.Idx → ℝ) (d d' : S4.Idx → ℝ)

/-- The kernel's whole array: a head's tile holds both batch rows' sums. -/
def ddec (i : S4x8x128.Idx) : ℝ :=
  tileR (d (ix1 (i 0))) (d' (ix1 (i 0))) (hd x0 0 (i 0)) (hd x1 0 (i 0)) (hd x2 0 (i 0)) (hd x3 0 (i 0)) (i 1).val
    + tileR (d (ix1 (i 0))) (d' (ix1 (i 0))) (hd x0 1 (i 0)) (hd x1 1 (i 0)) (hd x2 1 (i 0)) (hd x3 1 (i 0)) (i 1).val

variable (h0 : m ((c : Thread nD τ).loc main_arg0) = fun i => (x0 i : EReal)) (h1 : m ((c : Thread nD τ).loc main_arg1) = fun i => (x1 i : EReal))
  (h2 : m ((c : Thread nD τ).loc main_arg2) = fun i => (x2 i : EReal)) (h3 : m ((c : Thread nD τ).loc main_arg3) = fun i => (x3 i : EReal))
  (h4 : m ((c : Thread nD τ).loc main_arg4) = fun i => (d i : EReal)) (h5 : m ((c : Thread nD τ).loc main_arg5) = fun i => (d' i : EReal))

include h0 h1 h2 h3 h4 h5

theorem at_even (t : Fin cfg0.N) (e : t.val % 2 = 0) (y : S1x8x128.Idx) : outsAt0 m c t.val t.isLt y
    = (tileR (d (ix1 (th t))) (d' (ix1 (th t))) (hd x0 (tb t) (th t)) (hd x1 (tb t) (th t)) (hd x2 (tb t) (th t)) (hd x3 (tb t) (th t)) (y 1).val : EReal) := by
  rw [outsAt0_A m c t e (by omega), blk0 c m t x0 h0, blk1 c m t x1 h1, blk2 c m t x2 h2, blk3 c m t x3 h3, blk4 c m t d h4, blk5 c m t d' h5]
  exact outA ..

theorem at_odd (t : Fin cfg0.N) (e : t.val % 2 = 1) (y : S1x8x128.Idx) : outsAt0 m c t.val t.isLt y
    = (ddec x0 x1 x2 x3 d d' (ix3 (th t) (y 1) (y 2)) : EReal) := by
  have hl := lt8 t
  rw [outsAt0_B m c t (by omega) e, blk0 c m t x0 h0, blk1 c m t x1 h1, blk2 c m t x2 h2, blk3 c m t x3 h3, blk4 c m t d h4, blk5 c m t d' h5]
  refine (outB ..).trans ?_
  have hp := at_even c m x0 x1 x2 x3 d d' h0 h1 h2 h3 h4 h5 ⟨t.val - 1, by omega⟩ (by show (t.val - 1) % 2 = 0; omega) y
  refine (congrArg₂ (· + ·) hp rfl).trans ?_
  rw [show tb ⟨t.val - 1, by omega⟩ = 0 from Fin.ext (by show (t.val - 1) % 2 = 0; omega), show tb t = 1 from Fin.ext e,
    show th ⟨t.val - 1, by omega⟩ = th t from Fin.ext (by show (t.val - 1) / 2 = t.val / 2; omega), ← EReal.coe_add]
  rfl

theorem final : (dats m 0 c).arrAt 6 (cfgs 0).N = fun i => (ddec x0 x1 x2 x3 d d' i : EReal) := by
  refine (dats m 0 c).arrAt_eq_of_covers 6 _ (by decide +kernel) fun t hf y => ?_
  blk_simp
  rw [after0_6, at_odd c m x0 x1 x2 x3 d d' h0 h1 h2 h3 h4 h5 t ((flush0_6 t).mp hf) y]
  refine congrArg (fun i => (ddec x0 x1 x2 x3 d d' i : EReal)) ?_
  funext k
  fin_cases k <;> refine Fin.ext ?_ <;> blk_simp <;> simp [(idx t).2.2.2.2.2.2, mul_comm]

end Cert.Kernel5Ideal.Value
-- ==== Proof.HostSums.lean ====
/- Host sums over several axes that are not the last ones, read at an index. -/
module

public import Idealize.ShloMosaic.Lib.Pointwise

@[expose] public section

namespace Step

open Idealize.ShloMosaic

variable {n0 n1 n2 n3 n4 : ℕ}

/-- A host sum at an index, over any family that runs through what drops to the index. -/
theorem hostSum {s t : Shape} {axes : List (Fin s.rank)} (h : s.ReducesTo axes t) (v : s.Idx → EReal) (z : EReal) (j : t.Idx) {κ : Type*} [Fintype κ]
    (g : κ → s.Idx) (hg : Function.Injective g) (hf : ∀ i, h.drop i = j ↔ ∃ k, g k = i) : Ideal.hostReduceAdd h v z j = z + ∑ k, v (g k) :=
  congrArg (z + ·) (Finset.sum_filter_eq_sum_of_fiber _ g hg hf v)

/-- A sum over all axes but the third and the fourth. -/
theorem hostSum_014 (h : (⟨5, ![n0, n1, n2, n3, n4]⟩ : Shape).ReducesTo [0, 1, 4] ⟨2, ![n2, n3]⟩) (v : (⟨5, ![n0, n1, n2, n3, n4]⟩ : Shape).Idx → EReal)
    (z : EReal) (j : (⟨2, ![n2, n3]⟩ : Shape).Idx) :
    Ideal.hostReduceAdd h v z j = z + ∑ b : Fin n0, ∑ k : Fin n1, ∑ e : Fin n4, v (ix5 b k (j 0) (j 1) e) := by
  refine (hostSum h v z j (fun k : Fin n0 × Fin n1 × Fin n4 => ix5 k.1 k.2.1 (j 0) (j 1) k.2.2)
    (fun _ _ e => Prod.ext (congrFun e 0) (Prod.ext (congrFun e 1) (congrFun e 4))) (fun i => ?_)).trans (by simp only [Fintype.sum_prod_type])
  constructor
  · rintro rfl
    refine ⟨(i 0, i 1, i 4), ?_⟩
    funext a
    fin_cases a <;> rfl
  · rintro ⟨k, rfl⟩
    funext b
    fin_cases b <;> rfl

/-- A sum over the first two axes. -/
theorem hostSum_01 (h : (⟨5, ![n0, n1, n2, n3, n4]⟩ : Shape).ReducesTo [0, 1] ⟨3, ![n2, n3, n4]⟩) (v : (⟨5, ![n0, n1, n2, n3, n4]⟩ : Shape).Idx → EReal)
    (z : EReal) (j : (⟨3, ![n2, n3, n4]⟩ : Shape).Idx) :
    Ideal.hostReduceAdd h v z j = z + ∑ b : Fin n0, ∑ k : Fin n1, v (ix5 b k (j 0) (j 1) (j 2)) := by
  refine (hostSum h v z j (fun k : Fin n0 × Fin n1 => ix5 k.1 k.2 (j 0) (j 1) (j 2))
    (fun _ _ e => Prod.ext (congrFun e 0) (congrFun e 1)) (fun i => ?_)).trans (by simp only [Fintype.sum_prod_type])
  constructor
  · rintro rfl
    refine ⟨(i 0, i 1), ?_⟩
    funext a
    fin_cases a <;> rfl
  · rintro ⟨k, rfl⟩
    funext b
    fin_cases b <;> rfl

/-- A sum over all axes but the second. -/
theorem hostSum_023 (h : (⟨4, ![n0, n1, n2, n3]⟩ : Shape).ReducesTo [0, 2, 3] ⟨1, ![n1]⟩) (v : (⟨4, ![n0, n1, n2, n3]⟩ : Shape).Idx → EReal)
    (z : EReal) (j : (⟨1, ![n1]⟩ : Shape).Idx) :
    Ideal.hostReduceAdd h v z j = z + ∑ b : Fin n0, ∑ d : Fin n2, ∑ e : Fin n3, v (ix4 b (j 0) d e) := by
  refine (hostSum h v z j (fun k : Fin n0 × Fin n2 × Fin n3 => ix4 k.1 (j 0) k.2.1 k.2.2)
    (fun _ _ e => Prod.ext (congrFun e 0) (Prod.ext (congrFun e 2) (congrFun e 3))) (fun i => ?_)).trans (by simp only [Fintype.sum_prod_type])
  constructor
  · rintro rfl
    refine ⟨(i 0, i 2, i 3), ?_⟩
    funext a
    fin_cases a <;> rfl
  · rintro ⟨k, rfl⟩
    funext b
    fin_cases b <;> rfl

end Step
-- ==== Proof.RetArrays5.lean ====
/- The reference's gradient by a decay against a scan, over the reals: its sums over batch rows, chunks and positions. -/
module

public import proofs.«01_k».proof.Proof.RetArrays3
public import proofs.«01_k».proof.Proof.RetentionDecay
public import proofs.«01_k».proof.Proof.HostSums
public import proofs.«01_k».proof.Proof.Finite
public import proofs.«01_k».proof.Proof.Gen.Reference5Ideal.Read

@[expose] public section

set_option maxRecDepth 16384

noncomputable section

namespace Cert.Reference5Ideal.Chunks

open Cert.Reference5Ideal Cert.Reference5Ideal.Gen Idealize.ShloMosaic Idealize.ShloMosaic.TcCoe Idealize.SL.Sem Idealize.ShloMosaic.StableHlo
open Step.Retention Step
open Cert.ReferenceIdeal.Chunks (Seqs ch2 ch16 wkA wqA cdA wdA bw2 bw16 row stA stA2 stA16)
open Cert.Reference3Ideal.Chunks (tlA tlA2 tlA16)

abbrev zero : FVec Ideal S_ .f32 := constant (F := Ideal) S_ FTy.f32 0#32

theorem zero_first : zero (Shape.Idx.first h_S_) = 0 := by
  change Ideal.ofBits .f32 0#32 = 0
  simp [Ideal.ofBits, Ideal.ieee]

/-- The sum of a factor's gradient over the positions, each by its number of steps. -/
def steps (P : FVec Ideal S128x1 .f32) (X W : FVec Ideal S128x4 .f32) : FVec Ideal S4 .f32 :=
  Host.reduceAdd (shapeCast S1x4 (Host.reduceAdd (mulf (broadcastInDim S128x4 ![0, 1] bcast_S128x1_S128x4_0_1 P) (mulf X W)) zero reducesTo_S128x4_S4_d0 h_S_)
    shapeCasts_S4_S1x4) zero reducesTo_S1x4_S4_d0 h_S_

theorem steps_read (p : Fin 128 → ℝ) (x w : Fin 128 → Fin 4 → ℝ) :
    steps (fun i => (p (i 0) : EReal)) (fun i => (x (i 0) (i 1) : EReal)) (fun i => (w (i 0) (i 1) : EReal))
      = fun i => ((∑ r, p r * (x r (i 0) * w r (i 0)) : ℝ) : EReal) := by
  funext i
  pointwise [steps]
  norm_cast
  exact Fintype.sum_unique _

/-- The sum over pairs of positions. -/
def pairs (Y : FVec Ideal S4x128x128 .f32) : FVec Ideal S4 .f32 :=
  Host.reduceAdd (shapeCast S4x1x1 (Host.reduceAdd Y zero reducesTo_S4x128x128_S4_d1_2 h_S_) shapeCasts_S4_S4x1x1) zero reducesTo_S4x1x1_S4_d1_2 h_S_

theorem pairs_read (y : Fin 4 → Fin 128 → Fin 128 → ℝ) : pairs (fun i => (y (i 0) (i 1) (i 2) : EReal))
    = fun i => ((∑ r, ∑ j, y (i 0) r j : ℝ) : EReal) := by
  funext i
  pointwise [pairs]
  norm_cast
  simp only [Finset.univ_unique, Finset.sum_singleton]

/-- The sum of such sums, by the chunk's weight and its length. -/
def whole4 (X : FVec Ideal S1x4x1x1 .f32) (CD : FVec Ideal S4 .f32) : FVec Ideal S4 .f32 :=
  mulf (broadcastInDim S4 ![] bcast_S_S4 (constant (F := Ideal) S_ FTy.f32 0x43000000#32)) (mulf (Host.reduceAdd X zero reducesTo_S1x4x1x1_S4_d0_2_3 h_S_) CD)

theorem whole4_read (x cd : Fin 4 → ℝ) : whole4 (fun i => (x (i 1) : EReal)) (fun i => (cd (i 0) : EReal)) = fun i => ((128 * (x (i 0) * cd (i 0)) : ℝ) : EReal) := by
  funext i
  pointwise [whole4]
  rw [Step.hostSum_023, zero_add, ofBits_128]
  simp only [Finset.univ_unique, Finset.sum_singleton]
  norm_cast

/-- The sum over batch rows and a state's entries. -/
def entries (X : FVec Ideal S2x4x128x128 .f32) : FVec Ideal S1x4x1x1 .f32 :=
  shapeCast S1x4x1x1 (Host.reduceAdd X zero reducesTo_S2x4x128x128_S4_d0_2_3 h_S_) shapeCasts_S4_S1x4x1x1

theorem entries_read (x : Fin 2 → Fin 4 → Fin 128 → Fin 128 → ℝ) : entries (fun i => (x (i 0) (i 1) (i 2) (i 3) : EReal))
    = fun i => ((∑ b, ∑ d, ∑ e, x b (i 1) d e : ℝ) : EReal) := by
  funext i
  pointwise [entries]
  rw [Step.hostSum_023, zero_add]
  norm_cast

/-- What the queries' weights are owed. -/
def owedQ16 (Q G : FVec Ideal S2x16x128x4x128 .f32) (S : FVec Ideal S2x16x4x128x128 .f32) : FVec Ideal S2x16x128x4x128 .f32 :=
  mulf Q (transpose S2x16x128x4x128 [0, 1, 3, 2, 4] (Host.dotGeneral dot_S2x16x4x128x128_S2x16x4x128x128_S2x16x4x128x128_3_4_4_3_012_012 none
    (transpose S2x16x4x128x128 [0, 1, 3, 4, 2] G transposes_S2x16x128x4x128_S2x16x4x128x128_0_1_3_4_2) S) transposes_S2x16x4x128x128_S2x16x128x4x128_0_1_3_2_4)

theorem owedQ16_read (L : Fin 4 → ℝ) (a b c g : Seqs) (n : ℕ) : owedQ16 (ch16 a n) (ch16 g n) (stA16 L b c n)
    = fun i => ((a (i 0) (i 3) (n + 128 * (i 1).val + (i 2).val) (i 4) * ∑ e, g (i 0) (i 3) (n + 128 * (i 1).val + (i 2).val) e
        * state (L (i 3)) (b (i 0) (i 3)) (c (i 0) (i 3)) (n + 128 * (i 1).val) (i 4) e : ℝ) : EReal) := by
  funext i
  pointwise [owedQ16]
  norm_cast

/-- What the keys' weights are owed. -/
def owedJ16 (J V : FVec Ideal S2x16x128x4x128 .f32) (T : FVec Ideal S2x16x4x128x128 .f32) : FVec Ideal S2x16x128x4x128 .f32 :=
  mulf J (transpose S2x16x128x4x128 [0, 1, 4, 2, 3] (Host.dotGeneral dot_S2x16x4x128x128_S2x16x128x4x128_S2x16x4x128x128_4_4_3_2_012_013 none T V)
    transposes_S2x16x4x128x128_S2x16x128x4x128_0_1_4_2_3)

theorem owedJ16_read (L : Fin 4 → ℝ) (a b c g : Seqs) (n : ℕ) : owedJ16 (ch16 b n) (ch16 c n) (tlA16 L a g n)
    = fun i => ((b (i 0) (i 3) (n + 128 * (i 1).val + (i 2).val) (i 4) * ∑ e, tail (L (i 3)) (a (i 0) (i 3)) (g (i 0) (i 3)) (n + 128 * ((i 1).val + 1)) (i 4) e
        * c (i 0) (i 3) (n + 128 * (i 1).val + (i 2).val) e : ℝ) : EReal) := by
  funext i
  pointwise [owedJ16]
  norm_cast

/-- What the weights inside a chunk are owed. -/
def owedW16 (Q J V G : FVec Ideal S2x16x128x4x128 .f32) : FVec Ideal S2x16x4x128x128 .f32 :=
  mulf (Host.dotGeneral dot_S2x16x128x4x128_S2x16x128x4x128_S2x16x4x128x128_4_4_2_2_013_013 none Q J)
    (Host.dotGeneral dot_S2x16x4x128x128_S2x16x128x4x128_S2x16x4x128x128_3_4_4_2_012_013 none
      (transpose S2x16x4x128x128 [0, 1, 3, 4, 2] G transposes_S2x16x128x4x128_S2x16x4x128x128_0_1_3_4_2) V)

theorem owedW16_read (a b c g : Seqs) (n : ℕ) : owedW16 (ch16 a n) (ch16 b n) (ch16 c n) (ch16 g n)
    = fun i => (((∑ d, a (i 0) (i 2) (n + 128 * (i 1).val + (i 3).val) d * b (i 0) (i 2) (n + 128 * (i 1).val + (i 4).val) d)
        * ∑ e, g (i 0) (i 2) (n + 128 * (i 1).val + (i 3).val) e * c (i 0) (i 2) (n + 128 * (i 1).val + (i 4).val) e : ℝ) : EReal) := by
  funext i
  pointwise [owedW16]
  norm_cast
/-- The sum over batch rows, chunks and a row's entries. -/
def rows16 (X : FVec Ideal S2x16x128x4x128 .f32) : FVec Ideal S128x4 .f32 :=
  Host.reduceAdd (shapeCast S1x1x128x4x1 (Host.reduceAdd X zero reducesTo_S2x16x128x4x128_S128x4_d0_1_4 h_S_) shapeCasts_S128x4_S1x1x128x4x1)
    zero reducesTo_S1x1x128x4x1_S128x4_d0_1_4 h_S_

theorem rows16_read (x : Fin 2 → Fin 16 → Fin 128 → Fin 4 → Fin 128 → ℝ) : rows16 (fun i => (x (i 0) (i 1) (i 2) (i 3) (i 4) : EReal))
    = fun i => ((∑ b, ∑ k, ∑ d, x b k (i 0) (i 1) d : ℝ) : EReal) := by
  funext i
  unfold rows16
  rw [Host.reduceAdd_apply, Ideal.hostReduceAdd_def, Step.hostSum_014, zero_first, zero_add]
  simp only [Finset.univ_unique, Finset.sum_singleton]
  pointwise
  rw [Step.hostSum_014, zero_add]
  norm_cast

def chunks16 (X : FVec Ideal S2x16x4x128x128 .f32) : FVec Ideal S4x128x128 .f32 :=
  Host.reduceAdd (shapeCast S1x1x4x128x128 (Host.reduceAdd X zero reducesTo_S2x16x4x128x128_S4x128x128_d0_1 h_S_) shapeCasts_S4x128x128_S1x1x4x128x128)
    zero reducesTo_S1x1x4x128x128_S4x128x128_d0_1 h_S_

theorem chunks16_read (x : Fin 2 → Fin 16 → Fin 4 → Fin 128 → Fin 128 → ℝ) : chunks16 (fun i => (x (i 0) (i 1) (i 2) (i 3) (i 4) : EReal))
    = fun i => ((∑ b, ∑ k, x b k (i 0) (i 1) (i 2) : ℝ) : EReal) := by
  funext i
  unfold chunks16
  rw [Host.reduceAdd_apply, Ideal.hostReduceAdd_def, Step.hostSum_01, zero_first, zero_add]
  simp only [Finset.univ_unique, Finset.sum_singleton]
  pointwise
  rw [Step.hostSum_01, zero_add]
  norm_cast

/-- What the queries' weights are owed. -/
def owedQ2 (Q G : FVec Ideal S2x2x128x4x128 .f32) (S : FVec Ideal S2x2x4x128x128 .f32) : FVec Ideal S2x2x128x4x128 .f32 :=
  mulf Q (transpose S2x2x128x4x128 [0, 1, 3, 2, 4] (Host.dotGeneral dot_S2x2x4x128x128_S2x2x4x128x128_S2x2x4x128x128_3_4_4_3_012_012 none
    (transpose S2x2x4x128x128 [0, 1, 3, 4, 2] G transposes_S2x2x128x4x128_S2x2x4x128x128_0_1_3_4_2) S) transposes_S2x2x4x128x128_S2x2x128x4x128_0_1_3_2_4)

theorem owedQ2_read (L : Fin 4 → ℝ) (a b c g : Seqs) (n : ℕ) : owedQ2 (ch2 a n) (ch2 g n) (stA2 L b c n)
    = fun i => ((a (i 0) (i 3) (n + 128 * (i 1).val + (i 2).val) (i 4) * ∑ e, g (i 0) (i 3) (n + 128 * (i 1).val + (i 2).val) e
        * state (L (i 3)) (b (i 0) (i 3)) (c (i 0) (i 3)) (n + 128 * (i 1).val) (i 4) e : ℝ) : EReal) := by
  funext i
  pointwise [owedQ2]
  norm_cast

/-- What the keys' weights are owed. -/
def owedJ2 (J V : FVec Ideal S2x2x128x4x128 .f32) (T : FVec Ideal S2x2x4x128x128 .f32) : FVec Ideal S2x2x128x4x128 .f32 :=
  mulf J (transpose S2x2x128x4x128 [0, 1, 4, 2, 3] (Host.dotGeneral dot_S2x2x4x128x128_S2x2x128x4x128_S2x2x4x128x128_4_4_3_2_012_013 none T V)
    transposes_S2x2x4x128x128_S2x2x128x4x128_0_1_4_2_3)

theorem owedJ2_read (L : Fin 4 → ℝ) (a b c g : Seqs) (n : ℕ) : owedJ2 (ch2 b n) (ch2 c n) (tlA2 L a g n)
    = fun i => ((b (i 0) (i 3) (n + 128 * (i 1).val + (i 2).val) (i 4) * ∑ e, tail (L (i 3)) (a (i 0) (i 3)) (g (i 0) (i 3)) (n + 128 * ((i 1).val + 1)) (i 4) e
        * c (i 0) (i 3) (n + 128 * (i 1).val + (i 2).val) e : ℝ) : EReal) := by
  funext i
  pointwise [owedJ2]
  norm_cast

/-- What the weights inside a chunk are owed. -/
def owedW2 (Q J V G : FVec Ideal S2x2x128x4x128 .f32) : FVec Ideal S2x2x4x128x128 .f32 :=
  mulf (Host.dotGeneral dot_S2x2x128x4x128_S2x2x128x4x128_S2x2x4x128x128_4_4_2_2_013_013 none Q J)
    (Host.dotGeneral dot_S2x2x4x128x128_S2x2x128x4x128_S2x2x4x128x128_3_4_4_2_012_013 none
      (transpose S2x2x4x128x128 [0, 1, 3, 4, 2] G transposes_S2x2x128x4x128_S2x2x4x128x128_0_1_3_4_2) V)

theorem owedW2_read (a b c g : Seqs) (n : ℕ) : owedW2 (ch2 a n) (ch2 b n) (ch2 c n) (ch2 g n)
    = fun i => (((∑ d, a (i 0) (i 2) (n + 128 * (i 1).val + (i 3).val) d * b (i 0) (i 2) (n + 128 * (i 1).val + (i 4).val) d)
        * ∑ e, g (i 0) (i 2) (n + 128 * (i 1).val + (i 3).val) e * c (i 0) (i 2) (n + 128 * (i 1).val + (i 4).val) e : ℝ) : EReal) := by
  funext i
  pointwise [owedW2]
  norm_cast
/-- The sum over batch rows, chunks and a row's entries. -/
def rows2 (X : FVec Ideal S2x2x128x4x128 .f32) : FVec Ideal S128x4 .f32 :=
  Host.reduceAdd (shapeCast S1x1x128x4x1 (Host.reduceAdd X zero reducesTo_S2x2x128x4x128_S128x4_d0_1_4 h_S_) shapeCasts_S128x4_S1x1x128x4x1)
    zero reducesTo_S1x1x128x4x1_S128x4_d0_1_4 h_S_

theorem rows2_read (x : Fin 2 → Fin 2 → Fin 128 → Fin 4 → Fin 128 → ℝ) : rows2 (fun i => (x (i 0) (i 1) (i 2) (i 3) (i 4) : EReal))
    = fun i => ((∑ b, ∑ k, ∑ d, x b k (i 0) (i 1) d : ℝ) : EReal) := by
  funext i
  unfold rows2
  rw [Host.reduceAdd_apply, Ideal.hostReduceAdd_def, Step.hostSum_014, zero_first, zero_add]
  simp only [Finset.univ_unique, Finset.sum_singleton]
  pointwise
  rw [Step.hostSum_014, zero_add]
  norm_cast

def chunks2 (X : FVec Ideal S2x2x4x128x128 .f32) : FVec Ideal S4x128x128 .f32 :=
  Host.reduceAdd (shapeCast S1x1x4x128x128 (Host.reduceAdd X zero reducesTo_S2x2x4x128x128_S4x128x128_d0_1 h_S_) shapeCasts_S4x128x128_S1x1x4x128x128)
    zero reducesTo_S1x1x4x128x128_S4x128x128_d0_1 h_S_

theorem chunks2_read (x : Fin 2 → Fin 2 → Fin 4 → Fin 128 → Fin 128 → ℝ) : chunks2 (fun i => (x (i 0) (i 1) (i 2) (i 3) (i 4) : EReal))
    = fun i => ((∑ b, ∑ k, x b k (i 0) (i 1) (i 2) : ℝ) : EReal) := by
  funext i
  unfold chunks2
  rw [Host.reduceAdd_apply, Ideal.hostReduceAdd_def, Step.hostSum_01, zero_first, zero_add]
  simp only [Finset.univ_unique, Finset.sum_singleton]
  pointwise
  rw [Step.hostSum_01, zero_add]
  norm_cast

abbrev posq : FVec Ideal S128x1 .f32 := fun i => ((((i 0).val : ℝ) + 1 : ℝ) : EReal)
abbrev posk : FVec Ideal S128x1 .f32 := fun i => ((127 - ((i 0).val : ℝ) : ℝ) : EReal)
abbrev gapA (strict : Bool) (L : Fin 4 → ℝ) (X : Fin 4 → Fin 128 → Fin 128 → ℝ) : FVec Ideal S4x128x128 .f32 :=
  fun i => ((X (i 0) (i 1) (i 2) * ((((i 1).val : ℝ) - ((i 2).val : ℝ)) * wt strict (L (i 0)) (((i 1).val : ℝ) - ((i 2).val : ℝ))) : ℝ) : EReal)

theorem termA16 (L : Fin 4 → ℝ) (a b c g : Seqs) (n : ℕ) : steps posq (rows16 (owedQ16 (ch16 a n) (ch16 g n) (stA16 L b c n))) (wqA L)
    = fun i => (partA (L (i 0)) (fun p => a p (i 0)) (fun p => b p (i 0)) (fun p => c p (i 0)) (fun p => g p (i 0)) n 16 : EReal) := by
  rw [owedQ16_read]
  refine (congrArg (fun X => steps posq X (wqA L)) (rows16_read fun p k r h d => a p h (n + 128 * k.val + r.val) d * ∑ e, g p h (n + 128 * k.val + r.val) e
    * state (L h) (b p h) (c p h) (n + 128 * k.val) d e)).trans ?_
  exact steps_read (fun r => (r.val : ℝ) + 1) (fun r h => ∑ p, ∑ k : Fin 16, ∑ d, a p h (n + 128 * k.val + r.val) d * ∑ e, g p h (n + 128 * k.val + r.val) e
    * state (L h) (b p h) (c p h) (n + 128 * k.val) d e) (fun r h => Real.exp (((r.val : ℝ) + 1) * L h))

theorem termC16 (L : Fin 4 → ℝ) (a b c g : Seqs) (n : ℕ) : steps posk (rows16 (owedJ16 (ch16 b n) (ch16 c n) (tlA16 L a g n))) (wkA L)
    = fun i => (partC (L (i 0)) (fun p => a p (i 0)) (fun p => b p (i 0)) (fun p => c p (i 0)) (fun p => g p (i 0)) n 16 : EReal) := by
  rw [owedJ16_read]
  refine (congrArg (fun X => steps posk X (wkA L)) (rows16_read fun p k r h d => b p h (n + 128 * k.val + r.val) d
    * ∑ e, tail (L h) (a p h) (g p h) (n + 128 * (k.val + 1)) d e * c p h (n + 128 * k.val + r.val) e)).trans ?_
  exact steps_read (fun r => 127 - (r.val : ℝ)) (fun r h => ∑ p, ∑ k : Fin 16, ∑ d, b p h (n + 128 * k.val + r.val) d
    * ∑ e, tail (L h) (a p h) (g p h) (n + 128 * (k.val + 1)) d e * c p h (n + 128 * k.val + r.val) e) (fun r h => Real.exp ((127 - (r.val : ℝ)) * L h))

/-- What all chunks' weights are owed, in all. -/
def owed16 (a b c g : Seqs) (n : ℕ) : Fin 4 → Fin 128 → Fin 128 → ℝ := fun h r j => ∑ p, ∑ k : Fin 16,
  (∑ d, a p h (n + 128 * k.val + r.val) d * b p h (n + 128 * k.val + j.val) d) * ∑ e, g p h (n + 128 * k.val + r.val) e * c p h (n + 128 * k.val + j.val) e

theorem owed16_read (a b c g : Seqs) (n : ℕ) : chunks16 (owedW16 (ch16 a n) (ch16 b n) (ch16 c n) (ch16 g n)) = fun i => (owed16 a b c g n (i 0) (i 1) (i 2) : EReal) := by
  rw [owedW16_read]
  exact chunks16_read fun p k h r j => (∑ d, a p h (n + 128 * k.val + r.val) d * b p h (n + 128 * k.val + j.val) d)
    * ∑ e, g p h (n + 128 * k.val + r.val) e * c p h (n + 128 * k.val + j.val) e

theorem termD16 (strict : Bool) (L : Fin 4 → ℝ) (a b c g : Seqs) (n : ℕ) : pairs (gapA strict L (owed16 a b c g n))
    = fun i => (partD strict (L (i 0)) (fun p => a p (i 0)) (fun p => b p (i 0)) (fun p => c p (i 0)) (fun p => g p (i 0)) n 16 : EReal) :=
  pairs_read fun h r j => owed16 a b c g n h r j * (((r.val : ℝ) - (j.val : ℝ)) * wt strict (L h) ((r.val : ℝ) - (j.val : ℝ)))

theorem termA2 (L : Fin 4 → ℝ) (a b c g : Seqs) (n : ℕ) : steps posq (rows2 (owedQ2 (ch2 a n) (ch2 g n) (stA2 L b c n))) (wqA L)
    = fun i => (partA (L (i 0)) (fun p => a p (i 0)) (fun p => b p (i 0)) (fun p => c p (i 0)) (fun p => g p (i 0)) n 2 : EReal) := by
  rw [owedQ2_read]
  refine (congrArg (fun X => steps posq X (wqA L)) (rows2_read fun p k r h d => a p h (n + 128 * k.val + r.val) d * ∑ e, g p h (n + 128 * k.val + r.val) e
    * state (L h) (b p h) (c p h) (n + 128 * k.val) d e)).trans ?_
  exact steps_read (fun r => (r.val : ℝ) + 1) (fun r h => ∑ p, ∑ k : Fin 2, ∑ d, a p h (n + 128 * k.val + r.val) d * ∑ e, g p h (n + 128 * k.val + r.val) e
    * state (L h) (b p h) (c p h) (n + 128 * k.val) d e) (fun r h => Real.exp (((r.val : ℝ) + 1) * L h))

theorem termC2 (L : Fin 4 → ℝ) (a b c g : Seqs) (n : ℕ) : steps posk (rows2 (owedJ2 (ch2 b n) (ch2 c n) (tlA2 L a g n))) (wkA L)
    = fun i => (partC (L (i 0)) (fun p => a p (i 0)) (fun p => b p (i 0)) (fun p => c p (i 0)) (fun p => g p (i 0)) n 2 : EReal) := by
  rw [owedJ2_read]
  refine (congrArg (fun X => steps posk X (wkA L)) (rows2_read fun p k r h d => b p h (n + 128 * k.val + r.val) d
    * ∑ e, tail (L h) (a p h) (g p h) (n + 128 * (k.val + 1)) d e * c p h (n + 128 * k.val + r.val) e)).trans ?_
  exact steps_read (fun r => 127 - (r.val : ℝ)) (fun r h => ∑ p, ∑ k : Fin 2, ∑ d, b p h (n + 128 * k.val + r.val) d
    * ∑ e, tail (L h) (a p h) (g p h) (n + 128 * (k.val + 1)) d e * c p h (n + 128 * k.val + r.val) e) (fun r h => Real.exp ((127 - (r.val : ℝ)) * L h))

/-- What all chunks' weights are owed, in all. -/
def owed2 (a b c g : Seqs) (n : ℕ) : Fin 4 → Fin 128 → Fin 128 → ℝ := fun h r j => ∑ p, ∑ k : Fin 2,
  (∑ d, a p h (n + 128 * k.val + r.val) d * b p h (n + 128 * k.val + j.val) d) * ∑ e, g p h (n + 128 * k.val + r.val) e * c p h (n + 128 * k.val + j.val) e

theorem owed2_read (a b c g : Seqs) (n : ℕ) : chunks2 (owedW2 (ch2 a n) (ch2 b n) (ch2 c n) (ch2 g n)) = fun i => (owed2 a b c g n (i 0) (i 1) (i 2) : EReal) := by
  rw [owedW2_read]
  exact chunks2_read fun p k h r j => (∑ d, a p h (n + 128 * k.val + r.val) d * b p h (n + 128 * k.val + j.val) d)
    * ∑ e, g p h (n + 128 * k.val + r.val) e * c p h (n + 128 * k.val + j.val) e

theorem termD2 (strict : Bool) (L : Fin 4 → ℝ) (a b c g : Seqs) (n : ℕ) : pairs (gapA strict L (owed2 a b c g n))
    = fun i => (partD strict (L (i 0)) (fun p => a p (i 0)) (fun p => b p (i 0)) (fun p => c p (i 0)) (fun p => g p (i 0)) n 2 : EReal) :=
  pairs_read fun h r j => owed2 a b c g n h r j * (((r.val : ℝ) - (j.val : ℝ)) * wt strict (L h) ((r.val : ℝ) - (j.val : ℝ)))

theorem back_sum (z : ℕ → ℝ) (h : z 15 = 0) : ∑ j ∈ Finset.range 15, z (14 - j) = ∑ k : Fin 16, z k.val := by
  refine (Finset.sum_range_reflect z 15).trans (Eq.trans ?_ (Finset.sum_range z))
  rw [Finset.sum_range_succ z 15, h, add_zero]

/-- Sums of states' entries, added from the last chunk but one to the first; the last chunk hands nothing back. -/
theorem chainE (y : ℕ → Fin 2 → Fin 4 → Fin 128 → Fin 128 → ℝ) (Y : Fin 15 → FVec Ideal S2x4x128x128 .f32) (A : Fin 15 → FVec Ideal S1x4x1x1 .f32)
    (hz : ∀ b h d e, y 15 b h d e = 0) (hY : ∀ j, Y j = fun i => (y (14 - j.val) (i 0) (i 1) (i 2) (i 3) : EReal)) (h0 : A 0 = entries (Y 0))
    (hs : ∀ k : Fin 14, A k.succ = addf (A k.castSucc) (entries (Y k.succ))) :
    A 14 = fun i => ((∑ k : Fin 16, ∑ b, ∑ d, ∑ e, y k.val b (i 1) d e : ℝ) : EReal) := by
  have go : ∀ k : Fin 15, A k = fun i => ((∑ j ∈ Finset.range (k.val + 1), ∑ b, ∑ d, ∑ e, y (14 - j) b (i 1) d e : ℝ) : EReal) := by
    intro k
    induction k using Fin.induction with
    | zero => rw [h0, hY, entries_read]; simp
    | succ k ih =>
      rw [hs, ih, hY, entries_read]
      funext i
      refine (EReal.coe_add _ _).symm.trans (congrArg Real.toEReal ?_)
      exact (Finset.sum_range_succ (fun j => ∑ b, ∑ d, ∑ e, y (14 - j) b (i 1) d e) (k.val + 1)).symm
  rw [go]
  funext i
  refine congrArg Real.toEReal ?_
  exact back_sum (fun k => ∑ b, ∑ d, ∑ e, y k b (i 1) d e)
    (Finset.sum_eq_zero fun b _ => Finset.sum_eq_zero fun d _ => Finset.sum_eq_zero fun e _ => hz b (i 1) d e)

/-- The two sums of the context's states. -/
theorem pairE (y y' : Fin 2 → Fin 4 → Fin 128 → Fin 128 → ℝ) :
    addf (entries (fun i => (y' (i 0) (i 1) (i 2) (i 3) : EReal))) (entries (fun i => (y (i 0) (i 1) (i 2) (i 3) : EReal)))
      = fun i => ((∑ b, ∑ d, ∑ e, y b (i 1) d e + ∑ b, ∑ d, ∑ e, y' b (i 1) d e : ℝ) : EReal) := by
  rw [entries_read, entries_read]
  funext i
  exact (EReal.coe_add _ _).symm.trans (congrArg Real.toEReal (add_comm _ _))

end Cert.Reference5Ideal.Chunks
-- ==== Proof.DecayParts.lean ====
/- The parts of the reference's gradient by a decay, put together. -/
module

public import proofs.«01_k».proof.Proof.RetArrays5

@[expose] public section

set_option maxRecDepth 16384

noncomputable section

namespace Cert.Reference5Ideal.Chunks

open Cert.Reference5Ideal Cert.Reference5Ideal.Gen Idealize.ShloMosaic Idealize.ShloMosaic.TcCoe Idealize.SL.Sem Idealize.ShloMosaic.StableHlo
open Step.Retention Step
open Cert.ReferenceIdeal.Chunks (Seqs ch2 ch16 wkA wqA cdA wdA bw2 bw16 row stA stA2 stA16)
open Cert.Reference3Ideal.Chunks (tlA tlA2 tlA16)

variable (L : Fin 4 → ℝ) (a b c g : Seqs)

/-- The parts of the derivative by one head's decay. -/
def headA (n K : ℕ) (h : Fin 4) : ℝ := partA (L h) (fun p => a p h) (fun p => b p h) (fun p => c p h) (fun p => g p h) n K
def headB (n K : ℕ) (h : Fin 4) : ℝ := partB (L h) (fun p => a p h) (fun p => b p h) (fun p => c p h) (fun p => g p h) n K
def headC (n K : ℕ) (h : Fin 4) : ℝ := partC (L h) (fun p => a p h) (fun p => b p h) (fun p => c p h) (fun p => g p h) n K
def headD (strict : Bool) (n K : ℕ) (h : Fin 4) : ℝ := partD strict (L h) (fun p => a p h) (fun p => b p h) (fun p => c p h) (fun p => g p h) n K
def headT (strict : Bool) (h : Fin 4) : ℝ := ∑ p, total strict (L h) (a p h) (b p h) (c p h) (g p h) 2304

omit L a b c g in
theorem add8 (a b c d a' b' c' d' : S4.Idx → ℝ) : addf (F := Ideal) (φ := .f32) (addf (addf (addf (addf (addf (addf (fun i => (a i : EReal) : FVec Ideal S4 .f32) (fun i => (b i : EReal))) (fun i => (c i : EReal)))
    (fun i => (d i : EReal))) (fun i => (a' i : EReal))) (fun i => (b' i : EReal))) (fun i => (c' i : EReal))) (fun i => (d' i : EReal))
      = fun i : S4.Idx => ((a i + b i + c i + d i + a' i + b' i + c' i + d' i : ℝ) : EReal) := by
  funext i
  simp only [EReal.coe_add]
  rfl

/-- All eight parts, added in the reference's order, are the derivative against the whole scan. -/
theorem parts_read (strict : Bool) (A B C D A' B' C' D' : FVec Ideal S4 .f32)
    (hA : A = fun i => (headA L a b c g 256 16 (i 0) : EReal))
    (hB : B = fun i => (headB L a b c g 256 16 (i 0) : EReal))
    (hC : C = fun i => (headC L a b c g 256 16 (i 0) : EReal))
    (hD : D = fun i => (headD L a b c g strict 256 16 (i 0) : EReal))
    (hA' : A' = fun i => (headA L a b c g 0 2 (i 0) : EReal))
    (hB' : B' = fun i => (headB L a b c g 0 2 (i 0) : EReal))
    (hC' : C' = fun i => (headC L a b c g 0 2 (i 0) : EReal))
    (hD' : D' = fun i => (headD L a b c g strict 0 2 (i 0) : EReal)) :
    addf (F := Ideal) (φ := .f32) (addf (addf (addf (addf (addf (addf A B) C) D) A') B') C') D'
      = fun i : S4.Idx => (headT L a b c g strict (i 0) : EReal) := by
  subst hA hB hC hD hA' hB' hC' hD'
  refine (add8 _ _ _ _ _ _ _ _).trans ?_
  exact funext fun i => congrArg Real.toEReal (parts_total strict (L (i 0)) (fun p => a p (i 0)) (fun p => b p (i 0)) (fun p => c p (i 0)) (fun p => g p (i 0)))

/-- The handed-back states against the states they meet, times the chunk's weight and length. -/
theorem termB16 (n : ℕ) (X : FVec Ideal S1x4x1x1 .f32)
    (hX : X = fun i => ((∑ k : Fin 16, ∑ p, ∑ d, ∑ e, tail (L (i 1)) (a p (i 1)) (g p (i 1)) (n + 128 * (k.val + 1)) d e
      * state (L (i 1)) (b p (i 1)) (c p (i 1)) (n + 128 * k.val) d e : ℝ) : EReal)) :
    whole4 X (cdA L) = fun i => (headB L a b c g n 16 (i 0) : EReal) := by
  subst hX
  exact whole4_read (fun h => ∑ k : Fin 16, ∑ p, ∑ d, ∑ e, tail (L h) (a p h) (g p h) (n + 128 * (k.val + 1)) d e
      * state (L h) (b p h) (c p h) (n + 128 * k.val) d e) (fun h => Real.exp (128 * L h))

theorem termB2 (T T' S S' : FVec Ideal S2x4x128x128 .f32)
    (hT : T = tlA L a g (0 + 128)) (hT' : T' = tlA L a g (0 + 256)) (hS : S = stA L b c 0) (hS' : S' = stA L b c 128) :
    whole4 (addf (entries (mulf T' S')) (entries (mulf T S))) (cdA L)
      = fun i => (headB L a b c g 0 2 (i 0) : EReal) := by
  subst hT hT' hS hS'
  have e : ∀ n m, mulf (tlA L a g n) (stA L b c m) = fun i => ((tail (L (i 1)) (a (i 0) (i 1)) (g (i 0) (i 1)) n (i 2) (i 3)
      * state (L (i 1)) (b (i 0) (i 1)) (c (i 0) (i 1)) m (i 2) (i 3) : ℝ) : EReal) := fun n m => funext fun i => (EReal.coe_mul _ _).symm
  rw [e (0 + 256) 128, e (0 + 128) 0]
  refine (congrArg (fun X => whole4 X (cdA L)) (pairE (fun p h d e => tail (L h) (a p h) (g p h) (0 + 128) d e * state (L h) (b p h) (c p h) 0 d e)
    (fun p h d e => tail (L h) (a p h) (g p h) (0 + 256) d e * state (L h) (b p h) (c p h) 128 d e))).trans ?_
  refine (whole4_read (fun h => ∑ p, ∑ d, ∑ e, tail (L h) (a p h) (g p h) (0 + 128) d e * state (L h) (b p h) (c p h) 0 d e
    + ∑ p, ∑ d, ∑ e, tail (L h) (a p h) (g p h) (0 + 256) d e * state (L h) (b p h) (c p h) 128 d e) (fun h => Real.exp (128 * L h))).trans ?_
  funext i
  refine congrArg Real.toEReal ?_
  exact congrArg (fun t => 128 * (t * Real.exp (128 * L (i 0)))) (Fin.sum_univ_two (fun k : Fin 2 => ∑ p, ∑ d, ∑ e, tail (L (i 0)) (a p (i 0)) (g p (i 0)) (0 + 128 * (k.val + 1)) d e
    * state (L (i 0)) (b p (i 0)) (c p (i 0)) (0 + 128 * k.val) d e)).symm

omit L a b c g in
/-- One pair of positions: the distance, the kept weight and the decay over the distance. -/
theorem gap_oge (X l : ℝ) (m n : ℕ) (hm : m < 128) (hn : n < 128) :
    (max (FloatOps.sitofp (F := Ideal) FTy.f32 (BitVec.ofNat 32 m) - FloatOps.sitofp (F := Ideal) FTy.f32 (BitVec.ofNat 32 n) : EReal) 0 *
      ((if (0 : EReal) ≤ FloatOps.sitofp (F := Ideal) FTy.f32 (BitVec.ofNat 32 m) - FloatOps.sitofp (F := Ideal) FTy.f32 (BitVec.ofNat 32 n) then (X : EReal) else 0) *
        Ideal.exp (max (FloatOps.sitofp (F := Ideal) FTy.f32 (BitVec.ofNat 32 m) - FloatOps.sitofp (F := Ideal) FTy.f32 (BitVec.ofNat 32 n) : EReal) 0 * (l : EReal))) : EReal)
      = ((X * (((m : ℝ) - (n : ℝ)) * wt false l ((m : ℝ) - (n : ℝ))) : ℝ) : EReal) := by
  rw [sitofp_ofNat (by omega), sitofp_ofNat (by omega), ← EReal.coe_sub]
  by_cases h : (0 : ℝ) ≤ (m : ℝ) - (n : ℝ)
  · rw [if_pos (EReal.coe_nonneg.2 h), ← EReal.coe_zero, ← coe_max, ← EReal.coe_mul, ← coe_exp, ← EReal.coe_mul, ← EReal.coe_mul]
    refine congrArg Real.toEReal ?_
    have e : wt false l ((m : ℝ) - (n : ℝ)) = Real.exp (max ((m : ℝ) - (n : ℝ)) 0 * l) := if_pos h
    rw [e, max_eq_left h]
    ring
  · rw [if_neg (fun k => h (EReal.coe_nonneg.1 k)), zero_mul, mul_zero]
    have e : wt false l ((m : ℝ) - (n : ℝ)) = 0 := if_neg h
    rw [e, mul_zero, mul_zero, EReal.coe_zero]

omit L a b c g in
theorem gap_ogt (X l : ℝ) (m n : ℕ) (hm : m < 128) (hn : n < 128) :
    (max (FloatOps.sitofp (F := Ideal) FTy.f32 (BitVec.ofNat 32 m) - FloatOps.sitofp (F := Ideal) FTy.f32 (BitVec.ofNat 32 n) : EReal) 0 *
      ((if (0 : EReal) < FloatOps.sitofp (F := Ideal) FTy.f32 (BitVec.ofNat 32 m) - FloatOps.sitofp (F := Ideal) FTy.f32 (BitVec.ofNat 32 n) then (X : EReal) else 0) *
        Ideal.exp (max (FloatOps.sitofp (F := Ideal) FTy.f32 (BitVec.ofNat 32 m) - FloatOps.sitofp (F := Ideal) FTy.f32 (BitVec.ofNat 32 n) : EReal) 0 * (l : EReal))) : EReal)
      = ((X * (((m : ℝ) - (n : ℝ)) * wt true l ((m : ℝ) - (n : ℝ))) : ℝ) : EReal) := by
  rw [sitofp_ofNat (by omega), sitofp_ofNat (by omega), ← EReal.coe_sub]
  by_cases h : (0 : ℝ) < (m : ℝ) - (n : ℝ)
  · rw [if_pos (EReal.coe_pos.2 h), ← EReal.coe_zero, ← coe_max, ← EReal.coe_mul, ← coe_exp, ← EReal.coe_mul, ← EReal.coe_mul]
    refine congrArg Real.toEReal ?_
    have e : wt true l ((m : ℝ) - (n : ℝ)) = Real.exp (max ((m : ℝ) - (n : ℝ)) 0 * l) := if_pos h
    rw [e, max_eq_left h.le]
    ring
  · rw [if_neg (fun k => h (EReal.coe_pos.1 k)), zero_mul, mul_zero]
    have e : wt true l ((m : ℝ) - (n : ℝ)) = 0 := if_neg h
    rw [e, mul_zero, mul_zero, EReal.coe_zero]

end Cert.Reference5Ideal.Chunks
-- ==== Proof.RetRef5.lean ====
/- The reference's gradient by the forward decay over the reals. -/
module

public import proofs.«01_k».proof.Proof.DecayParts
public import proofs.«01_k».proof.Proof.RetRefBack

@[expose] public section

set_option maxRecDepth 16384

noncomputable section

namespace Cert.Reference5Ideal.Chunks

open Cert.Reference5Ideal Cert.Reference5Ideal.Gen Idealize.ShloMosaic Idealize.ShloMosaic.TcCoe Idealize.SL.Sem Idealize.ShloMosaic.StableHlo
open Cert.Reference5Ideal.Read
open Step.Retention Step
open Cert.KernelIdeal.Value (hd)
open Cert.ReferenceIdeal.Chunks (Seqs ch2 ch16 wkA wqA cdA wdA stA stA2 stA16 up sq lg lsg0 wk42 wq71 cd49 zero4 k9 k83 k286 k363 next2_read stack2_read chain16 stack16_read)
open Cert.Reference3Ideal.Chunks (tlA tlA2 tlA16 chainB chainP og2 sl2 sl2_read back back_read pair2 pair2_read)

variable (q k v g : S2x2304x512.Idx → ℝ) (δ : S4.Idx → ℝ)

theorem fposqL : val_main_v225 (F := Ideal) = posq := by
  funext i
  pointwise [val_main_v225, val_main_v224, val_main_v86, val_main_v223, val_main_cst_12]
  have h1 : (i 0).val < 128 := (i 0).isLt
  rw [sitofp_ofNat (by omega), ← EReal.coe_one, ← EReal.coe_add]

theorem fposkL : val_main_v112 (F := Ideal) = posk := by
  funext i
  pointwise [val_main_v112, val_main_v111, val_main_v110, val_main_cst_10, val_main_v86]
  have h1 : (i 0).val < 128 := (i 0).isLt
  rw [sitofp_ofNat (by omega), ofBits_127, ← EReal.coe_sub]

theorem fposqC : val_main_v67 (F := Ideal) = posq := by
  funext i
  pointwise [val_main_v67, val_main_v66, val_main_v11, val_main_v65, val_main_cst_6]
  have h1 : (i 0).val < 128 := (i 0).isLt
  rw [sitofp_ofNat (by omega), ← EReal.coe_one, ← EReal.coe_add]

theorem fposkC : val_main_v37 (F := Ideal) = posk := by
  funext i
  pointwise [val_main_v37, val_main_v36, val_main_v35, val_main_cst_3, val_main_v11]
  have h1 : (i 0).val < 128 := (i 0).isLt
  rw [sitofp_ofNat (by omega), ofBits_127, ← EReal.coe_sub]

theorem flg : val_main_v0_0 (F := Ideal) (up δ) = fun i => (lg δ (i 0) : EReal) := lsg0 δ

theorem fst0 : val_main_v55 (F := Ideal) (up k) (up v) (up δ) = stA (lg δ) (sq fw k) (sq fw v) 128 := by
  refine Eq.trans ?_ (next2_read (lg δ) (sq fw k) (sq fw v) 0 0 slices_S2x2x4x128x128_S2x1x4x128x128_0_0_0_0_0)
  rw [← wk42, ← cd49, ← k9 k, ← k9 v, ← zero4]
  rfl

theorem fst1 : val_main_v60 (F := Ideal) (up k) (up v) (up δ) = stA (lg δ) (sq fw k) (sq fw v) 256 := by
  refine Eq.trans ?_ (next2_read (lg δ) (sq fw k) (sq fw v) 0 1 slices_S2x2x4x128x128_S2x1x4x128x128_0_1_0_0_0)
  rw [← wk42, ← cd49, ← k9 k, ← k9 v, ← fst0]
  rfl

theorem fstack2 : val_main_v63 (F := Ideal) (up k) (up v) (up δ) = stA2 (lg δ) (sq fw k) (sq fw v) 0 := by
  rw [← stack2_read, ← zero4 (lg δ) (sq fw k) (sq fw v), ← fst0]
  rfl

/-- The states the latent part's chunks begin with, along the forward scan. -/
abbrev fS : Fin 16 → FVec Ideal S2x4x128x128 .f32 :=
  ![val_main_v60 (F := Ideal) (up k) (up v) (up δ), val_main_v130 (F := Ideal) (up k) (up v) (up δ), val_main_v135 (F := Ideal) (up k) (up v) (up δ), val_main_v140 (F := Ideal) (up k) (up v) (up δ), val_main_v145 (F := Ideal) (up k) (up v) (up δ), val_main_v150 (F := Ideal) (up k) (up v) (up δ), val_main_v155 (F := Ideal) (up k) (up v) (up δ), val_main_v160 (F := Ideal) (up k) (up v) (up δ), val_main_v165 (F := Ideal) (up k) (up v) (up δ), val_main_v170 (F := Ideal) (up k) (up v) (up δ), val_main_v175 (F := Ideal) (up k) (up v) (up δ), val_main_v180 (F := Ideal) (up k) (up v) (up δ), val_main_v185 (F := Ideal) (up k) (up v) (up δ), val_main_v190 (F := Ideal) (up k) (up v) (up δ), val_main_v195 (F := Ideal) (up k) (up v) (up δ), val_main_v200 (F := Ideal) (up k) (up v) (up δ)]

theorem fS_eq (j : Fin 16) : fS k v δ j = stA (lg δ) (sq fw k) (sq fw v) (256 + 128 * j.val) := by
  refine chain16 (lg δ) (sq fw k) (sq fw v) 256 (val_main_v124 (F := Ideal) (up δ)) (val_main_v121 (F := Ideal) (up k) (up v) (up δ)) (fS k v δ) (cd49 δ) ?_
    (fst1 k v δ) (fun j => ?_) j
  · rw [← wk42, ← k83 k, ← k83 v]; rfl
  · fin_cases j <;> rfl

theorem fstack16 : val_main_v222 (F := Ideal) (up k) (up v) (up δ) = stA16 (lg δ) (sq fw k) (sq fw v) 256 :=
  Eq.trans rfl (stack16_read _ _ _ _ _ (fS_eq k v δ))

/-- The states handed back, from the last of the latent part's chunks to the first. -/
abbrev fU : Fin 16 → FVec Ideal S2x4x128x128 .f32 :=
  ![val_main_v290 (F := Ideal) (up q) (up g) (up δ), val_main_v295 (F := Ideal) (up q) (up g) (up δ), val_main_v304 (F := Ideal) (up q) (up g) (up δ), val_main_v314 (F := Ideal) (up q) (up g) (up δ), val_main_v324 (F := Ideal) (up q) (up g) (up δ), val_main_v334 (F := Ideal) (up q) (up g) (up δ), val_main_v344 (F := Ideal) (up q) (up g) (up δ), val_main_v354 (F := Ideal) (up q) (up g) (up δ), val_main_v364 (F := Ideal) (up q) (up g) (up δ), val_main_v374 (F := Ideal) (up q) (up g) (up δ), val_main_v384 (F := Ideal) (up q) (up g) (up δ), val_main_v394 (F := Ideal) (up q) (up g) (up δ), val_main_v404 (F := Ideal) (up q) (up g) (up δ), val_main_v414 (F := Ideal) (up q) (up g) (up δ), val_main_v424 (F := Ideal) (up q) (up g) (up δ), val_main_v434 (F := Ideal) (up q) (up g) (up δ)]

theorem fU_eq (j : Fin 16) : fU q g δ j = tlA (lg δ) (sq fw q) (sq fw g) (256 + 128 * (15 - j.val)) := by
  refine chainB (lg δ) (sq fw q) (sq fw g) 256 (by norm_num) (val_main_v124 (F := Ideal) (up δ)) (val_main_v248 (F := Ideal) (up q) (up g) (up δ)) (fU q g δ) (cd49 δ) ?_ rfl (fun j => ?_) j
  · rw [← wq71, ← k83 q, ← k83 g]; rfl
  · fin_cases j <;> rfl

/-- The same states, put in place one after the other. -/
abbrev fP : Fin 15 → FVec Ideal S2x16x4x128x128 .f32 :=
  ![val_main_v292 (F := Ideal) (up q) (up g) (up δ), val_main_v301 (F := Ideal) (up q) (up g) (up δ), val_main_v311 (F := Ideal) (up q) (up g) (up δ), val_main_v321 (F := Ideal) (up q) (up g) (up δ), val_main_v331 (F := Ideal) (up q) (up g) (up δ), val_main_v341 (F := Ideal) (up q) (up g) (up δ), val_main_v351 (F := Ideal) (up q) (up g) (up δ), val_main_v361 (F := Ideal) (up q) (up g) (up δ), val_main_v371 (F := Ideal) (up q) (up g) (up δ), val_main_v381 (F := Ideal) (up q) (up g) (up δ), val_main_v391 (F := Ideal) (up q) (up g) (up δ), val_main_v401 (F := Ideal) (up q) (up g) (up δ), val_main_v411 (F := Ideal) (up q) (up g) (up δ), val_main_v421 (F := Ideal) (up q) (up g) (up δ), val_main_v431 (F := Ideal) (up q) (up g) (up δ)]

theorem fP_eq : val_main_v431 (F := Ideal) (up q) (up g) (up δ) = tlA16 (lg δ) (sq fw q) (sq fw g) 256 := by
  refine chainP (lg δ) (sq fw q) (sq fw g) 256 (by norm_num) (fU q g δ) (fP q g δ) (fU_eq q g δ) rfl fun j => ?_
  fin_cases j <;> rfl

theorem fU15 : val_main_v434 (F := Ideal) (up q) (up g) (up δ) = tlA (lg δ) (sq fw q) (sq fw g) (0 + 256) := fU_eq q g δ 15

theorem fT : val_main_v491 (F := Ideal) (up q) (up g) (up δ) = sl2 (og2 (ch2 (sq fw q) 0) (ch2 (sq fw g) 0) (wqA (lg δ))) 1 slices_S2x2x4x128x128_S2x1x4x128x128_0_1_0_0_0 := by
  rw [← wq71, ← k9 q, ← k9 g]; rfl

theorem fback : val_main_v496 (F := Ideal) (up q) (up g) (up δ) = tlA (lg δ) (sq fw q) (sq fw g) (0 + 128) :=
  Eq.trans (show _ = back (Cert.ReferenceIdeal.Read.val_main_v49 (F := Ideal) (up δ)) (val_main_v434 (F := Ideal) (up q) (up g) (up δ)) (val_main_v491 (F := Ideal) (up q) (up g) (up δ)) from rfl)
    ((congr (congr (congrArg back (cd49 δ)) (fU15 q g δ)) ((fT q g δ).trans (sl2_read _ _ _ 0 1 _))).trans
      (back_read (lg δ) (sq fw q) (sq fw g) (0 + 128 * 1) (by norm_num)))

theorem fpair : val_main_v502 (F := Ideal) (up q) (up g) (up δ) = tlA2 (lg δ) (sq fw q) (sq fw g) 0 := by
  rw [← pair2_read, ← fU15, ← fback]
  rfl

/-- The states handed back times the states they meet. -/
abbrev fY : Fin 15 → FVec Ideal S2x4x128x128 .f32 :=
  ![val_main_v296 (F := Ideal) (up q) (up k) (up v) (up g) (up δ), val_main_v305 (F := Ideal) (up q) (up k) (up v) (up g) (up δ), val_main_v315 (F := Ideal) (up q) (up k) (up v) (up g) (up δ), val_main_v325 (F := Ideal) (up q) (up k) (up v) (up g) (up δ), val_main_v335 (F := Ideal) (up q) (up k) (up v) (up g) (up δ), val_main_v345 (F := Ideal) (up q) (up k) (up v) (up g) (up δ), val_main_v355 (F := Ideal) (up q) (up k) (up v) (up g) (up δ), val_main_v365 (F := Ideal) (up q) (up k) (up v) (up g) (up δ), val_main_v375 (F := Ideal) (up q) (up k) (up v) (up g) (up δ), val_main_v385 (F := Ideal) (up q) (up k) (up v) (up g) (up δ), val_main_v395 (F := Ideal) (up q) (up k) (up v) (up g) (up δ), val_main_v405 (F := Ideal) (up q) (up k) (up v) (up g) (up δ), val_main_v415 (F := Ideal) (up q) (up k) (up v) (up g) (up δ), val_main_v425 (F := Ideal) (up q) (up k) (up v) (up g) (up δ), val_main_v435 (F := Ideal) (up q) (up k) (up v) (up g) (up δ)]

theorem fY_eq (j : Fin 15) : fY q k v g δ j = mulf (fU q g δ j.castSucc) (fS k v δ ⟨14 - j.val, by omega⟩) := by
  fin_cases j <;> rfl

/-- Their entries, added one after the other. -/
abbrev fE : Fin 15 → FVec Ideal S1x4x1x1 .f32 :=
  ![val_main_v298 (F := Ideal) (up q) (up k) (up v) (up g) (up δ), val_main_v308 (F := Ideal) (up q) (up k) (up v) (up g) (up δ), val_main_v318 (F := Ideal) (up q) (up k) (up v) (up g) (up δ), val_main_v328 (F := Ideal) (up q) (up k) (up v) (up g) (up δ), val_main_v338 (F := Ideal) (up q) (up k) (up v) (up g) (up δ), val_main_v348 (F := Ideal) (up q) (up k) (up v) (up g) (up δ), val_main_v358 (F := Ideal) (up q) (up k) (up v) (up g) (up δ), val_main_v368 (F := Ideal) (up q) (up k) (up v) (up g) (up δ), val_main_v378 (F := Ideal) (up q) (up k) (up v) (up g) (up δ), val_main_v388 (F := Ideal) (up q) (up k) (up v) (up g) (up δ), val_main_v398 (F := Ideal) (up q) (up k) (up v) (up g) (up δ), val_main_v408 (F := Ideal) (up q) (up k) (up v) (up g) (up δ), val_main_v418 (F := Ideal) (up q) (up k) (up v) (up g) (up δ), val_main_v428 (F := Ideal) (up q) (up k) (up v) (up g) (up δ), val_main_v438 (F := Ideal) (up q) (up k) (up v) (up g) (up δ)]

theorem fE_eq : val_main_v438 (F := Ideal) (up q) (up k) (up v) (up g) (up δ) = fun i => ((∑ j : Fin 16, ∑ p, ∑ d, ∑ e, tail (lg δ (i 1)) (sq fw q p (i 1)) (sq fw g p (i 1)) (256 + 128 * (j.val + 1)) d e
      * state (lg δ (i 1)) (sq fw k p (i 1)) (sq fw v p (i 1)) (256 + 128 * j.val) d e : ℝ) : EReal) := by
  refine chainE (fun j p h d e => tail (lg δ h) (sq fw q p h) (sq fw g p h) (256 + 128 * (j + 1)) d e * state (lg δ h) (sq fw k p h) (sq fw v p h) (256 + 128 * j) d e)
    (fY q k v g δ) (fE q k v g δ) (fun p h d e => ?_) (fun j => ?_) rfl (fun j => ?_)
  · exact (congrArg (· * _) (tail_end _ _ _ _ _)).trans (zero_mul _)
  · rw [fY_eq, fU_eq, fS_eq]
    have hj := j.isLt
    funext i
    refine (EReal.coe_mul _ _).symm.trans ?_
    rw [show 15 - j.castSucc.val = 14 - j.val + 1 by simp only [Fin.val_castSucc]; omega]
  · fin_cases j <;> rfl

theorem fA16 : val_main_v258 (F := Ideal) (up q) (up k) (up v) (up g) (up δ) = fun i => (headA (lg δ) (sq fw q) (sq fw k) (sq fw v) (sq fw g) 256 16 (i 0) : EReal) := by
  refine Eq.trans ?_ (termA16 (lg δ) (sq fw q) (sq fw k) (sq fw v) (sq fw g) 256)
  rw [← fposqL, ← wq71, ← fstack16, ← k83 q, ← k83 g]
  rfl

theorem fB16 : val_main_v442 (F := Ideal) (up q) (up k) (up v) (up g) (up δ) = fun i => (headB (lg δ) (sq fw q) (sq fw k) (sq fw v) (sq fw g) 256 16 (i 0) : EReal) := by
  refine Eq.trans ?_ (termB16 (lg δ) (sq fw q) (sq fw k) (sq fw v) (sq fw g) 256 _ (fE_eq q k v g δ))
  rw [← cd49]
  rfl

theorem fC16 : val_main_v455 (F := Ideal) (up q) (up k) (up v) (up g) (up δ) = fun i => (headC (lg δ) (sq fw q) (sq fw k) (sq fw v) (sq fw g) 256 16 (i 0) : EReal) := by
  refine Eq.trans ?_ (termC16 (lg δ) (sq fw q) (sq fw k) (sq fw v) (sq fw g) 256)
  rw [← fposkL, ← wk42, ← fP_eq, ← k83 k, ← k83 v]
  rfl

theorem fgap16 : val_main_v466 (F := Ideal) (up q) (up k) (up v) (up g) (up δ) = gapA false (lg δ) (owed16 (sq fw q) (sq fw k) (sq fw v) (sq fw g) 256) := by
  have hX : val_main_v462 (F := Ideal) (up q) (up k) (up v) (up g) = fun i => (owed16 (sq fw q) (sq fw k) (sq fw v) (sq fw g) 256 (i 0) (i 1) (i 2) : EReal) := by
    rw [← owed16_read, ← k83 q, ← k83 k, ← k83 v, ← k83 g]
    rfl
  revert hX
  generalize owed16 (sq fw q) (sq fw k) (sq fw v) (sq fw g) 256 = X
  intro hX
  funext i
  pointwise [hX, flg, val_main_v466, val_main_v465, val_main_v97, val_main_v96, val_main_v91, val_main_v89, val_main_v87, val_main_v86, val_main_v90, val_main_v88, val_main_v95, val_main_cst_8, val_main_v464, val_main_v463, val_main_v103_1, val_main_v94, val_main_v93, val_main_v92, val_main_cst_7, val_main_call3_v0, val_main_call3_cst, val_main_v102, val_main_v101, val_main_v99, val_main_v100, val_main_v98]
  have h1 : (i 1).val < 128 := (i 1).isLt
  have h2 : (i 2).val < 128 := (i 2).isLt
  exact gap_oge _ _ _ _ h1 h2

theorem fD16 : val_main_v469 (F := Ideal) (up q) (up k) (up v) (up g) (up δ) = fun i => (headD (lg δ) (sq fw q) (sq fw k) (sq fw v) (sq fw g) false 256 16 (i 0) : EReal) := by
  refine Eq.trans ?_ (termD16 false (lg δ) (sq fw q) (sq fw k) (sq fw v) (sq fw g) 256)
  rw [← fgap16]
  rfl

theorem fA2 : val_main_v486 (F := Ideal) (up q) (up k) (up v) (up g) (up δ) = fun i => (headA (lg δ) (sq fw q) (sq fw k) (sq fw v) (sq fw g) 0 2 (i 0) : EReal) := by
  refine Eq.trans ?_ (termA2 (lg δ) (sq fw q) (sq fw k) (sq fw v) (sq fw g) 0)
  rw [← fposqC, ← wq71, ← fstack2, ← k9 q, ← k9 g]
  rfl

theorem fB2 : val_main_v510 (F := Ideal) (up q) (up k) (up v) (up g) (up δ) = fun i => (headB (lg δ) (sq fw q) (sq fw k) (sq fw v) (sq fw g) 0 2 (i 0) : EReal) := by
  refine Eq.trans ?_ (termB2 (lg δ) (sq fw q) (sq fw k) (sq fw v) (sq fw g) _ _ _ _ (fback q g δ) (fU15 q g δ) (zero4 _ _ _) (fst0 k v δ))
  rw [← cd49]
  rfl

theorem fC2 : val_main_v523 (F := Ideal) (up q) (up k) (up v) (up g) (up δ) = fun i => (headC (lg δ) (sq fw q) (sq fw k) (sq fw v) (sq fw g) 0 2 (i 0) : EReal) := by
  refine Eq.trans ?_ (termC2 (lg δ) (sq fw q) (sq fw k) (sq fw v) (sq fw g) 0)
  rw [← fposkC, ← wk42, ← fpair, ← k9 k, ← k9 v]
  rfl

theorem fgap2 : val_main_v534 (F := Ideal) (up q) (up k) (up v) (up g) (up δ) = gapA false (lg δ) (owed2 (sq fw q) (sq fw k) (sq fw v) (sq fw g) 0) := by
  have hX : val_main_v530 (F := Ideal) (up q) (up k) (up v) (up g) = fun i => (owed2 (sq fw q) (sq fw k) (sq fw v) (sq fw g) 0 (i 0) (i 1) (i 2) : EReal) := by
    rw [← owed2_read, ← k9 q, ← k9 k, ← k9 v, ← k9 g]
    rfl
  revert hX
  generalize owed2 (sq fw q) (sq fw k) (sq fw v) (sq fw g) 0 = X
  intro hX
  funext i
  pointwise [hX, flg, val_main_v534, val_main_v533, val_main_v22, val_main_v21, val_main_v16, val_main_v14, val_main_v12, val_main_v11, val_main_v15, val_main_v13, val_main_v20, val_main_cst_1, val_main_v532, val_main_v531, val_main_v28_1, val_main_v19, val_main_v18, val_main_v17, val_main_cst_0, val_main_call4_v0, val_main_call4_cst, val_main_v27, val_main_v26, val_main_v24, val_main_v25, val_main_v23]
  have h1 : (i 1).val < 128 := (i 1).isLt
  have h2 : (i 2).val < 128 := (i 2).isLt
  exact gap_oge _ _ _ _ h1 h2

theorem fD2 : val_main_v537 (F := Ideal) (up q) (up k) (up v) (up g) (up δ) = fun i => (headD (lg δ) (sq fw q) (sq fw k) (sq fw v) (sq fw g) false 0 2 (i 0) : EReal) := by
  refine Eq.trans ?_ (termD2 false (lg δ) (sq fw q) (sq fw k) (sq fw v) (sq fw g) 0)
  rw [← fgap2]
  rfl

/-- The reference's gradient by the logarithm of the forward decay is the derivative against the whole scan. -/
theorem fsum : val_main_v538 (F := Ideal) (up q) (up k) (up v) (up g) (up δ) = fun i => (headT (lg δ) (sq fw q) (sq fw k) (sq fw v) (sq fw g) false (i 0) : EReal) :=
  Eq.trans rfl (parts_read (lg δ) (sq fw q) (sq fw k) (sq fw v) (sq fw g) false _ _ _ _ _ _ _ _ (fA16 q k v g δ) (fB16 q k v g δ) (fC16 q k v g δ) (fD16 q k v g δ)
    (fA2 q k v g δ) (fB2 q k v g δ) (fC2 q k v g δ) (fD2 q k v g δ))

end Cert.Reference5Ideal.Chunks
-- ==== Proof.RetRef5Back.lean ====
/- The reference's gradient by the backward decay over the reals. -/
module

public import proofs.«01_k».proof.Proof.DecayParts
public import proofs.«01_k».proof.Proof.RetRefBack

@[expose] public section

set_option maxRecDepth 16384

noncomputable section

namespace Cert.Reference5Ideal.Chunks

open Cert.Reference5Ideal Cert.Reference5Ideal.Gen Idealize.ShloMosaic Idealize.ShloMosaic.TcCoe Idealize.SL.Sem Idealize.ShloMosaic.StableHlo
open Cert.Reference5Ideal.Read
open Step.Retention Step
open Cert.KernelIdeal.Value (hd)
open Cert.ReferenceIdeal.Chunks (Seqs ch2 ch16 wkA wqA cdA wdA stA stA2 stA16 up sq lg lsg0 wk42 wq71 cd49 zero4 k9 k83 k286 k363 next2_read stack2_read chain16 stack16_read)
open Cert.Reference3Ideal.Chunks (tlA tlA2 tlA16 chainB chainP og2 sl2 sl2_read back back_read pair2 pair2_read)

variable (q k v g : S2x2304x512.Idx → ℝ) (δ : S4.Idx → ℝ)

theorem bposqL : val_main_v771 (F := Ideal) = posq := by
  funext i
  pointwise [val_main_v771, val_main_v770, val_main_v632, val_main_v769, val_main_cst_88]
  have h1 : (i 0).val < 128 := (i 0).isLt
  rw [sitofp_ofNat (by omega), ← EReal.coe_one, ← EReal.coe_add]

theorem bposkL : val_main_v658 (F := Ideal) = posk := by
  funext i
  pointwise [val_main_v658, val_main_v657, val_main_v656, val_main_cst_86, val_main_v632]
  have h1 : (i 0).val < 128 := (i 0).isLt
  rw [sitofp_ofNat (by omega), ofBits_127, ← EReal.coe_sub]

theorem bposqC : val_main_v610 (F := Ideal) = posq := by
  funext i
  pointwise [val_main_v610, val_main_v609, val_main_v554, val_main_v608, val_main_cst_82]
  have h1 : (i 0).val < 128 := (i 0).isLt
  rw [sitofp_ofNat (by omega), ← EReal.coe_one, ← EReal.coe_add]

theorem bposkC : val_main_v580 (F := Ideal) = posk := by
  funext i
  pointwise [val_main_v580, val_main_v579, val_main_v578, val_main_cst_79, val_main_v554]
  have h1 : (i 0).val < 128 := (i 0).isLt
  rw [sitofp_ofNat (by omega), ofBits_127, ← EReal.coe_sub]

theorem blg : val_main_v540_0 (F := Ideal) (up δ) = fun i => (lg δ (i 0) : EReal) := lsg0 δ

theorem bst0 : val_main_v598 (F := Ideal) (up k) (up v) (up δ) = stA (lg δ) (sq bw k) (sq bw v) 128 := by
  refine Eq.trans ?_ (next2_read (lg δ) (sq bw k) (sq bw v) 0 0 slices_S2x2x4x128x128_S2x1x4x128x128_0_0_0_0_0)
  rw [← wk42, ← cd49, ← k286 k, ← k286 v, ← zero4]
  rfl

theorem bst1 : val_main_v603 (F := Ideal) (up k) (up v) (up δ) = stA (lg δ) (sq bw k) (sq bw v) 256 := by
  refine Eq.trans ?_ (next2_read (lg δ) (sq bw k) (sq bw v) 0 1 slices_S2x2x4x128x128_S2x1x4x128x128_0_1_0_0_0)
  rw [← wk42, ← cd49, ← k286 k, ← k286 v, ← bst0]
  rfl

theorem bstack2 : val_main_v606 (F := Ideal) (up k) (up v) (up δ) = stA2 (lg δ) (sq bw k) (sq bw v) 0 := by
  rw [← stack2_read, ← zero4 (lg δ) (sq bw k) (sq bw v), ← bst0]
  rfl

/-- The states the latent part's chunks begin with, along the backward scan. -/
abbrev bS : Fin 16 → FVec Ideal S2x4x128x128 .f32 :=
  ![val_main_v603 (F := Ideal) (up k) (up v) (up δ), val_main_v676 (F := Ideal) (up k) (up v) (up δ), val_main_v681 (F := Ideal) (up k) (up v) (up δ), val_main_v686 (F := Ideal) (up k) (up v) (up δ), val_main_v691 (F := Ideal) (up k) (up v) (up δ), val_main_v696 (F := Ideal) (up k) (up v) (up δ), val_main_v701 (F := Ideal) (up k) (up v) (up δ), val_main_v706 (F := Ideal) (up k) (up v) (up δ), val_main_v711 (F := Ideal) (up k) (up v) (up δ), val_main_v716 (F := Ideal) (up k) (up v) (up δ), val_main_v721 (F := Ideal) (up k) (up v) (up δ), val_main_v726 (F := Ideal) (up k) (up v) (up δ), val_main_v731 (F := Ideal) (up k) (up v) (up δ), val_main_v736 (F := Ideal) (up k) (up v) (up δ), val_main_v741 (F := Ideal) (up k) (up v) (up δ), val_main_v746 (F := Ideal) (up k) (up v) (up δ)]

theorem bS_eq (j : Fin 16) : bS k v δ j = stA (lg δ) (sq bw k) (sq bw v) (256 + 128 * j.val) := by
  refine chain16 (lg δ) (sq bw k) (sq bw v) 256 (val_main_v670 (F := Ideal) (up δ)) (val_main_v667 (F := Ideal) (up k) (up v) (up δ)) (bS k v δ) (cd49 δ) ?_
    (bst1 k v δ) (fun j => ?_) j
  · rw [← wk42, ← k363 k, ← k363 v]; rfl
  · fin_cases j <;> rfl

theorem bstack16 : val_main_v768 (F := Ideal) (up k) (up v) (up δ) = stA16 (lg δ) (sq bw k) (sq bw v) 256 :=
  Eq.trans rfl (stack16_read _ _ _ _ _ (bS_eq k v δ))

/-- The states handed back, from the last of the latent part's chunks to the first. -/
abbrev bU : Fin 16 → FVec Ideal S2x4x128x128 .f32 :=
  ![val_main_v840 (F := Ideal) (up q) (up g) (up δ), val_main_v845 (F := Ideal) (up q) (up g) (up δ), val_main_v854 (F := Ideal) (up q) (up g) (up δ), val_main_v864 (F := Ideal) (up q) (up g) (up δ), val_main_v874 (F := Ideal) (up q) (up g) (up δ), val_main_v884 (F := Ideal) (up q) (up g) (up δ), val_main_v894 (F := Ideal) (up q) (up g) (up δ), val_main_v904 (F := Ideal) (up q) (up g) (up δ), val_main_v914 (F := Ideal) (up q) (up g) (up δ), val_main_v924 (F := Ideal) (up q) (up g) (up δ), val_main_v934 (F := Ideal) (up q) (up g) (up δ), val_main_v944 (F := Ideal) (up q) (up g) (up δ), val_main_v954 (F := Ideal) (up q) (up g) (up δ), val_main_v964 (F := Ideal) (up q) (up g) (up δ), val_main_v974 (F := Ideal) (up q) (up g) (up δ), val_main_v984 (F := Ideal) (up q) (up g) (up δ)]

theorem bU_eq (j : Fin 16) : bU q g δ j = tlA (lg δ) (sq bw q) (sq bw g) (256 + 128 * (15 - j.val)) := by
  refine chainB (lg δ) (sq bw q) (sq bw g) 256 (by norm_num) (val_main_v670 (F := Ideal) (up δ)) (val_main_v798 (F := Ideal) (up q) (up g) (up δ)) (bU q g δ) (cd49 δ) ?_ rfl (fun j => ?_) j
  · rw [← wq71, ← k363 q, ← k363 g]; rfl
  · fin_cases j <;> rfl

/-- The same states, put in place one after the other. -/
abbrev bP : Fin 15 → FVec Ideal S2x16x4x128x128 .f32 :=
  ![val_main_v842 (F := Ideal) (up q) (up g) (up δ), val_main_v851 (F := Ideal) (up q) (up g) (up δ), val_main_v861 (F := Ideal) (up q) (up g) (up δ), val_main_v871 (F := Ideal) (up q) (up g) (up δ), val_main_v881 (F := Ideal) (up q) (up g) (up δ), val_main_v891 (F := Ideal) (up q) (up g) (up δ), val_main_v901 (F := Ideal) (up q) (up g) (up δ), val_main_v911 (F := Ideal) (up q) (up g) (up δ), val_main_v921 (F := Ideal) (up q) (up g) (up δ), val_main_v931 (F := Ideal) (up q) (up g) (up δ), val_main_v941 (F := Ideal) (up q) (up g) (up δ), val_main_v951 (F := Ideal) (up q) (up g) (up δ), val_main_v961 (F := Ideal) (up q) (up g) (up δ), val_main_v971 (F := Ideal) (up q) (up g) (up δ), val_main_v981 (F := Ideal) (up q) (up g) (up δ)]

theorem bP_eq : val_main_v981 (F := Ideal) (up q) (up g) (up δ) = tlA16 (lg δ) (sq bw q) (sq bw g) 256 := by
  refine chainP (lg δ) (sq bw q) (sq bw g) 256 (by norm_num) (bU q g δ) (bP q g δ) (bU_eq q g δ) rfl fun j => ?_
  fin_cases j <;> rfl

theorem bU15 : val_main_v984 (F := Ideal) (up q) (up g) (up δ) = tlA (lg δ) (sq bw q) (sq bw g) (0 + 256) := bU_eq q g δ 15

theorem bT : val_main_v1041 (F := Ideal) (up q) (up g) (up δ) = sl2 (og2 (ch2 (sq bw q) 0) (ch2 (sq bw g) 0) (wqA (lg δ))) 1 slices_S2x2x4x128x128_S2x1x4x128x128_0_1_0_0_0 := by
  rw [← wq71, ← k286 q, ← k286 g]; rfl

theorem bback : val_main_v1046 (F := Ideal) (up q) (up g) (up δ) = tlA (lg δ) (sq bw q) (sq bw g) (0 + 128) :=
  Eq.trans (show _ = back (Cert.ReferenceIdeal.Read.val_main_v49 (F := Ideal) (up δ)) (val_main_v984 (F := Ideal) (up q) (up g) (up δ)) (val_main_v1041 (F := Ideal) (up q) (up g) (up δ)) from rfl)
    ((congr (congr (congrArg back (cd49 δ)) (bU15 q g δ)) ((bT q g δ).trans (sl2_read _ _ _ 0 1 _))).trans
      (back_read (lg δ) (sq bw q) (sq bw g) (0 + 128 * 1) (by norm_num)))

theorem bpair : val_main_v1052 (F := Ideal) (up q) (up g) (up δ) = tlA2 (lg δ) (sq bw q) (sq bw g) 0 := by
  rw [← pair2_read, ← bU15, ← bback]
  rfl

/-- The states handed back times the states they meet. -/
abbrev bY : Fin 15 → FVec Ideal S2x4x128x128 .f32 :=
  ![val_main_v846 (F := Ideal) (up q) (up k) (up v) (up g) (up δ), val_main_v855 (F := Ideal) (up q) (up k) (up v) (up g) (up δ), val_main_v865 (F := Ideal) (up q) (up k) (up v) (up g) (up δ), val_main_v875 (F := Ideal) (up q) (up k) (up v) (up g) (up δ), val_main_v885 (F := Ideal) (up q) (up k) (up v) (up g) (up δ), val_main_v895 (F := Ideal) (up q) (up k) (up v) (up g) (up δ), val_main_v905 (F := Ideal) (up q) (up k) (up v) (up g) (up δ), val_main_v915 (F := Ideal) (up q) (up k) (up v) (up g) (up δ), val_main_v925 (F := Ideal) (up q) (up k) (up v) (up g) (up δ), val_main_v935 (F := Ideal) (up q) (up k) (up v) (up g) (up δ), val_main_v945 (F := Ideal) (up q) (up k) (up v) (up g) (up δ), val_main_v955 (F := Ideal) (up q) (up k) (up v) (up g) (up δ), val_main_v965 (F := Ideal) (up q) (up k) (up v) (up g) (up δ), val_main_v975 (F := Ideal) (up q) (up k) (up v) (up g) (up δ), val_main_v985 (F := Ideal) (up q) (up k) (up v) (up g) (up δ)]

theorem bY_eq (j : Fin 15) : bY q k v g δ j = mulf (bU q g δ j.castSucc) (bS k v δ ⟨14 - j.val, by omega⟩) := by
  fin_cases j <;> rfl

/-- Their entries, added one after the other. -/
abbrev bE : Fin 15 → FVec Ideal S1x4x1x1 .f32 :=
  ![val_main_v848 (F := Ideal) (up q) (up k) (up v) (up g) (up δ), val_main_v858 (F := Ideal) (up q) (up k) (up v) (up g) (up δ), val_main_v868 (F := Ideal) (up q) (up k) (up v) (up g) (up δ), val_main_v878 (F := Ideal) (up q) (up k) (up v) (up g) (up δ), val_main_v888 (F := Ideal) (up q) (up k) (up v) (up g) (up δ), val_main_v898 (F := Ideal) (up q) (up k) (up v) (up g) (up δ), val_main_v908 (F := Ideal) (up q) (up k) (up v) (up g) (up δ), val_main_v918 (F := Ideal) (up q) (up k) (up v) (up g) (up δ), val_main_v928 (F := Ideal) (up q) (up k) (up v) (up g) (up δ), val_main_v938 (F := Ideal) (up q) (up k) (up v) (up g) (up δ), val_main_v948 (F := Ideal) (up q) (up k) (up v) (up g) (up δ), val_main_v958 (F := Ideal) (up q) (up k) (up v) (up g) (up δ), val_main_v968 (F := Ideal) (up q) (up k) (up v) (up g) (up δ), val_main_v978 (F := Ideal) (up q) (up k) (up v) (up g) (up δ), val_main_v988 (F := Ideal) (up q) (up k) (up v) (up g) (up δ)]

theorem bE_eq : val_main_v988 (F := Ideal) (up q) (up k) (up v) (up g) (up δ) = fun i => ((∑ j : Fin 16, ∑ p, ∑ d, ∑ e, tail (lg δ (i 1)) (sq bw q p (i 1)) (sq bw g p (i 1)) (256 + 128 * (j.val + 1)) d e
      * state (lg δ (i 1)) (sq bw k p (i 1)) (sq bw v p (i 1)) (256 + 128 * j.val) d e : ℝ) : EReal) := by
  refine chainE (fun j p h d e => tail (lg δ h) (sq bw q p h) (sq bw g p h) (256 + 128 * (j + 1)) d e * state (lg δ h) (sq bw k p h) (sq bw v p h) (256 + 128 * j) d e)
    (bY q k v g δ) (bE q k v g δ) (fun p h d e => ?_) (fun j => ?_) rfl (fun j => ?_)
  · exact (congrArg (· * _) (tail_end _ _ _ _ _)).trans (zero_mul _)
  · rw [bY_eq, bU_eq, bS_eq]
    have hj := j.isLt
    funext i
    refine (EReal.coe_mul _ _).symm.trans ?_
    rw [show 15 - j.castSucc.val = 14 - j.val + 1 by simp only [Fin.val_castSucc]; omega]
  · fin_cases j <;> rfl

theorem bA16 : val_main_v808 (F := Ideal) (up q) (up k) (up v) (up g) (up δ) = fun i => (headA (lg δ) (sq bw q) (sq bw k) (sq bw v) (sq bw g) 256 16 (i 0) : EReal) := by
  refine Eq.trans ?_ (termA16 (lg δ) (sq bw q) (sq bw k) (sq bw v) (sq bw g) 256)
  rw [← bposqL, ← wq71, ← bstack16, ← k363 q, ← k363 g]
  rfl

theorem bB16 : val_main_v992 (F := Ideal) (up q) (up k) (up v) (up g) (up δ) = fun i => (headB (lg δ) (sq bw q) (sq bw k) (sq bw v) (sq bw g) 256 16 (i 0) : EReal) := by
  refine Eq.trans ?_ (termB16 (lg δ) (sq bw q) (sq bw k) (sq bw v) (sq bw g) 256 _ (bE_eq q k v g δ))
  rw [← cd49]
  rfl

theorem bC16 : val_main_v1005 (F := Ideal) (up q) (up k) (up v) (up g) (up δ) = fun i => (headC (lg δ) (sq bw q) (sq bw k) (sq bw v) (sq bw g) 256 16 (i 0) : EReal) := by
  refine Eq.trans ?_ (termC16 (lg δ) (sq bw q) (sq bw k) (sq bw v) (sq bw g) 256)
  rw [← bposkL, ← wk42, ← bP_eq, ← k363 k, ← k363 v]
  rfl

theorem bgap16 : val_main_v1016 (F := Ideal) (up q) (up k) (up v) (up g) (up δ) = gapA true (lg δ) (owed16 (sq bw q) (sq bw k) (sq bw v) (sq bw g) 256) := by
  have hX : val_main_v1012 (F := Ideal) (up q) (up k) (up v) (up g) = fun i => (owed16 (sq bw q) (sq bw k) (sq bw v) (sq bw g) 256 (i 0) (i 1) (i 2) : EReal) := by
    rw [← owed16_read, ← k363 q, ← k363 k, ← k363 v, ← k363 g]
    rfl
  revert hX
  generalize owed16 (sq bw q) (sq bw k) (sq bw v) (sq bw g) 256 = X
  intro hX
  funext i
  pointwise [hX, blg, val_main_v1016, val_main_v1015, val_main_v643, val_main_v642, val_main_v637, val_main_v635, val_main_v633, val_main_v632, val_main_v636, val_main_v634, val_main_v641, val_main_cst_84, val_main_v1014, val_main_v1013, val_main_v649_1, val_main_v640, val_main_v639, val_main_v638, val_main_cst_83, val_main_call19_v0, val_main_call19_cst, val_main_v648, val_main_v647, val_main_v645, val_main_v646, val_main_v644]
  have h1 : (i 1).val < 128 := (i 1).isLt
  have h2 : (i 2).val < 128 := (i 2).isLt
  exact gap_ogt _ _ _ _ h1 h2

theorem bD16 : val_main_v1019 (F := Ideal) (up q) (up k) (up v) (up g) (up δ) = fun i => (headD (lg δ) (sq bw q) (sq bw k) (sq bw v) (sq bw g) true 256 16 (i 0) : EReal) := by
  refine Eq.trans ?_ (termD16 true (lg δ) (sq bw q) (sq bw k) (sq bw v) (sq bw g) 256)
  rw [← bgap16]
  rfl

theorem bA2 : val_main_v1036 (F := Ideal) (up q) (up k) (up v) (up g) (up δ) = fun i => (headA (lg δ) (sq bw q) (sq bw k) (sq bw v) (sq bw g) 0 2 (i 0) : EReal) := by
  refine Eq.trans ?_ (termA2 (lg δ) (sq bw q) (sq bw k) (sq bw v) (sq bw g) 0)
  rw [← bposqC, ← wq71, ← bstack2, ← k286 q, ← k286 g]
  rfl

theorem bB2 : val_main_v1060 (F := Ideal) (up q) (up k) (up v) (up g) (up δ) = fun i => (headB (lg δ) (sq bw q) (sq bw k) (sq bw v) (sq bw g) 0 2 (i 0) : EReal) := by
  refine Eq.trans ?_ (termB2 (lg δ) (sq bw q) (sq bw k) (sq bw v) (sq bw g) _ _ _ _ (bback q g δ) (bU15 q g δ) (zero4 _ _ _) (bst0 k v δ))
  rw [← cd49]
  rfl

theorem bC2 : val_main_v1073 (F := Ideal) (up q) (up k) (up v) (up g) (up δ) = fun i => (headC (lg δ) (sq bw q) (sq bw k) (sq bw v) (sq bw g) 0 2 (i 0) : EReal) := by
  refine Eq.trans ?_ (termC2 (lg δ) (sq bw q) (sq bw k) (sq bw v) (sq bw g) 0)
  rw [← bposkC, ← wk42, ← bpair, ← k286 k, ← k286 v]
  rfl

theorem bgap2 : val_main_v1084 (F := Ideal) (up q) (up k) (up v) (up g) (up δ) = gapA true (lg δ) (owed2 (sq bw q) (sq bw k) (sq bw v) (sq bw g) 0) := by
  have hX : val_main_v1080 (F := Ideal) (up q) (up k) (up v) (up g) = fun i => (owed2 (sq bw q) (sq bw k) (sq bw v) (sq bw g) 0 (i 0) (i 1) (i 2) : EReal) := by
    rw [← owed2_read, ← k286 q, ← k286 k, ← k286 v, ← k286 g]
    rfl
  revert hX
  generalize owed2 (sq bw q) (sq bw k) (sq bw v) (sq bw g) 0 = X
  intro hX
  funext i
  pointwise [hX, blg, val_main_v1084, val_main_v1083, val_main_v565, val_main_v564, val_main_v559, val_main_v557, val_main_v555, val_main_v554, val_main_v558, val_main_v556, val_main_v563, val_main_cst_77, val_main_v1082, val_main_v1081, val_main_v571_1, val_main_v562, val_main_v561, val_main_v560, val_main_cst_76, val_main_call20_v0, val_main_call20_cst, val_main_v570, val_main_v569, val_main_v567, val_main_v568, val_main_v566]
  have h1 : (i 1).val < 128 := (i 1).isLt
  have h2 : (i 2).val < 128 := (i 2).isLt
  exact gap_ogt _ _ _ _ h1 h2

theorem bD2 : val_main_v1087 (F := Ideal) (up q) (up k) (up v) (up g) (up δ) = fun i => (headD (lg δ) (sq bw q) (sq bw k) (sq bw v) (sq bw g) true 0 2 (i 0) : EReal) := by
  refine Eq.trans ?_ (termD2 true (lg δ) (sq bw q) (sq bw k) (sq bw v) (sq bw g) 0)
  rw [← bgap2]
  rfl

/-- The reference's gradient by the logarithm of the backward decay is the derivative against the whole scan. -/
theorem bsum : val_main_v1088 (F := Ideal) (up q) (up k) (up v) (up g) (up δ) = fun i => (headT (lg δ) (sq bw q) (sq bw k) (sq bw v) (sq bw g) true (i 0) : EReal) :=
  Eq.trans rfl (parts_read (lg δ) (sq bw q) (sq bw k) (sq bw v) (sq bw g) true _ _ _ _ _ _ _ _ (bA16 q k v g δ) (bB16 q k v g δ) (bC16 q k v g δ) (bD16 q k v g δ)
    (bA2 q k v g δ) (bB2 q k v g δ) (bC2 q k v g δ) (bD2 q k v g δ))

end Cert.Reference5Ideal.Chunks
-- ==== Proof.RetRef5End.lean ====
/- The reference's gradient by the two decays over the reals, as one array. -/
module

public import proofs.«01_k».proof.Proof.RetRef5
public import proofs.«01_k».proof.Proof.RetRef5Back
public import proofs.«01_k».proof.Proof.RetentionFinal5

@[expose] public section

set_option maxRecDepth 16384

noncomputable section

namespace Cert.Reference5Ideal.Chunks

open Cert.Reference5Ideal Cert.Reference5Ideal.Gen Idealize.ShloMosaic Idealize.ShloMosaic.TcCoe Idealize.SL.Sem Idealize.ShloMosaic.StableHlo
open Cert.Reference5Ideal.Read
open Step.Retention Step
open Cert.KernelIdeal.Value (hd)
open Cert.ReferenceIdeal.Chunks (Seqs up sq lg lsg0)
open Cert.Kernel5Ideal.Value (dlsg tileR ddec)

variable (q k v g : S2x2304x512.Idx → ℝ) (δ δ' : S4.Idx → ℝ)

theorem exp_lsg (x : ℝ) : Real.exp (-x + lsg x) = dlsg x := by
  unfold lsg dlsg
  rw [← add_sub_assoc, Real.exp_sub, Real.exp_log (by positivity), div_eq_div_iff (by positivity) (by positivity), one_mul]
  rcases le_total x 0 with h | h
  · rw [min_eq_left h, abs_of_nonpos h]; simp
  · rw [min_eq_right h, abs_of_nonneg h, add_zero, mul_add, ← Real.exp_add]; simp [add_comm]

/-- The softplus the forward pass has computed. -/
theorem soft : val_main_call0_v1_0 (F := Ideal) (up δ) = fun i => ((-(lg δ (i 0)) : ℝ) : EReal) := by
  funext i
  have e : -(val_main_call0_v1_0 (F := Ideal) (up δ) i) = (lg δ (i 0) : EReal) := congrFun (lsg0 δ) i
  rw [EReal.coe_neg, ← e, neg_neg]

theorem dl : val_main_v0_1 (F := Ideal) (up δ) = fun i => (dlsg (δ (ix1 (i 0))) : EReal) := by
  funext i
  pointwise [soft, val_main_v0_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_v0, val_main_call0_call0_cst_3, val_main_call0_call0_cst_2, val_main_call0_call0_cst_1, val_main_call0_call0_cst_0]
  have inf : Ideal.ofBits FTy.f32 2139095040#32 = ⊤ := by simp [Ideal.ofBits, Ideal.ieee]
  have ix : i = ix1 (i 0) := by
    funext a
    rw [show a = 0 from Subsingleton.elim _ _]; rfl
  rw [inf, if_neg (EReal.coe_ne_top _), show -up δ i = ((-(δ i) : ℝ) : EReal) from (EReal.coe_neg _).symm, if_neg (EReal.coe_ne_top _), ← EReal.coe_sub, ← coe_exp]
  refine congrArg Real.toEReal ?_
  rw [sub_neg_eq_add]
  exact (congrArg (fun j => Real.exp (-(δ j) + lg δ (i 0))) ix).trans ((exp_lsg _).trans (congrArg (fun j => dlsg (δ j)) ix.symm))

/-- Row 0 holds the forward decay's gradient, row 1 the backward decay's, the others nothing. -/
theorem row_eq (t t' δ δ' : ℝ) (A B A' B' : ℝ) (ht : t = A + B) (ht' : t' = A' + B') (r : ℕ) :
    (if r < 1 then -(-(t : EReal) * (dlsg δ : EReal)) else if r - 1 < 1 then -(-(t' : EReal) * (dlsg δ' : EReal)) else 0)
      = ((((if r = 0 then A * dlsg δ else 0) + (if r = 1 then A' * dlsg δ' else 0))
        + ((if r = 0 then B * dlsg δ else 0) + (if r = 1 then B' * dlsg δ' else 0)) : ℝ) : EReal) := by
  subst ht ht'
  rcases r with _ | _ | r
  · rw [if_pos (by omega), EReal.neg_mul, neg_neg, ← EReal.coe_mul]
    refine congrArg Real.toEReal ?_
    simp
    ring
  · rw [if_neg (by omega), if_pos (by omega), EReal.neg_mul, neg_neg, ← EReal.coe_mul]
    refine congrArg Real.toEReal ?_
    simp
    ring
  · rw [if_neg (by omega), if_neg (by omega)]
    simp

theorem top : val_main_v1095 (F := Ideal) (up q) (up k) (up v) (up g) (up δ) (up δ') = fun i => (ddec q k v g δ δ' i : EReal) := by
  funext i
  pointwise [fsum, bsum, dl, show val_main_v540_1 (F := Ideal) (up δ') = _ from dl δ', val_main_v1095, val_main_v1094, val_main_v1093, val_main_v1092, val_main_v1091, val_main_v1090, val_main_v1089, val_main_v539, val_main_call21_v1, val_main_call21_v0, val_main_call5_v1, val_main_call5_v0, val_main_cst_151]
  exact row_eq _ _ _ _ _ _ _ _ (Fin.sum_univ_two _) (Fin.sum_univ_two _) (i 1).val

end Cert.Reference5Ideal.Chunks
-- ==== Proof.DdecayClaim.lean ====
/- The claim about the decays' gradient: the kernel and the reference end with equal arrays. -/
module

public import proofs.«01_k».proof.Proof.RetentionFinal5
public import proofs.«01_k».proof.Proof.RetRef5End
public import proofs.«01_k».proof.Proof.Finite
public import proofs.«01_k».proof.Proof.Gen.Reference5Ideal.Run
public import proofs.«01_k».proof.Defs
public import proofs.«01_k».proof.Proof.Gen.Pre_finite5
public import Idealize.ShloMosaic.Lib.Claim

@[expose] public section

set_option maxRecDepth 16384

noncomputable section

namespace Cert.Kernel5Ideal.Value

open Cert.Kernel5Ideal Cert.Kernel5Ideal.Gen Idealize.ShloMosaic Idealize.ShloMosaic.TcCoe Idealize.SL.Sem

/-- What the precondition says: all arguments hold reals. -/
theorem reals (A0 A1 A2 A3 : FVec Ideal S2x2304x512 .f32) (A4 A5 : FVec Ideal S4 .f32)
    (h : Cert.Pre_finite5.fn (F := Ideal) A0 A1 A2 A3 A4 A5 = fun _ => 1#1) :
    (∃ q : S2x2304x512.Idx → ℝ, A0 = fun i => (q i : EReal)) ∧ (∃ k : S2x2304x512.Idx → ℝ, A1 = fun i => (k i : EReal))
      ∧ (∃ v : S2x2304x512.Idx → ℝ, A2 = fun i => (v i : EReal)) ∧ (∃ x : S2x2304x512.Idx → ℝ, A3 = fun i => (x i : EReal))
      ∧ (∃ d : S4.Idx → ℝ, A4 = fun i => (d i : EReal)) ∧ ∃ d : S4.Idx → ℝ, A5 = fun i => (d i : EReal) := by
  have e := congrFun h fun a => a.elim0
  simp only [Cert.Pre_finite5.fn, Cert.Pre_finite5.fn_part1] at e
  obtain ⟨e1, e2⟩ := IntOp.andi_eq_one.1 e
  obtain ⟨e3, e4⟩ := IntOp.andi_eq_one.1 e1
  obtain ⟨h1, h2⟩ := IntOp.andi_eq_one.1 e3
  obtain ⟨h3, h4⟩ := IntOp.andi_eq_one.1 e4
  obtain ⟨h5, h6⟩ := IntOp.andi_eq_one.1 e2
  exact ⟨Step.reals_of_all _ _ _ _ _ _ h1, Step.reals_of_all _ _ _ _ _ _ h2, Step.reals_of_all _ _ _ _ _ _ h3,
    Step.reals_of_all _ _ _ _ _ _ h4, Step.reals_of_all _ _ _ _ _ _ h5, Step.reals_of_all _ _ _ _ _ _ h6⟩

/-- From equal arguments with real entries both programs end with equal results. -/
theorem algebraic : Cert.algebraic_Kernel5Ideal_Reference5Ideal_pre_finite5 := by
  intro m g m' g' hpre hagree
  refine ⟨_, run_blocks m g, (θ_run _ _ _).mono (fun r h c => ?_) (Cert.Reference5Ideal.Value.run m' g')⟩
  obtain ⟨e0, e1, e2, e3, e4, e5⟩ := hagree c
  obtain ⟨r5, a0, a1, a2, a3, a4, a5⟩ := h c
  obtain ⟨⟨q, h0⟩, ⟨k, h1⟩, ⟨v, h2⟩, ⟨x, h3⟩, ⟨d, hd⟩, ⟨d', hd'⟩⟩ := reals _ _ _ _ _ _ (hpre c)
  refine ⟨r5.trans ?_, a0, a1, a2, a3, a4, a5⟩
  refine (Cert.Reference5Ideal.Read.val_main_v1095_eq (StableHlo.launchContents m' c)).trans ?_
  refine Eq.trans ?_ ((Cert.Reference5Ideal.Chunks.top q k v x d d').trans (final c m q k v x d d' h0 h1 h2 h3 hd hd').symm)
  exact congr (congr (congr (congr (congr (congrArg Cert.Reference5Ideal.Read.val_main_v1095 (e0.trans h0)) (e1.trans h1)) (e2.trans h2)) (e3.trans h3)) (e4.trans hd)) (e5.trans hd')

end Cert.Kernel5Ideal.Value
end
-- ==== Proof.ModKernel.lean ====
/- The modulation product's gradients as its kernel computes them: per block of columns one product with the activated conditions, and one running sum of products with the matrix. -/
module

public import proofs.«01_k».proof.Proof.Finite
public import Idealize.ShloMosaic.Lib.StableHlo.RunRead
public import proofs.«01_k».proof.Proof.Gen.Kernel6Ideal.Value

@[expose] public section

set_option maxRecDepth 65536

noncomputable section

namespace Cert.Kernel6Ideal.Value

open Cert.Kernel6Ideal Cert.Kernel6Ideal.Gen Idealize.ShloMosaic Idealize.ShloMosaic.TcCoe Idealize.SL.Sem

/-- The conditions' rows: sixteen examples, the context twice, six rows of padding. -/
def rows (x : FVec Ideal S16x1024 .f32) (y : FVec Ideal S1024 .f32) (r : Fin 24) (k : Fin 1024) : Ideal .f32 :=
  if h : r.val < 16 then x (ix2 ⟨r.val, h⟩ k) else if r.val < 18 then y (ix1 k) else 0

/-- The cotangents' rows, in the same order. -/
def cots (x : FVec Ideal S2x16x2304 .f32) (y : FVec Ideal S2x2x2304 .f32) (l : Fin 2) (r : Fin 24) (n : Fin 2304) : Ideal .f32 :=
  if h : r.val < 16 then x (ix3 l ⟨r.val, h⟩ n) else if h : r.val - 16 < 2 then y (ix3 l ⟨r.val - 16, h⟩ n) else 0

theorem hz3 : (![0, 0, 0] : Fin 3 → ℕ) = fun _ => 0 := by decide
theorem hz2 : (![0, 0] : Fin 2 → ℕ) = fun _ => 0 := by decide

variable (c : Dev nD) (i : grid0.Coords) (arg2 : Memref sig .tc .vmem S24x1024 .f32) (harg2 : arg2.IsWhole) (arg3 : Memref sig .tc .vmem S1x24x768 .f32) (harg3 : arg3.IsWhole)
  (arg4 : Memref sig .tc .vmem S1x1024x768 .f32) (harg4 : arg4.IsWhole) (arg5 : Memref sig .tc .vmem S1x1024x768 .f32) (harg5 : arg5.IsWhole) (arg6 : Memref sig .tc .vmem S24x1024 .f32) (harg6 : arg6.IsWhole)
  (x0 : Vec Ideal S24x1024 .f32) (x1 : Vec Ideal S1x24x768 .f32) (x2 : Vec Ideal S1x1024x768 .f32) (xo : Vec Ideal S24x1024 .f32)

theorem outA3 (hc0 : cond0_0 i) (hc1 : ¬cond0_1 i) : out0_A_3 c i arg2 harg2 arg3 harg3 arg4 harg4 arg5 harg5 arg6 harg6 hc0 hc1 x0 x1 x2 = k0_pay2 x0 x1 := by
  unfold out0_A_3
  rw [View.read_writes_eq_canon _ _ _ (cover0_A_3 c i arg2 harg2 arg3 harg3 arg4 harg4 arg5 harg5 arg6 harg6 hc0 hc1 _ _ _)]
  unfold kernelRun0_A
  dsimp only
  rw [View.canon_unit_zero (S := S1x1024x768) hz3]
  simp only [View.readAt_eq_ld, harg2.read_unread, harg3.read_unread, View.ld_unit_zero (S := S24x1024) hz2, View.ld_unit_zero (S := S1x24x768) hz3]

theorem outB3 (hc0 : ¬cond0_0 i) (hc1 : cond0_1 i) : out0_B_3 c i arg2 harg2 arg3 harg3 arg4 harg4 arg5 harg5 arg6 harg6 hc0 hc1 x0 x1 x2 xo = k0_pay2 x0 x1 := by
  unfold out0_B_3
  rw [View.read_writes_eq_canon _ _ _ (cover0_B_3 c i arg2 harg2 arg3 harg3 arg4 harg4 arg5 harg5 arg6 harg6 hc0 hc1 _ _ _ _)]
  unfold kernelRun0_B
  dsimp only
  rw [View.canon_unit_zero (S := S1x1024x768) hz3]
  simp only [View.readAt_eq_ld, harg2.read_unread, harg3.read_unread, View.ld_unit_zero (S := S24x1024) hz2, View.ld_unit_zero (S := S1x24x768) hz3]

theorem outA4 (hc0 : cond0_0 i) (hc1 : ¬cond0_1 i) : out0_A_4 c i arg2 harg2 arg3 harg3 arg4 harg4 arg5 harg5 arg6 harg6 hc0 hc1 x0 x1 x2 = k0_pay3 x1 x2 := by
  unfold out0_A_4
  rw [View.read_writes_eq_canon _ _ _ (cover0_A_4 c i arg2 harg2 arg3 harg3 arg4 harg4 arg5 harg5 arg6 harg6 hc0 hc1 _ _ _)]
  unfold kernelRun0_A
  dsimp only
  rw [View.canon_unit_zero (S := S24x1024) hz2]
  simp only [View.readAt_eq_ld, harg4.read_unread, harg3.read_unread, View.ld_unit_zero (S := S1x1024x768) hz3, View.ld_unit_zero (S := S1x24x768) hz3]

theorem outB4 (hc0 : ¬cond0_0 i) (hc1 : cond0_1 i) (y : S24x1024.Idx) :
    out0_B_4 c i arg2 harg2 arg3 harg3 arg4 harg4 arg5 harg5 arg6 harg6 hc0 hc1 x0 x1 x2 xo y = (xo y + k0_pay3 x1 x2 y : EReal) := by
  unfold out0_B_4
  rw [View.read_writes_eq_canon _ _ _ (cover0_B_4 c i arg2 harg2 arg3 harg3 arg4 harg4 arg5 harg5 arg6 harg6 hc0 hc1 _ _ _ _)]
  unfold kernelRun0_B
  dsimp only
  rw [View.canon_unit_zero (S := S24x1024) hz2]
  simp only [View.readAt_eq_ld, harg4.read_unread, harg3.read_unread, harg6.read_unread, View.ld_unit_zero (S := S24x1024) hz2, View.ld_unit_zero (S := S1x1024x768) hz3, View.ld_unit_zero (S := S1x24x768) hz3]
  unfold k0_pay4
  pointwise

theorem pay2_apply (y : S1x1024x768.Idx) : k0_pay2 x0 x1 y
    = ∑ r : Fin 24, (x0 (ix2 r (y 1)) * Ideal.logistic (x0 (ix2 r (y 1)))) * x1 (ix3 0 r (y 2)) := by
  pointwise [k0_pay2, k0_pay1]

theorem pay3_apply (y : S24x1024.Idx) : k0_pay3 x1 x2 y = ∑ k : Fin 768, x1 (ix3 0 (y 0) k) * x2 (ix3 0 (y 1) k) := by
  pointwise [k0_pay3, k0_pay1]

variable (m : (ℓ : Loc nD τ sig) → Buf (Elt Ideal) ℓ)

theorem idx : ∀ t : Fin cfg0.N, win0_0.index t = ![0, 0] ∧ win0_1.index t = ![t.val / 3, 0, t.val % 3]
    ∧ win0_2.index t = ![t.val / 3, 0, t.val % 3] ∧ win0_3.index t = ![t.val / 3, 0, t.val % 3] ∧ win0_4.index t = ![0, 0] :=
  (by decide +kernel : ∀ t : Fin grid0.N, _)

theorem lt6 (t : Fin cfg0.N) : t.val < 6 := lt_of_lt_of_eq t.isLt N_0

abbrev tl (t : Fin cfg0.N) : Fin 2 := ⟨t.val / 3, by have := lt6 t; omega⟩
abbrev tn (t : Fin cfg0.N) (k : Fin 768) : Fin 2304 := ⟨768 * (t.val % 3) + k.val, by omega⟩

variable (C : FVec Ideal S16x1024 .f32) (Y : FVec Ideal S1024 .f32) (X : FVec Ideal S2x16x2304 .f32) (Z : FVec Ideal S2x2x2304 .f32) (W : FVec Ideal S2x1024x2304 .f32)
  (h0 : m ((c : Thread nD τ).loc main_arg0) = C) (h1 : m ((c : Thread nD τ).loc main_arg1) = Y) (h2 : m ((c : Thread nD τ).loc main_arg2) = X)
  (h3 : m ((c : Thread nD τ).loc main_arg3) = Z) (h4 : m ((c : Thread nD τ).loc main_arg4) = W)

abbrev rowBlk : Vec Ideal S24x1024 .f32 := fun j => rows C Y (j 0) (j 1)

include h2 h3 in
theorem entryD : (V m c main_v5 : FVec Ideal S2x24x2304 .f32) = concatenate S2x24x2304 1 [⟨S2x16x2304, X⟩, ⟨S2x2x2304, Z⟩,
    ⟨S2x6x2304, broadcastInDim S2x6x2304 ![] bcast_S_S2x6x2304 (constant S_ .f32 0x00000000#32 : FVec Ideal S_ .f32)⟩] concatenates_S2x16x2304_S2x2x2304_S2x6x2304_S2x24x2304_d1 := by
  have e2 : StableHlo.upto (hostOps0 (F := Ideal)) (fun b => m (c, b)) 7 (Proc.devRef .tc main_arg2) = X :=
    (StableHlo.upto_unwritten [main_v0, main_v1, main_cst, main_v2, main_v3, main_cst_0, main_v4] rfl (by decide) _).trans h2
  have e3 : StableHlo.upto (hostOps0 (F := Ideal)) (fun b => m (c, b)) 7 (Proc.devRef .tc main_arg3) = Z :=
    (StableHlo.upto_unwritten [main_v0, main_v1, main_cst, main_v2, main_v3, main_cst_0, main_v4] rfl (by decide) _).trans h3
  have e4 : StableHlo.upto (hostOps0 (F := Ideal)) (fun b => m (c, b)) 7 (Proc.devRef .tc main_v4)
      = broadcastInDim S2x6x2304 ![] bcast_S_S2x6x2304 (constant S_ .f32 0x00000000#32 : FVec Ideal S_ .f32) := by
    refine (StableHlo.upto_last_write (i := 6) [] rfl rfl (by decide) _).trans ((StableHlo.unary_result' ..).trans ?_)
    refine congrArg _ ?_
    exact (StableHlo.upto_last_write (i := 5) [] rfl rfl (by decide) _).trans (StableHlo.nullary_result' ..)
  refine (StableHlo.after_last_write (i := 7) [] rfl rfl (by decide) _).trans ((StableHlo.nary_result' ..).trans ?_)
  rw [← e2, ← e3, ← e4]
  rfl

include h0 h1 in
theorem entryC : (V m c main_v3 : FVec Ideal S24x1024 .f32) = concatenate S24x1024 0 [⟨S16x1024, C⟩, ⟨S1x1024, broadcastInDim S1x1024 ![1] bcast_S1024_S1x1024_1 Y⟩,
    ⟨S1x1024, broadcastInDim S1x1024 ![1] bcast_S1024_S1x1024_1 Y⟩, ⟨S6x1024, broadcastInDim S6x1024 ![] bcast_S_S6x1024 (constant S_ .f32 0x00000000#32 : FVec Ideal S_ .f32)⟩]
    concatenates_S16x1024_S1x1024_S1x1024_S6x1024_S24x1024_d0 := by
  have e0 : StableHlo.upto (hostOps0 (F := Ideal)) (fun b => m (c, b)) 4 (Proc.devRef .tc main_arg0) = C :=
    (StableHlo.upto_unwritten [main_v0, main_v1, main_cst, main_v2] rfl (by decide) _).trans h0
  have e1 : StableHlo.upto (hostOps0 (F := Ideal)) (fun b => m (c, b)) 4 (Proc.devRef .tc main_v0) = broadcastInDim S1x1024 ![1] bcast_S1024_S1x1024_1 Y := by
    refine (StableHlo.upto_last_write (i := 0) [main_v1, main_cst, main_v2] rfl rfl (by decide) _).trans ((StableHlo.unary_result' ..).trans ?_)
    exact congrArg _ h1
  have e2 : StableHlo.upto (hostOps0 (F := Ideal)) (fun b => m (c, b)) 4 (Proc.devRef .tc main_v1) = broadcastInDim S1x1024 ![1] bcast_S1024_S1x1024_1 Y := by
    refine (StableHlo.upto_last_write (i := 1) [main_cst, main_v2] rfl rfl (by decide) _).trans ((StableHlo.unary_result' ..).trans ?_)
    exact congrArg _ ((StableHlo.upto_unwritten [main_v0] rfl (by decide) _).trans h1)
  have e4 : StableHlo.upto (hostOps0 (F := Ideal)) (fun b => m (c, b)) 4 (Proc.devRef .tc main_v2)
      = broadcastInDim S6x1024 ![] bcast_S_S6x1024 (constant S_ .f32 0x00000000#32 : FVec Ideal S_ .f32) := by
    refine (StableHlo.upto_last_write (i := 3) [] rfl rfl (by decide) _).trans ((StableHlo.unary_result' ..).trans ?_)
    refine congrArg _ ?_
    exact (StableHlo.upto_last_write (i := 2) [] rfl rfl (by decide) _).trans (StableHlo.nullary_result' ..)
  refine (StableHlo.after_last_write (i := 4) [main_cst_0, main_v4, main_v5] rfl rfl (by decide) _).trans ((StableHlo.nary_result' ..).trans ?_)
  refine Eq.trans (b := concatenate S24x1024 0 [⟨S16x1024, StableHlo.upto (hostOps0 (F := Ideal)) (fun b => m (c, b)) 4 (Proc.devRef .tc main_arg0)⟩,
    ⟨S1x1024, StableHlo.upto (hostOps0 (F := Ideal)) (fun b => m (c, b)) 4 (Proc.devRef .tc main_v0)⟩, ⟨S1x1024, StableHlo.upto (hostOps0 (F := Ideal)) (fun b => m (c, b)) 4 (Proc.devRef .tc main_v1)⟩,
    ⟨S6x1024, StableHlo.upto (hostOps0 (F := Ideal)) (fun b => m (c, b)) 4 (Proc.devRef .tc main_v2)⟩] concatenates_S16x1024_S1x1024_S1x1024_S6x1024_S24x1024_d0) rfl ?_
  rw [e0, e1, e2, e4]

theorem rows_eq (j : S24x1024.Idx) : concatenate S24x1024 0 [⟨S16x1024, C⟩, ⟨S1x1024, broadcastInDim S1x1024 ![1] bcast_S1024_S1x1024_1 Y⟩,
    ⟨S1x1024, broadcastInDim S1x1024 ![1] bcast_S1024_S1x1024_1 Y⟩, ⟨S6x1024, broadcastInDim S6x1024 ![] bcast_S_S6x1024 (constant S_ .f32 0x00000000#32 : FVec Ideal S_ .f32)⟩]
    concatenates_S16x1024_S1x1024_S1x1024_S6x1024_S24x1024_d0 j = rows C Y (j 0) (j 1) := by
  pointwise
  unfold rows
  have hr : (j 0).val < 24 := (j 0).isLt
  split_ifs <;> first | rfl | omega

theorem cots_eq (j : S2x24x2304.Idx) : concatenate S2x24x2304 1 [⟨S2x16x2304, X⟩, ⟨S2x2x2304, Z⟩,
    ⟨S2x6x2304, broadcastInDim S2x6x2304 ![] bcast_S_S2x6x2304 (constant S_ .f32 0x00000000#32 : FVec Ideal S_ .f32)⟩] concatenates_S2x16x2304_S2x2x2304_S2x6x2304_S2x24x2304_d1 j
    = cots X Z (j 0) (j 1) (j 2) := by
  pointwise
  rfl

include h0 h1 in
theorem blk0 (t : Fin cfg0.N) : iblk m c 0 t = rowBlk C Y := by
  funext j
  refine Eq.trans (b := (V m c main_v3 : FVec Ideal S24x1024 .f32) j) ?_ ((congrFun (entryC c m C Y h0 h1) j).trans (rows_eq C Y j))
  blk_point [iblk, V, idx t]

def cotBlk (t : Fin cfg0.N) : Vec Ideal S1x24x768 .f32 := fun j => cots X Z (tl t) (j 1) (tn t (j 2))
def matBlk (t : Fin cfg0.N) : Vec Ideal S1x1024x768 .f32 := fun j => W (ix3 (tl t) (j 1) (tn t (j 2)))

include h2 h3 in
theorem blk1 (t : Fin cfg0.N) : iblk m c 1 t = cotBlk X Z t := by
  funext j
  refine Eq.trans (b := (V m c main_v5 : FVec Ideal S2x24x2304 .f32) (ix3 (tl t) (j 1) (tn t (j 2)))) ?_ ((congrFun (entryD c m X Z h2 h3) _).trans (cots_eq X Z _))
  blk_point [iblk, V, idx t]

include h4 in
theorem blk2 (t : Fin cfg0.N) : iblk m c 2 t = matBlk W t := by
  funext j
  refine Eq.trans (b := m ((c : Thread nD τ).loc main_arg4) (ix3 (tl t) (j 1) (tn t (j 2)))) ?_ (by rw [h4]; rfl)
  blk_point [iblk, V, idx t]

/-- The first result: a layer's conditions, activated, by its cotangents. -/
def dw (i : S2x1024x2304.Idx) : Ideal .f32 :=
  ∑ r : Fin 24, (rows C Y r (i 1) * Ideal.logistic (rows C Y r (i 1))) * cots X Z (i 0) r (i 2)

/-- What one block of columns adds to the second result. -/
def part (t : ℕ) (y : S24x1024.Idx) : Ideal .f32 :=
  if h : t < 6 then k0_pay3 (cotBlk X Z ⟨t, lt_of_lt_of_eq h N_0.symm⟩) (matBlk W ⟨t, lt_of_lt_of_eq h N_0.symm⟩) y else 0

/-- The second result. -/
def dsc (y : S24x1024.Idx) : Ideal .f32 := ∑ l : Fin 2, ∑ n : Fin 2304, cots X Z l (y 0) n * W (ix3 l (y 1) n)

include h0 h1 h2 h3 h4

omit h0 h1 h2 h3 h4 in
theorem first3 (t : Fin cfg0.N) (e : t.val % 6 = 0) (f : ¬1 ≤ t.val) : (outsAt0 m c t.val t.isLt).1 = k0_pay2 (iblk m c 0 t) (iblk m c 1 t) := by
  rw [outsAt0_A m c t e f]
  dsimp only
  exact outA3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr e) (fun h => f ((hcond0_1 t).mp h))

omit h0 h1 h2 h3 h4 in
theorem later3 (t : Fin cfg0.N) (e : ¬t.val % 6 = 0) (f : 1 ≤ t.val) : (outsAt0 m c t.val t.isLt).1 = k0_pay2 (iblk m c 0 t) (iblk m c 1 t) := by
  rw [outsAt0_B m c t e f]
  dsimp only
  exact outB3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) _ (fun h => e ((hcond0_0 t).mp h)) ((hcond0_1 t).mpr f)

omit h0 h1 h2 h3 h4 in
theorem first4 (t : Fin cfg0.N) (e : t.val % 6 = 0) (f : ¬1 ≤ t.val) : (outsAt0 m c t.val t.isLt).2 = k0_pay3 (iblk m c 1 t) (iblk m c 2 t) := by
  rw [outsAt0_A m c t e f]
  dsimp only
  exact outA4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) ((hcond0_0 t).mpr e) (fun h => f ((hcond0_1 t).mp h))

omit h0 h1 h2 h3 h4 in
theorem later4 (t : Fin cfg0.N) (e : ¬t.val % 6 = 0) (f : 1 ≤ t.val) (y : S24x1024.Idx) : (outsAt0 m c t.val t.isLt).2 y
    = ((outsAt0 m c (t.val - 1) (Nat.lt_of_le_of_lt (Nat.sub_le _ _) t.isLt)).2 y + k0_pay3 (iblk m c 1 t) (iblk m c 2 t) y : EReal) := by
  rw [outsAt0_B m c t e f]
  dsimp only
  exact outB4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) _ (fun h => e ((hcond0_0 t).mp h)) ((hcond0_1 t).mpr f) y

theorem at3 (t : Fin cfg0.N) : (outsAt0 m c t.val t.isLt).1 = k0_pay2 (rowBlk C Y) (cotBlk X Z t) := by
  have hl := lt6 t
  rw [← blk0 c m C Y h0 h1 t, ← blk1 c m X Z h2 h3 t]
  rcases Nat.eq_zero_or_pos t.val with e | e
  · have e1 : t.val % 6 = 0 := by omega
    have e2 : ¬1 ≤ t.val := by omega
    exact first3 c m t e1 e2
  · have e1 : ¬t.val % 6 = 0 := by omega
    exact later3 c m t e1 e

theorem at4 (t : ℕ) (ht : t < cfg0.N) (y : S24x1024.Idx) : (outsAt0 m c t ht).2 y = ∑ s ∈ Finset.range (t + 1), part X Z W s y := by
  induction t with
  | zero =>
    refine (congrFun (first4 c m ⟨0, ht⟩ rfl (by show ¬1 ≤ 0; omega)) y).trans ?_
    rw [blk1 c m X Z h2 h3, blk2 c m W h4]
    simp [part]
  | succ t ih =>
    have hl : t + 1 < 6 := lt6 ⟨t + 1, ht⟩
    have hm : ¬(t + 1) % 6 = 0 := by omega
    rw [Finset.sum_range_succ, ← ih (by omega)]
    refine (later4 c m ⟨t + 1, ht⟩ hm (by show 1 ≤ t + 1; omega) y).trans ?_
    rw [blk1 c m X Z h2 h3, blk2 c m W h4]
    refine congrArg₂ (· + ·) rfl ?_
    unfold part
    rw [dif_pos hl]

omit h0 h1 h2 h3 h4 in
theorem part_eq (t : ℕ) (h : t < 6) (y : S24x1024.Idx) : part X Z W t y = ∑ k : Fin 768, cots X Z ⟨t / 3, by omega⟩ (y 0) ⟨768 * (t % 3) + k.val, by omega⟩
    * W (ix3 ⟨t / 3, by omega⟩ (y 1) ⟨768 * (t % 3) + k.val, by omega⟩) := by
  unfold part
  rw [dif_pos h, pay3_apply]
  rfl

omit h0 h1 h2 h3 h4 in
/-- The six blocks of columns, three to a layer, are all the columns of both layers. -/
theorem parts (y : S24x1024.Idx) : ∑ s ∈ Finset.range 6, part X Z W s y = dsc X Z W y := by
  have h3 (f : Fin 2304 → EReal) : ∑ n, f n = ∑ q : Fin 3, ∑ k : Fin 768, f ⟨768 * q.val + k.val, by omega⟩ := by
    rw [← Fintype.sum_prod_type', ← (finProdFinEquiv (m := 3) (n := 768)).sum_comp]
    refine Finset.sum_congr rfl fun p _ => congrArg f (Fin.ext ?_)
    simp [finProdFinEquiv, Nat.add_comm]
  unfold dsc
  simp only [h3, Fin.sum_univ_two, Fin.sum_univ_three]
  simp only [Finset.sum_range_succ, Finset.sum_range_zero, zero_add]
  rw [part_eq X Z W 0 (by omega), part_eq X Z W 1 (by omega), part_eq X Z W 2 (by omega), part_eq X Z W 3 (by omega), part_eq X Z W 4 (by omega), part_eq X Z W 5 (by omega)]
  simp only [add_assoc]
  rfl

theorem finalW : (dats m 0 c).arrAt 3 (cfgs 0).N = dw C Y X Z := by
  refine (dats m 0 c).arrAt_eq_of_covers 3 _ (by decide +kernel) fun t hf y => ?_
  blk_simp
  rw [after0_3, at3 c m C Y X Z W h0 h1 h2 h3 h4 t, pay2_apply]
  refine congrArg (dw C Y X Z) (a₁ := ix3 (tl t) (y 1) (tn t (y 2))) ?_
  funext k
  fin_cases k <;> refine Fin.ext ?_ <;> blk_simp <;> simp [(idx t).2.2.2.1, mul_comm]

theorem finalS : (dats m 0 c).arrAt 4 (cfgs 0).N = dsc X Z W := by
  refine (dats m 0 c).arrAt_eq_of_covers 4 _ (by decide +kernel) fun t hf y => ?_
  blk_simp
  rw [after0_4]
  have hl := lt6 t
  have e : t.val = 5 := by have := (flush0_4 t).mp hf; omega
  rw [at4 c m C Y X Z W h0 h1 h2 h3 h4 t.val t.isLt, e]
  refine (parts X Z W y).trans (congrArg (dsc X Z W) ?_)
  funext k
  fin_cases k <;> refine Fin.ext ?_ <;> blk_simp <;> simp [(idx t).2.2.2.2, mul_comm]

end Cert.Kernel6Ideal.Value
end
-- ==== Proof.ModRef.lean ====
/- The reference's gradients of the modulation product, read entry by entry: sums over the eighteen rows, which the six rows of padding do not change. -/
module

public import proofs.«01_k».proof.Proof.ModKernel
public import Idealize.ShloMosaic.Lib.KernelVsHost
public import proofs.«01_k».proof.Proof.Gen.Reference6Ideal.Read

@[expose] public section

set_option maxRecDepth 65536

noncomputable section

namespace Cert.Reference6Ideal.Rows

open Cert.Reference6Ideal Cert.Reference6Ideal.Gen Cert.Reference6Ideal.Read Idealize.ShloMosaic Cert.Kernel6Ideal.Value

variable (C : FVec Ideal S16x1024 .f32) (Y : FVec Ideal S1024 .f32) (X : FVec Ideal S2x16x2304 .f32) (Z : FVec Ideal S2x2x2304 .f32) (W : FVec Ideal S2x1024x2304 .f32)

theorem one_bits : (Scalar.ofBits (F := Ideal) .f32 1065353216#32 : EReal) = 1 := by
  simp [Scalar.ofBits, Ideal.ofBits, Ideal.ieee]
  norm_cast
  norm_num

theorem zero_bits : (FloatOps.ofBits (F := Ideal) .f32 0#32 : EReal) = 0 := by
  change Ideal.ofBits .f32 0#32 = 0
  simp [Ideal.ofBits, Ideal.ieee]

/-- The eighteen rows are the first of the twenty-four. -/
theorem rows18 (i : S18x1024.Idx) : val_main_v2 (F := Ideal) C Y i = rows C Y ⟨(i 0).val, by have : (i 0).val < 18 := (i 0).isLt; omega⟩ (i 1) := by
  have hi : (i 0).val < 18 := (i 0).isLt
  unfold val_main_v2 val_main_v0 val_main_v1 rows
  pointwise
  by_cases h : (i 0).val < 16
  · simp [h]
  · simp [h, hi]

theorem cots18 (i : S2x18x2304.Idx) : val_main_v13 (F := Ideal) X Z i = cots X Z (i 0) ⟨(i 1).val, by have : (i 1).val < 18 := (i 1).isLt; omega⟩ (i 2) := by
  have hi : (i 1).val - 16 < 2 := by have : (i 1).val < 18 := (i 1).isLt; omega
  unfold val_main_v13 cots
  pointwise
  simp [hi]

theorem silu18 (i : S18x1024.Idx) : val_main_v3 (F := Ideal) C Y i = val_main_v2 (F := Ideal) C Y i * Ideal.logistic (val_main_v2 (F := Ideal) C Y i) := by
  rw [val_main_v3_apply]
  refine congrArg (fun z : EReal => val_main_v2 (F := Ideal) C Y i * z) ?_
  rw [val_main_call0_v5_apply, val_main_call0_v4_apply, val_main_call0_v3_apply, val_main_call0_v2_apply, val_main_call0_v1_apply, val_main_call0_v0_apply]
  change Ideal.div (Scalar.ofBits (F := Ideal) .f32 1065353216#32 : EReal) ((Scalar.ofBits (F := Ideal) .f32 1065353216#32 : EReal) + Ideal.exp (-(val_main_v2 (F := Ideal) C Y i : EReal))) = _
  rw [one_bits]
  rfl

/-- Rows eighteen to twenty-three hold zeros, and their terms vanish. -/
theorem sum24 (f : Fin 24 → EReal) (h : ∀ r : Fin 24, 18 ≤ r.val → f r = 0) : ∑ r, f r = ∑ r : Fin 18, f ⟨r.val, by omega⟩ := by
  refine (Fin.sum_univ_add (a := 18) (b := 6) f).trans ?_
  rw [Finset.sum_eq_zero (s := (Finset.univ : Finset (Fin 6))) (f := fun i => f (Fin.natAdd 18 i)) fun r _ => h _ (by simp), add_zero]
  rfl

theorem cot17 (i : S18x2304.Idx) : val_main_v17 (F := Ideal) X Z i = cots X Z 1 ⟨(i 0).val, by have : (i 0).val < 18 := (i 0).isLt; omega⟩ (i 1) := by
  refine Eq.trans ?_ (cots18 X Z (ix3 1 (i 0) (i 1)))
  pointwise [val_main_v17, val_main_v16]

theorem cot15 (i : S18x2304.Idx) : val_main_v15 (F := Ideal) X Z i = cots X Z 0 ⟨(i 0).val, by have : (i 0).val < 18 := (i 0).isLt; omega⟩ (i 1) := by
  refine Eq.trans ?_ (cots18 X Z (ix3 0 (i 0) (i 1)))
  pointwise [val_main_v15, val_main_v14]

theorem mat8 (i : S1024x2304.Idx) : val_main_v8 (F := Ideal) W i = W (ix3 1 (i 0) (i 1)) := by
  pointwise [val_main_v8, val_main_v7]

theorem mat5 (i : S1024x2304.Idx) : val_main_v5 (F := Ideal) W i = W (ix3 0 (i 0) (i 1)) := by
  pointwise [val_main_v5, val_main_v4]

theorem layer1 (i : S1024x2304.Idx) : val_main_v19 (F := Ideal) C Y X Z i = dw C Y X Z (ix3 1 (i 0) (i 1)) := by
  rw [val_main_v19_apply, val_main_v18_apply]
  unfold dw
  rw [sum24 _ fun r hr => ?_]
  · refine Finset.sum_congr rfl fun r _ => ?_
    rw [cot17, silu18, rows18, mul_comm]
    rfl
  · have h1 : ¬r.val < 16 := by omega
    have h2 : ¬r.val - 16 < 2 := by omega
    simp [cots, h1, h2]

theorem layer0 (i : S1024x2304.Idx) : val_main_v24 (F := Ideal) C Y X Z i = dw C Y X Z (ix3 0 (i 0) (i 1)) := by
  rw [val_main_v24_apply, val_main_v23_apply]
  unfold dw
  rw [sum24 _ fun r hr => ?_]
  · refine Finset.sum_congr rfl fun r _ => ?_
    rw [cot15, silu18, rows18, mul_comm]
    rfl
  · have h1 : ¬r.val < 16 := by omega
    have h2 : ¬r.val - 16 < 2 := by omega
    simp [cots, h1, h2]

theorem sum18 (i : S18x1024.Idx) : val_main_v26 (F := Ideal) X Z W i = dsc X Z W (ix2 ⟨(i 0).val, by have : (i 0).val < 18 := (i 0).isLt; omega⟩ (i 1)) := by
  rw [val_main_v26_apply]
  change (val_main_v20 (F := Ideal) X Z W i + val_main_v25 (F := Ideal) X Z W i : EReal) = _
  unfold dsc
  rw [val_main_v20_apply, val_main_v25_apply, Fin.sum_univ_two, add_comm]
  refine congrArg₂ (fun a b : EReal => a + b) (Finset.sum_congr rfl fun n _ => ?_) (Finset.sum_congr rfl fun n _ => ?_)
  · rw [cot15, mat5]
    rfl
  · rw [cot17, mat8]
    rfl

theorem zero0 (i : S_.Idx) : (val_main_cst (F := Ideal) i : EReal) = 0 := zero_bits
theorem zero1 (i : S_.Idx) : (val_main_cst_0 (F := Ideal) i : EReal) = 0 := zero_bits

theorem at22 (i : S2x1024x2304.Idx) (e : 1 ≤ (i 0).val) : val_main_v22 (F := Ideal) C Y X Z i = dw C Y X Z i := by
  have h2 : (i 0).val < 2 := (i 0).isLt
  unfold val_main_v22
  refine (pad_apply_of_inside _ _ _ _ _ _ _ i (ix3 0 (i 1) (i 2)) fun a => ?_).trans ?_
  · fin_cases a
    · show (i 0).val = 1 + 0 * (0 + 1); omega
    · show (i 1).val = 0 + (i 1).val * (0 + 1); omega
    · show (i 2).val = 0 + (i 2).val * (0 + 1); omega
  refine ((val_main_v21_apply (F := Ideal) C Y X Z _).trans (layer1 C Y X Z _)).trans ?_
  refine congrArg (dw C Y X Z) ?_
  funext a
  fin_cases a
  · exact Fin.ext (show 1 = (i 0).val by omega)
  · rfl
  · rfl

theorem off22 (i : S2x1024x2304.Idx) (e : ¬1 ≤ (i 0).val) : val_main_v22 (F := Ideal) C Y X Z i = (0 : EReal) := by
  unfold val_main_v22
  exact (pad_apply_of_not_inside _ _ _ _ _ _ _ i 0 fun h => absurd h.1 e).trans (zero0 _)

theorem at28 (i : S2x1024x2304.Idx) (e : ¬1 ≤ (i 0).val) : val_main_v28 (F := Ideal) C Y X Z i = dw C Y X Z i := by
  unfold val_main_v28
  refine (pad_apply_of_inside _ _ _ _ _ _ _ i (ix3 0 (i 1) (i 2)) fun a => ?_).trans ?_
  · fin_cases a
    · show (i 0).val = 0 + 0 * (0 + 1); omega
    · show (i 1).val = 0 + (i 1).val * (0 + 1); omega
    · show (i 2).val = 0 + (i 2).val * (0 + 1); omega
  refine ((val_main_v27_apply (F := Ideal) C Y X Z _).trans (layer0 C Y X Z _)).trans ?_
  refine congrArg (dw C Y X Z) ?_
  funext a
  fin_cases a
  · exact Fin.ext (show 0 = (i 0).val by omega)
  · rfl
  · rfl

theorem off28 (i : S2x1024x2304.Idx) (e : 1 ≤ (i 0).val) : val_main_v28 (F := Ideal) C Y X Z i = (0 : EReal) := by
  unfold val_main_v28
  refine (pad_apply_of_not_inside _ _ _ _ _ _ _ i 0 fun h => ?_).trans (zero1 _)
  have h3 : ((i 0).val - 0) / (0 + 1) < 1 := h.2.2
  simp at h3
  omega

/-- The matrix' gradient: each layer's product stands in its own half, zeros in the other. -/
theorem topW : val_main_v29 (F := Ideal) C Y X Z = dw C Y X Z := by
  funext i
  rw [val_main_v29_apply]
  change (val_main_v22 (F := Ideal) C Y X Z i + val_main_v28 (F := Ideal) C Y X Z i : EReal) = _
  by_cases e : 1 ≤ (i 0).val
  · rw [at22 C Y X Z i e, off28 C Y X Z i e, add_zero]
  · rw [off22 C Y X Z i e, at28 C Y X Z i e, zero_add]

theorem topS : val_main_v31 (F := Ideal) X Z W = dsc X Z W := by
  funext i
  unfold val_main_v31
  pointwise
  by_cases h : (i 0).val < 18
  · rw [dif_pos h, sum18]
    refine congrArg (dsc X Z W) ?_
    funext a
    fin_cases a <;> rfl
  · rw [dif_neg h]
    refine Eq.trans zero_bits ?_
    unfold dsc cots
    have h1 : ¬(i 0).val < 16 := by omega
    have h2 : ¬(i 0).val - 16 < 2 := by omega
    simp [h1, h2]

end Cert.Reference6Ideal.Rows
end
-- ==== Proof.ModClaim.lean ====
/- The claim about the modulation's gradients: the kernel and the reference end with equal arrays. -/
module

public import proofs.«01_k».proof.Proof.ModRef
public import proofs.«01_k».proof.Proof.Gen.Reference6Ideal.Run
public import proofs.«01_k».proof.Defs
public import Idealize.ShloMosaic.Lib.Claim

@[expose] public section

set_option maxRecDepth 16384

noncomputable section

namespace Cert.Kernel6Ideal.Value

open Cert.Kernel6Ideal Cert.Kernel6Ideal.Gen Idealize.ShloMosaic Idealize.ShloMosaic.TcCoe Idealize.SL.Sem

/-- From equal arguments both programs end with equal results. -/
theorem algebraic : Cert.algebraic_Kernel6Ideal_Reference6Ideal := by
  intro m g m' g' _ hagree
  refine ⟨_, _, run_blocks m g, (θ_run _ _ _).mono (fun r h c => ?_) (Cert.Reference6Ideal.Value.run m' g')⟩
  obtain ⟨e0, e1, e2, e3, e4⟩ := hagree c
  obtain ⟨r5, r6, a0, a1, a2, a3, a4⟩ := h c
  refine ⟨r5.trans ?_, r6.trans ?_, a0, a1, a2, a3, a4⟩
  · refine (Cert.Reference6Ideal.Read.val_main_v29_eq _ _ _ _).trans ?_
    exact (Cert.Reference6Ideal.Rows.topW _ _ _ _).trans (finalW c m _ _ _ _ _ e0.symm e1.symm e2.symm e3.symm e4.symm).symm
  · refine (Cert.Reference6Ideal.Read.val_main_v31_eq _ _ _).trans ?_
    exact (Cert.Reference6Ideal.Rows.topS _ _ _).trans (finalS c m _ _ _ _ _ e0.symm e1.symm e2.symm e3.symm e4.symm).symm

end Cert.Kernel6Ideal.Value
end
-- ==== Proof.HeadRow.lean ====
/- One row of the loss head: its root mean square, its error, and the gradients its error sends back; and sums over a grid of blocks of rows. -/
module

public import proofs.«01_k».proof.Proof.Finite

@[expose] public section

noncomputable section

namespace Step.Head

open Idealize.ShloMosaic

/-- The width, the small addend, minus one half, one half and the width's reciprocal, as the programs write them. -/
abbrev cD : EReal := Ideal.ofBits .f32 1149239296#32
abbrev cE : EReal := Ideal.ofBits .f32 897988541#32
abbrev cN : EReal := Ideal.ofBits .f32 3204448256#32
abbrev cH : EReal := Ideal.ofBits .f32 1056964608#32
abbrev cI : EReal := Ideal.ofBits .f32 981467136#32

theorem cD_eq : cD = ((1024 : ℝ) : EReal) := by
  simp [cD, Ideal.ofBits, Ideal.ieee]
  norm_cast
  norm_num

theorem cH_eq : cH = ((1 / 2 : ℝ) : EReal) := by
  simp [cH, Ideal.ofBits, Ideal.ieee]
  norm_cast
  norm_num

theorem cI_eq : cI = ((1 / 1024 : ℝ) : EReal) := by
  simp [cI, Ideal.ofBits, Ideal.ieee]
  norm_cast
  norm_num

variable (z t g : Fin 1024 → EReal)

def ms : EReal := Ideal.div (∑ k, z k * z k) cD + cE
def rs : EReal := Ideal.rsqrt (ms z)
def zn (k : Fin 1024) : EReal := z k * rs z
def err (k : Fin 1024) : EReal := zn z k * g k - t k
def ct (k : Fin 1024) : EReal := err z t g k * cI
def dy (k : Fin 1024) : EReal := ct z t g k * g k
def corr : EReal := Ideal.div ((∑ k, z k * dy z t g k) * (cN * Ideal.div (rs z) (ms z))) cD
def dz (k : Fin 1024) : EReal := (dy z t g k * rs z + z k * corr z t g) + corr z t g * z k
/-- A row's squared error, and its part of the gain's gradient. -/
def sq : EReal := ∑ k, err z t g k * err z t g k
def dg (k : Fin 1024) : EReal := zn z k * ct z t g k

theorem mul_self_nonneg' (x : EReal) : 0 ≤ x * x := by
  induction x with
  | bot => simp
  | top => simp
  | coe x => rw [← EReal.coe_mul]; exact_mod_cast mul_self_nonneg x

theorem sq_nonneg : 0 ≤ sq z t g := Finset.sum_nonneg fun _ _ => mul_self_nonneg' _

/-- A factor passes a sum of terms that are not negative. -/
theorem mul_sum_nonneg {ι : Type*} (s : Finset ι) (c : EReal) (f : ι → EReal) (h : ∀ i, 0 ≤ f i) : c * ∑ i ∈ s, f i = ∑ i ∈ s, c * f i := by
  classical
  induction s using Finset.induction_on with
  | empty => simp
  | insert a s ha ih =>
    rw [Finset.sum_insert ha, Finset.sum_insert ha, EReal.left_distrib_of_nonneg (h a) (Finset.sum_nonneg fun i _ => h i), ih]

/-- What the blocks of rows add: the first of nine carries none, the others 256 rows each. -/
def block (f : Fin 2 → Fin 2048 → EReal) (t : ℕ) : EReal :=
  if t % 9 = 0 then 0 else ∑ r : Fin 256, f ⟨t / 9 % 2, by omega⟩ ⟨(256 * (t % 9 - 1) + r.val) % 2048, by omega⟩

theorem block_zero (f : Fin 2 → Fin 2048 → EReal) (b : ℕ) : block f (9 * b + 0) = 0 := if_pos (by omega)

theorem block_succ (f : Fin 2 → Fin 2048 → EReal) (b : Fin 2) (q : Fin 8) :
    block f (9 * b.val + (q.val + 1)) = ∑ r : Fin 256, f b ⟨256 * q.val + r.val, by omega⟩ := by
  unfold block
  rw [if_neg (by omega)]
  refine Finset.sum_congr rfl fun r _ => congr (congrArg f (Fin.ext ?_)) (Fin.ext ?_)
  · show (9 * b.val + (q.val + 1)) / 9 % 2 = b.val; omega
  · show (256 * ((9 * b.val + (q.val + 1)) % 9 - 1) + r.val) % 2048 = 256 * q.val + r.val; omega

theorem rows2048 (f : Fin 2048 → EReal) : ∑ s, f s = ∑ q : Fin 8, ∑ r : Fin 256, f ⟨256 * q.val + r.val, by omega⟩ := by
  rw [← Fintype.sum_prod_type', ← (finProdFinEquiv (m := 8) (n := 256)).sum_comp]
  refine Finset.sum_congr rfl fun p _ => congrArg f (Fin.ext ?_)
  simp [finProdFinEquiv, Nat.add_comm]

/-- Together the blocks are all rows of both examples. -/
theorem blocks (f : Fin 2 → Fin 2048 → EReal) : ∑ t ∈ Finset.range 18, block f t = ∑ b : Fin 2, ∑ s : Fin 2048, f b s := by
  have h (b : Fin 2) : ∑ x ∈ Finset.range 9, block f (9 * b.val + x) = ∑ s : Fin 2048, f b s := by
    rw [Finset.sum_range_succ', block_zero, add_zero, Finset.sum_range, rows2048]
    exact Finset.sum_congr rfl fun q _ => block_succ f b q
  rw [show (18 : ℕ) = 9 + 9 from rfl, Finset.sum_range_add, Fin.sum_univ_two, ← h 0, ← h 1]
  simp

/-- Half the blocks' squared errors over the width, block by block or all at once. -/
theorem half_blocks (f : Fin 2 → Fin 2048 → EReal) (h : ∀ b s, 0 ≤ f b s) :
    ∑ t ∈ Finset.range 18, (cH * block f t) * cI = cH * ∑ b : Fin 2, ∑ s : Fin 2048, Ideal.div (f b s) cD := by
  have hb (t : ℕ) : 0 ≤ block f t := by
    unfold block
    split
    · exact le_rfl
    · exact Finset.sum_nonneg fun _ _ => h _ _
  have e1 : ∑ t ∈ Finset.range 18, (cH * block f t) * cI = (cH * cI) * ∑ t ∈ Finset.range 18, block f t := by
    rw [mul_sum_nonneg _ _ _ hb]
    exact Finset.sum_congr rfl fun t _ => mul_right_comm _ _ _
  have e2 (b : Fin 2) : ∑ s : Fin 2048, Ideal.div (f b s) cD = cI * ∑ s : Fin 2048, f b s := by
    rw [mul_sum_nonneg _ _ _ (h b)]
    refine Finset.sum_congr rfl fun s _ => ?_
    rw [cD_eq, Ideal.div_coe (by norm_num), ← cI_eq, mul_comm]
  rw [e1, blocks, mul_assoc, mul_sum_nonneg _ _ _ fun b => Finset.sum_nonneg fun s _ => h b s]
  simp only [e2]

/-- The two orders of scaling an error. -/
theorem scale (e : EReal) : Ideal.div (cH * Ideal.ofBits .f32 1065353216#32) cD * (Ideal.ofBits .f32 1073741824#32 * e) = e * cI := by
  have h1 : Ideal.ofBits .f32 1065353216#32 = ((1 : ℝ) : EReal) := by
    simp [Ideal.ofBits, Ideal.ieee]
    norm_cast
    norm_num
  have h2 : Ideal.ofBits .f32 1073741824#32 = ((2 : ℝ) : EReal) := by
    simp [Ideal.ofBits, Ideal.ieee]
    norm_cast
    norm_num
  rw [h1, h2, cD_eq, Ideal.div_coe (by norm_num), cI_eq, cH_eq, ← mul_assoc, mul_comm e]
  congr 1
  simp only [← EReal.coe_mul]
  norm_num

end Step.Head
end
-- ==== Proof.HeadKernel.lean ====
/- The loss head's gradients as its kernel computes them, block by block. -/
module

public import proofs.«01_k».proof.Proof.HeadRow
public import proofs.«01_k».proof.Proof.Gen.Kernel9Ideal.Value

@[expose] public section

set_option maxRecDepth 65536

noncomputable section

namespace Cert.Kernel9Ideal.Value

open Cert.Kernel9Ideal Cert.Kernel9Ideal.Gen Idealize.ShloMosaic Idealize.ShloMosaic.TcCoe Idealize.SL.Sem

theorem hz3 : (![0, 0, 0] : Fin 3 → ℕ) = fun _ => 0 := by decide
theorem hz2 : (![0, 0] : Fin 2 → ℕ) = fun _ => 0 := by decide

variable (x0 x1 : Vec Ideal S1x256x1024 .f32) (x2 : Vec Ideal S1x1024 .f32)

/-- A row of a block, and the gain. -/
def row (x : Vec Ideal S1x256x1024 .f32) (r : Fin 256) : Fin 1024 → EReal := fun k => x (ix3 0 r k)
def gain (x : Vec Ideal S1x1024 .f32) : Fin 1024 → EReal := fun k => x (ix2 0 k)

theorem p9 (y : S256x1.Idx) : k0_pay9 (F := Ideal) x0 y = Step.Head.ms (row x0 (y 0)) := by
  unfold Step.Head.ms row
  pointwise [k0_pay9, k0_pay7]
theorem p10 (y : S256x1.Idx) : k0_pay10 (F := Ideal) x0 y = Step.Head.rs (row x0 (y 0)) := by
  unfold Step.Head.rs
  rw [← p9]
  pointwise [k0_pay10]
theorem p11 (y : S256x1024.Idx) : k0_pay11 (F := Ideal) x0 y = Step.Head.zn (row x0 (y 0)) (y 1) := by
  refine Eq.trans (b := (x0 (ix3 0 (y 0) (y 1)) * k0_pay10 (F := Ideal) x0 (ix2 (y 0) 0) : EReal)) (by pointwise [k0_pay11, k0_pay7]) ?_
  rw [p10]
  rfl
theorem p12 (y : S256x1024.Idx) : k0_pay12 (F := Ideal) x0 x2 x1 y = Step.Head.err (row x0 (y 0)) (row x1 (y 0)) (gain x2) (y 1) := by
  refine Eq.trans (b := (k0_pay11 (F := Ideal) x0 y * x2 (ix2 0 (y 1)) - x1 (ix3 0 (y 0) (y 1)) : EReal)) (by pointwise [k0_pay12, k0_pay8]) ?_
  rw [p11]
  rfl
theorem p13 (y : S256x1024.Idx) : k0_pay13 (F := Ideal) x0 x2 x1 y = Step.Head.ct (row x0 (y 0)) (row x1 (y 0)) (gain x2) (y 1) := by
  refine Eq.trans (b := (k0_pay12 (F := Ideal) x0 x2 x1 y * Step.Head.cI : EReal)) (by pointwise [k0_pay13]) ?_
  rw [p12]
  rfl
theorem p14 (y : S1x1024.Idx) : k0_pay14 (F := Ideal) x0 x2 x1 y = ∑ r : Fin 256, Step.Head.dg (row x0 r) (row x1 r) (gain x2) (y 1) := by
  refine Eq.trans (b := ∑ r : Fin 256, (k0_pay11 (F := Ideal) x0 (ix2 r (y 1)) * k0_pay13 (F := Ideal) x0 x2 x1 (ix2 r (y 1)) : EReal)) (by pointwise [k0_pay14]) ?_
  refine Finset.sum_congr rfl fun r _ => ?_
  rw [p11, p13]
  rfl
theorem p15 (y : S256x1024.Idx) : k0_pay15 (F := Ideal) x0 x2 x1 y = Step.Head.dy (row x0 (y 0)) (row x1 (y 0)) (gain x2) (y 1) := by
  refine Eq.trans (b := (k0_pay13 (F := Ideal) x0 x2 x1 y * x2 (ix2 0 (y 1)) : EReal)) (by pointwise [k0_pay15, k0_pay8]) ?_
  rw [p13]
  rfl
theorem p16 (y : S256x1024.Idx) : k0_pay16 (F := Ideal) x0 x2 x1 y = Step.Head.corr (row x0 (y 0)) (row x1 (y 0)) (gain x2) := by
  refine Eq.trans (b := ∑ x : Fin 1, (Ideal.div ((∑ k : Fin 1024, x0 (ix3 0 (y 0) k) * k0_pay15 (F := Ideal) x0 x2 x1 (ix2 (y 0) k))
    * (Step.Head.cN * Ideal.div (k0_pay10 (F := Ideal) x0 (ix2 (y 0) x)) (k0_pay9 (F := Ideal) x0 (ix2 (y 0) x)))) Step.Head.cD : EReal)) (by pointwise [k0_pay16, k0_pay7]) ?_
  rw [Fin.sum_univ_one, p10, p9]
  simp only [p15]
  rfl
theorem p17 (y : S256x1024.Idx) : k0_pay17 (F := Ideal) x0 x2 x1 y = (Step.Head.dy (row x0 (y 0)) (row x1 (y 0)) (gain x2) (y 1) * Step.Head.rs (row x0 (y 0))
    + row x0 (y 0) (y 1) * Step.Head.corr (row x0 (y 0)) (row x1 (y 0)) (gain x2) : EReal) := by
  refine Eq.trans (b := (k0_pay15 (F := Ideal) x0 x2 x1 y * k0_pay10 (F := Ideal) x0 (ix2 (y 0) 0) + x0 (ix3 0 (y 0) (y 1)) * k0_pay16 (F := Ideal) x0 x2 x1 y : EReal)) (by pointwise [k0_pay17, k0_pay7]) ?_
  rw [p15, p10, p16]
  rfl
theorem p18 (y : S256x1024.Idx) : k0_pay18 (F := Ideal) x0 x2 x1 y = (Step.Head.corr (row x0 (y 0)) (row x1 (y 0)) (gain x2) * row x0 (y 0) (y 1) : EReal) := by
  refine Eq.trans (b := (k0_pay16 (F := Ideal) x0 x2 x1 y * x0 (ix3 0 (y 0) (y 1)) : EReal)) (by pointwise [k0_pay18, k0_pay7]) ?_
  rw [p16]
  rfl
theorem p4 (y : S1x256x1024.Idx) : k0_pay4 (k0_pay17 (F := Ideal) x0 x2 x1) (k0_pay18 (F := Ideal) x0 x2 x1) y = Step.Head.dz (row x0 (y 1)) (row x1 (y 1)) (gain x2) (y 2) := by
  refine Eq.trans (b := (k0_pay17 (F := Ideal) x0 x2 x1 (ix2 (y 1) (y 2)) + k0_pay18 (F := Ideal) x0 x2 x1 (ix2 (y 1) (y 2)) : EReal)) (by pointwise [k0_pay4]) ?_
  rw [p17, p18]
  rfl
theorem p5 (v : Vec Ideal S1x1024 .f32) (y : S1x1024.Idx) : k0_pay5 (k0_pay14 (F := Ideal) x0 x2 x1) v y = (v y + ∑ r : Fin 256, Step.Head.dg (row x0 r) (row x1 r) (gain x2) (y 1) : EReal) := by
  refine Eq.trans (b := (v y + k0_pay14 (F := Ideal) x0 x2 x1 y : EReal)) (by pointwise [k0_pay5]) ?_
  rw [p14]
theorem p6 (v : Vec Ideal S8x128 .f32) (y : S8x128.Idx) : k0_pay6 (k0_pay12 (F := Ideal) x0 x2 x1) v y
    = (v y + (Step.Head.cH * ∑ r : Fin 256, Step.Head.sq (row x0 r) (row x1 r) (gain x2)) * Step.Head.cI : EReal) := by
  refine Eq.trans (b := (v y + (Step.Head.cH * ∑ r : Fin 256, ∑ k : Fin 1024, k0_pay12 (F := Ideal) x0 x2 x1 (ix2 r k) * k0_pay12 (F := Ideal) x0 x2 x1 (ix2 r k)) * Step.Head.cI : EReal))
    (by generalize k0_pay12 (F := Ideal) x0 x2 x1 = e; pointwise [k0_pay6]) ?_
  simp only [p12]
  rfl

variable (c : Dev nD) (i : grid0.Coords) (arg2 : Memref sig .tc .vmem S1x256x1024 .f32) (harg2 : arg2.IsWhole) (arg3 : Memref sig .tc .vmem S1x256x1024 .f32) (harg3 : arg3.IsWhole)
  (arg4 : Memref sig .tc .vmem S1x1024 .f32) (harg4 : arg4.IsWhole) (arg5 : Memref sig .tc .vmem S1x256x1024 .f32) (harg5 : arg5.IsWhole)
  (arg6 : Memref sig .tc .vmem S1x1024 .f32) (harg6 : arg6.IsWhole) (arg7 : Memref sig .tc .vmem S8x128 .f32) (harg7 : arg7.IsWhole)
  (xo4 : Vec Ideal S1x1024 .f32) (xo5 : Vec Ideal S8x128 .f32)

theorem outA3 (hc0 : cond0_0 i) (hc1 : cond0_1 i) (hc2 : ¬cond0_2 i) : out0_A_3 c i arg2 harg2 arg3 harg3 arg4 harg4 arg5 harg5 arg6 harg6 arg7 harg7 hc0 hc1 hc2 x0 x1 x2 = k0_pay1 (F := Ideal) := by
  unfold out0_A_3
  rw [View.read_writes_eq_canon _ _ _ (cover0_A_3 c i arg2 harg2 arg3 harg3 arg4 harg4 arg5 harg5 arg6 harg6 arg7 harg7 hc0 hc1 hc2 _ _ _)]
  unfold kernelRun0_A
  dsimp only
  rw [View.canon_unit_zero (S := S1x256x1024) hz3]

theorem outA4 (hc0 : cond0_0 i) (hc1 : cond0_1 i) (hc2 : ¬cond0_2 i) : out0_A_4 c i arg2 harg2 arg3 harg3 arg4 harg4 arg5 harg5 arg6 harg6 arg7 harg7 hc0 hc1 hc2 x0 x1 x2 = k0_pay2 (F := Ideal) := by
  unfold out0_A_4
  rw [View.read_writes_eq_canon _ _ _ (cover0_A_4 c i arg2 harg2 arg3 harg3 arg4 harg4 arg5 harg5 arg6 harg6 arg7 harg7 hc0 hc1 hc2 _ _ _)]
  unfold kernelRun0_A
  dsimp only
  rw [View.canon_unit_zero (S := S1x1024) hz2]

theorem outA5 (hc0 : cond0_0 i) (hc1 : cond0_1 i) (hc2 : ¬cond0_2 i) : out0_A_5 c i arg2 harg2 arg3 harg3 arg4 harg4 arg5 harg5 arg6 harg6 arg7 harg7 hc0 hc1 hc2 x0 x1 x2 = k0_pay3 (F := Ideal) := by
  unfold out0_A_5
  rw [View.read_writes_eq_canon _ _ _ (cover0_A_5 c i arg2 harg2 arg3 harg3 arg4 harg4 arg5 harg5 arg6 harg6 arg7 harg7 hc0 hc1 hc2 _ _ _)]
  unfold kernelRun0_A
  dsimp only
  rw [View.canon_unit_zero (S := S8x128) hz2]

theorem outC3 (hc0 : cond0_0 i) (hc1 : ¬cond0_1 i) (hc2 : ¬cond0_2 i) : out0_C_3 c i arg2 harg2 arg3 harg3 arg4 harg4 arg5 harg5 arg6 harg6 arg7 harg7 hc0 hc1 hc2 x0 x1 x2 = k0_pay1 (F := Ideal) := by
  unfold out0_C_3
  rw [View.read_writes_eq_canon _ _ _ (cover0_C_3 c i arg2 harg2 arg3 harg3 arg4 harg4 arg5 harg5 arg6 harg6 arg7 harg7 hc0 hc1 hc2 _ _ _)]
  unfold kernelRun0_C
  dsimp only
  rw [View.canon_unit_zero (S := S1x256x1024) hz3]

theorem outB3 (hc0 : ¬cond0_0 i) (hc1 : ¬cond0_1 i) (hc2 : cond0_2 i) : out0_B_3 c i arg2 harg2 arg3 harg3 arg4 harg4 arg5 harg5 arg6 harg6 arg7 harg7 hc0 hc1 hc2 x0 x1 x2 xo4 xo5 = k0_pay4 (k0_pay17 x0 x2 x1) (k0_pay18 x0 x2 x1) := by
  unfold out0_B_3
  rw [View.read_writes_eq_canon _ _ _ (cover0_B_3 c i arg2 harg2 arg3 harg3 arg4 harg4 arg5 harg5 arg6 harg6 arg7 harg7 hc0 hc1 hc2 _ _ _ _ _)]
  unfold kernelRun0_B
  dsimp only
  rw [View.canon_unit_zero (S := S1x256x1024) hz3]
  simp only [kernelRun0_B.sl.r, kernelRun0_B.sl.r_1, kernelRun0_B.sl.r_2, kernelRun0_B.sl.r_3, View.readAt_eq_ld, harg2.read_unread, harg3.read_unread, harg4.read_unread, harg6.read_unread, harg7.read_unread, View.ld_unit_zero (S := S1x256x1024) hz3, View.ld_unit_zero (S := S1x1024) hz2, View.ld_unit_zero (S := S8x128) hz2]

theorem outB4 (hc0 : ¬cond0_0 i) (hc1 : ¬cond0_1 i) (hc2 : cond0_2 i) : out0_B_4 c i arg2 harg2 arg3 harg3 arg4 harg4 arg5 harg5 arg6 harg6 arg7 harg7 hc0 hc1 hc2 x0 x1 x2 xo4 xo5 = k0_pay5 (k0_pay14 x0 x2 x1) xo4 := by
  unfold out0_B_4
  rw [View.read_writes_eq_canon _ _ _ (cover0_B_4 c i arg2 harg2 arg3 harg3 arg4 harg4 arg5 harg5 arg6 harg6 arg7 harg7 hc0 hc1 hc2 _ _ _ _ _)]
  unfold kernelRun0_B
  dsimp only
  rw [View.canon_unit_zero (S := S1x1024) hz2]
  simp only [kernelRun0_B.sl.r, kernelRun0_B.sl.r_1, kernelRun0_B.sl.r_2, kernelRun0_B.sl.r_3, View.readAt_eq_ld, harg2.read_unread, harg3.read_unread, harg4.read_unread, harg6.read_unread, harg7.read_unread, View.ld_unit_zero (S := S1x256x1024) hz3, View.ld_unit_zero (S := S1x1024) hz2, View.ld_unit_zero (S := S8x128) hz2]

theorem outB5 (hc0 : ¬cond0_0 i) (hc1 : ¬cond0_1 i) (hc2 : cond0_2 i) : out0_B_5 c i arg2 harg2 arg3 harg3 arg4 harg4 arg5 harg5 arg6 harg6 arg7 harg7 hc0 hc1 hc2 x0 x1 x2 xo4 xo5 = k0_pay6 (k0_pay12 x0 x2 x1) xo5 := by
  unfold out0_B_5
  rw [View.read_writes_eq_canon _ _ _ (cover0_B_5 c i arg2 harg2 arg3 harg3 arg4 harg4 arg5 harg5 arg6 harg6 arg7 harg7 hc0 hc1 hc2 _ _ _ _ _)]
  unfold kernelRun0_B
  dsimp only
  rw [View.canon_unit_zero (S := S8x128) hz2]
  simp only [kernelRun0_B.sl.r, kernelRun0_B.sl.r_1, kernelRun0_B.sl.r_2, kernelRun0_B.sl.r_3, View.readAt_eq_ld, harg2.read_unread, harg3.read_unread, harg4.read_unread, harg6.read_unread, harg7.read_unread, View.ld_unit_zero (S := S1x256x1024) hz3, View.ld_unit_zero (S := S1x1024) hz2, View.ld_unit_zero (S := S8x128) hz2]

end Cert.Kernel9Ideal.Value
end
-- ==== Proof.HeadFinal.lean ====
/- The loss head's gradients as its kernel computes them, block by block, put together. -/
module

public import proofs.«01_k».proof.Proof.HeadKernel
public import proofs.«01_k».proof.Proof.Gen.Kernel9Ideal.Value

@[expose] public section

set_option maxRecDepth 65536

noncomputable section

namespace Cert.Kernel9Ideal.Value

open Cert.Kernel9Ideal Cert.Kernel9Ideal.Gen Idealize.ShloMosaic Idealize.ShloMosaic.TcCoe Idealize.SL.Sem

variable (c : Dev nD) (m : (ℓ : Loc nD τ sig) → Buf (Elt Ideal) ℓ)

theorem idx : ∀ t : Fin cfg0.N, win0_0.index t = ![t.val / 9, t.val % 9, 0] ∧ win0_1.index t = ![t.val / 9, t.val % 9 - 1, 0]
    ∧ win0_2.index t = ![0, 0] ∧ win0_3.index t = ![t.val / 9, t.val % 9, 0] ∧ win0_4.index t = ![0, 0] ∧ win0_5.index t = ![0, 0] :=
  (by decide +kernel : ∀ t : Fin grid0.N, _)

theorem lt18 (t : Fin cfg0.N) : t.val < 18 := lt_of_lt_of_eq t.isLt N_0

theorem atA3 (t : Fin cfg0.N) (e : t.val % 9 = 0) (f : t.val % 18 = 0) (g : ¬1 ≤ t.val % 9) : (outsAt0 m c t.val t.isLt).1 = k0_pay1 (F := Ideal) := by
  rw [outsAt0_A m c t e f g]
  dsimp only
  exact outA3 (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr e) ((hcond0_1 t).mpr f) (fun h => g ((hcond0_2 t).mp h))

theorem atC3 (t : Fin cfg0.N) (e : t.val % 9 = 0) (f : ¬t.val % 18 = 0) (g : ¬1 ≤ t.val % 9) : (outsAt0 m c t.val t.isLt).1 = k0_pay1 (F := Ideal) := by
  rw [outsAt0_C m c t e f g]
  dsimp only
  exact outC3 (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr e) (fun h => f ((hcond0_1 t).mp h)) (fun h => g ((hcond0_2 t).mp h))

theorem atB3 (t : Fin cfg0.N) (e : ¬t.val % 9 = 0) (f : ¬t.val % 18 = 0) (g : 1 ≤ t.val % 9) : (outsAt0 m c t.val t.isLt).1 = k0_pay4 (k0_pay17 (iblk m c 0 t) (iblk m c 2 t) (iblk m c 1 t)) (k0_pay18 (iblk m c 0 t) (iblk m c 2 t) (iblk m c 1 t)) := by
  rw [outsAt0_B m c t e f g]
  dsimp only
  exact outB3 (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) _ _ (fun h => e ((hcond0_0 t).mp h)) (fun h => f ((hcond0_1 t).mp h)) ((hcond0_2 t).mpr g)

theorem atA4 (t : Fin cfg0.N) (e : t.val % 9 = 0) (f : t.val % 18 = 0) (g : ¬1 ≤ t.val % 9) : (outsAt0 m c t.val t.isLt).2.1 = k0_pay2 (F := Ideal) := by
  rw [outsAt0_A m c t e f g]
  dsimp only
  exact outA4 (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr e) ((hcond0_1 t).mpr f) (fun h => g ((hcond0_2 t).mp h))

theorem atC4 (t : Fin cfg0.N) (e : t.val % 9 = 0) (f : ¬t.val % 18 = 0) (g : ¬1 ≤ t.val % 9) : (outsAt0 m c t.val t.isLt).2.1 = (outsAt0 m c (t.val - 1) (Nat.lt_of_le_of_lt (Nat.sub_le _ _) t.isLt)).2.1 := by
  rw [outsAt0_C m c t e f g]
  dsimp only
  exact rfl

theorem atB4 (t : Fin cfg0.N) (e : ¬t.val % 9 = 0) (f : ¬t.val % 18 = 0) (g : 1 ≤ t.val % 9) : (outsAt0 m c t.val t.isLt).2.1 = k0_pay5 (k0_pay14 (iblk m c 0 t) (iblk m c 2 t) (iblk m c 1 t)) (outsAt0 m c (t.val - 1) (Nat.lt_of_le_of_lt (Nat.sub_le _ _) t.isLt)).2.1 := by
  rw [outsAt0_B m c t e f g]
  dsimp only
  exact outB4 (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) _ _ (fun h => e ((hcond0_0 t).mp h)) (fun h => f ((hcond0_1 t).mp h)) ((hcond0_2 t).mpr g)

theorem atA5 (t : Fin cfg0.N) (e : t.val % 9 = 0) (f : t.val % 18 = 0) (g : ¬1 ≤ t.val % 9) : (outsAt0 m c t.val t.isLt).2.2 = k0_pay3 (F := Ideal) := by
  rw [outsAt0_A m c t e f g]
  dsimp only
  exact outA5 (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr e) ((hcond0_1 t).mpr f) (fun h => g ((hcond0_2 t).mp h))

theorem atC5 (t : Fin cfg0.N) (e : t.val % 9 = 0) (f : ¬t.val % 18 = 0) (g : ¬1 ≤ t.val % 9) : (outsAt0 m c t.val t.isLt).2.2 = (outsAt0 m c (t.val - 1) (Nat.lt_of_le_of_lt (Nat.sub_le _ _) t.isLt)).2.2 := by
  rw [outsAt0_C m c t e f g]
  dsimp only
  exact rfl

theorem atB5 (t : Fin cfg0.N) (e : ¬t.val % 9 = 0) (f : ¬t.val % 18 = 0) (g : 1 ≤ t.val % 9) : (outsAt0 m c t.val t.isLt).2.2 = k0_pay6 (k0_pay12 (iblk m c 0 t) (iblk m c 2 t) (iblk m c 1 t)) (outsAt0 m c (t.val - 1) (Nat.lt_of_le_of_lt (Nat.sub_le _ _) t.isLt)).2.2 := by
  rw [outsAt0_B m c t e f g]
  dsimp only
  exact outB5 (iblk m c 0 t) (iblk m c 1 t) (iblk m c 2 t) c (grid0.coords t) (ms0_0 t) (hs0_0 t) (ms0_1 t) (hs0_1 t) (ms0_2 t) (hs0_2 t) (ms0_3 t) (hs0_3 t) (ms0_4 t) (hs0_4 t) (ms0_5 t) (hs0_5 t) _ _ (fun h => e ((hcond0_0 t).mp h)) (fun h => f ((hcond0_1 t).mp h)) ((hcond0_2 t).mpr g)

variable (Z : FVec Ideal S2x2304x1024 .f32) (T : FVec Ideal S2x2048x1024 .f32) (G : FVec Ideal S1024 .f32)

/-- A position's row, a target's row, the gain. -/
def rowZ (b : Fin 2) (s : Fin 2304) : Fin 1024 → EReal := fun k => Z (ix3 b s k)
def rowT (b : Fin 2) (s : Fin 2048) : Fin 1024 → EReal := fun k => T (ix3 b s k)
def gainG : Fin 1024 → EReal := fun k => G (ix1 k)

variable (h0 : m ((c : Thread nD τ).loc main_arg0) = Z) (h1 : m ((c : Thread nD τ).loc main_arg1) = T) (h2 : m ((c : Thread nD τ).loc main_arg2) = G)

include h0 in
theorem blk0 (t : Fin cfg0.N) (r : Fin 256) : row (iblk m c 0 t) r = rowZ Z ⟨t.val / 9, by have := lt18 t; omega⟩ ⟨256 * (t.val % 9) + r.val, by omega⟩ := by
  funext k
  refine Eq.trans (b := m ((c : Thread nD τ).loc main_arg0) (ix3 ⟨t.val / 9, by have := lt18 t; omega⟩ ⟨256 * (t.val % 9) + r.val, by omega⟩ k)) ?_ (by rw [h0]; rfl)
  blk_point [row, iblk, V, idx t]

include h1 in
theorem blk1 (t : Fin cfg0.N) (r : Fin 256) : row (iblk m c 1 t) r = rowT T ⟨t.val / 9, by have := lt18 t; omega⟩ ⟨256 * (t.val % 9 - 1) + r.val, by omega⟩ := by
  funext k
  refine Eq.trans (b := m ((c : Thread nD τ).loc main_arg1) (ix3 ⟨t.val / 9, by have := lt18 t; omega⟩ ⟨256 * (t.val % 9 - 1) + r.val, by omega⟩ k)) ?_ (by rw [h1]; rfl)
  blk_point [row, iblk, V, idx t]

include h2 in
theorem entryG (y : S1x1024.Idx) : (V m c main_v0 : FVec Ideal S1x1024 .f32) y = gainG G (y 1) := by
  rw [← h2]
  unfold gainG
  entry_read
  pointwise

include h2 in
theorem blk2 (t : Fin cfg0.N) : gain (iblk m c 2 t) = gainG G := by
  funext k
  refine Eq.trans (b := (V m c main_v0 : FVec Ideal S1x1024 .f32) (ix2 0 k)) ?_ (entryG c m G h2 _)
  blk_point [gain, iblk, V, idx t]

/-- The first result: nothing at the context's positions, the row's gradient at the others. -/
def dzA (i : S2x2304x1024.Idx) : Ideal .f32 :=
  if (i 1).val < 256 then 0 else Step.Head.dz (rowZ Z (i 0) (i 1)) (rowT T (i 0) ⟨(i 1).val - 256, by have : (i 1).val < 2304 := (i 1).isLt; omega⟩) (gainG G) (i 2)

/-- What a target's row adds to the gain's gradient, and its squared error. -/
def dgRow (k : Fin 1024) (b : Fin 2) (s : Fin 2048) : EReal := Step.Head.dg (rowZ Z b ⟨s.val + 256, by omega⟩) (rowT T b s) (gainG G) k
def sqRow (b : Fin 2) (s : Fin 2048) : EReal := Step.Head.sq (rowZ Z b ⟨s.val + 256, by omega⟩) (rowT T b s) (gainG G)

def dgA (y : S1x1024.Idx) : Ideal .f32 := ∑ b : Fin 2, ∑ s : Fin 2048, dgRow Z T G (y 1) b s
def lossA (_ : S8x128.Idx) : Ideal .f32 := (Step.Head.cH * ∑ b : Fin 2, ∑ s : Fin 2048, Ideal.div (sqRow Z T G b s) Step.Head.cD : EReal)

theorem zero_word : Ideal.ofBits .f32 0#32 = 0 := by simp [Ideal.ofBits, Ideal.ieee]
theorem pay1 (y : S1x256x1024.Idx) : k0_pay1 (F := Ideal) y = (0 : EReal) := by
  refine Eq.trans (b := Ideal.ofBits .f32 0#32) ?_ zero_word
  pointwise [k0_pay1]
theorem pay2 (y : S1x1024.Idx) : k0_pay2 (F := Ideal) y = (0 : EReal) := by
  refine Eq.trans (b := Ideal.ofBits .f32 0#32) ?_ zero_word
  pointwise [k0_pay2]
theorem pay3 (y : S8x128.Idx) : k0_pay3 (F := Ideal) y = (0 : EReal) := by
  refine Eq.trans (b := Ideal.ofBits .f32 0#32) ?_ zero_word
  pointwise [k0_pay3]

/-- A point's block of 256 rows, in the numbering by targets. -/
theorem block_of (f : Fin 2 → Fin 2048 → EReal) (t : Fin cfg0.N) (e : ¬t.val % 9 = 0) : Step.Head.block f t.val
    = ∑ r : Fin 256, f ⟨t.val / 9, by have := lt18 t; omega⟩ ⟨256 * (t.val % 9 - 1) + r.val, by omega⟩ := by
  have hl := lt18 t
  unfold Step.Head.block
  rw [if_neg e]
  refine Finset.sum_congr rfl fun r _ => congr (congrArg f (Fin.ext ?_)) (Fin.ext ?_)
  · show t.val / 9 % 2 = t.val / 9; omega
  · show (256 * (t.val % 9 - 1) + r.val) % 2048 = 256 * (t.val % 9 - 1) + r.val; omega

include h0 h1 h2

theorem sumDg (t : Fin cfg0.N) (e : ¬t.val % 9 = 0) (k : Fin 1024) :
    ∑ r : Fin 256, Step.Head.dg (row (iblk m c 0 t) r) (row (iblk m c 1 t) r) (gain (iblk m c 2 t)) k = Step.Head.block (dgRow Z T G k) t.val := by
  rw [block_of _ t e]
  refine Finset.sum_congr rfl fun r _ => ?_
  rw [blk0 c m Z h0, blk1 c m T h1, blk2 c m G h2]
  unfold dgRow
  refine congrArg (fun s => Step.Head.dg (rowZ Z _ s) _ _ k) (Fin.ext ?_)
  show 256 * (t.val % 9) + r.val = 256 * (t.val % 9 - 1) + r.val + 256
  omega

theorem sumSq (t : Fin cfg0.N) (e : ¬t.val % 9 = 0) :
    ∑ r : Fin 256, Step.Head.sq (row (iblk m c 0 t) r) (row (iblk m c 1 t) r) (gain (iblk m c 2 t)) = Step.Head.block (sqRow Z T G) t.val := by
  rw [block_of _ t e]
  refine Finset.sum_congr rfl fun r _ => ?_
  rw [blk0 c m Z h0, blk1 c m T h1, blk2 c m G h2]
  unfold sqRow
  refine congrArg (fun s => Step.Head.sq (rowZ Z _ s) _ _) (Fin.ext ?_)
  show 256 * (t.val % 9) + r.val = 256 * (t.val % 9 - 1) + r.val + 256
  omega

omit h0 h1 h2 in
theorem block_off (f : Fin 2 → Fin 2048 → EReal) (t : ℕ) (e : t % 9 = 0) : Step.Head.block f t = 0 := if_pos e

theorem at4 (t : ℕ) (ht : t < cfg0.N) (y : S1x1024.Idx) : (outsAt0 m c t ht).2.1 y = ∑ s ∈ Finset.range (t + 1), Step.Head.block (dgRow Z T G (y 1)) s := by
  induction t with
  | zero =>
    rw [Finset.sum_range_one, block_off _ 0 rfl]
    exact (congrFun (atA4 c m ⟨0, ht⟩ rfl rfl (by show ¬1 ≤ 0 % 9; omega)) y).trans (pay2 y)
  | succ t ih =>
    have hl : t + 1 < 18 := lt18 ⟨t + 1, ht⟩
    have hm : ¬(t + 1) % 18 = 0 := by omega
    rw [Finset.sum_range_succ, ← ih (by omega)]
    by_cases e : (t + 1) % 9 = 0
    · have g : ¬1 ≤ (t + 1) % 9 := by omega
      rw [block_off _ _ e, add_zero]
      exact congrFun (atC4 c m ⟨t + 1, ht⟩ e hm g) y
    · have g : 1 ≤ (t + 1) % 9 := by omega
      refine (congrFun (atB4 c m ⟨t + 1, ht⟩ e hm g) y).trans ((p5 _ _ _ _ y).trans ?_)
      exact congrArg (fun z : EReal => (outsAt0 m c t (by omega)).2.1 y + z) (sumDg c m Z T G h0 h1 h2 ⟨t + 1, ht⟩ e (y 1))

theorem at5 (t : ℕ) (ht : t < cfg0.N) (y : S8x128.Idx) : (outsAt0 m c t ht).2.2 y
    = ∑ s ∈ Finset.range (t + 1), ((Step.Head.cH * Step.Head.block (sqRow Z T G) s) * Step.Head.cI : EReal) := by
  induction t with
  | zero =>
    rw [Finset.sum_range_one, block_off _ 0 rfl, mul_zero, zero_mul]
    exact (congrFun (atA5 c m ⟨0, ht⟩ rfl rfl (by show ¬1 ≤ 0 % 9; omega)) y).trans (pay3 y)
  | succ t ih =>
    have hl : t + 1 < 18 := lt18 ⟨t + 1, ht⟩
    have hm : ¬(t + 1) % 18 = 0 := by omega
    rw [Finset.sum_range_succ, ← ih (by omega)]
    by_cases e : (t + 1) % 9 = 0
    · have g : ¬1 ≤ (t + 1) % 9 := by omega
      rw [block_off _ _ e, mul_zero, zero_mul, add_zero]
      exact congrFun (atC5 c m ⟨t + 1, ht⟩ e hm g) y
    · have g : 1 ≤ (t + 1) % 9 := by omega
      refine (congrFun (atB5 c m ⟨t + 1, ht⟩ e hm g) y).trans ((p6 _ _ _ _ y).trans ?_)
      rw [sumSq c m Z T G h0 h1 h2 ⟨t + 1, ht⟩ e]
      rfl

theorem at3 (t : Fin cfg0.N) (y : S1x256x1024.Idx) : (outsAt0 m c t.val t.isLt).1 y
    = dzA Z T G (ix3 ⟨t.val / 9, by have := lt18 t; omega⟩ ⟨256 * (t.val % 9) + (y 1).val, by have : (y 1).val < 256 := (y 1).isLt; omega⟩ (y 2)) := by
  have hl := lt18 t
  have hy : (y 1).val < 256 := (y 1).isLt
  by_cases e : t.val % 9 = 0
  · have g : ¬1 ≤ t.val % 9 := by omega
    have hd : dzA Z T G (ix3 ⟨t.val / 9, by omega⟩ ⟨256 * (t.val % 9) + (y 1).val, by omega⟩ (y 2)) = (0 : EReal) :=
      if_pos (show 256 * (t.val % 9) + (y 1).val < 256 by omega)
    rw [hd]
    by_cases f : t.val % 18 = 0
    · exact (congrFun (atA3 c m t e f g) y).trans (pay1 y)
    · exact (congrFun (atC3 c m t e f g) y).trans (pay1 y)
  · have g : 1 ≤ t.val % 9 := by omega
    refine (congrFun (atB3 c m t e (by omega) g) y).trans ((p4 _ _ _ y).trans ?_)
    refine (congrFun (congr (congr (congrArg Step.Head.dz (blk0 c m Z h0 t (y 1))) (blk1 c m T h1 t (y 1))) (blk2 c m G h2 t)) (y 2)).trans ?_
    unfold dzA
    refine Eq.trans ?_ (if_neg (show ¬256 * (t.val % 9) + (y 1).val < 256 by omega)).symm
    refine congrArg (fun s => Step.Head.dz _ (rowT T _ s) _ (y 2)) (Fin.ext ?_)
    show 256 * (t.val % 9 - 1) + (y 1).val = 256 * (t.val % 9) + (y 1).val - 256
    omega

theorem finalZ : (dats m 0 c).arrAt 3 (cfgs 0).N = dzA Z T G := by
  refine (dats m 0 c).arrAt_eq_of_covers 3 _ (by decide +kernel) fun t hf y => ?_
  blk_simp
  rw [after0_3, at3 c m Z T G h0 h1 h2 t]
  refine congrArg (dzA Z T G) ?_
  funext k
  fin_cases k <;> refine Fin.ext ?_ <;> blk_simp <;> simp [(idx t).2.2.2.1, mul_comm]

theorem finalG : (dats m 0 c).arrAt 4 (cfgs 0).N = dgA Z T G := by
  refine (dats m 0 c).arrAt_eq_of_covers 4 _ (by decide +kernel) fun t hf y => ?_
  blk_simp
  rw [after0_4]
  have hl := lt18 t
  have e : t.val = 17 := by have := (flush0_4 t).mp hf; omega
  rw [at4 c m Z T G h0 h1 h2 t.val t.isLt, e]
  refine (Step.Head.blocks _).trans (congrArg (dgA Z T G) (a₁ := y) ?_)
  funext k
  fin_cases k <;> refine Fin.ext ?_ <;> blk_simp <;> simp [(idx t).2.2.2.2.1, mul_comm]

theorem finalL : (dats m 0 c).arrAt 5 (cfgs 0).N = lossA Z T G := by
  refine (dats m 0 c).arrAt_eq_of_covers 5 _ (by decide +kernel) fun t hf y => ?_
  blk_simp
  rw [after0_5]
  have hl := lt18 t
  have e : t.val = 17 := by have := (flush0_5 t).mp hf; omega
  rw [at5 c m Z T G h0 h1 h2 t.val t.isLt, e]
  exact Step.Head.half_blocks _ fun b s => Step.Head.sq_nonneg _ _ _

end Cert.Kernel9Ideal.Value
end
-- ==== Proof.HeadRef.lean ====
/- The reference's loss and its gradients, read row by row. -/
module

public import proofs.«01_k».proof.Proof.HeadFinal
public import Idealize.ShloMosaic.Lib.KernelVsHost
public import proofs.«01_k».proof.Proof.Gen.Reference9Ideal.Read

@[expose] public section

set_option maxRecDepth 65536

noncomputable section

namespace Cert.Reference9Ideal.Rows

open Cert.Reference9Ideal Cert.Reference9Ideal.Gen Cert.Reference9Ideal.Read Idealize.ShloMosaic Cert.Kernel9Ideal.Value

variable (Z : FVec Ideal S2x2304x1024 .f32) (T : FVec Ideal S2x2048x1024 .f32) (G : FVec Ideal S1024 .f32)

/-- The row of a target's position. -/
abbrev zr (b : Fin 2) (s : Fin 2048) : Fin 1024 → EReal := rowZ Z b ⟨s.val + 256, by omega⟩

theorem at0 (i : S2x2048x1024.Idx) : val_main_v0 (F := Ideal) Z i = zr Z (i 0) (i 1) (i 2) := by
  rw [val_main_v0_apply]
  refine congrArg Z ?_
  funext a
  fin_cases a
  · rfl
  · exact Fin.ext (Nat.add_comm _ _)
  · rfl

theorem at2 (i : S2x2048.Idx) : val_main_v2 (F := Ideal) Z i = ∑ k, zr Z (i 0) (i 1) k * zr Z (i 0) (i 1) k := by
  rw [val_main_v2_apply]
  refine (congrArg₂ (fun a b : EReal => a + b) zero_word (Finset.sum_congr rfl fun k _ => ?_)).trans (zero_add _)
  rw [val_main_v1_apply, at0]
  rfl

theorem at7 (i : S2x2048x1.Idx) : val_main_v7 (F := Ideal) Z i = Step.Head.ms (zr Z (i 0) (i 1)) := by
  rw [val_main_v7_apply, val_main_v5_apply, val_main_v3_apply, at2]
  rfl

theorem at8 (i : S2x2048x1.Idx) : val_main_v8 (F := Ideal) Z i = Step.Head.rs (zr Z (i 0) (i 1)) := by
  rw [val_main_v8_apply, at7]
  rfl

theorem at11 (i : S2x2048x1.Idx) : val_main_v11 (F := Ideal) Z i = (Step.Head.cN * Ideal.div (Step.Head.rs (zr Z (i 0) (i 1))) (Step.Head.ms (zr Z (i 0) (i 1))) : EReal) := by
  rw [val_main_v11_apply, val_main_v9_apply, at8, at7]
  rfl

theorem at13 (i : S2x2048x1024.Idx) : val_main_v13 (F := Ideal) Z i = Step.Head.zn (zr Z (i 0) (i 1)) (i 2) := by
  rw [val_main_v13_apply, val_main_v12_apply, at8, at0]
  rfl

theorem at14 (i : S1x1x1024.Idx) : val_main_v14 (F := Ideal) G i = gainG G (i 2) := by
  rw [val_main_v14_apply]
  refine congrArg G ?_
  funext a
  fin_cases a
  rfl

theorem at17 (i : S2x2048x1024.Idx) : val_main_v17 (F := Ideal) Z T G i = Step.Head.err (zr Z (i 0) (i 1)) (rowT T (i 0) (i 1)) (gainG G) (i 2) := by
  rw [val_main_v17_apply, val_main_v16_apply, val_main_v15_apply, at13, at14]
  refine congrArg (fun a : EReal => Step.Head.zn (zr Z (i 0) (i 1)) (i 2) * gainG G (i 2) - a) (congrArg T ?_)
  funext a
  fin_cases a <;> rfl

theorem at31 (i : S2x2048x1024.Idx) : val_main_v31 (F := Ideal) Z T G i = Step.Head.ct (zr Z (i 0) (i 1)) (rowT T (i 0) (i 1)) (gainG G) (i 2) := by
  rw [val_main_v31_apply, val_main_v20_apply, at17]
  exact Step.Head.scale _

theorem at36 (i : S2x2048x1024.Idx) : val_main_v36 (F := Ideal) Z T G i = Step.Head.dy (zr Z (i 0) (i 1)) (rowT T (i 0) (i 1)) (gainG G) (i 2) := by
  rw [val_main_v36_apply, val_main_v35_apply, at31, at14]
  rfl

theorem at39 (i : S2x2048.Idx) : val_main_v39 (F := Ideal) Z T G i = ∑ k, zr Z (i 0) (i 1) k * Step.Head.dy (zr Z (i 0) (i 1)) (rowT T (i 0) (i 1)) (gainG G) k := by
  rw [val_main_v39_apply]
  refine (congrArg₂ (fun a b : EReal => a + b) zero_word (Finset.sum_congr rfl fun k _ => ?_)).trans (zero_add _)
  rw [val_main_v38_apply, at0, at36]
  rfl

theorem at40 (i : S2x2048x1.Idx) : val_main_v40 (F := Ideal) Z T G i = val_main_v39 (F := Ideal) Z T G (ix2 (i 0) (i 1)) := by
  unfold val_main_v40
  generalize val_main_v39 (F := Ideal) Z T G = x
  pointwise

theorem at45 (i : S2x2048x1.Idx) : val_main_v45 (F := Ideal) Z T G i = Step.Head.corr (zr Z (i 0) (i 1)) (rowT T (i 0) (i 1)) (gainG G) := by
  rw [val_main_v45_apply, val_main_v43_apply, at40, at39, at11]
  rfl

theorem at46 (i : S2x2048.Idx) : val_main_v46 (F := Ideal) Z T G i = Step.Head.corr (zr Z (i 0) (i 1)) (rowT T (i 0) (i 1)) (gainG G) := by
  rw [val_main_v46_apply, Fin.sum_univ_one, at45]
  exact (congrArg (fun a : EReal => a + _) zero_word).trans (zero_add _)

theorem at51 (i : S2x2048x1024.Idx) : val_main_v51 (F := Ideal) Z T G i = Step.Head.dz (zr Z (i 0) (i 1)) (rowT T (i 0) (i 1)) (gainG G) (i 2) := by
  rw [val_main_v51_apply, val_main_v50_apply, val_main_v49_apply, val_main_v48_apply, val_main_v47_apply, val_main_v42_apply, val_main_v41_apply, at0, at36, at8, at46]
  rfl

theorem topZ : val_main_v52 (F := Ideal) Z T G = dzA Z T G := by
  funext i
  have hi : (i 1).val < 2304 := (i 1).isLt
  unfold val_main_v52 dzA
  by_cases h : (i 1).val < 256
  · rw [if_pos h]
    refine (pad_apply_of_not_inside _ _ _ _ _ _ _ i 1 fun e => ?_).trans zero_word
    have e1 : 256 ≤ (i 1).val := e.1
    omega
  · rw [if_neg h]
    refine (pad_apply_of_inside _ _ _ _ _ _ _ i (ix3 (i 0) ⟨(i 1).val - 256, by omega⟩ (i 2)) fun a => ?_).trans ?_
    · fin_cases a
      · show (i 0).val = 0 + (i 0).val * (0 + 1); omega
      · show (i 1).val = 256 + ((i 1).val - 256) * (0 + 1); omega
      · show (i 2).val = 0 + (i 2).val * (0 + 1); omega
    refine (at51 Z T G _).trans ?_
    refine congrArg (fun s => Step.Head.dz (rowZ Z _ s) _ _ _) (Fin.ext ?_)
    show (i 1).val - 256 + 256 = (i 1).val
    omega

theorem at33 (i : S1024.Idx) : val_main_v33 (F := Ideal) Z T G i = ∑ b : Fin 2, ∑ s : Fin 2048, dgRow Z T G (i 0) b s := by
  unfold val_main_v33
  refine (Step.hostReduceAdd_first_two _ _ _ i).trans ((congrArg₂ (fun a b : EReal => a + b) zero_word (Finset.sum_congr rfl fun b _ => Finset.sum_congr rfl fun s _ => ?_)).trans (zero_add _))
  rw [val_main_v32_apply, at13, at31]
  rfl

theorem topG : val_main_v53 (F := Ideal) Z T G = dgA Z T G := by
  funext i
  rw [val_main_v53_apply]
  unfold val_main_v37
  refine (Step.hostReduceAdd_first_two _ _ _ _).trans ?_
  rw [Fin.sum_univ_one, Fin.sum_univ_one, val_main_v34_apply, at33]
  refine (congrArg (fun a : EReal => a + _) zero_word).trans ((zero_add _).trans ?_)
  have h0 : (i 0).val < 1 := (i 0).isLt
  have h1 : (i 1).val < 1024 := (i 1).isLt
  refine congrArg (fun k : Fin 1024 => ∑ b : Fin 2, ∑ s : Fin 2048, dgRow Z T G k b s) (Fin.ext ?_)
  simp [idx_main_v34, idx_main_v53]

theorem at23 (i : S2x2048.Idx) : val_main_v23 (F := Ideal) Z T G i = Ideal.div (sqRow Z T G (i 0) (i 1)) Step.Head.cD := by
  rw [val_main_v23_apply, val_main_v21_apply]
  refine congrArg (fun a : EReal => Ideal.div a Step.Head.cD) ?_
  unfold sqRow Step.Head.sq
  refine (congrArg₂ (fun a b : EReal => a + b) zero_word (Finset.sum_congr rfl fun k _ => ?_)).trans (zero_add _)
  rw [val_main_v18_apply, at17]
  rfl

theorem topL : val_main_v54 (F := Ideal) Z T G = lossA Z T G := by
  funext i
  rw [val_main_v54_apply, val_main_v25_apply, val_main_v24_apply]
  refine congrArg (fun a : EReal => Step.Head.cH * a) ((congrArg (fun a : EReal => a + _) zero_word).trans ((zero_add _).trans ?_))
  simp only [at23]
  exact sum_idx2 (n0 := 2) (n1 := 2048) fun x => Ideal.div (sqRow Z T G (x 0) (x 1)) Step.Head.cD

end Cert.Reference9Ideal.Rows
end
-- ==== Proof.HeadClaim.lean ====
/- The claim about the loss head's gradients: the kernel and the reference end with equal arrays. -/
module

public import proofs.«01_k».proof.Proof.HeadRef
public import proofs.«01_k».proof.Proof.Gen.Reference9Ideal.Run
public import proofs.«01_k».proof.Defs
public import Idealize.ShloMosaic.Lib.Claim

@[expose] public section

set_option maxRecDepth 16384

noncomputable section

namespace Cert.Kernel9Ideal.Value

open Cert.Kernel9Ideal Cert.Kernel9Ideal.Gen Idealize.ShloMosaic Idealize.ShloMosaic.TcCoe Idealize.SL.Sem

/-- From equal arguments both programs end with equal results. -/
theorem algebraic : Cert.algebraic_Kernel9Ideal_Reference9Ideal := by
  intro m g m' g' _ hagree
  refine ⟨_, _, _, run_blocks m g, (θ_run _ _ _).mono (fun r h c => ?_) (Cert.Reference9Ideal.Value.run m' g')⟩
  obtain ⟨e0, e1, e2⟩ := hagree c
  obtain ⟨r5, r6, r7, a0, a1, a2⟩ := h c
  refine ⟨r5.trans ?_, r6.trans ?_, r7.trans ?_, a0, a1, a2⟩
  · refine (Cert.Reference9Ideal.Read.val_main_v52_eq _ _).trans ?_
    exact (Cert.Reference9Ideal.Rows.topZ _ _ _).trans (finalZ c m _ _ _ e0.symm e1.symm e2.symm).symm
  · refine (Cert.Reference9Ideal.Read.val_main_v53_eq _ _ _).trans ?_
    exact (Cert.Reference9Ideal.Rows.topG _ _ _).trans (finalG c m _ _ _ e0.symm e1.symm e2.symm).symm
  · refine (Cert.Reference9Ideal.Read.val_main_v54_eq _ _ _).trans ?_
    exact (Cert.Reference9Ideal.Rows.topL _ _ _).trans (finalL c m _ _ _ e0.symm e1.symm e2.symm).symm

end Cert.Kernel9Ideal.Value
end
-- ==== Proof.FfnRun.lean ====
/- What one grid point of the call `ffn_bwd` stores into its results: the body run at known contents, in its three cases. -/
module

public import proofs.«01_k».proof.Proof.Gen.Kernel7Ideal.Frame
public import proofs.«01_k».proof.Proof.Gen.Kernel7Ideal.Skeleton

@[expose] public section

set_option maxRecDepth 16384

noncomputable section

namespace Cert.Kernel7Ideal.Whole

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the very first point, which starts both accumulators afresh: the pieces its stores leave in each result, last first, with the proof that it runs to them. -/
noncomputable def runA (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x3x1024 .f32) (harg5 : arg5.IsWhole) (arg6 : Memref sig .tc .vmem S1x1024 .f32) (harg6 : arg6.IsWhole) (arg7 : Memref sig .tc .vmem S1x2816x1024 .bf16) (harg7 : arg7.IsWhole) (arg8 : Memref sig .tc .vmem S1x2816x1024 .bf16) (harg8 : arg8.IsWhole) (arg9 : Memref sig .tc .vmem S1x2816x1024 .bf16) (harg9 : arg9.IsWhole) (arg10 : Memref sig .tc .vmem S1x256x1024 .f32) (harg10 : arg10.IsWhole) (arg11 : Memref sig .tc .vmem S1x256x1024 .bf16) (harg11 : arg11.IsWhole) (arg12 : Memref sig .tc .vmem S1x256x2816 .bf16) (harg12 : arg12.IsWhole) (arg13 : Memref sig .tc .vmem S1x256x2816 .bf16) (harg13 : arg13.IsWhole) (arg14 : Memref sig .tc .vmem S1x256x2816 .bf16) (harg14 : arg14.IsWhole) (arg15 : Memref sig .tc .vmem S1x256x1024 .bf16) (harg15 : arg15.IsWhole) (arg16 : Memref sig .tc .vmem S1x1x3x1024 .f32) (harg16 : arg16.IsWhole) (arg17 : Memref sig .tc .vmem S1x1024 .f32) (harg17 : arg17.IsWhole) (h1 : k0_cond1 i = 1#1) (h2 : ¬k0_cond2 i = 1#1) (h3 : k0_cond3 i = 1#1) (h4 : ¬k0_cond4 i = 1#1)
    (x0 : Vec F S1x256x1024 .f32) (x1 : Vec F S1x256x1024 .f32) (x2 : Vec F S1x256x1024 .f32) (x3 : Vec F S1x1x3x1024 .f32) (x4 : Vec F S1x1024 .f32) (x5 : Vec F S1x2816x1024 .bf16) (x6 : Vec F S1x2816x1024 .bf16) (x7 : Vec F S1x2816x1024 .bf16) :
    Σ' (L8 : List (View.Piece (Elt F) S1x256x1024 .f32)), Σ' (L9 : List (View.Piece (Elt F) S1x256x1024 .bf16)), Σ' (L10 : List (View.Piece (Elt F) S1x256x2816 .bf16)), Σ' (L11 : List (View.Piece (Elt F) S1x256x2816 .bf16)), Σ' (L12 : List (View.Piece (Elt F) S1x256x2816 .bf16)), Σ' (L13 : List (View.Piece (Elt F) S1x256x1024 .bf16)), Σ' (L14 : List (View.Piece (Elt F) S1x1x3x1024 .f32)), { L15 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d)
            ∗ (∃ d, owns (c : Thread nD τ) arg14 fullShare d) ∗ (∃ d, owns (c : Thread nD τ) arg15 fullShare d)
            ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4 ∗ owns (c : Thread nD τ) arg7 fullShare x5
              ∗ owns (c : Thread nD τ) arg8 fullShare x6 ∗ owns (c : Thread nD τ) arg9 fullShare x7
              ∗ (∃ f, arg10.view.loc (c : Thread nD τ) ↦[arg10.view.set]{fullShare} arg10.view.writes (Elt F) f L8)
              ∗ (∃ f, arg11.view.loc (c : Thread nD τ) ↦[arg11.view.set]{fullShare} arg11.view.writes (Elt F) f L9)
              ∗ (∃ f, arg12.view.loc (c : Thread nD τ) ↦[arg12.view.set]{fullShare} arg12.view.writes (Elt F) f L10)
              ∗ (∃ f, arg13.view.loc (c : Thread nD τ) ↦[arg13.view.set]{fullShare} arg13.view.writes (Elt F) f L11)
              ∗ (∃ f, arg14.view.loc (c : Thread nD τ) ↦[arg14.view.set]{fullShare} arg14.view.writes (Elt F) f L12)
              ∗ (∃ f, arg15.view.loc (c : Thread nD τ) ↦[arg15.view.set]{fullShare} arg15.view.writes (Elt F) f L13)
              ∗ (∃ f, arg16.view.loc (c : Thread nD τ) ↦[arg16.view.set]{fullShare} arg16.view.writes (Elt F) f L14)
              ∗ (∃ f, arg17.view.loc (c : Thread nD τ) ↦[arg17.view.set]{fullShare} arg17.view.writes (Elt F) f L15)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

set_option maxHeartbeats 4000000 in
/-- The body at the points that start the modulation's accumulator afresh and add to the gain's: the pieces its stores leave in each result, last first, with the proof that it runs to them. -/
noncomputable def runB (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x3x1024 .f32) (harg5 : arg5.IsWhole) (arg6 : Memref sig .tc .vmem S1x1024 .f32) (harg6 : arg6.IsWhole) (arg7 : Memref sig .tc .vmem S1x2816x1024 .bf16) (harg7 : arg7.IsWhole) (arg8 : Memref sig .tc .vmem S1x2816x1024 .bf16) (harg8 : arg8.IsWhole) (arg9 : Memref sig .tc .vmem S1x2816x1024 .bf16) (harg9 : arg9.IsWhole) (arg10 : Memref sig .tc .vmem S1x256x1024 .f32) (harg10 : arg10.IsWhole) (arg11 : Memref sig .tc .vmem S1x256x1024 .bf16) (harg11 : arg11.IsWhole) (arg12 : Memref sig .tc .vmem S1x256x2816 .bf16) (harg12 : arg12.IsWhole) (arg13 : Memref sig .tc .vmem S1x256x2816 .bf16) (harg13 : arg13.IsWhole) (arg14 : Memref sig .tc .vmem S1x256x2816 .bf16) (harg14 : arg14.IsWhole) (arg15 : Memref sig .tc .vmem S1x256x1024 .bf16) (harg15 : arg15.IsWhole) (arg16 : Memref sig .tc .vmem S1x1x3x1024 .f32) (harg16 : arg16.IsWhole) (arg17 : Memref sig .tc .vmem S1x1024 .f32) (harg17 : arg17.IsWhole) (h1 : k0_cond1 i = 1#1) (h2 : ¬k0_cond2 i = 1#1) (h3 : ¬k0_cond3 i = 1#1) (h4 : k0_cond4 i = 1#1)
    (x0 : Vec F S1x256x1024 .f32) (x1 : Vec F S1x256x1024 .f32) (x2 : Vec F S1x256x1024 .f32) (x3 : Vec F S1x1x3x1024 .f32) (x4 : Vec F S1x1024 .f32) (x5 : Vec F S1x2816x1024 .bf16) (x6 : Vec F S1x2816x1024 .bf16) (x7 : Vec F S1x2816x1024 .bf16) (xo15 : Vec F S1x1024 .f32) :
    Σ' (L8 : List (View.Piece (Elt F) S1x256x1024 .f32)), Σ' (L9 : List (View.Piece (Elt F) S1x256x1024 .bf16)), Σ' (L10 : List (View.Piece (Elt F) S1x256x2816 .bf16)), Σ' (L11 : List (View.Piece (Elt F) S1x256x2816 .bf16)), Σ' (L12 : List (View.Piece (Elt F) S1x256x2816 .bf16)), Σ' (L13 : List (View.Piece (Elt F) S1x256x1024 .bf16)), Σ' (L14 : List (View.Piece (Elt F) S1x1x3x1024 .f32)), { L15 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d)
            ∗ (∃ d, owns (c : Thread nD τ) arg14 fullShare d) ∗ (∃ d, owns (c : Thread nD τ) arg15 fullShare d)
            ∗ (∃ d, owns (c : Thread nD τ) arg16 fullShare d) ∗ owns (c : Thread nD τ) arg17 fullShare xo15
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4 ∗ owns (c : Thread nD τ) arg7 fullShare x5
              ∗ owns (c : Thread nD τ) arg8 fullShare x6 ∗ owns (c : Thread nD τ) arg9 fullShare x7
              ∗ (∃ f, arg10.view.loc (c : Thread nD τ) ↦[arg10.view.set]{fullShare} arg10.view.writes (Elt F) f L8)
              ∗ (∃ f, arg11.view.loc (c : Thread nD τ) ↦[arg11.view.set]{fullShare} arg11.view.writes (Elt F) f L9)
              ∗ (∃ f, arg12.view.loc (c : Thread nD τ) ↦[arg12.view.set]{fullShare} arg12.view.writes (Elt F) f L10)
              ∗ (∃ f, arg13.view.loc (c : Thread nD τ) ↦[arg13.view.set]{fullShare} arg13.view.writes (Elt F) f L11)
              ∗ (∃ f, arg14.view.loc (c : Thread nD τ) ↦[arg14.view.set]{fullShare} arg14.view.writes (Elt F) f L12)
              ∗ (∃ f, arg15.view.loc (c : Thread nD τ) ↦[arg15.view.set]{fullShare} arg15.view.writes (Elt F) f L13)
              ∗ (∃ f, arg16.view.loc (c : Thread nD τ) ↦[arg16.view.set]{fullShare} arg16.view.writes (Elt F) f L14)
              ∗ (∃ f, arg17.view.loc (c : Thread nD τ) ↦[arg17.view.set]{fullShare} arg17.view.writes (Elt F) f L15)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg17.eq_unread hf15
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

set_option maxHeartbeats 4000000 in
/-- The body at the points that add to both accumulators: the pieces its stores leave in each result, last first, with the proof that it runs to them. -/
noncomputable def runC (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x3x1024 .f32) (harg5 : arg5.IsWhole) (arg6 : Memref sig .tc .vmem S1x1024 .f32) (harg6 : arg6.IsWhole) (arg7 : Memref sig .tc .vmem S1x2816x1024 .bf16) (harg7 : arg7.IsWhole) (arg8 : Memref sig .tc .vmem S1x2816x1024 .bf16) (harg8 : arg8.IsWhole) (arg9 : Memref sig .tc .vmem S1x2816x1024 .bf16) (harg9 : arg9.IsWhole) (arg10 : Memref sig .tc .vmem S1x256x1024 .f32) (harg10 : arg10.IsWhole) (arg11 : Memref sig .tc .vmem S1x256x1024 .bf16) (harg11 : arg11.IsWhole) (arg12 : Memref sig .tc .vmem S1x256x2816 .bf16) (harg12 : arg12.IsWhole) (arg13 : Memref sig .tc .vmem S1x256x2816 .bf16) (harg13 : arg13.IsWhole) (arg14 : Memref sig .tc .vmem S1x256x2816 .bf16) (harg14 : arg14.IsWhole) (arg15 : Memref sig .tc .vmem S1x256x1024 .bf16) (harg15 : arg15.IsWhole) (arg16 : Memref sig .tc .vmem S1x1x3x1024 .f32) (harg16 : arg16.IsWhole) (arg17 : Memref sig .tc .vmem S1x1024 .f32) (harg17 : arg17.IsWhole) (h1 : ¬k0_cond1 i = 1#1) (h2 : k0_cond2 i = 1#1) (h3 : ¬k0_cond3 i = 1#1) (h4 : k0_cond4 i = 1#1)
    (x0 : Vec F S1x256x1024 .f32) (x1 : Vec F S1x256x1024 .f32) (x2 : Vec F S1x256x1024 .f32) (x3 : Vec F S1x1x3x1024 .f32) (x4 : Vec F S1x1024 .f32) (x5 : Vec F S1x2816x1024 .bf16) (x6 : Vec F S1x2816x1024 .bf16) (x7 : Vec F S1x2816x1024 .bf16) (xo14 : Vec F S1x1x3x1024 .f32) (xo15 : Vec F S1x1024 .f32) :
    Σ' (L8 : List (View.Piece (Elt F) S1x256x1024 .f32)), Σ' (L9 : List (View.Piece (Elt F) S1x256x1024 .bf16)), Σ' (L10 : List (View.Piece (Elt F) S1x256x2816 .bf16)), Σ' (L11 : List (View.Piece (Elt F) S1x256x2816 .bf16)), Σ' (L12 : List (View.Piece (Elt F) S1x256x2816 .bf16)), Σ' (L13 : List (View.Piece (Elt F) S1x256x1024 .bf16)), Σ' (L14 : List (View.Piece (Elt F) S1x1x3x1024 .f32)), { L15 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ (∃ d, owns (c : Thread nD τ) arg10 fullShare d) ∗ (∃ d, owns (c : Thread nD τ) arg11 fullShare d)
            ∗ (∃ d, owns (c : Thread nD τ) arg12 fullShare d) ∗ (∃ d, owns (c : Thread nD τ) arg13 fullShare d)
            ∗ (∃ d, owns (c : Thread nD τ) arg14 fullShare d) ∗ (∃ d, owns (c : Thread nD τ) arg15 fullShare d)
            ∗ owns (c : Thread nD τ) arg16 fullShare xo14 ∗ owns (c : Thread nD τ) arg17 fullShare xo15
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4 ∗ owns (c : Thread nD τ) arg7 fullShare x5
              ∗ owns (c : Thread nD τ) arg8 fullShare x6 ∗ owns (c : Thread nD τ) arg9 fullShare x7
              ∗ (∃ f, arg10.view.loc (c : Thread nD τ) ↦[arg10.view.set]{fullShare} arg10.view.writes (Elt F) f L8)
              ∗ (∃ f, arg11.view.loc (c : Thread nD τ) ↦[arg11.view.set]{fullShare} arg11.view.writes (Elt F) f L9)
              ∗ (∃ f, arg12.view.loc (c : Thread nD τ) ↦[arg12.view.set]{fullShare} arg12.view.writes (Elt F) f L10)
              ∗ (∃ f, arg13.view.loc (c : Thread nD τ) ↦[arg13.view.set]{fullShare} arg13.view.writes (Elt F) f L11)
              ∗ (∃ f, arg14.view.loc (c : Thread nD τ) ↦[arg14.view.set]{fullShare} arg14.view.writes (Elt F) f L12)
              ∗ (∃ f, arg15.view.loc (c : Thread nD τ) ↦[arg15.view.set]{fullShare} arg15.view.writes (Elt F) f L13)
              ∗ (∃ f, arg16.view.loc (c : Thread nD τ) ↦[arg16.view.set]{fullShare} arg16.view.writes (Elt F) f L14)
              ∗ (∃ f, arg17.view.loc (c : Thread nD τ) ↦[arg17.view.set]{fullShare} arg17.view.writes (Elt F) f L15)) -∗ K ⟨⟩))
          ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg16.eq_unread hf14; obtain rfl := harg17.eq_unread hf15
    sl_exec (disch := first | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

end Cert.Kernel7Ideal.Whole

end
-- ==== Proof.FfnStep.lean ====
/- The contents of the results of the call `ffn_bwd` after every grid point, in one text for the three cases, and the run that ends with them. -/
module

public import proofs.«01_k».proof.Proof.FfnRun
public import Idealize.ShloMosaic.Lib.Pipeline.Value
public import proofs.«01_k».proof.Proof.Gen.Kernel7Ideal.Skeleton

@[expose] public section

set_option maxRecDepth 16384

noncomputable section

namespace Cert.Kernel7Ideal.Whole

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The payloads as functions of the windows' blocks -/

/-- A row of the modulation, and the two halves of a weight. -/
abbrev row0 (x : Vec F S1x1x3x1024 .f32) : Vec F S1x1x1x1024 .f32 :=
  View.ld x (Rect.unit (s := S1x1x3x1024) ![0, 0, 0, 0] S1x1x1x1024.size inb_S1x1x3x1024_S1x1x1x1024_0_0_0_0)
abbrev row1 (x : Vec F S1x1x3x1024 .f32) : Vec F S1x1x1x1024 .f32 :=
  View.ld x (Rect.unit (s := S1x1x3x1024) ![0, 0, 1, 0] S1x1x1x1024.size inb_S1x1x3x1024_S1x1x1x1024_0_0_1_0)
abbrev row2 (x : Vec F S1x1x3x1024 .f32) : Vec F S1x1x1x1024 .f32 :=
  View.ld x (Rect.unit (s := S1x1x3x1024) ![0, 0, 2, 0] S1x1x1x1024.size inb_S1x1x3x1024_S1x1x1x1024_0_0_2_0)
abbrev lo (x : Vec F S1x2816x1024 .bf16) : Vec F S1x1408x1024 .bf16 :=
  View.ld x (Rect.unit (s := S1x2816x1024) ![0, 0, 0] S1x1408x1024.size inb_S1x2816x1024_S1x1408x1024_0_0_0)
abbrev hi (x : Vec F S1x2816x1024 .bf16) : Vec F S1x1408x1024 .bf16 :=
  View.ld x (Rect.unit (s := S1x2816x1024) ![0, 1408, 0] S1x1408x1024.size inb_S1x2816x1024_S1x1408x1024_0_1408_0)

section payloads
variable (x0 x1 x2 : Vec F S1x256x1024 .f32) (x3 : Vec F S1x1x3x1024 .f32) (x4 : Vec F S1x1024 .f32) (x5 x6 x7 : Vec F S1x2816x1024 .bf16)

/-- The modulated tokens, and the branch's cotangent scaled by its gate. -/
def tok : FVec F S256x1024 .f32 := k0_pay12 x0 x4 (row0 x3) (row1 x3)
def ctf : FVec F S256x1024 .bf16 := k0_pay15 (k0_pay3 x1) (k0_pay4 (row2 x3))
/-- The first projection's second half, the cotangents of both projections' second half, and the tokens' cotangent
    with the last product of the sum still open. -/
def uhi : FVec F S256x1408 .f32 := k0_pay30 (k0_pay13 (tok x0 x3 x4)) (hi x5)
def ghi : FVec F S256x1408 .bf16 := k0_pay36 (ctf x1 x3) (uhi x0 x3 x4 x5) (hi x7)
def glo : FVec F S256x1024 .f32 :=
  k0_pay29 (ctf x1 x3) k0_pay18 (k0_pay19 (tok x0 x3 x4) (lo x5)) (k0_pay20 (tok x0 x3 x4) (lo x6))
    (k0_pay21 (tok x0 x3 x4) (lo x5)) (k0_pay22 (tok x0 x3 x4) (lo x5)) (lo x7) (lo x5) (lo x6)
def gsum : FVec F S256x1024 .f32 :=
  k0_pay40 (k0_pay13 (tok x0 x3 x4)) (ctf x1 x3) (glo x0 x1 x3 x4 x5 x6 x7) (uhi x0 x3 x4 x5) (hi x6) (hi x7) (hi x5)

def o8 : Vec F S1x256x1024 .f32 :=
  k0_pay44 (k0_pay2 x0) (k0_pay3 x1) (k0_pay5 x4) (k0_pay7 x0) (k0_pay8 x0) (k0_pay11 (row1 x3)) (ghi x0 x1 x3 x4 x5 x7)
    (gsum x0 x1 x3 x4 x5 x6 x7) (hi x6)
def o9 : Vec F S1x256x1024 .bf16 := k0_pay14 (tok x0 x3 x4)
def o10 : Vec F S1x256x2816 .bf16 := View.canon (Val := Elt F) (s := S1x256x2816) (e := .bf16)
  [⟨Rect.unit (s := S1x256x2816) ![0, 0, 1408] S1x256x1408.size inb_S1x256x2816_S1x256x1408_0_0_1408,
      k0_pay38 (k0_pay13 (tok x0 x3 x4)) (ctf x1 x3) (uhi x0 x3 x4 x5) (hi x6) (hi x7)⟩,
    ⟨Rect.unit (s := S1x256x2816) ![0, 0, 0] S1x256x1408.size inb_S1x256x2816_S1x256x1408_0_0_0,
      k0_pay27 (ctf x1 x3) (k0_pay19 (tok x0 x3 x4) (lo x5)) (k0_pay20 (tok x0 x3 x4) (lo x6)) (k0_pay21 (tok x0 x3 x4) (lo x5)) (lo x7)⟩]
def o11 : Vec F S1x256x2816 .bf16 := View.canon (Val := Elt F) (s := S1x256x2816) (e := .bf16)
  [⟨Rect.unit (s := S1x256x2816) ![0, 0, 1408] S1x256x1408.size inb_S1x256x2816_S1x256x1408_0_0_1408,
      k0_pay39 (ctf x1 x3) (uhi x0 x3 x4 x5) (hi x7)⟩,
    ⟨Rect.unit (s := S1x256x2816) ![0, 0, 0] S1x256x1408.size inb_S1x256x2816_S1x256x1408_0_0_0,
      k0_pay28 (ctf x1 x3) (k0_pay22 (tok x0 x3 x4) (lo x5)) (lo x7)⟩]
def o12 : Vec F S1x256x2816 .bf16 := View.canon (Val := Elt F) (s := S1x256x2816) (e := .bf16)
  [⟨Rect.unit (s := S1x256x2816) ![0, 0, 1408] S1x256x1408.size inb_S1x256x2816_S1x256x1408_0_0_1408,
      k0_pay34 (k0_pay13 (tok x0 x3 x4)) (uhi x0 x3 x4 x5) (hi x6)⟩,
    ⟨Rect.unit (s := S1x256x2816) ![0, 0, 0] S1x256x1408.size inb_S1x256x2816_S1x256x1408_0_0_0,
      k0_pay23 (tok x0 x3 x4) (lo x5) (lo x6)⟩]
def o13 : Vec F S1x256x1024 .bf16 := k0_pay16 (k0_pay3 x1) (k0_pay4 (row2 x3))
/-- The modulation's accumulator started afresh, and added to; the gain's likewise. -/
def f14 : Vec F S1x1x3x1024 .f32 :=
  k0_pay46 (k0_pay10 x0 x4) (k0_pay17 (k0_pay3 x1) x2) (ghi x0 x1 x3 x4 x5 x7) (gsum x0 x1 x3 x4 x5 x6 x7) (hi x6)
def g14 (y : Vec F S1x1x3x1024 .f32) : Vec F S1x1x3x1024 .f32 :=
  k0_pay47 (k0_pay10 x0 x4) (k0_pay17 (k0_pay3 x1) x2) (ghi x0 x1 x3 x4 x5 x7) (gsum x0 x1 x3 x4 x5 x6 x7) (hi x6) y
def f15 : Vec F S1x1024 .f32 :=
  k0_pay43 (k0_pay9 x0) (k0_pay11 (row1 x3)) (ghi x0 x1 x3 x4 x5 x7) (gsum x0 x1 x3 x4 x5 x6 x7) (hi x6)
def g15 (y : Vec F S1x1024 .f32) : Vec F S1x1024 .f32 := k0_pay1 (f15 x0 x1 x3 x4 x5 x6 x7) y
end payloads

theorem hz2 : (![0, 0] : Fin 2 → ℕ) = fun _ => 0 := by decide
theorem hz3 : (![0, 0, 0] : Fin 3 → ℕ) = fun _ => 0 := by decide
theorem hz4 : (![0, 0, 0, 0] : Fin 4 → ℕ) = fun _ => 0 := by decide

/-! ## What each case leaves is those payloads -/

/-- What writes leave that cover their buffer. -/
def Leaves {S : Shape} {e : _} (L : List (View.Piece (Elt F) S e)) (v : Vec F S e) : Prop :=
  (∀ y : S.Idx, ∃ pc ∈ L, y ∈ pc.1.set) ∧ View.canon L = v
theorem Leaves.read {S : Shape} {e : _} {κ : _} {sp : _} {L : List (View.Piece (Elt F) S e)} {v : Vec F S e} (h : Leaves L v) (w : View sig κ sp S e)
    (f : w.ty.Contents (Elt F)) : w.read (Elt F) (w.writes (Elt F) f L) = v :=
  (View.read_writes_eq_canon w f L h.1).trans h.2

section cases
variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x3x1024 .f32) (harg5 : arg5.IsWhole) (arg6 : Memref sig .tc .vmem S1x1024 .f32) (harg6 : arg6.IsWhole) (arg7 : Memref sig .tc .vmem S1x2816x1024 .bf16) (harg7 : arg7.IsWhole) (arg8 : Memref sig .tc .vmem S1x2816x1024 .bf16) (harg8 : arg8.IsWhole) (arg9 : Memref sig .tc .vmem S1x2816x1024 .bf16) (harg9 : arg9.IsWhole) (arg10 : Memref sig .tc .vmem S1x256x1024 .f32) (harg10 : arg10.IsWhole) (arg11 : Memref sig .tc .vmem S1x256x1024 .bf16) (harg11 : arg11.IsWhole) (arg12 : Memref sig .tc .vmem S1x256x2816 .bf16) (harg12 : arg12.IsWhole) (arg13 : Memref sig .tc .vmem S1x256x2816 .bf16) (harg13 : arg13.IsWhole) (arg14 : Memref sig .tc .vmem S1x256x2816 .bf16) (harg14 : arg14.IsWhole) (arg15 : Memref sig .tc .vmem S1x256x1024 .bf16) (harg15 : arg15.IsWhole) (arg16 : Memref sig .tc .vmem S1x1x3x1024 .f32) (harg16 : arg16.IsWhole) (arg17 : Memref sig .tc .vmem S1x1024 .f32) (harg17 : arg17.IsWhole)
  (x0 x1 x2 : Vec F S1x256x1024 .f32) (x3 : Vec F S1x1x3x1024 .f32) (x4 : Vec F S1x1024 .f32) (x5 x6 x7 : Vec F S1x2816x1024 .bf16)
  (xo14 : Vec F S1x1x3x1024 .f32) (xo15 : Vec F S1x1024 .f32)

section
open runA.sl
variable (h1 : k0_cond1 i = 1#1) (h2 : ¬k0_cond2 i = 1#1) (h3 : k0_cond3 i = 1#1) (h4 : ¬k0_cond4 i = 1#1)
local notation "RA" => runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 x0 x1 x2 x3 x4 x5 x6 x7

theorem leavesA : Leaves RA.1 (o8 x0 x1 x3 x4 x5 x6 x7)
    ∧ Leaves RA.2.1 (o9 x0 x3 x4)
    ∧ Leaves RA.2.2.1 (o10 x0 x1 x3 x4 x5 x6 x7)
    ∧ Leaves RA.2.2.2.1 (o11 x0 x1 x3 x4 x5 x7)
    ∧ Leaves RA.2.2.2.2.1 (o12 x0 x3 x4 x5 x6)
    ∧ Leaves RA.2.2.2.2.2.1 (o13 x1 x3)
    ∧ Leaves RA.2.2.2.2.2.2.1 (f14 x0 x1 x2 x3 x4 x5 x6 x7)
    ∧ Leaves RA.2.2.2.2.2.2.2.1 (f15 x0 x1 x3 x4 x5 x6 x7) := by
  refine ⟨⟨View.cover_of_tiledL (s := S1x256x1024) _ S1x256x1024.size (by sl_kernel_rfl), ?_⟩,
    ⟨View.cover_of_tiledL (s := S1x256x1024) _ S1x256x1024.size (by sl_kernel_rfl), ?_⟩,
    ⟨View.cover_of_tiledL (s := S1x256x2816) _ S1x256x1408.size (by sl_kernel_rfl), ?_⟩,
    ⟨View.cover_of_tiledL (s := S1x256x2816) _ S1x256x1408.size (by sl_kernel_rfl), ?_⟩,
    ⟨View.cover_of_tiledL (s := S1x256x2816) _ S1x256x1408.size (by sl_kernel_rfl), ?_⟩,
    ⟨View.cover_of_tiledL (s := S1x256x1024) _ S1x256x1024.size (by sl_kernel_rfl), ?_⟩,
    ⟨View.cover_of_tiledL (s := S1x1x3x1024) _ S1x1x3x1024.size (by sl_kernel_rfl), ?_⟩,
    ⟨View.cover_of_tiledL (s := S1x1024) _ S1x1024.size (by sl_kernel_rfl), ?_⟩⟩ <;>
  unfold runA <;> dsimp only
  on_goal 7 => rw [View.canon_unit_zero (S := S1x1x3x1024) hz4]
  on_goal 8 => rw [View.canon_unit_zero (S := S1x1024) hz2]
  all_goals first | rw [View.canon_unit_zero (S := S1x256x1024) hz3] | skip
  all_goals
    simp only [r, r_1, r_2, r_3, r_4, r_5, r_6, r_7, r_8, r_9, r_10, r_11, r_12, r_13, r_14, r_15, r_16, r_17, r_18, r_19, r_20, r_21, View.readAt_eq_ld, harg2.read_unread, harg3.read_unread, harg4.read_unread, harg5.read_unread, harg6.read_unread, harg7.read_unread, harg8.read_unread, harg9.read_unread, harg16.read_unread, harg17.read_unread, View.ld_unit_zero (S := S1x256x1024) hz3, View.ld_unit_zero (S := S1x1024) hz2, View.ld_unit_zero (S := S1x1x3x1024) hz4]
    rfl

end

section
open runB.sl
variable (h1 : k0_cond1 i = 1#1) (h2 : ¬k0_cond2 i = 1#1) (h3 : ¬k0_cond3 i = 1#1) (h4 : k0_cond4 i = 1#1)
local notation "RB" => runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 x0 x1 x2 x3 x4 x5 x6 x7 xo15

theorem leavesB : Leaves RB.1 (o8 x0 x1 x3 x4 x5 x6 x7)
    ∧ Leaves RB.2.1 (o9 x0 x3 x4)
    ∧ Leaves RB.2.2.1 (o10 x0 x1 x3 x4 x5 x6 x7)
    ∧ Leaves RB.2.2.2.1 (o11 x0 x1 x3 x4 x5 x7)
    ∧ Leaves RB.2.2.2.2.1 (o12 x0 x3 x4 x5 x6)
    ∧ Leaves RB.2.2.2.2.2.1 (o13 x1 x3)
    ∧ Leaves RB.2.2.2.2.2.2.1 (f14 x0 x1 x2 x3 x4 x5 x6 x7)
    ∧ Leaves RB.2.2.2.2.2.2.2.1 (g15 x0 x1 x3 x4 x5 x6 x7 xo15) := by
  refine ⟨⟨View.cover_of_tiledL (s := S1x256x1024) _ S1x256x1024.size (by sl_kernel_rfl), ?_⟩,
    ⟨View.cover_of_tiledL (s := S1x256x1024) _ S1x256x1024.size (by sl_kernel_rfl), ?_⟩,
    ⟨View.cover_of_tiledL (s := S1x256x2816) _ S1x256x1408.size (by sl_kernel_rfl), ?_⟩,
    ⟨View.cover_of_tiledL (s := S1x256x2816) _ S1x256x1408.size (by sl_kernel_rfl), ?_⟩,
    ⟨View.cover_of_tiledL (s := S1x256x2816) _ S1x256x1408.size (by sl_kernel_rfl), ?_⟩,
    ⟨View.cover_of_tiledL (s := S1x256x1024) _ S1x256x1024.size (by sl_kernel_rfl), ?_⟩,
    ⟨View.cover_of_tiledL (s := S1x1x3x1024) _ S1x1x3x1024.size (by sl_kernel_rfl), ?_⟩,
    ⟨View.cover_of_tiledL (s := S1x1024) _ S1x1024.size (by sl_kernel_rfl), ?_⟩⟩ <;>
  unfold runB <;> dsimp only
  on_goal 7 => rw [View.canon_unit_zero (S := S1x1x3x1024) hz4]
  on_goal 8 => rw [View.canon_unit_zero (S := S1x1024) hz2]
  all_goals first | rw [View.canon_unit_zero (S := S1x256x1024) hz3] | skip
  all_goals
    simp only [r, r_1, r_2, r_3, r_4, r_5, r_6, r_7, r_8, r_9, r_10, r_11, r_12, r_13, r_14, r_15, r_16, r_17, r_18, r_19, r_20, r_21, View.readAt_eq_ld, harg2.read_unread, harg3.read_unread, harg4.read_unread, harg5.read_unread, harg6.read_unread, harg7.read_unread, harg8.read_unread, harg9.read_unread, harg16.read_unread, harg17.read_unread, View.ld_unit_zero (S := S1x256x1024) hz3, View.ld_unit_zero (S := S1x1024) hz2, View.ld_unit_zero (S := S1x1x3x1024) hz4]
    rfl

end

section
open runC.sl
variable (h1 : ¬k0_cond1 i = 1#1) (h2 : k0_cond2 i = 1#1) (h3 : ¬k0_cond3 i = 1#1) (h4 : k0_cond4 i = 1#1)
local notation "RC" => runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 h2 h3 h4 x0 x1 x2 x3 x4 x5 x6 x7 xo14 xo15

theorem leavesC : Leaves RC.1 (o8 x0 x1 x3 x4 x5 x6 x7)
    ∧ Leaves RC.2.1 (o9 x0 x3 x4)
    ∧ Leaves RC.2.2.1 (o10 x0 x1 x3 x4 x5 x6 x7)
    ∧ Leaves RC.2.2.2.1 (o11 x0 x1 x3 x4 x5 x7)
    ∧ Leaves RC.2.2.2.2.1 (o12 x0 x3 x4 x5 x6)
    ∧ Leaves RC.2.2.2.2.2.1 (o13 x1 x3)
    ∧ Leaves RC.2.2.2.2.2.2.1 (g14 x0 x1 x2 x3 x4 x5 x6 x7 xo14)
    ∧ Leaves RC.2.2.2.2.2.2.2.1 (g15 x0 x1 x3 x4 x5 x6 x7 xo15) := by
  refine ⟨⟨View.cover_of_tiledL (s := S1x256x1024) _ S1x256x1024.size (by sl_kernel_rfl), ?_⟩,
    ⟨View.cover_of_tiledL (s := S1x256x1024) _ S1x256x1024.size (by sl_kernel_rfl), ?_⟩,
    ⟨View.cover_of_tiledL (s := S1x256x2816) _ S1x256x1408.size (by sl_kernel_rfl), ?_⟩,
    ⟨View.cover_of_tiledL (s := S1x256x2816) _ S1x256x1408.size (by sl_kernel_rfl), ?_⟩,
    ⟨View.cover_of_tiledL (s := S1x256x2816) _ S1x256x1408.size (by sl_kernel_rfl), ?_⟩,
    ⟨View.cover_of_tiledL (s := S1x256x1024) _ S1x256x1024.size (by sl_kernel_rfl), ?_⟩,
    ⟨View.cover_of_tiledL (s := S1x1x3x1024) _ S1x1x3x1024.size (by sl_kernel_rfl), ?_⟩,
    ⟨View.cover_of_tiledL (s := S1x1024) _ S1x1024.size (by sl_kernel_rfl), ?_⟩⟩ <;>
  unfold runC <;> dsimp only
  on_goal 7 => rw [View.canon_unit_zero (S := S1x1x3x1024) hz4]
  on_goal 8 => rw [View.canon_unit_zero (S := S1x1024) hz2]
  all_goals first | rw [View.canon_unit_zero (S := S1x256x1024) hz3] | skip
  all_goals
    simp only [r, r_1, r_2, r_3, r_4, r_5, r_6, r_7, r_8, r_9, r_10, r_11, r_12, r_13, r_14, r_15, r_16, r_17, r_18, r_19, r_20, r_21, View.readAt_eq_ld, harg2.read_unread, harg3.read_unread, harg4.read_unread, harg5.read_unread, harg6.read_unread, harg7.read_unread, harg8.read_unread, harg9.read_unread, harg16.read_unread, harg17.read_unread, View.ld_unit_zero (S := S1x256x1024) hz3, View.ld_unit_zero (S := S1x1024) hz2, View.ld_unit_zero (S := S1x1x3x1024) hz4]
    rfl

end

end cases

end Cert.Kernel7Ideal.Whole

end
-- ==== Proof.FfnWhole.lean ====
/- The run of the call `ffn_bwd` with the contents of its eight results named. -/
module

public import proofs.«01_k».proof.Proof.FfnStep
public import Idealize.ShloMosaic.Lib.Claim
public import Idealize.ShloMosaic.Lib.Pipeline.TableIdle
public import proofs.«01_k».proof.Proof.Gen.Kernel7Ideal.Skeleton

@[expose] public section

set_option maxRecDepth 16384

noncomputable section

namespace Cert.Kernel7Ideal.Whole

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the two accumulators hold after point `n`. -/
def sums (c : Dev nD) : (n : ℕ) → n < cfg0.N → Vec F S1x1x3x1024 .f32 × Vec F S1x1024 .f32
  | 0, hn => (f14 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
      f15 (iblk m c 0 ⟨0, hn⟩) (iblk m c 1 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    (if (n + 1) % 9 ≤ 1 then f14 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
      else g14 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (sums c n (Nat.lt_of_succ_lt hn)).1,
      g15 (iblk m c 0 ⟨n + 1, hn⟩) (iblk m c 1 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (sums c n (Nat.lt_of_succ_lt hn)).2)

theorem sums_A (c : Dev nD) (t : Fin cfg0.N) (h : t.val = 0) :
    sums m c t.val t.isLt = (f14 (iblk m c 0 t) (iblk m c 1 t) (iblk m c 2 t) (iblk m c 3 t) (iblk m c 4 t) (iblk m c 5 t) (iblk m c 6 t) (iblk m c 7 t),
      f15 (iblk m c 0 t) (iblk m c 1 t) (iblk m c 3 t) (iblk m c 4 t) (iblk m c 5 t) (iblk m c 6 t) (iblk m c 7 t)) := by
  obtain ⟨n, hn⟩ := t
  cases n with
  | zero => rfl
  | succ n => exact absurd h (Nat.succ_ne_zero n)

theorem sums_B (c : Dev nD) (t : Fin cfg0.N) (h : t.val ≠ 0) (h' : t.val % 9 ≤ 1) :
    sums m c t.val t.isLt = (f14 (iblk m c 0 t) (iblk m c 1 t) (iblk m c 2 t) (iblk m c 3 t) (iblk m c 4 t) (iblk m c 5 t) (iblk m c 6 t) (iblk m c 7 t),
      g15 (iblk m c 0 t) (iblk m c 1 t) (iblk m c 3 t) (iblk m c 4 t) (iblk m c 5 t) (iblk m c 6 t) (iblk m c 7 t) (sums m c (t.val - 1) (Nat.lt_of_le_of_lt (Nat.sub_le _ _) t.isLt)).2) := by
  obtain ⟨n, hn⟩ := t
  cases n with
  | zero => exact absurd rfl h
  | succ n => exact Prod.ext (if_pos h') rfl

theorem sums_C (c : Dev nD) (t : Fin cfg0.N) (h' : ¬t.val % 9 ≤ 1) :
    sums m c t.val t.isLt = (g14 (iblk m c 0 t) (iblk m c 1 t) (iblk m c 2 t) (iblk m c 3 t) (iblk m c 4 t) (iblk m c 5 t) (iblk m c 6 t) (iblk m c 7 t) (sums m c (t.val - 1) (Nat.lt_of_le_of_lt (Nat.sub_le _ _) t.isLt)).1,
      g15 (iblk m c 0 t) (iblk m c 1 t) (iblk m c 3 t) (iblk m c 4 t) (iblk m c 5 t) (iblk m c 6 t) (iblk m c 7 t) (sums m c (t.val - 1) (Nat.lt_of_le_of_lt (Nat.sub_le _ _) t.isLt)).2) := by
  obtain ⟨n, hn⟩ := t
  cases n with
  | zero => exact absurd (Nat.zero_le _) h'
  | succ n => exact Prod.ext (if_neg h') rfl

/-- The arrays as the region finds them, the inputs' buffers at their blocks and the results' at the named contents. -/
def exact (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => o8 (iblk m c 0 t) (iblk m c 1 t) (iblk m c 3 t) (iblk m c 4 t) (iblk m c 5 t) (iblk m c 6 t) (iblk m c 7 t)
    | ⟨9, _⟩ => o9 (iblk m c 0 t) (iblk m c 3 t) (iblk m c 4 t)
    | ⟨10, _⟩ => o10 (iblk m c 0 t) (iblk m c 1 t) (iblk m c 3 t) (iblk m c 4 t) (iblk m c 5 t) (iblk m c 6 t) (iblk m c 7 t)
    | ⟨11, _⟩ => o11 (iblk m c 0 t) (iblk m c 1 t) (iblk m c 3 t) (iblk m c 4 t) (iblk m c 5 t) (iblk m c 7 t)
    | ⟨12, _⟩ => o12 (iblk m c 0 t) (iblk m c 3 t) (iblk m c 4 t) (iblk m c 5 t) (iblk m c 6 t)
    | ⟨13, _⟩ => o13 (iblk m c 1 t) (iblk m c 3 t)
    | ⟨14, _⟩ => (sums m c t.val t.isLt).1
    | ⟨15, _⟩ => (sums m c t.val t.isLt).2
    | ⟨n + 16, h⟩ => absurd h (Nat.not_lt.mpr (Nat.le_add_left 16 n))
  Φ _ := Pipeline.ΦA spec0 c
  q w := Pipeline.shareOf spec0 w
  owed _ := 0

theorem entry (c : Dev nD) (w : Fin cfg0.W) : (exact m 0 c).A w = V m c (Pipeline.arrRef spec0 w) := by
  dsimp only [exact]

theorem after0 (c : Dev nD) (t : Fin cfg0.N) : (exact m 0 c).after 0 t = iblk m c 0 t := by dsimp only [exact]
theorem after1 (c : Dev nD) (t : Fin cfg0.N) : (exact m 0 c).after 1 t = iblk m c 1 t := by dsimp only [exact]
theorem after2 (c : Dev nD) (t : Fin cfg0.N) : (exact m 0 c).after 2 t = iblk m c 2 t := by dsimp only [exact]
theorem after3 (c : Dev nD) (t : Fin cfg0.N) : (exact m 0 c).after 3 t = iblk m c 3 t := by dsimp only [exact]
theorem after4 (c : Dev nD) (t : Fin cfg0.N) : (exact m 0 c).after 4 t = iblk m c 4 t := by dsimp only [exact]
theorem after5 (c : Dev nD) (t : Fin cfg0.N) : (exact m 0 c).after 5 t = iblk m c 5 t := by dsimp only [exact]
theorem after6 (c : Dev nD) (t : Fin cfg0.N) : (exact m 0 c).after 6 t = iblk m c 6 t := by dsimp only [exact]
theorem after7 (c : Dev nD) (t : Fin cfg0.N) : (exact m 0 c).after 7 t = iblk m c 7 t := by dsimp only [exact]
theorem after8 (c : Dev nD) (t : Fin cfg0.N) : (exact m 0 c).after 8 t = o8 (iblk m c 0 t) (iblk m c 1 t) (iblk m c 3 t) (iblk m c 4 t) (iblk m c 5 t) (iblk m c 6 t) (iblk m c 7 t) := by
  dsimp only [exact]
theorem after9 (c : Dev nD) (t : Fin cfg0.N) : (exact m 0 c).after 9 t = o9 (iblk m c 0 t) (iblk m c 3 t) (iblk m c 4 t) := by
  dsimp only [exact]
theorem after10 (c : Dev nD) (t : Fin cfg0.N) : (exact m 0 c).after 10 t = o10 (iblk m c 0 t) (iblk m c 1 t) (iblk m c 3 t) (iblk m c 4 t) (iblk m c 5 t) (iblk m c 6 t) (iblk m c 7 t) := by
  dsimp only [exact]
theorem after11 (c : Dev nD) (t : Fin cfg0.N) : (exact m 0 c).after 11 t = o11 (iblk m c 0 t) (iblk m c 1 t) (iblk m c 3 t) (iblk m c 4 t) (iblk m c 5 t) (iblk m c 7 t) := by
  dsimp only [exact]
theorem after12 (c : Dev nD) (t : Fin cfg0.N) : (exact m 0 c).after 12 t = o12 (iblk m c 0 t) (iblk m c 3 t) (iblk m c 4 t) (iblk m c 5 t) (iblk m c 6 t) := by
  dsimp only [exact]
theorem after13 (c : Dev nD) (t : Fin cfg0.N) : (exact m 0 c).after 13 t = o13 (iblk m c 1 t) (iblk m c 3 t) := by
  dsimp only [exact]
theorem after14 (c : Dev nD) (t : Fin cfg0.N) : (exact m 0 c).after 14 t = (sums m c t.val t.isLt).1 := by dsimp only [exact]
theorem after15 (c : Dev nD) (t : Fin cfg0.N) : (exact m 0 c).after 15 t = (sums m c t.val t.isLt).2 := by dsimp only [exact]

theorem before0 (c : Dev nD) (t : Fin cfg0.N) (d) : (exact m 0 c).before 0 t d = iblk m c 0 t :=
  before0_0_of m (exact m 0 c) (entry m c 0) (after0 m c) t d
theorem before1 (c : Dev nD) (t : Fin cfg0.N) (d) : (exact m 0 c).before 1 t d = iblk m c 1 t :=
  before0_1_of m (exact m 0 c) (entry m c 1) (after1 m c) t d
theorem before2 (c : Dev nD) (t : Fin cfg0.N) (d) : (exact m 0 c).before 2 t d = iblk m c 2 t :=
  before0_2_of m (exact m 0 c) (entry m c 2) (after2 m c) t d
theorem before3 (c : Dev nD) (t : Fin cfg0.N) (d) : (exact m 0 c).before 3 t d = iblk m c 3 t :=
  before0_3_of m (exact m 0 c) (entry m c 3) (after3 m c) t d
theorem before4 (c : Dev nD) (t : Fin cfg0.N) (d) : (exact m 0 c).before 4 t d = iblk m c 4 t :=
  before0_4_of m (exact m 0 c) (entry m c 4) (after4 m c) t d
theorem before5 (c : Dev nD) (t : Fin cfg0.N) (d) : (exact m 0 c).before 5 t d = iblk m c 5 t :=
  before0_5_of m (exact m 0 c) (entry m c 5) (after5 m c) t d
theorem before6 (c : Dev nD) (t : Fin cfg0.N) (d) : (exact m 0 c).before 6 t d = iblk m c 6 t :=
  before0_6_of m (exact m 0 c) (entry m c 6) (after6 m c) t d
theorem before7 (c : Dev nD) (t : Fin cfg0.N) (d) : (exact m 0 c).before 7 t d = iblk m c 7 t :=
  before0_7_of m (exact m 0 c) (entry m c 7) (after7 m c) t d

/-- Every point stores into every result. -/
theorem busy : ∀ (t : Fin cfg0.N) (w : Fin cfg0.W), cfg0.idle w (cfg0.grid.coords t) = false := by decide +kernel

theorem kept14 : ∀ t : Fin cfg0.N, ¬t.val % 9 ≤ 1 → cfg0.fresh 14 t.val = false := by decide +kernel
theorem kept15 : ∀ t : Fin cfg0.N, t.val ≠ 0 → cfg0.fresh 15 t.val = false := by decide +kernel

theorem before14 (c : Dev nD) (t : Fin cfg0.N) (h : ¬t.val % 9 ≤ 1) (d) :
    (exact m 0 c).before 14 t d = (sums m c (t.val - 1) (Nat.lt_of_le_of_lt (Nat.sub_le _ _) t.isLt)).1 := by
  rw [Dat.before_out_traj _ 14 rfl (fun _ _ => rfl) (fun s _ hi _ => absurd ((busy s 14).symm.trans hi) Bool.false_ne_true) t.val t rfl d,
    if_neg (by rw [kept14 t h]; exact Bool.false_ne_true)]
  dsimp only [exact]

theorem before15 (c : Dev nD) (t : Fin cfg0.N) (h : t.val ≠ 0) (d) :
    (exact m 0 c).before 15 t d = (sums m c (t.val - 1) (Nat.lt_of_le_of_lt (Nat.sub_le _ _) t.isLt)).2 := by
  rw [Dat.before_out_traj _ 15 rfl (fun _ _ => rfl) (fun s _ hi _ => absurd ((busy s 15).symm.trans hi) Bool.false_ne_true) t.val t rfl d,
    if_neg (by rw [kept15 t h]; exact Bool.false_ne_true)]
  dsimp only [exact]

theorem leaves (c : Dev nD) (w : Fin cfg0.W) (t : Fin cfg0.N) :
    (exact m 0 c).leavesExact w t = owns (c : Thread nD τ) ((cfg0.win w).stage (cfg0.slots t w)) fullShare ((exact m 0 c).after w t) := by
  unfold Dat.leavesExact; rw [busy t w]

theorem caseA : ∀ t : Fin cfg0.N, t.val = 0 → k0_cond1 (grid0.coords t) = 1#1 ∧ ¬k0_cond2 (grid0.coords t) = 1#1
    ∧ k0_cond3 (grid0.coords t) = 1#1 ∧ ¬k0_cond4 (grid0.coords t) = 1#1 := by decide +kernel
theorem caseB : ∀ t : Fin cfg0.N, t.val ≠ 0 → t.val % 9 ≤ 1 → k0_cond1 (grid0.coords t) = 1#1 ∧ ¬k0_cond2 (grid0.coords t) = 1#1
    ∧ ¬k0_cond3 (grid0.coords t) = 1#1 ∧ k0_cond4 (grid0.coords t) = 1#1 := by decide +kernel
theorem caseC : ∀ t : Fin cfg0.N, ¬t.val % 9 ≤ 1 → ¬k0_cond1 (grid0.coords t) = 1#1 ∧ k0_cond2 (grid0.coords t) = 1#1
    ∧ ¬k0_cond3 (grid0.coords t) = 1#1 ∧ k0_cond4 (grid0.coords t) = 1#1 := by decide +kernel

/-- What the body is called with at a point, and what it returns. -/
def bodyPre (c : Dev nD) (t : Fin cfg0.N) : sProp 𝕄 :=
  iprop((exact m 0 c).Φ t.castSucc ∗ (exact m 0 c).owesAt () t.castSucc
    ∗ (∃ d, owns (c : Thread nD τ) (win0_0.stage (cfg0.slots t 0)) fullShare ((exact m 0 c).before 0 t d))
    ∗ (∃ d, owns (c : Thread nD τ) (win0_1.stage (cfg0.slots t 1)) fullShare ((exact m 0 c).before 1 t d))
    ∗ (∃ d, owns (c : Thread nD τ) (win0_2.stage (cfg0.slots t 2)) fullShare ((exact m 0 c).before 2 t d))
    ∗ (∃ d, owns (c : Thread nD τ) (win0_3.stage (cfg0.slots t 3)) fullShare ((exact m 0 c).before 3 t d))
    ∗ (∃ d, owns (c : Thread nD τ) (win0_4.stage (cfg0.slots t 4)) fullShare ((exact m 0 c).before 4 t d))
    ∗ (∃ d, owns (c : Thread nD τ) (win0_5.stage (cfg0.slots t 5)) fullShare ((exact m 0 c).before 5 t d))
    ∗ (∃ d, owns (c : Thread nD τ) (win0_6.stage (cfg0.slots t 6)) fullShare ((exact m 0 c).before 6 t d))
    ∗ (∃ d, owns (c : Thread nD τ) (win0_7.stage (cfg0.slots t 7)) fullShare ((exact m 0 c).before 7 t d))
    ∗ (∃ d, owns (c : Thread nD τ) (win0_8.stage (cfg0.slots t 8)) fullShare ((exact m 0 c).before 8 t d))
    ∗ (∃ d, owns (c : Thread nD τ) (win0_9.stage (cfg0.slots t 9)) fullShare ((exact m 0 c).before 9 t d))
    ∗ (∃ d, owns (c : Thread nD τ) (win0_10.stage (cfg0.slots t 10)) fullShare ((exact m 0 c).before 10 t d))
    ∗ (∃ d, owns (c : Thread nD τ) (win0_11.stage (cfg0.slots t 11)) fullShare ((exact m 0 c).before 11 t d))
    ∗ (∃ d, owns (c : Thread nD τ) (win0_12.stage (cfg0.slots t 12)) fullShare ((exact m 0 c).before 12 t d))
    ∗ (∃ d, owns (c : Thread nD τ) (win0_13.stage (cfg0.slots t 13)) fullShare ((exact m 0 c).before 13 t d))
    ∗ (∃ d, owns (c : Thread nD τ) (win0_14.stage (cfg0.slots t 14)) fullShare ((exact m 0 c).before 14 t d))
    ∗ (∃ d, owns (c : Thread nD τ) (win0_15.stage (cfg0.slots t 15)) fullShare ((exact m 0 c).before 15 t d)))

def bodyPost (c : Dev nD) (t : Fin cfg0.N) : sProp 𝕄 :=
  iprop((exact m 0 c).Φ t.succ ∗ (exact m 0 c).owesAt () t.succ
    ∗ (exact m 0 c).leavesExact 0 t
    ∗ (exact m 0 c).leavesExact 1 t
    ∗ (exact m 0 c).leavesExact 2 t
    ∗ (exact m 0 c).leavesExact 3 t
    ∗ (exact m 0 c).leavesExact 4 t
    ∗ (exact m 0 c).leavesExact 5 t
    ∗ (exact m 0 c).leavesExact 6 t
    ∗ (exact m 0 c).leavesExact 7 t
    ∗ (exact m 0 c).leavesExact 8 t
    ∗ (exact m 0 c).leavesExact 9 t
    ∗ (exact m 0 c).leavesExact 10 t
    ∗ (exact m 0 c).leavesExact 11 t
    ∗ (exact m 0 c).leavesExact 12 t
    ∗ (exact m 0 c).leavesExact 13 t
    ∗ (exact m 0 c).leavesExact 14 t
    ∗ (exact m 0 c).leavesExact 15 t)

set_option maxHeartbeats 4000000 in
/-- The body at any point, by the case the point is in. -/
theorem exact_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  simp only [leaves, after0, after1, after2, after3, after4, after5, after6, after7, after8, after9, after10, after11, after12, after13, after14, after15]
  rw [show (exact m 0 c).Φ t.succ = (exact m 0 c).Φ t.castSucc from rfl,
    show (exact m 0 c).owesAt () t.succ = (exact m 0 c).owesAt () t.castSucc from rfl]
  by_cases h0 : t.val = 0
  · obtain ⟨h1, h2, h3, h4⟩ := caseA t h0
    rw [sums_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runA c (grid0.coords t) _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) (iblk m c 7 t)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact (leavesA (h1 := h1) (h2 := h2) (h3 := h3) (h4 := h4) ..).1.read ..
    isplitl [H9]
    · unfold owns; iexists _; isplitr
      swap; · iexact H9
      ipureintro; exact (leavesA (h1 := h1) (h2 := h2) (h3 := h3) (h4 := h4) ..).2.1.read ..
    isplitl [H10]
    · unfold owns; iexists _; isplitr
      swap; · iexact H10
      ipureintro; exact (leavesA (h1 := h1) (h2 := h2) (h3 := h3) (h4 := h4) ..).2.2.1.read ..
    isplitl [H11]
    · unfold owns; iexists _; isplitr
      swap; · iexact H11
      ipureintro; exact (leavesA (h1 := h1) (h2 := h2) (h3 := h3) (h4 := h4) ..).2.2.2.1.read ..
    isplitl [H12]
    · unfold owns; iexists _; isplitr
      swap; · iexact H12
      ipureintro; exact (leavesA (h1 := h1) (h2 := h2) (h3 := h3) (h4 := h4) ..).2.2.2.2.1.read ..
    isplitl [H13]
    · unfold owns; iexists _; isplitr
      swap; · iexact H13
      ipureintro; exact (leavesA (h1 := h1) (h2 := h2) (h3 := h3) (h4 := h4) ..).2.2.2.2.2.1.read ..
    isplitl [H14]
    · unfold owns; iexists _; isplitr
      swap; · iexact H14
      ipureintro; exact (leavesA (h1 := h1) (h2 := h2) (h3 := h3) (h4 := h4) ..).2.2.2.2.2.2.1.read ..
    unfold owns; iexists _; isplitr
    swap; · iexact H15
    ipureintro; exact (leavesA (h1 := h1) (h2 := h2) (h3 := h3) (h4 := h4) ..).2.2.2.2.2.2.2.read ..
  · by_cases h9 : t.val % 9 ≤ 1
    · obtain ⟨h1, h2, h3, h4⟩ := caseB t h0 h9
      simp only [before15 m c t h0]
      rw [sums_B m c t h0 h9]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runB c (grid0.coords t) _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) (iblk m c 7 t) _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexact H15
      iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact (leavesB (h1 := h1) (h2 := h2) (h3 := h3) (h4 := h4) ..).1.read ..
      isplitl [H9]
      · unfold owns; iexists _; isplitr
        swap; · iexact H9
        ipureintro; exact (leavesB (h1 := h1) (h2 := h2) (h3 := h3) (h4 := h4) ..).2.1.read ..
      isplitl [H10]
      · unfold owns; iexists _; isplitr
        swap; · iexact H10
        ipureintro; exact (leavesB (h1 := h1) (h2 := h2) (h3 := h3) (h4 := h4) ..).2.2.1.read ..
      isplitl [H11]
      · unfold owns; iexists _; isplitr
        swap; · iexact H11
        ipureintro; exact (leavesB (h1 := h1) (h2 := h2) (h3 := h3) (h4 := h4) ..).2.2.2.1.read ..
      isplitl [H12]
      · unfold owns; iexists _; isplitr
        swap; · iexact H12
        ipureintro; exact (leavesB (h1 := h1) (h2 := h2) (h3 := h3) (h4 := h4) ..).2.2.2.2.1.read ..
      isplitl [H13]
      · unfold owns; iexists _; isplitr
        swap; · iexact H13
        ipureintro; exact (leavesB (h1 := h1) (h2 := h2) (h3 := h3) (h4 := h4) ..).2.2.2.2.2.1.read ..
      isplitl [H14]
      · unfold owns; iexists _; isplitr
        swap; · iexact H14
        ipureintro; exact (leavesB (h1 := h1) (h2 := h2) (h3 := h3) (h4 := h4) ..).2.2.2.2.2.2.1.read ..
      unfold owns; iexists _; isplitr
      swap; · iexact H15
      ipureintro; exact (leavesB (h1 := h1) (h2 := h2) (h3 := h3) (h4 := h4) ..).2.2.2.2.2.2.2.read ..
    · obtain ⟨h1, h2, h3, h4⟩ := caseC t h9
      simp only [before14 m c t h9, before15 m c t h0]
      rw [sums_C m c t h9]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runC c (grid0.coords t) _ _ _ _ _ _ _ _ _ _ _ _ _ _ _ _ _ _ _ _ _ _ _ _ _ _ _ _ _ _ _ _ h1 h2 h3 h4 (iblk m c 0 t) (iblk m c 1 t) (iblk m c 2 t) (iblk m c 3 t) (iblk m c 4 t) (iblk m c 5 t) (iblk m c 6 t) (iblk m c 7 t) _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexact H14
      isplitl [H15]; · iexact H15
      iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact (leavesC (h1 := h1) (h2 := h2) (h3 := h3) (h4 := h4) ..).1.read ..
      isplitl [H9]
      · unfold owns; iexists _; isplitr
        swap; · iexact H9
        ipureintro; exact (leavesC (h1 := h1) (h2 := h2) (h3 := h3) (h4 := h4) ..).2.1.read ..
      isplitl [H10]
      · unfold owns; iexists _; isplitr
        swap; · iexact H10
        ipureintro; exact (leavesC (h1 := h1) (h2 := h2) (h3 := h3) (h4 := h4) ..).2.2.1.read ..
      isplitl [H11]
      · unfold owns; iexists _; isplitr
        swap; · iexact H11
        ipureintro; exact (leavesC (h1 := h1) (h2 := h2) (h3 := h3) (h4 := h4) ..).2.2.2.1.read ..
      isplitl [H12]
      · unfold owns; iexists _; isplitr
        swap; · iexact H12
        ipureintro; exact (leavesC (h1 := h1) (h2 := h2) (h3 := h3) (h4 := h4) ..).2.2.2.2.1.read ..
      isplitl [H13]
      · unfold owns; iexists _; isplitr
        swap; · iexact H13
        ipureintro; exact (leavesC (h1 := h1) (h2 := h2) (h3 := h3) (h4 := h4) ..).2.2.2.2.2.1.read ..
      isplitl [H14]
      · unfold owns; iexists _; isplitr
        swap; · iexact H14
        ipureintro; exact (leavesC (h1 := h1) (h2 := h2) (h3 := h3) (h4 := h4) ..).2.2.2.2.2.2.1.read ..
      unfold owns; iexists _; isplitr
      swap; · iexact H15
      ipureintro; exact (leavesC (h1 := h1) (h2 := h2) (h3 := h3) (h4 := h4) ..).2.2.2.2.2.2.2.read ..

theorem exact_row (t : Fin cfg0.N) : defs₀ (F := F) .tc cfg0.body (cfg0.bodyArgs t (cfg0.slots t)) = bodyAt0 t := by
  unfold defs₀; rw [Defs.onTc_tc]

theorem exact_obligation (c : Dev nD) : BodyObligation (exact (F := F) m 0 c) (defs₀ (F := F)) Variants.none () Set.univ := fun t => by
  rw [bigSep_W0, bigSep_W0, exact_row]
  exact triple_restated (exact_body m c t) rfl .rfl fun _ => .rfl

set_option maxHeartbeats 4000000 in
set_option backward.isDefEq.respectTransparency.types false in
/-- Every run of @main ends, with every array of the pipeline at what the named contents give. -/
theorem exact_main : θ_run defs (onTc (τ := τ) (main (F := F))) (s₀ m ρ) (Pipeline.FramePost cfgs (exact m) 0 (V m)) :=
  Pipeline.θ_run_frame_shared (Q' := _) cfgs (exact m) (0 : Fin 1) launch₀0 defs₀ Variants.none m ρ main
    (hbody := fun c => (exact_obligation m c).loose) (hq := fun _ _ _ => rfl)
    (howed := fun _ _ => rfl) (V := V m) (hmain := hmain m Variants.none) (hA := entry m) (hΦ := fun _ _ => rfl)

/-- The run with each result array named, the arguments unchanged. -/
theorem run_named : θ_run defs (onTc (τ := τ) (main (F := F))) ⟨m, fun _ => 0, ρ⟩ fun r =>
    (∀ c : Dev nD, ∀ w : Fin cfg0.W, r.2.mem ((cfg0.spec w).arr.view.loc (c.tc : Thread nD τ)) = (exact m 0 c).arrAt w cfg0.N)
    ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_and ((θ_run defs _ _).mono (fun _ h c w => (h c).1 w) (exact_main m ρ)) (frame_of m ρ (exact m) (entry m) (exact_main m ρ))

end Cert.Kernel7Ideal.Whole

end
-- ==== Proof.FfnRow.lean ====
/- One row of the feed-forward half step's gradient: its modulated norm, its hidden layer, and what its cotangent sends back. -/
module

public import proofs.«01_k».proof.Proof.HeadRow

@[expose] public section

noncomputable section

namespace Step.Ffn

open Idealize.ShloMosaic Step.Head

/-- One, as the programs write it. -/
abbrev cO : EReal := Ideal.ofBits .f32 1065353216#32

theorem cO_eq : cO = ((1 : ℝ) : EReal) := by
  simp [cO, Ideal.ofBits, Ideal.ieee]
  norm_cast
  norm_num

/-- A row: the tokens, the cotangent, and the shift, scale and gate of its modulation. -/
structure Row where
  z : Fin 1024 → EReal
  o : Fin 1024 → EReal
  sh : Fin 1024 → EReal
  sc : Fin 1024 → EReal
  gt : Fin 1024 → EReal

/-- The parameters: the gain and the three weights. -/
structure Par where
  g : Fin 1024 → EReal
  w1 : Fin 1024 → Fin 2816 → EReal
  w3 : Fin 1024 → Fin 2816 → EReal
  w2 : Fin 2816 → Fin 1024 → EReal

variable (R : Row) (P : Par)

/-- Forward: the norm with its gain, the modulated norm, the two projections, the logistic, the hidden layer, the output. -/
def nm (k : Fin 1024) : EReal := zn R.z k * P.g k
def h (k : Fin 1024) : EReal := nm R P k * (cO + R.sc k) + R.sh k
def u1 (j : Fin 2816) : EReal := ∑ k, h R P k * P.w1 k j
def u3 (j : Fin 2816) : EReal := ∑ k, h R P k * P.w3 k j
def sg (j : Fin 2816) : EReal := Ideal.logistic (u1 R P j)
def a (j : Fin 2816) : EReal := (u1 R P j * sg R P j) * u3 R P j
def f (k : Fin 1024) : EReal := ∑ j, a R P j * P.w2 j k

/-- Backward: the output's cotangent, the hidden layer's, the projections', the modulated norm's, the row's. -/
def co (k : Fin 1024) : EReal := (cH * R.gt k) * R.o k
def da (j : Fin 2816) : EReal := ∑ k, co R k * P.w2 j k
def d3 (j : Fin 2816) : EReal := da R P j * (u1 R P j * sg R P j)
def d1 (j : Fin 2816) : EReal := (da R P j * u3 R P j) * (sg R P j * (cO + u1 R P j * (cO - sg R P j)))
def dh (k : Fin 1024) : EReal := (∑ j, d3 R P j * P.w3 k j) + ∑ j, d1 R P j * P.w1 k j
def dn (k : Fin 1024) : EReal := dh R P k * (cO + R.sc k)
def dy (k : Fin 1024) : EReal := dn R P k * P.g k
def corr : EReal := Ideal.div ((∑ k, R.z k * dy R P k) * (cN * Ideal.div (rs R.z) (ms R.z))) cD
def dz (k : Fin 1024) : EReal := R.o k + ((dy R P k * rs R.z + R.z k * corr R P) + corr R P * R.z k)
/-- The row's parts of the gradients by the gain and by the modulation. -/
def dg (k : Fin 1024) : EReal := zn R.z k * dn R P k
def dm (e : Fin 3) (k : Fin 1024) : EReal :=
  if e.val = 0 then dh R P k else if e.val = 1 then nm R P k * dh R P k else (cH * f R P k) * R.o k

/-- The two halves of the hidden columns. -/
def jlo (j : Fin 1408) : Fin 2816 := ⟨j.val, by omega⟩
def jhi (j : Fin 1408) : Fin 2816 := ⟨1408 + j.val, by omega⟩

theorem halves (F : Fin 2816 → EReal) : ∑ j, F j = (∑ j, F (jlo j)) + ∑ j, F (jhi j) := by
  have e := Fin.sum_univ_add (a := 1408) (b := 1408) (f := F)
  exact e

/-- The sum over the hidden columns, taken half by half in the order the products are added. -/
theorem dh_halves (k : Fin 1024) : (((0 + ∑ j, d1 R P (jlo j) * P.w1 k (jlo j)) + ∑ j, d3 R P (jlo j) * P.w3 k (jlo j))
    + ∑ j, d1 R P (jhi j) * P.w1 k (jhi j)) + ∑ j, d3 R P (jhi j) * P.w3 k (jhi j) = dh R P k := by
  unfold dh
  rw [halves fun j => d3 R P j * P.w3 k j, halves fun j => d1 R P j * P.w1 k j]
  abel

/-- A positive real factor passes a sum. -/
theorem half_sum {ι : Type*} (s : Finset ι) (F : ι → EReal) : cH * ∑ i ∈ s, F i = ∑ i ∈ s, cH * F i := by
  classical
  induction s using Finset.induction_on with
  | empty => simp
  | insert a s ha ih =>
    rw [Finset.sum_insert ha, Finset.sum_insert ha, cH_eq, EReal.left_distrib_of_nonneg_of_ne_top (by exact_mod_cast (by norm_num : (0 : ℝ) ≤ 1 / 2)) (EReal.coe_ne_top _),
      ← cH_eq, ih]

/-- Reals among the extended reals. -/
def Fin1 (x : EReal) : Prop := ∃ r : ℝ, x = (r : EReal)

theorem Fin1.add {x y : EReal} (hx : Fin1 x) (hy : Fin1 y) : Fin1 (x + y) := by
  obtain ⟨r, rfl⟩ := hx; obtain ⟨s, rfl⟩ := hy; exact ⟨r + s, (EReal.coe_add r s).symm⟩
theorem Fin1.mul {x y : EReal} (hx : Fin1 x) (hy : Fin1 y) : Fin1 (x * y) := by
  obtain ⟨r, rfl⟩ := hx; obtain ⟨s, rfl⟩ := hy; exact ⟨r * s, (EReal.coe_mul r s).symm⟩
theorem Fin1.sum {ι : Type*} (s : Finset ι) {F : ι → EReal} (hF : ∀ i, Fin1 (F i)) : Fin1 (∑ i ∈ s, F i) := by
  choose r hr using hF
  exact ⟨∑ i ∈ s, r i, by rw [Step.coe_sum]; exact Finset.sum_congr rfl fun i _ => hr i⟩

structure Row.Real : Prop where
  z : ∀ k, Fin1 (R.z k)
  o : ∀ k, Fin1 (R.o k)
  sh : ∀ k, Fin1 (R.sh k)
  sc : ∀ k, Fin1 (R.sc k)
  gt : ∀ k, Fin1 (R.gt k)
structure Par.Real : Prop where
  g : ∀ k, Fin1 (P.g k)
  w1 : ∀ k j, Fin1 (P.w1 k j)
  w3 : ∀ k j, Fin1 (P.w3 k j)
  w2 : ∀ j k, Fin1 (P.w2 j k)

theorem cE_eq : cE = ((8796093 / 8796093022208 : ℝ) : EReal) := by
  simp [cE, Ideal.ofBits, Ideal.ieee]
  norm_cast

theorem cE_pos : ∃ e : ℝ, 0 < e ∧ cE = (e : EReal) := ⟨_, by norm_num, cE_eq⟩

theorem rs_real {z : Fin 1024 → EReal} (hz : ∀ k, Fin1 (z k)) : Fin1 (rs z) := by
  choose r hr using hz
  obtain ⟨e, he, ee⟩ := cE_pos
  have h1 : ms z = (((∑ k, r k * r k) * (1 / 1024) + e : ℝ) : EReal) := by
    have e : (∑ k, z k * z k) = ((∑ k, r k * r k : ℝ) : EReal) := by
      rw [Step.coe_sum]
      exact Finset.sum_congr rfl fun k _ => by rw [hr k, EReal.coe_mul]
    generalize (∑ k, r k * r k) = q at e
    unfold ms
    rw [e, cD_eq, Ideal.div_coe (by norm_num), ee, EReal.coe_add]
    norm_num
  have hp : 0 < (∑ k, r k * r k) * (1 / 1024) + e := by
    have := Finset.sum_nonneg fun k (_ : k ∈ Finset.univ) => mul_self_nonneg (r k)
    positivity
  unfold rs
  rw [h1, Ideal.rsqrt_coe, if_neg (not_lt.2 hp.le), if_neg hp.ne']
  exact ⟨_, rfl⟩

variable {R P}

theorem h_real (hR : R.Real) (hP : P.Real) (k : Fin 1024) : Fin1 (h R P k) :=
  ((((hR.z k).mul (rs_real hR.z)).mul (hP.g k)).mul (Fin1.add ⟨1, cO_eq⟩ (hR.sc k))).add (hR.sh k)
theorem u1_real (hR : R.Real) (hP : P.Real) (j : Fin 2816) : Fin1 (u1 R P j) := Fin1.sum _ fun k => (h_real hR hP k).mul (hP.w1 k j)
theorem u3_real (hR : R.Real) (hP : P.Real) (j : Fin 2816) : Fin1 (u3 R P j) := Fin1.sum _ fun k => (h_real hR hP k).mul (hP.w3 k j)
theorem da_real (hR : R.Real) (hP : P.Real) (j : Fin 2816) : Fin1 (da R P j) :=
  Fin1.sum _ fun k => ((Fin1.mul ⟨1 / 2, cH_eq⟩ (hR.gt k)).mul (hR.o k)).mul (hP.w2 j k)

theorem sg_real (hR : R.Real) (hP : P.Real) (j : Fin 2816) : Fin1 (sg R P j) := by
  obtain ⟨r, hr⟩ := u1_real hR hP j
  unfold sg
  rw [hr]
  exact ⟨_, Ideal.logistic_coe r⟩

/-- The first projection's cotangent in the two forms of the logistic's derivative. -/
theorem d1_two (hR : R.Real) (hP : P.Real) (j : Fin 2816) :
    (da R P j * u3 R P j) * sg R P j + (u1 R P j * (da R P j * u3 R P j)) * (sg R P j * (cO - sg R P j)) = d1 R P j := by
  unfold d1
  obtain ⟨u, hu⟩ := u1_real hR hP j
  obtain ⟨x, hx⟩ := (da_real hR hP j).mul (u3_real hR hP j)
  obtain ⟨s, hs⟩ := sg_real hR hP j
  rw [hu, hx, hs, cO_eq]
  norm_cast
  ring

section arrays

variable (Z O : (⟨3, ![2, 2304, 1024]⟩ : Shape).Idx → EReal) (M : (⟨4, ![2, 2, 3, 1024]⟩ : Shape).Idx → EReal) (G : (⟨1, ![1024]⟩ : Shape).Idx → EReal)
  (W1 W3 : (⟨2, ![1024, 2816]⟩ : Shape).Idx → EReal) (W2 : (⟨2, ![2816, 1024]⟩ : Shape).Idx → EReal)

/-- Which of the two modulations a position takes: the first for the context's 256 positions. -/
def part (s : Fin 2304) : Fin 2 := if s.val < 256 then 0 else 1

/-- The row of a position, and the parameters, in the arrays. -/
def rowG (b : Fin 2) (s : Fin 2304) : Row :=
  ⟨fun k => Z (ix3 b s k), fun k => O (ix3 b s k), fun k => M (ix4 b (part s) 0 k), fun k => M (ix4 b (part s) 1 k), fun k => M (ix4 b (part s) 2 k)⟩
def parG : Par := ⟨fun k => G (ix1 k), fun k j => W1 (ix2 k j), fun k j => W3 (ix2 k j), fun j k => W2 (ix2 j k)⟩

/-- A position of the context, and one after it. -/
def ra (b : Fin 2) (r : Fin 256) : Row := rowG Z O M b ⟨r.val, by omega⟩
def rb (b : Fin 2) (r : Fin 2048) : Row := rowG Z O M b ⟨256 + r.val, by omega⟩

/-- The gradients by the modulation and by the gain: sums over the rows. -/
def dmA (b p : Fin 2) (e : Fin 3) (k : Fin 1024) : EReal :=
  if p.val = 0 then ∑ r, dm (ra Z O M b r) (parG G W1 W3 W2) e k else ∑ r, dm (rb Z O M b r) (parG G W1 W3 W2) e k
def dgA (k : Fin 1024) : EReal := ∑ b : Fin 2, ∑ s : Fin 2304, dg (rowG Z O M b s) (parG G W1 W3 W2) k

theorem part_a (s : Fin 2304) (h : s.val < 256) : part s = 0 := if_pos h
theorem part_b (s : Fin 2304) (h : ¬s.val < 256) : part s = 1 := if_neg h

theorem Row.eq {a b : Row} (hz : ∀ k, a.z k = b.z k) (ho : ∀ k, a.o k = b.o k) (hh : ∀ k, a.sh k = b.sh k) (hs : ∀ k, a.sc k = b.sc k)
    (hg : ∀ k, a.gt k = b.gt k) : a = b := by
  cases a
  cases b
  obtain rfl := funext hz
  obtain rfl := funext ho
  obtain rfl := funext hh
  obtain rfl := funext hs
  obtain rfl := funext hg
  rfl
theorem Par.eq {a b : Par} (hg : ∀ k, a.g k = b.g k) (h1 : ∀ k j, a.w1 k j = b.w1 k j) (h3 : ∀ k j, a.w3 k j = b.w3 k j)
    (h2 : ∀ j k, a.w2 j k = b.w2 j k) : a = b := by
  cases a
  cases b
  obtain rfl := funext hg
  obtain rfl := funext fun k => funext (h1 k)
  obtain rfl := funext fun k => funext (h3 k)
  obtain rfl := funext fun k => funext (h2 k)
  rfl

end arrays

/-- The blocks of 256 positions in the order of the grid, and the sum kept from block to block: it starts anew at the context's block and at the one after it. -/
def block (F : Fin 2 → Fin 2304 → EReal) (t : ℕ) : EReal := ∑ r : Fin 256, F ⟨t / 9 % 2, by omega⟩ ⟨(256 * (t % 9) + r.val) % 2304, by omega⟩
def kept (F : Fin 2 → Fin 2304 → EReal) : ℕ → EReal
  | 0 => block F 0
  | n + 1 => if (n + 1) % 9 ≤ 1 then block F (n + 1) else kept F n + block F (n + 1)

theorem block_at (F : Fin 2 → Fin 2304 → EReal) (b : Fin 2) (q : Fin 9) : block F (9 * b.val + q.val) = ∑ r : Fin 256, F b ⟨256 * q.val + r.val, by omega⟩ := by
  unfold block
  refine Finset.sum_congr rfl fun r _ => congr (congrArg F (Fin.ext ?_)) (Fin.ext ?_)
  · show (9 * b.val + q.val) / 9 % 2 = b.val; omega
  · show (256 * ((9 * b.val + q.val) % 9) + r.val) % 2304 = 256 * q.val + r.val; omega

theorem kept_a (F : Fin 2 → Fin 2304 → EReal) (b : Fin 2) : kept F (9 * b.val) = ∑ r : Fin 256, F b ⟨r.val, by omega⟩ := by
  have e : kept F (9 * b.val) = block F (9 * b.val + (0 : Fin 9).val) := by
    obtain ⟨b, hb⟩ := b
    rcases Nat.le_one_iff_eq_zero_or_eq_one.mp (Nat.le_of_lt_succ hb) with rfl | rfl <;> rfl
  rw [e, block_at]
  exact Finset.sum_congr rfl fun r _ => congrArg (F b) (Fin.ext (by show 256 * 0 + r.val = r.val; omega))

theorem kept_run (F : Fin 2 → Fin 2304 → EReal) (b q : ℕ) (hq : q < 8) : kept F (9 * b + (1 + q)) = ∑ x ∈ Finset.range (q + 1), block F (9 * b + (1 + x)) := by
  induction q with
  | zero =>
    rw [Finset.sum_range_one]
    exact if_pos (by omega)
  | succ q ih =>
    have hn : ¬(9 * b + (1 + q) + 1) % 9 ≤ 1 := by omega
    rw [Finset.sum_range_succ, ← ih (by omega)]
    exact if_neg hn

theorem kept_b (F : Fin 2 → Fin 2304 → EReal) (b : Fin 2) : kept F (9 * b.val + 8) = ∑ r : Fin 2048, F b ⟨256 + r.val, by omega⟩ := by
  refine Eq.trans (b := ∑ q : Fin 8, block F (9 * b.val + (1 + q.val))) ?_ ?_
  · exact (kept_run F b.val 7 (by omega)).trans (Finset.sum_range _)
  · rw [Step.Head.rows2048]
    refine Finset.sum_congr rfl fun q _ => (block_at F b ⟨1 + q.val, by omega⟩).trans (Finset.sum_congr rfl fun r _ => congrArg (F b) (Fin.ext ?_))
    show 256 * (1 + q.val) + r.val = 256 + (256 * q.val + r.val)
    omega

theorem rows2304 (f : Fin 2304 → EReal) : ∑ s, f s = ∑ q : Fin 9, ∑ r : Fin 256, f ⟨256 * q.val + r.val, by omega⟩ := by
  rw [← Fintype.sum_prod_type', ← (finProdFinEquiv (m := 9) (n := 256)).sum_comp]
  refine Finset.sum_congr rfl fun p _ => congrArg f (Fin.ext ?_)
  simp [finProdFinEquiv, Nat.add_comm]

theorem parts (f : Fin 2304 → EReal) : ∑ s, f s = (∑ r : Fin 2048, f ⟨256 + r.val, by omega⟩) + ∑ r : Fin 256, f ⟨r.val, by omega⟩ :=
  (Fin.sum_univ_add (a := 256) (b := 2048) (f := f)).trans (add_comm _ _)

/-- The eighteen blocks are every position of both sequences. -/
theorem blocks (F : Fin 2 → Fin 2304 → EReal) : ∑ t ∈ Finset.range 18, block F t = ∑ b : Fin 2, ∑ s : Fin 2304, F b s := by
  have h (b : Fin 2) : ∑ x ∈ Finset.range 9, block F (9 * b.val + x) = ∑ s : Fin 2304, F b s := by
    rw [Finset.sum_range, rows2304]
    exact Finset.sum_congr rfl fun q _ => block_at F b q
  rw [show (18 : ℕ) = 9 + 9 from rfl, Finset.sum_range_add, Fin.sum_univ_two, ← h 0, ← h 1]
  exact congrArg (· + _) (Finset.sum_congr rfl fun x _ => congrArg (block F) (by simp))

/-- Six places holding one part each. -/
theorem six (p : Fin 2) (e : Fin 3) (A B : Fin 3 → EReal) :
    ((if p.val = 1 ∧ e.val = 2 then B 2 else 0) + (if p.val = 0 ∧ e.val = 2 then A 2 else 0))
      + ((((if p.val = 1 ∧ e.val = 0 then B 0 else 0) + (if p.val = 1 ∧ e.val = 1 then B 1 else 0)) + (if p.val = 0 ∧ e.val = 0 then A 0 else 0)) + (if p.val = 0 ∧ e.val = 1 then A 1 else 0))
    = if p.val = 0 then A e else B e := by
  fin_cases p <;> fin_cases e <;> simp

end Step.Ffn
end
-- ==== Proof.FfnKernel.lean ====
/- The feed-forward half step's gradient as its kernel computes it, block by block. -/
module

public import proofs.«01_k».proof.Proof.FfnRow
public import proofs.«01_k».proof.Proof.FfnStep

@[expose] public section

set_option maxRecDepth 65536

noncomputable section

namespace Cert.Kernel7Ideal.Whole

open Cert.Kernel7Ideal Cert.Kernel7Ideal.Gen Idealize.ShloMosaic Idealize.ShloMosaic.TcCoe Idealize.SL.Sem

/-- A product of rows by rows of half a weight, and by columns of half a weight. -/
theorem mul_rows (x : FVec Ideal S256x1024 .bf16) (w : Vec Ideal S1x1408x1024 .bf16) (y : S256x1408.Idx) :
    matmul (φ₂ := .bf16) dot_S256x1024_S1408x1024_S256x1408_1_1_0_0_n_n none x (shapeCast S1408x1024 w shapeCasts_S1x1408x1024_S1408x1024) (constant S256x1408 .f32 0x00000000#32) y
      = ∑ k : Fin 1024, (x (ix2 (y 0) k) * w (ix3 0 (y 1) k) : EReal) := by
  pointwise
theorem mul_cols (x : FVec Ideal S256x1408 .bf16) (w : Vec Ideal S1x1408x1024 .bf16) (y : S256x1024.Idx) :
    matmul (φ₂ := .bf16) dot_S256x1408_S1408x1024_S256x1024_1_0_0_1_n_n none x (shapeCast S1408x1024 w shapeCasts_S1x1408x1024_S1408x1024) (constant S256x1024 .f32 0x00000000#32) y
      = ∑ j : Fin 1408, (x (ix2 (y 0) j) * w (ix3 0 j (y 1)) : EReal) := by
  pointwise

theorem lo_at (x : Vec Ideal S1x2816x1024 .bf16) (j : Fin 1408) (k : Fin 1024) : lo x (ix3 0 j k) = x (ix3 0 (Step.Ffn.jlo j) k) := by
  refine congrArg x ?_
  funext a
  fin_cases a <;> refine Fin.ext ?_ <;> simp [Step.Ffn.jlo]
theorem hi_at (x : Vec Ideal S1x2816x1024 .bf16) (j : Fin 1408) (k : Fin 1024) : hi x (ix3 0 j k) = x (ix3 0 (Step.Ffn.jhi j) k) := by
  refine congrArg x ?_
  funext a
  fin_cases a <;> refine Fin.ext ?_ <;> simp [Step.Ffn.jhi]
theorem row0_at (x : Vec Ideal S1x1x3x1024 .f32) (k : Fin 1024) : row0 x (ix4 0 0 0 k) = x (ix4 0 0 0 k) := by
  refine congrArg x ?_
  funext a
  fin_cases a <;> refine Fin.ext ?_ <;> simp
theorem row1_at (x : Vec Ideal S1x1x3x1024 .f32) (k : Fin 1024) : row1 x (ix4 0 0 0 k) = x (ix4 0 0 1 k) := by
  refine congrArg x ?_
  funext a
  fin_cases a <;> refine Fin.ext ?_ <;> simp
theorem row2_at (x : Vec Ideal S1x1x3x1024 .f32) (k : Fin 1024) : row2 x (ix4 0 0 0 k) = x (ix4 0 0 2 k) := by
  refine congrArg x ?_
  funext a
  fin_cases a <;> refine Fin.ext ?_ <;> simp

variable (x0 x1 x2 : Vec Ideal S1x256x1024 .f32) (x3 : Vec Ideal S1x1x3x1024 .f32) (x4 : Vec Ideal S1x1024 .f32)
  (x5 x6 x7 : Vec Ideal S1x2816x1024 .bf16)

/-- A row of a block, and the parameters. -/
def brow (r : Fin 256) : Step.Ffn.Row :=
  ⟨fun k => x0 (ix3 0 r k), fun k => x1 (ix3 0 r k), fun k => x3 (ix4 0 0 0 k), fun k => x3 (ix4 0 0 1 k), fun k => x3 (ix4 0 0 2 k)⟩
def bpar : Step.Ffn.Par := ⟨fun k => x4 (ix2 0 k), fun k j => x5 (ix3 0 j k), fun k j => x6 (ix3 0 j k), fun j k => x7 (ix3 0 j k)⟩

local notation "RR" => brow x0 x1 x3
local notation "PP" => bpar x4 x5 x6 x7

theorem p6 (y : S256x1.Idx) : k0_pay6 (F := Ideal) x0 y = Step.Head.ms (fun k => x0 (ix3 0 (y 0) k)) := by
  unfold Step.Head.ms
  pointwise [k0_pay6, k0_pay2]
theorem p7 (y : S256x1.Idx) : k0_pay7 (F := Ideal) x0 y = Step.Head.rs (fun k => x0 (ix3 0 (y 0) k)) := by
  unfold Step.Head.rs
  rw [← p6]
  pointwise [k0_pay7]
theorem p8 (y : S256x1.Idx) : k0_pay8 (F := Ideal) x0 y = (Step.Head.cN * Ideal.div (Step.Head.rs (fun k => x0 (ix3 0 (y 0) k))) (Step.Head.ms (fun k => x0 (ix3 0 (y 0) k))) : EReal) := by
  rw [← p6, ← p7]
  pointwise [k0_pay8]
theorem p9 (y : S256x1024.Idx) : k0_pay9 (F := Ideal) x0 y = Step.Head.zn (fun k => x0 (ix3 0 (y 0) k)) (y 1) := by
  refine Eq.trans (b := (x0 (ix3 0 (y 0) (y 1)) * k0_pay7 (F := Ideal) x0 (ix2 (y 0) 0) : EReal)) (by pointwise [k0_pay9, k0_pay2]) ?_
  rw [p7]
  rfl
theorem p10 (y : S256x1024.Idx) : k0_pay10 (F := Ideal) x0 x4 y = Step.Ffn.nm (RR (y 0)) PP (y 1) := by
  refine Eq.trans (b := (k0_pay9 (F := Ideal) x0 y * x4 (ix2 0 (y 1)) : EReal)) (by pointwise [k0_pay10, k0_pay5]) ?_
  rw [p9]
  rfl
theorem p11 (y : S1x1024.Idx) : k0_pay11 (F := Ideal) (row1 x3) y = (Step.Ffn.cO + x3 (ix4 0 0 1 (y 1)) : EReal) := by
  exact Eq.trans (b := (Step.Ffn.cO + row1 x3 (ix4 0 0 0 (y 1)) : EReal)) (by generalize row1 x3 = v; pointwise [k0_pay11])
    (congrArg (fun e : EReal => Step.Ffn.cO + e) (row1_at x3 (y 1)))
theorem tok_at (y : S256x1024.Idx) : tok (F := Ideal) x0 x3 x4 y = Step.Ffn.h (RR (y 0)) PP (y 1) := by
  unfold tok
  refine Eq.trans (b := (k0_pay10 (F := Ideal) x0 x4 y * k0_pay11 (F := Ideal) (row1 x3) (ix2 0 (y 1)) + row0 x3 (ix4 0 0 0 (y 1)) : EReal))
    (by generalize row1 x3 = v; generalize row0 x3 = u; pointwise [k0_pay12]) ?_
  exact congrArg₂ (fun a b : EReal => a + b) (congrArg₂ (fun a b : EReal => a * b) (p10 x0 x1 x3 x4 x5 x6 x7 y) (p11 x3 _)) (row0_at x3 (y 1))
theorem o9_at (y : S1x256x1024.Idx) : o9 (F := Ideal) x0 x3 x4 y = Step.Ffn.h (RR (y 1)) PP (y 2) := by
  unfold o9
  refine Eq.trans (b := (tok (F := Ideal) x0 x3 x4 (ix2 (y 1) (y 2)) : EReal)) (by generalize tok (F := Ideal) x0 x3 x4 = t; pointwise [k0_pay14, k0_pay13]) ?_
  exact tok_at x0 x1 x3 x4 x5 x6 x7 _
theorem ctf_at (y : S256x1024.Idx) : ctf (F := Ideal) x1 x3 y = Step.Ffn.co (RR (y 0)) (y 1) := by
  unfold ctf
  refine Eq.trans (b := ((Step.Head.cH * row2 x3 (ix4 0 0 0 (y 1))) * x1 (ix3 0 (y 0) (y 1)) : EReal))
    (by generalize row2 x3 = v; pointwise [k0_pay15, k0_pay3, k0_pay4]) ?_
  exact congrArg (fun e : EReal => (Step.Head.cH * e) * x1 (ix3 0 (y 0) (y 1))) (row2_at x3 (y 1))
theorem o13_at (y : S1x256x1024.Idx) : o13 (F := Ideal) x1 x3 y = Step.Ffn.co (RR (y 1)) (y 2) := by
  refine Eq.trans ?_ (ctf_at x0 x1 x3 (ix2 (y 1) (y 2)))
  unfold o13 ctf
  generalize row2 x3 = v
  pointwise [k0_pay16]

theorem u1lo (y : S256x1408.Idx) : k0_pay19 (F := Ideal) (tok x0 x3 x4) (lo x5) y = Step.Ffn.u1 (RR (y 0)) PP (Step.Ffn.jlo (y 1)) := by
  unfold k0_pay19
  refine (mul_rows _ _ y).trans (Finset.sum_congr rfl fun k _ => ?_)
  exact congrArg₂ (fun a b : EReal => a * b) (tok_at x0 x1 x3 x4 x5 x6 x7 _) (lo_at _ _ _)
theorem u3lo (y : S256x1408.Idx) : k0_pay20 (F := Ideal) (tok x0 x3 x4) (lo x6) y = Step.Ffn.u3 (RR (y 0)) PP (Step.Ffn.jlo (y 1)) := by
  unfold k0_pay20
  refine (mul_rows _ _ y).trans (Finset.sum_congr rfl fun k _ => ?_)
  exact congrArg₂ (fun a b : EReal => a * b) (tok_at x0 x1 x3 x4 x5 x6 x7 _) (lo_at _ _ _)
theorem u1hi (y : S256x1408.Idx) : uhi (F := Ideal) x0 x3 x4 x5 y = Step.Ffn.u1 (RR (y 0)) PP (Step.Ffn.jhi (y 1)) := by
  unfold uhi k0_pay30
  refine (mul_rows _ _ y).trans (Finset.sum_congr rfl fun k _ => ?_)
  exact congrArg₂ (fun a b : EReal => a * b) (tok_at x0 x1 x3 x4 x5 x6 x7 _) (hi_at _ _ _)
theorem u3hi (y : S256x1408.Idx) : k0_pay31 (F := Ideal) (k0_pay13 (tok x0 x3 x4)) (hi x6) y = Step.Ffn.u3 (RR (y 0)) PP (Step.Ffn.jhi (y 1)) := by
  unfold k0_pay31
  refine (mul_rows _ _ y).trans (Finset.sum_congr rfl fun k _ => ?_)
  exact congrArg₂ (fun a b : EReal => a * b) (tok_at x0 x1 x3 x4 x5 x6 x7 _) (hi_at _ _ _)
theorem dalo (y : S256x1408.Idx) : k0_pay24 (F := Ideal) (ctf x1 x3) (lo x7) y = Step.Ffn.da (RR (y 0)) PP (Step.Ffn.jlo (y 1)) := by
  unfold k0_pay24
  refine (mul_rows _ _ y).trans (Finset.sum_congr rfl fun k _ => ?_)
  exact congrArg₂ (fun a b : EReal => a * b) (ctf_at x0 x1 x3 _) (lo_at _ _ _)
theorem dahi (y : S256x1408.Idx) : k0_pay35 (F := Ideal) (ctf x1 x3) (hi x7) y = Step.Ffn.da (RR (y 0)) PP (Step.Ffn.jhi (y 1)) := by
  unfold k0_pay35
  refine (mul_rows _ _ y).trans (Finset.sum_congr rfl fun k _ => ?_)
  exact congrArg₂ (fun a b : EReal => a * b) (ctf_at x0 x1 x3 _) (hi_at _ _ _)

theorem d3lo (y : S256x1408.Idx) : k0_pay25 (F := Ideal) (ctf x1 x3) (k0_pay22 (tok x0 x3 x4) (lo x5)) (lo x7) y = Step.Ffn.d3 (RR (y 0)) PP (Step.Ffn.jlo (y 1)) := by
  refine Eq.trans (b := (k0_pay24 (F := Ideal) (ctf x1 x3) (lo x7) y * (k0_pay19 (F := Ideal) (tok x0 x3 x4) (lo x5) y * Ideal.logistic (k0_pay19 (F := Ideal) (tok x0 x3 x4) (lo x5) y)) : EReal)) rfl ?_
  rw [dalo x0 x1 x3 x4 x5 x6 x7, u1lo x0 x1 x3 x4 x5 x6 x7]
  rfl
theorem d3hi (y : S256x1408.Idx) : ghi (F := Ideal) x0 x1 x3 x4 x5 x7 y = Step.Ffn.d3 (RR (y 0)) PP (Step.Ffn.jhi (y 1)) := by
  refine Eq.trans (b := (k0_pay35 (F := Ideal) (ctf x1 x3) (hi x7) y * (uhi (F := Ideal) x0 x3 x4 x5 y * Ideal.logistic (uhi (F := Ideal) x0 x3 x4 x5 y)) : EReal)) rfl ?_
  rw [dahi x0 x1 x3 x4 x5 x6 x7, u1hi x0 x1 x3 x4 x5 x6 x7]
  rfl
theorem d1lo (y : S256x1408.Idx) : k0_pay26 (F := Ideal) (ctf x1 x3) (k0_pay19 (tok x0 x3 x4) (lo x5)) (k0_pay20 (tok x0 x3 x4) (lo x6)) (k0_pay21 (tok x0 x3 x4) (lo x5)) (lo x7) y
    = Step.Ffn.d1 (RR (y 0)) PP (Step.Ffn.jlo (y 1)) := by
  refine Eq.trans (b := ((k0_pay24 (F := Ideal) (ctf x1 x3) (lo x7) y * k0_pay20 (F := Ideal) (tok x0 x3 x4) (lo x6) y)
    * (Ideal.logistic (k0_pay19 (F := Ideal) (tok x0 x3 x4) (lo x5) y) * (Step.Ffn.cO + k0_pay19 (F := Ideal) (tok x0 x3 x4) (lo x5) y
      * (Step.Ffn.cO - Ideal.logistic (k0_pay19 (F := Ideal) (tok x0 x3 x4) (lo x5) y)))) : EReal)) rfl ?_
  rw [dalo x0 x1 x3 x4 x5 x6 x7, u1lo x0 x1 x3 x4 x5 x6 x7, u3lo x0 x1 x3 x4 x5 x6 x7]
  rfl
theorem d1hi (y : S256x1408.Idx) : k0_pay37 (F := Ideal) (k0_pay13 (tok x0 x3 x4)) (ctf x1 x3) (uhi x0 x3 x4 x5) (hi x6) (hi x7) y
    = Step.Ffn.d1 (RR (y 0)) PP (Step.Ffn.jhi (y 1)) := by
  refine Eq.trans (b := ((k0_pay35 (F := Ideal) (ctf x1 x3) (hi x7) y * k0_pay31 (F := Ideal) (k0_pay13 (tok x0 x3 x4)) (hi x6) y)
    * (Ideal.logistic (uhi (F := Ideal) x0 x3 x4 x5 y) * (Step.Ffn.cO + uhi (F := Ideal) x0 x3 x4 x5 y
      * (Step.Ffn.cO - Ideal.logistic (uhi (F := Ideal) x0 x3 x4 x5 y)))) : EReal)) rfl ?_
  rw [dahi x0 x1 x3 x4 x5 x6 x7, u1hi x0 x1 x3 x4 x5 x6 x7, u3hi x0 x1 x3 x4 x5 x6 x7]
  rfl

/-- The tokens' cotangent after both halves. -/
theorem p41 (y : S256x1024.Idx) : k0_pay41 (F := Ideal) (ghi x0 x1 x3 x4 x5 x7) (gsum x0 x1 x3 x4 x5 x6 x7) (hi x6) y = Step.Ffn.dh (RR (y 0)) PP (y 1) := by
  refine Eq.trans ?_ (Step.Ffn.dh_halves (RR (y 0)) PP (y 1))
  unfold k0_pay41
  refine congrArg₂ (fun a b : EReal => a + b) ?_ ((mul_cols _ _ y).trans (Finset.sum_congr rfl fun j _ =>
    congrArg₂ (fun a b : EReal => a * b) (d3hi x0 x1 x3 x4 x5 x6 x7 _) (hi_at _ _ _)))
  unfold gsum k0_pay40
  refine congrArg₂ (fun a b : EReal => a + b) ?_ ((mul_cols _ _ y).trans (Finset.sum_congr rfl fun j _ =>
    congrArg₂ (fun a b : EReal => a * b) (d1hi x0 x1 x3 x4 x5 x6 x7 _) (hi_at _ _ _)))
  unfold glo k0_pay29
  refine congrArg₂ (fun a b : EReal => a + b) ?_ ((mul_cols _ _ y).trans (Finset.sum_congr rfl fun j _ =>
    congrArg₂ (fun a b : EReal => a * b) (d3lo x0 x1 x3 x4 x5 x6 x7 _) (lo_at _ _ _)))
  refine congrArg₂ (fun a b : EReal => a + b) ?_ ((mul_cols _ _ y).trans (Finset.sum_congr rfl fun j _ =>
    congrArg₂ (fun a b : EReal => a * b) (d1lo x0 x1 x3 x4 x5 x6 x7 _) (lo_at _ _ _)))
  refine Eq.trans (b := Ideal.ofBits .f32 0#32) ?_ (by simp [Ideal.ofBits, Ideal.ieee])
  pointwise [k0_pay18]

theorem p42 (y : S256x1024.Idx) : k0_pay42 (F := Ideal) (k0_pay11 (row1 x3)) (ghi x0 x1 x3 x4 x5 x7) (gsum x0 x1 x3 x4 x5 x6 x7) (hi x6) y = Step.Ffn.dn (RR (y 0)) PP (y 1) := by
  refine Eq.trans (b := (k0_pay41 (F := Ideal) (ghi x0 x1 x3 x4 x5 x7) (gsum x0 x1 x3 x4 x5 x6 x7) (hi x6) y * k0_pay11 (F := Ideal) (row1 x3) (ix2 0 (y 1)) : EReal)) ?_ ?_
  · unfold k0_pay42
    generalize k0_pay41 (F := Ideal) (ghi x0 x1 x3 x4 x5 x7) (gsum x0 x1 x3 x4 x5 x6 x7) (hi x6) = d
    generalize k0_pay11 (F := Ideal) (row1 x3) = v
    pointwise
  rw [p41, p11]
  rfl

theorem f15_at (y : S1x1024.Idx) : f15 (F := Ideal) x0 x1 x3 x4 x5 x6 x7 y = ∑ r : Fin 256, Step.Ffn.dg (RR r) PP (y 1) := by
  unfold f15 k0_pay43
  refine Eq.trans (b := ∑ r : Fin 256, (k0_pay9 (F := Ideal) x0 (ix2 r (y 1)) * k0_pay42 (F := Ideal) (k0_pay11 (row1 x3)) (ghi x0 x1 x3 x4 x5 x7) (gsum x0 x1 x3 x4 x5 x6 x7) (hi x6) (ix2 r (y 1)) : EReal)) ?_ ?_
  · generalize k0_pay42 (F := Ideal) (k0_pay11 (row1 x3)) (ghi x0 x1 x3 x4 x5 x7) (gsum x0 x1 x3 x4 x5 x6 x7) (hi x6) = d
    generalize k0_pay9 (F := Ideal) x0 = v
    pointwise
  refine Finset.sum_congr rfl fun r _ => ?_
  rw [p42, p9]
  rfl

theorem o8_at (y : S1x256x1024.Idx) : o8 (F := Ideal) x0 x1 x3 x4 x5 x6 x7 y = Step.Ffn.dz (RR (y 1)) PP (y 2) := by
  unfold o8 k0_pay44
  refine Eq.trans (b := (x1 (ix3 0 (y 1) (y 2)) + (((k0_pay42 (F := Ideal) (k0_pay11 (row1 x3)) (ghi x0 x1 x3 x4 x5 x7) (gsum x0 x1 x3 x4 x5 x6 x7) (hi x6) (ix2 (y 1) (y 2)) * x4 (ix2 0 (y 2))) * k0_pay7 (F := Ideal) x0 (ix2 (y 1) 0)
      + x0 (ix3 0 (y 1) (y 2)) * ∑ q : Fin 1, Ideal.div ((∑ k : Fin 1024, x0 (ix3 0 (y 1) k) * (k0_pay42 (F := Ideal) (k0_pay11 (row1 x3)) (ghi x0 x1 x3 x4 x5 x7) (gsum x0 x1 x3 x4 x5 x6 x7) (hi x6) (ix2 (y 1) k) * x4 (ix2 0 k))) * k0_pay8 (F := Ideal) x0 (ix2 (y 1) q)) Step.Head.cD)
      + (∑ q : Fin 1, Ideal.div ((∑ k : Fin 1024, x0 (ix3 0 (y 1) k) * (k0_pay42 (F := Ideal) (k0_pay11 (row1 x3)) (ghi x0 x1 x3 x4 x5 x7) (gsum x0 x1 x3 x4 x5 x6 x7) (hi x6) (ix2 (y 1) k) * x4 (ix2 0 k))) * k0_pay8 (F := Ideal) x0 (ix2 (y 1) q)) Step.Head.cD) * x0 (ix3 0 (y 1) (y 2))) : EReal)) ?_ ?_
  · generalize k0_pay42 (F := Ideal) (k0_pay11 (row1 x3)) (ghi x0 x1 x3 x4 x5 x7) (gsum x0 x1 x3 x4 x5 x6 x7) (hi x6) = d
    generalize k0_pay7 (F := Ideal) x0 = v
    generalize k0_pay8 (F := Ideal) x0 = u
    have hy : y = ix3 0 (y 1) (y 2) := by
      funext a
      fin_cases a
      · exact Subsingleton.elim (α := Fin 1) _ _
      · rfl
      · rfl
    refine Eq.trans (by pointwise [k0_pay2, k0_pay3, k0_pay5]) ((congrArg (fun q => (x1 q + ((d (ix2 (y 1) (y 2)) * x4 (ix2 0 (y 2))) * v (ix2 (y 1) 0) + x0 q * _ + _ * x0 q) : EReal)) hy))
  simp only [Fin.sum_univ_one, p42, p7, p8]
  rfl

/-- The hidden layer and the cotangents of both projections: two half tiles, each read at its columns. -/
theorem tiles (A B : Vec Ideal S1x256x1408 .bf16) (H : S1x256x2816.Idx → Elt Ideal .bf16)
    (hA : ∀ x, A x = H (ix3 (x 0) (x 1) (Step.Ffn.jhi (x 2)))) (hB : ∀ x, B x = H (ix3 (x 0) (x 1) (Step.Ffn.jlo (x 2)))) (y : S1x256x2816.Idx) :
    View.canon (Val := Elt Ideal) (s := S1x256x2816) (e := .bf16)
      [⟨Rect.unit (s := S1x256x2816) ![0, 0, 1408] S1x256x1408.size inb_S1x256x2816_S1x256x1408_0_0_1408, A⟩,
        ⟨Rect.unit (s := S1x256x2816) ![0, 0, 0] S1x256x1408.size inb_S1x256x2816_S1x256x1408_0_0_0, B⟩] y = H y := by
  refine View.canon_apply_of_pieces H _ ?_ y ?_
  · intro p hp x
    simp only [List.mem_cons, List.not_mem_nil, or_false] at hp
    rcases hp with rfl | rfl
    · refine (hA x).trans (congrArg H ?_)
      funext a
      fin_cases a <;> refine Fin.ext ?_ <;> simp [Step.Ffn.jhi]
    · refine (hB x).trans (congrArg H ?_)
      funext a
      fin_cases a <;> refine Fin.ext ?_ <;> simp [Step.Ffn.jlo]
  · exact View.cover_of_tiledL (s := S1x256x2816) _ S1x256x1408.size (by sl_kernel_rfl) y

theorem o10_at (y : S1x256x2816.Idx) : o10 (F := Ideal) x0 x1 x3 x4 x5 x6 x7 y = Step.Ffn.d1 (RR (y 1)) PP (y 2) := by
  unfold o10
  refine tiles _ _ (fun y => Step.Ffn.d1 (RR (y 1)) PP (y 2)) (fun x => ?_) (fun x => ?_) y
  · refine Eq.trans (b := (k0_pay37 (F := Ideal) (k0_pay13 (tok x0 x3 x4)) (ctf x1 x3) (uhi x0 x3 x4 x5) (hi x6) (hi x7) (ix2 (x 1) (x 2)) : EReal)) ?_ (d1hi x0 x1 x3 x4 x5 x6 x7 _)
    unfold k0_pay38
    generalize k0_pay37 (F := Ideal) (k0_pay13 (tok x0 x3 x4)) (ctf x1 x3) (uhi x0 x3 x4 x5) (hi x6) (hi x7) = d
    pointwise
  · refine Eq.trans (b := (k0_pay26 (F := Ideal) (ctf x1 x3) (k0_pay19 (tok x0 x3 x4) (lo x5)) (k0_pay20 (tok x0 x3 x4) (lo x6)) (k0_pay21 (tok x0 x3 x4) (lo x5)) (lo x7) (ix2 (x 1) (x 2)) : EReal)) ?_ (d1lo x0 x1 x3 x4 x5 x6 x7 _)
    unfold k0_pay27
    generalize k0_pay26 (F := Ideal) (ctf x1 x3) (k0_pay19 (tok x0 x3 x4) (lo x5)) (k0_pay20 (tok x0 x3 x4) (lo x6)) (k0_pay21 (tok x0 x3 x4) (lo x5)) (lo x7) = d
    pointwise
theorem o11_at (y : S1x256x2816.Idx) : o11 (F := Ideal) x0 x1 x3 x4 x5 x7 y = Step.Ffn.d3 (RR (y 1)) PP (y 2) := by
  unfold o11
  refine tiles _ _ (fun y => Step.Ffn.d3 (RR (y 1)) PP (y 2)) (fun x => ?_) (fun x => ?_) y
  · refine Eq.trans (b := (ghi (F := Ideal) x0 x1 x3 x4 x5 x7 (ix2 (x 1) (x 2)) : EReal)) ?_ (d3hi x0 x1 x3 x4 x5 x6 x7 _)
    unfold ghi k0_pay39
    generalize k0_pay36 (F := Ideal) (ctf x1 x3) (uhi x0 x3 x4 x5) (hi x7) = d
    pointwise
  · refine Eq.trans (b := (k0_pay25 (F := Ideal) (ctf x1 x3) (k0_pay22 (tok x0 x3 x4) (lo x5)) (lo x7) (ix2 (x 1) (x 2)) : EReal)) ?_ (d3lo x0 x1 x3 x4 x5 x6 x7 _)
    unfold k0_pay28
    generalize k0_pay25 (F := Ideal) (ctf x1 x3) (k0_pay22 (tok x0 x3 x4) (lo x5)) (lo x7) = d
    pointwise
theorem o12_at (y : S1x256x2816.Idx) : o12 (F := Ideal) x0 x3 x4 x5 x6 y = Step.Ffn.a (RR (y 1)) PP (y 2) := by
  unfold o12
  refine tiles _ _ (fun y => Step.Ffn.a (RR (y 1)) PP (y 2)) (fun x => ?_) (fun x => ?_) y
  · refine Eq.trans (b := ((uhi (F := Ideal) x0 x3 x4 x5 (ix2 (x 1) (x 2)) * Ideal.logistic (uhi (F := Ideal) x0 x3 x4 x5 (ix2 (x 1) (x 2)))) * k0_pay31 (F := Ideal) (k0_pay13 (tok x0 x3 x4)) (hi x6) (ix2 (x 1) (x 2)) : EReal)) ?_ ?_
    · unfold k0_pay34
      generalize k0_pay31 (F := Ideal) (k0_pay13 (tok x0 x3 x4)) (hi x6) = d
      generalize uhi (F := Ideal) x0 x3 x4 x5 = u
      pointwise [k0_pay33, k0_pay32]
    rw [u1hi x0 x1 x3 x4 x5 x6 x7, u3hi x0 x1 x3 x4 x5 x6 x7]
    rfl
  · refine Eq.trans (b := ((k0_pay19 (F := Ideal) (tok x0 x3 x4) (lo x5) (ix2 (x 1) (x 2)) * Ideal.logistic (k0_pay19 (F := Ideal) (tok x0 x3 x4) (lo x5) (ix2 (x 1) (x 2)))) * k0_pay20 (F := Ideal) (tok x0 x3 x4) (lo x6) (ix2 (x 1) (x 2)) : EReal)) ?_ ?_
    · unfold k0_pay23 k0_pay22 k0_pay21
      generalize k0_pay20 (F := Ideal) (tok x0 x3 x4) (lo x6) = d
      generalize k0_pay19 (F := Ideal) (tok x0 x3 x4) (lo x5) = u
      pointwise
    rw [u1lo x0 x1 x3 x4 x5 x6 x7, u3lo x0 x1 x3 x4 x5 x6 x7]
    rfl

/-- A row's part of the gate's gradient, from the output at hand. -/
def bdm (r : Fin 256) (e : Fin 3) (k : Fin 1024) : EReal :=
  if e.val = 0 then Step.Ffn.dh (RR r) PP k else if e.val = 1 then Step.Ffn.nm (RR r) PP k * Step.Ffn.dh (RR r) PP k else (Step.Head.cH * x2 (ix3 0 r k)) * x1 (ix3 0 r k)

theorem p45 (y : S3x1024.Idx) : k0_pay45 (F := Ideal) (k0_pay10 x0 x4) (k0_pay17 (k0_pay3 x1) x2) (ghi x0 x1 x3 x4 x5 x7) (gsum x0 x1 x3 x4 x5 x6 x7) (hi x6) y
    = ∑ r : Fin 256, bdm x0 x1 x2 x3 x4 x5 x6 x7 r (y 0) (y 1) := by
  have hy : (y 0).val < 3 := (y 0).isLt
  refine Eq.trans (b := (if (y 0).val = 0 then ∑ r : Fin 256, k0_pay41 (F := Ideal) (ghi x0 x1 x3 x4 x5 x7) (gsum x0 x1 x3 x4 x5 x6 x7) (hi x6) (ix2 r (y 1)) else
    if (y 0).val = 1 then ∑ r : Fin 256, k0_pay10 (F := Ideal) x0 x4 (ix2 r (y 1)) * k0_pay41 (F := Ideal) (ghi x0 x1 x3 x4 x5 x7) (gsum x0 x1 x3 x4 x5 x6 x7) (hi x6) (ix2 r (y 1)) else
    ∑ r : Fin 256, (Step.Head.cH * x2 (ix3 0 r (y 1))) * x1 (ix3 0 r (y 1)) : EReal)) ?_ ?_
  · unfold k0_pay45
    generalize k0_pay41 (F := Ideal) (ghi x0 x1 x3 x4 x5 x7) (gsum x0 x1 x3 x4 x5 x6 x7) (hi x6) = d
    generalize k0_pay10 (F := Ideal) x0 x4 = v
    pointwise [k0_pay17, k0_pay3]
    by_cases a : (y 0).val = 0
    · rw [if_pos a, dif_pos (by omega)]
    · rw [if_neg a, dif_neg (by omega)]
      by_cases b : (y 0).val = 1
      · rw [if_pos b, dif_pos (by omega)]
      · rw [if_neg b, dif_neg (by omega)]
  simp only [p41, p10 x0 x1 x3 x4 x5 x6 x7]
  unfold bdm
  split_ifs <;> rfl

theorem f14_at (y : S1x1x3x1024.Idx) : f14 (F := Ideal) x0 x1 x2 x3 x4 x5 x6 x7 y = ∑ r : Fin 256, bdm x0 x1 x2 x3 x4 x5 x6 x7 r (y 2) (y 3) := by
  refine Eq.trans ?_ (p45 x0 x1 x2 x3 x4 x5 x6 x7 (ix2 (y 2) (y 3)))
  unfold f14 k0_pay46
  generalize k0_pay45 (F := Ideal) (k0_pay10 x0 x4) (k0_pay17 (k0_pay3 x1) x2) (ghi x0 x1 x3 x4 x5 x7) (gsum x0 x1 x3 x4 x5 x6 x7) (hi x6) = d
  pointwise
theorem g14_at (v : Vec Ideal S1x1x3x1024 .f32) (y : S1x1x3x1024.Idx) :
    g14 (F := Ideal) x0 x1 x2 x3 x4 x5 x6 x7 v y = (v y + ∑ r : Fin 256, bdm x0 x1 x2 x3 x4 x5 x6 x7 r (y 2) (y 3) : EReal) := by
  refine Eq.trans ?_ (congrArg (fun e : EReal => v y + e) (p45 x0 x1 x2 x3 x4 x5 x6 x7 (ix2 (y 2) (y 3))))
  unfold g14 k0_pay47
  generalize k0_pay45 (F := Ideal) (k0_pay10 x0 x4) (k0_pay17 (k0_pay3 x1) x2) (ghi x0 x1 x3 x4 x5 x7) (gsum x0 x1 x3 x4 x5 x6 x7) (hi x6) = d
  pointwise
theorem g15_at (v : Vec Ideal S1x1024 .f32) (y : S1x1024.Idx) :
    g15 (F := Ideal) x0 x1 x3 x4 x5 x6 x7 v y = (v y + ∑ r : Fin 256, Step.Ffn.dg (RR r) PP (y 1) : EReal) := by
  rw [← f15_at]
  unfold g15
  generalize f15 (F := Ideal) x0 x1 x3 x4 x5 x6 x7 = d
  pointwise [k0_pay1]

end Cert.Kernel7Ideal.Whole
end
-- ==== Proof.FfnHost.lean ====
/- What the call `ffn_bwd` finds in its arrays: the forward half step's output, the gain as a row and the three weights in one stack. -/
module

public import proofs.«01_k».proof.Proof.Finite
public import proofs.«01_k».proof.Proof.Gen.Kernel7Ideal.Frame
public import proofs.«01_k».proof.Proof.Gen.Reference7Ideal.Read

@[expose] public section

set_option maxRecDepth 65536

noncomputable section

namespace Cert.Kernel7Ideal.Host

open Cert.Kernel7Ideal Cert.Kernel7Ideal.Gen Idealize.ShloMosaic Idealize.ShloMosaic.TcCoe Idealize.SL.Sem

variable (c : Dev nD) (m : (ℓ : Loc nD τ sig) → Buf (Elt Ideal) ℓ)
variable (Z O : FVec Ideal S2x2304x1024 .f32) (M : FVec Ideal S2x2x3x1024 .f32) (G : FVec Ideal S1024 .f32)
  (W1 W3 : FVec Ideal S1024x2816 .f32) (W2 : FVec Ideal S2816x1024 .f32)

variable (h0 : m ((c : Thread nD τ).loc main_arg0) = Z) (h1 : m ((c : Thread nD τ).loc main_arg1) = O)
  (h2 : m ((c : Thread nD τ).loc main_arg2) = M) (h3 : m ((c : Thread nD τ).loc main_arg3) = G)
  (h4 : m ((c : Thread nD τ).loc main_arg4) = W1) (h5 : m ((c : Thread nD τ).loc main_arg5) = W3)
  (h6 : m ((c : Thread nD τ).loc main_arg6) = W2)

include h3 in
theorem entryG (y : S1x1024.Idx) : (V m c main_v67 : FVec Ideal S1x1024 .f32) y = G (ix1 (y 1)) := by
  have e : (V m c main_v67 : FVec Ideal S1x1024 .f32) = shapeCast S1x1024 G shapeCasts_S1024_S1x1024 := by
    rw [← h3]
    entry_read
    rfl
  rw [e]
  pointwise

/-- The stack of the three weights. -/
def stack (y : S3x2816x1024.Idx) : EReal :=
  if (y 0).val = 0 then W1 (ix2 (y 2) (y 1)) else if (y 0).val = 1 then W3 (ix2 (y 2) (y 1)) else W2 (ix2 (y 1) (y 2))

/-- One weight of the stack, and the stack, as the host writes them. -/
def slab (w : FVec Ideal S2816x1024 .f32) : FVec Ideal S1x2816x1024 .bf16 :=
  broadcastInDim S1x2816x1024 ![1, 2] bcast_S2816x1024_S1x2816x1024_1_2 (truncf .bf16 w bitsLt_bf16_f32)
def stackV : FVec Ideal S3x2816x1024 .bf16 :=
  concatenate S3x2816x1024 0 [⟨S1x2816x1024, slab (transpose S2816x1024 [1, 0] W1 transposes_S1024x2816_S2816x1024_1_0)⟩,
    ⟨S1x2816x1024, slab (transpose S2816x1024 [1, 0] W3 transposes_S1024x2816_S2816x1024_1_0)⟩, ⟨S1x2816x1024, slab W2⟩]
    concatenates_S1x2816x1024_S1x2816x1024_S1x2816x1024_S3x2816x1024_d0

theorem stackV_at (y : S3x2816x1024.Idx) : stackV W1 W3 W2 y = stack W1 W3 W2 y := by
  unfold stack
  pointwise [stackV, slab]
  by_cases a : (y 0).val = 0
  · rw [if_pos a, dif_pos (by omega)]
  · rw [if_neg a, dif_neg (by omega)]
    by_cases b : (y 0).val = 1
    · rw [if_pos b, dif_pos (by omega)]
    · rw [if_neg b, dif_neg (by omega)]

include h4 h5 h6 in
theorem entryW (y : S3x2816x1024.Idx) : (V m c main_v66 : FVec Ideal S3x2816x1024 .bf16) y = stack W1 W3 W2 y := by
  have e : (V m c main_v66 : FVec Ideal S3x2816x1024 .bf16) = stackV W1 W3 W2 := by
    rw [← h4, ← h5, ← h6]
    entry_read
    rfl
  exact (congrFun e y).trans (stackV_at W1 W3 W2 y)

include h0 h2 h3 h4 h5 h6 in
theorem entryF : (V m c main_v57 : FVec Ideal S2x2304x1024 .f32) = Cert.Reference7Ideal.Read.val_main_v63 (F := Ideal) Z M G W1 W3 W2 := by
  rw [← h0, ← h2, ← h3, ← h4, ← h5, ← h6]
  entry_read
  rfl

end Cert.Kernel7Ideal.Host
end
-- ==== Proof.FfnFinal.lean ====
/- The eight results of the call `ffn_bwd`, block by block, put together. -/
module

public import proofs.«01_k».proof.Proof.FfnWhole
public import proofs.«01_k».proof.Proof.FfnKernel
public import proofs.«01_k».proof.Proof.FfnHost

@[expose] public section

set_option maxRecDepth 65536

noncomputable section

namespace Cert.Kernel7Ideal.Whole

open Cert.Kernel7Ideal Cert.Kernel7Ideal.Gen Idealize.ShloMosaic Idealize.ShloMosaic.TcCoe Idealize.SL.Sem Step.Ffn

variable (c : Dev nD) (m : (ℓ : Loc nD τ sig) → Buf (Elt Ideal) ℓ)

theorem idx : ∀ t : Fin cfg0.N, win0_0.index t = ![t.val / 9, t.val % 9, 0] ∧ win0_1.index t = ![t.val / 9, t.val % 9, 0]
    ∧ win0_2.index t = ![t.val / 9, t.val % 9, 0] ∧ win0_3.index t = ![t.val / 9, min (t.val % 9) 1, 0, 0] ∧ win0_4.index t = ![0, 0]
    ∧ win0_5.index t = ![0, 0, 0] ∧ win0_6.index t = ![1, 0, 0] ∧ win0_7.index t = ![2, 0, 0] :=
  (by decide +kernel : ∀ t : Fin grid0.N, _)
theorem odx : ∀ t : Fin cfg0.N, win0_8.index t = ![t.val / 9, t.val % 9, 0] ∧ win0_9.index t = ![t.val / 9, t.val % 9, 0]
    ∧ win0_10.index t = ![t.val / 9, t.val % 9, 0] ∧ win0_11.index t = ![t.val / 9, t.val % 9, 0] ∧ win0_12.index t = ![t.val / 9, t.val % 9, 0]
    ∧ win0_13.index t = ![t.val / 9, t.val % 9, 0] ∧ win0_14.index t = ![t.val / 9, min (t.val % 9) 1, 0, 0] ∧ win0_15.index t = ![0, 0] :=
  (by decide +kernel : ∀ t : Fin grid0.N, _)
theorem last14 : ∀ t : Fin cfg0.N, (cfg0.win 14).flush t = true → t.val = 0 ∨ t.val = 8 ∨ t.val = 9 ∨ t.val = 17 :=
  (by decide +kernel : ∀ t : Fin grid0.N, win0_14.flush t = true → t.val = 0 ∨ t.val = 8 ∨ t.val = 9 ∨ t.val = 17)

theorem lt18 (t : Fin cfg0.N) : t.val < 18 := lt_of_lt_of_eq t.isLt N_0

/-- The sequence of a point and the position of a row of its block. -/
def seq (t : Fin cfg0.N) : Fin 2 := ⟨t.val / 9, by have := lt18 t; omega⟩
def pos (t : Fin cfg0.N) (r : Fin 256) : Fin 2304 := ⟨256 * (t.val % 9) + r.val, by omega⟩

theorem part_pos (t : Fin cfg0.N) (r : Fin 256) : (⟨min (t.val % 9) 1, by omega⟩ : Fin 2) = part (pos t r) := by
  by_cases h : t.val % 9 = 0
  · rw [part_a _ (by show 256 * (t.val % 9) + r.val < 256; omega)]
    exact Fin.ext (by show min (t.val % 9) 1 = 0; omega)
  · rw [part_b _ (by show ¬256 * (t.val % 9) + r.val < 256; omega)]
    exact Fin.ext (by show min (t.val % 9) 1 = 1; omega)

variable (Z O : FVec Ideal S2x2304x1024 .f32) (M : FVec Ideal S2x2x3x1024 .f32) (G : FVec Ideal S1024 .f32)
  (W1 W3 : FVec Ideal S1024x2816 .f32) (W2 : FVec Ideal S2816x1024 .f32)

local notation "PG" => parG G W1 W3 W2
local notation "RG" => rowG Z O M
local notation "X0" => iblk m c 0
local notation "X1" => iblk m c 1
local notation "X2" => iblk m c 2
local notation "X3" => iblk m c 3
local notation "X4" => iblk m c 4
local notation "X5" => iblk m c 5
local notation "X6" => iblk m c 6
local notation "X7" => iblk m c 7

variable (h0 : m ((c : Thread nD τ).loc main_arg0) = Z) (h1 : m ((c : Thread nD τ).loc main_arg1) = O) (h2 : m ((c : Thread nD τ).loc main_arg2) = M)
  (h3 : m ((c : Thread nD τ).loc main_arg3) = G) (h4 : m ((c : Thread nD τ).loc main_arg4) = W1) (h5 : m ((c : Thread nD τ).loc main_arg5) = W3)
  (h6 : m ((c : Thread nD τ).loc main_arg6) = W2)
  (hf : ∀ i : S2x2304x1024.Idx, (V m c main_v57 : FVec Ideal S2x2304x1024 .f32) i = f (rowG Z O M (i 0) (i 1)) (parG G W1 W3 W2) (i 2))

include h1 in
theorem blkO (t : Fin cfg0.N) (r : Fin 256) (k : Fin 1024) : (X1 t : FVec Ideal S1x256x1024 .f32) (ix3 0 r k) = O (ix3 (seq t) (pos t r) k) := by
  refine Eq.trans (b := m ((c : Thread nD τ).loc main_arg1) (ix3 (seq t) (pos t r) k)) ?_ (by rw [h1])
  blk_point [seq, pos, iblk, V, idx t]
include h2 in
theorem blkM (t : Fin cfg0.N) (r : Fin 256) (e : Fin 3) (k : Fin 1024) : (X3 t : FVec Ideal S1x1x3x1024 .f32) (ix4 0 0 e k) = M (ix4 (seq t) (part (pos t r)) e k) := by
  rw [← part_pos]
  refine Eq.trans (b := m ((c : Thread nD τ).loc main_arg2) (ix4 (seq t) ⟨min (t.val % 9) 1, by omega⟩ e k)) ?_ (by rw [h2])
  blk_point [seq, iblk, V, idx t]
include h0 in
theorem blkZ (t : Fin cfg0.N) (r : Fin 256) (k : Fin 1024) : (X0 t : FVec Ideal S1x256x1024 .f32) (ix3 0 r k) = Z (ix3 (seq t) (pos t r) k) := by
  refine Eq.trans (b := m ((c : Thread nD τ).loc main_arg0) (ix3 (seq t) (pos t r) k)) ?_ (by rw [h0])
  blk_point [seq, pos, iblk, V, idx t]
include h3 in
theorem blkG (t : Fin cfg0.N) (k : Fin 1024) : (X4 t : FVec Ideal S1x1024 .f32) (ix2 0 k) = G (ix1 k) := by
  refine Eq.trans (b := (V m c main_v67 : FVec Ideal S1x1024 .f32) (ix2 0 k)) ?_ (Host.entryG c m G h3 _)
  blk_point [iblk, V, idx t]
include h4 h5 h6 in
theorem blk5 (t : Fin cfg0.N) (j : Fin 2816) (k : Fin 1024) : (X5 t : FVec Ideal S1x2816x1024 .bf16) (ix3 0 j k) = W1 (ix2 k j) := by
  refine Eq.trans (b := (V m c main_v66 : FVec Ideal S3x2816x1024 .bf16) (ix3 0 j k)) ?_ (Host.entryW c m W1 W3 W2 h4 h5 h6 _)
  blk_point [iblk, V, idx t]
include h4 h5 h6 in
theorem blk6 (t : Fin cfg0.N) (j : Fin 2816) (k : Fin 1024) : (X6 t : FVec Ideal S1x2816x1024 .bf16) (ix3 0 j k) = W3 (ix2 k j) := by
  refine Eq.trans (b := (V m c main_v66 : FVec Ideal S3x2816x1024 .bf16) (ix3 1 j k)) ?_ (Host.entryW c m W1 W3 W2 h4 h5 h6 _)
  blk_point [iblk, V, idx t]
include h4 h5 h6 in
theorem blk7 (t : Fin cfg0.N) (j : Fin 2816) (k : Fin 1024) : (X7 t : FVec Ideal S1x2816x1024 .bf16) (ix3 0 j k) = W2 (ix2 j k) := by
  refine Eq.trans (b := (V m c main_v66 : FVec Ideal S3x2816x1024 .bf16) (ix3 2 j k)) ?_ (Host.entryW c m W1 W3 W2 h4 h5 h6 _)
  blk_point [iblk, V, idx t]
theorem brow_eq (x0 x1 : FVec Ideal S1x256x1024 .f32) (x3 : FVec Ideal S1x1x3x1024 .f32) (r : Fin 256) (R : Row) (hz : ∀ k, x0 (ix3 0 r k) = R.z k) (ho : ∀ k, x1 (ix3 0 r k) = R.o k)
    (hs : ∀ k, x3 (ix4 0 0 0 k) = R.sh k) (hc : ∀ k, x3 (ix4 0 0 1 k) = R.sc k) (hg : ∀ k, x3 (ix4 0 0 2 k) = R.gt k) : brow x0 x1 x3 r = R :=
  Row.eq hz ho hs hc hg
theorem bpar_eq (x4 : FVec Ideal S1x1024 .f32) (x5 x6 x7 : FVec Ideal S1x2816x1024 .bf16) (P : Par) (hg : ∀ k, x4 (ix2 0 k) = P.g k) (h1 : ∀ j k, x5 (ix3 0 j k) = P.w1 k j)
    (h3 : ∀ j k, x6 (ix3 0 j k) = P.w3 k j) (h2 : ∀ j k, x7 (ix3 0 j k) = P.w2 j k) : bpar x4 x5 x6 x7 = P :=
  Par.eq hg (fun k j => h1 j k) (fun k j => h3 j k) h2
include h0 h1 h2 in
theorem rowAt (t : Fin cfg0.N) (r : Fin 256) : brow (X0 t) (X1 t) (X3 t) r = RG (seq t) (pos t r) :=
  brow_eq _ _ _ r _ (blkZ c m Z h0 t r) (blkO c m O h1 t r) (blkM c m M h2 t r 0) (blkM c m M h2 t r 1) (blkM c m M h2 t r 2)
include h3 h4 h5 h6 in
theorem parAt (t : Fin cfg0.N) : bpar (X4 t) (X5 t) (X6 t) (X7 t) = PG :=
  bpar_eq _ _ _ _ _ (blkG c m G h3 t) (blk5 c m W1 W3 W2 h4 h5 h6 t) (blk6 c m W1 W3 W2 h4 h5 h6 t) (blk7 c m W1 W3 W2 h4 h5 h6 t)
include hf in
theorem blkF (t : Fin cfg0.N) (r : Fin 256) (k : Fin 1024) : (X2 t : FVec Ideal S1x256x1024 .f32) (ix3 0 r k) = f (RG (seq t) (pos t r)) PG k := by
  refine Eq.trans (b := (V m c main_v57 : FVec Ideal S2x2304x1024 .f32) (ix3 (seq t) (pos t r) k)) ?_ (hf _)
  blk_point [seq, pos, iblk, V, idx t]

include h0 h1 h2 h3 h4 h5 h6

include hf in
theorem dmAt (t : Fin cfg0.N) (r : Fin 256) (e : Fin 3) (k : Fin 1024) : bdm (X0 t) (X1 t) (X2 t) (X3 t) (X4 t) (X5 t) (X6 t) (X7 t) r e k = dm (RG (seq t) (pos t r)) PG e k := by
  unfold bdm dm
  rw [rowAt c m Z O M h0 h1 h2, parAt c m G W1 W3 W2 h3 h4 h5 h6, blkF c m Z O M G W1 W3 W2 hf, blkO c m O h1]
  rfl

omit h0 h1 h2 h3 h4 h5 h6 in
theorem block_of (F : Fin 2 → Fin 2304 → EReal) (t : Fin cfg0.N) : block F t.val = ∑ r : Fin 256, F (seq t) (pos t r) := by
  have hl := lt18 t
  unfold block
  refine Finset.sum_congr rfl fun r _ => congr (congrArg F (Fin.ext ?_)) (Fin.ext ?_)
  · show t.val / 9 % 2 = t.val / 9; omega
  · show (256 * (t.val % 9) + r.val) % 2304 = 256 * (t.val % 9) + r.val; omega

theorem sumDg (t : Fin cfg0.N) (k : Fin 1024) : ∑ r : Fin 256, dg (brow (X0 t) (X1 t) (X3 t) r) (bpar (X4 t) (X5 t) (X6 t) (X7 t)) k
    = block (fun b s => dg (RG b s) PG k) t.val := by
  rw [block_of]
  refine Finset.sum_congr rfl fun r _ => ?_
  rw [rowAt c m Z O M h0 h1 h2, parAt c m G W1 W3 W2 h3 h4 h5 h6]
include hf in
theorem sumDm (t : Fin cfg0.N) (e : Fin 3) (k : Fin 1024) : ∑ r : Fin 256, bdm (X0 t) (X1 t) (X2 t) (X3 t) (X4 t) (X5 t) (X6 t) (X7 t) r e k
    = block (fun b s => dm (RG b s) PG e k) t.val := by
  rw [block_of]
  exact Finset.sum_congr rfl fun r _ => dmAt c m Z O M G W1 W3 W2 h0 h1 h2 h3 h4 h5 h6 hf t r e k

theorem at15 (t : ℕ) (ht : t < cfg0.N) (y : S1x1024.Idx) : (sums m c t ht).2 y = ∑ s ∈ Finset.range (t + 1), block (fun b s => dg (RG b s) PG (y 1)) s := by
  induction t with
  | zero =>
    rw [Finset.sum_range_one]
    refine (congrFun (congrArg Prod.snd (sums_A m c ⟨0, ht⟩ rfl)) y).trans ((f15_at _ _ _ _ _ _ _ y).trans ?_)
    exact sumDg c m Z O M G W1 W3 W2 h0 h1 h2 h3 h4 h5 h6 ⟨0, ht⟩ (y 1)
  | succ t ih =>
    rw [Finset.sum_range_succ, ← ih (by omega)]
    have e : (sums m c (t + 1) ht).2 = g15 (X0 ⟨t + 1, ht⟩) (X1 ⟨t + 1, ht⟩) (X3 ⟨t + 1, ht⟩) (X4 ⟨t + 1, ht⟩) (X5 ⟨t + 1, ht⟩) (X6 ⟨t + 1, ht⟩) (X7 ⟨t + 1, ht⟩) (sums m c t (by omega)).2 := by
      by_cases h9 : (t + 1) % 9 ≤ 1
      · exact congrArg Prod.snd (sums_B m c ⟨t + 1, ht⟩ (Nat.succ_ne_zero t) h9)
      · exact congrArg Prod.snd (sums_C m c ⟨t + 1, ht⟩ h9)
    refine (congrFun e y).trans ((g15_at _ _ _ _ _ _ _ _ y).trans ?_)
    exact congrArg (fun z : EReal => (sums m c t (by omega)).2 y + z) (sumDg c m Z O M G W1 W3 W2 h0 h1 h2 h3 h4 h5 h6 ⟨t + 1, ht⟩ (y 1))

include hf in
theorem at14 (t : ℕ) (ht : t < cfg0.N) (y : S1x1x3x1024.Idx) : (sums m c t ht).1 y = kept (fun b s => dm (RG b s) PG (y 2) (y 3)) t := by
  induction t with
  | zero =>
    refine (congrFun (congrArg Prod.fst (sums_A m c ⟨0, ht⟩ rfl)) y).trans ((f14_at _ _ _ _ _ _ _ _ y).trans ?_)
    exact sumDm c m Z O M G W1 W3 W2 h0 h1 h2 h3 h4 h5 h6 hf ⟨0, ht⟩ (y 2) (y 3)
  | succ t ih =>
    by_cases h9 : (t + 1) % 9 ≤ 1
    · refine (congrFun (congrArg Prod.fst (sums_B m c ⟨t + 1, ht⟩ (Nat.succ_ne_zero t) h9)) y).trans ((f14_at _ _ _ _ _ _ _ _ y).trans ?_)
      exact (sumDm c m Z O M G W1 W3 W2 h0 h1 h2 h3 h4 h5 h6 hf ⟨t + 1, ht⟩ (y 2) (y 3)).trans (if_pos h9).symm
    · refine (congrFun (congrArg Prod.fst (sums_C m c ⟨t + 1, ht⟩ h9)) y).trans ((g14_at _ _ _ _ _ _ _ _ _ y).trans ?_)
      exact (congrArg₂ (fun a b : EReal => a + b) (ih (by omega)) (sumDm c m Z O M G W1 W3 W2 h0 h1 h2 h3 h4 h5 h6 hf ⟨t + 1, ht⟩ (y 2) (y 3))).trans (if_neg h9).symm

theorem final8 : (exact m 0 c).arrAt 8 cfg0.N = fun i : S2x2304x1024.Idx => (dz (RG (i 0) (i 1)) PG (i 2) : EReal) := by
  refine (exact m 0 c).arrAt_eq_of_covers 8 _ (by decide +kernel) fun t hf y => ?_
  blk_simp
  rw [after8]
  refine (o8_at _ _ _ _ _ _ _ y).trans ((congrArg₂ (fun R P => dz R P (y 2)) (rowAt c m Z O M h0 h1 h2 t (y 1)) (parAt c m G W1 W3 W2 h3 h4 h5 h6 t)).trans ?_)
  refine congrArg (fun i : S2x2304x1024.Idx => (dz (RG (i 0) (i 1)) PG (i 2) : EReal)) (a₁ := ix3 (seq t) (pos t (y 1)) (y 2)) ?_
  funext k
  fin_cases k <;> refine Fin.ext ?_ <;> blk_simp <;> simp [seq, pos, (odx t).1, mul_comm]
theorem final9 : (exact m 0 c).arrAt 9 cfg0.N = fun i : S2x2304x1024.Idx => (h (RG (i 0) (i 1)) PG (i 2) : EReal) := by
  refine (exact m 0 c).arrAt_eq_of_covers 9 _ (by decide +kernel) fun t hf y => ?_
  blk_simp
  rw [after9]
  refine (o9_at (X0 t) (X1 t) (X3 t) (X4 t) (X5 t) (X6 t) (X7 t) y).trans ((congrArg₂ (fun R P => h R P (y 2)) (rowAt c m Z O M h0 h1 h2 t (y 1)) (parAt c m G W1 W3 W2 h3 h4 h5 h6 t)).trans ?_)
  refine congrArg (fun i : S2x2304x1024.Idx => (h (RG (i 0) (i 1)) PG (i 2) : EReal)) (a₁ := ix3 (seq t) (pos t (y 1)) (y 2)) ?_
  funext k
  fin_cases k <;> refine Fin.ext ?_ <;> blk_simp <;> simp [seq, pos, (odx t).2.1, mul_comm]
theorem final10 : (exact m 0 c).arrAt 10 cfg0.N = fun i : S2x2304x2816.Idx => (d1 (RG (i 0) (i 1)) PG (i 2) : EReal) := by
  refine (exact m 0 c).arrAt_eq_of_covers 10 _ (by decide +kernel) fun t hf y => ?_
  blk_simp
  rw [after10]
  refine (o10_at _ _ _ _ _ _ _ y).trans ((congrArg₂ (fun R P => d1 R P (y 2)) (rowAt c m Z O M h0 h1 h2 t (y 1)) (parAt c m G W1 W3 W2 h3 h4 h5 h6 t)).trans ?_)
  refine congrArg (fun i : S2x2304x2816.Idx => (d1 (RG (i 0) (i 1)) PG (i 2) : EReal)) (a₁ := ix3 (seq t) (pos t (y 1)) (y 2)) ?_
  funext k
  fin_cases k <;> refine Fin.ext ?_ <;> blk_simp <;> simp [seq, pos, (odx t).2.2.1, mul_comm]
theorem final11 : (exact m 0 c).arrAt 11 cfg0.N = fun i : S2x2304x2816.Idx => (d3 (RG (i 0) (i 1)) PG (i 2) : EReal) := by
  refine (exact m 0 c).arrAt_eq_of_covers 11 _ (by decide +kernel) fun t hf y => ?_
  blk_simp
  rw [after11]
  refine (o11_at (X0 t) (X1 t) (X3 t) (X4 t) (X5 t) (X6 t) (X7 t) y).trans ((congrArg₂ (fun R P => d3 R P (y 2)) (rowAt c m Z O M h0 h1 h2 t (y 1)) (parAt c m G W1 W3 W2 h3 h4 h5 h6 t)).trans ?_)
  refine congrArg (fun i : S2x2304x2816.Idx => (d3 (RG (i 0) (i 1)) PG (i 2) : EReal)) (a₁ := ix3 (seq t) (pos t (y 1)) (y 2)) ?_
  funext k
  fin_cases k <;> refine Fin.ext ?_ <;> blk_simp <;> simp [seq, pos, (odx t).2.2.2.1, mul_comm]
theorem final12 : (exact m 0 c).arrAt 12 cfg0.N = fun i : S2x2304x2816.Idx => (a (RG (i 0) (i 1)) PG (i 2) : EReal) := by
  refine (exact m 0 c).arrAt_eq_of_covers 12 _ (by decide +kernel) fun t hf y => ?_
  blk_simp
  rw [after12]
  refine (o12_at (X0 t) (X1 t) (X3 t) (X4 t) (X5 t) (X6 t) (X7 t) y).trans ((congrArg₂ (fun R P => a R P (y 2)) (rowAt c m Z O M h0 h1 h2 t (y 1)) (parAt c m G W1 W3 W2 h3 h4 h5 h6 t)).trans ?_)
  refine congrArg (fun i : S2x2304x2816.Idx => (a (RG (i 0) (i 1)) PG (i 2) : EReal)) (a₁ := ix3 (seq t) (pos t (y 1)) (y 2)) ?_
  funext k
  fin_cases k <;> refine Fin.ext ?_ <;> blk_simp <;> simp [seq, pos, (odx t).2.2.2.2.1, mul_comm]
theorem final13 : (exact m 0 c).arrAt 13 cfg0.N = fun i : S2x2304x1024.Idx => (co (RG (i 0) (i 1)) (i 2) : EReal) := by
  refine (exact m 0 c).arrAt_eq_of_covers 13 _ (by decide +kernel) fun t hf y => ?_
  blk_simp
  rw [after13]
  refine (o13_at (X0 t) (X1 t) (X3 t) y).trans ((congrArg (fun R => co R (y 2)) (rowAt c m Z O M h0 h1 h2 t (y 1))).trans ?_)
  refine congrArg (fun i : S2x2304x1024.Idx => (co (RG (i 0) (i 1)) (i 2) : EReal)) (a₁ := ix3 (seq t) (pos t (y 1)) (y 2)) ?_
  funext k
  fin_cases k <;> refine Fin.ext ?_ <;> blk_simp <;> simp [seq, pos, (odx t).2.2.2.2.2.1, mul_comm]

omit h0 h1 h2 h3 h4 h5 h6 in
theorem keptAt (t : Fin cfg0.N) (hl : (cfg0.win 14).flush t = true) (F : Fin 2 → Fin 2304 → EReal) :
    kept F t.val = if t.val % 9 = 0 then ∑ r : Fin 256, F (seq t) ⟨r.val, by omega⟩ else ∑ r : Fin 2048, F (seq t) ⟨256 + r.val, by omega⟩ := by
  have h := last14 t hl
  by_cases h9 : t.val % 9 = 0
  · rw [if_pos h9, ← kept_a]
    exact congrArg (kept F) (by show t.val = 9 * (t.val / 9); omega)
  · rw [if_neg h9, ← kept_b]
    exact congrArg (kept F) (by show t.val = 9 * (t.val / 9) + 8; omega)

include hf in
theorem final14 : (exact m 0 c).arrAt 14 cfg0.N = fun i : S2x2x3x1024.Idx => dmA Z O M G W1 W3 W2 (i 0) (i 1) (i 2) (i 3) := by
  refine (exact m 0 c).arrAt_eq_of_covers 14 _ (by decide +kernel) fun t hl y => ?_
  blk_simp
  rw [after14]
  refine (at14 c m Z O M G W1 W3 W2 h0 h1 h2 h3 h4 h5 h6 hf t.val t.isLt y).trans ?_
  refine (keptAt t hl _).trans ((if_congr (show t.val % 9 = 0 ↔ min (t.val % 9) 1 = 0 by omega) rfl rfl).trans ?_)
  refine congrArg (fun i : S2x2x3x1024.Idx => dmA Z O M G W1 W3 W2 (i 0) (i 1) (i 2) (i 3)) (a₁ := ix4 (seq t) ⟨min (t.val % 9) 1, by omega⟩ (y 2) (y 3)) ?_
  funext k
  fin_cases k <;> refine Fin.ext ?_ <;> blk_simp <;> simp [seq, (odx t).2.2.2.2.2.2.1, mul_comm]

theorem final15 : (exact m 0 c).arrAt 15 cfg0.N = fun i : S1x1024.Idx => dgA Z O M G W1 W3 W2 (i 1) := by
  refine (exact m 0 c).arrAt_eq_of_covers 15 _ (by decide +kernel) fun t hl y => ?_
  blk_simp
  rw [after15]
  have hn := lt18 t
  have e : t.val = 17 := by have := (flush0_15 t).mp hl; omega
  rw [at15 c m Z O M G W1 W3 W2 h0 h1 h2 h3 h4 h5 h6 t.val t.isLt, e]
  refine (blocks _).trans (congrArg (fun i : S1x1024.Idx => dgA Z O M G W1 W3 W2 (i 1)) (a₁ := y) ?_)
  funext k
  fin_cases k <;> refine Fin.ext ?_ <;> blk_simp <;> simp [(odx t).2.2.2.2.2.2.2, mul_comm]

end Cert.Kernel7Ideal.Whole
end
-- ==== Proof.FfnRef.lean ====
/- The reference's feed-forward half step and its gradient, read row by row. -/
module

public import proofs.«01_k».proof.Proof.FfnRow
public import proofs.«01_k».proof.Proof.Finite
public import Idealize.ShloMosaic.Lib.KernelVsHost
public import proofs.«01_k».proof.Proof.Gen.Reference7Ideal.Read

@[expose] public section

set_option maxRecDepth 65536

noncomputable section

namespace Cert.Reference7Ideal.Rows

open Cert.Reference7Ideal Cert.Reference7Ideal.Gen Cert.Reference7Ideal.Read Idealize.ShloMosaic Step.Ffn

variable (Z O : FVec Ideal S2x2304x1024 .f32) (M : FVec Ideal S2x2x3x1024 .f32) (G : FVec Ideal S1024 .f32)
  (W1 W3 : FVec Ideal S1024x2816 .f32) (W2 : FVec Ideal S2816x1024 .f32)

local notation "PG" => parG G W1 W3 W2
local notation "RG" => rowG Z O M
local notation "RA" => ra Z O M
local notation "RB" => rb Z O M

theorem zero_word : Ideal.ofBits .f32 0#32 = 0 := by simp [Ideal.ofBits, Ideal.ieee]

/-- The rows of the two parts. -/
theorem a0 (i : S2x256x1024.Idx) : val_main_v0 (F := Ideal) Z i = (RA (i 0) (i 1)).z (i 2) := by
  rw [val_main_v0_apply]
  refine congrArg Z ?_
  funext a
  fin_cases a <;> rfl
theorem b0 (i : S2x2048x1024.Idx) : val_main_v29 (F := Ideal) Z i = (RB (i 0) (i 1)).z (i 2) := by
  rw [val_main_v29_apply]
  refine congrArg Z ?_
  funext a
  fin_cases a <;> rfl
theorem aO (i : S2x256x1024.Idx) : val_main_v118 (F := Ideal) O i = (RA (i 0) (i 1)).o (i 2) := by
  rw [val_main_v118_apply]
  refine congrArg O ?_
  funext a
  fin_cases a <;> rfl
theorem bO (i : S2x2048x1024.Idx) : val_main_v119 (F := Ideal) O i = (RB (i 0) (i 1)).o (i 2) := by
  rw [val_main_v119_apply]
  refine congrArg O ?_
  funext a
  fin_cases a <;> rfl

theorem a2 (i : S2x256.Idx) : val_main_v2 (F := Ideal) Z i = ∑ k, (RA (i 0) (i 1)).z k * (RA (i 0) (i 1)).z k := by
  rw [val_main_v2_apply]
  refine (congrArg₂ (fun a b : EReal => a + b) zero_word (Finset.sum_congr rfl fun k _ => ?_)).trans (zero_add _)
  rw [val_main_v1_apply, a0 Z O M]
  rfl
theorem b2 (i : S2x2048.Idx) : val_main_v31 (F := Ideal) Z i = ∑ k, (RB (i 0) (i 1)).z k * (RB (i 0) (i 1)).z k := by
  rw [val_main_v31_apply]
  refine (congrArg₂ (fun a b : EReal => a + b) zero_word (Finset.sum_congr rfl fun k _ => ?_)).trans (zero_add _)
  rw [val_main_v30_apply, b0 Z O M]
  rfl
theorem a7 (i : S2x256x1.Idx) : val_main_v7 (F := Ideal) Z i = Step.Head.ms (RA (i 0) (i 1)).z := by
  rw [val_main_v7_apply, val_main_v5_apply, val_main_v3_apply, a2 Z O M]
  rfl
theorem b7 (i : S2x2048x1.Idx) : val_main_v36 (F := Ideal) Z i = Step.Head.ms (RB (i 0) (i 1)).z := by
  rw [val_main_v36_apply, val_main_v34_apply, val_main_v32_apply, b2 Z O M]
  rfl
theorem a8 (i : S2x256x1.Idx) : val_main_v8 (F := Ideal) Z i = Step.Head.rs (RA (i 0) (i 1)).z := by
  rw [val_main_v8_apply, a7 Z O M]
  rfl
theorem b8 (i : S2x2048x1.Idx) : val_main_v37 (F := Ideal) Z i = Step.Head.rs (RB (i 0) (i 1)).z := by
  rw [val_main_v37_apply, b7 Z O M]
  rfl
theorem a11 (i : S2x256x1.Idx) : val_main_v11 (F := Ideal) Z i = (Step.Head.cN * Ideal.div (Step.Head.rs (RA (i 0) (i 1)).z) (Step.Head.ms (RA (i 0) (i 1)).z) : EReal) := by
  rw [val_main_v11_apply, val_main_v9_apply, a8 Z O M, a7 Z O M]
  rfl
theorem b11 (i : S2x2048x1.Idx) : val_main_v40 (F := Ideal) Z i = (Step.Head.cN * Ideal.div (Step.Head.rs (RB (i 0) (i 1)).z) (Step.Head.ms (RB (i 0) (i 1)).z) : EReal) := by
  rw [val_main_v40_apply, val_main_v38_apply, b8 Z O M, b7 Z O M]
  rfl
theorem a13 (i : S2x256x1024.Idx) : val_main_v13 (F := Ideal) Z i = Step.Head.zn (RA (i 0) (i 1)).z (i 2) := by
  rw [val_main_v13_apply, val_main_v12_apply, a8 Z O M, a0 Z O M]
  rfl
theorem b13 (i : S2x2048x1024.Idx) : val_main_v42 (F := Ideal) Z i = Step.Head.zn (RB (i 0) (i 1)).z (i 2) := by
  rw [val_main_v42_apply, val_main_v41_apply, b8 Z O M, b0 Z O M]
  rfl
theorem aG (i : S2x256x1024.Idx) : val_main_v15 (F := Ideal) G i = G (ix1 (i 2)) := by
  rw [val_main_v15_apply, val_main_v14_apply]
  refine congrArg G ?_
  funext a
  fin_cases a
  rfl
theorem bG (i : S2x2048x1024.Idx) : val_main_v44 (F := Ideal) G i = G (ix1 (i 2)) := by
  rw [val_main_v44_apply, val_main_v43_apply]
  refine congrArg G ?_
  funext a
  fin_cases a
  rfl
theorem a16 (i : S2x256x1024.Idx) : val_main_v16 (F := Ideal) Z G i = nm (RA (i 0) (i 1)) PG (i 2) := by
  rw [val_main_v16_apply, a13 Z O M, aG]
  rfl
theorem b16 (i : S2x2048x1024.Idx) : val_main_v45 (F := Ideal) Z G i = nm (RB (i 0) (i 1)) PG (i 2) := by
  rw [val_main_v45_apply, b13 Z O M, bG]
  rfl

/-- The modulations of the two parts. -/
theorem ma (b : Fin 2) (r : Fin 256) (e : Fin 3) (k : Fin 1024) : M (ix4 b 0 e k) = M (ix4 b (part ⟨r.val, by omega⟩) e k) := by
  rw [part_a _ r.isLt]
theorem mb (b : Fin 2) (r : Fin 2048) (e : Fin 3) (k : Fin 1024) : M (ix4 b 1 e k) = M (ix4 b (part ⟨256 + r.val, by omega⟩) e k) := by
  rw [part_b _ (by show ¬256 + r.val < 256; omega)]

theorem aS (i : S2x256x1024.Idx) : val_main_v22 (F := Ideal) M i = (cO + (RA (i 0) (i 1)).sc (i 2) : EReal) := by
  refine Eq.trans (b := (cO + M (ix4 (i 0) 0 1 (i 2)) : EReal)) ?_ (congrArg (fun e : EReal => cO + e) (ma M (i 0) (i 1) 1 (i 2)))
  pointwise [val_main_v22, val_main_v21, val_main_v20, val_main_v19, val_main_v18, val_main_v17, val_main_cst_3]
theorem bS (i : S2x2048x1024.Idx) : val_main_v51 (F := Ideal) M i = (cO + (RB (i 0) (i 1)).sc (i 2) : EReal) := by
  refine Eq.trans (b := (cO + M (ix4 (i 0) 1 1 (i 2)) : EReal)) ?_ (congrArg (fun e : EReal => cO + e) (mb M (i 0) (i 1) 1 (i 2)))
  pointwise [val_main_v51, val_main_v50, val_main_v49, val_main_v48, val_main_v47, val_main_v46, val_main_cst_8]
theorem aH (i : S2x256x1024.Idx) : val_main_v27 (F := Ideal) M i = (RA (i 0) (i 1)).sh (i 2) := by
  refine Eq.trans (b := M (ix4 (i 0) 0 0 (i 2))) ?_ (ma M (i 0) (i 1) 0 (i 2))
  pointwise [val_main_v27, val_main_v26, val_main_v25, val_main_v24]
theorem bH (i : S2x2048x1024.Idx) : val_main_v56 (F := Ideal) M i = (RB (i 0) (i 1)).sh (i 2) := by
  refine Eq.trans (b := M (ix4 (i 0) 1 0 (i 2))) ?_ (mb M (i 0) (i 1) 0 (i 2))
  pointwise [val_main_v56, val_main_v55, val_main_v54, val_main_v53]
theorem aT (i : S2x256x1024.Idx) : val_main_v132 (F := Ideal) M i = (Step.Head.cH * (RA (i 0) (i 1)).gt (i 2) : EReal) := by
  refine Eq.trans (b := (Step.Head.cH * M (ix4 (i 0) 0 2 (i 2)) : EReal)) ?_ (congrArg (fun e : EReal => Step.Head.cH * e) (ma M (i 0) (i 1) 2 (i 2)))
  pointwise [val_main_v132, val_main_v69, val_main_v68, val_main_v67, val_main_v66, val_main_v65, val_main_cst_9]
theorem bT (i : S2x2048x1024.Idx) : val_main_v120 (F := Ideal) M i = (Step.Head.cH * (RB (i 0) (i 1)).gt (i 2) : EReal) := by
  refine Eq.trans (b := (Step.Head.cH * M (ix4 (i 0) 1 2 (i 2)) : EReal)) ?_ (congrArg (fun e : EReal => Step.Head.cH * e) (mb M (i 0) (i 1) 2 (i 2)))
  pointwise [val_main_v120, val_main_v79, val_main_v78, val_main_v77, val_main_v76, val_main_v75, val_main_cst_10]

theorem a28 (i : S2x256x1024.Idx) : val_main_v28 (F := Ideal) Z M G i = h (RA (i 0) (i 1)) PG (i 2) := by
  rw [val_main_v28_apply, val_main_v23_apply, a16 Z O M G W1 W3 W2, aS Z O, aH Z O]
  rfl
theorem b28 (i : S2x2048x1024.Idx) : val_main_v57 (F := Ideal) Z M G i = h (RB (i 0) (i 1)) PG (i 2) := by
  rw [val_main_v57_apply, val_main_v52_apply, b16 Z O M G W1 W3 W2, bS Z O, bH Z O]
  rfl

/-- Two parts that hold a function of the row hold it together. -/
theorem joined (i : S2x2304x1024.Idx) (H : Fin 2 → Fin 2304 → Fin 1024 → EReal) (A : S2x256x1024.Idx → EReal) (B : S2x2048x1024.Idx → EReal)
    (hA : ∀ i : S2x256x1024.Idx, A i = H (i 0) ⟨(i 1).val, by have : (i 1).val < 256 := (i 1).isLt; omega⟩ (i 2))
    (hB : ∀ i : S2x2048x1024.Idx, B i = H (i 0) ⟨256 + (i 1).val, by have : (i 1).val < 2048 := (i 1).isLt; omega⟩ (i 2)) :
    (if h : (i 1).val < 256 then A (ix3 (i 0) ⟨(i 1).val, h⟩ (i 2)) else B (ix3 (i 0) ⟨(i 1).val - 256, by have : (i 1).val < 2304 := (i 1).isLt; omega⟩ (i 2))) = H (i 0) (i 1) (i 2) := by
  split
  · exact hA _
  · refine (hB _).trans (congrArg (fun s => H (i 0) s (i 2)) (Fin.ext ?_))
    show 256 + ((i 1).val - 256) = (i 1).val
    omega

/-- Two parts put into the whole by zeros and added. -/
theorem padded (X : FVec Ideal S2x2048x1024 .f32) (Y : FVec Ideal S2x256x1024 .f32) (hx hy) (i : S2x2304x1024.Idx) :
    (pad S2x2304x1024 ![0, 256, 0] ![0, 0, 0] ![0, 0, 0] X (constant S_ .f32 0x00000000#32 : FVec Ideal S_ .f32) hx h_S_ i
      + pad S2x2304x1024 ![0, 0, 0] ![0, 2048, 0] ![0, 0, 0] Y (constant S_ .f32 0x00000000#32 : FVec Ideal S_ .f32) hy h_S_ i : EReal)
    = if h : (i 1).val < 256 then Y (ix3 (i 0) ⟨(i 1).val, h⟩ (i 2)) else X (ix3 (i 0) ⟨(i 1).val - 256, by have : (i 1).val < 2304 := (i 1).isLt; omega⟩ (i 2)) := by
  have hi : (i 1).val < 2304 := (i 1).isLt
  by_cases h : (i 1).val < 256
  · rw [dif_pos h]
    refine (congrArg₂ (fun a b : EReal => a + b) ((pad_apply_of_not_inside _ _ _ _ _ _ _ i 1 fun e => ?_).trans zero_word)
      (pad_apply_of_inside _ _ _ _ _ _ _ i (ix3 (i 0) ⟨(i 1).val, h⟩ (i 2)) fun a => ?_)).trans (zero_add _)
    · have e1 : 256 ≤ (i 1).val := e.1
      omega
    · fin_cases a
      · show (i 0).val = 0 + (i 0).val * (0 + 1); omega
      · show (i 1).val = 0 + (i 1).val * (0 + 1); omega
      · show (i 2).val = 0 + (i 2).val * (0 + 1); omega
  · rw [dif_neg h]
    refine (congrArg₂ (fun a b : EReal => a + b) (pad_apply_of_inside _ _ _ _ _ _ _ i (ix3 (i 0) ⟨(i 1).val - 256, by omega⟩ (i 2)) fun a => ?_)
      ((pad_apply_of_not_inside _ _ _ _ _ _ _ i 1 fun e => ?_).trans zero_word)).trans (add_zero _)
    · fin_cases a
      · show (i 0).val = 0 + (i 0).val * (0 + 1); omega
      · show (i 1).val = 256 + ((i 1).val - 256) * (0 + 1); omega
      · show (i 2).val = 0 + (i 2).val * (0 + 1); omega
    · have e1 : ((i 1).val - 0) / (0 + 1) < 256 := e.2.2
      omega

theorem at58 (i : S2x2304x1024.Idx) : val_main_v58 (F := Ideal) Z M G i = h (RG (i 0) (i 1)) PG (i 2) := by
  refine Eq.trans ?_ (joined i (fun b s k => h (RG b s) PG k) (val_main_v28 (F := Ideal) Z M G) (val_main_v57 (F := Ideal) Z M G) (a28 Z O M G W1 W3 W2) (b28 Z O M G W1 W3 W2))
  unfold val_main_v58
  generalize val_main_v28 (F := Ideal) Z M G = A
  generalize val_main_v57 (F := Ideal) Z M G = B
  pointwise

theorem at59 (i : S2x2304x2816.Idx) : val_main_v59 (F := Ideal) Z M G W1 i = u1 (RG (i 0) (i 1)) PG (i 2) := by
  rw [val_main_v59_apply]
  exact Finset.sum_congr rfl fun k _ => congrArg₂ (fun a b : EReal => a * b) (at58 Z O M G W1 W3 W2 _) (congrArg W1 (by funext a; fin_cases a <;> rfl))
theorem at60 (i : S2x2304x2816.Idx) : val_main_v60 (F := Ideal) Z M G W3 i = u3 (RG (i 0) (i 1)) PG (i 2) := by
  rw [val_main_v60_apply]
  exact Finset.sum_congr rfl fun k _ => congrArg₂ (fun a b : EReal => a * b) (at58 Z O M G W1 W3 W2 _) (congrArg W3 (by funext a; fin_cases a <;> rfl))
theorem at61 (i : S2x2304x2816.Idx) : val_main_v61_2 (F := Ideal) Z M G W1 i = sg (RG (i 0) (i 1)) PG (i 2) := by
  rw [val_main_v61_2_apply, val_main_call0_v3_apply, val_main_call0_v1_apply, val_main_call0_v0_apply, at59 Z O M G W1 W3 W2]
  have e : cO = 1 := cO_eq.trans EReal.coe_one
  refine Eq.trans (b := Ideal.div cO (cO + Ideal.exp (-u1 (RG (i 0) (i 1)) PG (i 2)))) rfl ?_
  rw [e]
  rfl
theorem at62 (i : S2x2304x2816.Idx) : val_main_v62 (F := Ideal) Z M G W1 W3 i = a (RG (i 0) (i 1)) PG (i 2) := by
  rw [val_main_v62_apply, val_main_v61_0_apply, at59 Z O M G W1 W3 W2, at60 Z O M G W1 W3 W2, at61 Z O M G W1 W3 W2]
  rfl
theorem at63 (i : S2x2304x1024.Idx) : val_main_v63 (F := Ideal) Z M G W1 W3 W2 i = f (RG (i 0) (i 1)) PG (i 2) := by
  rw [val_main_v63_apply]
  exact Finset.sum_congr rfl fun k _ => congrArg₂ (fun a b : EReal => a * b) (at62 Z O M G W1 W3 W2 _) (congrArg W2 (by funext a; fin_cases a <;> rfl))

theorem a133 (i : S2x256x1024.Idx) : val_main_v133 (F := Ideal) O M i = co (RA (i 0) (i 1)) (i 2) := by
  rw [val_main_v133_apply, aT Z O, aO Z O M]
  rfl
theorem b133 (i : S2x2048x1024.Idx) : val_main_v121 (F := Ideal) O M i = co (RB (i 0) (i 1)) (i 2) := by
  rw [val_main_v121_apply, bT Z O, bO Z O M]
  rfl
theorem at138 (i : S2x2304x1024.Idx) : val_main_v138 (F := Ideal) O M i = co (RG (i 0) (i 1)) (i 2) :=
  (padded (val_main_v121 (F := Ideal) O M) (val_main_v133 (F := Ideal) O M) _ _ i).trans
    (joined i (fun b s k => co (RG b s) k) (val_main_v133 (F := Ideal) O M) (val_main_v121 (F := Ideal) O M) (a133 Z O M) (b133 Z O M))
theorem at146 (i : S2x2304x1024.Idx) : val_main_v146 (F := Ideal) O i = (RG (i 0) (i 1)).o (i 2) :=
  (padded (val_main_v119 (F := Ideal) O) (val_main_v118 (F := Ideal) O) _ _ i).trans
    (joined i (fun b s k => (RG b s).o k) (val_main_v118 (F := Ideal) O) (val_main_v119 (F := Ideal) O) (aO Z O M) (bO Z O M))
theorem at147 (i : S2x2304x2816.Idx) : val_main_v147 (F := Ideal) O M W2 i = da (RG (i 0) (i 1)) PG (i 2) := by
  rw [val_main_v147_apply]
  exact Finset.sum_congr rfl fun k _ => congrArg₂ (fun a b : EReal => a * b) (at138 Z O M _) (congrArg W2 (by funext a; fin_cases a <;> rfl))
theorem at148 (i : S2x2304x2816.Idx) : val_main_v148 (F := Ideal) Z O M G W1 W2 i = d3 (RG (i 0) (i 1)) PG (i 2) := by
  rw [val_main_v148_apply, val_main_v61_0_apply, at59 Z O M G W1 W3 W2, at61 Z O M G W1 W3 W2, at147 Z O M G W1 W3 W2]
  exact mul_comm (u1 (RG (i 0) (i 1)) PG (i 2) * sg (RG (i 0) (i 1)) PG (i 2) : EReal) _

variable (hR : ∀ (b : Fin 2) (s : Fin 2304), (rowG Z O M b s).Real) (hP : (parG G W1 W3 W2).Real)
include hR hP

theorem at150 (i : S2x2304x2816.Idx) : val_main_v150 (F := Ideal) Z O M G W1 W3 W2 i = d1 (RG (i 0) (i 1)) PG (i 2) := by
  rw [val_main_v150_apply, val_main_call2_v1_apply, val_main_call2_v2_apply, val_main_call2_v0_apply, val_main_v149_apply, val_main_v61_1_apply, val_main_call0_v7_apply,
    at59 Z O M G W1 W3 W2, at60 Z O M G W1 W3 W2, at61 Z O M G W1 W3 W2, at147 Z O M G W1 W3 W2]
  exact d1_two (hR (i 0) (i 1)) hP (i 2)
theorem at153 (i : S2x2304x1024.Idx) : val_main_v153 (F := Ideal) Z O M G W1 W3 W2 i = dh (RG (i 0) (i 1)) PG (i 2) := by
  rw [val_main_v153_apply, val_main_v151_apply, val_main_v152_apply]
  exact congrArg₂ (fun a b : EReal => a + b)
    (Finset.sum_congr rfl fun k _ => congrArg₂ (fun a b : EReal => a * b) (at148 Z O M G W1 W3 W2 _) (congrArg W3 (by funext a; fin_cases a <;> rfl)))
    (Finset.sum_congr rfl fun k _ => congrArg₂ (fun a b : EReal => a * b) (at150 Z O M G W1 W3 W2 hR hP _) (congrArg W1 (by funext a; fin_cases a <;> rfl)))
theorem a154 (i : S2x256x1024.Idx) : val_main_v154 (F := Ideal) Z O M G W1 W3 W2 i = dh (RA (i 0) (i 1)) PG (i 2) := by
  rw [val_main_v154_apply, at153 Z O M G W1 W3 W2 hR hP]
  rfl
theorem b154 (i : S2x2048x1024.Idx) : val_main_v155 (F := Ideal) Z O M G W1 W3 W2 i = dh (RB (i 0) (i 1)) PG (i 2) := by
  rw [val_main_v155_apply, at153 Z O M G W1 W3 W2 hR hP]
  rfl
theorem a201 (i : S2x256x1024.Idx) : val_main_v201 (F := Ideal) Z O M G W1 W3 W2 i = dn (RA (i 0) (i 1)) PG (i 2) := by
  rw [val_main_v201_apply, a154 Z O M G W1 W3 W2 hR hP]
  exact congrArg (fun e : EReal => _ * e) (aS Z O M i)
theorem b201 (i : S2x2048x1024.Idx) : val_main_v165 (F := Ideal) Z O M G W1 W3 W2 i = dn (RB (i 0) (i 1)) PG (i 2) := by
  rw [val_main_v165_apply, b154 Z O M G W1 W3 W2 hR hP]
  exact congrArg (fun e : EReal => _ * e) (bS Z O M i)
theorem a210 (i : S2x256x1024.Idx) : val_main_v210 (F := Ideal) Z O M G W1 W3 W2 i = dy (RA (i 0) (i 1)) PG (i 2) := by
  rw [val_main_v210_apply, a201 Z O M G W1 W3 W2 hR hP]
  exact congrArg (fun e : EReal => _ * e) (aG G i)
theorem b210 (i : S2x2048x1024.Idx) : val_main_v174 (F := Ideal) Z O M G W1 W3 W2 i = dy (RB (i 0) (i 1)) PG (i 2) := by
  rw [val_main_v174_apply, b201 Z O M G W1 W3 W2 hR hP]
  exact congrArg (fun e : EReal => _ * e) (bG G i)
theorem a214 (i : S2x256.Idx) : val_main_v214 (F := Ideal) Z O M G W1 W3 W2 i = ∑ k, (RA (i 0) (i 1)).z k * dy (RA (i 0) (i 1)) PG k := by
  rw [val_main_v214_apply]
  refine (congrArg₂ (fun a b : EReal => a + b) zero_word (Finset.sum_congr rfl fun k _ => ?_)).trans (zero_add _)
  rw [val_main_v213_apply, a0 Z O M, a210 Z O M G W1 W3 W2 hR hP]
  rfl
theorem b214 (i : S2x2048.Idx) : val_main_v177 (F := Ideal) Z O M G W1 W3 W2 i = ∑ k, (RB (i 0) (i 1)).z k * dy (RB (i 0) (i 1)) PG k := by
  rw [val_main_v177_apply]
  refine (congrArg₂ (fun a b : EReal => a + b) zero_word (Finset.sum_congr rfl fun k _ => ?_)).trans (zero_add _)
  rw [val_main_v176_apply, b0 Z O M, b210 Z O M G W1 W3 W2 hR hP]
  rfl
theorem a215 (i : S2x256x1.Idx) : val_main_v215 (F := Ideal) Z O M G W1 W3 W2 i = ∑ k, (RA (i 0) (i 1)).z k * dy (RA (i 0) (i 1)) PG k := by
  refine Eq.trans ?_ (a214 Z O M G W1 W3 W2 hR hP (ix2 (i 0) (i 1)))
  unfold val_main_v215
  generalize val_main_v214 (F := Ideal) Z O M G W1 W3 W2 = x
  pointwise
theorem b215 (i : S2x2048x1.Idx) : val_main_v178 (F := Ideal) Z O M G W1 W3 W2 i = ∑ k, (RB (i 0) (i 1)).z k * dy (RB (i 0) (i 1)) PG k := by
  refine Eq.trans ?_ (b214 Z O M G W1 W3 W2 hR hP (ix2 (i 0) (i 1)))
  unfold val_main_v178
  generalize val_main_v177 (F := Ideal) Z O M G W1 W3 W2 = x
  pointwise
theorem a221 (i : S2x256.Idx) : val_main_v221 (F := Ideal) Z O M G W1 W3 W2 i = corr (RA (i 0) (i 1)) PG := by
  rw [val_main_v221_apply, Fin.sum_univ_one, val_main_v220_apply, val_main_v218_apply, a215 Z O M G W1 W3 W2 hR hP, a11 Z O M]
  exact (congrArg (fun a : EReal => a + _) zero_word).trans (zero_add _)
theorem b221 (i : S2x2048.Idx) : val_main_v184 (F := Ideal) Z O M G W1 W3 W2 i = corr (RB (i 0) (i 1)) PG := by
  rw [val_main_v184_apply, Fin.sum_univ_one, val_main_v183_apply, val_main_v181_apply, b215 Z O M G W1 W3 W2 hR hP, b11 Z O M]
  exact (congrArg (fun a : EReal => a + _) zero_word).trans (zero_add _)

/-- The norm's gradient by the tokens. -/
theorem a226 (i : S2x256x1024.Idx) : val_main_v226 (F := Ideal) Z O M G W1 W3 W2 i
    = ((dy (RA (i 0) (i 1)) PG (i 2) * Step.Head.rs (RA (i 0) (i 1)).z + (RA (i 0) (i 1)).z (i 2) * corr (RA (i 0) (i 1)) PG) + corr (RA (i 0) (i 1)) PG * (RA (i 0) (i 1)).z (i 2) : EReal) := by
  rw [val_main_v226_apply, val_main_v224_apply, val_main_v225_apply, val_main_v223_apply, val_main_v217_apply, val_main_v216_apply, val_main_v222_apply,
    a0 Z O M, a210 Z O M G W1 W3 W2 hR hP, a8 Z O M, a221 Z O M G W1 W3 W2 hR hP]
  rfl
theorem b226 (i : S2x2048x1024.Idx) : val_main_v189 (F := Ideal) Z O M G W1 W3 W2 i
    = ((dy (RB (i 0) (i 1)) PG (i 2) * Step.Head.rs (RB (i 0) (i 1)).z + (RB (i 0) (i 1)).z (i 2) * corr (RB (i 0) (i 1)) PG) + corr (RB (i 0) (i 1)) PG * (RB (i 0) (i 1)).z (i 2) : EReal) := by
  rw [val_main_v189_apply, val_main_v187_apply, val_main_v188_apply, val_main_v186_apply, val_main_v180_apply, val_main_v179_apply, val_main_v185_apply,
    b0 Z O M, b210 Z O M G W1 W3 W2 hR hP, b8 Z O M, b221 Z O M G W1 W3 W2 hR hP]
  rfl
theorem at282 (i : S2x2304x1024.Idx) : val_main_v282 (F := Ideal) Z O M G W1 W3 W2 i = dz (RG (i 0) (i 1)) PG (i 2) :=
  congrArg₂ (fun a b : EReal => a + b) (at146 Z O M i)
    ((padded (val_main_v189 (F := Ideal) Z O M G W1 W3 W2) (val_main_v226 (F := Ideal) Z O M G W1 W3 W2) _ _ i).trans
      (joined i (fun b s k => ((dy (RG b s) PG k * Step.Head.rs (RG b s).z + (RG b s).z k * corr (RG b s) PG) + corr (RG b s) PG * (RG b s).z k : EReal))
        (val_main_v226 (F := Ideal) Z O M G W1 W3 W2) (val_main_v189 (F := Ideal) Z O M G W1 W3 W2) (a226 Z O M G W1 W3 W2 hR hP) (b226 Z O M G W1 W3 W2 hR hP)))

end Cert.Reference7Ideal.Rows
end
-- ==== Proof.FfnMod.lean ====
/- The reference's feed-forward half step and its gradient: the gradients by the modulation and by the gain, and the results together. -/
module

public import proofs.«01_k».proof.Proof.FfnRef

@[expose] public section

set_option maxRecDepth 65536

noncomputable section

namespace Cert.Reference7Ideal.Rows

open Cert.Reference7Ideal Cert.Reference7Ideal.Gen Cert.Reference7Ideal.Read Idealize.ShloMosaic Step.Ffn

variable (Z O : FVec Ideal S2x2304x1024 .f32) (M : FVec Ideal S2x2x3x1024 .f32) (G : FVec Ideal S1024 .f32)
  (W1 W3 : FVec Ideal S1024x2816 .f32) (W2 : FVec Ideal S2816x1024 .f32)

local notation "PG" => parG G W1 W3 W2
local notation "RG" => rowG Z O M
local notation "RA" => ra Z O M
local notation "RB" => rb Z O M

/-- A part of the modulation's gradient put in its place among zeros. -/
theorem spot (a e : ℕ) (lo hi : Fin 4 → ℕ) (X : FVec Ideal S2x1x1x1024 .f32) (hx) (hlo : lo = ![0, a, e, 0]) (i : S2x2x3x1024.Idx) :
    pad S2x2x3x1024 lo hi ![0, 0, 0, 0] X (constant S_ .f32 0x00000000#32 : FVec Ideal S_ .f32) hx h_S_ i
    = (if (i 1).val = a ∧ (i 2).val = e then X (ix4 (i 0) 0 0 (i 3)) else 0 : EReal) := by
  subst hlo
  by_cases h : (i 1).val = a ∧ (i 2).val = e
  · rw [if_pos h]
    obtain ⟨h1, h2⟩ := h
    refine pad_apply_of_inside _ _ _ _ _ _ _ i (ix4 (i 0) 0 0 (i 3)) fun q => ?_
    fin_cases q
    · show (i 0).val = 0 + (i 0).val * (0 + 1); omega
    · show (i 1).val = a + 0 * (0 + 1); omega
    · show (i 2).val = e + 0 * (0 + 1); omega
    · show (i 3).val = 0 + (i 3).val * (0 + 1); omega
  · rw [if_neg h]
    by_cases h1 : (i 1).val = a
    · refine (pad_apply_of_not_inside _ _ _ _ _ _ _ i 2 fun q => ?_).trans zero_word
      have l : e ≤ (i 2).val := q.1
      have u : ((i 2).val - e) / (0 + 1) < 1 := q.2.2
      exact h ⟨h1, by omega⟩
    · refine (pad_apply_of_not_inside _ _ _ _ _ _ _ i 1 fun q => ?_).trans zero_word
      have l : a ≤ (i 1).val := q.1
      have u : ((i 1).val - a) / (0 + 1) < 1 := q.2.2
      exact h1 (by omega)

theorem b123 (i : S2x1024.Idx) : val_main_v123 (F := Ideal) Z O M G W1 W3 W2 i = ∑ r : Fin 2048, ((RB (i 0) r).o (i 1) * f (RB (i 0) r) PG (i 1) : EReal) := by
  rw [val_main_v123_apply]
  refine (congrArg₂ (fun a b : EReal => a + b) zero_word (Finset.sum_congr rfl fun r _ => ?_)).trans (zero_add _)
  rw [val_main_v122_apply, bO Z O M, val_main_v80_apply, at63 Z O M G W1 W3 W2]
  rfl
theorem b124 (i : S2x1x1024.Idx) : val_main_v124 (F := Ideal) Z O M G W1 W3 W2 i = ∑ r : Fin 2048, ((RB (i 0) r).o (i 2) * f (RB (i 0) r) PG (i 2) : EReal) := by
  refine Eq.trans ?_ (b123 Z O M G W1 W3 W2 (ix2 (i 0) (i 2)))
  unfold val_main_v124
  generalize val_main_v123 (F := Ideal) Z O M G W1 W3 W2 = x
  pointwise
theorem b129 (i : S2x1x1x1024.Idx) : val_main_v129 (F := Ideal) Z O M G W1 W3 W2 i = ∑ r : Fin 2048, dm (RB (i 0) r) PG 2 (i 3) := by
  rw [val_main_v129_apply, val_main_v128_apply, Fin.sum_univ_one]
  refine (congrArg (fun a : EReal => a + _) zero_word).trans ((zero_add _).trans ?_)
  rw [val_main_v127_apply]
  refine (congrArg (fun x : EReal => Step.Head.cH * x) (b124 Z O M G W1 W3 W2 _)).trans ((half_sum _ _).trans (Finset.sum_congr rfl fun r _ => ?_))
  show (Step.Head.cH * ((RB (i 0) r).o (i 3) * f (RB (i 0) r) PG (i 3)) : EReal) = (Step.Head.cH * f (RB (i 0) r) PG (i 3)) * (RB (i 0) r).o (i 3)
  rw [mul_assoc, mul_comm (f (RB (i 0) r) PG (i 3))]
theorem a135 (i : S2x1024.Idx) : val_main_v135 (F := Ideal) Z O M G W1 W3 W2 i = ∑ r : Fin 256, ((RA (i 0) r).o (i 1) * f (RA (i 0) r) PG (i 1) : EReal) := by
  rw [val_main_v135_apply]
  refine (congrArg₂ (fun a b : EReal => a + b) zero_word (Finset.sum_congr rfl fun r _ => ?_)).trans (zero_add _)
  rw [val_main_v134_apply, aO Z O M, val_main_v70_apply, at63 Z O M G W1 W3 W2]
  rfl
theorem a136 (i : S2x1x1024.Idx) : val_main_v136 (F := Ideal) Z O M G W1 W3 W2 i = ∑ r : Fin 256, ((RA (i 0) r).o (i 2) * f (RA (i 0) r) PG (i 2) : EReal) := by
  refine Eq.trans ?_ (a135 Z O M G W1 W3 W2 (ix2 (i 0) (i 2)))
  unfold val_main_v136
  generalize val_main_v135 (F := Ideal) Z O M G W1 W3 W2 = x
  pointwise
theorem a142 (i : S2x1x1x1024.Idx) : val_main_v142 (F := Ideal) Z O M G W1 W3 W2 i = ∑ r : Fin 256, dm (RA (i 0) r) PG 2 (i 3) := by
  rw [val_main_v142_apply, val_main_v141_apply, Fin.sum_univ_one]
  refine (congrArg (fun a : EReal => a + _) zero_word).trans ((zero_add _).trans ?_)
  rw [val_main_v140_apply]
  refine (congrArg (fun x : EReal => Step.Head.cH * x) (a136 Z O M G W1 W3 W2 _)).trans ((half_sum _ _).trans (Finset.sum_congr rfl fun r _ => ?_))
  show (Step.Head.cH * ((RA (i 0) r).o (i 3) * f (RA (i 0) r) PG (i 3)) : EReal) = (Step.Head.cH * f (RA (i 0) r) PG (i 3)) * (RA (i 0) r).o (i 3)
  rw [mul_assoc, mul_comm (f (RA (i 0) r) PG (i 3))]

variable (hR : ∀ (b : Fin 2) (s : Fin 2304), (rowG Z O M b s).Real) (hP : (parG G W1 W3 W2).Real)
include hR hP

theorem b156 (i : S2x1024.Idx) : val_main_v156 (F := Ideal) Z O M G W1 W3 W2 i = ∑ r : Fin 2048, (dh (RB (i 0) r) PG (i 1) : EReal) := by
  rw [val_main_v156_apply]
  refine (congrArg₂ (fun a b : EReal => a + b) zero_word (Finset.sum_congr rfl fun r _ => ?_)).trans (zero_add _)
  rw [b154 Z O M G W1 W3 W2 hR hP]
  rfl
theorem b157 (i : S2x1x1024.Idx) : val_main_v157 (F := Ideal) Z O M G W1 W3 W2 i = ∑ r : Fin 2048, (dh (RB (i 0) r) PG (i 2) : EReal) := by
  refine Eq.trans ?_ (b156 Z O M G W1 W3 W2 hR hP (ix2 (i 0) (i 2)))
  unfold val_main_v157
  generalize val_main_v156 (F := Ideal) Z O M G W1 W3 W2 = x
  pointwise
theorem b159 (i : S2x1x1x1024.Idx) : val_main_v159 (F := Ideal) Z O M G W1 W3 W2 i = ∑ r : Fin 2048, dm (RB (i 0) r) PG 0 (i 3) := by
  rw [val_main_v159_apply, val_main_v158_apply, Fin.sum_univ_one]
  refine (congrArg (fun a : EReal => a + _) zero_word).trans ((zero_add _).trans ?_)
  exact b157 Z O M G W1 W3 W2 hR hP _
theorem a191 (i : S2x1024.Idx) : val_main_v191 (F := Ideal) Z O M G W1 W3 W2 i = ∑ r : Fin 256, (dh (RA (i 0) r) PG (i 1) : EReal) := by
  rw [val_main_v191_apply]
  refine (congrArg₂ (fun a b : EReal => a + b) zero_word (Finset.sum_congr rfl fun r _ => ?_)).trans (zero_add _)
  rw [a154 Z O M G W1 W3 W2 hR hP]
  rfl
theorem a192 (i : S2x1x1024.Idx) : val_main_v192 (F := Ideal) Z O M G W1 W3 W2 i = ∑ r : Fin 256, (dh (RA (i 0) r) PG (i 2) : EReal) := by
  refine Eq.trans ?_ (a191 Z O M G W1 W3 W2 hR hP (ix2 (i 0) (i 2)))
  unfold val_main_v192
  generalize val_main_v191 (F := Ideal) Z O M G W1 W3 W2 = x
  pointwise
theorem a194 (i : S2x1x1x1024.Idx) : val_main_v194 (F := Ideal) Z O M G W1 W3 W2 i = ∑ r : Fin 256, dm (RA (i 0) r) PG 0 (i 3) := by
  rw [val_main_v194_apply, val_main_v193_apply, Fin.sum_univ_one]
  refine (congrArg (fun a : EReal => a + _) zero_word).trans ((zero_add _).trans ?_)
  exact a192 Z O M G W1 W3 W2 hR hP _
theorem b162 (i : S2x1024.Idx) : val_main_v162 (F := Ideal) Z O M G W1 W3 W2 i = ∑ r : Fin 2048, (nm (RB (i 0) r) PG (i 1) * dh (RB (i 0) r) PG (i 1) : EReal) := by
  rw [val_main_v162_apply]
  refine (congrArg₂ (fun a b : EReal => a + b) zero_word (Finset.sum_congr rfl fun r _ => ?_)).trans (zero_add _)
  rw [val_main_v161_apply, b16 Z O M G W1 W3 W2, b154 Z O M G W1 W3 W2 hR hP]
  rfl
theorem b163 (i : S2x1x1024.Idx) : val_main_v163 (F := Ideal) Z O M G W1 W3 W2 i = ∑ r : Fin 2048, (nm (RB (i 0) r) PG (i 2) * dh (RB (i 0) r) PG (i 2) : EReal) := by
  refine Eq.trans ?_ (b162 Z O M G W1 W3 W2 hR hP (ix2 (i 0) (i 2)))
  unfold val_main_v163
  generalize val_main_v162 (F := Ideal) Z O M G W1 W3 W2 = x
  pointwise
theorem b167 (i : S2x1x1x1024.Idx) : val_main_v167 (F := Ideal) Z O M G W1 W3 W2 i = ∑ r : Fin 2048, dm (RB (i 0) r) PG 1 (i 3) := by
  rw [val_main_v167_apply, val_main_v166_apply, Fin.sum_univ_one]
  refine (congrArg (fun a : EReal => a + _) zero_word).trans ((zero_add _).trans ?_)
  exact b163 Z O M G W1 W3 W2 hR hP _
theorem a198 (i : S2x1024.Idx) : val_main_v198 (F := Ideal) Z O M G W1 W3 W2 i = ∑ r : Fin 256, (nm (RA (i 0) r) PG (i 1) * dh (RA (i 0) r) PG (i 1) : EReal) := by
  rw [val_main_v198_apply]
  refine (congrArg₂ (fun a b : EReal => a + b) zero_word (Finset.sum_congr rfl fun r _ => ?_)).trans (zero_add _)
  rw [val_main_v197_apply, a16 Z O M G W1 W3 W2, a154 Z O M G W1 W3 W2 hR hP]
  rfl
theorem a199 (i : S2x1x1024.Idx) : val_main_v199 (F := Ideal) Z O M G W1 W3 W2 i = ∑ r : Fin 256, (nm (RA (i 0) r) PG (i 2) * dh (RA (i 0) r) PG (i 2) : EReal) := by
  refine Eq.trans ?_ (a198 Z O M G W1 W3 W2 hR hP (ix2 (i 0) (i 2)))
  unfold val_main_v199
  generalize val_main_v198 (F := Ideal) Z O M G W1 W3 W2 = x
  pointwise
theorem a203 (i : S2x1x1x1024.Idx) : val_main_v203 (F := Ideal) Z O M G W1 W3 W2 i = ∑ r : Fin 256, dm (RA (i 0) r) PG 1 (i 3) := by
  rw [val_main_v203_apply, val_main_v202_apply, Fin.sum_univ_one]
  refine (congrArg (fun a : EReal => a + _) zero_word).trans ((zero_add _).trans ?_)
  exact a199 Z O M G W1 W3 W2 hR hP _

/-- The gradient by the modulation. -/
theorem at288 (i : S2x2x3x1024.Idx) : val_main_v288 (F := Ideal) Z O M G W1 W3 W2 i = dmA Z O M G W1 W3 W2 (i 0) (i 1) (i 2) (i 3) := by
  refine Eq.trans ?_ (six (i 1) (i 2) (fun e => ∑ r : Fin 256, dm (RA (i 0) r) PG e (i 3)) (fun e => ∑ r : Fin 2048, dm (RB (i 0) r) PG e (i 3)))
  exact congrArg₂ (fun a b : EReal => a + b)
    (congrArg₂ (fun a b : EReal => a + b) ((spot 1 2 _ _ (val_main_v129 (F := Ideal) Z O M G W1 W3 W2) _ rfl i).trans (congrArg (fun x : EReal => if (i 1).val = 1 ∧ (i 2).val = 2 then x else 0) (b129 Z O M G W1 W3 W2 (ix4 (i 0) 0 0 (i 3)))))
      ((spot 0 2 _ _ (val_main_v142 (F := Ideal) Z O M G W1 W3 W2) _ rfl i).trans (congrArg (fun x : EReal => if (i 1).val = 0 ∧ (i 2).val = 2 then x else 0) (a142 Z O M G W1 W3 W2 (ix4 (i 0) 0 0 (i 3))))))
    (congrArg₂ (fun a b : EReal => a + b) (congrArg₂ (fun a b : EReal => a + b) (congrArg₂ (fun a b : EReal => a + b)
      ((spot 1 0 _ _ (val_main_v159 (F := Ideal) Z O M G W1 W3 W2) _ rfl i).trans (congrArg (fun x : EReal => if (i 1).val = 1 ∧ (i 2).val = 0 then x else 0) (b159 Z O M G W1 W3 W2 hR hP (ix4 (i 0) 0 0 (i 3)))))
      ((spot 1 1 _ _ (val_main_v167 (F := Ideal) Z O M G W1 W3 W2) _ rfl i).trans (congrArg (fun x : EReal => if (i 1).val = 1 ∧ (i 2).val = 1 then x else 0) (b167 Z O M G W1 W3 W2 hR hP (ix4 (i 0) 0 0 (i 3))))))
      ((spot 0 0 _ _ (val_main_v194 (F := Ideal) Z O M G W1 W3 W2) _ rfl i).trans (congrArg (fun x : EReal => if (i 1).val = 0 ∧ (i 2).val = 0 then x else 0) (a194 Z O M G W1 W3 W2 hR hP (ix4 (i 0) 0 0 (i 3))))))
      ((spot 0 1 _ _ (val_main_v203 (F := Ideal) Z O M G W1 W3 W2) _ rfl i).trans (congrArg (fun x : EReal => if (i 1).val = 0 ∧ (i 2).val = 1 then x else 0) (a203 Z O M G W1 W3 W2 hR hP (ix4 (i 0) 0 0 (i 3))))))

/-- The gradient by the gain. -/
theorem b171 (i : S1024.Idx) : val_main_v171 (F := Ideal) Z O M G W1 W3 W2 i = ∑ b : Fin 2, ∑ r : Fin 2048, dg (RB b r) PG (i 0) := by
  unfold val_main_v171
  refine (Step.hostReduceAdd_first_two _ _ _ i).trans ((congrArg₂ (fun a b : EReal => a + b) zero_word (Finset.sum_congr rfl fun b _ => Finset.sum_congr rfl fun r _ => ?_)).trans (zero_add _))
  rw [val_main_v170_apply, b13 Z O M, b201 Z O M G W1 W3 W2 hR hP]
  rfl
theorem b175 (i : S1024.Idx) : val_main_v175 (F := Ideal) Z O M G W1 W3 W2 i = ∑ b : Fin 2, ∑ r : Fin 2048, dg (RB b r) PG (i 0) := by
  unfold val_main_v175
  refine (Step.hostReduceAdd_first_two _ _ _ _).trans ?_
  rw [Fin.sum_univ_one, Fin.sum_univ_one, val_main_v172_apply, b171 Z O M G W1 W3 W2 hR hP]
  refine (congrArg (fun a : EReal => a + _) zero_word).trans ((zero_add _).trans ?_)
  refine Finset.sum_congr rfl fun b _ => Finset.sum_congr rfl fun r _ => congrArg (dg (RB b r) PG) (Fin.ext ?_)
  show (0 * 1 + 0) * 1024 + (i 0).val = (i 0).val
  omega
theorem a207 (i : S1024.Idx) : val_main_v207 (F := Ideal) Z O M G W1 W3 W2 i = ∑ b : Fin 2, ∑ r : Fin 256, dg (RA b r) PG (i 0) := by
  unfold val_main_v207
  refine (Step.hostReduceAdd_first_two _ _ _ i).trans ((congrArg₂ (fun a b : EReal => a + b) zero_word (Finset.sum_congr rfl fun b _ => Finset.sum_congr rfl fun r _ => ?_)).trans (zero_add _))
  rw [val_main_v206_apply, a13 Z O M, a201 Z O M G W1 W3 W2 hR hP]
  rfl
theorem a211 (i : S1024.Idx) : val_main_v211 (F := Ideal) Z O M G W1 W3 W2 i = ∑ b : Fin 2, ∑ r : Fin 256, dg (RA b r) PG (i 0) := by
  unfold val_main_v211
  refine (Step.hostReduceAdd_first_two _ _ _ _).trans ?_
  rw [Fin.sum_univ_one, Fin.sum_univ_one, val_main_v208_apply, a207 Z O M G W1 W3 W2 hR hP]
  refine (congrArg (fun a : EReal => a + _) zero_word).trans ((zero_add _).trans ?_)
  refine Finset.sum_congr rfl fun b _ => Finset.sum_congr rfl fun r _ => congrArg (dg (RA b r) PG) (Fin.ext ?_)
  show (0 * 1 + 0) * 1024 + (i 0).val = (i 0).val
  omega
theorem at289 (i : S1x1024.Idx) : val_main_v289 (F := Ideal) Z O M G W1 W3 W2 i = dgA Z O M G W1 W3 W2 (i 1) := by
  rw [val_main_v289_apply, val_main_v212_apply, b175 Z O M G W1 W3 W2 hR hP, a211 Z O M G W1 W3 W2 hR hP]
  have h0 : (i 0).val < 1 := (i 0).isLt
  have e : (⟨(i 0).val * 1024 + (i 1).val, by have h1 : (i 1).val < 1024 := (i 1).isLt; omega⟩ : Fin 1024) = i 1 := Fin.ext (by show (i 0).val * 1024 + (i 1).val = (i 1).val; omega)
  refine Eq.trans (b := ((∑ b : Fin 2, ∑ r : Fin 2048, dg (RB b r) PG (i 1)) + ∑ b : Fin 2, ∑ r : Fin 256, dg (RA b r) PG (i 1) : EReal)) ?_ ?_
  · rw [← e]
    rfl
  · rw [← Finset.sum_add_distrib]
    exact Finset.sum_congr rfl fun b _ => (parts fun s => dg (RG b s) PG (i 1)).symm

/-- The results that are rows. -/
theorem at284 (i : S2x2304x2816.Idx) : val_main_v284 (F := Ideal) Z O M G W1 W3 W2 i = d1 (RG (i 0) (i 1)) PG (i 2) := at150 Z O M G W1 W3 W2 hR hP i
omit hR hP in
theorem at283 (i : S2x2304x1024.Idx) : val_main_v283 (F := Ideal) Z M G i = h (RG (i 0) (i 1)) PG (i 2) := at58 Z O M G W1 W3 W2 i
omit hR hP in
theorem at285 (i : S2x2304x2816.Idx) : val_main_v285 (F := Ideal) Z O M G W1 W2 i = d3 (RG (i 0) (i 1)) PG (i 2) := at148 Z O M G W1 W3 W2 i
omit hR hP in
theorem at286 (i : S2x2304x2816.Idx) : val_main_v286 (F := Ideal) Z M G W1 W3 i = a (RG (i 0) (i 1)) PG (i 2) := at62 Z O M G W1 W3 W2 i
omit hR hP in
theorem at287 (i : S2x2304x1024.Idx) : val_main_v287 (F := Ideal) O M i = co (RG (i 0) (i 1)) (i 2) := at138 Z O M i

end Cert.Reference7Ideal.Rows
end
-- ==== Proof.FfnClaim.lean ====
/- The gradient of the feed-forward half step: kernel and reference agree. -/
module

public import proofs.«01_k».proof.Defs
public import proofs.«01_k».proof.Proof.FfnFinal
public import proofs.«01_k».proof.Proof.FfnMod
public import proofs.«01_k».proof.Proof.Gen.Reference7Ideal.Run
public import proofs.«01_k».proof.Proof.Gen.Pre_finite7
public import Idealize.ShloMosaic.Lib.Claim

@[expose] public section

set_option maxRecDepth 16384

noncomputable section

namespace Cert.Kernel7Ideal.Value

open Cert.Kernel7Ideal Cert.Kernel7Ideal.Gen Idealize.ShloMosaic Idealize.ShloMosaic.TcCoe Idealize.SL.Sem Step.Ffn
open Cert.Reference7Ideal.Read

theorem fin1 {s : Shape} {X : FVec Ideal s .f32} (h : ∃ x : s.Idx → ℝ, X = fun i => (x i : EReal)) (i : s.Idx) : Fin1 (X i) := by
  obtain ⟨x, hx⟩ := h
  exact ⟨x i, congrFun hx i⟩

variable (Z O : FVec Ideal S2x2304x1024 .f32) (M : FVec Ideal S2x2x3x1024 .f32) (G : FVec Ideal S1024 .f32)
  (W1 W3 : FVec Ideal S1024x2816 .f32) (W2 : FVec Ideal S2816x1024 .f32)

/-- What the precondition says: every row and the parameters are real. -/
theorem reals (h : Cert.Pre_finite7.fn (F := Ideal) Z O M G W1 W3 W2 = fun _ => 1#1) : (∀ b s, (rowG Z O M b s).Real) ∧ (parG G W1 W3 W2).Real := by
  have e := congrFun h fun a => a.elim0
  simp only [Cert.Pre_finite7.fn, Cert.Pre_finite7.fn_part1] at e
  obtain ⟨e13, e32⟩ := IntOp.andi_eq_one.1 e
  obtain ⟨hz, e12⟩ := IntOp.andi_eq_one.1 e13
  obtain ⟨ho, hm⟩ := IntOp.andi_eq_one.1 e12
  obtain ⟨e22, e31⟩ := IntOp.andi_eq_one.1 e32
  obtain ⟨hg, h1⟩ := IntOp.andi_eq_one.1 e22
  obtain ⟨h3, h2⟩ := IntOp.andi_eq_one.1 e31
  have rz := fin1 (Step.reals_of_all _ _ _ _ _ _ hz)
  have ro := fin1 (Step.reals_of_all _ _ _ _ _ _ ho)
  have rm := fin1 (Step.reals_of_all _ _ _ _ _ _ hm)
  have rg := fin1 (Step.reals_of_all _ _ _ _ _ _ hg)
  have r1 := fin1 (Step.reals_of_all _ _ _ _ _ _ h1)
  have r3 := fin1 (Step.reals_of_all _ _ _ _ _ _ h3)
  have r2 := fin1 (Step.reals_of_all _ _ _ _ _ _ h2)
  exact ⟨fun b s => ⟨fun k => rz _, fun k => ro _, fun k => rm _, fun k => rm _, fun k => rm _⟩,
    ⟨fun k => rg _, fun k j => r1 _, fun k j => r3 _, fun j k => r2 _⟩⟩

/-- The kernel's run, its results by name. -/
theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68_0) = (Whole.exact m 0 c).arrAt 8 cfg0.N
      ∧ r.2.mem ((c.tc : Thread nD τ).loc main_v68_1) = (Whole.exact m 0 c).arrAt 9 cfg0.N
      ∧ r.2.mem ((c.tc : Thread nD τ).loc main_v68_2) = (Whole.exact m 0 c).arrAt 10 cfg0.N
      ∧ r.2.mem ((c.tc : Thread nD τ).loc main_v68_3) = (Whole.exact m 0 c).arrAt 11 cfg0.N
      ∧ r.2.mem ((c.tc : Thread nD τ).loc main_v68_4) = (Whole.exact m 0 c).arrAt 12 cfg0.N
      ∧ r.2.mem ((c.tc : Thread nD τ).loc main_v68_5) = (Whole.exact m 0 c).arrAt 13 cfg0.N
      ∧ r.2.mem ((c.tc : Thread nD τ).loc main_v68_6) = (Whole.exact m 0 c).arrAt 14 cfg0.N
      ∧ r.2.mem ((c.tc : Thread nD τ).loc main_v68_7) = (Whole.exact m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun r h c => ⟨h.1 c 8, h.1 c 9, h.1 c 10, h.1 c 11, h.1 c 12, h.1 c 13, h.1 c 14, h.1 c 15, h.2 c⟩) (Whole.run_named m ρ)

/-! One result after the other: what the reference computes from the arguments is what the kernel leaves. -/

section same

variable (c : Dev nD) (m : (ℓ : Loc nD τ sig) → Buf (Elt Ideal) ℓ)
  (h0 : m ((c : Thread nD τ).loc main_arg0) = Z) (h1 : m ((c : Thread nD τ).loc main_arg1) = O) (h2 : m ((c : Thread nD τ).loc main_arg2) = M)
  (h3 : m ((c : Thread nD τ).loc main_arg3) = G) (h4 : m ((c : Thread nD τ).loc main_arg4) = W1) (h5 : m ((c : Thread nD τ).loc main_arg5) = W3)
  (h6 : m ((c : Thread nD τ).loc main_arg6) = W2)
  (hR : ∀ (b : Fin 2) (s : Fin 2304), (rowG Z O M b s).Real) (hP : (parG G W1 W3 W2).Real)
include h0 h1 h2 h3 h4 h5 h6

theorem saved (i : S2x2304x1024.Idx) : (V m c main_v57 : FVec Ideal S2x2304x1024 .f32) i = f (rowG Z O M (i 0) (i 1)) (parG G W1 W3 W2) (i 2) :=
  (congrFun (Host.entryF c m Z M G W1 W3 W2 h0 h2 h3 h4 h5 h6) i).trans (Cert.Reference7Ideal.Rows.at63 Z O M G W1 W3 W2 i)
include hR hP in
theorem same0 : val_main_v282 (F := Ideal) Z O M G W1 W3 W2 = (Whole.exact m 0 c).arrAt 8 cfg0.N :=
  (funext fun i => Cert.Reference7Ideal.Rows.at282 Z O M G W1 W3 W2 hR hP i).trans (Whole.final8 c m Z O M G W1 W3 W2 h0 h1 h2 h3 h4 h5 h6).symm
theorem same1 : val_main_v283 (F := Ideal) Z M G = (Whole.exact m 0 c).arrAt 9 cfg0.N :=
  (funext fun i => Cert.Reference7Ideal.Rows.at283 Z O M G W1 W3 W2 i).trans (Whole.final9 c m Z O M G W1 W3 W2 h0 h1 h2 h3 h4 h5 h6).symm
include hR hP in
theorem same2 : val_main_v284 (F := Ideal) Z O M G W1 W3 W2 = (Whole.exact m 0 c).arrAt 10 cfg0.N :=
  (funext fun i => Cert.Reference7Ideal.Rows.at284 Z O M G W1 W3 W2 hR hP i).trans (Whole.final10 c m Z O M G W1 W3 W2 h0 h1 h2 h3 h4 h5 h6).symm
theorem same3 : val_main_v285 (F := Ideal) Z O M G W1 W2 = (Whole.exact m 0 c).arrAt 11 cfg0.N :=
  (funext fun i => Cert.Reference7Ideal.Rows.at285 Z O M G W1 W3 W2 i).trans (Whole.final11 c m Z O M G W1 W3 W2 h0 h1 h2 h3 h4 h5 h6).symm
theorem same4 : val_main_v286 (F := Ideal) Z M G W1 W3 = (Whole.exact m 0 c).arrAt 12 cfg0.N :=
  (funext fun i => Cert.Reference7Ideal.Rows.at286 Z O M G W1 W3 W2 i).trans (Whole.final12 c m Z O M G W1 W3 W2 h0 h1 h2 h3 h4 h5 h6).symm
theorem same5 : val_main_v287 (F := Ideal) O M = (Whole.exact m 0 c).arrAt 13 cfg0.N :=
  (funext fun i => Cert.Reference7Ideal.Rows.at287 Z O M i).trans (Whole.final13 c m Z O M G W1 W3 W2 h0 h1 h2 h3 h4 h5 h6).symm
include hR hP in
theorem same6 : val_main_v288 (F := Ideal) Z O M G W1 W3 W2 = (Whole.exact m 0 c).arrAt 14 cfg0.N :=
  (funext fun i => Cert.Reference7Ideal.Rows.at288 Z O M G W1 W3 W2 hR hP i).trans (Whole.final14 c m Z O M G W1 W3 W2 h0 h1 h2 h3 h4 h5 h6 (saved Z O M G W1 W3 W2 c m h0 h1 h2 h3 h4 h5 h6)).symm
include hR hP in
theorem same7 : val_main_v289 (F := Ideal) Z O M G W1 W3 W2 = (Whole.exact m 0 c).arrAt 15 cfg0.N :=
  (funext fun i => Cert.Reference7Ideal.Rows.at289 Z O M G W1 W3 W2 hR hP i).trans (Whole.final15 c m Z O M G W1 W3 W2 h0 h1 h2 h3 h4 h5 h6).symm

end same

set_option maxHeartbeats 4000000 in
/-- From equal arguments with real entries both programs end with equal results. -/
theorem algebraic : Cert.algebraic_Kernel7Ideal_Reference7Ideal_pre_finite7 := by
  intro m g m' g' hpre hagree
  refine ⟨_, _, _, _, _, _, _, _, results m g, (θ_run _ _ _).mono (fun r h c => ?_) (Cert.Reference7Ideal.Value.run m' g')⟩
  obtain ⟨e0, e1, e2, e3, e4, e5, e6⟩ := hagree c
  obtain ⟨r0, r1, r2, r3, r4, r5, r6, r7, a⟩ := h c
  obtain ⟨hR, hP⟩ := reals _ _ _ _ _ _ _ ((congr (congr (congr (congr (congr (congr (congrArg (Cert.Pre_finite7.fn (F := Ideal)) e0) e1) e2) e3) e4) e5) e6).trans (hpre c))
  refine ⟨r0.trans ?_, r1.trans ?_, r2.trans ?_, r3.trans ?_, r4.trans ?_, r5.trans ?_, r6.trans ?_, r7.trans ?_, a⟩
  · exact (Cert.Reference7Ideal.Read.val_main_v282_eq (StableHlo.launchContents m' c)).trans (same0 _ _ _ _ _ _ _ c m e0.symm e1.symm e2.symm e3.symm e4.symm e5.symm e6.symm hR hP)
  · exact (Cert.Reference7Ideal.Read.val_main_v283_eq (StableHlo.launchContents m' c)).trans (same1 _ _ _ _ _ _ _ c m e0.symm e1.symm e2.symm e3.symm e4.symm e5.symm e6.symm)
  · exact (Cert.Reference7Ideal.Read.val_main_v284_eq (StableHlo.launchContents m' c)).trans (same2 _ _ _ _ _ _ _ c m e0.symm e1.symm e2.symm e3.symm e4.symm e5.symm e6.symm hR hP)
  · exact (Cert.Reference7Ideal.Read.val_main_v285_eq (StableHlo.launchContents m' c)).trans (same3 _ _ _ _ _ _ _ c m e0.symm e1.symm e2.symm e3.symm e4.symm e5.symm e6.symm)
  · exact (Cert.Reference7Ideal.Read.val_main_v286_eq (StableHlo.launchContents m' c)).trans (same4 _ _ _ _ _ _ _ c m e0.symm e1.symm e2.symm e3.symm e4.symm e5.symm e6.symm)
  · exact (Cert.Reference7Ideal.Read.val_main_v287_eq (StableHlo.launchContents m' c)).trans (same5 _ _ _ _ _ _ _ c m e0.symm e1.symm e2.symm e3.symm e4.symm e5.symm e6.symm)
  · exact (Cert.Reference7Ideal.Read.val_main_v288_eq (StableHlo.launchContents m' c)).trans (same6 _ _ _ _ _ _ _ c m e0.symm e1.symm e2.symm e3.symm e4.symm e5.symm e6.symm hR hP)
  · exact (Cert.Reference7Ideal.Read.val_main_v289_eq (StableHlo.launchContents m' c)).trans (same7 _ _ _ _ _ _ _ c m e0.symm e1.symm e2.symm e3.symm e4.symm e5.symm e6.symm hR hP)

end Cert.Kernel7Ideal.Value
end
-- ==== Proof.RetentionFinal13.lean ====
/- The arrays the retention kernel leaves when it runs against both scans, for the forward result. -/
module

public import proofs.«01_k».proof.Proof.Gen.Kernel13Ideal.Value
public import proofs.«01_k».proof.Proof.RetentionFinal

@[expose] public section

set_option maxRecDepth 16384

noncomputable section

namespace Cert.Kernel13Ideal.Value

open Cert.Kernel13Ideal Cert.Kernel13Ideal.Gen Idealize.ShloMosaic Idealize.ShloMosaic.TcCoe Idealize.SL.Sem
open Step.Retention
open Cert.KernelIdeal.Value (blk dec hd hof eof ret)

variable (m : (ℓ : Loc nD τ sig) → Buf (Elt Ideal) ℓ) (c : Dev nD)

theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val % 4, 0, 0] ∧ win0_4.index t = ![t.val % 4, 0, 0]
    ∧ win0_5.index t = ![t.val / 4, 0, t.val % 4] ∧ win0_6.index t = ![t.val / 4, 0, t.val % 4] :=
  (by decide +kernel : ∀ t : Fin grid0.N, _)

theorem lt8 (t : Fin cfg0.N) : t.val < 8 := lt_of_lt_of_eq t.isLt N_0

abbrev tb (t : Fin cfg0.N) : Fin 2 := ⟨t.val / 4, by have := lt8 t; omega⟩
abbrev th (t : Fin cfg0.N) : Fin 4 := ⟨t.val % 4, by omega⟩

/-- A block's column in the whole array. -/
abbrev col (t : Fin cfg0.N) (j : S1x2304x128.Idx) : Fin 512 := ⟨128 * (t.val % 4) + (j 2).val, by have : (j 2).val < 128 := (j 2).isLt; omega⟩

theorem blk0 (t : Fin cfg0.N) (x : S2x2304x512.Idx → ℝ) (hx : m ((c : Thread nD τ).loc main_arg0) = fun i => (x i : EReal)) :
    iblk m c 0 t = blk (hd x (tb t) (th t)) := by
  funext j
  refine Eq.trans (b := m ((c : Thread nD τ).loc main_arg0) (ix3 (tb t) (j 1) (col t j))) ?_ (by rw [hx]; rfl)
  blk_point [iblk, V, idx t]

theorem blk1 (t : Fin cfg0.N) (x : S2x2304x512.Idx → ℝ) (hx : m ((c : Thread nD τ).loc main_arg1) = fun i => (x i : EReal)) :
    iblk m c 1 t = blk (hd x (tb t) (th t)) := by
  funext j
  refine Eq.trans (b := m ((c : Thread nD τ).loc main_arg1) (ix3 (tb t) (j 1) (col t j))) ?_ (by rw [hx]; rfl)
  blk_point [iblk, V, idx t]

theorem blk2 (t : Fin cfg0.N) (x : S2x2304x512.Idx → ℝ) (hx : m ((c : Thread nD τ).loc main_arg2) = fun i => (x i : EReal)) :
    iblk m c 2 t = blk (hd x (tb t) (th t)) := by
  funext j
  refine Eq.trans (b := m ((c : Thread nD τ).loc main_arg2) (ix3 (tb t) (j 1) (col t j))) ?_ (by rw [hx]; rfl)
  blk_point [iblk, V, idx t]

theorem blk3 (t : Fin cfg0.N) (x : S4.Idx → ℝ) (hx : m ((c : Thread nD τ).loc main_arg3) = fun i => (x i : EReal)) :
    iblk m c 3 t = dec (x (ix1 (th t))) := by
  funext j
  refine Eq.trans (b := m ((c : Thread nD τ).loc main_arg3) (ix1 (th t))) ?_ (by rw [hx])
  unfold iblk
  entry_read
  blk_simp
  pointwise
  blk_point [idx t]

theorem blk4 (t : Fin cfg0.N) (x : S4.Idx → ℝ) (hx : m ((c : Thread nD τ).loc main_arg4) = fun i => (x i : EReal)) :
    iblk m c 4 t = dec (x (ix1 (th t))) := by
  funext j
  refine Eq.trans (b := m ((c : Thread nD τ).loc main_arg4) (ix1 (th t))) ?_ (by rw [hx])
  unfold iblk
  entry_read
  blk_simp
  pointwise
  blk_point [idx t]

/-- The body is the one of the gradient by the queries. -/
theorem out5 (δ δ' : ℝ) (x0 x1 x2 : Fin 2304 → Fin 128 → ℝ) : out0_5 (F := Ideal) (blk x0) (blk x1) (blk x2) (dec δ) (dec δ')
    = fun i => (whole false (lsg δ) (fw x0) (fw x1) (fw x2) 2304 (i 1).val (i 2) : EReal) :=
  Cert.KernelIdeal.Value.out5 δ δ' x0 x1 x2

theorem out6 (δ δ' : ℝ) (x0 x1 x2 : Fin 2304 → Fin 128 → ℝ) : out0_6 (F := Ideal) (blk x0) (blk x1) (blk x2) (dec δ') (dec δ)
    = fun i => (whole true (lsg δ) (bw x0) (bw x1) (bw x2) 2304 (bpos (i 1).val) (i 2) : EReal) :=
  Cert.KernelIdeal.Value.out6 δ δ' x0 x1 x2

variable (x0 x1 x2 : S2x2304x512.Idx → ℝ) (d d' : S4.Idx → ℝ)
  (h0 : m ((c : Thread nD τ).loc main_arg0) = fun i => (x0 i : EReal)) (h1 : m ((c : Thread nD τ).loc main_arg1) = fun i => (x1 i : EReal))
  (h2 : m ((c : Thread nD τ).loc main_arg2) = fun i => (x2 i : EReal)) (h3 : m ((c : Thread nD τ).loc main_arg3) = fun i => (d i : EReal))
  (h4 : m ((c : Thread nD τ).loc main_arg4) = fun i => (d' i : EReal))

include h0 h1 h2 h3 h4

theorem point5 (t : Fin cfg0.N) (y : S1x2304x128.Idx) (i : S2x2304x512.Idx) (e0 : (i 0).val = t.val / 4) (e1 : (i 1).val = (y 1).val)
    (e2 : (i 2).val = 128 * (t.val % 4) + (y 2).val) :
    out0_5 (iblk m c 0 t) (iblk m c 1 t) (iblk m c 2 t) (iblk m c 3 t) (iblk m c 4 t) y = (ret false fw id d x0 x1 x2 i : EReal) := by
  rw [blk0 m c t x0 h0, blk1 m c t x1 h1, blk2 m c t x2 h2, blk3 m c t d h3, blk4 m c t d' h4, out5]
  have hy : (y 2).val < 128 := (y 2).isLt
  refine congrArg Real.toEReal ?_
  unfold ret
  rw [show i 0 = tb t from Fin.ext e0, show hof (i 2) = th t from Fin.ext (by show (i 2).val / 128 = t.val % 4; omega),
    show eof (i 2) = y 2 from Fin.ext (by show (i 2).val % 128 = (y 2).val; omega), e1]
  rfl

theorem final5 : (dats m 0 c).arrAt 5 (cfgs 0).N = fun i => (ret false fw id d x0 x1 x2 i : EReal) := by
  refine (dats m 0 c).arrAt_eq_of_covers 5 _ (by decide +kernel) fun t _ y => ?_
  blk_simp
  rw [after0_5]
  refine point5 m c x0 x1 x2 d d' h0 h1 h2 h3 h4 t y _ ?_ ?_ ?_ <;> (blk_simp; rw [(idx t).2.2.2.2.2.1] <;> simp [mul_comm])

theorem point6 (t : Fin cfg0.N) (y : S1x2304x128.Idx) (i : S2x2304x512.Idx) (e0 : (i 0).val = t.val / 4) (e1 : (i 1).val = (y 1).val)
    (e2 : (i 2).val = 128 * (t.val % 4) + (y 2).val) :
    out0_6 (iblk m c 0 t) (iblk m c 1 t) (iblk m c 2 t) (iblk m c 3 t) (iblk m c 4 t) y = (ret true bw bpos d' x0 x1 x2 i : EReal) := by
  rw [blk0 m c t x0 h0, blk1 m c t x1 h1, blk2 m c t x2 h2, blk3 m c t d h3, blk4 m c t d' h4, out6]
  have hy : (y 2).val < 128 := (y 2).isLt
  refine congrArg Real.toEReal ?_
  unfold ret
  rw [show i 0 = tb t from Fin.ext e0, show hof (i 2) = th t from Fin.ext (by show (i 2).val / 128 = t.val % 4; omega),
    show eof (i 2) = y 2 from Fin.ext (by show (i 2).val % 128 = (y 2).val; omega), e1]

theorem final6 : (dats m 0 c).arrAt 6 (cfgs 0).N = fun i => (ret true bw bpos d' x0 x1 x2 i : EReal) := by
  refine (dats m 0 c).arrAt_eq_of_covers 6 _ (by decide +kernel) fun t _ y => ?_
  blk_simp
  rw [after0_6]
  refine point6 m c x0 x1 x2 d d' h0 h1 h2 h3 h4 t y _ ?_ ?_ ?_ <;> (blk_simp; rw [(idx t).2.2.2.2.2.2] <;> simp [mul_comm])

end Cert.Kernel13Ideal.Value
-- ==== Proof.FwdRef.lean ====
/- The reference's forward retention over the reals. -/
module

public import proofs.«01_k».proof.Proof.RetRefBack
public import proofs.«01_k».proof.Proof.Gen.Reference13Ideal.Read

@[expose] public section

set_option maxRecDepth 16384

noncomputable section

namespace Cert.Reference13Ideal.Chunks

open Cert.Reference13Ideal Cert.Reference13Ideal.Gen Idealize.ShloMosaic Idealize.ShloMosaic.TcCoe Idealize.SL.Sem Idealize.ShloMosaic.StableHlo
open Cert.Reference13Ideal.Read
open Step.Retention Step
open Cert.ReferenceIdeal.Chunks (Seqs ch2 ch16 stA2 stA16 wqA wdA bw2 bw16 up sq lg lsg0 decay28 wq71 k9 k83 stack63 stack221 decay305 k286 k363 stack340 stack501)

/-- A row of the result is what its chunk sees of itself and of the state the chunk began with. -/
theorem row_real (strict : Bool) (L : ℝ) (a b c : ℕ → Fin 128 → ℝ) (n : ℕ) (h : n + 128 ≤ 2304) (i e : Fin 128) :
    ∑ j : Fin 128, c (n + j.val) e * ((∑ d, a (n + i.val) d * b (n + j.val) d) * wt strict L ((i.val : ℝ) - (j.val : ℝ)))
      + ∑ d, state L b c n d e * (a (n + i.val) d * Real.exp (((i.val : ℝ) + 1) * L))
      = whole strict L a b c 2304 (n + i.val) e := by
  refine Eq.trans (congrArg₂ _ (Finset.sum_congr rfl fun j _ => ?_) (Finset.sum_congr rfl fun d _ => ?_)) (chunk_out (C := 128) (Equiv.refl _) strict L a b c n h i e)
  · simp only [Equiv.refl_apply]; ring
  · simp only [Equiv.refl_apply]; ring

/-- The rows of all chunks' results: what a chunk sees of itself, and of the states. -/
def fo2 (Q K V : FVec Ideal S2x2x128x4x128 .f32) (S : FVec Ideal S2x2x4x128x128 .f32) (WQ : FVec Ideal S128x4 .f32) (W : FVec Ideal S4x128x128 .f32) :
    FVec Ideal S2x2x128x4x128 .f32 :=
  addf
    (transpose S2x2x128x4x128 [0, 1, 4, 2, 3] (Host.dotGeneral dot_S2x2x128x4x128_S2x2x4x128x128_S2x2x4x128x128_2_4_4_3_013_012 none V
      (mulf (Host.dotGeneral dot_S2x2x128x4x128_S2x2x128x4x128_S2x2x4x128x128_4_4_2_2_013_013 none Q K)
        (broadcastInDim S2x2x4x128x128 ![0, 1, 2, 3, 4] bcast_S1x1x4x128x128_S2x2x4x128x128_0_1_2_3_4
          (broadcastInDim S1x1x4x128x128 ![2, 3, 4] bcast_S4x128x128_S1x1x4x128x128_2_3_4 W)))) transposes_S2x2x4x128x128_S2x2x128x4x128_0_1_4_2_3)
    (transpose S2x2x128x4x128 [0, 1, 4, 2, 3] (Host.dotGeneral dot_S2x2x4x128x128_S2x2x128x4x128_S2x2x4x128x128_3_4_4_2_012_013 none S
      (mulf Q (bw2 WQ))) transposes_S2x2x4x128x128_S2x2x128x4x128_0_1_4_2_3)

theorem fo2_read (strict : Bool) (L : Fin 4 → ℝ) (a b c : Seqs) (n : ℕ) (h : n + 128 * 2 ≤ 2304) :
    fo2 (ch2 a n) (ch2 b n) (ch2 c n) (stA2 L b c n) (wqA L) (wdA strict L)
      = fun i => (whole strict (L (i 3)) (a (i 0) (i 3)) (b (i 0) (i 3)) (c (i 0) (i 3)) 2304 (n + 128 * (i 1).val + (i 2).val) (i 4) : EReal) := by
  funext i
  pointwise [fo2, bw2]
  simp only [← EReal.coe_mul, ← Step.coe_sum, ← EReal.coe_add]
  have hi := (i 1).isLt
  exact congrArg Real.toEReal (row_real strict (L (i 3)) (a (i 0) (i 3)) (b (i 0) (i 3)) (c (i 0) (i 3)) (n + 128 * (i 1).val) (by change (i 1).val < 2 at hi; omega) (i 2) (i 4))

/-- The same of sixteen chunks. -/
def fo16 (Q K V : FVec Ideal S2x16x128x4x128 .f32) (S : FVec Ideal S2x16x4x128x128 .f32) (WQ : FVec Ideal S128x4 .f32) (W : FVec Ideal S4x128x128 .f32) :
    FVec Ideal S2x16x128x4x128 .f32 :=
  addf
    (transpose S2x16x128x4x128 [0, 1, 4, 2, 3] (Host.dotGeneral dot_S2x16x128x4x128_S2x16x4x128x128_S2x16x4x128x128_2_4_4_3_013_012 none V
      (mulf (Host.dotGeneral dot_S2x16x128x4x128_S2x16x128x4x128_S2x16x4x128x128_4_4_2_2_013_013 none Q K)
        (broadcastInDim S2x16x4x128x128 ![0, 1, 2, 3, 4] bcast_S1x1x4x128x128_S2x16x4x128x128_0_1_2_3_4
          (broadcastInDim S1x1x4x128x128 ![2, 3, 4] bcast_S4x128x128_S1x1x4x128x128_2_3_4 W)))) transposes_S2x16x4x128x128_S2x16x128x4x128_0_1_4_2_3)
    (transpose S2x16x128x4x128 [0, 1, 4, 2, 3] (Host.dotGeneral dot_S2x16x4x128x128_S2x16x128x4x128_S2x16x4x128x128_3_4_4_2_012_013 none S
      (mulf Q (bw16 WQ))) transposes_S2x16x4x128x128_S2x16x128x4x128_0_1_4_2_3)

theorem fo16_read (strict : Bool) (L : Fin 4 → ℝ) (a b c : Seqs) (n : ℕ) (h : n + 128 * 16 ≤ 2304) :
    fo16 (ch16 a n) (ch16 b n) (ch16 c n) (stA16 L b c n) (wqA L) (wdA strict L)
      = fun i => (whole strict (L (i 3)) (a (i 0) (i 3)) (b (i 0) (i 3)) (c (i 0) (i 3)) 2304 (n + 128 * (i 1).val + (i 2).val) (i 4) : EReal) := by
  funext i
  pointwise [fo16, bw16]
  simp only [← EReal.coe_mul, ← Step.coe_sum, ← EReal.coe_add]
  have hi := (i 1).isLt
  exact congrArg Real.toEReal (row_real strict (L (i 3)) (a (i 0) (i 3)) (b (i 0) (i 3)) (c (i 0) (i 3)) (n + 128 * (i 1).val) (by change (i 1).val < 16 at hi; omega) (i 2) (i 4))

variable (q k v : S2x2304x512.Idx → ℝ) (δ : S4.Idx → ℝ)

theorem ctx77 : val_main_v77 (F := Ideal) (up q) (up k) (up v) (up δ) = fun i =>
    (whole false (lg δ (i 3)) (sq fw q (i 0) (i 3)) (sq fw k (i 0) (i 3)) (sq fw v (i 0) (i 3)) 2304 (0 + 128 * (i 1).val + (i 2).val) (i 4) : EReal) := by
  rw [← fo2_read _ _ _ _ _ _ (by norm_num), ← decay28, ← wq71, ← stack63, ← k9 k, ← k9 v, ← k9 q]
  rfl

theorem lat235 : val_main_v235 (F := Ideal) (up q) (up k) (up v) (up δ) = fun i =>
    (whole false (lg δ (i 3)) (sq fw q (i 0) (i 3)) (sq fw k (i 0) (i 3)) (sq fw v (i 0) (i 3)) 2304 (256 + 128 * (i 1).val + (i 2).val) (i 4) : EReal) := by
  rw [← fo16_read _ _ _ _ _ _ (by norm_num), ← decay28, ← wq71, ← stack221, ← k83 k, ← k83 v, ← k83 q]
  rfl

theorem ctx319 : val_main_v319 (F := Ideal) (up q) (up k) (up v) (up δ) = fun i =>
    (whole true (lg δ (i 3)) (sq bw q (i 0) (i 3)) (sq bw k (i 0) (i 3)) (sq bw v (i 0) (i 3)) 2304 (0 + 128 * (i 1).val + (i 2).val) (i 4) : EReal) := by
  rw [← fo2_read _ _ _ _ _ _ (by norm_num), ← decay305, ← wq71, ← stack340, ← k286 k, ← k286 v, ← k286 q]
  rfl

theorem lat480 : val_main_v480 (F := Ideal) (up q) (up k) (up v) (up δ) = fun i =>
    (whole true (lg δ (i 3)) (sq bw q (i 0) (i 3)) (sq bw k (i 0) (i 3)) (sq bw v (i 0) (i 3)) 2304 (256 + 128 * (i 1).val + (i 2).val) (i 4) : EReal) := by
  rw [← fo16_read _ _ _ _ _ _ (by norm_num), ← decay305, ← wq71, ← stack501, ← k363 k, ← k363 v, ← k363 q]
  rfl

/-- The two parts of a scan, one after the other. -/
theorem join (f : ℕ → ℝ) (s : ℕ) :
    (if _ : s < 256 then (f (128 * (s / 128) + s % 128) : EReal) else (f (256 + 128 * ((s - 256) / 128) + (s - 256) % 128) : EReal)) = f s := by
  split_ifs with h
  · rw [show 128 * (s / 128) + s % 128 = s by omega]
  · rw [show 256 + 128 * ((s - 256) / 128) + (s - 256) % 128 = s by omega]

/-- The two parts of the backward scan, each turned round, one after the other. -/
theorem join_back (f : ℕ → ℝ) (s : ℕ) (hs : s < 2304) :
    (if _ : s < 256 then (f (128 * ((256 - (s + 1)) / 128) + (256 - (s + 1)) % 128) : EReal)
      else (f (256 + 128 * ((2048 - (s - 256 + 1)) / 128) + (2048 - (s - 256 + 1)) % 128) : EReal)) = f (bpos s) := by
  split_ifs with h
  · rw [show 128 * ((256 - (s + 1)) / 128) + (256 - (s + 1)) % 128 = bpos s by rw [bpos, if_pos h]; omega]
  · rw [show 256 + 128 * ((2048 - (s - 256 + 1)) / 128) + (2048 - (s - 256 + 1)) % 128 = bpos s by rw [bpos, if_neg h]; omega]

open Cert.KernelIdeal.Value (hof eof ret)

theorem fwd238 : val_main_v238 (F := Ideal) (up q) (up k) (up v) (up δ) = fun i => (ret false fw id δ q k v i : EReal) := by
  funext i
  pointwise [val_main_v238, val_main_v237, val_main_v78, val_main_v236, ctx77, lat235]
  exact join (fun t => whole false (lg δ (hof (i 2))) (sq fw q (i 0) (hof (i 2))) (sq fw k (i 0) (hof (i 2))) (sq fw v (i 0) (hof (i 2))) 2304 t (eof (i 2))) (i 1).val

theorem bwd485 : val_main_v485 (F := Ideal) (up q) (up k) (up v) (up δ) = fun i => (ret true bw bpos δ q k v i : EReal) := by
  funext i
  pointwise [val_main_v485, val_main_v484, val_main_v482, val_main_v320, val_main_v483, val_main_v481, ctx319, lat480]
  exact join_back (fun t => whole true (lg δ (hof (i 2))) (sq bw q (i 0) (hof (i 2))) (sq bw k (i 0) (hof (i 2))) (sq bw v (i 0) (hof (i 2))) 2304 t (eof (i 2)))
    (i 1).val (i 1).isLt

end Cert.Reference13Ideal.Chunks
-- ==== Proof.FwdClaim.lean ====
/- The retention's result of both scans: kernel and reference agree. -/
module

public import proofs.«01_k».proof.Defs
public import proofs.«01_k».proof.Proof.RetentionFinal13
public import proofs.«01_k».proof.Proof.FwdRef
public import proofs.«01_k».proof.Proof.Gen.Pre_finite13
public import Idealize.ShloMosaic.Lib.Claim

@[expose] public section

set_option maxRecDepth 16384

noncomputable section

namespace Cert.Kernel13Ideal.Value

open Cert.Kernel13Ideal Cert.Kernel13Ideal.Gen Idealize.ShloMosaic Idealize.ShloMosaic.TcCoe Idealize.SL.Sem

/-- What the precondition says: all arguments hold reals. -/
theorem reals (A0 A1 A2 : FVec Ideal S2x2304x512 .f32) (A3 A4 : FVec Ideal S4 .f32)
    (h : Cert.Pre_finite13.fn (F := Ideal) A0 A1 A2 A3 A4 = fun _ => 1#1) :
    (∃ q : S2x2304x512.Idx → ℝ, A0 = fun i => (q i : EReal)) ∧ (∃ k : S2x2304x512.Idx → ℝ, A1 = fun i => (k i : EReal))
      ∧ (∃ v : S2x2304x512.Idx → ℝ, A2 = fun i => (v i : EReal)) ∧ (∃ d : S4.Idx → ℝ, A3 = fun i => (d i : EReal))
      ∧ ∃ d : S4.Idx → ℝ, A4 = fun i => (d i : EReal) := by
  have e := congrFun h fun a => a.elim0
  simp only [Cert.Pre_finite13.fn] at e
  obtain ⟨e1, e2⟩ := IntOp.andi_eq_one.1 e
  obtain ⟨h1, h2⟩ := IntOp.andi_eq_one.1 e1
  obtain ⟨h3, e3⟩ := IntOp.andi_eq_one.1 e2
  obtain ⟨h4, h5⟩ := IntOp.andi_eq_one.1 e3
  exact ⟨Step.reals_of_all _ _ _ _ _ _ h1, Step.reals_of_all _ _ _ _ _ _ h2, Step.reals_of_all _ _ _ _ _ _ h3,
    Step.reals_of_all _ _ _ _ _ _ h4, Step.reals_of_all _ _ _ _ _ _ h5⟩

/-- From equal arguments with real entries both programs end with equal results. -/
theorem algebraic : Cert.algebraic_Kernel13Ideal_Reference13Ideal_pre_finite13 := by
  intro m g m' g' hpre hagree
  refine ⟨_, _, run_blocks m g, (θ_run _ _ _).mono (fun r h c => ?_) (Cert.Reference13Ideal.Value.run m' g')⟩
  obtain ⟨e0, e1, e2, e3, e4⟩ := hagree c
  obtain ⟨r5, r6, a0, a1, a2, a3, a4⟩ := h c
  obtain ⟨⟨q, hq⟩, ⟨k, hk⟩, ⟨v, hv⟩, ⟨d, hd⟩, ⟨d', hd'⟩⟩ := reals _ _ _ _ _ (hpre c)
  refine ⟨r5.trans ?_, r6.trans ?_, a0, a1, a2, a3, a4⟩
  · refine (Cert.Reference13Ideal.Read.val_main_v238_eq (StableHlo.launchContents m' c)).trans ?_
    refine Eq.trans ?_ ((Cert.Reference13Ideal.Chunks.fwd238 q k v d).trans (final5 m c q k v d d' hq hk hv hd hd').symm)
    exact congr (congr (congr (congrArg Cert.Reference13Ideal.Read.val_main_v238 (e0.trans hq)) (e1.trans hk)) (e2.trans hv)) (e3.trans hd)
  · refine (Cert.Reference13Ideal.Read.val_main_v485_eq (StableHlo.launchContents m' c)).trans ?_
    refine Eq.trans ?_ ((Cert.Reference13Ideal.Chunks.bwd485 q k v d').trans (final6 m c q k v d d' hq hk hv hd hd').symm)
    exact congr (congr (congr (congrArg Cert.Reference13Ideal.Read.val_main_v485 (e0.trans hq)) (e1.trans hk)) (e2.trans hv)) (e4.trans hd')

end Cert.Kernel13Ideal.Value
-- ==== Proof.FfnFwdRef.lean ====
/- The reference's feed-forward half step, read row by row: the branch before its gate, and the tokens with the gated branch added. -/
module

public import proofs.«01_k».proof.Proof.FfnRef
public import proofs.«01_k».proof.Proof.Gen.Reference14Ideal.Read

@[expose] public section

set_option maxRecDepth 65536

noncomputable section

/-- A row of the half step's result. -/
def Step.Ffn.zo (R : Row) (P : Par) (k : Fin 1024) : EReal := R.z k + (Step.Head.cH * R.gt k) * f R P k

namespace Cert.Reference14Ideal.Rows

open Cert.Reference14Ideal Cert.Reference14Ideal.Gen Cert.Reference14Ideal.Read Idealize.ShloMosaic Step.Ffn Cert.Reference7Ideal.Rows

variable (Z : FVec Ideal S2x2304x1024 .f32) (M : FVec Ideal S2x2x3x1024 .f32) (G : FVec Ideal S1024 .f32)
  (W1 W3 : FVec Ideal S1024x2816 .f32) (W2 : FVec Ideal S2816x1024 .f32)

local notation "PG" => parG G W1 W3 W2
local notation "RG" => rowG Z Z M
local notation "RA" => ra Z Z M
local notation "RB" => rb Z Z M

/-- The branch is the one the gradient's reference computes. -/
theorem branch : val_main_v57 (F := Ideal) Z M G W1 W3 W2 = Cert.Reference7Ideal.Read.val_main_v63 (F := Ideal) Z M G W1 W3 W2 := rfl

theorem atF (i : S2x2304x1024.Idx) : val_main_v57 (F := Ideal) Z M G W1 W3 W2 i = f (RG (i 0) (i 1)) PG (i 2) :=
  (congrFun (branch Z M G W1 W3 W2) i).trans (at63 Z Z M G W1 W3 W2 i)

/-- The branch at a position of one of the two parts. -/
theorem atPart (q : S2x2304x1024.Idx) (b : Fin 2) (s : Fin 2304) (k : Fin 1024) (hq : q = ix3 b s k) :
    val_main_v57 (F := Ideal) Z M G W1 W3 W2 q = f (RG b s) PG k := by
  subst hq
  exact atF Z M G W1 W3 W2 (ix3 b s k)
theorem aF (i : S2x256x1024.Idx) : val_main_v64 (F := Ideal) Z M G W1 W3 W2 i = f (RA (i 0) (i 1)) PG (i 2) := by
  rw [val_main_v64_apply]
  exact atPart Z M G W1 W3 W2 _ _ _ _ (by funext a; fin_cases a <;> rfl)
theorem bF (i : S2x2048x1024.Idx) : val_main_v74 (F := Ideal) Z M G W1 W3 W2 i = f (RB (i 0) (i 1)) PG (i 2) := by
  rw [val_main_v74_apply]
  exact atPart Z M G W1 W3 W2 _ _ _ _ (by funext a; fin_cases a <;> rfl)

theorem a67 (i : S2x256x1024.Idx) : val_main_v67 (F := Ideal) Z M G W1 W3 W2 i = zo (RA (i 0) (i 1)) PG (i 2) :=
  congrArg₂ (fun a b : EReal => a + b) (a0 Z Z M i)
    (congrArg₂ (fun a b : EReal => a * b) (aT Z Z M i) (aF Z M G W1 W3 W2 i))
theorem b77 (i : S2x2048x1024.Idx) : val_main_v77 (F := Ideal) Z M G W1 W3 W2 i = zo (RB (i 0) (i 1)) PG (i 2) :=
  congrArg₂ (fun a b : EReal => a + b) (b0 Z Z M i)
    (congrArg₂ (fun a b : EReal => a * b) (bT Z Z M i) (bF Z M G W1 W3 W2 i))

theorem atZ (i : S2x2304x1024.Idx) : val_main_v78 (F := Ideal) Z M G W1 W3 W2 i = zo (RG (i 0) (i 1)) PG (i 2) := by
  refine Eq.trans ?_ (joined i (fun b s k => zo (RG b s) PG k) (val_main_v67 (F := Ideal) Z M G W1 W3 W2) (val_main_v77 (F := Ideal) Z M G W1 W3 W2) (a67 Z M G W1 W3 W2) (b77 Z M G W1 W3 W2))
  unfold val_main_v78
  generalize val_main_v67 (F := Ideal) Z M G W1 W3 W2 = A
  generalize val_main_v77 (F := Ideal) Z M G W1 W3 W2 = B
  pointwise

end Cert.Reference14Ideal.Rows
end
-- ==== Proof.FfnFwd.lean ====
/- The feed-forward half step as its kernel computes it, block by block, and its two results put together. -/
module

public import proofs.«01_k».proof.Proof.FfnFinal
public import proofs.«01_k».proof.Proof.FfnFwdRef
public import proofs.«01_k».proof.Proof.Gen.Kernel14Ideal.Value

@[expose] public section

set_option maxRecDepth 65536

noncomputable section

namespace Cert.Kernel14Ideal.Value

open Cert.Kernel14Ideal Cert.Kernel14Ideal.Gen Idealize.ShloMosaic Idealize.ShloMosaic.TcCoe Idealize.SL.Sem Step.Ffn
open Cert.Kernel7Ideal.Whole (brow bpar lo hi row0 row1 row2 tok tok_at lo_at hi_at row2_at mul_rows mul_cols part_pos brow_eq bpar_eq hz2 hz3)

section block
variable (x0 : Vec Ideal S1x256x1024 .f32) (x1 : Vec Ideal S1x1x3x1024 .f32) (x2 : Vec Ideal S1x1024 .f32) (x3 x4 x5 : Vec Ideal S1x2816x1024 .bf16)

local notation "RR" => brow x0 x0 x1
local notation "PP" => bpar x2 x3 x4 x5

/-- A projection's half, by rows of half a weight. -/
def proj (x : FVec Ideal S256x1024 .bf16) (w : Vec Ideal S1x1408x1024 .bf16) : FVec Ideal S256x1408 .f32 :=
  matmul (φ₂ := .bf16) dot_S256x1024_S1408x1024_S256x1408_1_1_0_0_n_n none x (shapeCast S1408x1024 w shapeCasts_S1x1408x1024_S1408x1024) (constant S256x1408 .f32 0x00000000#32)

theorem u1_at (w : Vec Ideal S1x1408x1024 .bf16) (J : Fin 1408 → Fin 2816) (hw : ∀ j k, w (ix3 0 j k) = x3 (ix3 0 (J j) k)) (y : S256x1408.Idx) :
    proj (tok (F := Ideal) x0 x1 x2) w y = u1 (RR (y 0)) PP (J (y 1)) :=
  (mul_rows _ _ y).trans (Finset.sum_congr rfl fun k _ => congrArg₂ (fun a b : EReal => a * b) (tok_at x0 x0 x1 x2 x3 x4 x5 _) (hw _ _))
theorem u3_at (w : Vec Ideal S1x1408x1024 .bf16) (J : Fin 1408 → Fin 2816) (hw : ∀ j k, w (ix3 0 j k) = x4 (ix3 0 (J j) k)) (y : S256x1408.Idx) :
    proj (tok (F := Ideal) x0 x1 x2) w y = u3 (RR (y 0)) PP (J (y 1)) :=
  (mul_rows _ _ y).trans (Finset.sum_congr rfl fun k _ => congrArg₂ (fun a b : EReal => a * b) (tok_at x0 x0 x1 x2 x3 x4 x5 _) (hw _ _))

/-- The branch's block: the product of each half of the hidden layer, added in turn. -/
def bra : FVec Ideal S256x1024 .f32 :=
  k0_pay7 (k0_pay3 x0 x2 (row0 x1) (row1 x1)) k0_pay4 (k0_pay5 x0 x2 (row0 x1) (row1 x1) (lo x3)) (k0_pay6 (lo x4)) (lo x5) (hi x3) (hi x4) (hi x5)

theorem bra_at (y : S256x1024.Idx) : bra x0 x1 x2 x3 x4 x5 y = f (RR (y 0)) PP (y 1) := by
  refine Eq.trans ?_ (halves fun j => a (RR (y 0)) PP j * (PP).w2 j (y 1)).symm
  unfold bra k0_pay7
  refine congrArg₂ (fun a b : EReal => a + b) ?_ ((mul_cols _ _ y).trans (Finset.sum_congr rfl fun j _ => congrArg₂ (fun a b : EReal => a * b) ?_ (hi_at _ _ _)))
  · refine Eq.trans (congrArg₂ (fun a b : EReal => a + b) (?_ : _ = Ideal.ofBits .f32 0#32) ((mul_cols _ _ y).trans (Finset.sum_congr rfl fun j _ => congrArg₂ (fun a b : EReal => a * b) ?_ (lo_at _ _ _)))) (by simp [Ideal.ofBits, Ideal.ieee]; rfl)
    · pointwise [k0_pay4]
    · exact congrArg₂ (fun u v : EReal => (u * Ideal.logistic u) * v) (u1_at x0 x1 x2 x3 x4 x5 (lo x3) jlo (lo_at x3) (ix2 (y 0) j)) (u3_at x0 x1 x2 x3 x4 x5 (lo x4) jlo (lo_at x4) (ix2 (y 0) j))
  · exact congrArg₂ (fun u v : EReal => (u * Ideal.logistic u) * v) (u1_at x0 x1 x2 x3 x4 x5 (hi x3) jhi (hi_at x3) (ix2 (y 0) j)) (u3_at x0 x1 x2 x3 x4 x5 (hi x4) jhi (hi_at x4) (ix2 (y 0) j))

theorem out7 : out0_7 (F := Ideal) x0 x1 x2 x3 x4 x5 = shapeCast S1x256x1024 (bra x0 x1 x2 x3 x4 x5) shapeCasts_S256x1024_S1x256x1024 := by
  unfold out0_7 k0_pay10 k0_pay11 k0_pay12 k0_pay13 k0_pay8 bra
  rw [View.canon_unit_zero (S := S1x256x1024) hz3]
  rw [View.ld_unit_zero (S := S1x256x1024) hz3, View.ld_unit_zero (S := S1x1024) hz2]
theorem out7_at (y : S1x256x1024.Idx) : out0_7 (F := Ideal) x0 x1 x2 x3 x4 x5 y = f (RR (y 1)) PP (y 2) := by
  rw [out7]
  refine Eq.trans (b := bra x0 x1 x2 x3 x4 x5 (ix2 (y 1) (y 2))) ?_ (bra_at x0 x1 x2 x3 x4 x5 _)
  generalize bra x0 x1 x2 x3 x4 x5 = d
  pointwise

/-- The tokens with the gated branch added. -/
def gated (d : FVec Ideal S256x1024 .f32) (v : Vec Ideal S1x1x1x1024 .f32) : FVec Ideal S1x256x1024 .f32 :=
  shapeCast S1x256x1024 (addf (shapeCast S256x1024 x0 shapeCasts_S1x256x1024_S256x1024)
    (mulf (broadcastTo S256x1024 (mulf (broadcast S1x1024 (Scalar.ofBits (F := Ideal) .f32 0x3F000000#32)) (shapeCast S1x1024 v shapeCasts_S1x1x1x1024_S1x1024)) broadcasts_S1x1024_S256x1024) d))
    shapeCasts_S256x1024_S1x256x1024
theorem out6 : out0_6 (F := Ideal) x0 x1 x2 x3 x4 x5 = gated x0 (bra x0 x1 x2 x3 x4 x5) (row2 x1) := by
  unfold out0_6 k0_pay10 k0_pay11 k0_pay12 k0_pay13 k0_pay1 k0_pay9 k0_pay2 gated bra
  rw [View.canon_unit_zero (S := S1x256x1024) hz3]
  rw [View.ld_unit_zero (S := S1x256x1024) hz3, View.ld_unit_zero (S := S1x1024) hz2]
theorem out6_at (y : S1x256x1024.Idx) : out0_6 (F := Ideal) x0 x1 x2 x3 x4 x5 y = zo (RR (y 1)) PP (y 2) := by
  rw [out6]
  refine Eq.trans (b := (x0 (ix3 0 (y 1) (y 2)) + (Step.Head.cH * row2 x1 (ix4 0 0 0 (y 2))) * bra x0 x1 x2 x3 x4 x5 (ix2 (y 1) (y 2)) : EReal)) ?_ ?_
  · generalize bra x0 x1 x2 x3 x4 x5 = d
    generalize row2 x1 = v
    have hy : y = ix3 0 (y 1) (y 2) := by
      funext a
      fin_cases a
      · exact Subsingleton.elim (α := Fin 1) _ _
      · rfl
      · rfl
    exact Eq.trans (by pointwise [gated]) (congrArg (fun q => (x0 q + (Step.Head.cH * v (ix4 0 0 0 (y 2))) * d (ix2 (y 1) (y 2)) : EReal)) hy)
  · exact congrArg₂ (fun g d : EReal => x0 (ix3 0 (y 1) (y 2)) + (Step.Head.cH * g) * d) (row2_at x1 (y 2)) (bra_at x0 x1 x2 x3 x4 x5 (ix2 (y 1) (y 2)))

end block

variable (c : Dev nD) (m : (ℓ : Loc nD τ sig) → Buf (Elt Ideal) ℓ)

theorem idx : ∀ t : Fin cfg0.N, win0_0.index t = ![t.val / 9, t.val % 9, 0] ∧ win0_1.index t = ![t.val / 9, min (t.val % 9) 1, 0, 0]
    ∧ win0_2.index t = ![0, 0] ∧ win0_3.index t = ![0, 0, 0] ∧ win0_4.index t = ![1, 0, 0] ∧ win0_5.index t = ![2, 0, 0]
    ∧ win0_6.index t = ![t.val / 9, t.val % 9, 0] ∧ win0_7.index t = ![t.val / 9, t.val % 9, 0] :=
  (by decide +kernel : ∀ t : Fin grid0.N, _)

/-- The sequence of a point and the position of a row of its block. -/
def seq (t : Fin cfg0.N) : Fin 2 := ⟨t.val / 9, by have := lt_of_lt_of_eq t.isLt N_0; omega⟩
def pos (t : Fin cfg0.N) (r : Fin 256) : Fin 2304 := ⟨256 * (t.val % 9) + r.val, by omega⟩

variable (Z : FVec Ideal S2x2304x1024 .f32) (M : FVec Ideal S2x2x3x1024 .f32) (G : FVec Ideal S1024 .f32)
  (W1 W3 : FVec Ideal S1024x2816 .f32) (W2 : FVec Ideal S2816x1024 .f32)

local notation "PG" => parG G W1 W3 W2
local notation "RG" => rowG Z Z M

variable (h0 : m ((c : Thread nD τ).loc main_arg0) = Z) (h1 : m ((c : Thread nD τ).loc main_arg1) = M) (h2 : m ((c : Thread nD τ).loc main_arg2) = G)
  (h3 : m ((c : Thread nD τ).loc main_arg3) = W1) (h4 : m ((c : Thread nD τ).loc main_arg4) = W3) (h5 : m ((c : Thread nD τ).loc main_arg5) = W2)

include h2 in
theorem entryG (y : S1x1024.Idx) : (V m c main_v9 : FVec Ideal S1x1024 .f32) y = G (ix1 (y 1)) := by
  have e : (V m c main_v9 : FVec Ideal S1x1024 .f32) = shapeCast S1x1024 G shapeCasts_S1024_S1x1024 := by
    rw [← h2]
    entry_read
    rfl
  rw [e]
  pointwise
include h3 h4 h5 in
theorem entryW (y : S3x2816x1024.Idx) : (V m c main_v8 : FVec Ideal S3x2816x1024 .bf16) y = Cert.Kernel7Ideal.Host.stack W1 W3 W2 y := by
  have e : (V m c main_v8 : FVec Ideal S3x2816x1024 .bf16) = Cert.Kernel7Ideal.Host.stackV W1 W3 W2 := by
    rw [← h3, ← h4, ← h5]
    unfold V hostOps0
    simp only [StableHlo.after_cons, StableHlo.after_nil]
    after_results_steps
    rfl
  exact (congrFun e y).trans (Cert.Kernel7Ideal.Host.stackV_at W1 W3 W2 y)

include h0 in
theorem blkZ (t : Fin cfg0.N) (r : Fin 256) (k : Fin 1024) : (iblk m c 0 t : FVec Ideal S1x256x1024 .f32) (ix3 0 r k) = Z (ix3 (seq t) (pos t r) k) := by
  refine Eq.trans (b := m ((c : Thread nD τ).loc main_arg0) (ix3 (seq t) (pos t r) k)) ?_ (by rw [h0])
  blk_point [seq, pos, iblk, V, idx t]
include h1 in
theorem blkM (t : Fin cfg0.N) (r : Fin 256) (e : Fin 3) (k : Fin 1024) : (iblk m c 1 t : FVec Ideal S1x1x3x1024 .f32) (ix4 0 0 e k) = M (ix4 (seq t) (part (pos t r)) e k) := by
  refine Eq.trans (b := m ((c : Thread nD τ).loc main_arg1) (ix4 (seq t) ⟨min (t.val % 9) 1, by omega⟩ e k)) ?_ ?_
  · blk_point [seq, iblk, V, idx t]
  · rw [h1]
    exact congrArg (fun p => M (ix4 (seq t) p e k)) (part_pos t r)
include h2 in
theorem blkG (t : Fin cfg0.N) (k : Fin 1024) : (iblk m c 2 t : FVec Ideal S1x1024 .f32) (ix2 0 k) = G (ix1 k) := by
  refine Eq.trans (b := (V m c main_v9 : FVec Ideal S1x1024 .f32) (ix2 0 k)) ?_ (entryG c m G h2 _)
  blk_point [iblk, V, idx t]
include h3 h4 h5 in
theorem blkW (t : Fin cfg0.N) (j : Fin 2816) (k : Fin 1024) : (iblk m c 3 t : FVec Ideal S1x2816x1024 .bf16) (ix3 0 j k) = W1 (ix2 k j)
    ∧ (iblk m c 4 t : FVec Ideal S1x2816x1024 .bf16) (ix3 0 j k) = W3 (ix2 k j) ∧ (iblk m c 5 t : FVec Ideal S1x2816x1024 .bf16) (ix3 0 j k) = W2 (ix2 j k) := by
  refine ⟨Eq.trans (b := (V m c main_v8 : FVec Ideal S3x2816x1024 .bf16) (ix3 0 j k)) ?_ (entryW c m W1 W3 W2 h3 h4 h5 _),
    Eq.trans (b := (V m c main_v8 : FVec Ideal S3x2816x1024 .bf16) (ix3 1 j k)) ?_ (entryW c m W1 W3 W2 h3 h4 h5 _),
    Eq.trans (b := (V m c main_v8 : FVec Ideal S3x2816x1024 .bf16) (ix3 2 j k)) ?_ (entryW c m W1 W3 W2 h3 h4 h5 _)⟩ <;>
  blk_point [iblk, V, idx t]
include h0 h1 in
theorem rowAt (t : Fin cfg0.N) (r : Fin 256) : brow (iblk m c 0 t) (iblk m c 0 t) (iblk m c 1 t) r = RG (seq t) (pos t r) :=
  brow_eq _ _ _ r _ (blkZ c m Z h0 t r) (blkZ c m Z h0 t r) (blkM c m M h1 t r 0) (blkM c m M h1 t r 1) (blkM c m M h1 t r 2)
include h2 h3 h4 h5 in
theorem parAt (t : Fin cfg0.N) : bpar (iblk m c 2 t) (iblk m c 3 t) (iblk m c 4 t) (iblk m c 5 t) = PG :=
  bpar_eq _ _ _ _ _ (blkG c m G h2 t) (fun j k => (blkW c m W1 W3 W2 h3 h4 h5 t j k).1) (fun j k => (blkW c m W1 W3 W2 h3 h4 h5 t j k).2.1)
    (fun j k => (blkW c m W1 W3 W2 h3 h4 h5 t j k).2.2)

include h0 h1 h2 h3 h4 h5

theorem finalZ : (dats m 0 c).arrAt 6 cfg0.N = fun i : S2x2304x1024.Idx => (zo (RG (i 0) (i 1)) PG (i 2) : EReal) := by
  refine (dats m 0 c).arrAt_eq_of_covers 6 _ (by decide +kernel) fun t hf y => ?_
  blk_simp
  rw [after0_6]
  refine (out6_at _ _ _ _ _ _ y).trans ((congrArg₂ (fun R P => zo R P (y 2)) (rowAt c m Z M h0 h1 t (y 1)) (parAt c m G W1 W3 W2 h2 h3 h4 h5 t)).trans ?_)
  refine congrArg (fun i : S2x2304x1024.Idx => (zo (RG (i 0) (i 1)) PG (i 2) : EReal)) (a₁ := ix3 (seq t) (pos t (y 1)) (y 2)) ?_
  funext k
  fin_cases k <;> refine Fin.ext ?_ <;> blk_simp <;> simp [seq, pos, (idx t).2.2.2.2.2.2.1, mul_comm]
theorem finalF : (dats m 0 c).arrAt 7 cfg0.N = fun i : S2x2304x1024.Idx => (f (RG (i 0) (i 1)) PG (i 2) : EReal) := by
  refine (dats m 0 c).arrAt_eq_of_covers 7 _ (by decide +kernel) fun t hf y => ?_
  blk_simp
  rw [after0_7]
  refine (out7_at _ _ _ _ _ _ y).trans ((congrArg₂ (fun R P => f R P (y 2)) (rowAt c m Z M h0 h1 t (y 1)) (parAt c m G W1 W3 W2 h2 h3 h4 h5 t)).trans ?_)
  refine congrArg (fun i : S2x2304x1024.Idx => (f (RG (i 0) (i 1)) PG (i 2) : EReal)) (a₁ := ix3 (seq t) (pos t (y 1)) (y 2)) ?_
  funext k
  fin_cases k <;> refine Fin.ext ?_ <;> blk_simp <;> simp [seq, pos, (idx t).2.2.2.2.2.2.2, mul_comm]

end Cert.Kernel14Ideal.Value
end
-- ==== Proof.FfnFwdClaim.lean ====
/- The claim about the feed-forward half step: the kernel and the reference end with equal arrays. -/
module

public import proofs.«01_k».proof.Proof.FfnFwd
public import proofs.«01_k».proof.Defs
public import Idealize.ShloMosaic.Lib.Claim

@[expose] public section

set_option maxRecDepth 16384

noncomputable section

namespace Cert.Kernel14Ideal.Value

open Cert.Kernel14Ideal Cert.Kernel14Ideal.Gen Idealize.ShloMosaic Idealize.ShloMosaic.TcCoe Idealize.SL.Sem

/-- From equal arguments both programs end with equal results. -/
theorem algebraic : Cert.algebraic_Kernel14Ideal_Reference14Ideal := by
  intro m g m' g' _ hagree
  refine ⟨_, _, run_blocks m g, (θ_run _ _ _).mono (fun r h c => ?_) (Cert.Reference14Ideal.Value.run m' g')⟩
  obtain ⟨e0, e1, e2, e3, e4, e5⟩ := hagree c
  obtain ⟨r6, r7, a⟩ := h c
  refine ⟨r6.trans ?_, r7.trans ?_, a⟩
  · refine (Cert.Reference14Ideal.Read.val_main_v78_eq _ _).trans ?_
    exact (funext fun i => Cert.Reference14Ideal.Rows.atZ _ _ _ _ _ _ i).trans (finalZ c m _ _ _ _ _ _ e0.symm e1.symm e2.symm e3.symm e4.symm e5.symm).symm
  · refine (Cert.Reference14Ideal.Read.val_main_v57_eq _ _).trans ?_
    exact (funext fun i => Cert.Reference14Ideal.Rows.atF _ _ _ _ _ _ i).trans (finalF c m _ _ _ _ _ _ e0.symm e1.symm e2.symm e3.symm e4.symm e5.symm).symm

end Cert.Kernel14Ideal.Value
end
-- ==== Proof.ModFwd.lean ====
/- The forward modulation: silu of the conditions by each layer's matrix plus its bias, by the kernel in blocks of columns and by the reference. -/
module

public import proofs.«01_k».proof.Proof.ModRef
public import proofs.«01_k».proof.Proof.Gen.Kernel15Ideal.Value
public import proofs.«01_k».proof.Proof.Gen.Reference15Ideal.Read

@[expose] public section

set_option maxRecDepth 65536

noncomputable section

namespace Cert.Kernel15Ideal.Value

open Cert.Kernel15Ideal Cert.Kernel15Ideal.Gen Idealize.ShloMosaic Idealize.ShloMosaic.TcCoe Idealize.SL.Sem
open Cert.Kernel6Ideal.Value (rows hz2 hz3 rows_eq)

variable (c : Dev nD) (m : (ℓ : Loc nD τ sig) → Buf (Elt Ideal) ℓ)
  (C : FVec Ideal S16x1024 .f32) (Y : FVec Ideal S1024 .f32) (W : FVec Ideal S2x1024x2304 .f32) (B : FVec Ideal S2x2304 .f32)

/-- A modulation: of layer `l`, for row `r` of the conditions, at column `n`. -/
def modAt (l : Fin 2) (r : Fin 24) (n : Fin 2304) : Ideal .f32 :=
  (∑ k : Fin 1024, (rows C Y r k * Ideal.logistic (rows C Y r k)) * W (ix3 l k n)) + B (ix2 l n)

theorem out_apply (x0 : Vec Ideal S24x1024 .f32) (x1 : Vec Ideal S1x1024x768 .f32) (x2 : Vec Ideal S1x1x768 .f32) (y : S1x24x768.Idx) : out0_3 x0 x1 x2 y
    = (∑ k : Fin 1024, (x0 (ix2 (y 1) k) * Ideal.logistic (x0 (ix2 (y 1) k))) * x1 (ix3 0 k (y 2)) : EReal) + x2 (ix3 0 0 (y 2)) := by
  unfold out0_3
  rw [View.canon_unit_zero (S := S1x24x768) hz3]
  rw [View.ld_unit_zero (S := S24x1024) hz2, View.ld_unit_zero (S := S1x1024x768) hz3, View.ld_unit_zero (S := S1x1x768) hz3]
  pointwise [k0_pay1]

theorem idx : ∀ t : Fin cfg0.N, win0_0.index t = ![0, 0] ∧ win0_1.index t = ![t.val / 3, 0, t.val % 3]
    ∧ win0_2.index t = ![t.val / 3, 0, t.val % 3] ∧ win0_3.index t = ![t.val / 3, 0, t.val % 3] :=
  (by decide +kernel : ∀ t : Fin grid0.N, _)

abbrev tl (t : Fin cfg0.N) : Fin 2 := ⟨t.val / 3, by have : t.val < 6 := lt_of_lt_of_eq t.isLt N_0; omega⟩
abbrev tn (t : Fin cfg0.N) (k : Fin 768) : Fin 2304 := ⟨768 * (t.val % 3) + k.val, by omega⟩

variable (h0 : m ((c : Thread nD τ).loc main_arg0) = C) (h1 : m ((c : Thread nD τ).loc main_arg1) = Y)
  (h2 : m ((c : Thread nD τ).loc main_arg2) = W) (h3 : m ((c : Thread nD τ).loc main_arg3) = B)

include h0 h1 in
theorem blk0 (t : Fin cfg0.N) (r : Fin 24) (k : Fin 1024) : (iblk m c 0 t : FVec Ideal S24x1024 .f32) (ix2 r k) = rows C Y r k := by
  refine Eq.trans (b := (V m c main_v3 : FVec Ideal S24x1024 .f32) (ix2 r k)) ?_ ((congrFun ?_ _).trans (rows_eq C Y (ix2 r k)))
  · blk_point [iblk, V, idx t]
  · rw [← h0, ← h1]
    unfold V hostOps0
    simp only [StableHlo.after_cons, StableHlo.after_nil]
    after_results_steps
    rfl

include h2 in
theorem blk1 (t : Fin cfg0.N) (k : Fin 1024) (n : Fin 768) : (iblk m c 1 t : FVec Ideal S1x1024x768 .f32) (ix3 0 k n) = W (ix3 (tl t) k (tn t n)) := by
  refine Eq.trans (b := m ((c : Thread nD τ).loc main_arg2) (ix3 (tl t) k (tn t n))) ?_ (by rw [h2])
  blk_point [iblk, V, idx t]

include h3 in
theorem blk2 (t : Fin cfg0.N) (n : Fin 768) : (iblk m c 2 t : FVec Ideal S1x1x768 .f32) (ix3 0 0 n) = B (ix2 (tl t) (tn t n)) := by
  have e : (V m c main_v4 : FVec Ideal S2x1x2304 .f32) = shapeCast S2x1x2304 B shapeCasts_S2x2304_S2x1x2304 := by
    rw [← h3]
    entry_read
    rfl
  refine Eq.trans (b := (V m c main_v4 : FVec Ideal S2x1x2304 .f32) (ix3 (tl t) 0 (tn t n))) ?_ ?_
  · blk_point [iblk, V, idx t]
  · rw [e]
    pointwise

include h0 h1 h2 h3 in
theorem final : (dats m 0 c).arrAt 3 cfg0.N = fun i : S2x24x2304.Idx => modAt C Y W B (i 0) (i 1) (i 2) := by
  refine (dats m 0 c).arrAt_eq_of_covers 3 _ (by decide +kernel) fun t hf y => ?_
  blk_simp
  rw [after0_3]
  refine (out_apply _ _ _ y).trans (Eq.trans (b := modAt C Y W B (tl t) (y 1) (tn t (y 2))) ?_ ?_)
  · refine congrArg₂ (fun a b : EReal => a + b) (Finset.sum_congr rfl fun k _ => ?_) (blk2 c m B h3 t (y 2))
    exact congrArg₂ (fun a b : EReal => (a * Ideal.logistic a) * b) (blk0 c m C Y h0 h1 t (y 1) k) (blk1 c m W h2 t k (y 2))
  · refine congrArg (fun i : S2x24x2304.Idx => modAt C Y W B (i 0) (i 1) (i 2)) (a₁ := ix3 (tl t) (y 1) (tn t (y 2))) ?_
    funext k
    fin_cases k <;> refine Fin.ext ?_ <;> blk_simp <;> simp [(idx t).2.2.2, mul_comm]

end Cert.Kernel15Ideal.Value

namespace Cert.Reference15Ideal.Rows

open Cert.Reference15Ideal Cert.Reference15Ideal.Gen Cert.Reference15Ideal.Read Idealize.ShloMosaic Cert.Kernel15Ideal.Value
open Cert.Kernel6Ideal.Value (rows)

variable (C : FVec Ideal S16x1024 .f32) (Y : FVec Ideal S1024 .f32) (W : FVec Ideal S2x1024x2304 .f32) (B : FVec Ideal S2x2304 .f32)

abbrev up (r : Fin 18) : Fin 24 := ⟨r.val, by omega⟩

theorem silu (i : S18x1024.Idx) : val_main_v3 (F := Ideal) C Y i = rows C Y (up (i 0)) (i 1) * Ideal.logistic (rows C Y (up (i 0)) (i 1)) :=
  (Reference6Ideal.Rows.silu18 C Y i).trans (congrArg (fun a : EReal => a * Ideal.logistic a) (Reference6Ideal.Rows.rows18 C Y i))

theorem mat5 (i : S1024x2304.Idx) : val_main_v5 (F := Ideal) W i = W (ix3 0 (i 0) (i 1)) := by
  pointwise [val_main_v5, val_main_v4]
theorem mat13 (i : S1024x2304.Idx) : val_main_v13 (F := Ideal) W i = W (ix3 1 (i 0) (i 1)) := by
  pointwise [val_main_v13, val_main_v12]
theorem bias10 (i : S18x2304.Idx) : val_main_v10 (F := Ideal) B i = B (ix2 0 (i 1)) := by
  pointwise [val_main_v10, val_main_v9, val_main_v8, val_main_v7]
theorem bias18 (i : S18x2304.Idx) : val_main_v18 (F := Ideal) B i = B (ix2 1 (i 1)) := by
  pointwise [val_main_v18, val_main_v17, val_main_v16, val_main_v15]

theorem layer0 (i : S18x2304.Idx) : val_main_v11 (F := Ideal) C Y W B i = modAt C Y W B 0 (up (i 0)) (i 1) := by
  rw [val_main_v11_apply, val_main_v6_apply, bias10]
  refine congrArg (fun a : EReal => a + B (ix2 0 (i 1))) (Finset.sum_congr rfl fun k _ => ?_)
  rw [silu, mat5]
  rfl
theorem layer1 (i : S18x2304.Idx) : val_main_v19 (F := Ideal) C Y W B i = modAt C Y W B 1 (up (i 0)) (i 1) := by
  rw [val_main_v19_apply, val_main_v14_apply, bias18]
  refine congrArg (fun a : EReal => a + B (ix2 1 (i 1))) (Finset.sum_congr rfl fun k _ => ?_)
  rw [silu, mat13]
  rfl

theorem both (i : S2x18x2304.Idx) : val_main_v22 (F := Ideal) C Y W B i = modAt C Y W B (i 0) (up (i 1)) (i 2) := by
  have h : (i 0).val < 2 := (i 0).isLt
  unfold val_main_v22
  pointwise
  by_cases e : (i 0).val < 1
  · rw [dif_pos e, val_main_v20_apply, layer0]
    exact congrArg (fun l => modAt C Y W B l (up (i 1)) (i 2)) (Fin.ext (show 0 = (i 0).val by omega))
  · rw [dif_neg e, val_main_v21_apply, layer1]
    exact congrArg (fun l => modAt C Y W B l (up (i 1)) (i 2)) (Fin.ext (show 1 = (i 0).val by omega))

/-- Silu of a row of zeros is zero, and the bias is left. -/
theorem top : val_main_v25 (F := Ideal) C Y W B = fun i : S2x24x2304.Idx => modAt C Y W B (i 0) (i 1) (i 2) := by
  funext i
  unfold val_main_v25
  pointwise
  by_cases h : (i 1).val < 18
  · rw [dif_pos h, both]
    rfl
  · rw [dif_neg h, val_main_v24_apply, val_main_v23_apply]
    have h1 : ¬(i 1).val < 16 := by omega
    have hs : modAt C Y W B (i 0) (i 1) (i 2) = B (ix2 (i 0) (i 2)) := by
      unfold modAt rows
      simp [h1, h]
    refine Eq.trans (congrArg B ?_) hs.symm
    funext a
    fin_cases a <;> rfl

end Cert.Reference15Ideal.Rows
end
-- ==== Proof.ModFwdClaim.lean ====
/- The claim about the forward modulation: the kernel and the reference end with equal arrays. -/
module

public import proofs.«01_k».proof.Proof.ModFwd
public import proofs.«01_k».proof.Proof.Gen.Reference15Ideal.Run
public import proofs.«01_k».proof.Defs
public import Idealize.ShloMosaic.Lib.Claim

@[expose] public section

set_option maxRecDepth 16384

noncomputable section

namespace Cert.Kernel15Ideal.Value

open Cert.Kernel15Ideal Cert.Kernel15Ideal.Gen Idealize.ShloMosaic Idealize.ShloMosaic.TcCoe Idealize.SL.Sem

/-- From equal arguments both programs end with equal results. -/
theorem algebraic : Cert.algebraic_Kernel15Ideal_Reference15Ideal := by
  intro m g m' g' _ hagree
  refine ⟨_, run_blocks m g, (θ_run _ _ _).mono (fun r h c => ?_) (Cert.Reference15Ideal.Value.run m' g')⟩
  obtain ⟨e0, e1, e2, e3⟩ := hagree c
  obtain ⟨r4, a⟩ := h c
  refine ⟨r4.trans ?_, a⟩
  refine (Cert.Reference15Ideal.Read.val_main_v25_eq _ _).trans ?_
  exact (Cert.Reference15Ideal.Rows.top _ _ _ _).trans (final c m _ _ _ _ e0.symm e1.symm e2.symm e3.symm).symm

end Cert.Kernel15Ideal.Value
end
-- ==== Proof.FfnFrame.lean ====
/- The call `ffn_bwd` runs, leaves its arguments unchanged and ends with every semaphore at zero, for any arithmetic.

   Nothing is said of what the call leaves in its results: every window of the pipeline is handed to the body at some contents and taken back
   at some contents. The body therefore needs no invariant about the sums it accumulates, and the points fall apart only by
   which of the accumulators they start afresh. -/
module

public import proofs.«01_k».proof.Proof.Gen.Kernel7Ideal.Frame
public import proofs.«01_k».proof.Proof.Gen.Kernel7Ideal.Skeleton
public import proofs.«01_k».proof.Defs
public import proofs.«01_k».proof.Proof.Gen.Kernel7

@[expose] public section

set_option maxRecDepth 16384

noncomputable section

namespace Cert.Kernel7Ideal.Whole

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c` owns the whole buffer under `M`, at some contents. -/
abbrev held (c : Dev nD) {sp : Space} {S : Shape} {e : EltTy} (M : Memref sig .tc sp S e) : sProp 𝕄 :=
  iprop(∃ d, owns (c : Thread nD τ) M fullShare d)

theorem held_intro (c : Dev nD) {sp : Space} {S : Shape} {e : EltTy} (M : Memref sig .tc sp S e)
    (f : Buf (Elt F) (M.view.loc (c : Thread nD τ))) :
    (M.view.loc (c : Thread nD τ) ↦[M.view.set]{fullShare} f : sProp 𝕄) ⊢ held c M := by
  unfold held owns
  iintro H
  iexists _, _
  isplitr
  swap
  · iexact H
  ipureintro; rfl

/-- Which accumulators a point starts afresh: of the two stores of each, exactly one runs. -/
abbrev Cases (i : grid0.Coords) : Prop :=
  (k0_cond1 i = 1#1 ∧ ¬k0_cond2 i = 1#1 ∧ k0_cond3 i = 1#1 ∧ ¬k0_cond4 i = 1#1)
      ∨ (k0_cond1 i = 1#1 ∧ ¬k0_cond2 i = 1#1 ∧ ¬k0_cond3 i = 1#1 ∧ k0_cond4 i = 1#1)
      ∨ (¬k0_cond1 i = 1#1 ∧ k0_cond2 i = 1#1 ∧ ¬k0_cond3 i = 1#1 ∧ k0_cond4 i = 1#1)

theorem cases_at : ∀ t : Fin cfg0.N, Cases (grid0.coords t) := by decide +kernel

set_option maxHeartbeats 4000000 in
/-- The body at any point runs to its return, from buffers at any contents to buffers at some contents. -/
theorem body_runs (c : Dev nD) (i : grid0.Coords) (hi : Cases i) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x3x1024 .f32) (harg5 : arg5.IsWhole) (arg6 : Memref sig .tc .vmem S1x1024 .f32) (harg6 : arg6.IsWhole) (arg7 : Memref sig .tc .vmem S1x2816x1024 .bf16) (harg7 : arg7.IsWhole) (arg8 : Memref sig .tc .vmem S1x2816x1024 .bf16) (harg8 : arg8.IsWhole) (arg9 : Memref sig .tc .vmem S1x2816x1024 .bf16) (harg9 : arg9.IsWhole) (arg10 : Memref sig .tc .vmem S1x256x1024 .f32) (harg10 : arg10.IsWhole) (arg11 : Memref sig .tc .vmem S1x256x1024 .bf16) (harg11 : arg11.IsWhole) (arg12 : Memref sig .tc .vmem S1x256x2816 .bf16) (harg12 : arg12.IsWhole) (arg13 : Memref sig .tc .vmem S1x256x2816 .bf16) (harg13 : arg13.IsWhole) (arg14 : Memref sig .tc .vmem S1x256x2816 .bf16) (harg14 : arg14.IsWhole) (arg15 : Memref sig .tc .vmem S1x256x1024 .bf16) (harg15 : arg15.IsWhole) (arg16 : Memref sig .tc .vmem S1x1x3x1024 .f32) (harg16 : arg16.IsWhole) (arg17 : Memref sig .tc .vmem S1x1024 .f32) (harg17 : arg17.IsWhole) (K : PUnit → sProp 𝕄) :
    iprop(held c arg2 ∗ held c arg3 ∗ held c arg4 ∗ held c arg5 ∗ held c arg6 ∗ held c arg7
        ∗ held c arg8 ∗ held c arg9 ∗ held c arg10 ∗ held c arg11 ∗ held c arg12 ∗ held c arg13
        ∗ held c arg14 ∗ held c arg15 ∗ held c arg16 ∗ held c arg17
        ∗ (iprop(held c arg2 ∗ held c arg3 ∗ held c arg4 ∗ held c arg5 ∗ held c arg6 ∗ held c arg7
            ∗ held c arg8 ∗ held c arg9 ∗ held c arg10 ∗ held c arg11 ∗ held c arg12 ∗ held c arg13
            ∗ held c arg14 ∗ held c arg15 ∗ held c arg16 ∗ held c arg17) -∗ K ⟨⟩))
      ⊢ wp frame (wpE (defs₀ (F := F)) Variants.none c none) Set.univ (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_bwd_eq_skeleton]; unfold cc0_ffn_bwd_skel
  simp only [k0_part1_eq_skeleton, k0_part2_eq_skeleton, k0_part3_eq_skeleton, k0_part4_eq_skeleton, k0_part5_eq_skeleton]
  rcases hi with ⟨h1, h2, h3, h4⟩ | ⟨h1, h2, h3, h4⟩ | ⟨h1, h2, h3, h4⟩
  all_goals
    conv => lhs; unfold held owns
    iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    sl_exec (disch := first | sl_exact h1 | sl_exact h2 | sl_exact h3 | sl_exact h4)
    sl_step
    iapply Hk
    isplitl [H0]; · iapply (held_intro c _ _); iexact H0
    isplitl [H1]; · iapply (held_intro c _ _); iexact H1
    isplitl [H2]; · iapply (held_intro c _ _); iexact H2
    isplitl [H3]; · iapply (held_intro c _ _); iexact H3
    isplitl [H4]; · iapply (held_intro c _ _); iexact H4
    isplitl [H5]; · iapply (held_intro c _ _); iexact H5
    isplitl [H6]; · iapply (held_intro c _ _); iexact H6
    isplitl [H7]; · iapply (held_intro c _ _); iexact H7
    isplitl [H8]; · iapply (held_intro c _ _); iexact H8
    isplitl [H9]; · iapply (held_intro c _ _); iexact H9
    isplitl [H10]; · iapply (held_intro c _ _); iexact H10
    isplitl [H11]; · iapply (held_intro c _ _); iexact H11
    isplitl [H12]; · iapply (held_intro c _ _); iexact H12
    isplitl [H13]; · iapply (held_intro c _ _); iexact H13
    isplitl [H14]; · iapply (held_intro c _ _); iexact H14
    iapply (held_intro c _ _); iexact H15

/-- Every window is forgotten: nothing here reads what the body leaves in it. -/
def forgets : Fin 16 → Bool := fun _ => true

/-- The arrays as the region finds them, nothing named of what the body leaves, the class's invariant, each window's share of its array, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- What the body is called with at a point, and what it returns. -/
def buffers (c : Dev nD) (t : Fin cfg0.N) : sProp 𝕄 :=
  iprop(held c (win0_0.stage (cfg0.slots t 0)) ∗ held c (win0_1.stage (cfg0.slots t 1)) ∗ held c (win0_2.stage (cfg0.slots t 2))
    ∗ held c (win0_3.stage (cfg0.slots t 3)) ∗ held c (win0_4.stage (cfg0.slots t 4)) ∗ held c (win0_5.stage (cfg0.slots t 5))
    ∗ held c (win0_6.stage (cfg0.slots t 6)) ∗ held c (win0_7.stage (cfg0.slots t 7)) ∗ held c (win0_8.stage (cfg0.slots t 8))
    ∗ held c (win0_9.stage (cfg0.slots t 9)) ∗ held c (win0_10.stage (cfg0.slots t 10)) ∗ held c (win0_11.stage (cfg0.slots t 11))
    ∗ held c (win0_12.stage (cfg0.slots t 12)) ∗ held c (win0_13.stage (cfg0.slots t 13)) ∗ held c (win0_14.stage (cfg0.slots t 14))
    ∗ held c (win0_15.stage (cfg0.slots t 15)))

theorem sound_body (c : Dev nD) (t : Fin cfg0.N) :
    iprop((dats m 0 c).Φ t.castSucc ∗ (dats m 0 c).owesAt () t.castSucc ∗ buffers c t)
      ⊢ wp frame (wpE (defs₀ (F := F)) Variants.none c none) Set.univ (bodyAt0 t)
          (fun _ => iprop((dats m 0 c).Φ t.succ ∗ (dats m 0 c).owesAt () t.succ ∗ buffers c t)) := by
  unfold buffers bodyAt0
  rw [show (dats m 0 c).Φ t.succ = (dats m 0 c).Φ t.castSucc from rfl,
    show (dats m 0 c).owesAt () t.succ = (dats m 0 c).owesAt () t.castSucc from rfl]
  iintro ⟨HΦ, Ho, H0, H1, H2, H3, H4, H5, H6, H7, H8, H9, H10, H11, H12, H13, H14, H15⟩
  iapply (body_runs c (grid0.coords t) (cases_at t) _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option maxHeartbeats 4000000 in
set_option backward.isDefEq.respectTransparency.types false in
/-- Every run of @main ends, with the windows' input arrays and the unstaged buffers as the region found them. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := fun _ _ => rfl)
    (hΦ := fun _ _ => rfl)

/-- The frame, for any arithmetic: the arguments end as they were launched and every semaphore reads zero. -/
def Runs (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0)

set_option maxHeartbeats 2000000 in
theorem runs : Runs F := fun m ρ _ =>
  (θ_run defs _ _).mono (fun r h => ⟨fun c => ⟨(h.1.arr_in c 0 rfl).trans (V_main_arg0 m c),
      (h.1.arr_in c 1 rfl).trans (V_main_arg1 m c),
      (h.1.arr_in c 3 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

/-- The idealized program's frame, and the word program's: the two programs are one text. -/
theorem frame_ideal : @Cert.quiescent_Kernel7Ideal Cert.Kernel7Ideal.Gen.facts := runs

theorem same_text : @Cert.quiescent_Kernel7 Cert.Kernel7.Gen.facts = Runs Bits := by sl_kernel_rfl

theorem frame_words : @Cert.quiescent_Kernel7 Cert.Kernel7.Gen.facts := same_text.mpr runs

end Cert.Kernel7Ideal.Whole

end
-- ==== Proof.MixOutFrame.lean ====
/- The call `mix_out_bwd` runs, leaves its arguments unchanged and ends with every semaphore at zero, for any arithmetic.

   Nothing is said of what the call leaves in its results: every window of the pipeline is handed to the body at some contents and taken back
   at some contents. The body therefore needs no invariant about the sums it accumulates, and the points fall apart only by
   which of the accumulators they start afresh. -/
module

public import proofs.«01_k».proof.Proof.Gen.Kernel10Ideal.Frame
public import proofs.«01_k».proof.Proof.Gen.Kernel10Ideal.Skeleton
public import proofs.«01_k».proof.Defs
public import proofs.«01_k».proof.Proof.Gen.Kernel10

@[expose] public section

set_option maxRecDepth 16384

noncomputable section

namespace Cert.Kernel10Ideal.Whole

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c` owns the whole buffer under `M`, at some contents. -/
abbrev held (c : Dev nD) {sp : Space} {S : Shape} {e : EltTy} (M : Memref sig .tc sp S e) : sProp 𝕄 :=
  iprop(∃ d, owns (c : Thread nD τ) M fullShare d)

theorem held_intro (c : Dev nD) {sp : Space} {S : Shape} {e : EltTy} (M : Memref sig .tc sp S e)
    (f : Buf (Elt F) (M.view.loc (c : Thread nD τ))) :
    (M.view.loc (c : Thread nD τ) ↦[M.view.set]{fullShare} f : sProp 𝕄) ⊢ held c M := by
  unfold held owns
  iintro H
  iexists _, _
  isplitr
  swap
  · iexact H
  ipureintro; rfl

/-- Which accumulators a point starts afresh: of the two stores of each, exactly one runs. -/
abbrev Cases (i : grid0.Coords) : Prop :=
  (k0_cond1 i = 1#1 ∧ ¬k0_cond2 i = 1#1 ∧ k0_cond3 i = 1#1 ∧ ¬k0_cond4 i = 1#1 ∧ k0_cond5 i = 1#1 ∧ ¬k0_cond6 i = 1#1 ∧ k0_cond7 i = 1#1 ∧ ¬k0_cond8 i = 1#1)
      ∨ (k0_cond1 i = 1#1 ∧ ¬k0_cond2 i = 1#1 ∧ ¬k0_cond3 i = 1#1 ∧ k0_cond4 i = 1#1 ∧ ¬k0_cond5 i = 1#1 ∧ k0_cond6 i = 1#1 ∧ ¬k0_cond7 i = 1#1 ∧ k0_cond8 i = 1#1)
      ∨ (¬k0_cond1 i = 1#1 ∧ k0_cond2 i = 1#1 ∧ ¬k0_cond3 i = 1#1 ∧ k0_cond4 i = 1#1 ∧ ¬k0_cond5 i = 1#1 ∧ k0_cond6 i = 1#1 ∧ ¬k0_cond7 i = 1#1 ∧ k0_cond8 i = 1#1)

theorem cases_at : ∀ t : Fin cfg0.N, Cases (grid0.coords t) := by decide +kernel

set_option maxHeartbeats 4000000 in
/-- The body at any point runs to its return, from buffers at any contents to buffers at some contents. -/
theorem body_runs (c : Dev nD) (i : grid0.Coords) (hi : Cases i) (arg2 : Memref sig .tc .vmem S1x256x1024 .f32) (harg2 : arg2.IsWhole) (arg3 : Memref sig .tc .vmem S1x256x1024 .f32) (harg3 : arg3.IsWhole) (arg4 : Memref sig .tc .vmem S1x256x256 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S1x256x256 .f32) (harg8 : arg8.IsWhole) (arg9 : Memref sig .tc .vmem S1x512 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x1x3x1024 .f32) (harg12 : arg12.IsWhole) (arg13 : Memref sig .tc .vmem S1x1024x1024 .bf16) (harg13 : arg13.IsWhole) (arg14 : Memref sig .tc .vmem S1x256x256 .f32) (harg14 : arg14.IsWhole) (arg15 : Memref sig .tc .vmem S1x256x512 .f32) (harg15 : arg15.IsWhole) (arg16 : Memref sig .tc .vmem S1x256x512 .f32) (harg16 : arg16.IsWhole) (arg17 : Memref sig .tc .vmem S1x256x256 .f32) (harg17 : arg17.IsWhole) (arg18 : Memref sig .tc .vmem S1x256x1024 .bf16) (harg18 : arg18.IsWhole) (arg19 : Memref sig .tc .vmem S1x256x1024 .bf16) (harg19 : arg19.IsWhole) (arg20 : Memref sig .tc .vmem S1x1x3x1024 .f32) (harg20 : arg20.IsWhole) (arg21 : Memref sig .tc .vmem S1x512 .f32) (harg21 : arg21.IsWhole) (arg22 : Memref sig .tc .vmem S1x256 .f32) (harg22 : arg22.IsWhole) (arg23 : Memref sig .tc .vmem S1x256 .f32) (harg23 : arg23.IsWhole) (K : PUnit → sProp 𝕄) :
    iprop(held c arg2 ∗ held c arg3 ∗ held c arg4 ∗ held c arg5 ∗ held c arg6 ∗ held c arg7
        ∗ held c arg8 ∗ held c arg9 ∗ held c arg10 ∗ held c arg11 ∗ held c arg12 ∗ held c arg13
        ∗ held c arg14 ∗ held c arg15 ∗ held c arg16 ∗ held c arg17 ∗ held c arg18 ∗ held c arg19
        ∗ held c arg20 ∗ held c arg21 ∗ held c arg22 ∗ held c arg23
        ∗ (iprop(held c arg2 ∗ held c arg3 ∗ held c arg4 ∗ held c arg5 ∗ held c arg6 ∗ held c arg7
            ∗ held c arg8 ∗ held c arg9 ∗ held c arg10 ∗ held c arg11 ∗ held c arg12 ∗ held c arg13
            ∗ held c arg14 ∗ held c arg15 ∗ held c arg16 ∗ held c arg17 ∗ held c arg18 ∗ held c arg19
            ∗ held c arg20 ∗ held c arg21 ∗ held c arg22 ∗ held c arg23) -∗ K ⟨⟩))
      ⊢ wp frame (wpE (defs₀ (F := F)) Variants.none c none) Set.univ (cc0_mix_out_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_mix_out_bwd_eq_skeleton]; unfold cc0_mix_out_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  rcases hi with ⟨h1, h2, h3, h4, h5, h6, h7, h8⟩ | ⟨h1, h2, h3, h4, h5, h6, h7, h8⟩ | ⟨h1, h2, h3, h4, h5, h6, h7, h8⟩
  all_goals
    conv => lhs; unfold held owns
    iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    sl_exec (disch := first | sl_exact h1 | sl_exact h2 | sl_exact h3 | sl_exact h4 | sl_exact h5 | sl_exact h6 | sl_exact h7 | sl_exact h8)
    sl_step
    iapply Hk
    isplitl [H0]; · iapply (held_intro c _ _); iexact H0
    isplitl [H1]; · iapply (held_intro c _ _); iexact H1
    isplitl [H2]; · iapply (held_intro c _ _); iexact H2
    isplitl [H3]; · iapply (held_intro c _ _); iexact H3
    isplitl [H4]; · iapply (held_intro c _ _); iexact H4
    isplitl [H5]; · iapply (held_intro c _ _); iexact H5
    isplitl [H6]; · iapply (held_intro c _ _); iexact H6
    isplitl [H7]; · iapply (held_intro c _ _); iexact H7
    isplitl [H8]; · iapply (held_intro c _ _); iexact H8
    isplitl [H9]; · iapply (held_intro c _ _); iexact H9
    isplitl [H10]; · iapply (held_intro c _ _); iexact H10
    isplitl [H11]; · iapply (held_intro c _ _); iexact H11
    isplitl [H12]; · iapply (held_intro c _ _); iexact H12
    isplitl [H13]; · iapply (held_intro c _ _); iexact H13
    isplitl [H14]; · iapply (held_intro c _ _); iexact H14
    isplitl [H15]; · iapply (held_intro c _ _); iexact H15
    isplitl [H16]; · iapply (held_intro c _ _); iexact H16
    isplitl [H17]; · iapply (held_intro c _ _); iexact H17
    isplitl [H18]; · iapply (held_intro c _ _); iexact H18
    isplitl [H19]; · iapply (held_intro c _ _); iexact H19
    isplitl [H20]; · iapply (held_intro c _ _); iexact H20
    iapply (held_intro c _ _); iexact H21

/-- Every window is forgotten: nothing here reads what the body leaves in it. -/
def forgets : Fin 22 → Bool := fun _ => true

/-- The arrays as the region finds them, nothing named of what the body leaves, the class's invariant, each window's share of its array, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- What the body is called with at a point, and what it returns. -/
def buffers (c : Dev nD) (t : Fin cfg0.N) : sProp 𝕄 :=
  iprop(held c (win0_0.stage (cfg0.slots t 0)) ∗ held c (win0_1.stage (cfg0.slots t 1)) ∗ held c (win0_2.stage (cfg0.slots t 2))
    ∗ held c (win0_3.stage (cfg0.slots t 3)) ∗ held c (win0_4.stage (cfg0.slots t 4)) ∗ held c (win0_5.stage (cfg0.slots t 5))
    ∗ held c (win0_6.stage (cfg0.slots t 6)) ∗ held c (win0_7.stage (cfg0.slots t 7)) ∗ held c (win0_8.stage (cfg0.slots t 8))
    ∗ held c (win0_9.stage (cfg0.slots t 9)) ∗ held c (win0_10.stage (cfg0.slots t 10)) ∗ held c (win0_11.stage (cfg0.slots t 11))
    ∗ held c (win0_12.stage (cfg0.slots t 12)) ∗ held c (win0_13.stage (cfg0.slots t 13)) ∗ held c (win0_14.stage (cfg0.slots t 14))
    ∗ held c (win0_15.stage (cfg0.slots t 15)) ∗ held c (win0_16.stage (cfg0.slots t 16)) ∗ held c (win0_17.stage (cfg0.slots t 17))
    ∗ held c (win0_18.stage (cfg0.slots t 18)) ∗ held c (win0_19.stage (cfg0.slots t 19)) ∗ held c (win0_20.stage (cfg0.slots t 20))
    ∗ held c (win0_21.stage (cfg0.slots t 21)))

theorem sound_body (c : Dev nD) (t : Fin cfg0.N) :
    iprop((dats m 0 c).Φ t.castSucc ∗ (dats m 0 c).owesAt () t.castSucc ∗ buffers c t)
      ⊢ wp frame (wpE (defs₀ (F := F)) Variants.none c none) Set.univ (bodyAt0 t)
          (fun _ => iprop((dats m 0 c).Φ t.succ ∗ (dats m 0 c).owesAt () t.succ ∗ buffers c t)) := by
  unfold buffers bodyAt0
  rw [show (dats m 0 c).Φ t.succ = (dats m 0 c).Φ t.castSucc from rfl,
    show (dats m 0 c).owesAt () t.succ = (dats m 0 c).owesAt () t.castSucc from rfl]
  iintro ⟨HΦ, Ho, H0, H1, H2, H3, H4, H5, H6, H7, H8, H9, H10, H11, H12, H13, H14, H15, H16, H17, H18, H19, H20, H21⟩
  iapply (body_runs c (grid0.coords t) (cases_at t) _ _ _ _ _ _ _ _ _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option maxHeartbeats 4000000 in
set_option backward.isDefEq.respectTransparency.types false in
/-- Every run of @main ends, with the windows' input arrays and the unstaged buffers as the region found them. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch0.to₀ defs₀ Variants.none forgets m ρ main
    (hbody := fun c => (body_obligation m c).loose) (hq := fun _ _ _ => rfl)
    (howed := fun _ _ => rfl) (V := V m) (hmain := hmain m Variants.none) (hA := fun _ _ => rfl)
    (hΦ := fun _ _ => rfl)

/-- The frame, for any arithmetic: the arguments end as they were launched and every semaphore reads zero. -/
def Runs (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0)

set_option maxHeartbeats 2000000 in
theorem runs : Runs F := fun m ρ _ =>
  (θ_run defs _ _).mono (fun r h => ⟨fun c => ⟨(h.1.arr_in c 0 rfl).trans (V_main_arg0 m c),
      (h.1.arr_in c 2 rfl).trans (V_main_arg1 m c),
      (h.1.arr_in c 3 rfl).trans (V_main_arg2 m c),
      (h.1.arr_in c 4 rfl).trans (V_main_arg3 m c),
      (h.1.arr_in c 5 rfl).trans (V_main_arg4 m c),
      (h.1.arr_in c 6 rfl).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      (h.1.arr_in c 10 rfl).trans (V_main_arg9 m c),
      ((h.1 c).2 main_arg10 (Pipeline.mem_restRefs_of main_arg10 (by decide) (by decide))).trans (V_main_arg10 m c)⟩, h.2⟩) (run_main m ρ)

/-- The idealized program's frame, and the word program's: the two programs are one text. -/
theorem frame_ideal : @Cert.quiescent_Kernel10Ideal Cert.Kernel10Ideal.Gen.facts := runs

theorem same_text : @Cert.quiescent_Kernel10 Cert.Kernel10.Gen.facts = Runs Bits := by sl_kernel_rfl

theorem frame_words : @Cert.quiescent_Kernel10 Cert.Kernel10.Gen.facts := same_text.mpr runs

end Cert.Kernel10Ideal.Whole

end
-- ==== Proof.MixInFrame.lean ====
/- The call `mix_in_bwd` runs, leaves its arguments unchanged and ends with every semaphore at zero, for any arithmetic.

   Nothing is said of what the call leaves in its results: every window of the pipeline is handed to the body at some contents and taken back
   at some contents. The body therefore needs no invariant about the sums it accumulates, and the points fall apart only by
   which of the accumulators they start afresh. -/
module

public import proofs.«01_k».proof.Proof.Gen.Kernel11Ideal.Frame
public import proofs.«01_k».proof.Proof.Gen.Kernel11Ideal.Skeleton
public import proofs.«01_k».proof.Defs
public import proofs.«01_k».proof.Proof.Gen.Kernel11

@[expose] public section

set_option maxRecDepth 16384

noncomputable section

namespace Cert.Kernel11Ideal.Whole

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c` owns the whole buffer under `M`, at some contents. -/
abbrev held (c : Dev nD) {sp : Space} {S : Shape} {e : EltTy} (M : Memref sig .tc sp S e) : sProp 𝕄 :=
  iprop(∃ d, owns (c : Thread nD τ) M fullShare d)

theorem held_intro (c : Dev nD) {sp : Space} {S : Shape} {e : EltTy} (M : Memref sig .tc sp S e)
    (f : Buf (Elt F) (M.view.loc (c : Thread nD τ))) :
    (M.view.loc (c : Thread nD τ) ↦[M.view.set]{fullShare} f : sProp 𝕄) ⊢ held c M := by
  unfold held owns
  iintro H
  iexists _, _
  isplitr
  swap
  · iexact H
  ipureintro; rfl

/-- Which accumulators a point starts afresh: of the two stores of each, exactly one runs. -/
abbrev Cases (i : grid0.Coords) : Prop :=
  (k0_cond1 i = 1#1 ∧ ¬k0_cond2 i = 1#1 ∧ k0_cond3 i = 1#1 ∧ ¬k0_cond4 i = 1#1)
      ∨ (k0_cond1 i = 1#1 ∧ ¬k0_cond2 i = 1#1 ∧ ¬k0_cond3 i = 1#1 ∧ k0_cond4 i = 1#1)
      ∨ (¬k0_cond1 i = 1#1 ∧ k0_cond2 i = 1#1 ∧ ¬k0_cond3 i = 1#1 ∧ k0_cond4 i = 1#1)

theorem cases_at : ∀ t : Fin cfg0.N, Cases (grid0.coords t) := by decide +kernel

set_option maxHeartbeats 4000000 in
/-- The body at any point runs to its return, from buffers at any contents to buffers at some contents. -/
theorem body_runs (c : Dev nD) (i : grid0.Coords) (hi : Cases i) (arg2 : Memref sig .tc .vmem S1x256x1024 .f32) (harg2 : arg2.IsWhole) (arg3 : Memref sig .tc .vmem S1x256x1024 .f32) (harg3 : arg3.IsWhole) (arg4 : Memref sig .tc .vmem S1x256x256 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S1x256x512 .f32) (harg8 : arg8.IsWhole) (arg9 : Memref sig .tc .vmem S1x256x512 .f32) (harg9 : arg9.IsWhole) (arg10 : Memref sig .tc .vmem S1x256x512 .f32) (harg10 : arg10.IsWhole) (arg11 : Memref sig .tc .vmem S1x256x512 .f32) (harg11 : arg11.IsWhole) (arg12 : Memref sig .tc .vmem S1x256x512 .f32) (harg12 : arg12.IsWhole) (arg13 : Memref sig .tc .vmem S1x1x3x1024 .f32) (harg13 : arg13.IsWhole) (arg14 : Memref sig .tc .vmem S1x1024 .f32) (harg14 : arg14.IsWhole) (arg15 : Memref sig .tc .vmem S1x2816x1024 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S1x256x1024 .f32) (harg18 : arg18.IsWhole) (arg19 : Memref sig .tc .vmem S1x256x1024 .bf16) (harg19 : arg19.IsWhole) (arg20 : Memref sig .tc .vmem S1x256x2816 .bf16) (harg20 : arg20.IsWhole) (arg21 : Memref sig .tc .vmem S1x1x3x1024 .f32) (harg21 : arg21.IsWhole) (arg22 : Memref sig .tc .vmem S1x1024 .f32) (harg22 : arg22.IsWhole) (K : PUnit → sProp 𝕄) :
    iprop(held c arg2 ∗ held c arg3 ∗ held c arg4 ∗ held c arg5 ∗ held c arg6 ∗ held c arg7
        ∗ held c arg8 ∗ held c arg9 ∗ held c arg10 ∗ held c arg11 ∗ held c arg12 ∗ held c arg13
        ∗ held c arg14 ∗ held c arg15 ∗ held c arg16 ∗ held c arg17 ∗ held c arg18 ∗ held c arg19
        ∗ held c arg20 ∗ held c arg21 ∗ held c arg22
        ∗ (iprop(held c arg2 ∗ held c arg3 ∗ held c arg4 ∗ held c arg5 ∗ held c arg6 ∗ held c arg7
            ∗ held c arg8 ∗ held c arg9 ∗ held c arg10 ∗ held c arg11 ∗ held c arg12 ∗ held c arg13
            ∗ held c arg14 ∗ held c arg15 ∗ held c arg16 ∗ held c arg17 ∗ held c arg18 ∗ held c arg19
            ∗ held c arg20 ∗ held c arg21 ∗ held c arg22) -∗ K ⟨⟩))
      ⊢ wp frame (wpE (defs₀ (F := F)) Variants.none c none) Set.univ (cc0_mix_in_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_mix_in_bwd_eq_skeleton]; unfold cc0_mix_in_bwd_skel
  simp only [k0_part1_eq_skeleton, k0_part2_eq_skeleton, k0_part3_eq_skeleton, k0_part4_eq_skeleton]
  rcases hi with ⟨h1, h2, h3, h4⟩ | ⟨h1, h2, h3, h4⟩ | ⟨h1, h2, h3, h4⟩
  all_goals
    conv => lhs; unfold held owns
    iintro ⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    sl_exec (disch := first | sl_exact h1 | sl_exact h2 | sl_exact h3 | sl_exact h4)
    sl_step
    iapply Hk
    isplitl [H0]; · iapply (held_intro c _ _); iexact H0
    isplitl [H1]; · iapply (held_intro c _ _); iexact H1
    isplitl [H2]; · iapply (held_intro c _ _); iexact H2
    isplitl [H3]; · iapply (held_intro c _ _); iexact H3
    isplitl [H4]; · iapply (held_intro c _ _); iexact H4
    isplitl [H5]; · iapply (held_intro c _ _); iexact H5
    isplitl [H6]; · iapply (held_intro c _ _); iexact H6
    isplitl [H7]; · iapply (held_intro c _ _); iexact H7
    isplitl [H8]; · iapply (held_intro c _ _); iexact H8
    isplitl [H9]; · iapply (held_intro c _ _); iexact H9
    isplitl [H10]; · iapply (held_intro c _ _); iexact H10
    isplitl [H11]; · iapply (held_intro c _ _); iexact H11
    isplitl [H12]; · iapply (held_intro c _ _); iexact H12
    isplitl [H13]; · iapply (held_intro c _ _); iexact H13
    isplitl [H14]; · iapply (held_intro c _ _); iexact H14
    isplitl [H15]; · iapply (held_intro c _ _); iexact H15
    isplitl [H16]; · iapply (held_intro c _ _); iexact H16
    isplitl [H17]; · iapply (held_intro c _ _); iexact H17
    isplitl [H18]; · iapply (held_intro c _ _); iexact H18
    isplitl [H19]; · iapply (held_intro c _ _); iexact H19
    iapply (held_intro c _ _); iexact H20

/-- Every window is forgotten: nothing here reads what the body leaves in it. -/
def forgets : Fin 21 → Bool := fun _ => true

/-- The arrays as the region finds them, nothing named of what the body leaves, the class's invariant, each window's share of its array, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- What the body is called with at a point, and what it returns. -/
def buffers (c : Dev nD) (t : Fin cfg0.N) : sProp 𝕄 :=
  iprop(held c (win0_0.stage (cfg0.slots t 0)) ∗ held c (win0_1.stage (cfg0.slots t 1)) ∗ held c (win0_2.stage (cfg0.slots t 2))
    ∗ held c (win0_3.stage (cfg0.slots t 3)) ∗ held c (win0_4.stage (cfg0.slots t 4)) ∗ held c (win0_5.stage (cfg0.slots t 5))
    ∗ held c (win0_6.stage (cfg0.slots t 6)) ∗ held c (win0_7.stage (cfg0.slots t 7)) ∗ held c (win0_8.stage (cfg0.slots t 8))
    ∗ held c (win0_9.stage (cfg0.slots t 9)) ∗ held c (win0_10.stage (cfg0.slots t 10)) ∗ held c (win0_11.stage (cfg0.slots t 11))
    ∗ held c (win0_12.stage (cfg0.slots t 12)) ∗ held c (win0_13.stage (cfg0.slots t 13)) ∗ held c (win0_14.stage (cfg0.slots t 14))
    ∗ held c (win0_15.stage (cfg0.slots t 15)) ∗ held c (win0_16.stage (cfg0.slots t 16)) ∗ held c (win0_17.stage (cfg0.slots t 17))
    ∗ held c (win0_18.stage (cfg0.slots t 18)) ∗ held c (win0_19.stage (cfg0.slots t 19)) ∗ held c (win0_20.stage (cfg0.slots t 20)))

theorem sound_body (c : Dev nD) (t : Fin cfg0.N) :
    iprop((dats m 0 c).Φ t.castSucc ∗ (dats m 0 c).owesAt () t.castSucc ∗ buffers c t)
      ⊢ wp frame (wpE (defs₀ (F := F)) Variants.none c none) Set.univ (bodyAt0 t)
          (fun _ => iprop((dats m 0 c).Φ t.succ ∗ (dats m 0 c).owesAt () t.succ ∗ buffers c t)) := by
  unfold buffers bodyAt0
  rw [show (dats m 0 c).Φ t.succ = (dats m 0 c).Φ t.castSucc from rfl,
    show (dats m 0 c).owesAt () t.succ = (dats m 0 c).owesAt () t.castSucc from rfl]
  iintro ⟨HΦ, Ho, H0, H1, H2, H3, H4, H5, H6, H7, H8, H9, H10, H11, H12, H13, H14, H15, H16, H17, H18, H19, H20⟩
  iapply (body_runs c (grid0.coords t) (cases_at t) _ _ _ _ _ _ _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option maxHeartbeats 4000000 in
set_option backward.isDefEq.respectTransparency.types false in
/-- Every run of @main ends, with the windows' input arrays and the unstaged buffers as the region found them. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch0.to₀ defs₀ Variants.none forgets m ρ main
    (hbody := fun c => (body_obligation m c).loose) (hq := fun _ _ _ => rfl)
    (howed := fun _ _ => rfl) (V := V m) (hmain := hmain m Variants.none) (hA := fun _ _ => rfl)
    (hΦ := fun _ _ => rfl)

/-- The frame, for any arithmetic: the arguments end as they were launched and every semaphore reads zero. -/
def Runs (F : FTy → Type) [FloatOps F] : Prop :=
  ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0)

set_option maxHeartbeats 2000000 in
theorem runs : Runs F := fun m ρ _ =>
  (θ_run defs _ _).mono (fun r h => ⟨fun c => ⟨(h.1.arr_in c 0 rfl).trans (V_main_arg0 m c),
      (h.1.arr_in c 1 rfl).trans (V_main_arg1 m c),
      (h.1.arr_in c 2 rfl).trans (V_main_arg2 m c),
      (h.1.arr_in c 3 rfl).trans (V_main_arg3 m c),
      (h.1.arr_in c 4 rfl).trans (V_main_arg4 m c),
      (h.1.arr_in c 5 rfl).trans (V_main_arg5 m c),
      (h.1.arr_in c 6 rfl).trans (V_main_arg6 m c),
      (h.1.arr_in c 7 rfl).trans (V_main_arg7 m c),
      (h.1.arr_in c 8 rfl).trans (V_main_arg8 m c),
      (h.1.arr_in c 9 rfl).trans (V_main_arg9 m c),
      (h.1.arr_in c 10 rfl).trans (V_main_arg10 m c),
      (h.1.arr_in c 11 rfl).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c)⟩, h.2⟩) (run_main m ρ)

/-- The idealized program's frame, and the word program's: the two programs are one text. -/
theorem frame_ideal : @Cert.quiescent_Kernel11Ideal Cert.Kernel11Ideal.Gen.facts := runs

theorem same_text : @Cert.quiescent_Kernel11 Cert.Kernel11.Gen.facts = Runs Bits := by sl_kernel_rfl

theorem frame_words : @Cert.quiescent_Kernel11 Cert.Kernel11.Gen.facts := same_text.mpr runs

end Cert.Kernel11Ideal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Pre_finite
public import proofs.«01_k».proof.Proof.Gen.Pre_finite2
public import proofs.«01_k».proof.Proof.Gen.Pre_finite3
public import proofs.«01_k».proof.Proof.Gen.Pre_finite4
public import proofs.«01_k».proof.Proof.Gen.Pre_finite5
public import proofs.«01_k».proof.Proof.Gen.Pre_finite7
public import proofs.«01_k».proof.Proof.Gen.Pre_finite13
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel9Ideal.Value
public import proofs.«01_k».proof.Proof.Gen.KernelIdeal.Value
public import proofs.«01_k».proof.Proof.Gen.Reference13Ideal.Read
public import proofs.«01_k».proof.Proof.Gen.Reference14Ideal.Read
public import proofs.«01_k».proof.Proof.Gen.Reference15Ideal.Read
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.Reference5Ideal.Read
public import proofs.«01_k».proof.Proof.Gen.Reference6Ideal.Read
public import proofs.«01_k».proof.Proof.Gen.Reference7Ideal.Read
public import proofs.«01_k».proof.Proof.Gen.Reference9Ideal.Read
public import proofs.«01_k».proof.Proof.Gen.ReferenceIdeal.Read
public import Idealize.ShloMosaic.Adequacy
public import Idealize.ShloMosaic.Init
public import proofs.«01_k».proof.Proof.DqClaim
public import proofs.«01_k».proof.Proof.BmodValue
public import proofs.«01_k».proof.Proof.DkClaim
public import proofs.«01_k».proof.Proof.DvClaim
public import proofs.«01_k».proof.Proof.DdecayClaim
public import proofs.«01_k».proof.Proof.ModClaim
public import proofs.«01_k».proof.Proof.HeadClaim
public import proofs.«01_k».proof.Proof.FfnClaim
public import proofs.«01_k».proof.Proof.FwdClaim
public import proofs.«01_k».proof.Proof.FfnFwdClaim
public import proofs.«01_k».proof.Proof.ModFwdClaim
public import proofs.«01_k».proof.Proof.FfnFrame
public import proofs.«01_k».proof.Proof.MixOutFrame
public import proofs.«01_k».proof.Proof.MixInFrame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference9Ideal.Run
public import proofs.«01_k».proof.Proof.Gen.Reference7Ideal.Run
public import proofs.«01_k».proof.Proof.Gen.Reference13Ideal.Run
public import proofs.«01_k».proof.Proof.Gen.Reference14Ideal.Run
public import proofs.«01_k».proof.Proof.Gen.Reference15Ideal.Run
@[expose] public section

noncomputable section

namespace Cert.Proof

open Idealize.ShloMosaic Idealize.SL.Sem Cert.Kernel

/-! Each reference leaves its arguments unchanged and declares no semaphore. -/

theorem frame_reference : Cert.quiescent_ReferenceIdeal := fun m ρ _ =>
  (θ_run _ _ _).mono (fun r h => ⟨fun c => (h c).2.2, sem_eq_zero_of_no_sems (by decide) r.2⟩) (Cert.ReferenceIdeal.Value.run m ρ)

theorem frame_reference2 : Cert.quiescent_Reference2Ideal := fun m ρ _ =>
  (θ_run _ _ _).mono (fun r h => ⟨fun c => (h c).2.2, sem_eq_zero_of_no_sems (by decide) r.2⟩) (Cert.Reference2Ideal.Value.run m ρ)

theorem frame_reference3 : Cert.quiescent_Reference3Ideal := fun m ρ _ =>
  (θ_run _ _ _).mono (fun r h => ⟨fun c => (h c).2.2, sem_eq_zero_of_no_sems (by decide) r.2⟩) (Cert.Reference3Ideal.Value.run m ρ)

theorem frame_reference4 : Cert.quiescent_Reference4Ideal := fun m ρ _ =>
  (θ_run _ _ _).mono (fun r h => ⟨fun c => (h c).2.2, sem_eq_zero_of_no_sems (by decide) r.2⟩) (Cert.Reference4Ideal.Value.run m ρ)

theorem frame_reference5 : Cert.quiescent_Reference5Ideal := fun m ρ _ =>
  (θ_run _ _ _).mono (fun r h => ⟨fun c => (h c).2, sem_eq_zero_of_no_sems (by decide) r.2⟩) (Cert.Reference5Ideal.Value.run m ρ)

theorem frame_reference6 : Cert.quiescent_Reference6Ideal := fun m ρ _ =>
  (θ_run _ _ _).mono (fun r h => ⟨fun c => (h c).2.2, sem_eq_zero_of_no_sems (by decide) r.2⟩) (Cert.Reference6Ideal.Value.run m ρ)

theorem frame_reference9 : Cert.quiescent_Reference9Ideal := fun m ρ _ =>
  (θ_run _ _ _).mono (fun r h => ⟨fun c => (h c).2.2.2, sem_eq_zero_of_no_sems (by decide) r.2⟩) (Cert.Reference9Ideal.Value.run m ρ)

theorem frame_reference7 : Cert.quiescent_Reference7Ideal := fun m ρ _ =>
  (θ_run _ _ _).mono (fun r h => ⟨fun c => (h c).2.2.2.2.2.2.2.2, sem_eq_zero_of_no_sems (by decide) r.2⟩) (Cert.Reference7Ideal.Value.run m ρ)

theorem frame_reference13 : Cert.quiescent_Reference13Ideal := fun m ρ _ =>
  (θ_run _ _ _).mono (fun r h => ⟨fun c => (h c).2.2, sem_eq_zero_of_no_sems (by decide) r.2⟩) (Cert.Reference13Ideal.Value.run m ρ)

theorem frame_reference14 : Cert.quiescent_Reference14Ideal := fun m ρ _ =>
  (θ_run _ _ _).mono (fun r h => ⟨fun c => (h c).2.2, sem_eq_zero_of_no_sems (by decide) r.2⟩) (Cert.Reference14Ideal.Value.run m ρ)

theorem frame_reference15 : Cert.quiescent_Reference15Ideal := fun m ρ _ =>
  (θ_run _ _ _).mono (fun r h => ⟨fun c => (h c).2, sem_eq_zero_of_no_sems (by decide) r.2⟩) (Cert.Reference15Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel9.Gen.facts, Cert.Kernel9Ideal.Gen.facts, Cert.Reference9Ideal.Gen.facts, Cert.Kernel7.Gen.facts, Cert.Kernel7Ideal.Gen.facts, Cert.Reference7Ideal.Gen.facts, Cert.Kernel8.Gen.facts, Cert.Kernel8Ideal.Gen.facts, Cert.Kernel10.Gen.facts, Cert.Kernel10Ideal.Gen.facts, Cert.Kernel11.Gen.facts, Cert.Kernel11Ideal.Gen.facts, Cert.Kernel12.Gen.facts, Cert.Kernel12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_finite.Gen.facts, Cert.Pre_finite2.Gen.facts, Cert.Pre_finite3.Gen.facts, Cert.Pre_finite4.Gen.facts, Cert.Pre_finite5.Gen.facts, Cert.Pre_finite7.Gen.facts, Cert.Pre_finite13.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel3.Gen.frame m ρ,
  fun m ρ _ => Cert.Kernel3Ideal.Gen.frame m ρ,
  fun m ρ _ => Cert.Kernel3Ideal.Gen.frame m ρ,
  frame_reference3,
  fun m ρ _ => frame_reference3 m ρ trivial,
  fun m ρ _ => Cert.Kernel4.Gen.frame m ρ,
  fun m ρ _ => Cert.Kernel4Ideal.Gen.frame m ρ,
  fun m ρ _ => Cert.Kernel4Ideal.Gen.frame m ρ,
  frame_reference4,
  fun m ρ _ => frame_reference4 m ρ trivial,
  fun m ρ _ => Cert.Kernel5.Gen.frame m ρ,
  fun m ρ _ => Cert.Kernel5Ideal.Gen.frame m ρ,
  fun m ρ _ => Cert.Kernel5Ideal.Gen.frame m ρ,
  frame_reference5,
  fun m ρ _ => frame_reference5 m ρ trivial,
  fun m ρ _ => Cert.Kernel6.Gen.frame m ρ,
  fun m ρ _ => Cert.Kernel6Ideal.Gen.frame m ρ,
  frame_reference6,
  fun m ρ _ => Cert.Kernel9.Gen.frame m ρ,
  fun m ρ _ => Cert.Kernel9Ideal.Gen.frame m ρ,
  frame_reference9,
  Cert.Kernel7Ideal.Whole.frame_words,
  Cert.Kernel7Ideal.Whole.frame_ideal,
  fun m ρ _ => Cert.Kernel7Ideal.Whole.frame_ideal m ρ trivial,
  frame_reference7,
  fun m ρ _ => frame_reference7 m ρ trivial,
  fun m ρ _ => Cert.Kernel8.Gen.frame m ρ,
  fun m ρ _ => Cert.Kernel8Ideal.Gen.frame m ρ,
  Cert.Kernel10Ideal.Whole.frame_words,
  Cert.Kernel10Ideal.Whole.frame_ideal,
  Cert.Kernel11Ideal.Whole.frame_words,
  Cert.Kernel11Ideal.Whole.frame_ideal,
  fun m ρ _ => Cert.Kernel12.Gen.frame m ρ,
  fun m ρ _ => Cert.Kernel12Ideal.Gen.frame m ρ,
  fun m ρ _ => Cert.Kernel13.Gen.frame m ρ,
  fun m ρ _ => Cert.Kernel13Ideal.Gen.frame m ρ,
  fun m ρ _ => Cert.Kernel13Ideal.Gen.frame m ρ,
  frame_reference13,
  fun m ρ _ => frame_reference13 m ρ trivial,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  frame_reference15,
  trivial,
  Cert.KernelIdeal.Value.algebraic,
  trivial,
  Cert.Kernel2Ideal.Value.algebraic,
  trivial,
  Cert.Kernel3Ideal.Value.algebraic,
  trivial,
  Cert.Kernel4Ideal.Value.algebraic,
  trivial,
  Cert.Kernel5Ideal.Value.algebraic,
  trivial,
  Cert.Kernel6Ideal.Value.algebraic,
  trivial,
  Cert.Kernel9Ideal.Value.algebraic,
  trivial,
  Cert.Kernel7Ideal.Value.algebraic,
  trivial,
  trivial,
  trivial,
  trivial,
  trivial,
  Cert.Kernel13Ideal.Value.algebraic,
  trivial,
  Cert.Kernel14Ideal.Value.algebraic,
  trivial,
  Cert.Kernel15Ideal.Value.algebraic⟩

end Cert.Proof

end
